-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_v49) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)) (v3 : (c : Dev Cert.Kernel8Ideal.nD) → Buf (Elt Ideal) ((c.tc : Thread Cert.Kernel8Ideal.nD Cert.Kernel8Ideal.τ).loc Cert.Kernel8Ideal.main_v12_3)) (v4 : (c : Dev Cert.Kernel8Ideal.nD) → Buf (Elt Ideal) ((c.tc : Thread Cert.Kernel8Ideal.nD Cert.Kernel8Ideal.τ).loc Cert.Kernel8Ideal.main_v12_4)) (v5 : (c : Dev Cert.Kernel8Ideal.nD) → Buf (Elt Ideal) ((c.tc : Thread Cert.Kernel8Ideal.nD Cert.Kernel8Ideal.τ).loc Cert.Kernel8Ideal.main_v12_5)) (v6 : (c : Dev Cert.Kernel8Ideal.nD) → Buf (Elt Ideal) ((c.tc : Thread Cert.Kernel8Ideal.nD Cert.Kernel8Ideal.τ).loc Cert.Kernel8Ideal.main_v12_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_v12_3) = v3 c
          ∧ r.2.mem ((c.tc : Thread Cert.Kernel8Ideal.nD Cert.Kernel8Ideal.τ).loc Cert.Kernel8Ideal.main_v12_4) = v4 c
          ∧ r.2.mem ((c.tc : Thread Cert.Kernel8Ideal.nD Cert.Kernel8Ideal.τ).loc Cert.Kernel8Ideal.main_v12_5) = v5 c
          ∧ r.2.mem ((c.tc : Thread Cert.Kernel8Ideal.nD Cert.Kernel8Ideal.τ).loc Cert.Kernel8Ideal.main_v12_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_v15) = v2 c
          ∧ r.2.mem ((c.tc : Thread Cert.Reference8Ideal.nD Cert.Reference8Ideal.τ).loc Cert.Reference8Ideal.main_v18) = v3 c
          ∧ r.2.mem ((c.tc : Thread Cert.Reference8Ideal.nD Cert.Reference8Ideal.τ).loc Cert.Reference8Ideal.main_v19) = v4 c
          ∧ r.2.mem ((c.tc : Thread Cert.Reference8Ideal.nD Cert.Reference8Ideal.τ).loc Cert.Reference8Ideal.main_v23) = v5 c
          ∧ r.2.mem ((c.tc : Thread Cert.Reference8Ideal.nD Cert.Reference8Ideal.τ).loc Cert.Reference8Ideal.main_v26) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v35) = v2 c
          ∧ r.2.mem ((c.tc : Thread Cert.Reference12Ideal.nD Cert.Reference12Ideal.τ).loc Cert.Reference12Ideal.main_v36) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v120) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite7.lean ====
abbrev S8192x1024 : Shape := ⟨2, ![8192, 1024]⟩
abbrev S1024 : Shape := ⟨1, ![1024]⟩
abbrev S1024x3080 : Shape := ⟨2, ![1024, 3080]⟩
abbrev S8192x1536 : Shape := ⟨2, ![8192, 1536]⟩
abbrev S8192x512 : Shape := ⟨2, ![8192, 512]⟩
abbrev S8192x4 : Shape := ⟨2, ![8192, 4]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3080 : S_.BroadcastsInDim S1024x3080 (![] : Fin 0 → Fin S1024x3080.rank)
  reducesTo_S1024x3080_S_d0_1 : S1024x3080.ReducesTo [0, 1] S_
  bcast_S_S8192x1536 : S_.BroadcastsInDim S8192x1536 (![] : Fin 0 → Fin S8192x1536.rank)
  reducesTo_S8192x1536_S_d0_1 : S8192x1536.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x4 : S_.BroadcastsInDim S8192x4 (![] : Fin 0 → Fin S8192x4.rank)
  reducesTo_S8192x4_S_d0_1 : S8192x4.ReducesTo [0, 1] S_

variable [Facts]

def fn_part2 {F : FTy → Type} [FloatOps F] (main_arg7 : FVec F S8192x512 .f32) (main_arg8 : FVec F S8192x512 .f32) (main_arg9 : FVec F S8192x1024 .f32) (main_v33 : IVec S_ 1) : IVec S_ 1 :=
  let main_v34 : FVec F S8192x512 .f32 := Host.absf main_arg7
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x512 .f32 := Host.absf main_arg8
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  let main_v44 : FVec F S8192x1024 .f32 := Host.absf main_arg9
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  main_v48

def fn_part1 {F : FTy → Type} [FloatOps F] (main_arg4 : FVec F S8192x512 .f32) (main_arg5 : FVec F S8192x4 .f32) (main_arg6 : FVec F S8192x4 .f32) (main_arg7 : FVec F S8192x512 .f32) (main_arg8 : FVec F S8192x512 .f32) (main_arg9 : FVec F S8192x1024 .f32) (main_v13 : IVec S_ 1) (main_v16 : IVec S8192x1536 1) : IVec S_ 1 :=
  let main_c_5 : IVec S_ 1 := constantI S_ 1 1#1
  let main_v17 : IVec S_ 1 := (fun x v => Host.reduce IntOp.andi x v reducesTo_S8192x1536_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x4 .f32 := Host.absf main_arg5
  let main_cst_8 : FVec F S_ .f32 := constant S_ .f32 0x7F800000#32
  let main_v25 : FVec F S8192x4 .f32 := broadcastInDim S8192x4 ![] bcast_S_S8192x4 main_cst_8
  let main_v26 : IVec S8192x4 1 := cmpf .olt main_v24 main_v25
  let main_c_9 : IVec S_ 1 := constantI S_ 1 1#1
  let main_v27 : IVec S_ 1 := (fun x v => Host.reduce IntOp.andi x v reducesTo_S8192x4_S_d0_1 h_S_) main_v26 main_c_9
  let main_v28 : IVec S_ 1 := andi main_v23 main_v27
  let main_v29 : FVec F S8192x4 .f32 := Host.absf main_arg6
  let main_cst_10 : FVec F S_ .f32 := constant S_ .f32 0x7F800000#32
  let main_v30 : FVec F S8192x4 .f32 := broadcastInDim S8192x4 ![] bcast_S_S8192x4 main_cst_10
  let main_v31 : IVec S8192x4 1 := cmpf .olt main_v29 main_v30
  let main_c_11 : IVec S_ 1 := constantI S_ 1 1#1
  let main_v32 : IVec S_ 1 := (fun x v => Host.reduce IntOp.andi x v reducesTo_S8192x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S1024 .f32) (main_arg2 : FVec F S1024x3080 .f32) (main_arg3 : FVec F S8192x1536 .f32) (main_arg4 : FVec F S8192x512 .f32) (main_arg5 : FVec F S8192x4 .f32) (main_arg6 : FVec F S8192x4 .f32) (main_arg7 : FVec F S8192x512 .f32) (main_arg8 : FVec F S8192x512 .f32) (main_arg9 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3080 .f32 := Host.absf main_arg2
  let main_cst_2 : FVec F S_ .f32 := constant S_ .f32 0x7F800000#32
  let main_v10 : FVec F S1024x3080 .f32 := broadcastInDim S1024x3080 ![] bcast_S_S1024x3080 main_cst_2
  let main_v11 : IVec S1024x3080 1 := cmpf .olt main_v9 main_v10
  let main_c_3 : IVec S_ 1 := constantI S_ 1 1#1
  let main_v12 : IVec S_ 1 := (fun x v => Host.reduce IntOp.andi x v reducesTo_S1024x3080_S_d0_1 h_S_) main_v11 main_c_3
  let main_v13 : IVec S_ 1 := andi main_v8 main_v12
  let main_v14 : FVec F S8192x1536 .f32 := Host.absf main_arg3
  let main_cst_4 : FVec F S_ .f32 := constant S_ .f32 0x7F800000#32
  let main_v15 : FVec F S8192x1536 .f32 := broadcastInDim S8192x1536 ![] bcast_S_S8192x1536 main_cst_4
  let main_v16 : IVec S8192x1536 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S4x8192x704 : Shape := ⟨3, ![4, 8192, 704]⟩
abbrev S512x1024 : Shape := ⟨2, ![512, 1024]⟩
abbrev S1x1024x704 : Shape := ⟨3, ![1, 1024, 704]⟩
abbrev S2x352x1024 : Shape := ⟨3, ![2, 352, 1024]⟩
abbrev S1x2x512x704 : Shape := ⟨4, ![1, 2, 512, 704]⟩
abbrev S1x512x704 : Shape := ⟨3, ![1, 512, 704]⟩
abbrev S512x1 : Shape := ⟨2, ![512, 1]⟩
abbrev S512 : Shape := ⟨1, ![512]⟩
abbrev S1x1x512x704 : Shape := ⟨4, ![1, 1, 512, 704]⟩
abbrev S512x704 : Shape := ⟨2, ![512, 704]⟩
abbrev S704x1024 : Shape := ⟨2, ![704, 1024]⟩
abbrev S1024x704 : Shape := ⟨2, ![1024, 704]⟩

abbrev nBuf : Space → Nat
  | .hbm => 37
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S2816x1024, .bf16⟩
  | .hbm, ⟨9, _⟩ => ⟨S8x352x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2x4x704, .f32⟩
  | .hbm, ⟨28, _⟩ => ⟨S4x2x8192x704, .f32⟩
  | .hbm, ⟨29, _⟩ => ⟨S4x2x8192x704, .bf16⟩
  | .hbm, ⟨30, _⟩ => ⟨S1x1024, .f32⟩
  | .hbm, ⟨31, _⟩ => ⟨S8192x1024, .f32⟩
  | .hbm, ⟨32, _⟩ => ⟨S8192x1024, .bf16⟩
  | .hbm, ⟨33, _⟩ => ⟨S4x8192x704, .bf16⟩
  | .hbm, ⟨34, _⟩ => ⟨S4x2x8192x704, .bf16⟩
  | .hbm, ⟨35, _⟩ => ⟨S1x1024, .f32⟩
  | .hbm, ⟨36, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S2x352x1024, .bf16⟩
  | .local _ .vmem, ⟨8, _⟩ => ⟨S2x352x1024, .bf16⟩
  | .local _ .vmem, ⟨9, _⟩ => ⟨S1x2x512x704, .bf16⟩
  | .local _ .vmem, ⟨10, _⟩ => ⟨S1x2x512x704, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x512x704, .bf16⟩
  | .local _ .vmem, ⟨18, _⟩ => ⟨S1x512x704, .bf16⟩
  | .local _ .vmem, ⟨19, _⟩ => ⟨S1x2x512x704, .bf16⟩
  | .local _ .vmem, ⟨20, _⟩ => ⟨S1x2x512x704, .bf16⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S512x1, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_37 : BitVec 32 := 0#32
  let v53 : BitVec 1 := Scalar.cmpi .ne v52 c0_i32_37
  v53

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_53 : BitVec 32 := 0#32
  let v79 : BitVec 1 := Scalar.cmpi .eq arg0 c0_i32_53
  let v80 : BitVec 32 := Scalar.extui v79
  let c0_i32_54 : BitVec 32 := 0#32
  let v81 : BitVec 1 := Scalar.cmpi .ne v80 c0_i32_54
  v81

def k0_cond4 (i : grid0.Coords) : BitVec 1 :=
  let arg0 : BitVec 32 := BitVec.ofNat 32 (i 0).val
  let c0_i32_55 : BitVec 32 := 0#32
  let v82 : BitVec 1 := Scalar.cmpi .sgt arg0 c0_i32_55
  let v83 : BitVec 32 := Scalar.extui v82
  let c0_i32_56 : BitVec 32 := 0#32
  let v84 : BitVec 1 := Scalar.cmpi .ne v83 c0_i32_56
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S8192x2x4x704 : Shape := ⟨4, ![8192, 2, 4, 704]⟩
abbrev S4x2x8192x704 : Shape := ⟨4, ![4, 2, 8192, 704]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S2816x1024, .f32⟩
  | 4 => ⟨S8192x1024, .f32⟩
  | 5 => ⟨S8192x1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x5632, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x5632, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1024, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x1, .f32⟩
  | 97 => ⟨S8192x1024, .f32⟩
  | 98 => ⟨S8192x1024, .f32⟩
  | 99 => ⟨S1x1024, .f32⟩
  | 100 => ⟨S8192x1024, .f32⟩
  | 101 => ⟨S8192x1024, .f32⟩
  | 102 => ⟨S8192x5632, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x5632, .f32⟩
  | 6 => ⟨S8192x2816, .f32⟩
  | 7 => ⟨S8192x2816, .f32⟩
  | 8 => ⟨S8192x2816, .f32⟩
  | 9 => ⟨S8192x2816, .f32⟩
  | 10 => ⟨S_, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S8192x2816, .f32⟩
  | 17 => ⟨S8192x2816, .f32⟩
  | 18 => ⟨S8192x1024, .bf16⟩
  | 19 => ⟨S8192x4x704, .f32⟩
  | 20 => ⟨S4x8192x704, .f32⟩
  | 21 => ⟨S4x8192x704, .bf16⟩
  | 22 => ⟨S8192x2x4x704, .f32⟩
  | 23 => ⟨S4x2x8192x704, .f32⟩
  | 24 => ⟨S4x2x8192x704, .bf16⟩
  | 25 => ⟨S1x1024, .f32⟩
  | 26 => ⟨S_, .f32⟩
  | 27 => ⟨S8192x1024, .f32⟩
  | 28 => ⟨S8192x1024, .f32⟩
  | 29 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v71_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v71_1 : Ref sig .tc := ⟨.hbm, 116, rfl⟩
abbrev main_v71_0 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_cst_14 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_15 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S8x704x1024 : Shape := ⟨3, ![8, 704, 1024]⟩
abbrev S4096x1024 : Shape := ⟨2, ![4096, 1024]⟩
abbrev S1x1x4096x704 : Shape := ⟨4, ![1, 1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x2x4x704, .f32⟩
  | .hbm, ⟨5, _⟩ => ⟨S4x2x8192x704, .f32⟩
  | .hbm, ⟨6, _⟩ => ⟨S4x2x8192x704, .bf16⟩
  | .hbm, ⟨7, _⟩ => ⟨S8x704x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1x4096x704, .bf16⟩
  | .local _ .vmem, ⟨3, _⟩ => ⟨S1x1x4096x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S1024x8x704 : Shape := ⟨3, ![1024, 8, 704]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x8x704, .f32⟩
  | .hbm, ⟨7, _⟩ => ⟨S8x704x1024, .f32⟩
  | .hbm, ⟨8, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S_ : Shape := ⟨0, ![]⟩
abbrev S8x352x1024 : Shape := ⟨3, ![8, 352, 1024]⟩
abbrev S1x4096x704 : Shape := ⟨3, ![1, 4096, 704]⟩
abbrev S4096x1024 : Shape := ⟨2, ![4096, 1024]⟩
abbrev S2x352x1024 : Shape := ⟨3, ![2, 352, 1024]⟩
abbrev S704x1024 : Shape := ⟨2, ![704, 1024]⟩
abbrev S4096x704 : Shape := ⟨2, ![4096, 704]⟩

abbrev nBuf : Space → Nat
  | .hbm => 11
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8x352x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S2x352x1024, .bf16⟩
  | .local _ .vmem, ⟨5, _⟩ => ⟨S2x352x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩
abbrev S8x352x1024 : Shape := ⟨3, ![8, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S8x352x1024, .f32⟩
  | .hbm, ⟨13, _⟩ => ⟨S8x352x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S1x1024 : Shape := ⟨2, ![1, 1024]⟩
abbrev S4x2x8192x704 : Shape := ⟨4, ![4, 2, 8192, 704]⟩
abbrev S512x1024 : Shape := ⟨2, ![512, 1024]⟩
abbrev S2x1024x704 : Shape := ⟨3, ![2, 1024, 704]⟩
abbrev S4x352x1024 : Shape := ⟨3, ![4, 352, 1024]⟩
abbrev S2x2x512x704 : Shape := ⟨4, ![2, 2, 512, 704]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x1x512x704 : Shape := ⟨4, ![1, 1, 512, 704]⟩
abbrev S2x352x1024 : Shape := ⟨3, ![2, 352, 1024]⟩
abbrev S704x1024 : Shape := ⟨2, ![704, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | .hbm, ⟨7, _⟩ => ⟨S2816x1024, .bf16⟩
  | .hbm, ⟨8, _⟩ => ⟨S8x352x1024, .bf16⟩
  | .hbm, ⟨9, _⟩ => ⟨S1x1024, .f32⟩
  | .hbm, ⟨10, _⟩ => ⟨S8192x1024, .f32⟩
  | .hbm, ⟨11, _⟩ => ⟨S4x2x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1024x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S2x1024x704, .bf16⟩
  | .local _ .vmem, ⟨7, _⟩ => ⟨S4x352x1024, .bf16⟩
  | .local _ .vmem, ⟨8, _⟩ => ⟨S4x352x1024, .bf16⟩
  | .local _ .vmem, ⟨9, _⟩ => ⟨S512x1024, .f32⟩
  | .local _ .vmem, ⟨10, _⟩ => ⟨S512x1024, .f32⟩
  | .local _ .vmem, ⟨11, _⟩ => ⟨S2x2x512x704, .bf16⟩
  | .local _ .vmem, ⟨12, _⟩ => ⟨S2x2x512x704, .bf16⟩
  | .local _ .vmem, ⟨13, _⟩ => ⟨S512x1024, .bf16⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v54 : BitVec 1 := Scalar.cmpi .eq arg1 c1_i32
  let v55 : BitVec 32 := Scalar.extui v54
  let c0_i32_43 : BitVec 32 := 0#32
  let v56 : BitVec 1 := Scalar.cmpi .ne v55 c0_i32_43
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x2x4x704 : Shape := ⟨4, ![8192, 2, 4, 704]⟩
abbrev S4x2x8192x704 : Shape := ⟨4, ![4, 2, 8192, 704]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2x4x704, .f32⟩
  | .hbm, ⟨39, _⟩ => ⟨S4x2x8192x704, .f32⟩
  | .hbm, ⟨40, _⟩ => ⟨S4x2x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel5.lean ====
abbrev S8192x512 : Shape := ⟨2, ![8192, 512]⟩
abbrev S128x4x128x128 : Shape := ⟨4, ![128, 4, 128, 128]⟩
abbrev S128x4x64x64 : Shape := ⟨4, ![128, 4, 64, 64]⟩
abbrev S512x512 : Shape := ⟨2, ![512, 512]⟩
abbrev S8x4x128x128 : Shape := ⟨4, ![8, 4, 128, 128]⟩
abbrev S8x4x64x64 : Shape := ⟨4, ![8, 4, 64, 64]⟩
abbrev S4x128x128 : Shape := ⟨3, ![4, 128, 128]⟩
abbrev S64x64 : Shape := ⟨2, ![64, 64]⟩
abbrev S1x128x128 : Shape := ⟨3, ![1, 128, 128]⟩
abbrev S128x128 : Shape := ⟨2, ![128, 128]⟩
abbrev S64x128 : Shape := ⟨2, ![64, 128]⟩
abbrev S1x1x128x128 : Shape := ⟨4, ![1, 1, 128, 128]⟩
abbrev S64x192 : Shape := ⟨2, ![64, 192]⟩
abbrev S128 : Shape := ⟨1, ![128]⟩
abbrev S1x128 : Shape := ⟨2, ![1, 128]⟩
abbrev S128x1 : Shape := ⟨2, ![128, 1]⟩
abbrev S1 : Shape := ⟨1, ![1]⟩
abbrev S1x1 : Shape := ⟨2, ![1, 1]⟩
abbrev S1x1x64x64 : Shape := ⟨4, ![1, 1, 64, 64]⟩
abbrev S64x256 : Shape := ⟨2, ![64, 256]⟩
abbrev S128x64 : Shape := ⟨2, ![128, 64]⟩
abbrev S64 : Shape := ⟨1, ![64]⟩
abbrev S64x1 : Shape := ⟨2, ![64, 1]⟩

abbrev nBuf : Space → Nat
  | .hbm => 15
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S128x4x128x128, .f32⟩
  | .hbm, ⟨6, _⟩ => ⟨S128x4x64x64, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x4x128x128, .f32⟩
  | .local _ .vmem, ⟨11, _⟩ => ⟨S8x4x128x128, .f32⟩
  | .local _ .vmem, ⟨12, _⟩ => ⟨S8x4x64x64, .f32⟩
  | .local _ .vmem, ⟨13, _⟩ => ⟨S8x4x64x64, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel6.lean ====
abbrev S8192x1536 : Shape := ⟨2, ![8192, 1536]⟩
abbrev S4x1536 : Shape := ⟨2, ![4, 1536]⟩
abbrev S512x1536 : Shape := ⟨2, ![512, 1536]⟩
abbrev S16x1536 : Shape := ⟨2, ![16, 1536]⟩
abbrev S528x1536 : Shape := ⟨2, ![528, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S8192x1536, .f32⟩
  | .hbm, ⟨3, _⟩ => ⟨S8192x1536, .bf16⟩
  | .hbm, ⟨4, _⟩ => ⟨S8192x1536, .bf16⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S4x1536, .f32⟩
  | .local _ .vmem, ⟨5, _⟩ => ⟨S512x1536, .bf16⟩
  | .local _ .vmem, ⟨6, _⟩ => ⟨S512x1536, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1536 : Shape := ⟨2, ![8192, 1536]⟩
abbrev S4x1536 : Shape := ⟨2, ![4, 1536]⟩
abbrev S_ : Shape := ⟨0, ![]⟩
abbrev S3x1536 : Shape := ⟨2, ![3, 1536]⟩
abbrev S8195x1536 : Shape := ⟨2, ![8195, 1536]⟩
abbrev S1x1536 : Shape := ⟨2, ![1, 1536]⟩
abbrev S1536 : Shape := ⟨1, ![1536]⟩

abbrev nBuf : Space → Nat
  | .hbm => 59
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S8192x1536, .f32⟩
  | .hbm, ⟨3, _⟩ => ⟨S_, .f32⟩
  | .hbm, ⟨4, _⟩ => ⟨S3x1536, .f32⟩
  | .hbm, ⟨5, _⟩ => ⟨S8195x1536, .f32⟩
  | .hbm, ⟨6, _⟩ => ⟨S_, .f32⟩
  | .hbm, ⟨7, _⟩ => ⟨S3x1536, .f32⟩
  | .hbm, ⟨8, _⟩ => ⟨S8192x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S8192x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S8192x1536, .f32⟩
  | .hbm, ⟨39, _⟩ => ⟨S_, .f32⟩
  | .hbm, ⟨40, _⟩ => ⟨S8195x1536, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8195x1536, .f32⟩
  | .hbm, ⟨45, _⟩ => ⟨S8195x1536, .f32⟩
  | .hbm, ⟨46, _⟩ => ⟨S8192x1536, .f32⟩
  | .hbm, ⟨47, _⟩ => ⟨S8192x1536, .f32⟩
  | .hbm, ⟨48, _⟩ => ⟨S_, .f32⟩
  | .hbm, ⟨49, _⟩ => ⟨S8195x1536, .f32⟩
  | .hbm, ⟨50, _⟩ => ⟨S8195x1536, .f32⟩
  | .hbm, ⟨51, _⟩ => ⟨S8192x1536, .f32⟩
  | .hbm, ⟨52, _⟩ => ⟨S8192x1536, .f32⟩
  | .hbm, ⟨53, _⟩ => ⟨S_, .f32⟩
  | .hbm, ⟨54, _⟩ => ⟨S8195x1536, .f32⟩
  | .hbm, ⟨55, _⟩ => ⟨S8195x1536, .f32⟩
  | .hbm, ⟨56, _⟩ => ⟨S3x1536, .f32⟩
  | .hbm, ⟨57, _⟩ => ⟨S8192x1536, .f32⟩
  | .hbm, ⟨58, _⟩ => ⟨S8192x1536, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x3080 : Shape := ⟨2, ![1024, 3080]⟩
abbrev S8192x1536 : Shape := ⟨2, ![8192, 1536]⟩
abbrev S8192x512 : Shape := ⟨2, ![8192, 512]⟩
abbrev S8192x4 : Shape := ⟨2, ![8192, 4]⟩
abbrev S_ : Shape := ⟨0, ![]⟩
abbrev S8192x120 : Shape := ⟨2, ![8192, 120]⟩
abbrev S8192x128 : Shape := ⟨2, ![8192, 128]⟩
abbrev S1x1024 : Shape := ⟨2, ![1, 1024]⟩
abbrev S1024x8 : Shape := ⟨2, ![1024, 8]⟩
abbrev S1024x2048 : Shape := ⟨2, ![1024, 2048]⟩
abbrev S1024x1024 : Shape := ⟨2, ![1024, 1024]⟩
abbrev S1024x120 : Shape := ⟨2, ![1024, 120]⟩
abbrev S1024x3200 : Shape := ⟨2, ![1024, 3200]⟩
abbrev S8192x3200 : Shape := ⟨2, ![8192, 3200]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩

abbrev nBuf : Space → Nat
  | .hbm => 29
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1536, .f32⟩
  | .hbm, ⟨4, _⟩ => ⟨S8192x512, .f32⟩
  | .hbm, ⟨5, _⟩ => ⟨S8192x4, .f32⟩
  | .hbm, ⟨6, _⟩ => ⟨S8192x4, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S_, .f32⟩
  | .hbm, ⟨11, _⟩ => ⟨S8192x120, .f32⟩
  | .hbm, ⟨12, _⟩ => ⟨S8192x128, .f32⟩
  | .hbm, ⟨13, _⟩ => ⟨S1x1024, .f32⟩
  | .hbm, ⟨14, _⟩ => ⟨S8192x1536, .bf16⟩
  | .hbm, ⟨15, _⟩ => ⟨S8192x512, .bf16⟩
  | .hbm, ⟨16, _⟩ => ⟨S8192x512, .bf16⟩
  | .hbm, ⟨17, _⟩ => ⟨S8192x512, .bf16⟩
  | .hbm, ⟨18, _⟩ => ⟨S8192x128, .bf16⟩
  | .hbm, ⟨19, _⟩ => ⟨S1024x3080, .bf16⟩
  | .hbm, ⟨20, _⟩ => ⟨S1024x8, .bf16⟩
  | .hbm, ⟨21, _⟩ => ⟨S1024x2048, .bf16⟩
  | .hbm, ⟨22, _⟩ => ⟨S1024x1024, .bf16⟩
  | .hbm, ⟨23, _⟩ => ⟨S_, .bf16⟩
  | .hbm, ⟨24, _⟩ => ⟨S1024x120, .bf16⟩
  | .hbm, ⟨25, _⟩ => ⟨S1024x3200, .bf16⟩
  | .hbm, ⟨26, _⟩ => ⟨S8192x1024, .f32⟩
  | .hbm, ⟨27, _⟩ => ⟨S8192x3200, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1536, .bf16⟩
  | .local _ .vmem, ⟨4, _⟩ => ⟨S512x1536, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x128, .bf16⟩
  | .local _ .vmem, ⟨12, _⟩ => ⟨S512x128, .bf16⟩
  | .local _ .vmem, ⟨13, _⟩ => ⟨S1024x3200, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x3200, .bf16⟩
  | .local _ .vmem, ⟨19, _⟩ => ⟨S512x3200, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_33 : BitVec 32 := 0#32
  let v53 : BitVec 1 := Scalar.cmpi .ne v52 c0_i32_33
  v53

def k0_cond2 (i : grid0.Coords) : BitVec 1 :=
  let arg0 : BitVec 32 := BitVec.ofNat 32 (i 0).val
  let c0_i32_34 : BitVec 32 := 0#32
  let v54 : BitVec 1 := Scalar.cmpi .sgt arg0 c0_i32_34
  let v55 : BitVec 32 := Scalar.extui v54
  let c0_i32_35 : BitVec 32 := 0#32
  let v56 : BitVec 1 := Scalar.cmpi .ne v55 c0_i32_35
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3200 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S8192x1024 : Shape := ⟨2, ![8192, 1024]⟩
abbrev S1024 : Shape := ⟨1, ![1024]⟩
abbrev S1024x3080 : Shape := ⟨2, ![1024, 3080]⟩
abbrev S8192x1536 : Shape := ⟨2, ![8192, 1536]⟩
abbrev S8192x512 : Shape := ⟨2, ![8192, 512]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3080 : Shape := ⟨2, ![8192, 3080]⟩
abbrev S8192x120 : Shape := ⟨2, ![8192, 120]⟩
abbrev S8192x3200 : Shape := ⟨2, ![8192, 3200]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1536, .f32⟩
  | .hbm, ⟨4, _⟩ => ⟨S8192x512, .f32⟩
  | .hbm, ⟨5, _⟩ => ⟨S8192x4, .f32⟩
  | .hbm, ⟨6, _⟩ => ⟨S8192x4, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x3080, .f32⟩
  | .hbm, ⟨31, _⟩ => ⟨S8192x1536, .f32⟩
  | .hbm, ⟨32, _⟩ => ⟨S8192x512, .f32⟩
  | .hbm, ⟨33, _⟩ => ⟨S8192x4, .f32⟩
  | .hbm, ⟨34, _⟩ => ⟨S8192x4, .f32⟩
  | .hbm, ⟨35, _⟩ => ⟨S8192x512, .f32⟩
  | .hbm, ⟨36, _⟩ => ⟨S8192x512, .f32⟩
  | .hbm, ⟨37, _⟩ => ⟨S8192x3080, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x120, .f32⟩
  | .hbm, ⟨67, _⟩ => ⟨S8192x3200, .f32⟩
  | .hbm, ⟨68, _⟩ => ⟨S8192x3200, .bf16⟩
  | .hbm, ⟨69, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x3080 : Shape := ⟨2, ![1024, 3080]⟩
abbrev S1x1024 : Shape := ⟨2, ![1, 1024]⟩
abbrev S1024x8 : Shape := ⟨2, ![1024, 8]⟩
abbrev S1024x2048 : Shape := ⟨2, ![1024, 2048]⟩
abbrev S1024x1024 : Shape := ⟨2, ![1024, 1024]⟩
abbrev S1024x4 : Shape := ⟨2, ![1024, 4]⟩
abbrev S1024x4x128 : Shape := ⟨3, ![1024, 4, 128]⟩
abbrev S1024x512 : Shape := ⟨2, ![1024, 512]⟩
abbrev S1024x4096 : Shape := ⟨2, ![1024, 4096]⟩
abbrev S8192x1536 : Shape := ⟨2, ![8192, 1536]⟩
abbrev S8192x512 : Shape := ⟨2, ![8192, 512]⟩
abbrev S512x1024 : Shape := ⟨2, ![512, 1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 22
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S1x1024, .f32⟩
  | .hbm, ⟨4, _⟩ => ⟨S1024x3080, .bf16⟩
  | .hbm, ⟨5, _⟩ => ⟨S1024x8, .bf16⟩
  | .hbm, ⟨6, _⟩ => ⟨S1024x2048, .bf16⟩
  | .hbm, ⟨7, _⟩ => ⟨S1024x1024, .bf16⟩
  | .hbm, ⟨8, _⟩ => ⟨S1024x4, .bf16⟩
  | .hbm, ⟨9, _⟩ => ⟨S1024x4x128, .bf16⟩
  | .hbm, ⟨10, _⟩ => ⟨S1024x512, .bf16⟩
  | .hbm, ⟨11, _⟩ => ⟨S1024x4, .bf16⟩
  | .hbm, ⟨12, _⟩ => ⟨S1024x4x128, .bf16⟩
  | .hbm, ⟨13, _⟩ => ⟨S1024x512, .bf16⟩
  | .hbm, ⟨14, _⟩ => ⟨S1024x4096, .bf16⟩
  | .hbm, ⟨15, _⟩ => ⟨S8192x1024, .bf16⟩
  | .hbm, ⟨16, _⟩ => ⟨S8192x1536, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v12_4 : Ref sig .tc := ⟨.hbm, 19, rfl⟩
abbrev main_v12_5 : Ref sig .tc := ⟨.hbm, 20, rfl⟩
abbrev main_v12_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S1024 : Shape := ⟨1, ![1024]⟩
abbrev S1024x3080 : Shape := ⟨2, ![1024, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3080 : Shape := ⟨2, ![8192, 3080]⟩
abbrev S8192x1536 : Shape := ⟨2, ![8192, 1536]⟩
abbrev S8192x512 : Shape := ⟨2, ![8192, 512]⟩
abbrev S8192x4 : Shape := ⟨2, ![8192, 4]⟩
abbrev S8192x4x1 : Shape := ⟨3, ![8192, 4, 1]⟩
abbrev S8192x4x128 : Shape := ⟨3, ![8192, 4, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3080, .f32⟩
  | .hbm, ⟨20, _⟩ => ⟨S8192x1536, .f32⟩
  | .hbm, ⟨21, _⟩ => ⟨S8192x512, .f32⟩
  | .hbm, ⟨22, _⟩ => ⟨S8192x4, .f32⟩
  | .hbm, ⟨23, _⟩ => ⟨S8192x4, .f32⟩
  | .hbm, ⟨24, _⟩ => ⟨S8192x512, .f32⟩
  | .hbm, ⟨25, _⟩ => ⟨S8192x512, .f32⟩
  | .hbm, ⟨26, _⟩ => ⟨S8192x1024, .bf16⟩
  | .hbm, ⟨27, _⟩ => ⟨S8192x4x1, .f32⟩
  | .hbm, ⟨28, _⟩ => ⟨S8192x4x128, .f32⟩
  | .hbm, ⟨29, _⟩ => ⟨S8192x512, .f32⟩
  | .hbm, ⟨30, _⟩ => ⟨S8192x4x1, .f32⟩
  | .hbm, ⟨31, _⟩ => ⟨S8192x4x128, .f32⟩
  | .hbm, ⟨32, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S8192x1024 : Shape := ⟨2, ![8192, 1024]⟩
abbrev S1024x3080 : Shape := ⟨2, ![1024, 3080]⟩
abbrev S8192x1536 : Shape := ⟨2, ![8192, 1536]⟩
abbrev S8192x512 : Shape := ⟨2, ![8192, 512]⟩
abbrev S8192x4 : Shape := ⟨2, ![8192, 4]⟩
abbrev S_ : Shape := ⟨0, ![]⟩
abbrev S8192x120 : Shape := ⟨2, ![8192, 120]⟩
abbrev S8192x128 : Shape := ⟨2, ![8192, 128]⟩
abbrev S8192x3200 : Shape := ⟨2, ![8192, 3200]⟩
abbrev S1024x3200 : Shape := ⟨2, ![1024, 3200]⟩
abbrev S4096x1024 : Shape := ⟨2, ![4096, 1024]⟩
abbrev S4096x640 : Shape := ⟨2, ![4096, 640]⟩
abbrev S1024x640 : Shape := ⟨2, ![1024, 640]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3080, .f32⟩
  | .hbm, ⟨2, _⟩ => ⟨S8192x1536, .f32⟩
  | .hbm, ⟨3, _⟩ => ⟨S8192x512, .f32⟩
  | .hbm, ⟨4, _⟩ => ⟨S8192x4, .f32⟩
  | .hbm, ⟨5, _⟩ => ⟨S8192x4, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x120, .f32⟩
  | .hbm, ⟨10, _⟩ => ⟨S8192x128, .f32⟩
  | .hbm, ⟨11, _⟩ => ⟨S8192x3200, .f32⟩
  | .hbm, ⟨12, _⟩ => ⟨S8192x3200, .bf16⟩
  | .hbm, ⟨13, _⟩ => ⟨S8192x1024, .bf16⟩
  | .hbm, ⟨14, _⟩ => ⟨S1024x3200, .bf16⟩
  | .local _ .vmem, ⟨0, _⟩ => ⟨S4096x1024, .bf16⟩
  | .local _ .vmem, ⟨1, _⟩ => ⟨S4096x1024, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x3080 : Shape := ⟨2, ![1024, 3080]⟩
abbrev S8192x1536 : Shape := ⟨2, ![8192, 1536]⟩
abbrev S8192x512 : Shape := ⟨2, ![8192, 512]⟩
abbrev S8192x4 : Shape := ⟨2, ![8192, 4]⟩
abbrev S8192x3080 : Shape := ⟨2, ![8192, 3080]⟩
abbrev S3080x1024 : Shape := ⟨2, ![3080, 1024]⟩
abbrev S1024x2048 : Shape := ⟨2, ![1024, 2048]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3080, .f32⟩
  | .hbm, ⟨2, _⟩ => ⟨S8192x1536, .f32⟩
  | .hbm, ⟨3, _⟩ => ⟨S8192x512, .f32⟩
  | .hbm, ⟨4, _⟩ => ⟨S8192x4, .f32⟩
  | .hbm, ⟨5, _⟩ => ⟨S8192x4, .f32⟩
  | .hbm, ⟨6, _⟩ => ⟨S8192x512, .f32⟩
  | .hbm, ⟨7, _⟩ => ⟨S8192x512, .f32⟩
  | .hbm, ⟨8, _⟩ => ⟨S8192x3080, .f32⟩
  | .hbm, ⟨9, _⟩ => ⟨S8192x1536, .f32⟩
  | .hbm, ⟨10, _⟩ => ⟨S8192x512, .f32⟩
  | .hbm, ⟨11, _⟩ => ⟨S8192x4, .f32⟩
  | .hbm, ⟨12, _⟩ => ⟨S8192x4, .f32⟩
  | .hbm, ⟨13, _⟩ => ⟨S8192x512, .f32⟩
  | .hbm, ⟨14, _⟩ => ⟨S8192x512, .f32⟩
  | .hbm, ⟨15, _⟩ => ⟨S8192x3080, .f32⟩
  | .hbm, ⟨16, _⟩ => ⟨S3080x1024, .f32⟩
  | .hbm, ⟨17, _⟩ => ⟨S1024x3080, .f32⟩
  | .hbm, ⟨18, _⟩ => ⟨S1024x2048, .f32⟩
  | .hbm, ⟨19, _⟩ => ⟨S1024x1024, .f32⟩
  | .hbm, ⟨20, _⟩ => ⟨S1024x8, .f32⟩
  | .hbm, ⟨21, _⟩ => ⟨S_, .f32⟩
  | .hbm, ⟨22, _⟩ => ⟨S1024x120, .f32⟩
  | .hbm, ⟨23, _⟩ => ⟨S1024x3200, .f32⟩
  | .hbm, ⟨24, _⟩ => ⟨S1024x3200, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S2x176x1024 : Shape := ⟨3, ![2, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S2x176x1024, .f32⟩
  | .local _ .vmem, ⟨5, _⟩ => ⟨S2x176x1024, .f32⟩
  | .local _ .vmem, ⟨6, _⟩ => ⟨S2x176x1024, .f32⟩
  | .local _ .vmem, ⟨7, _⟩ => ⟨S2x176x1024, .f32⟩
  | .local _ .vmem, ⟨8, _⟩ => ⟨S2x176x1024, .f32⟩
  | .local _ .vmem, ⟨9, _⟩ => ⟨S2x176x1024, .f32⟩
  | .local _ .vmem, ⟨10, _⟩ => ⟨S2x176x1024, .f32⟩
  | .local _ .vmem, ⟨11, _⟩ => ⟨S2x176x1024, .f32⟩
  | .local _ .vmem, ⟨12, _⟩ => ⟨S2x176x1024, .f32⟩
  | .local _ .vmem, ⟨13, _⟩ => ⟨S2x176x1024, .f32⟩
  | .local _ .vmem, ⟨14, _⟩ => ⟨S2x176x1024, .f32⟩
  | .local _ .vmem, ⟨15, _⟩ => ⟨S2x176x1024, .f32⟩
  | .local _ .vmem, ⟨16, _⟩ => ⟨S2x176x1024, .f32⟩
  | .local _ .vmem, ⟨17, _⟩ => ⟨S2x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel12.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S2x176x1024 : Shape := ⟨3, ![2, 176, 1024]⟩
abbrev S1x176x1024 : Shape := ⟨3, ![1, 176, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S2x176x1024, .f32⟩
  | .local _ .vmem, ⟨5, _⟩ => ⟨S2x176x1024, .f32⟩
  | .local _ .vmem, ⟨6, _⟩ => ⟨S2x176x1024, .f32⟩
  | .local _ .vmem, ⟨7, _⟩ => ⟨S2x176x1024, .f32⟩
  | .local _ .vmem, ⟨8, _⟩ => ⟨S2x176x1024, .f32⟩
  | .local _ .vmem, ⟨9, _⟩ => ⟨S2x176x1024, .f32⟩
  | .local _ .vmem, ⟨10, _⟩ => ⟨S2x176x1024, .f32⟩
  | .local _ .vmem, ⟨11, _⟩ => ⟨S2x176x1024, .f32⟩
  | .local _ .vmem, ⟨12, _⟩ => ⟨S2x176x1024, .f32⟩
  | .local _ .vmem, ⟨13, _⟩ => ⟨S2x176x1024, .f32⟩
  | .local _ .vmem, ⟨14, _⟩ => ⟨S2x176x1024, .f32⟩
  | .local _ .vmem, ⟨15, _⟩ => ⟨S2x176x1024, .f32⟩
  | .local _ .vmem, ⟨16, _⟩ => ⟨S2x176x1024, .f32⟩
  | .local _ .vmem, ⟨17, _⟩ => ⟨S2x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩
abbrev S2x704x1024 : Shape := ⟨3, ![2, 704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S1024x704, .f32⟩
  | .hbm, ⟨9, _⟩ => ⟨S8x704x1024, .f32⟩
  | .hbm, ⟨10, _⟩ => ⟨S_, .f32⟩
  | .hbm, ⟨11, _⟩ => ⟨S704x1024, .f32⟩
  | .hbm, ⟨12, _⟩ => ⟨S1024x704, .f32⟩
  | .hbm, ⟨13, _⟩ => ⟨S1x1024x704, .f32⟩
  | .hbm, ⟨14, _⟩ => ⟨S1x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | .hbm, ⟨49, _⟩ => ⟨S2x704x1024, .f32⟩
  | .hbm, ⟨50, _⟩ => ⟨S2x704x1024, .f32⟩
  | .hbm, ⟨51, _⟩ => ⟨S2x704x1024, .f32⟩
  | .hbm, ⟨52, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel13.lean ====
abbrev S8x1024x385 : Shape := ⟨3, ![8, 1024, 385]⟩
abbrev S1x1024x385 : Shape := ⟨3, ![1, 1024, 385]⟩
abbrev S8x256x385 : Shape := ⟨3, ![8, 256, 385]⟩
abbrev S1x256x385 : Shape := ⟨3, ![1, 256, 385]⟩
abbrev S256x385 : Shape := ⟨2, ![256, 385]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x385, .bf16⟩
  | .hbm, ⟨1, _⟩ => ⟨S1x1024x385, .f32⟩
  | .hbm, ⟨2, _⟩ => ⟨S1x1024x385, .f32⟩
  | .hbm, ⟨3, _⟩ => ⟨S1x1024x385, .f32⟩
  | .hbm, ⟨4, _⟩ => ⟨S1x1024x385, .f32⟩
  | .hbm, ⟨5, _⟩ => ⟨S1x1024x385, .f32⟩
  | .hbm, ⟨6, _⟩ => ⟨S1x1024x385, .f32⟩
  | .hbm, ⟨7, _⟩ => ⟨S1x1024x385, .f32⟩
  | .local _ .vmem, ⟨0, _⟩ => ⟨S8x256x385, .bf16⟩
  | .local _ .vmem, ⟨1, _⟩ => ⟨S8x256x385, .bf16⟩
  | .local _ .vmem, ⟨2, _⟩ => ⟨S1x256x385, .f32⟩
  | .local _ .vmem, ⟨3, _⟩ => ⟨S1x256x385, .f32⟩
  | .local _ .vmem, ⟨4, _⟩ => ⟨S1x256x385, .f32⟩
  | .local _ .vmem, ⟨5, _⟩ => ⟨S1x256x385, .f32⟩
  | .local _ .vmem, ⟨6, _⟩ => ⟨S1x256x385, .f32⟩
  | .local _ .vmem, ⟨7, _⟩ => ⟨S1x256x385, .f32⟩
  | .local _ .vmem, ⟨8, _⟩ => ⟨S1x256x385, .f32⟩
  | .local _ .vmem, ⟨9, _⟩ => ⟨S1x256x385, .f32⟩
  | .local _ .vmem, ⟨10, _⟩ => ⟨S1x256x385, .f32⟩
  | .local _ .vmem, ⟨11, _⟩ => ⟨S1x256x385, .f32⟩
  | .local _ .vmem, ⟨12, _⟩ => ⟨S1x256x385, .f32⟩
  | .local _ .vmem, ⟨13, _⟩ => ⟨S1x256x385, .f32⟩
  | .local _ .vmem, ⟨14, _⟩ => ⟨S1x256x385, .f32⟩
  | .local _ .vmem, ⟨15, _⟩ => ⟨S1x256x385, .f32⟩
  | _, _ => ⟨S8x1024x385, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x385 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x385 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x385 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x385 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x385 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x385 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x385 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x385 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x1024x385 : Shape := ⟨3, ![8, 1024, 385]⟩
abbrev S1x1024x385 : Shape := ⟨3, ![1, 1024, 385]⟩
abbrev S_ : Shape := ⟨0, ![]⟩
abbrev S1024x385 : Shape := ⟨2, ![1024, 385]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x385, .bf16⟩
  | .hbm, ⟨1, _⟩ => ⟨S1x1024x385, .f32⟩
  | .hbm, ⟨2, _⟩ => ⟨S1x1024x385, .f32⟩
  | .hbm, ⟨3, _⟩ => ⟨S1x1024x385, .f32⟩
  | .hbm, ⟨4, _⟩ => ⟨S8x1024x385, .f32⟩
  | .hbm, ⟨5, _⟩ => ⟨S_, .f32⟩
  | .hbm, ⟨6, _⟩ => ⟨S1024x385, .f32⟩
  | .hbm, ⟨7, _⟩ => ⟨S1x1024x385, .f32⟩
  | .hbm, ⟨8, _⟩ => ⟨S_, .f32⟩
  | .hbm, ⟨9, _⟩ => ⟨S1x1024x385, .f32⟩
  | .hbm, ⟨10, _⟩ => ⟨S1x1024x385, .f32⟩
  | .hbm, ⟨11, _⟩ => ⟨S_, .f32⟩
  | .hbm, ⟨12, _⟩ => ⟨S1x1024x385, .f32⟩
  | .hbm, ⟨13, _⟩ => ⟨S1x1024x385, .f32⟩
  | .hbm, ⟨14, _⟩ => ⟨S1x1024x385, .f32⟩
  | .hbm, ⟨15, _⟩ => ⟨S_, .f32⟩
  | .hbm, ⟨16, _⟩ => ⟨S1x1024x385, .f32⟩
  | .hbm, ⟨17, _⟩ => ⟨S1x1024x385, .f32⟩
  | .hbm, ⟨18, _⟩ => ⟨S1x1024x385, .f32⟩
  | .hbm, ⟨19, _⟩ => ⟨S_, .f32⟩
  | .hbm, ⟨20, _⟩ => ⟨S1x1024x385, .f32⟩
  | .hbm, ⟨21, _⟩ => ⟨S1x1024x385, .f32⟩
  | .hbm, ⟨22, _⟩ => ⟨S1x1024x385, .f32⟩
  | .hbm, ⟨23, _⟩ => ⟨S_, .f32⟩
  | .hbm, ⟨24, _⟩ => ⟨S1x1024x385, .f32⟩
  | .hbm, ⟨25, _⟩ => ⟨S1x1024x385, .f32⟩
  | .hbm, ⟨26, _⟩ => ⟨S_, .f32⟩
  | .hbm, ⟨27, _⟩ => ⟨S1x1024x385, .f32⟩
  | .hbm, ⟨28, _⟩ => ⟨S1x1024x385, .f32⟩
  | .hbm, ⟨29, _⟩ => ⟨S1x1024x385, .f32⟩
  | .hbm, ⟨30, _⟩ => ⟨S_, .f32⟩
  | .hbm, ⟨31, _⟩ => ⟨S1x1024x385, .f32⟩
  | .hbm, ⟨32, _⟩ => ⟨S1x1024x385, .f32⟩
  | .hbm, ⟨33, _⟩ => ⟨S1x1024x385, .f32⟩
  | .hbm, ⟨34, _⟩ => ⟨S_, .f32⟩
  | .hbm, ⟨35, _⟩ => ⟨S1x1024x385, .f32⟩
  | .hbm, ⟨36, _⟩ => ⟨S1x1024x385, .f32⟩
  | .hbm, ⟨37, _⟩ => ⟨S1x1024x385, .f32⟩
  | .hbm, ⟨38, _⟩ => ⟨S_, .f32⟩
  | .hbm, ⟨39, _⟩ => ⟨S1x1024x385, .f32⟩
  | .hbm, ⟨40, _⟩ => ⟨S1x1024x385, .f32⟩
  | _, _ => ⟨S8x1024x385, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x4x32x256 : Shape := ⟨4, ![8, 4, 32, 256]⟩
abbrev S1x4x32x256 : Shape := ⟨4, ![1, 4, 32, 256]⟩
abbrev S4x32x256 : Shape := ⟨3, ![4, 32, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4x32x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S1x4x32x256, .f32⟩
  | .hbm, ⟨5, _⟩ => ⟨S1x4x32x256, .f32⟩
  | .hbm, ⟨6, _⟩ => ⟨S1x4x32x256, .f32⟩
  | .hbm, ⟨7, _⟩ => ⟨S1x4x32x256, .f32⟩
  | .local _ .vmem, ⟨0, _⟩ => ⟨S8x4x32x256, .bf16⟩
  | .local _ .vmem, ⟨1, _⟩ => ⟨S1x4x32x256, .f32⟩
  | .local _ .vmem, ⟨2, _⟩ => ⟨S1x4x32x256, .f32⟩
  | .local _ .vmem, ⟨3, _⟩ => ⟨S1x4x32x256, .f32⟩
  | .local _ .vmem, ⟨4, _⟩ => ⟨S1x4x32x256, .f32⟩
  | .local _ .vmem, ⟨5, _⟩ => ⟨S1x4x32x256, .f32⟩
  | .local _ .vmem, ⟨6, _⟩ => ⟨S1x4x32x256, .f32⟩
  | .local _ .vmem, ⟨7, _⟩ => ⟨S1x4x32x256, .f32⟩
  | _, _ => ⟨S8x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S8x4x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x4x32x256 : Shape := ⟨4, ![8, 4, 32, 256]⟩
abbrev S1x4x32x256 : Shape := ⟨4, ![1, 4, 32, 256]⟩
abbrev S_ : Shape := ⟨0, ![]⟩
abbrev S4x32x256 : Shape := ⟨3, ![4, 32, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x4x32x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S8x4x32x256, .f32⟩
  | .hbm, ⟨5, _⟩ => ⟨S_, .f32⟩
  | .hbm, ⟨6, _⟩ => ⟨S4x32x256, .f32⟩
  | .hbm, ⟨7, _⟩ => ⟨S1x4x32x256, .f32⟩
  | .hbm, ⟨8, _⟩ => ⟨S_, .f32⟩
  | .hbm, ⟨9, _⟩ => ⟨S1x4x32x256, .f32⟩
  | .hbm, ⟨10, _⟩ => ⟨S1x4x32x256, .f32⟩
  | .hbm, ⟨11, _⟩ => ⟨S_, .f32⟩
  | .hbm, ⟨12, _⟩ => ⟨S1x4x32x256, .f32⟩
  | .hbm, ⟨13, _⟩ => ⟨S1x4x32x256, .f32⟩
  | .hbm, ⟨14, _⟩ => ⟨S1x4x32x256, .f32⟩
  | .hbm, ⟨15, _⟩ => ⟨S_, .f32⟩
  | .hbm, ⟨16, _⟩ => ⟨S1x4x32x256, .f32⟩
  | .hbm, ⟨17, _⟩ => ⟨S1x4x32x256, .f32⟩
  | .hbm, ⟨18, _⟩ => ⟨S1x4x32x256, .f32⟩
  | .hbm, ⟨19, _⟩ => ⟨S_, .f32⟩
  | .hbm, ⟨20, _⟩ => ⟨S1x4x32x256, .f32⟩
  | .hbm, ⟨21, _⟩ => ⟨S1x4x32x256, .f32⟩
  | .hbm, ⟨22, _⟩ => ⟨S1x4x32x256, .f32⟩
  | .hbm, ⟨23, _⟩ => ⟨S_, .f32⟩
  | .hbm, ⟨24, _⟩ => ⟨S1x4x32x256, .f32⟩
  | .hbm, ⟨25, _⟩ => ⟨S1x4x32x256, .f32⟩
  | .hbm, ⟨26, _⟩ => ⟨S_, .f32⟩
  | .hbm, ⟨27, _⟩ => ⟨S1x4x32x256, .f32⟩
  | .hbm, ⟨28, _⟩ => ⟨S1x4x32x256, .f32⟩
  | .hbm, ⟨29, _⟩ => ⟨S1x4x32x256, .f32⟩
  | .hbm, ⟨30, _⟩ => ⟨S_, .f32⟩
  | .hbm, ⟨31, _⟩ => ⟨S1x4x32x256, .f32⟩
  | .hbm, ⟨32, _⟩ => ⟨S1x4x32x256, .f32⟩
  | .hbm, ⟨33, _⟩ => ⟨S1x4x32x256, .f32⟩
  | .hbm, ⟨34, _⟩ => ⟨S_, .f32⟩
  | .hbm, ⟨35, _⟩ => ⟨S1x4x32x256, .f32⟩
  | .hbm, ⟨36, _⟩ => ⟨S1x4x32x256, .f32⟩
  | .hbm, ⟨37, _⟩ => ⟨S1x4x32x256, .f32⟩
  | .hbm, ⟨38, _⟩ => ⟨S_, .f32⟩
  | .hbm, ⟨39, _⟩ => ⟨S1x4x32x256, .f32⟩
  | .hbm, ⟨40, _⟩ => ⟨S1x4x32x256, .f32⟩
  | _, _ => ⟨S8x4x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x88x1024 : Shape := ⟨3, ![8, 88, 1024]⟩
abbrev S1x88x1024 : Shape := ⟨3, ![1, 88, 1024]⟩
abbrev S88x1024 : Shape := ⟨2, ![88, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x88x1024, .f32⟩
  | .hbm, ⟨1, _⟩ => ⟨S1x88x1024, .f32⟩
  | .hbm, ⟨2, _⟩ => ⟨S1x88x1024, .f32⟩
  | .hbm, ⟨3, _⟩ => ⟨S1x88x1024, .f32⟩
  | .hbm, ⟨4, _⟩ => ⟨S1x88x1024, .f32⟩
  | .hbm, ⟨5, _⟩ => ⟨S1x88x1024, .f32⟩
  | .hbm, ⟨6, _⟩ => ⟨S1x88x1024, .f32⟩
  | .hbm, ⟨7, _⟩ => ⟨S1x88x1024, .f32⟩
  | .local _ .vmem, ⟨0, _⟩ => ⟨S8x88x1024, .f32⟩
  | .local _ .vmem, ⟨1, _⟩ => ⟨S1x88x1024, .f32⟩
  | .local _ .vmem, ⟨2, _⟩ => ⟨S1x88x1024, .f32⟩
  | .local _ .vmem, ⟨3, _⟩ => ⟨S1x88x1024, .f32⟩
  | .local _ .vmem, ⟨4, _⟩ => ⟨S1x88x1024, .f32⟩
  | .local _ .vmem, ⟨5, _⟩ => ⟨S1x88x1024, .f32⟩
  | .local _ .vmem, ⟨6, _⟩ => ⟨S1x88x1024, .f32⟩
  | .local _ .vmem, ⟨7, _⟩ => ⟨S1x88x1024, .f32⟩
  | _, _ => ⟨S8x88x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x88x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x88x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x88x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x88x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x88x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x88x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x88x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x88x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x88x1024 : Shape := ⟨3, ![8, 88, 1024]⟩
abbrev S1x88x1024 : Shape := ⟨3, ![1, 88, 1024]⟩
abbrev S_ : Shape := ⟨0, ![]⟩
abbrev S88x1024 : Shape := ⟨2, ![88, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x88x1024, .f32⟩
  | .hbm, ⟨1, _⟩ => ⟨S1x88x1024, .f32⟩
  | .hbm, ⟨2, _⟩ => ⟨S1x88x1024, .f32⟩
  | .hbm, ⟨3, _⟩ => ⟨S1x88x1024, .f32⟩
  | .hbm, ⟨4, _⟩ => ⟨S_, .f32⟩
  | .hbm, ⟨5, _⟩ => ⟨S88x1024, .f32⟩
  | .hbm, ⟨6, _⟩ => ⟨S1x88x1024, .f32⟩
  | .hbm, ⟨7, _⟩ => ⟨S_, .f32⟩
  | .hbm, ⟨8, _⟩ => ⟨S1x88x1024, .f32⟩
  | .hbm, ⟨9, _⟩ => ⟨S1x88x1024, .f32⟩
  | .hbm, ⟨10, _⟩ => ⟨S_, .f32⟩
  | .hbm, ⟨11, _⟩ => ⟨S1x88x1024, .f32⟩
  | .hbm, ⟨12, _⟩ => ⟨S1x88x1024, .f32⟩
  | .hbm, ⟨13, _⟩ => ⟨S1x88x1024, .f32⟩
  | .hbm, ⟨14, _⟩ => ⟨S_, .f32⟩
  | .hbm, ⟨15, _⟩ => ⟨S1x88x1024, .f32⟩
  | .hbm, ⟨16, _⟩ => ⟨S1x88x1024, .f32⟩
  | .hbm, ⟨17, _⟩ => ⟨S1x88x1024, .f32⟩
  | .hbm, ⟨18, _⟩ => ⟨S_, .f32⟩
  | .hbm, ⟨19, _⟩ => ⟨S1x88x1024, .f32⟩
  | .hbm, ⟨20, _⟩ => ⟨S1x88x1024, .f32⟩
  | .hbm, ⟨21, _⟩ => ⟨S1x88x1024, .f32⟩
  | .hbm, ⟨22, _⟩ => ⟨S_, .f32⟩
  | .hbm, ⟨23, _⟩ => ⟨S1x88x1024, .f32⟩
  | .hbm, ⟨24, _⟩ => ⟨S1x88x1024, .f32⟩
  | .hbm, ⟨25, _⟩ => ⟨S_, .f32⟩
  | .hbm, ⟨26, _⟩ => ⟨S1x88x1024, .f32⟩
  | .hbm, ⟨27, _⟩ => ⟨S1x88x1024, .f32⟩
  | .hbm, ⟨28, _⟩ => ⟨S1x88x1024, .f32⟩
  | .hbm, ⟨29, _⟩ => ⟨S_, .f32⟩
  | .hbm, ⟨30, _⟩ => ⟨S1x88x1024, .f32⟩
  | .hbm, ⟨31, _⟩ => ⟨S1x88x1024, .f32⟩
  | .hbm, ⟨32, _⟩ => ⟨S1x88x1024, .f32⟩
  | .hbm, ⟨33, _⟩ => ⟨S_, .f32⟩
  | .hbm, ⟨34, _⟩ => ⟨S1x88x1024, .f32⟩
  | .hbm, ⟨35, _⟩ => ⟨S1x88x1024, .f32⟩
  | .hbm, ⟨36, _⟩ => ⟨S1x88x1024, .f32⟩
  | .hbm, ⟨37, _⟩ => ⟨S_, .f32⟩
  | .hbm, ⟨38, _⟩ => ⟨S1x88x1024, .f32⟩
  | .hbm, ⟨39, _⟩ => ⟨S1x88x1024, .f32⟩
  | _, _ => ⟨S8x88x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8192x1024 : Shape := ⟨2, ![8192, 1024]⟩
abbrev S1024 : Shape := ⟨1, ![1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x1024 : Shape := ⟨2, ![528, 1024]⟩
abbrev S528x1 : Shape := ⟨2, ![528, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x256x256, .f32⟩
  | .hbm, ⟨3, _⟩ => ⟨S1x1024, .f32⟩
  | .hbm, ⟨4, _⟩ => ⟨S1x1024, .f32⟩
  | .hbm, ⟨5, _⟩ => ⟨S4x256x256, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S8192x1024 : Shape := ⟨2, ![8192, 1024]⟩
abbrev S1024 : Shape := ⟨1, ![1024]⟩
abbrev S4x256x256 : Shape := ⟨3, ![4, 256, 256]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S8193x256 : Shape := ⟨2, ![8193, 256]⟩
abbrev S1x256x256 : Shape := ⟨3, ![1, 256, 256]⟩
abbrev S256x256 : Shape := ⟨2, ![256, 256]⟩
abbrev S8195x256 : Shape := ⟨2, ![8195, 256]⟩
abbrev S8199x256 : Shape := ⟨2, ![8199, 256]⟩
abbrev S8207x256 : Shape := ⟨2, ![8207, 256]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1024, .f32⟩
  | 2 => ⟨S4x256x256, .f32⟩
  | 3 => ⟨S1x1024, .f32⟩
  | 4 => ⟨S8192x1024, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S8192, .i32⟩
  | 21 => ⟨S_, .i32⟩
  | 22 => ⟨S8192, .i32⟩
  | 23 => ⟨S8192, .i32⟩
  | 24 => ⟨S8192, .f32⟩
  | 25 => ⟨S8192x256, .f32⟩
  | 26 => ⟨S_, .i32⟩
  | 27 => ⟨S_, .f32⟩
  | 28 => ⟨S8193x256, .f32⟩
  | 29 => ⟨S8192x256, .f32⟩
  | 30 => ⟨S8192x256, .f32⟩
  | 31 => ⟨S8192x256, .f32⟩
  | 32 => ⟨S_, .f32⟩
  | 33 => ⟨S8192, .f32⟩
  | 34 => ⟨S8192, .f32⟩
  | 35 => ⟨S8192x1, .f32⟩
  | 36 => ⟨S8192x256, .f32⟩
  | 37 => ⟨S8192x256, .f32⟩
  | 38 => ⟨S8192x256, .f32⟩
  | 39 => ⟨S1x256x256, .f32⟩
  | 40 => ⟨S256x256, .f32⟩
  | 41 => ⟨S8192x256, .f32⟩
  | 42 => ⟨S8192x256, .f32⟩
  | 43 => ⟨S_, .i32⟩
  | 44 => ⟨S_, .f32⟩
  | 45 => ⟨S8195x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192, .f32⟩
  | 55 => ⟨S8192, .f32⟩
  | 56 => ⟨S8192x1, .f32⟩
  | 57 => ⟨S8192x256, .f32⟩
  | 58 => ⟨S8192x256, .f32⟩
  | 59 => ⟨S8192x256, .f32⟩
  | 60 => ⟨S1x256x256, .f32⟩
  | 61 => ⟨S256x256, .f32⟩
  | 62 => ⟨S8192x256, .f32⟩
  | 63 => ⟨S8192x256, .f32⟩
  | 64 => ⟨S_, .i32⟩
  | 65 => ⟨S_, .f32⟩
  | 66 => ⟨S8199x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S_, .f32⟩
  | 83 => ⟨S8192, .f32⟩
  | 84 => ⟨S8192, .f32⟩
  | 85 => ⟨S8192x1, .f32⟩
  | 86 => ⟨S8192x256, .f32⟩
  | 87 => ⟨S8192x256, .f32⟩
  | 88 => ⟨S8192x256, .f32⟩
  | 89 => ⟨S1x256x256, .f32⟩
  | 90 => ⟨S256x256, .f32⟩
  | 91 => ⟨S8192x256, .f32⟩
  | 92 => ⟨S8192x256, .f32⟩
  | 93 => ⟨S_, .i32⟩
  | 94 => ⟨S_, .f32⟩
  | 95 => ⟨S8207x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S_, .f32⟩
  | _ => ⟨S8192x1024, .f32⟩

abbrev hbmTy0_1 (i : Nat) : BufTy := match i % 128 with
  | 0 => ⟨S8192, .f32⟩
  | 1 => ⟨S8192, .f32⟩
  | 2 => ⟨S8192x1, .f32⟩
  | 3 => ⟨S8192x256, .f32⟩
  | 4 => ⟨S8192x256, .f32⟩
  | 5 => ⟨S8192x256, .f32⟩
  | 6 => ⟨S1x256x256, .f32⟩
  | 7 => ⟨S256x256, .f32⟩
  | 8 => ⟨S8192x256, .f32⟩
  | 9 => ⟨S8192x1024, .f32⟩
  | 10 => ⟨S8192x1024, .f32⟩
  | 11 => ⟨S8192x1024, .f32⟩
  | 12 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_call2_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_8 : Ref sig .tc := ⟨.hbm, 93, rfl⟩
abbrev main_call3_v0 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_9 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩

abbrev nD : Nat := 1
abbrev τ : Topo := Topo.v7x

variable {F : FTy → Type} [FloatOps F]
-- ==== Proof.FfnRun.lean ====
/- The body of the backward call on its staging buffers, case by case: what each buffer holds after one grid point.
   The grid is 16 row tiles by 4 column blocks.  A = first column block of a row tile, B = the two in the middle,
   C = the last block of the first row tile, D = the last block of a later row tile. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer -/

theorem z2 : (![0, 0] : Fin 2 → Nat) = fun _ => 0 := funext fun a => by fin_cases a <;> rfl
theorem z3 : (![0, 0, 0] : Fin 3 → Nat) = fun _ => 0 := funext fun a => by fin_cases a <;> rfl

/-- A whole load of a whole buffer known to read `X` gives `X`. -/
theorem readAt_whole {sp : Space} {S : Shape} {e : EltTy} (a : Memref sig .tc sp S e) (h : a.IsWhole) {off : Fin S.rank → Nat}
    (hz : off = fun _ => 0) (inb : ∀ d, off d + S.size d ≤ S.size d) (X : Vec F S e) :
    a.view.readAt (Elt F) (Rect.unit off S.size inb) (h.unread X) = X := by
  rw [View.readAt_eq_ld, h.read_unread]; exact View.ld_unit_zero hz inb X

/-- After a store over the whole buffer, the buffer reads the stored value, whatever was stored before. -/
theorem read_store {sp : Space} {S : Shape} {e : EltTy} (v : View sig .tc sp S e) (f : v.ty.Contents (Elt F)) {off : Fin S.rank → Nat}
    (hz : off = fun _ => 0) (inb : ∀ d, off d + S.size d ≤ S.size d) (w w' : Vec F S e) (L : List (View.Piece (Elt F) S e)) (hw : w = w') :
    v.read (Elt F) (v.writes (Elt F) f ((⟨Rect.unit off S.size inb, w⟩ : View.Piece (Elt F) S e) :: L)) = w' := by
  subst hw
  rw [View.read_writes_eq_canon _ _ _ (fun y => ⟨_, List.mem_cons_self, View.mem_set_unit_zero hz inb y⟩)]
  exact View.canon_cons_unit_zero hz inb w L

/-- The gate rows (`lo`) and the up rows (`hi`) of one block of the saved pre-activations. -/
def lo (x : Vec F S1x2x512x704 .bf16) : Vec F S1x1x512x704 .bf16 :=
  View.ld x (Rect.unit (s := S1x2x512x704) ![0, 0, 0, 0] S1x1x512x704.size inb_S1x2x512x704_S1x1x512x704_0_0_0_0)
def hi (x : Vec F S1x2x512x704 .bf16) : Vec F S1x1x512x704 .bf16 :=
  View.ld x (Rect.unit (s := S1x2x512x704) ![0, 1, 0, 0] S1x1x512x704.size inb_S1x2x512x704_S1x1x512x704_0_1_0_0)

/-- The block holding the gate gradient `p` and the up gradient `q`. -/
def both (p q : Vec F S1x1x512x704 .bf16) : Vec F S1x2x512x704 .bf16 :=
  View.canon [(⟨Rect.unit (s := S1x2x512x704) ![0, 1, 0, 0] S1x1x512x704.size inb_S1x2x512x704_S1x1x512x704_0_1_0_0, q⟩ : View.Piece (Elt F) S1x2x512x704 .bf16),
    ⟨Rect.unit (s := S1x2x512x704) ![0, 0, 0, 0] S1x1x512x704.size inb_S1x2x512x704_S1x1x512x704_0_0_0_0, p⟩]

theorem read_both {sp : Space} (v : View sig .tc sp S1x2x512x704 .bf16) (f : v.ty.Contents (Elt F)) (p q p' q' : Vec F S1x1x512x704 .bf16)
    (hp : p = p') (hq : q = q') :
    v.read (Elt F) (v.writes (Elt F) f [(⟨Rect.unit (s := S1x2x512x704) ![0, 1, 0, 0] S1x1x512x704.size inb_S1x2x512x704_S1x1x512x704_0_1_0_0, q⟩ : View.Piece (Elt F) S1x2x512x704 .bf16),
    ⟨Rect.unit (s := S1x2x512x704) ![0, 0, 0, 0] S1x1x512x704.size inb_S1x2x512x704_S1x1x512x704_0_0_0_0, p⟩]) = both p' q' := by
  subst hp hq
  exact View.read_writes_eq_canon _ _ _ (View.cover_of_tiledL _ S1x1x512x704.size (by sl_kernel_rfl))

/-! ## The values of one grid point -/

/-- The gate gradient, the up gradient, and the input-gradient accumulator after one column block. -/
abbrev dgV (gu : Vec F S1x2x512x704 .bf16) (wo : Vec F S2x352x1024 .bf16) (dyb : Vec F S512x1024 .bf16) : FVec F S512x704 .bf16 := k0_pay19 (lo gu) (hi gu) dyb wo
abbrev duV (gu : Vec F S1x2x512x704 .bf16) (wo : Vec F S2x352x1024 .bf16) (dyb : Vec F S512x1024 .bf16) : FVec F S512x704 .bf16 := k0_pay20 (lo gu) dyb wo
abbrev accV (wg wu : Vec F S1x1024x704 .bf16) (gu : Vec F S1x2x512x704 .bf16) (wo : Vec F S2x352x1024 .bf16) (dyb : Vec F S512x1024 .bf16) (acc : Vec F S512x1024 .f32) : FVec F S512x1024 .f32 :=
  k0_pay3 (dgV gu wo dyb) (duV gu wo dyb) wg wu acc
abbrev actV (gu : Vec F S1x2x512x704 .bf16) : FVec F S1x512x704 .bf16 := k0_pay17 (lo gu) (hi gu)
abbrev dhV (gu : Vec F S1x2x512x704 .bf16) (wo : Vec F S2x352x1024 .bf16) (dyb : Vec F S512x1024 .bf16) : Vec F S1x2x512x704 .bf16 :=
  both (k0_pay1 (dgV gu wo dyb)) (k0_pay2 (duV gu wo dyb))

abbrev condFirst (i : grid0.Coords) : Prop := (Scalar.cmpi .ne (Scalar.extui (Scalar.cmpi .eq (BitVec.ofNat 32 (i 1).val) 0#32)) 0#32) = 1#1
abbrev condLast (i : grid0.Coords) : Prop := k0_cond2 i = 1#1
abbrev condTop (i : grid0.Coords) : Prop := k0_cond3 i = 1#1
abbrev condRest (i : grid0.Coords) : Prop := k0_cond4 i = 1#1

set_option maxHeartbeats 4000000 in
/-- Case A, the first column block of a row tile: the row scale, the normalised rows and the scaled cotangent are made and the accumulator starts at zero. -/
theorem runA (c : Dev nD) (i : grid0.Coords) (a2 : Memref sig .tc .vmem S512x1024 .f32) (h2 : a2.IsWhole) (a3 : Memref sig .tc .vmem S1x1024 .f32) (h3 : a3.IsWhole) (a4 : Memref sig .tc .vmem S1x1024x704 .bf16) (h4 : a4.IsWhole) (a5 : Memref sig .tc .vmem S1x1024x704 .bf16) (h5 : a5.IsWhole) (a6 : Memref sig .tc .vmem S2x352x1024 .bf16) (h6 : a6.IsWhole) (a7 : Memref sig .tc .vmem S1x2x512x704 .bf16) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S1x2x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1 .f32) (h15 : a15.IsWhole) (a16 : Memref sig .tc .vmem S512x1024 .f32) (h16 : a16.IsWhole)
    (hc0 : condFirst i) (hc1 : ¬condLast i) (x : Vec F S512x1024 .f32) (nw : Vec F S1x1024 .f32) (wg : Vec F S1x1024x704 .bf16) (wu : Vec F S1x1024x704 .bf16) (wo : Vec F S2x352x1024 .bf16) (gu : Vec F S1x2x512x704 .bf16) (dy : Vec F S512x1024 .f32) (dx : Vec F S512x1024 .f32) (dnw : Vec F S1x1024 .f32) (E : Set ℕ) (K : PUnit → sProp 𝕄) :
    iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare dx ∗ (∃ d, owns (c : Thread nD τ) a10 fullShare d) ∗ (∃ d, owns (c : Thread nD τ) a11 fullShare d) ∗ (∃ d, owns (c : Thread nD τ) a12 fullShare d) ∗ owns (c : Thread nD τ) a13 fullShare dnw ∗ (∃ d, owns (c : Thread nD τ) a14 fullShare d) ∗ (∃ d, owns (c : Thread nD τ) a15 fullShare d) ∗ (∃ d, owns (c : Thread nD τ) a16 fullShare d)
      ∗ (iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare dx ∗ owns (c : Thread nD τ) a10 fullShare (k0_pay10 x nw) ∗ owns (c : Thread nD τ) a11 fullShare (actV gu) ∗ owns (c : Thread nD τ) a12 fullShare (dhV gu wo (k0_pay11 dy)) ∗ owns (c : Thread nD τ) a13 fullShare dnw ∗ owns (c : Thread nD τ) a14 fullShare (k0_pay11 dy) ∗ owns (c : Thread nD τ) a15 fullShare (k0_pay9 x) ∗ owns (c : Thread nD τ) a16 fullShare (accV wg wu gu wo (k0_pay11 dy) k0_pay12)) -∗ K ⟨⟩))
    ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h13.eq_unread hf13
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; swap; · iexact H10
    ipureintro
    sl_unfold_words
    refine read_store (S := S512x1024) _ _ z2 _ _ _ _ ?_
    simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H11]
  · iexists _; isplitr; swap; · iexact H11
    ipureintro
    sl_unfold_words
    refine read_store (S := S1x512x704) _ _ z3 _ _ _ _ ?_
    simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H12]
  · iexists _; isplitr; swap; · iexact H12
    ipureintro
    sl_unfold_words
    refine read_both _ _ _ _ _ _ ?_ ?_ <;> (simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]; rfl)
  isplitl [H13]
  · iexists _; isplitr; · ipureintro; exact h13.read_unread _
    iexact H13
  isplitl [H14]
  · iexists _; isplitr; swap; · iexact H14
    ipureintro
    sl_unfold_words
    refine read_store (S := S512x1024) _ _ z2 _ _ _ _ ?_
    simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H15]
  · iexists _; isplitr; swap; · iexact H15
    ipureintro
    sl_unfold_words
    refine read_store (S := S512x1) _ _ z2 _ _ _ _ ?_
    simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  iexists _; isplitr; swap; · iexact H16
  ipureintro
  sl_unfold_words
  refine read_store (S := S512x1024) _ _ z2 _ _ _ _ ?_
  simp only [View.readAt_eq_ld, h2.read_unread, h3.read_unread, h4.read_unread, h5.read_unread, h6.read_unread, h7.read_unread, h8.read_unread, h9.read_unread, h13.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
  all_goals rfl

set_option maxHeartbeats 4000000 in
/-- Case B, a middle column block: the accumulator takes one more block. -/
theorem runB (c : Dev nD) (i : grid0.Coords) (a2 : Memref sig .tc .vmem S512x1024 .f32) (h2 : a2.IsWhole) (a3 : Memref sig .tc .vmem S1x1024 .f32) (h3 : a3.IsWhole) (a4 : Memref sig .tc .vmem S1x1024x704 .bf16) (h4 : a4.IsWhole) (a5 : Memref sig .tc .vmem S1x1024x704 .bf16) (h5 : a5.IsWhole) (a6 : Memref sig .tc .vmem S2x352x1024 .bf16) (h6 : a6.IsWhole) (a7 : Memref sig .tc .vmem S1x2x512x704 .bf16) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S1x2x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1 .f32) (h15 : a15.IsWhole) (a16 : Memref sig .tc .vmem S512x1024 .f32) (h16 : a16.IsWhole)
    (hc0 : ¬condFirst i) (hc1 : ¬condLast i) (x : Vec F S512x1024 .f32) (nw : Vec F S1x1024 .f32) (wg : Vec F S1x1024x704 .bf16) (wu : Vec F S1x1024x704 .bf16) (wo : Vec F S2x352x1024 .bf16) (gu : Vec F S1x2x512x704 .bf16) (dy : Vec F S512x1024 .f32) (dx : Vec F S512x1024 .f32) (xn : Vec F S512x1024 .bf16) (dnw : Vec F S1x1024 .f32) (dyb : Vec F S512x1024 .bf16) (r : Vec F S512x1 .f32) (acc : Vec F S512x1024 .f32) (E : Set ℕ) (K : PUnit → sProp 𝕄) :
    iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare dx ∗ owns (c : Thread nD τ) a10 fullShare xn ∗ (∃ d, owns (c : Thread nD τ) a11 fullShare d) ∗ (∃ d, owns (c : Thread nD τ) a12 fullShare d) ∗ owns (c : Thread nD τ) a13 fullShare dnw ∗ owns (c : Thread nD τ) a14 fullShare dyb ∗ owns (c : Thread nD τ) a15 fullShare r ∗ owns (c : Thread nD τ) a16 fullShare acc
      ∗ (iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare dx ∗ owns (c : Thread nD τ) a10 fullShare xn ∗ owns (c : Thread nD τ) a11 fullShare (actV gu) ∗ owns (c : Thread nD τ) a12 fullShare (dhV gu wo dyb) ∗ owns (c : Thread nD τ) a13 fullShare dnw ∗ owns (c : Thread nD τ) a14 fullShare dyb ∗ owns (c : Thread nD τ) a15 fullShare r ∗ owns (c : Thread nD τ) a16 fullShare (accV wg wu gu wo dyb acc)) -∗ K ⟨⟩))
    ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h13.eq_unread hf13; obtain rfl := h14.eq_unread hf14; obtain rfl := h15.eq_unread hf15; obtain rfl := h16.eq_unread hf16
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    sl_unfold_words
    refine read_store (S := S1x512x704) _ _ z3 _ _ _ _ ?_
    simp only [View.readAt_eq_ld, h2.read_unread, h3.read_unread, h4.read_unread, h5.read_unread, h6.read_unread, h7.read_unread, h8.read_unread, h9.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H12]
  · iexists _; isplitr; swap; · iexact H12
    ipureintro
    sl_unfold_words
    refine read_both _ _ _ _ _ _ ?_ ?_ <;> (simp only [View.readAt_eq_ld, h2.read_unread, h3.read_unread, h4.read_unread, h5.read_unread, h6.read_unread, h7.read_unread, h8.read_unread, h9.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]; rfl)
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  iexists _; isplitr; swap; · iexact H16
  ipureintro
  sl_unfold_words
  refine read_store (S := S512x1024) _ _ z2 _ _ _ _ ?_
  simp only [View.readAt_eq_ld, h2.read_unread, h3.read_unread, h4.read_unread, h5.read_unread, h6.read_unread, h7.read_unread, h8.read_unread, h9.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
  all_goals rfl

set_option maxHeartbeats 4000000 in
/-- Case C, the last column block of the first row tile: the input gradient is finished and the weight gradient starts. -/
theorem runC (c : Dev nD) (i : grid0.Coords) (a2 : Memref sig .tc .vmem S512x1024 .f32) (h2 : a2.IsWhole) (a3 : Memref sig .tc .vmem S1x1024 .f32) (h3 : a3.IsWhole) (a4 : Memref sig .tc .vmem S1x1024x704 .bf16) (h4 : a4.IsWhole) (a5 : Memref sig .tc .vmem S1x1024x704 .bf16) (h5 : a5.IsWhole) (a6 : Memref sig .tc .vmem S2x352x1024 .bf16) (h6 : a6.IsWhole) (a7 : Memref sig .tc .vmem S1x2x512x704 .bf16) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S1x2x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1 .f32) (h15 : a15.IsWhole) (a16 : Memref sig .tc .vmem S512x1024 .f32) (h16 : a16.IsWhole)
    (hc0 : ¬condFirst i) (hc1 : condLast i) (hc2 : condTop i) (hc3 : ¬condRest i) (x : Vec F S512x1024 .f32) (nw : Vec F S1x1024 .f32) (wg : Vec F S1x1024x704 .bf16) (wu : Vec F S1x1024x704 .bf16) (wo : Vec F S2x352x1024 .bf16) (gu : Vec F S1x2x512x704 .bf16) (dy : Vec F S512x1024 .f32) (xn : Vec F S512x1024 .bf16) (dyb : Vec F S512x1024 .bf16) (r : Vec F S512x1 .f32) (acc : Vec F S512x1024 .f32) (E : Set ℕ) (K : PUnit → sProp 𝕄) :
    iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ (∃ d, owns (c : Thread nD τ) a9 fullShare d) ∗ owns (c : Thread nD τ) a10 fullShare xn ∗ (∃ d, owns (c : Thread nD τ) a11 fullShare d) ∗ (∃ d, owns (c : Thread nD τ) a12 fullShare d) ∗ (∃ d, owns (c : Thread nD τ) a13 fullShare d) ∗ owns (c : Thread nD τ) a14 fullShare dyb ∗ owns (c : Thread nD τ) a15 fullShare r ∗ owns (c : Thread nD τ) a16 fullShare acc
      ∗ (iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare (k0_pay6 r (accV wg wu gu wo dyb acc) x nw dy) ∗ owns (c : Thread nD τ) a10 fullShare xn ∗ owns (c : Thread nD τ) a11 fullShare (actV gu) ∗ owns (c : Thread nD τ) a12 fullShare (dhV gu wo dyb) ∗ owns (c : Thread nD τ) a13 fullShare (k0_pay5 r (accV wg wu gu wo dyb acc) x) ∗ owns (c : Thread nD τ) a14 fullShare dyb ∗ owns (c : Thread nD τ) a15 fullShare r ∗ owns (c : Thread nD τ) a16 fullShare (accV wg wu gu wo dyb acc)) -∗ K ⟨⟩))
    ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := h14.eq_unread hf14; obtain rfl := h15.eq_unread hf15; obtain rfl := h16.eq_unread hf16
  sl_exec (disch := first | sl_exact hc0 | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    refine read_store (S := S512x1024) _ _ z2 _ _ _ _ ?_
    simp only [View.readAt_eq_ld, h2.read_unread, h3.read_unread, h4.read_unread, h5.read_unread, h6.read_unread, h7.read_unread, h8.read_unread, h10.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H10]
  · iexists _; isplitr; · ipureintro; exact h10.read_unread _
    iexact H10
  isplitl [H11]
  · iexists _; isplitr; swap; · iexact H11
    ipureintro
    sl_unfold_words
    refine read_store (S := S1x512x704) _ _ z3 _ _ _ _ ?_
    simp only [View.readAt_eq_ld, h2.read_unread, h3.read_unread, h4.read_unread, h5.read_unread, h6.read_unread, h7.read_unread, h8.read_unread, h10.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H12]
  · iexists _; isplitr; swap; · iexact H12
    ipureintro
    sl_unfold_words
    refine read_both _ _ _ _ _ _ ?_ ?_ <;> (simp only [View.readAt_eq_ld, h2.read_unread, h3.read_unread, h4.read_unread, h5.read_unread, h6.read_unread, h7.read_unread, h8.read_unread, h10.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]; rfl)
  isplitl [H13]
  · iexists _; isplitr; swap; · iexact H13
    ipureintro
    sl_unfold_words
    refine read_store (S := S1x1024) _ _ z2 _ _ _ _ ?_
    simp only [View.readAt_eq_ld, h2.read_unread, h3.read_unread, h4.read_unread, h5.read_unread, h6.read_unread, h7.read_unread, h8.read_unread, h10.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H14]
  · iexists _; isplitr; · ipureintro; exact h14.read_unread _
    iexact H14
  isplitl [H15]
  · iexists _; isplitr; · ipureintro; exact h15.read_unread _
    iexact H15
  iexists _; isplitr; swap; · iexact H16
  ipureintro
  sl_unfold_words
  refine read_store (S := S512x1024) _ _ z2 _ _ _ _ ?_
  simp only [View.readAt_eq_ld, h2.read_unread, h3.read_unread, h4.read_unread, h5.read_unread, h6.read_unread, h7.read_unread, h8.read_unread, h10.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
  all_goals rfl

set_option maxHeartbeats 4000000 in
/-- Case D, the last column block of a later row tile: the input gradient is finished and the weight gradient takes one more tile. -/
theorem runD (c : Dev nD) (i : grid0.Coords) (a2 : Memref sig .tc .vmem S512x1024 .f32) (h2 : a2.IsWhole) (a3 : Memref sig .tc .vmem S1x1024 .f32) (h3 : a3.IsWhole) (a4 : Memref sig .tc .vmem S1x1024x704 .bf16) (h4 : a4.IsWhole) (a5 : Memref sig .tc .vmem S1x1024x704 .bf16) (h5 : a5.IsWhole) (a6 : Memref sig .tc .vmem S2x352x1024 .bf16) (h6 : a6.IsWhole) (a7 : Memref sig .tc .vmem S1x2x512x704 .bf16) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S1x2x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1 .f32) (h15 : a15.IsWhole) (a16 : Memref sig .tc .vmem S512x1024 .f32) (h16 : a16.IsWhole)
    (hc0 : ¬condFirst i) (hc1 : condLast i) (hc2 : ¬condTop i) (hc3 : condRest i) (x : Vec F S512x1024 .f32) (nw : Vec F S1x1024 .f32) (wg : Vec F S1x1024x704 .bf16) (wu : Vec F S1x1024x704 .bf16) (wo : Vec F S2x352x1024 .bf16) (gu : Vec F S1x2x512x704 .bf16) (dy : Vec F S512x1024 .f32) (xn : Vec F S512x1024 .bf16) (dnw : Vec F S1x1024 .f32) (dyb : Vec F S512x1024 .bf16) (r : Vec F S512x1 .f32) (acc : Vec F S512x1024 .f32) (E : Set ℕ) (K : PUnit → sProp 𝕄) :
    iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ (∃ d, owns (c : Thread nD τ) a9 fullShare d) ∗ owns (c : Thread nD τ) a10 fullShare xn ∗ (∃ d, owns (c : Thread nD τ) a11 fullShare d) ∗ (∃ d, owns (c : Thread nD τ) a12 fullShare d) ∗ owns (c : Thread nD τ) a13 fullShare dnw ∗ owns (c : Thread nD τ) a14 fullShare dyb ∗ owns (c : Thread nD τ) a15 fullShare r ∗ owns (c : Thread nD τ) a16 fullShare acc
      ∗ (iprop(owns (c : Thread nD τ) a2 fullShare x ∗ owns (c : Thread nD τ) a3 fullShare nw ∗ owns (c : Thread nD τ) a4 fullShare wg ∗ owns (c : Thread nD τ) a5 fullShare wu ∗ owns (c : Thread nD τ) a6 fullShare wo ∗ owns (c : Thread nD τ) a7 fullShare gu ∗ owns (c : Thread nD τ) a8 fullShare dy ∗ owns (c : Thread nD τ) a9 fullShare (k0_pay6 r (accV wg wu gu wo dyb acc) x nw dy) ∗ owns (c : Thread nD τ) a10 fullShare xn ∗ owns (c : Thread nD τ) a11 fullShare (actV gu) ∗ owns (c : Thread nD τ) a12 fullShare (dhV gu wo dyb) ∗ owns (c : Thread nD τ) a13 fullShare (k0_pay7 r (accV wg wu gu wo dyb acc) x dnw) ∗ owns (c : Thread nD τ) a14 fullShare dyb ∗ owns (c : Thread nD τ) a15 fullShare r ∗ owns (c : Thread nD τ) a16 fullShare (accV wg wu gu wo dyb acc)) -∗ K ⟨⟩))
    ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := h13.eq_unread hf13; obtain rfl := h14.eq_unread hf14; obtain rfl := h15.eq_unread hf15; obtain rfl := h16.eq_unread hf16
  sl_exec (disch := first | sl_exact hc0 | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    refine read_store (S := S512x1024) _ _ z2 _ _ _ _ ?_
    simp only [View.readAt_eq_ld, h2.read_unread, h3.read_unread, h4.read_unread, h5.read_unread, h6.read_unread, h7.read_unread, h8.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H10]
  · iexists _; isplitr; · ipureintro; exact h10.read_unread _
    iexact H10
  isplitl [H11]
  · iexists _; isplitr; swap; · iexact H11
    ipureintro
    sl_unfold_words
    refine read_store (S := S1x512x704) _ _ z3 _ _ _ _ ?_
    simp only [View.readAt_eq_ld, h2.read_unread, h3.read_unread, h4.read_unread, h5.read_unread, h6.read_unread, h7.read_unread, h8.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H12]
  · iexists _; isplitr; swap; · iexact H12
    ipureintro
    sl_unfold_words
    refine read_both _ _ _ _ _ _ ?_ ?_ <;> (simp only [View.readAt_eq_ld, h2.read_unread, h3.read_unread, h4.read_unread, h5.read_unread, h6.read_unread, h7.read_unread, h8.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]; rfl)
  isplitl [H13]
  · iexists _; isplitr; swap; · iexact H13
    ipureintro
    sl_unfold_words
    refine read_store (S := S1x1024) _ _ z2 _ _ _ _ ?_
    simp only [View.readAt_eq_ld, h2.read_unread, h3.read_unread, h4.read_unread, h5.read_unread, h6.read_unread, h7.read_unread, h8.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
    all_goals rfl
  isplitl [H14]
  · iexists _; isplitr; · ipureintro; exact h14.read_unread _
    iexact H14
  isplitl [H15]
  · iexists _; isplitr; · ipureintro; exact h15.read_unread _
    iexact H15
  iexists _; isplitr; swap; · iexact H16
  ipureintro
  sl_unfold_words
  refine read_store (S := S512x1024) _ _ z2 _ _ _ _ ?_
  simp only [View.readAt_eq_ld, h2.read_unread, h3.read_unread, h4.read_unread, h5.read_unread, h6.read_unread, h7.read_unread, h8.read_unread, h10.read_unread, h13.read_unread, h14.read_unread, h15.read_unread, h16.read_unread, View.ld_unit_zero (S := S512x1024) z2, View.ld_unit_zero (S := S1x1024) z2, View.ld_unit_zero (S := S512x1) z2, View.ld_unit_zero (S := S1x1024x704) z3, View.ld_unit_zero (S := S2x352x1024) z3, View.readCov_unit_zero (S := S512x1024) _ z2, View.readCov_unit_zero (S := S512x1) _ z2]
  all_goals rfl

end Cert.KernelIdeal.Ffn

end
-- ==== Proof.FfnDat.lean ====
/- The backward call over its whole grid: what every buffer holds after each point, and the run of the call. -/
module

public import proofs.«01_k».proof.Proof.FfnRun
public import Idealize.ShloMosaic.Lib.Quiescent
public import Idealize.ShloMosaic.Lib.Claim

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are which, and where an output is left alone -/

theorem hFirst (t : Fin cfg0.N) : condFirst (grid0.coords t) ↔ t.val % 4 = 0 :=
  (by decide +kernel : ∀ t : Fin grid0.N, condFirst (grid0.coords t) ↔ t.val % 4 = 0) t
theorem hLast (t : Fin cfg0.N) : condLast (grid0.coords t) ↔ t.val % 4 = 3 :=
  (by decide +kernel : ∀ t : Fin grid0.N, condLast (grid0.coords t) ↔ t.val % 4 = 3) t
theorem hTop (t : Fin cfg0.N) : condTop (grid0.coords t) ↔ t.val < 4 :=
  (by decide +kernel : ∀ t : Fin grid0.N, condTop (grid0.coords t) ↔ t.val < 4) t
theorem hRest (t : Fin cfg0.N) : condRest (grid0.coords t) ↔ 4 ≤ t.val :=
  (by decide +kernel : ∀ t : Fin grid0.N, condRest (grid0.coords t) ↔ 4 ≤ t.val) t

theorem idle7 : ∀ t : Fin cfg0.N, cfg0.idle 7 (grid0.coords t) = decide (t.val % 4 ≠ 3) := by decide +kernel
theorem idle8 : ∀ t : Fin cfg0.N, cfg0.idle 8 (grid0.coords t) = decide (t.val % 4 ≠ 0) := by decide +kernel
theorem idle11 : ∀ t : Fin cfg0.N, cfg0.idle 11 (grid0.coords t) = decide (t.val % 4 ≠ 3) := by decide +kernel
theorem idle12 : ∀ t : Fin cfg0.N, cfg0.idle 12 (grid0.coords t) = decide (t.val % 4 ≠ 0) := by decide +kernel
theorem flush7 : ∀ t : Fin cfg0.N, (cfg0.win 7).flush t = decide (t.val % 4 = 3) := by decide +kernel
theorem flush8 : ∀ t : Fin cfg0.N, (cfg0.win 8).flush t = decide (t.val % 4 = 3) := by decide +kernel
theorem flush11 : ∀ t : Fin cfg0.N, (cfg0.win 11).flush t = decide (t.val = 63) := by decide +kernel
theorem flush12 : ∀ t : Fin cfg0.N, (cfg0.win 12).flush t = decide (t.val % 4 = 3) := by decide +kernel

/-- When an output's buffer holds nothing yet: the rows' buffers at the start of each row tile, the weight gradient's before its first store. -/
theorem fresh8 (t : Fin cfg0.N) : cfg0.fresh 8 t.val = decide (t.val % 4 = 0) :=
  Pipeline.Cfg.fresh_tab cfg0 8 (fun n => decide (n % 4 = 0)) rfl (by decide +kernel) t.val (Nat.le_of_lt t.isLt)
theorem fresh12 (t : Fin cfg0.N) : cfg0.fresh 12 t.val = decide (t.val % 4 = 0) :=
  Pipeline.Cfg.fresh_tab cfg0 12 (fun n => decide (n % 4 = 0)) rfl (by decide +kernel) t.val (Nat.le_of_lt t.isLt)
theorem fresh11 (t : Fin cfg0.N) : cfg0.fresh 11 t.val = (decide (t.val < 4) || decide (t.val = 64)) :=
  Pipeline.Cfg.fresh_tab cfg0 11 (fun n => decide (n < 4) || decide (n = 64)) rfl (by decide +kernel) t.val (Nat.le_of_lt t.isLt)

/-! ## The input blocks and the carried values -/

abbrev bX (c : Dev nD) (t : Fin cfg0.N) : Vec F S512x1024 .f32 := iblk m c 0 t
abbrev bNW (c : Dev nD) (t : Fin cfg0.N) : Vec F S1x1024 .f32 := iblk m c 1 t
abbrev bWG (c : Dev nD) (t : Fin cfg0.N) : Vec F S1x1024x704 .bf16 := iblk m c 2 t
abbrev bWU (c : Dev nD) (t : Fin cfg0.N) : Vec F S1x1024x704 .bf16 := iblk m c 3 t
abbrev bWO (c : Dev nD) (t : Fin cfg0.N) : Vec F S2x352x1024 .bf16 := iblk m c 4 t
abbrev bGU (c : Dev nD) (t : Fin cfg0.N) : Vec F S1x2x512x704 .bf16 := iblk m c 5 t
abbrev bDY (c : Dev nD) (t : Fin cfg0.N) : Vec F S512x1024 .f32 := iblk m c 6 t

/-- What is carried from one grid point to the next: the normalised rows, the scaled cotangent rows, the row scale,
    the input-gradient accumulator and the norm-weight gradient so far. -/
structure St (F : FTy → Type) [FloatOps F] where
  xn : Vec F S512x1024 .bf16
  dyb : Vec F S512x1024 .bf16
  r : Vec F S512x1 .f32
  acc : Vec F S512x1024 .f32
  dnw : Vec F S1x1024 .f32

/-- One grid point. -/
def step (c : Dev nD) (t : Fin cfg0.N) (p : St F) : St F :=
  if t.val % 4 = 0 then
    { xn := k0_pay10 (bX m c t) (bNW m c t), dyb := k0_pay11 (bDY m c t), r := k0_pay9 (bX m c t),
      acc := accV (bWG m c t) (bWU m c t) (bGU m c t) (bWO m c t) (k0_pay11 (bDY m c t)) k0_pay12, dnw := p.dnw }
  else
    { xn := p.xn, dyb := p.dyb, r := p.r,
      acc := accV (bWG m c t) (bWU m c t) (bGU m c t) (bWO m c t) p.dyb p.acc,
      dnw := if t.val % 4 = 3 then
          if t.val < 4 then k0_pay5 p.r (accV (bWG m c t) (bWU m c t) (bGU m c t) (bWO m c t) p.dyb p.acc) (bX m c t)
          else k0_pay7 p.r (accV (bWG m c t) (bWU m c t) (bGU m c t) (bWO m c t) p.dyb p.acc) (bX m c t) p.dnw
        else p.dnw }

/-- The carried values after point `n`. -/
def st (c : Dev nD) : (n : ℕ) → n < cfg0.N → St F
  | 0, h => step m c ⟨0, h⟩ ⟨k0_pay10 (bX m c ⟨0, h⟩) (bNW m c ⟨0, h⟩), k0_pay11 (bDY m c ⟨0, h⟩), k0_pay9 (bX m c ⟨0, h⟩), k0_pay12,
      k0_pay5 (k0_pay9 (bX m c ⟨0, h⟩)) k0_pay12 (bX m c ⟨0, h⟩)⟩
  | n + 1, h => step m c ⟨n + 1, h⟩ (st c n (Nat.lt_of_succ_lt h))

abbrev stAt (c : Dev nD) (t : Fin cfg0.N) : St F := st m c t.val t.isLt
abbrev stPrev (c : Dev nD) (t : Fin cfg0.N) : St F := st m c (t.val - 1) (Nat.lt_of_le_of_lt (Nat.sub_le _ _) t.isLt)

theorem st_first (c : Dev nD) (t : Fin cfg0.N) (h : t.val % 4 = 0) :
    (stAt m c t).xn = k0_pay10 (bX m c t) (bNW m c t) ∧ (stAt m c t).dyb = k0_pay11 (bDY m c t) ∧ (stAt m c t).r = k0_pay9 (bX m c t)
      ∧ (stAt m c t).acc = accV (bWG m c t) (bWU m c t) (bGU m c t) (bWO m c t) (k0_pay11 (bDY m c t)) k0_pay12 := by
  obtain ⟨n, hn⟩ := t
  cases n with
  | zero => unfold stAt st step; rw [if_pos h]; exact ⟨rfl, rfl, rfl, rfl⟩
  | succ n => unfold stAt st step; rw [if_pos h]; exact ⟨rfl, rfl, rfl, rfl⟩

theorem st_later (c : Dev nD) (t : Fin cfg0.N) (h : ¬t.val % 4 = 0) : stAt m c t = step m c t (stPrev m c t) := by
  obtain ⟨n, hn⟩ := t
  cases n with
  | zero => exact absurd (Nat.zero_mod _) h
  | succ n => rfl

theorem st_later_xn (c : Dev nD) (t : Fin cfg0.N) (h : ¬t.val % 4 = 0) : (stAt m c t).xn = (stPrev m c t).xn := by
  rw [st_later m c t h]; unfold step; rw [if_neg h]
theorem st_later_dyb (c : Dev nD) (t : Fin cfg0.N) (h : ¬t.val % 4 = 0) : (stAt m c t).dyb = (stPrev m c t).dyb := by
  rw [st_later m c t h]; unfold step; rw [if_neg h]
theorem st_later_r (c : Dev nD) (t : Fin cfg0.N) (h : ¬t.val % 4 = 0) : (stAt m c t).r = (stPrev m c t).r := by
  rw [st_later m c t h]; unfold step; rw [if_neg h]
theorem st_later_acc (c : Dev nD) (t : Fin cfg0.N) (h : ¬t.val % 4 = 0) : (stAt m c t).acc
    = accV (bWG m c t) (bWU m c t) (bGU m c t) (bWO m c t) (stPrev m c t).dyb (stPrev m c t).acc := by
  rw [st_later m c t h]; unfold step; rw [if_neg h]
theorem st_dnw_same (c : Dev nD) (t : Fin cfg0.N) (hz : t.val ≠ 0) (h : ¬t.val % 4 = 3) : (stAt m c t).dnw = (stPrev m c t).dnw := by
  obtain ⟨n, hn⟩ := t
  cases n with
  | zero => exact absurd rfl hz
  | succ n =>
    show (step m c ⟨n + 1, hn⟩ _).dnw = _
    unfold step
    by_cases h0 : (n + 1) % 4 = 0
    · rw [if_pos h0]; rfl
    · rw [if_neg h0, if_neg h]; rfl
theorem st_dnw_top (c : Dev nD) (t : Fin cfg0.N) (h : t.val % 4 = 3) (ht : t.val < 4) : (stAt m c t).dnw
    = k0_pay5 (stPrev m c t).r (accV (bWG m c t) (bWU m c t) (bGU m c t) (bWO m c t) (stPrev m c t).dyb (stPrev m c t).acc) (bX m c t) := by
  rw [st_later m c t (by omega)]; unfold step; rw [if_neg (by omega), if_pos h, if_pos ht]
theorem st_dnw_rest (c : Dev nD) (t : Fin cfg0.N) (h : t.val % 4 = 3) (ht : ¬t.val < 4) : (stAt m c t).dnw
    = k0_pay7 (stPrev m c t).r (accV (bWG m c t) (bWU m c t) (bGU m c t) (bWO m c t) (stPrev m c t).dyb (stPrev m c t).acc) (bX m c t) (stPrev m c t).dnw := by
  rw [st_later m c t (by omega)]; unfold step; rw [if_neg (by omega), if_pos h, if_neg ht]

/-- The finished input gradient of a row tile (read at its last column block). -/
def dxAt (c : Dev nD) (t : Fin cfg0.N) : Vec F S512x1024 .f32 :=
  k0_pay6 (stAt m c t).r (stAt m c t).acc (bX m c t) (bNW m c t) (bDY m c t)

/-! ## The call's proof data -/

abbrev scR : Memref sig .tc .vmem S512x1 .f32 := Memref.whole cc0_scratch0
abbrev scAcc : Memref sig .tc .vmem S512x1024 .f32 := Memref.whole cc0_scratch1

theorem PhiA_eq (c : Dev nD) : (Pipeline.ΦA spec0 c : sProp 𝕄)
    = iprop(iprop((∃ d, owns (c : Thread nD τ) scR fullShare d) ∗ (∃ d, owns (c : Thread nD τ) scAcc fullShare d)) ∗ (∃ r, prngReg c r)) := by
  unfold Pipeline.ΦA; rw [scopedRest0_eq]; simp only [scR, scAcc, owns_whole]; try rfl

/-- Between points the two scratch buffers hold the row scale and the accumulator. -/
def PhiS (c : Dev nD) : (n : ℕ) → n ≤ cfg0.N → sProp 𝕄
  | 0, _ => Pipeline.ΦA spec0 c
  | n + 1, hn => iprop(iprop(owns (c : Thread nD τ) scR fullShare (st m c n hn).r ∗ owns (c : Thread nD τ) scAcc fullShare (st m c n hn).acc) ∗ (∃ r, prngReg c r))

theorem PhiS_pos (c : Dev nD) (n : ℕ) (h : n ≤ cfg0.N) (hz : n ≠ 0) : PhiS m c n h
    = iprop(iprop(owns (c : Thread nD τ) scR fullShare (st m c (n - 1) (by omega)).r ∗ owns (c : Thread nD τ) scAcc fullShare (st m c (n - 1) (by omega)).acc) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxAt m c t
    | ⟨8, _⟩ => (stAt m c t).xn
    | ⟨9, _⟩ => actV (bGU m c t)
    | ⟨10, _⟩ => dhV (bGU m c t) (bWO m c t) (stAt m c t).dyb
    | ⟨11, _⟩ => (stAt m c t).dnw
    | ⟨12, _⟩ => (stAt m c t).dyb
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dxAt m c t := by dsimp only [dats]
theorem after8 (c : Dev nD) (t : Fin cfg0.N) : (dats m 0 c).after 8 t = (stAt m c t).xn := by dsimp only [dats]
theorem after9 (c : Dev nD) (t : Fin cfg0.N) : (dats m 0 c).after 9 t = actV (bGU m c t) := by dsimp only [dats]
theorem after10 (c : Dev nD) (t : Fin cfg0.N) : (dats m 0 c).after 10 t = dhV (bGU m c t) (bWO m c t) (stAt m c t).dyb := by dsimp only [dats]
theorem after11 (c : Dev nD) (t : Fin cfg0.N) : (dats m 0 c).after 11 t = (stAt m c t).dnw := by dsimp only [dats]
theorem after12 (c : Dev nD) (t : Fin cfg0.N) : (dats m 0 c).after 12 t = (stAt m c t).dyb := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- After the first column block of a row tile, output 8's buffer still holds what that block left. -/
theorem before8 (c : Dev nD) (t : Fin cfg0.N) (h : ¬t.val % 4 = 0) (d) : (dats m 0 c).before 8 t d = (stPrev m c t).xn := by
  rw [Dat.before_out_traj _ 8 rfl (fun _ _ => rfl) ?_ t.val t rfl d, if_neg (by rw [fresh8 t]; simpa using h)]
  · dsimp only [dats]
  · intro s hs hi _
    rw [after8, after8]
    exact st_later_xn m c s (by rw [idle8 s] at hi; simpa using hi)

/-- After the first column block of a row tile, output 12's buffer still holds what that block left. -/
theorem before12 (c : Dev nD) (t : Fin cfg0.N) (h : ¬t.val % 4 = 0) (d) : (dats m 0 c).before 12 t d = (stPrev m c t).dyb := by
  rw [Dat.before_out_traj _ 12 rfl (fun _ _ => rfl) ?_ t.val t rfl d, if_neg (by rw [fresh12 t]; simpa using h)]
  · dsimp only [dats]
  · intro s hs hi _
    rw [after12, after12]
    exact st_later_dyb m c s (by rw [idle12 s] at hi; simpa using hi)

/-- The norm-weight gradient's buffer holds the sum over the row tiles already finished. -/
theorem before11 (c : Dev nD) (t : Fin cfg0.N) (h : ¬t.val < 4) (d) : (dats m 0 c).before 11 t d = (stPrev m c t).dnw := by
  have hN : t.val < 64 := lt_of_lt_of_eq t.isLt (show cfg0.N = 64 from N_0)
  rw [Dat.before_out_traj _ 11 rfl (fun _ _ => rfl) ?_ t.val t rfl d,
    if_neg (by rw [fresh11 t]; simp only [Bool.or_eq_true, decide_eq_true_eq]; omega)]
  · dsimp only [dats]
  · intro s hs hi _
    rw [after11, after11]
    exact st_dnw_same m c s hs (by rw [idle11 s] at hi; simpa using hi)

/-! ## The body at any point -/

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]
theorem leaves_back (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

abbrev ms0 (t : Fin cfg0.N) : Memref sig .tc .vmem S512x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024x704 .bf16 := win0_2.stage (cfg0.slots t 2)
abbrev ms3 (t : Fin cfg0.N) : Memref sig .tc .vmem S1x1024x704 .bf16 := win0_3.stage (cfg0.slots t 3)
abbrev ms4 (t : Fin cfg0.N) : Memref sig .tc .vmem S2x352x1024 .bf16 := win0_4.stage (cfg0.slots t 4)
abbrev ms5 (t : Fin cfg0.N) : Memref sig .tc .vmem S1x2x512x704 .bf16 := win0_5.stage (cfg0.slots t 5)
abbrev ms6 (t : Fin cfg0.N) : Memref sig .tc .vmem S512x1024 .f32 := win0_6.stage (cfg0.slots t 6)
abbrev ms7 (t : Fin cfg0.N) : Memref sig .tc .vmem S512x1024 .f32 := win0_7.stage (cfg0.slots t 7)
abbrev ms8 (t : Fin cfg0.N) : Memref sig .tc .vmem S512x1024 .bf16 := win0_8.stage (cfg0.slots t 8)
abbrev ms9 (t : Fin cfg0.N) : Memref sig .tc .vmem S1x512x704 .bf16 := win0_9.stage (cfg0.slots t 9)
abbrev ms10 (t : Fin cfg0.N) : Memref sig .tc .vmem S1x2x512x704 .bf16 := win0_10.stage (cfg0.slots t 10)
abbrev ms11 (t : Fin cfg0.N) : Memref sig .tc .vmem S1x1024 .f32 := win0_11.stage (cfg0.slots t 11)
abbrev ms12 (t : Fin cfg0.N) : Memref sig .tc .vmem S512x1024 .bf16 := win0_12.stage (cfg0.slots t 12)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
theorem soundA (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(iprop(owns (c : Thread nD τ) scR fullShare (stAt m c t).r ∗ owns (c : Thread nD τ) scAcc fullShare (stAt m c t).acc) ∗ (∃ r, prngReg c r)) from rfl]
  have h1 : ¬t.val % 4 = 3 := by omega
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (by rw [show cfg0.grid.coords t = grid0.coords t from rfl, idle7 t]; simp [h0, h1]) (by rw [flush7 t]; simp [h1])]
  rw [leaves_live m c 8 t (by rw [show cfg0.grid.coords t = grid0.coords t from rfl, idle8 t]; simp [h0, h1]), after8]
  rw [leaves_live m c 9 t rfl, after9]
  rw [leaves_live m c 10 t rfl, after10]
  rw [Dat.leavesExact_idle (dats m 0 c) 11 t (by rw [show cfg0.grid.coords t = grid0.coords t from rfl, idle11 t]; simp [h0, h1]) (by rw [flush11 t]; simp; omega)]
  rw [leaves_live m c 12 t (by rw [show cfg0.grid.coords t = grid0.coords t from rfl, idle12 t]; simp [h0, h1]), after12]
  obtain ⟨e1, e2, e3, e4⟩ := st_first m c t h0
  rw [e1, e2, e3, e4]
  by_cases hz : t.val = 0
  · rw [Phi_castSucc m c t, show PhiS m c t.val (Nat.le_of_lt t.isLt) = Pipeline.ΦA spec0 c from by obtain ⟨n, hn⟩ := t; cases n with | zero => rfl | succ n => exact absurd hz (Nat.succ_ne_zero n)]
    rw [PhiA_eq]
    iintro ⟨⟨⟨H15, H16⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords t) _ _ _ _ _ _ _ _ _ _ _ _ _ _ _ _ _ _ _ _ _ _ _ _ _ _ _ _ _ _ ((hFirst t).mpr h0) (fun h => h1 ((hLast t).mp h)) (bX m c t) (bNW m c t) (bWG m c t) (bWU m c t) (bWO m c t) (bGU m c t) (bDY m c t) _ _ Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexists _; iexact H14
    isplitl [H15]; · iexact H15
    isplitl [H16]; · iexact H16
    iintro ⟨H2, H3, H4, H5, H6, H7, H8, H9, H10, H11, H12, H13, H14, H15, H16⟩
    isplitl [H15 H16 Hg]
    · isplitl [H15 H16]
      · isplitl [H15]; · iexact H15
        iexact H16
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexists _; iexact H13
    iexact H14
  · rw [Phi_castSucc m c t, PhiS_pos m c _ _ hz]
    iintro ⟨⟨⟨H15, H16⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords t) _ _ _ _ _ _ _ _ _ _ _ _ _ _ _ _ _ _ _ _ _ _ _ _ _ _ _ _ _ _ ((hFirst t).mpr h0) (fun h => h1 ((hLast t).mp h)) (bX m c t) (bNW m c t) (bWG m c t) (bWU m c t) (bWO m c t) (bGU m c t) (bDY m c t) _ _ Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexists _; iexact H14
    isplitl [H15]; · iexists _; iexact H15
    isplitl [H16]; · iexists _; iexact H16
    iintro ⟨H2, H3, H4, H5, H6, H7, H8, H9, H10, H11, H12, H13, H14, H15, H16⟩
    isplitl [H15 H16 Hg]
    · isplitl [H15 H16]
      · isplitl [H15]; · iexact H15
        iexact H16
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexists _; iexact H13
    iexact H14

set_option maxHeartbeats 4000000 in
theorem soundB (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(iprop(owns (c : Thread nD τ) scR fullShare (stAt m c t).r ∗ owns (c : Thread nD τ) scAcc fullShare (stAt m c t).acc) ∗ (∃ r, prngReg c r)) from rfl]
  have hz : t.val ≠ 0 := by omega
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (by rw [show cfg0.grid.coords t = grid0.coords t from rfl, idle7 t]; simp [h0, h1]) (by rw [flush7 t]; simp [h1])]
  rw [Dat.leavesExact_idle (dats m 0 c) 8 t (by rw [show cfg0.grid.coords t = grid0.coords t from rfl, idle8 t]; simp [h0, h1]) (by rw [flush8 t]; simp [h1])]
  rw [leaves_live m c 9 t rfl, after9]
  rw [leaves_live m c 10 t rfl, after10]
  rw [Dat.leavesExact_idle (dats m 0 c) 11 t (by rw [show cfg0.grid.coords t = grid0.coords t from rfl, idle11 t]; simp [h0, h1]) (by rw [flush11 t]; simp; omega)]
  rw [Dat.leavesExact_idle (dats m 0 c) 12 t (by rw [show cfg0.grid.coords t = grid0.coords t from rfl, idle12 t]; simp [h0, h1]) (by rw [flush12 t]; simp [h1])]
  simp only [before8 m c t h0, before12 m c t h0]
  rw [st_later_dyb m c t h0, st_later_r m c t h0, st_later_acc m c t h0]
  rw [Phi_castSucc m c t, PhiS_pos m c _ _ hz]
  iintro ⟨⟨⟨H15, H16⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runB c (grid0.coords t) _ _ _ _ _ _ _ _ _ _ _ _ _ _ _ _ _ _ _ _ _ _ _ _ _ _ _ _ _ _ (fun h => h0 ((hFirst t).mp h)) (fun h => h1 ((hLast t).mp h)) (bX m c t) (bNW m c t) (bWG m c t) (bWU m c t) (bWO m c t) (bGU m c t) (bDY m c t) _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  isplitl [H15 H16 Hg]
  · isplitl [H15 H16]
    · isplitl [H15]; · iexact H15
      iexact H16
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists (fun _ => Classical.arbitrary _); iexact H10
  isplitl [H11]; · iexact H11
  isplitl [H12]; · iexact H12
  isplitl [H13]; · iexists _; iexact H13
  iexists (fun _ => Classical.arbitrary _); iexact H14

set_option maxHeartbeats 4000000 in
theorem soundC (c : Dev nD) (t : Fin cfg0.N) (h1 : t.val % 4 = 3) (h2 : t.val < 4) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(iprop(owns (c : Thread nD τ) scR fullShare (stAt m c t).r ∗ owns (c : Thread nD τ) scAcc fullShare (stAt m c t).acc) ∗ (∃ r, prngReg c r)) from rfl]
  have h0 : ¬t.val % 4 = 0 := by omega
  have hz : t.val ≠ 0 := by omega
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t (by rw [show cfg0.grid.coords t = grid0.coords t from rfl, idle7 t]; simp [h0, h1]), after7]
  rw [leaves_back m c 8 t (by rw [show cfg0.grid.coords t = grid0.coords t from rfl, idle8 t]; simp [h0]) (by rw [flush8 t]; simp [h1]), after8]
  rw [leaves_live m c 9 t rfl, after9]
  rw [leaves_live m c 10 t rfl, after10]
  rw [leaves_live m c 11 t (by rw [show cfg0.grid.coords t = grid0.coords t from rfl, idle11 t]; simp [h0, h1]), after11]
  rw [leaves_back m c 12 t (by rw [show cfg0.grid.coords t = grid0.coords t from rfl, idle12 t]; simp [h0]) (by rw [flush12 t]; simp [h1]), after12]
  simp only [before8 m c t h0, before12 m c t h0]
  unfold dxAt
  rw [st_dnw_top m c t h1 h2, st_later_xn m c t h0]
  rw [st_later_dyb m c t h0, st_later_r m c t h0, st_later_acc m c t h0]
  rw [Phi_castSucc m c t, PhiS_pos m c _ _ hz]
  iintro ⟨⟨⟨H15, H16⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runC c (grid0.coords t) _ _ _ _ _ _ _ _ _ _ _ _ _ _ _ _ _ _ _ _ _ _ _ _ _ _ _ _ _ _ (fun h => h0 ((hFirst t).mp h)) ((hLast t).mpr h1) ((hTop t).mpr h2) (fun h => absurd ((hRest t).mp h) (by omega)) (bX m c t) (bNW m c t) (bWG m c t) (bWU m c t) (bWO m c t) (bGU m c t) (bDY m c t) _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, H11, H12, H13, H14, H15, H16⟩
  isplitl [H15 H16 Hg]
  · isplitl [H15 H16]
    · isplitl [H15]; · iexact H15
      iexact H16
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
theorem soundD (c : Dev nD) (t : Fin cfg0.N) (h1 : t.val % 4 = 3) (h2 : ¬t.val < 4) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(iprop(owns (c : Thread nD τ) scR fullShare (stAt m c t).r ∗ owns (c : Thread nD τ) scAcc fullShare (stAt m c t).acc) ∗ (∃ r, prngReg c r)) from rfl]
  have h0 : ¬t.val % 4 = 0 := by omega
  have hz : t.val ≠ 0 := by omega
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t (by rw [show cfg0.grid.coords t = grid0.coords t from rfl, idle7 t]; simp [h0, h1]), after7]
  rw [leaves_back m c 8 t (by rw [show cfg0.grid.coords t = grid0.coords t from rfl, idle8 t]; simp [h0]) (by rw [flush8 t]; simp [h1]), after8]
  rw [leaves_live m c 9 t rfl, after9]
  rw [leaves_live m c 10 t rfl, after10]
  rw [leaves_live m c 11 t (by rw [show cfg0.grid.coords t = grid0.coords t from rfl, idle11 t]; simp [h0, h1]), after11]
  rw [leaves_back m c 12 t (by rw [show cfg0.grid.coords t = grid0.coords t from rfl, idle12 t]; simp [h0]) (by rw [flush12 t]; simp [h1]), after12]
  simp only [before8 m c t h0, before12 m c t h0]
  simp only [before11 m c t h2]
  unfold dxAt
  rw [st_dnw_rest m c t h1 h2, st_later_xn m c t h0]
  rw [st_later_dyb m c t h0, st_later_r m c t h0, st_later_acc m c t h0]
  rw [Phi_castSucc m c t, PhiS_pos m c _ _ hz]
  iintro ⟨⟨⟨H15, H16⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runD c (grid0.coords t) _ _ _ _ _ _ _ _ _ _ _ _ _ _ _ _ _ _ _ _ _ _ _ _ _ _ _ _ _ _ (fun h => h0 ((hFirst t).mp h)) ((hLast t).mpr h1) (fun h => h2 ((hTop t).mp h)) ((hRest t).mpr (by omega)) (bX m c t) (bNW m c t) (bWG m c t) (bWU m c t) (bWO m c t) (bGU m c t) (bDY m c t) _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexists _; iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  isplitl [H15 H16 Hg]
  · isplitl [H15 H16]
    · isplitl [H15]; · iexact H15
      iexact H16
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundA m c t h0
  by_cases h1 : t.val % 4 = 3
  · by_cases h2 : t.val < 4
    · exact soundC m c t h1 h2
    · exact soundD m c t h1 h2
  · exact soundB m c t h0 h1

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have hN : cfg0.N = 64 := N_0
  rw [show (dats m 0 c).Φ (Fin.last cfg0.N) = PhiS m c cfg0.N (Nat.le_refl _) from rfl, PhiS_pos m c _ _ (by omega), PhiA_eq]
  iintro ⟨⟨H15, H16⟩, Hg⟩
  isplitl [H15 H16]
  · isplitl [H15]
    · iexists _; iexact H15
    iexists _; iexact H16
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

/-- The call ends with every argument array as it began and every counter at zero. -/
theorem unchanged_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiet m ρ))

end Cert.KernelIdeal.Ffn

end
-- ==== Proof.FfnSpec.lean ====
/- The SwiGLU half step's backward pass on one device's rows, row by row and column by column, over the extended reals:
   once in the form the kernel computes it, once in the form differentiation of the half step gives it.  Over finite
   arguments the two forms agree (`dgR_eq`, `dxR_eq`). -/
module

public import Idealize.ShloMosaic.Lib.IdealHost
public import Idealize.ShloMosaic.PureOps.Ideal.Laws

@[expose] public section

noncomputable section

namespace Cert.FfnSpec

open Idealize.ShloMosaic

/-! ## The constants -/

/-- The row length 1024, as the programs write it. -/
abbrev cN : EReal := Ideal.ofBits .f32 0x44800000#32
/-- The constant under the root. -/
abbrev cE : EReal := Ideal.ofBits .f32 0x358637BD#32
/-- One half, the weight of the half step. -/
abbrev cH : EReal := Ideal.ofBits .f32 0x3F000000#32
/-- Minus one half, the exponent's factor in the derivative of the reciprocal root. -/
abbrev cM : EReal := Ideal.ofBits .f32 0xBF000000#32

theorem cN_eq : cN = ((1024 : ℝ) : EReal) := by
  simp [Ideal.ofBits, Ideal.ieee, -EReal.coe_mul]; norm_num
theorem cH_eq : cH = ((1 / 2 : ℝ) : EReal) := by
  simp [Ideal.ofBits, Ideal.ieee, -EReal.coe_mul]; norm_num
theorem cM_eq : cM = ((-(1 / 2) : ℝ) : EReal) := by
  simp [Ideal.ofBits, Ideal.ieee, -EReal.coe_mul, -EReal.coe_neg]; norm_num
theorem cE_pos : ∃ e : ℝ, 0 < e ∧ cE = (e : EReal) := by
  refine ⟨_, ?_, by simp [Ideal.ofBits, Ideal.ieee, -EReal.coe_mul]; rfl⟩
  positivity

/-! ## The pass -/

section
variable (X : Fin 8192 → Fin 1024 → EReal) (NW : Fin 1024 → EReal) (WI : Fin 1024 → Fin 5632 → EReal)
  (WO : Fin 2816 → Fin 1024 → EReal) (DY : Fin 8192 → Fin 1024 → EReal)

/-- The gate column `k` and the up column `k` of the joined input projection. -/
abbrev gc (k : Fin 2816) : Fin 5632 := ⟨k.val, by omega⟩
abbrev uc (k : Fin 2816) : Fin 5632 := ⟨2816 + k.val, by omega⟩

/-- The mean square of a row, with the constant under the root. -/
def ms (t : Fin 8192) : EReal := Ideal.div (∑ d, X t d * X t d) cN + cE
/-- The row scale. -/
def rs (t : Fin 8192) : EReal := Ideal.rsqrt (ms X t)
/-- The normalised rows. -/
def xn (t : Fin 8192) (d : Fin 1024) : EReal := X t d * rs X t * NW d
/-- The pre-activations. -/
def hid (t : Fin 8192) (f : Fin 5632) : EReal := ∑ d, xn X NW t d * WI d f
/-- The cotangent of the half step's branch. -/
def cot (t : Fin 8192) (d : Fin 1024) : EReal := cH * DY t d
/-- The cotangent of the activation. -/
def da (t : Fin 8192) (k : Fin 2816) : EReal := ∑ d, cot DY t d * WO k d
/-- The gate, its sigmoid, the up value. -/
def gt (t : Fin 8192) (k : Fin 2816) : EReal := hid X NW WI t (gc k)
def sg (t : Fin 8192) (k : Fin 2816) : EReal := Ideal.logistic (gt X NW WI t k)
def up (t : Fin 8192) (k : Fin 2816) : EReal := hid X NW WI t (uc k)
/-- The activation. -/
def act (t : Fin 8192) (k : Fin 2816) : EReal := gt X NW WI t k * sg X NW WI t k * up X NW WI t k
/-- The cotangent of the gate, as the kernel computes it. -/
def dg (t : Fin 8192) (k : Fin 2816) : EReal :=
  da WO DY t k * up X NW WI t k * (sg X NW WI t k * (1 + gt X NW WI t k * (1 - sg X NW WI t k)))
/-- The cotangent of the gate, as differentiation gives it. -/
def dgR (t : Fin 8192) (k : Fin 2816) : EReal :=
  da WO DY t k * up X NW WI t k * sg X NW WI t k
    + gt X NW WI t k * (da WO DY t k * up X NW WI t k) * (sg X NW WI t k * (1 - sg X NW WI t k))
/-- The cotangent of the up value. -/
def du (t : Fin 8192) (k : Fin 2816) : EReal := da WO DY t k * (gt X NW WI t k * sg X NW WI t k)
/-- The cotangent of the normalised rows. -/
def acc (t : Fin 8192) (d : Fin 1024) : EReal :=
  ∑ k, dg X NW WI WO DY t k * WI d (gc k) + ∑ k, du X NW WI WO DY t k * WI d (uc k)
/-- The norm weight's gradient. -/
def dnw (d : Fin 1024) : EReal := ∑ t, acc X NW WI WO DY t d * (X t d * rs X t)
/-- The input's gradient, as the kernel computes it. -/
def dx (t : Fin 8192) (d : Fin 1024) : EReal :=
  DY t d + rs X t * (acc X NW WI WO DY t d * NW d
    - X t d * rs X t * Ideal.div (∑ e, acc X NW WI WO DY t e * NW e * (X t e * rs X t)) cN)
/-- The weight of a row in the input's gradient, as differentiation gives it. -/
def bR (t : Fin 8192) : EReal :=
  Ideal.div ((∑ e, X t e * (acc X NW WI WO DY t e * NW e)) * (cM * Ideal.div (rs X t) (ms X t))) cN
/-- The input's gradient, as differentiation gives it. -/
def dxR (t : Fin 8192) (d : Fin 1024) : EReal :=
  DY t d + acc X NW WI WO DY t d * NW d * rs X t + X t d * bR X NW WI WO DY t + bR X NW WI WO DY t * X t d
end

/-! ## Over finite arguments -/

/-- A sum of reals, read as an extended real. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (x : Fin 8192 → Fin 1024 → ℝ) (nw : Fin 1024 → ℝ) (wi : Fin 1024 → Fin 5632 → ℝ)
  (wo : Fin 2816 → Fin 1024 → ℝ) (dy : Fin 8192 → Fin 1024 → ℝ)

local notation "X" => (fun t d => ((x t d : ℝ) : EReal))
local notation "NW" => (fun d => ((nw d : ℝ) : EReal))
local notation "WI" => (fun d f => ((wi d f : ℝ) : EReal))
local notation "WO" => (fun k d => ((wo k d : ℝ) : EReal))
local notation "DY" => (fun t d => ((dy t d : ℝ) : EReal))

theorem ms_real (t : Fin 8192) : ∃ r : ℝ, 0 < r ∧ ms X t = (r : EReal) := by
  obtain ⟨e, he, hE⟩ := cE_pos
  refine ⟨(∑ d, x t d * x t d) * (1 / 1024) + e, ?_, ?_⟩
  · have : 0 ≤ ∑ d, x t d * x t d := Finset.sum_nonneg fun d _ => mul_self_nonneg _
    positivity
  · unfold ms
    rw [hE, cN_eq, Ideal.div_coe (by norm_num), EReal.coe_add, EReal.coe_mul, coe_sum']
    simp only [EReal.coe_mul]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem rs_real (t : Fin 8192) : ∃ r : ℝ, rs X t = (r : EReal) := by
  obtain ⟨r, h, e⟩ := ms_real x t
  exact ⟨_, by unfold rs; rw [e, rsqrt_pos h]⟩
theorem xn_real (t : Fin 8192) (d : Fin 1024) : ∃ r : ℝ, xn X NW t d = (r : EReal) := by
  obtain ⟨r, e⟩ := rs_real x t
  exact ⟨x t d * r * nw d, by unfold xn; rw [e, EReal.coe_mul, EReal.coe_mul]⟩

/-- A sum of extended reals that are reals is a real. -/
theorem sum_real {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [coe_sum']; exact Finset.sum_congr rfl fun i _ => hg i⟩

theorem hid_real (t : Fin 8192) (f : Fin 5632) : ∃ r : ℝ, hid X NW WI t f = (r : EReal) := by
  unfold hid
  refine sum_real _ _ fun d => ?_
  obtain ⟨r, e⟩ := xn_real x nw t d
  exact ⟨r * wi d f, by rw [e, EReal.coe_mul]⟩
theorem da_real (t : Fin 8192) (k : Fin 2816) : ∃ r : ℝ, da WO DY t k = (r : EReal) := by
  unfold da cot
  rw [cH_eq]
  refine sum_real _ _ fun d => ⟨1 / 2 * dy t d * wo k d, ?_⟩
  rw [EReal.coe_mul, EReal.coe_mul]
theorem sg_real (t : Fin 8192) (k : Fin 2816) : ∃ r : ℝ, sg X NW WI t k = (r : EReal) := by
  obtain ⟨r, e⟩ := hid_real x nw wi t (gc k)
  exact ⟨_, by unfold sg gt; rw [e, Ideal.logistic_coe]⟩

/-- The two forms of the gate's cotangent agree. -/
theorem dgR_eq (t : Fin 8192) (k : Fin 2816) : dgR X NW WI WO DY t k = dg X NW WI WO DY t k := by
  obtain ⟨g, eg⟩ := hid_real x nw wi t (gc k)
  obtain ⟨u, eu⟩ := hid_real x nw wi t (uc k)
  obtain ⟨s, es⟩ := sg_real x nw wi t k
  obtain ⟨a, ea⟩ := da_real wo dy t k
  unfold dgR dg gt up
  rw [eg, eu, es, ea, ← EReal.coe_one]
  simp only [← EReal.coe_mul, ← EReal.coe_add, ← EReal.coe_sub]
  refine congrArg Real.toEReal ?_
  ring

theorem dg_real (t : Fin 8192) (k : Fin 2816) : ∃ r : ℝ, dg X NW WI WO DY t k = (r : EReal) := by
  obtain ⟨g, eg⟩ := hid_real x nw wi t (gc k)
  obtain ⟨u, eu⟩ := hid_real x nw wi t (uc k)
  obtain ⟨s, es⟩ := sg_real x nw wi t k
  obtain ⟨a, ea⟩ := da_real wo dy t k
  unfold dg gt up
  rw [eg, eu, es, ea, ← EReal.coe_one]
  simp only [← EReal.coe_mul, ← EReal.coe_add, ← EReal.coe_sub]
  exact ⟨_, rfl⟩
theorem du_real (t : Fin 8192) (k : Fin 2816) : ∃ r : ℝ, du X NW WI WO DY t k = (r : EReal) := by
  obtain ⟨g, eg⟩ := hid_real x nw wi t (gc k)
  obtain ⟨s, es⟩ := sg_real x nw wi t k
  obtain ⟨a, ea⟩ := da_real wo dy t k
  unfold du gt
  rw [eg, es, ea]
  simp only [← EReal.coe_mul]
  exact ⟨_, rfl⟩
theorem acc_real (t : Fin 8192) (d : Fin 1024) : ∃ r : ℝ, acc X NW WI WO DY t d = (r : EReal) := by
  obtain ⟨a, ha⟩ := sum_real Finset.univ (fun k => dg X NW WI WO DY t k * ((wi d (gc k) : ℝ) : EReal)) fun k => by
    obtain ⟨r, e⟩ := dg_real x nw wi wo dy t k
    exact ⟨r * wi d (gc k), by rw [e, EReal.coe_mul]⟩
  obtain ⟨b, hb⟩ := sum_real Finset.univ (fun k => du X NW WI WO DY t k * ((wi d (uc k) : ℝ) : EReal)) fun k => by
    obtain ⟨r, e⟩ := du_real x nw wi wo dy t k
    exact ⟨r * wi d (uc k), by rw [e, EReal.coe_mul]⟩
  exact ⟨a + b, by unfold acc; rw [ha, hb, EReal.coe_add]⟩

/-- The two forms of the input's gradient agree. -/
theorem dxR_eq (t : Fin 8192) (d : Fin 1024) : dxR X NW WI WO DY t d = dx X NW WI WO DY t d := by
  obtain ⟨q, hq, eq⟩ := ms_real x t
  have er : rs X t = (((Real.sqrt q)⁻¹ : ℝ) : EReal) := by unfold rs; rw [eq, rsqrt_pos hq]
  have hs : Real.sqrt q ≠ 0 := (Real.sqrt_pos.mpr hq).ne'
  have hqs : q = Real.sqrt q * Real.sqrt q := (Real.mul_self_sqrt hq.le).symm
  have ha : ∀ e, ∃ r : ℝ, acc X NW WI WO DY t e = (r : EReal) := acc_real x nw wi wo dy t
  choose a ha using ha
  unfold dxR dx bR
  rw [er, eq, cN_eq, cM_eq]
  simp only [ha]
  rw [Ideal.div_coe hq.ne', Ideal.div_coe (by norm_num), Ideal.div_coe (by norm_num)]
  simp only [← EReal.coe_mul, ← coe_sum', ← EReal.coe_add, ← EReal.coe_sub]
  refine congrArg Real.toEReal ?_
  generalize hS : Real.sqrt q = s at *
  have e1 : ∑ e, a e * nw e * (x t e * s⁻¹) = (∑ e, x t e * (a e * nw e)) * s⁻¹ := by
    rw [Finset.sum_mul]; exact Finset.sum_congr rfl fun e _ => by ring
  rw [e1, hqs]
  generalize (∑ e, x t e * (a e * nw e)) = S
  field_simp
  ring
end

/-- Every entry of the five arguments is a real. -/
structure AllReal (X : Fin 8192 → Fin 1024 → EReal) (NW : Fin 1024 → EReal) (WI : Fin 1024 → Fin 5632 → EReal)
    (WO : Fin 2816 → Fin 1024 → EReal) (DY : Fin 8192 → Fin 1024 → EReal) : Prop where
  x : ∀ t d, ∃ r : ℝ, X t d = (r : EReal)
  nw : ∀ d, ∃ r : ℝ, NW d = (r : EReal)
  wi : ∀ d f, ∃ r : ℝ, WI d f = (r : EReal)
  wo : ∀ k d, ∃ r : ℝ, WO k d = (r : EReal)
  dy : ∀ t d, ∃ r : ℝ, DY t d = (r : EReal)

theorem AllReal.both_eq {X : Fin 8192 → Fin 1024 → EReal} {NW : Fin 1024 → EReal} {WI : Fin 1024 → Fin 5632 → EReal}
    {WO : Fin 2816 → Fin 1024 → EReal} {DY : Fin 8192 → Fin 1024 → EReal} (h : AllReal X NW WI WO DY) :
    (∀ t k, dgR X NW WI WO DY t k = dg X NW WI WO DY t k) ∧ (∀ t d, dxR X NW WI WO DY t d = dx X NW WI WO DY t d) := by
  obtain ⟨hx, hn, hi, ho, hd⟩ := h
  choose x hx using hx
  choose nw hn using hn
  choose wi hi using hi
  choose wo ho using ho
  choose dy hd using hd
  obtain rfl : X = fun t d => ((x t d : ℝ) : EReal) := by funext t d; exact hx t d
  obtain rfl : NW = fun d => ((nw d : ℝ) : EReal) := by funext d; exact hn d
  obtain rfl : WI = fun d f => ((wi d f : ℝ) : EReal) := by funext d f; exact hi d f
  obtain rfl : WO = fun k d => ((wo k d : ℝ) : EReal) := by funext k d; exact ho k d
  obtain rfl : DY = fun t d => ((dy t d : ℝ) : EReal) := by funext t d; exact hd t d
  exact ⟨dgR_eq x nw wi wo dy, dxR_eq x nw wi wo dy⟩

end Cert.FfnSpec

end
-- ==== Proof.FfnBlk.lean ====
/- The blocks the backward call reads at one grid point, in terms of the program's arguments: point `t` works on row
   tile `t / 4` (512 rows) and column block `t % 4` (704 columns). -/
module

public import proofs.«01_k».proof.Proof.FfnDat
public import proofs.«01_k».proof.Proof.FfnSpec
public import Idealize.ShloMosaic.Lib.Pointwise

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## The arguments by coordinates -/

abbrev a0 : Vec Ideal S8192x1024 .f32 := m ((c.tc : Thread nD τ).loc main_arg0)
abbrev a1 : Vec Ideal S1024 .f32 := m ((c.tc : Thread nD τ).loc main_arg1)
abbrev a2 : Vec Ideal S1024x5632 .f32 := m ((c.tc : Thread nD τ).loc main_arg2)
abbrev a3 : Vec Ideal S2816x1024 .f32 := m ((c.tc : Thread nD τ).loc main_arg3)
abbrev a4 : Vec Ideal S8192x1024 .f32 := m ((c.tc : Thread nD τ).loc main_arg4)

def fX (t : Fin 8192) (d : Fin 1024) : EReal := a0 m c (ix2 t d)
def fNW (d : Fin 1024) : EReal := a1 m c (ix1 d)
def fWI (d : Fin 1024) (f : Fin 5632) : EReal := a2 m c (ix2 d f)
def fWO (k : Fin 2816) (d : Fin 1024) : EReal := a3 m c (ix2 k d)
def fDY (t : Fin 8192) (d : Fin 1024) : EReal := a4 m c (ix2 t d)

/-! ## What the host code hands to the call -/

theorem V_v2 : (V m c main_v2 : Vec Ideal S8x1024x704 .bf16) = transpose S8x1024x704 [1, 0, 2]
    (shapeCast S1024x8x704 (truncf (F := Ideal) .bf16 (a2 m c) bitsLt_bf16_f32) shapeCasts_S1024x5632_S1024x8x704) transposes_S1024x8x704_S8x1024x704_1_0_2 := by
  show StableHlo.after hostOps0 (fun b => m (c, b)) (Proc.devRef .tc main_v2) = _
  simp only [hostOps0]
  after_results_simp <;> rfl

theorem V_v4 : (V m c main_v4 : Vec Ideal S8x352x1024 .bf16)
    = shapeCast S8x352x1024 (truncf (F := Ideal) .bf16 (a3 m c) bitsLt_bf16_f32) shapeCasts_S2816x1024_S8x352x1024 := by
  show StableHlo.after hostOps0 (fun b => m (c, b)) (Proc.devRef .tc main_v4) = _
  simp only [hostOps0]
  after_results_simp <;> rfl

theorem V_v22 : (V m c main_v22 : Vec Ideal S1x1024 .f32) = shapeCast S1x1024 (a1 m c) shapeCasts_S1024_S1x1024 := by
  show StableHlo.after hostOps0 (fun b => m (c, b)) (Proc.devRef .tc main_v22) = _
  simp only [hostOps0]
  after_results_simp <;> rfl

/-- The normalised rows and the pre-activations, as the host code computes them. -/
def hMs (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def hXn (x : FVec Ideal S8192x1024 .f32) (w : FVec Ideal S1024 .f32) : FVec Ideal S8192x1024 .f32 :=
  mulf (mulf x (broadcastInDim S8192x1024 ![0, 1] bcast_S8192x1_S8192x1024_0_1 (Host.rsqrt (hMs x))))
    (broadcastInDim S8192x1024 ![0, 1] bcast_S1x1024_S8192x1024_0_1 (broadcastInDim S1x1024 ![1] bcast_S1024_S1x1024_1 w))
def hHid (x : FVec Ideal S8192x1024 .f32) (w : FVec Ideal S1024 .f32) (wi : FVec Ideal S1024x5632 .f32) : FVec Ideal S8192x5632 .f32 :=
  Host.dotGeneral dot_S8192x1024_S1024x5632_S8192x5632_1_0_0_1_n_n none (hXn x w) wi

theorem V_v21 : (V m c main_v21 : Vec Ideal S4x2x8192x704 .bf16)
    = truncf (F := Ideal) .bf16 (transpose S4x2x8192x704 [2, 1, 0, 3] (shapeCast S8192x2x4x704 (hHid (a0 m c) (a1 m c) (a2 m c)) shapeCasts_S8192x5632_S8192x2x4x704)
      transposes_S8192x2x4x704_S4x2x8192x704_2_1_0_3) bitsLt_bf16_f32 := by
  show StableHlo.after hostOps0 (fun b => m (c, b)) (Proc.devRef .tc main_v21) = _
  simp only [hostOps0]
  after_results_simp <;> rfl

theorem hMs_at (t : Fin 8192) (z : Fin 1) : hMs (a0 m c) (ix2 t z) = FfnSpec.ms (fX m c) t := by
  unfold FfnSpec.ms fX
  pointwise [hMs]
theorem hXn_at (t : Fin 8192) (d : Fin 1024) : hXn (a0 m c) (a1 m c) (ix2 t d) = FfnSpec.xn (fX m c) (fNW m c) t d := by
  unfold FfnSpec.xn FfnSpec.rs
  rw [← hMs_at m c t 0]
  unfold fX fNW
  pointwise [hXn]
theorem hHid_at (t : Fin 8192) (f : Fin 5632) : hHid (a0 m c) (a1 m c) (a2 m c) (ix2 t f) = FfnSpec.hid (fX m c) (fNW m c) (fWI m c) t f := by
  unfold FfnSpec.hid hHid
  simp only [← hXn_at]
  unfold fWI
  generalize hXn (a0 m c) (a1 m c) = q
  pointwise

theorem v2_at (b : Fin 8) (d : Fin 1024) (k : Fin 704) : (V m c main_v2 : Vec Ideal S8x1024x704 .bf16) (ix3 b d k)
    = fWI m c d ⟨b.val * 704 + k.val, by omega⟩ := by
  rw [V_v2]
  unfold fWI
  pointwise
theorem v4_at (b : Fin 8) (q : Fin 352) (d : Fin 1024) : (V m c main_v4 : Vec Ideal S8x352x1024 .bf16) (ix3 b q d)
    = fWO m c ⟨b.val * 352 + q.val, by omega⟩ d := by
  rw [V_v4]
  unfold fWO
  pointwise
theorem v22_at (z : Fin 1) (d : Fin 1024) : (V m c main_v22 : Vec Ideal S1x1024 .f32) (ix2 z d) = fNW m c d := by
  rw [V_v22]
  unfold fNW
  pointwise
theorem v21_at (j : Fin 4) (a : Fin 2) (t : Fin 8192) (k : Fin 704) : (V m c main_v21 : Vec Ideal S4x2x8192x704 .bf16) (ix4 j a t k)
    = FfnSpec.hid (fX m c) (fNW m c) (fWI m c) t ⟨a.val * 2816 + j.val * 704 + k.val, by omega⟩ := by
  rw [V_v21, ← hHid_at]
  generalize hHid (a0 m c) (a1 m c) (a2 m c) = q
  pointwise

/-! ## The blocks -/

theorem N64 : cfg0.N = 64 := N_0
theorem lt64 (t : Fin cfg0.N) : t.val < 64 := lt_of_lt_of_eq t.isLt N64

/-- Row `p` of row tile `t / 4`. -/
def row (t : Fin cfg0.N) (p : Fin 512) : Fin 8192 := ⟨t.val / 4 * 512 + p.val, by have := lt64 t; omega⟩
/-- Column `k` of column block `t % 4`. -/
def col (t : Fin cfg0.N) (k : Fin 704) : Fin 2816 := ⟨t.val % 4 * 704 + k.val, by omega⟩

theorem idx0 (t : Fin cfg0.N) : win0_0.index t 0 = t.val / 4 ∧ win0_0.index t 1 = 0 :=
  (by decide +kernel : ∀ t : Fin grid0.N, win0_0.index t 0 = t.val / 4 ∧ win0_0.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = t.val % 4 ∧ win0_2.index t 1 = 0 ∧ win0_2.index t 2 = 0 :=
  (by decide +kernel : ∀ t : Fin grid0.N, win0_2.index t 0 = t.val % 4 ∧ win0_2.index t 1 = 0 ∧ win0_2.index t 2 = 0) t
theorem idx3 (t : Fin cfg0.N) : win0_3.index t 0 = t.val % 4 + 4 ∧ win0_3.index t 1 = 0 ∧ win0_3.index t 2 = 0 :=
  (by decide +kernel : ∀ t : Fin grid0.N, win0_3.index t 0 = t.val % 4 + 4 ∧ win0_3.index t 1 = 0 ∧ win0_3.index t 2 = 0) t
theorem idx4 (t : Fin cfg0.N) : win0_4.index t 0 = t.val % 4 ∧ win0_4.index t 1 = 0 ∧ win0_4.index t 2 = 0 :=
  (by decide +kernel : ∀ t : Fin grid0.N, win0_4.index t 0 = t.val % 4 ∧ win0_4.index t 1 = 0 ∧ win0_4.index t 2 = 0) t
theorem idx5 (t : Fin cfg0.N) : win0_5.index t 0 = t.val % 4 ∧ win0_5.index t 1 = 0 ∧ win0_5.index t 2 = t.val / 4 ∧ win0_5.index t 3 = 0 :=
  (by decide +kernel : ∀ t : Fin grid0.N, win0_5.index t 0 = t.val % 4 ∧ win0_5.index t 1 = 0 ∧ win0_5.index t 2 = t.val / 4 ∧ win0_5.index t 3 = 0) t
theorem idx6 (t : Fin cfg0.N) : win0_6.index t 0 = t.val / 4 ∧ win0_6.index t 1 = 0 :=
  (by decide +kernel : ∀ t : Fin grid0.N, win0_6.index t 0 = t.val / 4 ∧ win0_6.index t 1 = 0) t
theorem idx7 (t : Fin cfg0.N) : win0_7.index t 0 = t.val / 4 ∧ win0_7.index t 1 = 0 :=
  (by decide +kernel : ∀ t : Fin grid0.N, win0_7.index t 0 = t.val / 4 ∧ win0_7.index t 1 = 0) t
theorem idx8 (t : Fin cfg0.N) : win0_8.index t 0 = t.val / 4 ∧ win0_8.index t 1 = 0 :=
  (by decide +kernel : ∀ t : Fin grid0.N, win0_8.index t 0 = t.val / 4 ∧ win0_8.index t 1 = 0) t
theorem idx9 (t : Fin cfg0.N) : win0_9.index t 0 = t.val % 4 ∧ win0_9.index t 1 = t.val / 4 ∧ win0_9.index t 2 = 0 :=
  (by decide +kernel : ∀ t : Fin grid0.N, win0_9.index t 0 = t.val % 4 ∧ win0_9.index t 1 = t.val / 4 ∧ win0_9.index t 2 = 0) t
theorem idx10 (t : Fin cfg0.N) : win0_10.index t 0 = t.val % 4 ∧ win0_10.index t 1 = 0 ∧ win0_10.index t 2 = t.val / 4 ∧ win0_10.index t 3 = 0 :=
  (by decide +kernel : ∀ t : Fin grid0.N, win0_10.index t 0 = t.val % 4 ∧ win0_10.index t 1 = 0 ∧ win0_10.index t 2 = t.val / 4 ∧ win0_10.index t 3 = 0) t
theorem idx11 (t : Fin cfg0.N) : win0_11.index t 0 = 0 ∧ win0_11.index t 1 = 0 :=
  (by decide +kernel : ∀ t : Fin grid0.N, win0_11.index t 0 = 0 ∧ win0_11.index t 1 = 0) t
theorem idx12 (t : Fin cfg0.N) : win0_12.index t 0 = t.val / 4 ∧ win0_12.index t 1 = 0 :=
  (by decide +kernel : ∀ t : Fin grid0.N, win0_12.index t 0 = t.val / 4 ∧ win0_12.index t 1 = 0) t

theorem bX_raw (t : Fin cfg0.N) (p : Fin 512) (d : Fin 1024) : bX m c t (ix2 p d) = (V m c main_arg0 : Vec Ideal S8192x1024 .f32) (ix2 (row t p) d) := by
  have hi := idx0 t
  show iblk m c 0 t _ = _
  unfold iblk
  rw [View.read_apply]
  show V m c main_arg0 _ = V m c main_arg0 _
  congr 1
  funext ax
  apply Fin.ext
  match ax with
  | ⟨0, _⟩ => show win0_0.index t 0 * 512 + 1 * p.val = _; rw [hi.1]; show _ = t.val / 4 * 512 + p.val; omega
  | ⟨1, _⟩ => show win0_0.index t 1 * 1024 + 1 * d.val = _; rw [hi.2]; show _ = d.val; omega
theorem bDY_raw (t : Fin cfg0.N) (p : Fin 512) (d : Fin 1024) : bDY m c t (ix2 p d) = (V m c main_arg4 : Vec Ideal S8192x1024 .f32) (ix2 (row t p) d) := by
  have hi := idx6 t
  show iblk m c 6 t _ = _
  unfold iblk
  rw [View.read_apply]
  show V m c main_arg4 _ = V m c main_arg4 _
  congr 1
  funext ax
  apply Fin.ext
  match ax with
  | ⟨0, _⟩ => show win0_6.index t 0 * 512 + 1 * p.val = _; rw [hi.1]; show _ = t.val / 4 * 512 + p.val; omega
  | ⟨1, _⟩ => show win0_6.index t 1 * 1024 + 1 * d.val = _; rw [hi.2]; show _ = d.val; omega
theorem bNW_raw (t : Fin cfg0.N) (z : Fin 1) (d : Fin 1024) : bNW m c t (ix2 z d) = (V m c main_v22 : Vec Ideal S1x1024 .f32) (ix2 z d) := by
  have hi := idx1 t
  show iblk m c 1 t _ = _
  unfold iblk
  rw [View.read_apply]
  show V m c main_v22 _ = V m c main_v22 _
  congr 1
  funext ax
  apply Fin.ext
  match ax with
  | ⟨0, _⟩ => show win0_1.index t 0 * 1 + 1 * z.val = _; rw [hi.1]; show _ = z.val; omega
  | ⟨1, _⟩ => show win0_1.index t 1 * 1024 + 1 * d.val = _; rw [hi.2]; show _ = d.val; omega
theorem bWG_raw (t : Fin cfg0.N) (z : Fin 1) (d : Fin 1024) (k : Fin 704) : bWG m c t (ix3 z d k) = (V m c main_v2 : Vec Ideal S8x1024x704 .bf16) (ix3 ⟨t.val % 4, by omega⟩ d k) := by
  have hi := idx2 t
  show iblk m c 2 t _ = _
  unfold iblk
  rw [View.read_apply]
  show V m c main_v2 _ = V m c main_v2 _
  congr 1
  funext ax
  apply Fin.ext
  match ax with
  | ⟨0, _⟩ => show win0_2.index t 0 * 1 + 1 * z.val = _; rw [hi.1]; show _ = t.val % 4; omega
  | ⟨1, _⟩ => show win0_2.index t 1 * 1024 + 1 * d.val = _; rw [hi.2.1]; show _ = d.val; omega
  | ⟨2, _⟩ => show win0_2.index t 2 * 704 + 1 * k.val = _; rw [hi.2.2]; show _ = k.val; omega
theorem bWU_raw (t : Fin cfg0.N) (z : Fin 1) (d : Fin 1024) (k : Fin 704) : bWU m c t (ix3 z d k) = (V m c main_v2 : Vec Ideal S8x1024x704 .bf16) (ix3 ⟨t.val % 4 + 4, by omega⟩ d k) := by
  have hi := idx3 t
  show iblk m c 3 t _ = _
  unfold iblk
  rw [View.read_apply]
  show V m c main_v2 _ = V m c main_v2 _
  congr 1
  funext ax
  apply Fin.ext
  match ax with
  | ⟨0, _⟩ => show win0_3.index t 0 * 1 + 1 * z.val = _; rw [hi.1]; show _ = t.val % 4 + 4; omega
  | ⟨1, _⟩ => show win0_3.index t 1 * 1024 + 1 * d.val = _; rw [hi.2.1]; show _ = d.val; omega
  | ⟨2, _⟩ => show win0_3.index t 2 * 704 + 1 * k.val = _; rw [hi.2.2]; show _ = k.val; omega
theorem bWO_raw (t : Fin cfg0.N) (b : Fin 2) (q : Fin 352) (d : Fin 1024) : bWO m c t (ix3 b q d) = (V m c main_v4 : Vec Ideal S8x352x1024 .bf16) (ix3 ⟨t.val % 4 * 2 + b.val, by omega⟩ q d) := by
  have hi := idx4 t
  show iblk m c 4 t _ = _
  unfold iblk
  rw [View.read_apply]
  show V m c main_v4 _ = V m c main_v4 _
  congr 1
  funext ax
  apply Fin.ext
  match ax with
  | ⟨0, _⟩ => show win0_4.index t 0 * 2 + 1 * b.val = _; rw [hi.1]; show _ = t.val % 4 * 2 + b.val; omega
  | ⟨1, _⟩ => show win0_4.index t 1 * 352 + 1 * q.val = _; rw [hi.2.1]; show _ = q.val; omega
  | ⟨2, _⟩ => show win0_4.index t 2 * 1024 + 1 * d.val = _; rw [hi.2.2]; show _ = d.val; omega
theorem bGU_raw (t : Fin cfg0.N) (z : Fin 1) (a : Fin 2) (p : Fin 512) (k : Fin 704) : bGU m c t (ix4 z a p k) = (V m c main_v21 : Vec Ideal S4x2x8192x704 .bf16) (ix4 ⟨t.val % 4, by omega⟩ a (row t p) k) := by
  have hi := idx5 t
  show iblk m c 5 t _ = _
  unfold iblk
  rw [View.read_apply]
  show V m c main_v21 _ = V m c main_v21 _
  congr 1
  funext ax
  apply Fin.ext
  match ax with
  | ⟨0, _⟩ => show win0_5.index t 0 * 1 + 1 * z.val = _; rw [hi.1]; show _ = t.val % 4; omega
  | ⟨1, _⟩ => show win0_5.index t 1 * 2 + 1 * a.val = _; rw [hi.2.1]; show _ = a.val; omega
  | ⟨2, _⟩ => show win0_5.index t 2 * 512 + 1 * p.val = _; rw [hi.2.2.1]; show _ = t.val / 4 * 512 + p.val; omega
  | ⟨3, _⟩ => show win0_5.index t 3 * 704 + 1 * k.val = _; rw [hi.2.2.2]; show _ = k.val; omega

theorem bX_at (t : Fin cfg0.N) (p : Fin 512) (d : Fin 1024) : bX m c t (ix2 p d) = fX m c (row t p) d := by
  rw [bX_raw, V_main_arg0]; rfl
theorem bDY_at (t : Fin cfg0.N) (p : Fin 512) (d : Fin 1024) : bDY m c t (ix2 p d) = fDY m c (row t p) d := by
  rw [bDY_raw, V_main_arg4]; rfl
theorem bNW_at (t : Fin cfg0.N) (z : Fin 1) (d : Fin 1024) : bNW m c t (ix2 z d) = fNW m c d := by
  rw [bNW_raw, v22_at]
theorem bWG_at (t : Fin cfg0.N) (z : Fin 1) (d : Fin 1024) (k : Fin 704) : bWG m c t (ix3 z d k) = fWI m c d (FfnSpec.gc (col t k)) := by
  rw [bWG_raw, v2_at]; rfl
theorem bWU_at (t : Fin cfg0.N) (z : Fin 1) (d : Fin 1024) (k : Fin 704) : bWU m c t (ix3 z d k) = fWI m c d (FfnSpec.uc (col t k)) := by
  rw [bWU_raw, v2_at]
  refine congrArg (fWI m c d) (Fin.ext ?_)
  show (t.val % 4 + 4) * 704 + k.val = 2816 + (t.val % 4 * 704 + k.val); omega
theorem bWO_at (t : Fin cfg0.N) (k : Fin 704) (d : Fin 1024) :
    bWO m c t (ix3 ⟨k.val / 352, by omega⟩ ⟨k.val % 352, by omega⟩ d) = fWO m c (col t k) d := by
  rw [bWO_raw, v4_at]
  refine congrArg (fun i => fWO m c i d) (Fin.ext ?_)
  show (t.val % 4 * 2 + k.val / 352) * 352 + k.val % 352 = t.val % 4 * 704 + k.val; omega
theorem bGU_gate (t : Fin cfg0.N) (p : Fin 512) (k : Fin 704) :
    bGU m c t (ix4 0 0 p k) = FfnSpec.gt (fX m c) (fNW m c) (fWI m c) (row t p) (col t k) := by
  rw [bGU_raw, v21_at]; unfold FfnSpec.gt
  refine congrArg (FfnSpec.hid _ _ _ _) (Fin.ext ?_)
  show 0 * 2816 + t.val % 4 * 704 + k.val = t.val % 4 * 704 + k.val; omega
theorem bGU_up (t : Fin cfg0.N) (p : Fin 512) (k : Fin 704) :
    bGU m c t (ix4 0 1 p k) = FfnSpec.up (fX m c) (fNW m c) (fWI m c) (row t p) (col t k) := by
  rw [bGU_raw, v21_at]; unfold FfnSpec.up
  refine congrArg (FfnSpec.hid _ _ _ _) (Fin.ext ?_)
  show 1 * 2816 + t.val % 4 * 704 + k.val = 2816 + (t.val % 4 * 704 + k.val); omega

end Cert.KernelIdeal.Ffn

end
-- ==== Proof.FfnPay.lean ====
/- What one grid point of the backward call computes, read at an index over the extended reals. -/
module

public import proofs.«01_k».proof.Proof.FfnRun
public import Idealize.ShloMosaic.Lib.Pointwise

@[expose] public section

noncomputable section

namespace Cert.KernelIdeal.Ffn

open Cert.KernelIdeal Cert.KernelIdeal.Gen Idealize.ShloMosaic

abbrev pN : EReal := Ideal.ofBits .f32 0x44800000#32
abbrev pE : EReal := Ideal.ofBits .f32 0x358637BD#32
abbrev pH : EReal := Ideal.ofBits .f32 0x3F000000#32

theorem pay8_at (x : Vec Ideal S512x1024 .f32) (p : Fin 512) (z : Fin 1) :
    k0_pay8 x (ix2 p z) = Ideal.rsqrt (Ideal.div (∑ d : Fin 1024, (x (ix2 p d) : EReal) * x (ix2 p d)) pN + pE) := by
  pointwise [k0_pay8]

theorem pay9_at (x : Vec Ideal S512x1024 .f32) (p : Fin 512) (z : Fin 1) :
    k0_pay9 x (ix2 p z) = Ideal.rsqrt (Ideal.div (∑ d : Fin 1024, (x (ix2 p d) : EReal) * x (ix2 p d)) pN + pE) := by
  pointwise [k0_pay9, k0_pay8]

theorem pay10_at (x : Vec Ideal S512x1024 .f32) (nw : Vec Ideal S1x1024 .f32) (p : Fin 512) (d : Fin 1024) :
    k0_pay10 x nw (ix2 p d) = (x (ix2 p d) : EReal) * Ideal.rsqrt (Ideal.div (∑ d : Fin 1024, (x (ix2 p d) : EReal) * x (ix2 p d)) pN + pE) * nw (ix2 0 d) := by
  pointwise [k0_pay10, k0_pay8]

theorem pay11_at (dy : Vec Ideal S512x1024 .f32) (p : Fin 512) (d : Fin 1024) :
    k0_pay11 dy (ix2 p d) = pH * (dy (ix2 p d) : EReal) := by
  pointwise [k0_pay11]

theorem pay12_at (i : S512x1024.Idx) : (k0_pay12 (F := Ideal)) i = (0 : EReal) := by
  pointwise [k0_pay12]

theorem lo_at (gu : Vec Ideal S1x2x512x704 .bf16) (a b : Fin 1) (p : Fin 512) (k : Fin 704) :
    lo gu (ix4 a b p k) = gu (ix4 0 0 p k) := by
  pointwise [lo]
theorem hi_at (gu : Vec Ideal S1x2x512x704 .bf16) (a b : Fin 1) (p : Fin 512) (k : Fin 704) :
    hi gu (ix4 a b p k) = gu (ix4 0 1 p k) := by
  pointwise [hi]

theorem pay13_at (v : Vec Ideal S1x1x512x704 .bf16) (p : Fin 512) (k : Fin 704) : k0_pay13 v (ix2 p k) = (v (ix4 0 0 p k) : EReal) := by
  pointwise [k0_pay13]
theorem pay14_at (v : Vec Ideal S1x1x512x704 .bf16) (p : Fin 512) (k : Fin 704) : k0_pay14 v (ix2 p k) = (v (ix4 0 0 p k) : EReal) := by
  pointwise [k0_pay14]
theorem pay15_at (v : Vec Ideal S1x1x512x704 .bf16) (p : Fin 512) (k : Fin 704) : k0_pay15 v (ix2 p k) = Ideal.logistic (v (ix4 0 0 p k)) := by
  pointwise [k0_pay15, k0_pay13]
theorem pay16_at (v : Vec Ideal S1x1x512x704 .bf16) (p : Fin 512) (k : Fin 704) :
    k0_pay16 v (ix2 p k) = (v (ix4 0 0 p k) : EReal) * Ideal.logistic (v (ix4 0 0 p k)) := by
  pointwise [k0_pay16, k0_pay15, k0_pay13]

theorem actV_at (gu : Vec Ideal S1x2x512x704 .bf16) (a : Fin 1) (p : Fin 512) (k : Fin 704) :
    actV gu (ix3 a p k) = (gu (ix4 0 0 p k) : EReal) * Ideal.logistic (gu (ix4 0 0 p k)) * gu (ix4 0 1 p k) := by
  unfold actV
  pointwise [k0_pay17, k0_pay16, k0_pay15, k0_pay14, k0_pay13, lo, hi]

/-- The cotangent of the activation, one block of columns. -/
theorem pay18_at (dyb : Vec Ideal S512x1024 .bf16) (wo : Vec Ideal S2x352x1024 .bf16) (p : Fin 512) (k : Fin 704) :
    k0_pay18 dyb wo (ix2 p k) = ∑ d : Fin 1024, (dyb (ix2 p d) : EReal) * wo (ix3 ⟨k.val / 352, by omega⟩ ⟨k.val % 352, by omega⟩ d) := by
  pointwise [k0_pay18]

theorem dgV_at (gu : Vec Ideal S1x2x512x704 .bf16) (wo : Vec Ideal S2x352x1024 .bf16) (dyb : Vec Ideal S512x1024 .bf16) (p : Fin 512) (k : Fin 704) :
    dgV gu wo dyb (ix2 p k) = (k0_pay18 dyb wo (ix2 p k) : EReal) * gu (ix4 0 1 p k)
      * (Ideal.logistic (gu (ix4 0 0 p k)) * (1 + gu (ix4 0 0 p k) * (1 - Ideal.logistic (gu (ix4 0 0 p k))))) := by
  unfold dgV k0_pay19
  generalize k0_pay18 dyb wo = q
  pointwise [k0_pay15, k0_pay14, k0_pay13, lo, hi]

theorem duV_at (gu : Vec Ideal S1x2x512x704 .bf16) (wo : Vec Ideal S2x352x1024 .bf16) (dyb : Vec Ideal S512x1024 .bf16) (p : Fin 512) (k : Fin 704) :
    duV gu wo dyb (ix2 p k) = (k0_pay18 dyb wo (ix2 p k) : EReal) * ((gu (ix4 0 0 p k) : EReal) * Ideal.logistic (gu (ix4 0 0 p k))) := by
  unfold duV k0_pay20
  generalize k0_pay18 dyb wo = q
  pointwise [k0_pay16, k0_pay15, k0_pay13, lo]

theorem accV_at (wg wu : Vec Ideal S1x1024x704 .bf16) (gu : Vec Ideal S1x2x512x704 .bf16) (wo : Vec Ideal S2x352x1024 .bf16)
    (dyb : Vec Ideal S512x1024 .bf16) (acc : Vec Ideal S512x1024 .f32) (p : Fin 512) (d : Fin 1024) :
    accV wg wu gu wo dyb acc (ix2 p d) = (acc (ix2 p d) : EReal)
      + (∑ k : Fin 704, (dgV gu wo dyb (ix2 p k) : EReal) * wg (ix3 0 d k) + ∑ k : Fin 704, (duV gu wo dyb (ix2 p k) : EReal) * wu (ix3 0 d k)) := by
  unfold accV
  generalize dgV gu wo dyb = a
  generalize duV gu wo dyb = b
  pointwise [k0_pay3]

theorem pay4_at (r : Vec Ideal S512x1 .f32) (x : Vec Ideal S512x1024 .f32) (p : Fin 512) (d : Fin 1024) :
    k0_pay4 r x (ix2 p d) = (x (ix2 p d) : EReal) * r (ix2 p 0) := by
  pointwise [k0_pay4]

theorem pay5_at (r : Vec Ideal S512x1 .f32) (acc x : Vec Ideal S512x1024 .f32) (z : Fin 1) (d : Fin 1024) :
    k0_pay5 r acc x (ix2 z d) = ∑ p : Fin 512, (acc (ix2 p d) : EReal) * ((x (ix2 p d) : EReal) * r (ix2 p 0)) := by
  pointwise [k0_pay5, k0_pay4]

theorem pay7_at (r : Vec Ideal S512x1 .f32) (acc x : Vec Ideal S512x1024 .f32) (prev : Vec Ideal S1x1024 .f32) (z : Fin 1) (d : Fin 1024) :
    k0_pay7 r acc x prev (ix2 z d) = (prev (ix2 0 d) : EReal) + ∑ p : Fin 512, (acc (ix2 p d) : EReal) * ((x (ix2 p d) : EReal) * r (ix2 p 0)) := by
  obtain rfl : z = 0 := Subsingleton.elim _ _
  pointwise [k0_pay7, k0_pay5, k0_pay4]

theorem pay6_at (r : Vec Ideal S512x1 .f32) (acc x : Vec Ideal S512x1024 .f32) (nw : Vec Ideal S1x1024 .f32) (dy : Vec Ideal S512x1024 .f32)
    (p : Fin 512) (d : Fin 1024) :
    k0_pay6 r acc x nw dy (ix2 p d) = (dy (ix2 p d) : EReal) + r (ix2 p 0) * ((acc (ix2 p d) : EReal) * nw (ix2 0 d)
      - (x (ix2 p d) : EReal) * r (ix2 p 0) * Ideal.div (∑ e : Fin 1024, (acc (ix2 p e) : EReal) * nw (ix2 0 e) * ((x (ix2 p e) : EReal) * r (ix2 p 0))) pN) := by
  pointwise [k0_pay6, k0_pay4]

end Cert.KernelIdeal.Ffn

end
-- ==== Proof.FfnFinal.lean ====
/- The arrays the backward call leaves, in closed form: each of its six results is the corresponding function of
   Proof/FfnSpec.lean of the program's arguments. -/
module

public import proofs.«01_k».proof.Proof.FfnBlk
public import proofs.«01_k».proof.Proof.FfnPay

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

/-! ## The functions of the specification at this program's arguments -/

abbrev sRs (t : Fin 8192) : EReal := FfnSpec.rs (fX m c) t
abbrev sXn (t : Fin 8192) (d : Fin 1024) : EReal := FfnSpec.xn (fX m c) (fNW m c) t d
abbrev sCot (t : Fin 8192) (d : Fin 1024) : EReal := FfnSpec.cot (fDY m c) t d
abbrev sAct (t : Fin 8192) (k : Fin 2816) : EReal := FfnSpec.act (fX m c) (fNW m c) (fWI m c) t k
abbrev sDg (t : Fin 8192) (k : Fin 2816) : EReal := FfnSpec.dg (fX m c) (fNW m c) (fWI m c) (fWO m c) (fDY m c) t k
abbrev sDu (t : Fin 8192) (k : Fin 2816) : EReal := FfnSpec.du (fX m c) (fNW m c) (fWI m c) (fWO m c) (fDY m c) t k
abbrev sAcc (t : Fin 8192) (d : Fin 1024) : EReal := FfnSpec.acc (fX m c) (fNW m c) (fWI m c) (fWO m c) (fDY m c) t d
abbrev sDnw (d : Fin 1024) : EReal := FfnSpec.dnw (fX m c) (fNW m c) (fWI m c) (fWO m c) (fDY m c) d
abbrev sDx (t : Fin 8192) (d : Fin 1024) : EReal := FfnSpec.dx (fX m c) (fNW m c) (fWI m c) (fWO m c) (fDY m c) t d

/-! ## Sums over columns and rows, block by block -/

/-- Column `k` of column block `j % 4`. -/
def colN (j : ℕ) (k : Fin 704) : Fin 2816 := ⟨j % 4 * 704 + k.val, by omega⟩
/-- Row `p` of row tile `i % 16`. -/
def rowN (i : ℕ) (p : Fin 512) : Fin 8192 := ⟨i % 16 * 512 + p.val, by omega⟩

theorem sum_cols (f : Fin 2816 → EReal) : ∑ k, f k = ∑ j ∈ Finset.range 4, ∑ k : Fin 704, f (colN j k) := by
  rw [← (finProdFinEquiv (m := 4) (n := 704)).sum_comp f, Fintype.sum_prod_type, Finset.sum_range]
  refine Finset.sum_congr rfl fun j _ => Finset.sum_congr rfl fun k _ => congrArg f (Fin.ext ?_)
  show k.val + 704 * j.val = j.val % 4 * 704 + k.val
  omega
theorem sum_rows (f : Fin 8192 → EReal) : ∑ t, f t = ∑ i ∈ Finset.range 16, ∑ p : Fin 512, f (rowN i p) := by
  rw [← (finProdFinEquiv (m := 16) (n := 512)).sum_comp f, Fintype.sum_prod_type, Finset.sum_range]
  refine Finset.sum_congr rfl fun j _ => Finset.sum_congr rfl fun k _ => congrArg f (Fin.ext ?_)
  show k.val + 512 * j.val = j.val % 16 * 512 + k.val
  omega

/-- What one column block adds to the input-gradient accumulator. -/
def part (r : Fin 8192) (j : ℕ) (d : Fin 1024) : EReal :=
  ∑ k : Fin 704, sDg m c r (colN j k) * fWI m c d (FfnSpec.gc (colN j k)) + ∑ k : Fin 704, sDu m c r (colN j k) * fWI m c d (FfnSpec.uc (colN j k))

theorem sum_part (r : Fin 8192) (d : Fin 1024) : ∑ j ∈ Finset.range 4, part m c r j d = sAcc m c r d := by
  show _ = FfnSpec.acc _ _ _ _ _ r d
  unfold FfnSpec.acc part
  rw [Finset.sum_add_distrib, sum_cols, sum_cols (fun k => FfnSpec.du _ _ _ _ _ r k * _)]

/-- What one row tile adds to the norm weight's gradient. -/
def tileW (i : ℕ) (d : Fin 1024) : EReal := ∑ p : Fin 512, sAcc m c (rowN i p) d * (fX m c (rowN i p) d * sRs m c (rowN i p))

theorem sum_tileW (d : Fin 1024) : ∑ i ∈ Finset.range 16, tileW m c i d = sDnw m c d := by
  show _ = FfnSpec.dnw _ _ _ _ _ d
  unfold FfnSpec.dnw tileW
  rw [sum_rows]

/-! ## The carried values in closed form -/

theorem row_prev (t : Fin cfg0.N) (h : ¬t.val % 4 = 0) (hp : t.val - 1 < cfg0.N) (p : Fin 512) : row ⟨t.val - 1, hp⟩ p = row t p := by
  unfold row
  refine Fin.ext ?_
  show (t.val - 1) / 4 * 512 + p.val = t.val / 4 * 512 + p.val
  have : (t.val - 1) / 4 = t.val / 4 := by omega
  rw [this]

theorem rows_of : ∀ (n : ℕ) (t : Fin cfg0.N), t.val = n →
    (∀ p d, (stAt m c t).xn (ix2 p d) = sXn m c (row t p) d) ∧ (∀ p d, (stAt m c t).dyb (ix2 p d) = sCot m c (row t p) d)
      ∧ (∀ p z, (stAt m c t).r (ix2 p z) = sRs m c (row t p)) := by
  intro n
  induction n with
  | zero =>
    intro t ht
    obtain ⟨e1, e2, e3, -⟩ := st_first m c t (by omega)
    rw [e1, e2, e3]
    exact ⟨fun p d => by rw [pay10_at]; simp only [bX_at, bNW_at]; rfl, fun p d => by rw [pay11_at, bDY_at]; rfl,
      fun p z => by rw [pay9_at]; simp only [bX_at]; rfl⟩
  | succ n ih =>
    intro t ht
    by_cases h : t.val % 4 = 0
    · obtain ⟨e1, e2, e3, -⟩ := st_first m c t h
      rw [e1, e2, e3]
      exact ⟨fun p d => by rw [pay10_at]; simp only [bX_at, bNW_at]; rfl, fun p d => by rw [pay11_at, bDY_at]; rfl,
        fun p z => by rw [pay9_at]; simp only [bX_at]; rfl⟩
    · have hp : t.val - 1 < cfg0.N := Nat.lt_of_le_of_lt (Nat.sub_le _ _) t.isLt
      obtain ⟨i1, i2, i3⟩ := ih ⟨t.val - 1, hp⟩ (by show t.val - 1 = n; omega)
      rw [st_later_xn m c t h, st_later_dyb m c t h, st_later_r m c t h]
      simp only [row_prev t h] at i1 i2 i3
      exact ⟨i1, i2, i3⟩

theorem xn_of (t : Fin cfg0.N) (p : Fin 512) (d : Fin 1024) : (stAt m c t).xn (ix2 p d) = sXn m c (row t p) d := (rows_of m c _ t rfl).1 p d
theorem dyb_of (t : Fin cfg0.N) (p : Fin 512) (d : Fin 1024) : (stAt m c t).dyb (ix2 p d) = sCot m c (row t p) d := (rows_of m c _ t rfl).2.1 p d
theorem r_of (t : Fin cfg0.N) (p : Fin 512) (z : Fin 1) : (stAt m c t).r (ix2 p z) = sRs m c (row t p) := (rows_of m c _ t rfl).2.2 p z

/-- One block of the gate's and of the up value's cotangent, over any buffer that holds the scaled cotangent rows. -/
theorem da_of (t : Fin cfg0.N) (y : Vec Ideal S512x1024 .bf16) (hy : ∀ p d, y (ix2 p d) = sCot m c (row t p) d) (p : Fin 512) (k : Fin 704) :
    k0_pay18 y (bWO m c t) (ix2 p k) = FfnSpec.da (fWO m c) (fDY m c) (row t p) (col t k) := by
  rw [pay18_at]
  unfold FfnSpec.da
  exact Finset.sum_congr rfl fun d _ => by rw [hy, bWO_at]
theorem dg_of (t : Fin cfg0.N) (y : Vec Ideal S512x1024 .bf16) (hy : ∀ p d, y (ix2 p d) = sCot m c (row t p) d) (p : Fin 512) (k : Fin 704) :
    dgV (bGU m c t) (bWO m c t) y (ix2 p k) = sDg m c (row t p) (col t k) := by
  rw [dgV_at, da_of m c t y hy, bGU_gate, bGU_up]; rfl
theorem du_of (t : Fin cfg0.N) (y : Vec Ideal S512x1024 .bf16) (hy : ∀ p d, y (ix2 p d) = sCot m c (row t p) d) (p : Fin 512) (k : Fin 704) :
    duV (bGU m c t) (bWO m c t) y (ix2 p k) = sDu m c (row t p) (col t k) := by
  rw [duV_at, da_of m c t y hy, bGU_gate]; rfl
theorem accV_of (t : Fin cfg0.N) (y : Vec Ideal S512x1024 .bf16) (hy : ∀ p d, y (ix2 p d) = sCot m c (row t p) d) (a : Vec Ideal S512x1024 .f32)
    (p : Fin 512) (d : Fin 1024) : accV (bWG m c t) (bWU m c t) (bGU m c t) (bWO m c t) y a (ix2 p d)
      = (a (ix2 p d) : EReal) + part m c (row t p) t.val d := by
  rw [accV_at]
  unfold part
  simp only [dg_of m c t y hy, du_of m c t y hy, bWG_at, bWU_at]
  rfl

theorem acc_of : ∀ (n : ℕ) (t : Fin cfg0.N), t.val = n → ∀ p d,
    (stAt m c t).acc (ix2 p d) = ∑ j ∈ Finset.range (t.val % 4 + 1), part m c (row t p) j d := by
  intro n
  induction n with
  | zero =>
    intro t ht p d
    obtain ⟨-, e2, -, e4⟩ := st_first m c t (by omega)
    rw [e4, accV_of m c t _ (by rw [← e2]; exact dyb_of m c t), pay12_at, zero_add, ht]
    simp
  | succ n ih =>
    intro t ht p d
    by_cases h : t.val % 4 = 0
    · obtain ⟨-, e2, -, e4⟩ := st_first m c t h
      rw [e4, accV_of m c t _ (by rw [← e2]; exact dyb_of m c t), pay12_at, zero_add, h]
      simp only [zero_add, Finset.sum_range_one]
      unfold part colN
      simp only [h, Nat.zero_mod]
    · have hp : t.val - 1 < cfg0.N := Nat.lt_of_le_of_lt (Nat.sub_le _ _) t.isLt
      have i := ih ⟨t.val - 1, hp⟩ (by show t.val - 1 = n; omega) p d
      rw [row_prev t h] at i
      rw [st_later_acc m c t h, accV_of m c t _ (by rw [← st_later_dyb m c t h]; exact dyb_of m c t), Finset.sum_range_succ]
      have e : (t.val - 1) % 4 + 1 = t.val % 4 := by omega
      have i' : (stPrev m c t).acc (ix2 p d) = ∑ j ∈ Finset.range ((t.val - 1) % 4 + 1), part m c (row t p) j d := i
      rw [i', e]
      congr 1
      unfold part colN
      simp only [Nat.mod_mod]

/-- At the last column block the accumulator holds the whole contraction. -/
theorem acc_last (t : Fin cfg0.N) (h : t.val % 4 = 3) (p : Fin 512) (d : Fin 1024) : (stAt m c t).acc (ix2 p d) = sAcc m c (row t p) d := by
  rw [acc_of m c _ t rfl, h, sum_part]

theorem row_rowN (t : Fin cfg0.N) (p : Fin 512) : row t p = rowN (t.val / 4) p := by
  have := lt64 t
  unfold row rowN
  refine Fin.ext ?_
  show t.val / 4 * 512 + p.val = t.val / 4 % 16 * 512 + p.val
  have : t.val / 4 % 16 = t.val / 4 := by omega
  rw [this]

theorem tile_of (t : Fin cfg0.N) (h : t.val % 4 = 3) (d : Fin 1024) :
    ∑ p : Fin 512, ((stAt m c t).acc (ix2 p d) : EReal) * ((bX m c t (ix2 p d) : EReal) * (stAt m c t).r (ix2 p 0)) = tileW m c (t.val / 4) d := by
  unfold tileW
  refine Finset.sum_congr rfl fun p _ => ?_
  rw [acc_last m c t h, bX_at, r_of, row_rowN]

theorem dnw_of : ∀ (n : ℕ) (t : Fin cfg0.N), t.val = n → 3 ≤ n → ∀ z d,
    (stAt m c t).dnw (ix2 z d) = ∑ i ∈ Finset.range ((n + 1) / 4), tileW m c i d := by
  intro n
  induction n with
  | zero => intro t ht h3; omega
  | succ n ih =>
    intro t ht h3 z d
    by_cases h : t.val % 4 = 3
    · by_cases h4 : t.val < 4
      · rw [st_dnw_top m c t h h4, ← st_later_acc m c t (by omega), ← st_later_r m c t (by omega), pay5_at, tile_of m c t h]
        have e1 : t.val / 4 = 0 := by omega
        have e2 : (n + 1 + 1) / 4 = 1 := by omega
        rw [e1, e2, Finset.sum_range_one]
      · have hp : t.val - 1 < cfg0.N := Nat.lt_of_le_of_lt (Nat.sub_le _ _) t.isLt
        have i : (stPrev m c t).dnw (ix2 0 d) = ∑ i ∈ Finset.range ((n + 1) / 4), tileW m c i d :=
          ih ⟨t.val - 1, hp⟩ (by show t.val - 1 = n; omega) (by omega) 0 d
        rw [st_dnw_rest m c t h h4, ← st_later_acc m c t (by omega), ← st_later_r m c t (by omega), pay7_at, tile_of m c t h, i]
        have e2 : (n + 1 + 1) / 4 = (n + 1) / 4 + 1 := by omega
        have e3 : t.val / 4 = (n + 1) / 4 := by omega
        rw [e2, Finset.sum_range_succ, e3]
    · have hp : t.val - 1 < cfg0.N := Nat.lt_of_le_of_lt (Nat.sub_le _ _) t.isLt
      have i : (stPrev m c t).dnw (ix2 z d) = ∑ i ∈ Finset.range ((n + 1) / 4), tileW m c i d :=
        ih ⟨t.val - 1, hp⟩ (by show t.val - 1 = n; omega) (by omega) z d
      rw [st_dnw_same m c t (by omega) h, i]
      have e2 : (n + 1 + 1) / 4 = (n + 1) / 4 := by omega
      rw [e2]

theorem dxAt_of (t : Fin cfg0.N) (h : t.val % 4 = 3) (p : Fin 512) (d : Fin 1024) : dxAt m c t (ix2 p d) = sDx m c (row t p) d := by
  unfold dxAt
  rw [pay6_at]
  simp only [acc_last m c t h, bX_at, bNW_at, bDY_at, r_of]
  rfl
theorem actV_of (t : Fin cfg0.N) (z : Fin 1) (p : Fin 512) (k : Fin 704) : actV (bGU m c t) (ix3 z p k) = sAct m c (row t p) (col t k) := by
  rw [actV_at, bGU_gate, bGU_up]; rfl

/-- The two halves of the block. -/
abbrev rLo : Rect S1x2x512x704 := Rect.unit (s := S1x2x512x704) ![0, 0, 0, 0] S1x1x512x704.size inb_S1x2x512x704_S1x1x512x704_0_0_0_0
abbrev rHi : Rect S1x2x512x704 := Rect.unit (s := S1x2x512x704) ![0, 1, 0, 0] S1x1x512x704.size inb_S1x2x512x704_S1x1x512x704_0_1_0_0
theorem embLo (r : Fin 512) (k : Fin 704) : rLo.emb (ix4 0 0 r k : S1x1x512x704.Idx) = (ix4 0 0 r k : S1x2x512x704.Idx) := by
  funext ax
  apply Fin.ext
  match ax with
  | ⟨0, _⟩ => rfl
  | ⟨1, _⟩ => rfl
  | ⟨2, _⟩ => show 0 + 1 * r.val = r.val; omega
  | ⟨3, _⟩ => show 0 + 1 * k.val = k.val; omega
theorem embHi (r : Fin 512) (k : Fin 704) : rHi.emb (ix4 0 0 r k : S1x1x512x704.Idx) = (ix4 0 1 r k : S1x2x512x704.Idx) := by
  funext ax
  apply Fin.ext
  match ax with
  | ⟨0, _⟩ => rfl
  | ⟨1, _⟩ => rfl
  | ⟨2, _⟩ => show 0 + 1 * r.val = r.val; omega
  | ⟨3, _⟩ => show 0 + 1 * k.val = k.val; omega
theorem not_hi (r : Fin 512) (k : Fin 704) : (ix4 0 0 r k : S1x2x512x704.Idx) ∉ rHi.set := by
  rw [Rect.mem_set_unit]
  intro h
  have h1 : 1 ≤ 0 := (h 1).1
  omega
theorem both_hi (p q : Vec Ideal S1x1x512x704 .bf16) (r : Fin 512) (k : Fin 704) : both p q (ix4 0 1 r k) = q (ix4 0 0 r k) := by
  unfold both
  rw [← embHi]
  exact View.canon_cons_emb rHi q _ (ix4 0 0 r k : S1x1x512x704.Idx)
theorem both_lo (p q : Vec Ideal S1x1x512x704 .bf16) (r : Fin 512) (k : Fin 704) : both p q (ix4 0 0 r k) = p (ix4 0 0 r k) := by
  unfold both
  refine (View.canon_cons_of_not_mem (⟨rHi, q⟩ : View.Piece (Elt Ideal) S1x2x512x704 .bf16) _ (y := (ix4 0 0 r k : S1x2x512x704.Idx)) (not_hi r k)).trans ?_
  rw [← embLo]
  exact View.canon_cons_emb rLo p _ (ix4 0 0 r k : S1x1x512x704.Idx)

/-- A block of two halves read at an index: the first half is the first store's, the second the last's. -/
theorem both_at (p q : Vec Ideal S512x704 .bf16) (a : Fin 2) (r : Fin 512) (k : Fin 704) :
    both (k0_pay1 p) (k0_pay2 q) (ix4 0 a r k) = if a.val = 0 then p (ix2 r k) else q (ix2 r k) := by
  have e1 : k0_pay1 (F := Ideal) p (ix4 0 0 r k) = p (ix2 r k) := by pointwise [k0_pay1]
  have e2 : k0_pay2 (F := Ideal) q (ix4 0 0 r k) = q (ix2 r k) := by pointwise [k0_pay2]
  match a with
  | ⟨0, _⟩ => exact (both_lo _ _ r k).trans e1
  | ⟨1, _⟩ => exact (both_hi _ _ r k).trans e2

/-- The block of the pre-activations' cotangent: gate rows first, up rows after. -/
theorem dhV_of (t : Fin cfg0.N) (z : Fin 1) (a : Fin 2) (p : Fin 512) (k : Fin 704) :
    dhV (bGU m c t) (bWO m c t) (stAt m c t).dyb (ix4 z a p k)
      = if a.val = 0 then sDg m c (row t p) (col t k) else sDu m c (row t p) (col t k) := by
  obtain rfl : z = 0 := Subsingleton.elim _ _
  rw [← dg_of m c t _ (dyb_of m c t), ← du_of m c t _ (dyb_of m c t)]
  unfold dhV
  rw [both_at]

/-! ## The final arrays -/

abbrev G7 : Vec Ideal S8192x1024 .f32 := fun i => sDx m c (i 0) (i 1)
abbrev G8 : Vec Ideal S8192x1024 .bf16 := fun i => sXn m c (i 0) (i 1)
abbrev G9 : Vec Ideal S4x8192x704 .bf16 := fun i => sAct m c (i 1) (colN (i 0).val (i 2))
abbrev G10 : Vec Ideal S4x2x8192x704 .bf16 := fun i =>
  if (i 1).val = 0 then sDg m c (i 2) (colN (i 0).val (i 3)) else sDu m c (i 2) (colN (i 0).val (i 3))
abbrev G11 : Vec Ideal S1x1024 .f32 := fun i => sDnw m c (i 1)
abbrev G12 : Vec Ideal S8192x1024 .bf16 := fun i => sCot m c (i 0) (i 1)

theorem xs7 (t : Fin cfg0.N) : win0_7.xsize (grid0.coords t) 0 = 512 ∧ win0_7.xsize (grid0.coords t) 1 = 1024 :=
  (by decide +kernel : ∀ t : Fin grid0.N, win0_7.xsize (grid0.coords t) 0 = 512 ∧ win0_7.xsize (grid0.coords t) 1 = 1024) t

theorem emb7 (t : Fin cfg0.N) (p : Fin 512) (d : Fin 1024) :
    ((cfg0.win 7).blk t).view.emb (ix2 p d : S512x1024.Idx) = (ix2 (row t p) d : (⟨2, ![8192, 1024]⟩ : Shape).Idx) := by
  have hi := idx7 t
  funext ax
  apply Fin.ext
  match ax with
  | ⟨0, _⟩ => show win0_7.index t 0 * 512 + 1 * p.val = _; rw [hi.1]; show _ = t.val / 4 * 512 + p.val; omega
  | ⟨1, _⟩ => show win0_7.index t 1 * 1024 + 1 * d.val = _; rw [hi.2]; show _ = d.val; omega

theorem flushed7 (t : Fin cfg0.N) (hf : (cfg0.win 7).flush t = true) :
    (dats m 0 c).flushed 7 t = ((cfg0.win 7).blk t).view.read (Elt Ideal) (G7 m c) := by
  have h3 : t.val % 4 = 3 := by simpa [flush7 t] using hf
  show (cfg0.win 7).cut (grid0.coords t) ((dats m 0 c).after 7 t) = _
  rw [after7]
  funext (j : S512x1024.Idx)
  rw [View.read_apply]
  obtain ⟨p, d, rfl⟩ : ∃ (p : Fin 512) (d : Fin 1024), j = ix2 p d := ⟨j 0, j 1, eq_ix2 j⟩
  show dxAt m c t (ix2 p d) = G7 m c (((cfg0.win 7).blk t).view.emb (ix2 p d : S512x1024.Idx))
  rw [emb7]
  exact dxAt_of m c t h3 p d

theorem final7 : (dats m 0 c).arrAt 7 cfg0.N = G7 m c :=
  (dats m 0 c).arrAt_eq_of_cover 7 (G7 m c) (flushed7 m c) fun i => by
    have h0 : (i 0 : Nat) < 8192 := (i 0).isLt
    have h1 : (i 1 : Nat) < 1024 := (i 1).isLt
    have hlt : (i 0).val / 512 * 4 + 3 < cfg0.N := by rw [N64]; omega
    refine ⟨⟨(i 0).val / 512 * 4 + 3, hlt⟩, ?_, ?_⟩
    · rw [flush7]; simp only [decide_eq_true_eq]; omega
    · show i ∈ ((View.whole main_v23_0).slice (win0_7.rect ⟨(i 0).val / 512 * 4 + 3, hlt⟩)).set
      rw [View.set_slice_whole, Rect.mem_set_unit]
      have hi := idx7 ⟨(i 0).val / 512 * 4 + 3, hlt⟩
      have hx := xs7 ⟨(i 0).val / 512 * 4 + 3, hlt⟩
      try simp only at hi hx
      intro ax
      match ax with
      | ⟨0, _⟩ =>
        show win0_7.index ⟨(i 0).val / 512 * 4 + 3, hlt⟩ 0 * 512 ≤ (i 0 : Nat) ∧ (i 0 : Nat) < win0_7.index ⟨(i 0).val / 512 * 4 + 3, hlt⟩ 0 * 512 + win0_7.xsize (grid0.coords ⟨(i 0).val / 512 * 4 + 3, hlt⟩) 0
        rw [hi.1, hx.1]; omega
      | ⟨1, _⟩ =>
        show win0_7.index ⟨(i 0).val / 512 * 4 + 3, hlt⟩ 1 * 1024 ≤ (i 1 : Nat) ∧ (i 1 : Nat) < win0_7.index ⟨(i 0).val / 512 * 4 + 3, hlt⟩ 1 * 1024 + win0_7.xsize (grid0.coords ⟨(i 0).val / 512 * 4 + 3, hlt⟩) 1
        rw [hi.2, hx.2]; omega

theorem xs8 (t : Fin cfg0.N) : win0_8.xsize (grid0.coords t) 0 = 512 ∧ win0_8.xsize (grid0.coords t) 1 = 1024 :=
  (by decide +kernel : ∀ t : Fin grid0.N, win0_8.xsize (grid0.coords t) 0 = 512 ∧ win0_8.xsize (grid0.coords t) 1 = 1024) t

theorem emb8 (t : Fin cfg0.N) (p : Fin 512) (d : Fin 1024) :
    ((cfg0.win 8).blk t).view.emb (ix2 p d : S512x1024.Idx) = (ix2 (row t p) d : (⟨2, ![8192, 1024]⟩ : Shape).Idx) := by
  have hi := idx8 t
  funext ax
  apply Fin.ext
  match ax with
  | ⟨0, _⟩ => show win0_8.index t 0 * 512 + 1 * p.val = _; rw [hi.1]; show _ = t.val / 4 * 512 + p.val; omega
  | ⟨1, _⟩ => show win0_8.index t 1 * 1024 + 1 * d.val = _; rw [hi.2]; show _ = d.val; omega

theorem flushed8 (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after8]
  funext (j : S512x1024.Idx)
  rw [View.read_apply]
  obtain ⟨p, d, rfl⟩ : ∃ (p : Fin 512) (d : Fin 1024), j = ix2 p d := ⟨j 0, j 1, eq_ix2 j⟩
  show (stAt m c t).xn (ix2 p d) = G8 m c (((cfg0.win 8).blk t).view.emb (ix2 p d : S512x1024.Idx))
  rw [emb8]
  exact xn_of m c t p d

theorem final8 : (dats m 0 c).arrAt 8 cfg0.N = G8 m c :=
  (dats m 0 c).arrAt_eq_of_cover 8 (G8 m c) (flushed8 m c) fun i => by
    have h0 : (i 0 : Nat) < 8192 := (i 0).isLt
    have h1 : (i 1 : Nat) < 1024 := (i 1).isLt
    have hlt : (i 0).val / 512 * 4 + 3 < cfg0.N := by rw [N64]; omega
    refine ⟨⟨(i 0).val / 512 * 4 + 3, hlt⟩, ?_, ?_⟩
    · rw [flush8]; simp only [decide_eq_true_eq]; omega
    · show i ∈ ((View.whole main_v23_1).slice (win0_8.rect ⟨(i 0).val / 512 * 4 + 3, hlt⟩)).set
      rw [View.set_slice_whole, Rect.mem_set_unit]
      have hi := idx8 ⟨(i 0).val / 512 * 4 + 3, hlt⟩
      have hx := xs8 ⟨(i 0).val / 512 * 4 + 3, hlt⟩
      try simp only at hi hx
      intro ax
      match ax with
      | ⟨0, _⟩ =>
        show win0_8.index ⟨(i 0).val / 512 * 4 + 3, hlt⟩ 0 * 512 ≤ (i 0 : Nat) ∧ (i 0 : Nat) < win0_8.index ⟨(i 0).val / 512 * 4 + 3, hlt⟩ 0 * 512 + win0_8.xsize (grid0.coords ⟨(i 0).val / 512 * 4 + 3, hlt⟩) 0
        rw [hi.1, hx.1]; omega
      | ⟨1, _⟩ =>
        show win0_8.index ⟨(i 0).val / 512 * 4 + 3, hlt⟩ 1 * 1024 ≤ (i 1 : Nat) ∧ (i 1 : Nat) < win0_8.index ⟨(i 0).val / 512 * 4 + 3, hlt⟩ 1 * 1024 + win0_8.xsize (grid0.coords ⟨(i 0).val / 512 * 4 + 3, hlt⟩) 1
        rw [hi.2, hx.2]; omega

theorem all_flush9 : ∀ t : Fin cfg0.N, (cfg0.win 9).flush t = true := by decide +kernel
theorem all_flush10 : ∀ t : Fin cfg0.N, (cfg0.win 10).flush t = true := by decide +kernel
theorem xs9 (t : Fin cfg0.N) : win0_9.xsize (grid0.coords t) 0 = 1 ∧ win0_9.xsize (grid0.coords t) 1 = 512 ∧ win0_9.xsize (grid0.coords t) 2 = 704 :=
  (by decide +kernel : ∀ t : Fin grid0.N, win0_9.xsize (grid0.coords t) 0 = 1 ∧ win0_9.xsize (grid0.coords t) 1 = 512 ∧ win0_9.xsize (grid0.coords t) 2 = 704) t

theorem emb9 (t : Fin cfg0.N) (z : Fin 1) (p : Fin 512) (k : Fin 704) :
    ((cfg0.win 9).blk t).view.emb (ix3 z p k : S1x512x704.Idx) = (ix3 ⟨t.val % 4, by omega⟩ (row t p) k : (⟨3, ![4, 8192, 704]⟩ : Shape).Idx) := by
  have hi := idx9 t
  funext ax
  apply Fin.ext
  match ax with
  | ⟨0, _⟩ => show win0_9.index t 0 * 1 + 1 * z.val = _; rw [hi.1]; show _ = t.val % 4; omega
  | ⟨1, _⟩ => show win0_9.index t 1 * 512 + 1 * p.val = _; rw [hi.2.1]; show _ = t.val / 4 * 512 + p.val; omega
  | ⟨2, _⟩ => show win0_9.index t 2 * 704 + 1 * k.val = _; rw [hi.2.2]; show _ = k.val; omega

theorem flushed9 (t : Fin cfg0.N) (hf : (cfg0.win 9).flush t = true) :
    (dats m 0 c).flushed 9 t = ((cfg0.win 9).blk t).view.read (Elt Ideal) (G9 m c) := by
  show (cfg0.win 9).cut (grid0.coords t) ((dats m 0 c).after 9 t) = _
  rw [after9]
  funext (j : S1x512x704.Idx)
  rw [View.read_apply]
  obtain ⟨z, p, k, rfl⟩ : ∃ (z : Fin 1) (p : Fin 512) (k : Fin 704), j = ix3 z p k := ⟨j 0, j 1, j 2, eq_ix3 j⟩
  show actV (bGU m c t) (ix3 z p k) = G9 m c (((cfg0.win 9).blk t).view.emb (ix3 z p k : S1x512x704.Idx))
  rw [emb9]
  rw [actV_of]
  refine congrArg (sAct m c (row t p)) (Fin.ext ?_)
  show t.val % 4 * 704 + k.val = t.val % 4 % 4 * 704 + k.val
  rw [Nat.mod_mod]

theorem final9 : (dats m 0 c).arrAt 9 cfg0.N = G9 m c :=
  (dats m 0 c).arrAt_eq_of_cover 9 (G9 m c) (flushed9 m c) fun i => by
    have h0 : (i 0 : Nat) < 4 := (i 0).isLt
    have h1 : (i 1 : Nat) < 8192 := (i 1).isLt
    have h2 : (i 2 : Nat) < 704 := (i 2).isLt
    have hlt : (i 1).val / 512 * 4 + (i 0).val < cfg0.N := by rw [N64]; omega
    refine ⟨⟨(i 1).val / 512 * 4 + (i 0).val, hlt⟩, ?_, ?_⟩
    · exact all_flush9 _
    · show i ∈ ((View.whole main_v23_2).slice (win0_9.rect ⟨(i 1).val / 512 * 4 + (i 0).val, hlt⟩)).set
      rw [View.set_slice_whole, Rect.mem_set_unit]
      have hi := idx9 ⟨(i 1).val / 512 * 4 + (i 0).val, hlt⟩
      have hx := xs9 ⟨(i 1).val / 512 * 4 + (i 0).val, hlt⟩
      try simp only at hi hx
      intro ax
      match ax with
      | ⟨0, _⟩ =>
        show win0_9.index ⟨(i 1).val / 512 * 4 + (i 0).val, hlt⟩ 0 * 1 ≤ (i 0 : Nat) ∧ (i 0 : Nat) < win0_9.index ⟨(i 1).val / 512 * 4 + (i 0).val, hlt⟩ 0 * 1 + win0_9.xsize (grid0.coords ⟨(i 1).val / 512 * 4 + (i 0).val, hlt⟩) 0
        rw [hi.1, hx.1]; omega
      | ⟨1, _⟩ =>
        show win0_9.index ⟨(i 1).val / 512 * 4 + (i 0).val, hlt⟩ 1 * 512 ≤ (i 1 : Nat) ∧ (i 1 : Nat) < win0_9.index ⟨(i 1).val / 512 * 4 + (i 0).val, hlt⟩ 1 * 512 + win0_9.xsize (grid0.coords ⟨(i 1).val / 512 * 4 + (i 0).val, hlt⟩) 1
        rw [hi.2.1, hx.2.1]; omega
      | ⟨2, _⟩ =>
        show win0_9.index ⟨(i 1).val / 512 * 4 + (i 0).val, hlt⟩ 2 * 704 ≤ (i 2 : Nat) ∧ (i 2 : Nat) < win0_9.index ⟨(i 1).val / 512 * 4 + (i 0).val, hlt⟩ 2 * 704 + win0_9.xsize (grid0.coords ⟨(i 1).val / 512 * 4 + (i 0).val, hlt⟩) 2
        rw [hi.2.2, hx.2.2]; omega

theorem xs10 (t : Fin cfg0.N) : win0_10.xsize (grid0.coords t) 0 = 1 ∧ win0_10.xsize (grid0.coords t) 1 = 2 ∧ win0_10.xsize (grid0.coords t) 2 = 512 ∧ win0_10.xsize (grid0.coords t) 3 = 704 :=
  (by decide +kernel : ∀ t : Fin grid0.N, win0_10.xsize (grid0.coords t) 0 = 1 ∧ win0_10.xsize (grid0.coords t) 1 = 2 ∧ win0_10.xsize (grid0.coords t) 2 = 512 ∧ win0_10.xsize (grid0.coords t) 3 = 704) t

theorem emb10 (t : Fin cfg0.N) (z : Fin 1) (a : Fin 2) (p : Fin 512) (k : Fin 704) :
    ((cfg0.win 10).blk t).view.emb (ix4 z a p k : S1x2x512x704.Idx) = (ix4 ⟨t.val % 4, by omega⟩ a (row t p) k : (⟨4, ![4, 2, 8192, 704]⟩ : Shape).Idx) := by
  have hi := idx10 t
  funext ax
  apply Fin.ext
  match ax with
  | ⟨0, _⟩ => show win0_10.index t 0 * 1 + 1 * z.val = _; rw [hi.1]; show _ = t.val % 4; omega
  | ⟨1, _⟩ => show win0_10.index t 1 * 2 + 1 * a.val = _; rw [hi.2.1]; show _ = a.val; omega
  | ⟨2, _⟩ => show win0_10.index t 2 * 512 + 1 * p.val = _; rw [hi.2.2.1]; show _ = t.val / 4 * 512 + p.val; omega
  | ⟨3, _⟩ => show win0_10.index t 3 * 704 + 1 * k.val = _; rw [hi.2.2.2]; show _ = k.val; omega

theorem flushed10 (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after10]
  funext (j : S1x2x512x704.Idx)
  rw [View.read_apply]
  obtain ⟨z, a, p, k, rfl⟩ : ∃ (z : Fin 1) (a : Fin 2) (p : Fin 512) (k : Fin 704), j = ix4 z a p k := ⟨j 0, j 1, j 2, j 3, eq_ix4 j⟩
  show dhV (bGU m c t) (bWO m c t) (stAt m c t).dyb (ix4 z a p k) = G10 m c (((cfg0.win 10).blk t).view.emb (ix4 z a p k : S1x2x512x704.Idx))
  rw [emb10]
  rw [dhV_of]
  have e : colN (t.val % 4) k = col t k := Fin.ext (show t.val % 4 % 4 * 704 + k.val = t.val % 4 * 704 + k.val by rw [Nat.mod_mod])
  show _ = if a.val = 0 then sDg m c (row t p) (colN (t.val % 4) k) else sDu m c (row t p) (colN (t.val % 4) k)
  rw [e]

theorem final10 : (dats m 0 c).arrAt 10 cfg0.N = G10 m c :=
  (dats m 0 c).arrAt_eq_of_cover 10 (G10 m c) (flushed10 m c) fun i => by
    have h0 : (i 0 : Nat) < 4 := (i 0).isLt
    have h1 : (i 1 : Nat) < 2 := (i 1).isLt
    have h2 : (i 2 : Nat) < 8192 := (i 2).isLt
    have h3 : (i 3 : Nat) < 704 := (i 3).isLt
    have hlt : (i 2).val / 512 * 4 + (i 0).val < cfg0.N := by rw [N64]; omega
    refine ⟨⟨(i 2).val / 512 * 4 + (i 0).val, hlt⟩, ?_, ?_⟩
    · exact all_flush10 _
    · show i ∈ ((View.whole main_v23_3).slice (win0_10.rect ⟨(i 2).val / 512 * 4 + (i 0).val, hlt⟩)).set
      rw [View.set_slice_whole, Rect.mem_set_unit]
      have hi := idx10 ⟨(i 2).val / 512 * 4 + (i 0).val, hlt⟩
      have hx := xs10 ⟨(i 2).val / 512 * 4 + (i 0).val, hlt⟩
      try simp only at hi hx
      intro ax
      match ax with
      | ⟨0, _⟩ =>
        show win0_10.index ⟨(i 2).val / 512 * 4 + (i 0).val, hlt⟩ 0 * 1 ≤ (i 0 : Nat) ∧ (i 0 : Nat) < win0_10.index ⟨(i 2).val / 512 * 4 + (i 0).val, hlt⟩ 0 * 1 + win0_10.xsize (grid0.coords ⟨(i 2).val / 512 * 4 + (i 0).val, hlt⟩) 0
        rw [hi.1, hx.1]; omega
      | ⟨1, _⟩ =>
        show win0_10.index ⟨(i 2).val / 512 * 4 + (i 0).val, hlt⟩ 1 * 2 ≤ (i 1 : Nat) ∧ (i 1 : Nat) < win0_10.index ⟨(i 2).val / 512 * 4 + (i 0).val, hlt⟩ 1 * 2 + win0_10.xsize (grid0.coords ⟨(i 2).val / 512 * 4 + (i 0).val, hlt⟩) 1
        rw [hi.2.1, hx.2.1]; omega
      | ⟨2, _⟩ =>
        show win0_10.index ⟨(i 2).val / 512 * 4 + (i 0).val, hlt⟩ 2 * 512 ≤ (i 2 : Nat) ∧ (i 2 : Nat) < win0_10.index ⟨(i 2).val / 512 * 4 + (i 0).val, hlt⟩ 2 * 512 + win0_10.xsize (grid0.coords ⟨(i 2).val / 512 * 4 + (i 0).val, hlt⟩) 2
        rw [hi.2.2.1, hx.2.2.1]; omega
      | ⟨3, _⟩ =>
        show win0_10.index ⟨(i 2).val / 512 * 4 + (i 0).val, hlt⟩ 3 * 704 ≤ (i 3 : Nat) ∧ (i 3 : Nat) < win0_10.index ⟨(i 2).val / 512 * 4 + (i 0).val, hlt⟩ 3 * 704 + win0_10.xsize (grid0.coords ⟨(i 2).val / 512 * 4 + (i 0).val, hlt⟩) 3
        rw [hi.2.2.2, hx.2.2.2]; omega

theorem xs11 (t : Fin cfg0.N) : win0_11.xsize (grid0.coords t) 0 = 1 ∧ win0_11.xsize (grid0.coords t) 1 = 1024 :=
  (by decide +kernel : ∀ t : Fin grid0.N, win0_11.xsize (grid0.coords t) 0 = 1 ∧ win0_11.xsize (grid0.coords t) 1 = 1024) t

theorem emb11 (t : Fin cfg0.N) (z : Fin 1) (d : Fin 1024) :
    ((cfg0.win 11).blk t).view.emb (ix2 z d : S1x1024.Idx) = (ix2 z d : (⟨2, ![1, 1024]⟩ : Shape).Idx) := by
  have hi := idx11 t
  funext ax
  apply Fin.ext
  match ax with
  | ⟨0, _⟩ => show win0_11.index t 0 * 1 + 1 * z.val = _; rw [hi.1]; show _ = z.val; omega
  | ⟨1, _⟩ => show win0_11.index t 1 * 1024 + 1 * d.val = _; rw [hi.2]; show _ = d.val; omega

theorem flushed11 (t : Fin cfg0.N) (hf : (cfg0.win 11).flush t = true) :
    (dats m 0 c).flushed 11 t = ((cfg0.win 11).blk t).view.read (Elt Ideal) (G11 m c) := by
  have h3 : t.val = 63 := by simpa [flush11 t] using hf
  show (cfg0.win 11).cut (grid0.coords t) ((dats m 0 c).after 11 t) = _
  rw [after11]
  funext (j : S1x1024.Idx)
  rw [View.read_apply]
  obtain ⟨z, d, rfl⟩ : ∃ (z : Fin 1) (d : Fin 1024), j = ix2 z d := ⟨j 0, j 1, eq_ix2 j⟩
  show (stAt m c t).dnw (ix2 z d) = G11 m c (((cfg0.win 11).blk t).view.emb (ix2 z d : S1x1024.Idx))
  rw [emb11]
  rw [dnw_of m c _ t rfl (by omega) z d, h3]
  exact sum_tileW m c d

theorem final11 : (dats m 0 c).arrAt 11 cfg0.N = G11 m c :=
  (dats m 0 c).arrAt_eq_of_cover 11 (G11 m c) (flushed11 m c) fun i => by
    have h0 : (i 0 : Nat) < 1 := (i 0).isLt
    have h1 : (i 1 : Nat) < 1024 := (i 1).isLt
    have hlt : 63 < cfg0.N := by rw [N64]; omega
    refine ⟨⟨63, hlt⟩, ?_, ?_⟩
    · rw [flush11]; rfl
    · show i ∈ ((View.whole main_v23_4).slice (win0_11.rect ⟨63, hlt⟩)).set
      rw [View.set_slice_whole, Rect.mem_set_unit]
      have hi := idx11 ⟨63, hlt⟩
      have hx := xs11 ⟨63, hlt⟩
      try simp only at hi hx
      intro ax
      match ax with
      | ⟨0, _⟩ =>
        show win0_11.index ⟨63, hlt⟩ 0 * 1 ≤ (i 0 : Nat) ∧ (i 0 : Nat) < win0_11.index ⟨63, hlt⟩ 0 * 1 + win0_11.xsize (grid0.coords ⟨63, hlt⟩) 0
        rw [hi.1, hx.1]; omega
      | ⟨1, _⟩ =>
        show win0_11.index ⟨63, hlt⟩ 1 * 1024 ≤ (i 1 : Nat) ∧ (i 1 : Nat) < win0_11.index ⟨63, hlt⟩ 1 * 1024 + win0_11.xsize (grid0.coords ⟨63, hlt⟩) 1
        rw [hi.2, hx.2]; omega

theorem xs12 (t : Fin cfg0.N) : win0_12.xsize (grid0.coords t) 0 = 512 ∧ win0_12.xsize (grid0.coords t) 1 = 1024 :=
  (by decide +kernel : ∀ t : Fin grid0.N, win0_12.xsize (grid0.coords t) 0 = 512 ∧ win0_12.xsize (grid0.coords t) 1 = 1024) t

theorem emb12 (t : Fin cfg0.N) (p : Fin 512) (d : Fin 1024) :
    ((cfg0.win 12).blk t).view.emb (ix2 p d : S512x1024.Idx) = (ix2 (row t p) d : (⟨2, ![8192, 1024]⟩ : Shape).Idx) := by
  have hi := idx12 t
  funext ax
  apply Fin.ext
  match ax with
  | ⟨0, _⟩ => show win0_12.index t 0 * 512 + 1 * p.val = _; rw [hi.1]; show _ = t.val / 4 * 512 + p.val; omega
  | ⟨1, _⟩ => show win0_12.index t 1 * 1024 + 1 * d.val = _; rw [hi.2]; show _ = d.val; omega

theorem flushed12 (t : Fin cfg0.N) (hf : (cfg0.win 12).flush t = true) :
    (dats m 0 c).flushed 12 t = ((cfg0.win 12).blk t).view.read (Elt Ideal) (G12 m c) := by
  show (cfg0.win 12).cut (grid0.coords t) ((dats m 0 c).after 12 t) = _
  rw [after12]
  funext (j : S512x1024.Idx)
  rw [View.read_apply]
  obtain ⟨p, d, rfl⟩ : ∃ (p : Fin 512) (d : Fin 1024), j = ix2 p d := ⟨j 0, j 1, eq_ix2 j⟩
  show (stAt m c t).dyb (ix2 p d) = G12 m c (((cfg0.win 12).blk t).view.emb (ix2 p d : S512x1024.Idx))
  rw [emb12]
  exact dyb_of m c t p d

theorem final12 : (dats m 0 c).arrAt 12 cfg0.N = G12 m c :=
  (dats m 0 c).arrAt_eq_of_cover 12 (G12 m c) (flushed12 m c) fun i => by
    have h0 : (i 0 : Nat) < 8192 := (i 0).isLt
    have h1 : (i 1 : Nat) < 1024 := (i 1).isLt
    have hlt : (i 0).val / 512 * 4 + 3 < cfg0.N := by rw [N64]; omega
    refine ⟨⟨(i 0).val / 512 * 4 + 3, hlt⟩, ?_, ?_⟩
    · rw [flush12]; simp only [decide_eq_true_eq]; omega
    · show i ∈ ((View.whole main_v23_5).slice (win0_12.rect ⟨(i 0).val / 512 * 4 + 3, hlt⟩)).set
      rw [View.set_slice_whole, Rect.mem_set_unit]
      have hi := idx12 ⟨(i 0).val / 512 * 4 + 3, hlt⟩
      have hx := xs12 ⟨(i 0).val / 512 * 4 + 3, hlt⟩
      try simp only at hi hx
      intro ax
      match ax with
      | ⟨0, _⟩ =>
        show win0_12.index ⟨(i 0).val / 512 * 4 + 3, hlt⟩ 0 * 512 ≤ (i 0 : Nat) ∧ (i 0 : Nat) < win0_12.index ⟨(i 0).val / 512 * 4 + 3, hlt⟩ 0 * 512 + win0_12.xsize (grid0.coords ⟨(i 0).val / 512 * 4 + 3, hlt⟩) 0
        rw [hi.1, hx.1]; omega
      | ⟨1, _⟩ =>
        show win0_12.index ⟨(i 0).val / 512 * 4 + 3, hlt⟩ 1 * 1024 ≤ (i 1 : Nat) ∧ (i 1 : Nat) < win0_12.index ⟨(i 0).val / 512 * 4 + 3, hlt⟩ 1 * 1024 + win0_12.xsize (grid0.coords ⟨(i 0).val / 512 * 4 + 3, hlt⟩) 1
        rw [hi.2, hx.2]; omega

/-- The call's run: every result array at its closed form, the arguments unchanged. -/
theorem run_value : θ_run defs (onTc (τ := τ) (main (F := Ideal))) ⟨m, fun _ => 0, ρ⟩ (fun r => ∀ c : Dev nD,
      r.2.mem ((c.tc : Thread nD τ).loc main_v23_0) = G7 m c
      ∧ r.2.mem ((c.tc : Thread nD τ).loc main_v23_1) = G8 m c
      ∧ r.2.mem ((c.tc : Thread nD τ).loc main_v23_2) = G9 m c
      ∧ r.2.mem ((c.tc : Thread nD τ).loc main_v23_3) = G10 m c
      ∧ r.2.mem ((c.tc : Thread nD τ).loc main_v23_4) = G11 m c
      ∧ r.2.mem ((c.tc : Thread nD τ).loc main_v23_5) = G12 m c) :=
  (θ_run defs _ _).mono (fun _ h c => ⟨((h c).1 7).trans (final7 m c), ((h c).1 8).trans (final8 m c), ((h c).1 9).trans (final9 m c),
    ((h c).1 10).trans (final10 m c), ((h c).1 11).trans (final11 m c), ((h c).1 12).trans (final12 m c)⟩) (run_post m ρ)

end Cert.KernelIdeal.Ffn

end
-- ==== Proof.FfnRef.lean ====
/- The reference program's results read at an index: each is the corresponding function of Proof/FfnSpec.lean. -/
module

public import proofs.«01_k».proof.Proof.FfnSpec
public import proofs.«01_k».proof.Proof.Gen.ReferenceIdeal.Read
public import Idealize.ShloMosaic.Lib.Pointwise

@[expose] public section

noncomputable section

namespace Cert.ReferenceIdeal.Ffn

open Cert.ReferenceIdeal Cert.ReferenceIdeal.Gen Cert.ReferenceIdeal.Read Idealize.ShloMosaic
open Cert.FfnSpec

variable (x0 : Vec Ideal S8192x1024 .f32) (x1 : Vec Ideal S1024 .f32) (x2 : Vec Ideal S1024x5632 .f32)
  (x3 : Vec Ideal S2816x1024 .f32) (x4 : Vec Ideal S8192x1024 .f32)

local notation "X" => (fun (t : Fin 8192) (d : Fin 1024) => (x0 (ix2 t d) : EReal))
local notation "NW" => (fun (d : Fin 1024) => (x1 (ix1 d) : EReal))
local notation "WI" => (fun (d : Fin 1024) (f : Fin 5632) => (x2 (ix2 d f) : EReal))
local notation "WO" => (fun (k : Fin 2816) (d : Fin 1024) => (x3 (ix2 k d) : EReal))
local notation "DY" => (fun (t : Fin 8192) (d : Fin 1024) => (x4 (ix2 t d) : EReal))

theorem r_ms (t : Fin 8192) (z : Fin 1) : val_main_v6 (F := Ideal) x0 (ix2 t z) = ms X t := by
  unfold ms
  pointwise [val_main_v6, val_main_v4, val_main_v2, val_main_v1, val_main_v0, val_main_cst, val_main_v3, val_main_cst_0, val_main_v5, val_main_cst_1]

theorem r_rs (t : Fin 8192) (z : Fin 1) : val_main_v7 (F := Ideal) x0 (ix2 t z) = rs X t := by
  unfold rs
  rw [val_main_v7_apply, r_ms, Ideal.hostUnary_rsqrt_def]

theorem r_xr (t : Fin 8192) (d : Fin 1024) : val_main_v12 (F := Ideal) x0 (ix2 t d) = x0 (ix2 t d) * rs X t := by
  pointwise [val_main_v12, val_main_v11]
  rw [r_rs]

theorem r_xn (t : Fin 8192) (d : Fin 1024) : val_main_v15 (F := Ideal) x0 x1 (ix2 t d) = xn X NW t d := by
  unfold xn
  pointwise [val_main_v15, val_main_v14, val_main_v13]
  rw [r_xr]

theorem r_hid (t : Fin 8192) (f : Fin 5632) : val_main_v16 (F := Ideal) x0 x1 x2 (ix2 t f) = hid X NW WI t f := by
  unfold hid
  pointwise [val_main_v16]
  simp only [r_xn]

theorem r_gt (t : Fin 8192) (k : Fin 2816) : val_main_v17 (F := Ideal) x0 x1 x2 (ix2 t k) = gt X NW WI t k := by
  unfold gt
  pointwise [val_main_v17]
  rw [r_hid]

theorem r_up (t : Fin 8192) (k : Fin 2816) : val_main_v18 (F := Ideal) x0 x1 x2 (ix2 t k) = up X NW WI t k := by
  unfold up
  pointwise [val_main_v18]
  rw [r_hid]

theorem r_sg (t : Fin 8192) (k : Fin 2816) : val_main_v19_2 (F := Ideal) x0 x1 x2 (ix2 t k) = sg X NW WI t k := by
  unfold sg Ideal.logistic
  pointwise [val_main_v19_2, val_main_call0_v4, val_main_call0_cst_0, val_main_call0_v3, val_main_call0_v2, val_main_call0_cst, val_main_call0_v1, val_main_call0_v0]
  rw [r_gt]

theorem r_da (t : Fin 8192) (k : Fin 2816) : val_main_v28 (F := Ideal) x3 x4 (ix2 t k) = da WO DY t k := by
  unfold da cot
  pointwise [val_main_v28, val_main_v27, val_main_v26, val_main_v25, val_main_cst_4]

theorem r_dg (t : Fin 8192) (k : Fin 2816) : val_main_v31 (F := Ideal) x0 x1 x2 x3 x4 (ix2 t k) = dgR X NW WI WO DY t k := by
  unfold dgR
  pointwise [val_main_v31, val_main_call1_v1, val_main_call1_v2, val_main_call1_v0, val_main_v30, val_main_v19_1, val_main_call0_v7, val_main_call0_v6, val_main_call0_cst_1]
  simp only [r_gt, r_up, r_sg, r_da]

theorem r_du (t : Fin 8192) (k : Fin 2816) : val_main_v29 (F := Ideal) x0 x1 x2 x3 x4 (ix2 t k) = du X NW WI WO DY t k := by
  unfold du
  pointwise [val_main_v29, val_main_v19_0]
  simp only [r_gt, r_sg, r_da]
  exact mul_comm _ _

theorem r_acc (t : Fin 8192) (d : Fin 1024) : val_main_v33 (F := Ideal) x0 x1 x2 x3 x4 (ix2 t d)
    = ∑ k : Fin 2816, dgR X NW WI WO DY t k * x2 (ix2 d (gc k)) + ∑ k : Fin 2816, du X NW WI WO DY t k * x2 (ix2 d (uc k)) := by
  pointwise [val_main_v33, val_main_v32]
  simp only [r_dg, r_du]

/-! ## The results -/

/-- The second result: the normalised rows. -/
theorem r_o1 (t : Fin 8192) (d : Fin 1024) : val_main_v87 (F := Ideal) x0 x1 (ix2 t d) = xn X NW t d := by
  rw [← r_xn]; rfl

/-- The sixth result: the scaled cotangent. -/
theorem r_o5 (t : Fin 8192) (d : Fin 1024) : val_main_v97 (F := Ideal) x4 (ix2 t d) = cot DY t d := by
  unfold cot
  pointwise [val_main_v97, val_main_v96, val_main_v95, val_main_cst_15]

theorem eq_gt : val_main_v83 (F := Ideal) x0 x1 x2 = val_main_v17 (F := Ideal) x0 x1 x2 := rfl
theorem eq_up : val_main_v84 (F := Ideal) x0 x1 x2 = val_main_v18 (F := Ideal) x0 x1 x2 := rfl
theorem eq_sg : val_main_call4_v5 (F := Ideal) x0 x1 x2 = val_main_v19_2 (F := Ideal) x0 x1 x2 := rfl
theorem eq_gt2 : val_main_v69 (F := Ideal) x0 x1 x2 = val_main_v17 (F := Ideal) x0 x1 x2 := rfl
theorem eq_up2 : val_main_v70 (F := Ideal) x0 x1 x2 = val_main_v18 (F := Ideal) x0 x1 x2 := rfl
theorem eq_sg2 : val_main_v71_2 (F := Ideal) x0 x1 x2 = val_main_v19_2 (F := Ideal) x0 x1 x2 := rfl

theorem r_da2 (t : Fin 8192) (k : Fin 2816) : val_main_v78 (F := Ideal) x3 x4 (ix2 t k) = da WO DY t k := by
  unfold da cot
  pointwise [val_main_v78, val_main_v77, val_main_v76, val_main_cst_14]

theorem r_dg2 (t : Fin 8192) (k : Fin 2816) : val_main_v81 (F := Ideal) x0 x1 x2 x3 x4 (ix2 t k) = dgR X NW WI WO DY t k := by
  unfold dgR
  pointwise [val_main_v81, val_main_call3_v1, val_main_call3_v2, val_main_call3_v0, val_main_v80, val_main_v71_1, val_main_call2_v7, val_main_call2_v6, val_main_call2_cst_1]
  simp only [eq_gt2, eq_up2, eq_sg2, r_gt, r_up, r_sg, r_da2]

theorem r_du2 (t : Fin 8192) (k : Fin 2816) : val_main_v79 (F := Ideal) x0 x1 x2 x3 x4 (ix2 t k) = du X NW WI WO DY t k := by
  unfold du
  pointwise [val_main_v79, val_main_v71_0]
  simp only [eq_gt2, eq_sg2, r_gt, r_sg, r_da2]
  exact mul_comm _ _

/-- The third result: the activation, its columns in four groups of 704. -/
theorem r_o2 (j : Fin 4) (t : Fin 8192) (k : Fin 704) : val_main_v90 (F := Ideal) x0 x1 x2 (ix3 j t k)
    = act X NW WI t ⟨j.val * 704 + k.val, by omega⟩ := by
  unfold act
  pointwise [val_main_v90, val_main_v89, val_main_v88, val_main_v86, val_main_v85]
  rw [eq_gt, eq_up, eq_sg, r_gt, r_up, r_sg]

/-- The fourth result: the cotangent of the pre-activations, gate and up, in four groups of 704 columns. -/
theorem r_o3 (h : AllReal X NW WI WO DY) (j : Fin 4) (a : Fin 2) (t : Fin 8192) (k : Fin 704) : val_main_v93 (F := Ideal) x0 x1 x2 x3 x4 (ix4 j a t k)
    = if a.val = 0 then dg X NW WI WO DY t ⟨j.val * 704 + k.val, by omega⟩ else du X NW WI WO DY t ⟨j.val * 704 + k.val, by omega⟩ := by
  pointwise [val_main_v93, val_main_v92, val_main_v91, val_main_v82]
  rcases a with ⟨_ | _ | a, ha⟩
  · simp
    rw [dif_pos (by omega), r_dg2, h.both_eq.1]
  · simp
    rw [dif_neg (by omega), r_du2]
    have e : 2816 + j.val * 704 + k.val - 2816 = j.val * 704 + k.val := by omega
    simp only [e]
  · omega

theorem r_accR (h : AllReal X NW WI WO DY) (t : Fin 8192) (d : Fin 1024) : val_main_v33 (F := Ideal) x0 x1 x2 x3 x4 (ix2 t d) = acc X NW WI WO DY t d := by
  rw [r_acc]
  unfold acc
  simp only [h.both_eq.1]

/-- The fifth result: the norm weight's gradient. -/
theorem r_o4 (h : AllReal X NW WI WO DY) (z : Fin 1) (d : Fin 1024) : val_main_v94 (F := Ideal) x0 x1 x2 x3 x4 (ix2 z d) = dnw X NW WI WO DY d := by
  unfold dnw
  obtain rfl : z = 0 := Subsingleton.elim _ _
  unfold val_main_v94 val_main_v39 val_main_v36 val_main_v35 val_main_v34
  generalize hA : val_main_v33 (F := Ideal) x0 x1 x2 x3 x4 = A
  generalize hB : val_main_v12 (F := Ideal) x0 = B
  pointwise [val_main_cst_6, val_main_cst_5]
  subst hA hB
  simp only [r_accR _ _ _ _ _ h, r_xr, Finset.sum_const, Finset.card_univ, Fintype.card_fin, one_smul]
  refine Finset.sum_congr rfl fun t _ => ?_
  rw [mul_comm]

/-- The first result: the input's gradient. -/
theorem r_o0 (h : AllReal X NW WI WO DY) (t : Fin 8192) (d : Fin 1024) : val_main_v54 (F := Ideal) x0 x1 x2 x3 x4 (ix2 t d) = dx X NW WI WO DY t d := by
  rw [← h.both_eq.2]
  unfold dxR bR
  pointwise [val_main_v54, val_main_v53, val_main_v52, val_main_v51, val_main_v50, val_main_v49, val_main_cst_9, val_main_v48, val_main_v47, val_main_cst_8, val_main_v46, val_main_v45, val_main_v44, val_main_v43, val_main_v42, val_main_v41, val_main_cst_7, val_main_v40, val_main_v38, val_main_v37, val_main_v13, val_main_v10, val_main_v9, val_main_cst_2, val_main_v8]
  simp only [r_accR _ _ _ _ _ h, r_rs, r_ms, Finset.sum_const, Finset.card_univ, Fintype.card_fin, one_smul]

end Cert.ReferenceIdeal.Ffn

end
-- ==== Proof.FfnClaim.lean ====
/- The value claim of the backward call: from finite arguments it and the plain backward pass both run and leave equal
   arrays. -/
module

public import proofs.«01_k».proof.Defs
public import proofs.«01_k».proof.Proof.FfnFinal
public import proofs.«01_k».proof.Proof.FfnRef
public import proofs.«01_k».proof.Proof.Gen.Pre_finite
public import proofs.«01_k».proof.Proof.Gen.ReferenceIdeal.Run
public import proofs.«01_k».proof.Proof.Gen.ReferenceIdeal.Read
public import Idealize.ShloMosaic.Lib.ReduceAll

@[expose] public section

set_option maxRecDepth 16384

noncomputable section

namespace Cert.FfnClaim

open Idealize.ShloMosaic Idealize.ShloMosaic.TcCoe Idealize.ShloMosaic.Tactic
open Idealize.SL.Sem
open Cert.FfnSpec

/-! ## The precondition, read -/

theorem real_of (x : EReal) (h : Ideal.cmp .olt (max x (-x)) ⊤ = 1#1) : ∃ r : ℝ, x = (r : EReal) := by
  have hlt : max x (-x) < ⊤ := by
    unfold Ideal.cmp at h
    by_contra hn
    simp [hn] at h
  induction x using EReal.rec with
  | bot => exact absurd hlt (by simp)
  | top => exact absurd hlt (by simp)
  | coe r => exact ⟨r, rfl⟩

theorem inf_word : Ideal.ofBits .f32 0x7F800000#32 = ⊤ := by
  simp [Ideal.ofBits, Ideal.ieee]

open Cert.Pre_finite in
theorem reals (x0 : FVec Ideal S8192x1024 .f32) (x1 : FVec Ideal S1024 .f32) (x2 : FVec Ideal S1024x5632 .f32) (x3 : FVec Ideal S2816x1024 .f32)
    (x4 : FVec Ideal S8192x1024 .f32) (h : Cert.Pre_finite.fn (F := Ideal) x0 x1 x2 x3 x4 = fun _ => 1#1) :
    AllReal (fun t d => x0 (ix2 t d)) (fun d => x1 (ix1 d)) (fun d f => x2 (ix2 d f)) (fun k d => x3 (ix2 k d)) (fun t d => x4 (ix2 t d)) := by
  have h0 := congrFun h (Shape.Idx.first Facts.h_S_)
  simp only [Cert.Pre_finite.fn, Cert.Pre_finite.fn_part1, andi] at h0
  obtain ⟨h123, e4⟩ := IntOp.andi_eq_one.1 h0
  obtain ⟨h12, e3⟩ := IntOp.andi_eq_one.1 h123
  obtain ⟨h1, e2⟩ := IntOp.andi_eq_one.1 h12
  obtain ⟨e0, e1⟩ := IntOp.andi_eq_one.1 h1
  have : Subsingleton S_.Idx := ⟨fun a b => funext fun ax => ax.elim0⟩
  refine ⟨fun t d => real_of _ ?_, fun d => real_of _ ?_, fun d f => real_of _ ?_, fun k d => real_of _ ?_, fun t d => real_of _ ?_⟩
  · rw [← inf_word]; exact Host.reduce_andi_all _ _ _ _ _ e0 (ix2 t d)
  · rw [← inf_word]; exact Host.reduce_andi_all _ _ _ _ _ e1 (ix1 d)
  · rw [← inf_word]; exact Host.reduce_andi_all _ _ _ _ _ e2 (ix2 d f)
  · rw [← inf_word]; exact Host.reduce_andi_all _ _ _ _ _ e3 (ix2 k d)
  · rw [← inf_word]; exact Host.reduce_andi_all _ _ _ _ _ e4 (ix2 t d)

/-! ## The plain backward pass, as arrays -/

open Cert.ReferenceIdeal Cert.ReferenceIdeal.Read Cert.ReferenceIdeal.Ffn in
theorem ref_arrays (x0 : (⟨S8192x1024, .f32⟩ : BufTy).Contents (Elt Ideal)) (x1 : (⟨S1024, .f32⟩ : BufTy).Contents (Elt Ideal))
    (x2 : (⟨S1024x5632, .f32⟩ : BufTy).Contents (Elt Ideal)) (x3 : (⟨S2816x1024, .f32⟩ : BufTy).Contents (Elt Ideal))
    (x4 : (⟨S8192x1024, .f32⟩ : BufTy).Contents (Elt Ideal))
    (h : AllReal (fun t d => x0 (ix2 t d)) (fun d => x1 (ix1 d)) (fun d f => x2 (ix2 d f)) (fun k d => x3 (ix2 k d)) (fun t d => x4 (ix2 t d))) :
    (val_main_v54 (F := Ideal) x0 x1 x2 x3 x4 = fun i => dx (fun t d => x0 (ix2 t d)) (fun d => x1 (ix1 d)) (fun d f => x2 (ix2 d f)) (fun k d => x3 (ix2 k d)) (fun t d => x4 (ix2 t d)) (i 0) (i 1))
    ∧ (val_main_v87 (F := Ideal) x0 x1 = fun i => xn (fun t d => x0 (ix2 t d)) (fun d => x1 (ix1 d)) (i 0) (i 1))
    ∧ (val_main_v90 (F := Ideal) x0 x1 x2 = fun i => act (fun t d => x0 (ix2 t d)) (fun d => x1 (ix1 d)) (fun d f => x2 (ix2 d f)) (i 1) (Cert.KernelIdeal.Ffn.colN (i 0).val (i 2)))
    ∧ (val_main_v93 (F := Ideal) x0 x1 x2 x3 x4 = fun i =>
        if (i 1).val = 0 then dg (fun t d => x0 (ix2 t d)) (fun d => x1 (ix1 d)) (fun d f => x2 (ix2 d f)) (fun k d => x3 (ix2 k d)) (fun t d => x4 (ix2 t d)) (i 2) (Cert.KernelIdeal.Ffn.colN (i 0).val (i 3))
        else du (fun t d => x0 (ix2 t d)) (fun d => x1 (ix1 d)) (fun d f => x2 (ix2 d f)) (fun k d => x3 (ix2 k d)) (fun t d => x4 (ix2 t d)) (i 2) (Cert.KernelIdeal.Ffn.colN (i 0).val (i 3)))
    ∧ (val_main_v94 (F := Ideal) x0 x1 x2 x3 x4 = fun i => dnw (fun t d => x0 (ix2 t d)) (fun d => x1 (ix1 d)) (fun d f => x2 (ix2 d f)) (fun k d => x3 (ix2 k d)) (fun t d => x4 (ix2 t d)) (i 1))
    ∧ (val_main_v97 (F := Ideal) x4 = fun i => cot (fun t d => x4 (ix2 t d)) (i 0) (i 1)) := by
  refine ⟨funext fun i => ?_, funext fun i => ?_, funext fun i => ?_, funext fun i => ?_, funext fun i => ?_, funext fun i => ?_⟩
  · obtain ⟨t, d, rfl⟩ : ∃ (t : Fin 8192) (d : Fin 1024), i = ix2 t d := ⟨i 0, i 1, eq_ix2 i⟩
    exact r_o0 x0 x1 x2 x3 x4 h t d
  · obtain ⟨t, d, rfl⟩ : ∃ (t : Fin 8192) (d : Fin 1024), i = ix2 t d := ⟨i 0, i 1, eq_ix2 i⟩
    exact r_o1 x0 x1 t d
  · obtain ⟨j, t, k, rfl⟩ : ∃ (j : Fin 4) (t : Fin 8192) (k : Fin 704), i = ix3 j t k := ⟨i 0, i 1, i 2, eq_ix3 i⟩
    refine (r_o2 x0 x1 x2 j t k).trans (congrArg (act _ _ _ t) (Fin.ext ?_))
    show j.val * 704 + k.val = j.val % 4 * 704 + k.val
    omega
  · obtain ⟨j, a, t, k, rfl⟩ : ∃ (j : Fin 4) (a : Fin 2) (t : Fin 8192) (k : Fin 704), i = ix4 j a t k := ⟨i 0, i 1, i 2, i 3, eq_ix4 i⟩
    have e : (⟨j.val * 704 + k.val, by omega⟩ : Fin 2816) = Cert.KernelIdeal.Ffn.colN j.val k := Fin.ext (show j.val * 704 + k.val = j.val % 4 * 704 + k.val by omega)
    rw [r_o3 x0 x1 x2 x3 x4 h j a t k, e]
    rfl
  · obtain ⟨z, d, rfl⟩ : ∃ (z : Fin 1) (d : Fin 1024), i = ix2 z d := ⟨i 0, i 1, eq_ix2 i⟩
    exact r_o4 x0 x1 x2 x3 x4 h z d
  · obtain ⟨t, d, rfl⟩ : ∃ (t : Fin 8192) (d : Fin 1024), i = ix2 t d := ⟨i 0, i 1, eq_ix2 i⟩
    exact r_o5 x4 t d

/-! ## The claims -/

open Cert.ReferenceIdeal in
/-- The plain backward pass runs and leaves its arguments; it declares no semaphore. -/
theorem frame_reference : Cert.quiescent_ReferenceIdeal := by
  intro m ρ _
  exact (θ_run Cert.ReferenceIdeal.defs _ _).mono (fun r h => ⟨fun c =>
      ⟨(h c).2.2.2.2.2.2.1, (h c).2.2.2.2.2.2.2.1, (h c).2.2.2.2.2.2.2.2.1, (h c).2.2.2.2.2.2.2.2.2.1, (h c).2.2.2.2.2.2.2.2.2.2⟩,
      Idealize.ShloMosaic.sem_eq_zero_of_no_sems (by decide) r.2⟩)
    (Cert.ReferenceIdeal.Value.run (F := Ideal) m ρ)

open Cert.KernelIdeal in
/-- From finite arguments the call's six results are the plain backward pass's. -/
theorem value : Cert.algebraic_KernelIdeal_ReferenceIdeal_pre_finite := by
  intro m ρ m' ρ' hpre hargs
  refine ⟨Ffn.G7 m, Ffn.G8 m, Ffn.G9 m, Ffn.G10 m, Ffn.G11 m, Ffn.G12 m, ?_, ?_⟩
  · exact (θ_run Cert.KernelIdeal.defs _ _).mono (fun r h c =>
        ⟨(h.1 c).1, (h.1 c).2.1, (h.1 c).2.2.1, (h.1 c).2.2.2.1, (h.1 c).2.2.2.2.1, (h.1 c).2.2.2.2.2,
          (h.2.1 c).1, (h.2.1 c).2.1, (h.2.1 c).2.2.1, (h.2.1 c).2.2.2.1, (h.2.1 c).2.2.2.2⟩)
      (θ_run_and (Ffn.run_value m ρ) (Ffn.unchanged_quiet m ρ))
  · refine (θ_run Cert.ReferenceIdeal.defs _ _).mono (fun r h c => ?_) (Cert.ReferenceIdeal.Value.run (F := Ideal) m' ρ')
    obtain ⟨q0, q1, q2, q3, q4, q5, u⟩ := h c
    obtain ⟨g0, g1, g2, g3, g4⟩ := hargs c
    have hr := reals _ _ _ _ _ (hpre c)
    obtain ⟨w0, w1, w2, w3, w4, w5⟩ := ref_arrays _ _ _ _ _ hr
    refine ⟨q0.trans ?_, q1.trans ?_, q2.trans ?_, q3.trans ?_, q4.trans ?_, q5.trans ?_, u⟩
    · rw [Cert.ReferenceIdeal.Read.val_main_v54_eq, g0, g1, g2, g3, g4]; exact w0
    · rw [Cert.ReferenceIdeal.Read.val_main_v87_eq, g0, g1]; exact w1
    · rw [Cert.ReferenceIdeal.Read.val_main_v90_eq, g0, g1, g2]; exact w2
    · rw [Cert.ReferenceIdeal.Read.val_main_v93_eq, g0, g1, g2, g3, g4]; exact w3
    · rw [Cert.ReferenceIdeal.Read.val_main_v94_eq, g0, g1, g2, g3, g4]; exact w4
    · rw [Cert.ReferenceIdeal.Read.val_main_v97_eq, g4]; exact w5

end Cert.FfnClaim

end
-- ==== Proof.FfnSame.lean ====
/- The two printings of the call are one program: the word program and the program over the extended reals have the same
   text, so what is proved over any float values holds of both. -/
module

public import proofs.«01_k».proof.Defs
public import proofs.«01_k».proof.Proof.FfnDat
public import proofs.«01_k».proof.Proof.Gen.Kernel

@[expose] public section

set_option maxRecDepth 16384
set_option maxHeartbeats 4000000

open Idealize.ShloMosaic Idealize.SL.Sem

namespace Cert.FfnSame

theorem table_same : (Cert.Kernel.defs₀ (F := Bits)) = (Cert.KernelIdeal.defs₀ (F := Bits)) := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))

theorem defs_same : (Cert.Kernel.defs (F := Bits)) = (Cert.KernelIdeal.defs (F := Bits)) := by
  unfold Cert.Kernel.defs Cert.KernelIdeal.defs
  rw [table_same]
  rfl

theorem main_same : (Cert.Kernel.main (F := Bits)) = (Cert.KernelIdeal.main (F := Bits)) := by
  unfold Cert.Kernel.main Cert.KernelIdeal.main
  rfl

/-- At every word of the format the call runs, leaves its arguments, and every counter reads zero. -/
theorem frame_kernel : Cert.quiescent_Kernel := by
  intro m ρ _
  rw [defs_same, main_same]
  exact Cert.KernelIdeal.Ffn.unchanged_quiet (F := Bits) m ρ

end Cert.FfnSame
-- ==== Proof.WinVal.lean ====
/- The gradient of the feed-forward layer's first weight: what each pair of grid points computes, as a sum over all rows,
   and the plain backward pass read at an index. A block of 704 columns takes two points, 4096 rows each. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Kernel2Ideal.Win

open Cert.Kernel2Ideal Cert.Kernel2Ideal.Gen Cert.Kernel2Ideal.Value
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## What a point leaves -/

/-- The first point of a pair leaves its product in the accumulator. -/
theorem soutA (i : grid0.Coords) (arg3 : Memref sig .tc .vmem S4096x1024 .bf16) (harg3 : arg3.IsWhole) (arg4 : Memref sig .tc .vmem S1x1x4096x704 .bf16) (harg4 : arg4.IsWhole) (arg5 : Memref sig .tc .vmem S1x704x1024 .bf16) (harg5 : arg5.IsWhole) (arg6 : Memref sig .tc .vmem S704x1024 .f32) (harg6 : arg6.IsWhole) (hc0 : cond0_0 i) (hc1 : ¬cond0_1 i) (hc2 : ¬cond0_2 i)
    (x0 : Vec Ideal S4096x1024 .bf16) (x1 : Vec Ideal S1x1x4096x704 .bf16) :
    sout0_A_0 c i arg3 harg3 arg4 harg4 arg5 harg5 arg6 harg6 hc0 hc1 hc2 x0 x1 = k0_pay2 x1 x0 := by
  unfold sout0_A_0
  frame_out

/-- The second point adds its product and rounds. -/
theorem outB (i : grid0.Coords) (arg3 : Memref sig .tc .vmem S4096x1024 .bf16) (harg3 : arg3.IsWhole) (arg4 : Memref sig .tc .vmem S1x1x4096x704 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : cond0_1 i) (hc2 : cond0_2 i)
    (x0 : Vec Ideal S4096x1024 .bf16) (x1 : Vec Ideal S1x1x4096x704 .bf16) (xs : Vec Ideal S704x1024 .f32) :
    out0_B_2 c i arg3 harg3 arg4 harg4 arg5 harg5 arg6 harg6 hc0 hc1 hc2 x0 x1 xs = k0_pay4 (k0_pay3 x1 x0 xs) := by
  unfold out0_B_2
  frame_out

/-! ## The arguments, and what the host code hands to the call -/

abbrev a0 : Vec Ideal S8192x1024 .f32 := m ((c.tc : Thread nD τ).loc main_arg0)
abbrev a2 : Vec Ideal S8192x5632 .f32 := m ((c.tc : Thread nD τ).loc main_arg2)

theorem V_v0 : (V m c main_v0 : Vec Ideal S8192x1024 .bf16) = truncf (F := Ideal) .bf16 (a0 m c) bitsLt_bf16_f32 := by
  show StableHlo.after hostOps0 (fun b => m (c, b)) (Proc.devRef .tc main_v0) = _
  simp only [hostOps0]
  after_results_simp <;> rfl
theorem V_v3 : (V m c main_v3 : Vec Ideal S4x2x8192x704 .bf16)
    = truncf (F := Ideal) .bf16 (transpose S4x2x8192x704 [2, 1, 0, 3] (shapeCast S8192x2x4x704 (a2 m c) shapeCasts_S8192x5632_S8192x2x4x704)
      transposes_S8192x2x4x704_S4x2x8192x704_2_1_0_3) bitsLt_bf16_f32 := by
  show StableHlo.after hostOps0 (fun b => m (c, b)) (Proc.devRef .tc main_v3) = _
  simp only [hostOps0]
  after_results_simp <;> rfl

theorem v0_at (t : Fin 8192) (d : Fin 1024) : (V m c main_v0 : Vec Ideal S8192x1024 .bf16) (ix2 t d) = (a0 m c (ix2 t d) : EReal) := by
  rw [V_v0]
  pointwise
theorem v3_at (j : Fin 4) (g : Fin 2) (t : Fin 8192) (k : Fin 704) : (V m c main_v3 : Vec Ideal S4x2x8192x704 .bf16) (ix4 j g t k)
    = (a2 m c (ix2 t ⟨g.val * 2816 + j.val * 704 + k.val, by omega⟩) : EReal) := by
  rw [V_v3]
  pointwise

/-! ## The blocks: point `t` works on columns `(t / 2) * 704 …` and rows `(t % 2) * 4096 …` -/

theorem lt16 (t : Fin cfg0.N) : t.val < 16 := lt_of_lt_of_eq t.isLt N_0
theorem idx0 (t : Fin cfg0.N) : win0_0.index t 0 = t.val % 2 ∧ win0_0.index t 1 = 0 :=
  (by decide +kernel : ∀ t : Fin grid0.N, win0_0.index t 0 = t.val % 2 ∧ win0_0.index t 1 = 0) t
theorem idx1 (t : Fin cfg0.N) : win0_1.index t 0 = t.val / 2 % 4 ∧ win0_1.index t 1 = t.val / 8 ∧ win0_1.index t 2 = t.val % 2 ∧ win0_1.index t 3 = 0 :=
  (by decide +kernel : ∀ t : Fin grid0.N, win0_1.index t 0 = t.val / 2 % 4 ∧ win0_1.index t 1 = t.val / 8 ∧ win0_1.index t 2 = t.val % 2 ∧ win0_1.index t 3 = 0) t

def row (t : Fin cfg0.N) (p : Fin 4096) : Fin 8192 := ⟨t.val % 2 * 4096 + p.val, by omega⟩
def col (t : Fin cfg0.N) (k : Fin 704) : Fin 5632 := ⟨t.val / 2 * 704 + k.val, by have := lt16 t; omega⟩

abbrev bH (t : Fin cfg0.N) : Vec Ideal S4096x1024 .bf16 := iblk m c 0 t
abbrev bD (t : Fin cfg0.N) : Vec Ideal S1x1x4096x704 .bf16 := iblk m c 1 t

theorem bH_at (t : Fin cfg0.N) (p : Fin 4096) (d : Fin 1024) : (bH m c t (ix2 p d) : EReal) = a0 m c (ix2 (row t p) d) := by
  have hi := idx0 t
  rw [← v0_at]
  show iblk m c 0 t _ = _
  unfold iblk
  rw [View.read_apply]
  show V m c main_v0 _ = V m c main_v0 _
  congr 1
  funext ax
  apply Fin.ext
  match ax with
  | ⟨0, _⟩ => show win0_0.index t 0 * 4096 + 1 * p.val = _; rw [hi.1]; show _ = t.val % 2 * 4096 + p.val; omega
  | ⟨1, _⟩ => show win0_0.index t 1 * 1024 + 1 * d.val = _; rw [hi.2]; show _ = d.val; omega
theorem bD_at (t : Fin cfg0.N) (y z : Fin 1) (p : Fin 4096) (k : Fin 704) : (bD m c t (ix4 y z p k) : EReal) = a2 m c (ix2 (row t p) (col t k)) := by
  have hi := idx1 t
  have hl := lt16 t
  have e : col t k = ⟨t.val / 8 * 2816 + t.val / 2 % 4 * 704 + k.val, by omega⟩ := Fin.ext (show t.val / 2 * 704 + k.val = _ by
    show _ = t.val / 8 * 2816 + t.val / 2 % 4 * 704 + k.val; omega)
  rw [e]
  refine Eq.trans ?_ (v3_at m c ⟨t.val / 2 % 4, by omega⟩ ⟨t.val / 8, by omega⟩ (row t p) k)
  show iblk m c 1 t _ = _
  unfold iblk
  rw [View.read_apply]
  show V m c main_v3 _ = V m c main_v3 _
  congr 1
  funext ax
  apply Fin.ext
  match ax with
  | ⟨0, _⟩ => show win0_1.index t 0 * 1 + 1 * y.val = _; rw [hi.1]; show _ = t.val / 2 % 4; omega
  | ⟨1, _⟩ => show win0_1.index t 1 * 1 + 1 * z.val = _; rw [hi.2.1]; show _ = t.val / 8; omega
  | ⟨2, _⟩ => show win0_1.index t 2 * 4096 + 1 * p.val = _; rw [hi.2.2.1]; show _ = t.val % 2 * 4096 + p.val; omega
  | ⟨3, _⟩ => show win0_1.index t 3 * 704 + 1 * k.val = _; rw [hi.2.2.2]; show _ = k.val; omega

/-! ## The product -/

theorem pay_at (x1 y1 : Vec Ideal S1x1x4096x704 .bf16) (x0 y0 : Vec Ideal S4096x1024 .bf16) (z : Fin 1) (a : Fin 704) (b : Fin 1024) :
    k0_pay4 (F := Ideal) (k0_pay3 x1 x0 (k0_pay2 y1 y0)) (ix3 z a b)
      = (∑ p : Fin 4096, (y1 (ix4 0 0 p a) : EReal) * y0 (ix2 p b)) + ∑ p : Fin 4096, (x1 (ix4 0 0 p a) : EReal) * x0 (ix2 p b) := by
  obtain rfl : z = 0 := Subsingleton.elim _ _
  pointwise [k0_pay4, k0_pay3, k0_pay2, k0_pay1]

/-- A sum over the rows is the sum over the first half and the sum over the second. -/
theorem sum_halves (f : Fin 8192 → EReal) : ∑ t, f t = (∑ p : Fin 4096, f ⟨p.val, by omega⟩) + ∑ p : Fin 4096, f ⟨4096 + p.val, by omega⟩ :=
  Fin.sum_univ_add (a := 4096) (b := 4096) f

/-- The gradient: all rows, one column of the cotangent against one column of the inputs. -/
def grad (h : Vec Ideal S8192x1024 .f32) (dh : Vec Ideal S8192x5632 .f32) (n : Fin 8) (a : Fin 704) (b : Fin 1024) : EReal :=
  ∑ t : Fin 8192, (dh (ix2 t ⟨n.val * 704 + a.val, by omega⟩) : EReal) * h (ix2 t b)

theorem G2_at (n : Fin 8) (a : Fin 704) (b : Fin 1024) : G2 m c (ix3 n a b) = grad (a0 m c) (a2 m c) n a b := by
  have hp : pt2Of (ix3 n a b) = 2 * n.val + 1 := by
    show 2 * (1 * (n.val / 1 - 0) + 1 * (a.val / 704 - 0) + 1 * (b.val / 1024 - 0)) + 1 = _
    omega
  have hN : 2 * n.val + 1 < cfg0.N := lt_of_lt_of_eq (show 2 * n.val + 1 < 16 by omega) N_0.symm
  have hN' : 2 * n.val < cfg0.N := by omega
  have hl : loc2Of (ix3 n a b) = ix3 0 a b := by
    funext ax; apply Fin.ext
    match ax with
    | ⟨0, _⟩ => show n.val % 1 = 0; omega
    | ⟨1, _⟩ => show a.val % 704 = a.val; omega
    | ⟨2, _⟩ => show b.val % 1024 = b.val; omega
  have key : G2 m c (ix3 n a b) = (outsAt0 m c (2 * n.val + 1) hN).1 (ix3 0 a b) := by
    unfold G2
    rw [dif_pos (by rw [hp]; exact hN), hl, outsAt0_sweep, fold0_congr m c _ _ _ _ hp]
  rw [key]
  have eB := outsAt0_B m c ⟨2 * n.val + 1, hN⟩ (by show ¬(2 * n.val + 1) % 2 = 0; omega) (by show (2 * n.val + 1) % 2 = 1; omega) (by show (2 * n.val + 1) % 2 = 1; omega)
  have eA := outsAt0_A m c ⟨2 * n.val, hN'⟩ (by show (2 * n.val) % 2 = 0; omega) (by show ¬(2 * n.val) % 2 = 1; omega) (by show ¬(2 * n.val) % 2 = 1; omega)
  rw [show (outsAt0 m c (2 * n.val + 1) hN).1 = _ from congrArg Prod.fst eB, outB]
  rw [show (outsAt0 m c (2 * n.val + 1 - 1) _).2 = _ from congrArg Prod.snd eA, soutA]
  refine (pay_at (bD m c ⟨2 * n.val + 1, hN⟩) (bD m c ⟨2 * n.val, hN'⟩) (bH m c ⟨2 * n.val + 1, hN⟩) (bH m c ⟨2 * n.val, hN'⟩) 0 a b).trans ?_
  unfold grad
  rw [sum_halves]
  refine congrArg₂ (· + ·) (Finset.sum_congr rfl fun p _ => ?_) (Finset.sum_congr rfl fun p _ => ?_)
  · rw [bD_at, bH_at]
    have e1 : row ⟨2 * n.val, hN'⟩ p = ⟨p.val, by omega⟩ := Fin.ext (show 2 * n.val % 2 * 4096 + p.val = p.val by omega)
    have e2 : col ⟨2 * n.val, hN'⟩ a = ⟨n.val * 704 + a.val, by omega⟩ := Fin.ext (show 2 * n.val / 2 * 704 + a.val = n.val * 704 + a.val by omega)
    rw [e1, e2]
  · rw [bD_at, bH_at]
    have e1 : row ⟨2 * n.val + 1, hN⟩ p = ⟨4096 + p.val, by omega⟩ := Fin.ext (show (2 * n.val + 1) % 2 * 4096 + p.val = 4096 + p.val by omega)
    have e2 : col ⟨2 * n.val + 1, hN⟩ a = ⟨n.val * 704 + a.val, by omega⟩ := Fin.ext (show (2 * n.val + 1) / 2 * 704 + a.val = n.val * 704 + a.val by omega)
    rw [e1, e2]

end Cert.Kernel2Ideal.Win

/-! ## The plain backward pass -/

namespace Cert.Reference2Ideal.Win

open Cert.Reference2Ideal Cert.Reference2Ideal.Gen Cert.Reference2Ideal.Read
open Idealize.ShloMosaic Idealize.ShloMosaic.TcCoe Idealize.ShloMosaic.Tactic
open Idealize.SL.Sem

theorem ref_at (x0 : (⟨S8192x1024, .f32⟩ : BufTy).Contents (Elt Ideal)) (x2 : (⟨S8192x5632, .f32⟩ : BufTy).Contents (Elt Ideal))
    (n : Fin 8) (a : Fin 704) (b : Fin 1024) : val_main_v5 (F := Ideal) x0 x2 (ix3 n a b) = Cert.Kernel2Ideal.Win.grad x0 x2 n a b := by
  have h : val_main_v5 (F := Ideal) x0 x2 (ix3 n a b) = val_main_v1 (F := Ideal) x0 x2 (ix2 ⟨n.val * 704 + a.val, by omega⟩ b) := by
    unfold val_main_v5 val_main_v4 val_main_v3 val_main_v2
    generalize val_main_v1 (F := Ideal) x0 x2 = q
    pointwise
  rw [h]
  unfold Cert.Kernel2Ideal.Win.grad val_main_v1
  pointwise

/-- The plain backward pass runs and leaves its arguments; it declares no semaphore. -/
theorem frame_reference : Cert.quiescent_Reference2Ideal := by
  intro m ρ _
  exact (θ_run Cert.Reference2Ideal.defs _ _).mono (fun r h => ⟨fun c => (h c).2, Idealize.ShloMosaic.sem_eq_zero_of_no_sems (by decide) r.2⟩)
    (Cert.Reference2Ideal.Value.run (F := Ideal) m ρ)

/-- The call's result is the plain backward pass's. -/
theorem value : Cert.algebraic_Kernel2Ideal_Reference2Ideal := by
  intro m ρ m' ρ' _ hargs
  refine ⟨fun c => Cert.Kernel2Ideal.Value.G2 m c, Cert.Kernel2Ideal.Value.run (F := Ideal) m ρ, ?_⟩
  refine (θ_run Cert.Reference2Ideal.defs _ _).mono (fun r h c => ⟨(h c).1.trans ?_, (h c).2⟩) (Cert.Reference2Ideal.Value.run (F := Ideal) m' ρ')
  obtain ⟨g0, g1, g2⟩ := hargs c
  rw [val_main_v5_eq, g0, g2]
  funext i
  obtain ⟨n, a, b, rfl⟩ : ∃ (n : Fin 8) (a : Fin 704) (b : Fin 1024), i = ix3 n a b := ⟨i 0, i 1, i 2, eq_ix3 i⟩
  exact (ref_at _ _ n a b).trans (Cert.Kernel2Ideal.Win.G2_at m c n a b).symm

end Cert.Reference2Ideal.Win

end
-- ==== Proof.WoutVal.lean ====
/- The gradient of the feed-forward layer's second weight: what each pair of grid points computes, as a sum over all
   rows, and the plain backward pass read at an index. A block of 704 columns takes two points, 4096 rows each. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.Wout

open Cert.Kernel3Ideal Cert.Kernel3Ideal.Gen Cert.Kernel3Ideal.Value
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## What a point leaves -/

/-- The first point of a pair leaves its product in the accumulator. -/
theorem soutA (i : grid0.Coords) (arg2 : Memref sig .tc .vmem S1x4096x704 .bf16) (harg2 : arg2.IsWhole) (arg3 : Memref sig .tc .vmem S4096x1024 .bf16) (harg3 : arg3.IsWhole) (arg4 : Memref sig .tc .vmem S2x352x1024 .bf16) (harg4 : arg4.IsWhole) (arg5 : Memref sig .tc .vmem S704x1024 .f32) (harg5 : arg5.IsWhole) (hc0 : cond0_0 i) (hc1 : ¬cond0_1 i) (hc2 : ¬cond0_2 i)
    (x0 : Vec Ideal S1x4096x704 .bf16) (x1 : Vec Ideal S4096x1024 .bf16) :
    sout0_A_0 c i arg2 harg2 arg3 harg3 arg4 harg4 arg5 harg5 hc0 hc1 hc2 x0 x1 = k0_pay2 x0 x1 := by
  unfold sout0_A_0
  frame_out

/-- The second point adds its product and rounds. -/
theorem outB (i : grid0.Coords) (arg2 : Memref sig .tc .vmem S1x4096x704 .bf16) (harg2 : arg2.IsWhole) (arg3 : Memref sig .tc .vmem S4096x1024 .bf16) (harg3 : arg3.IsWhole) (arg4 : Memref sig .tc .vmem S2x352x1024 .bf16) (harg4 : arg4.IsWhole) (arg5 : Memref sig .tc .vmem S704x1024 .f32) (harg5 : arg5.IsWhole) (hc0 : ¬cond0_0 i) (hc1 : cond0_1 i) (hc2 : cond0_2 i)
    (x0 : Vec Ideal S1x4096x704 .bf16) (x1 : Vec Ideal S4096x1024 .bf16) (xs : Vec Ideal S704x1024 .f32) :
    out0_B_2 c i arg2 harg2 arg3 harg3 arg4 harg4 arg5 harg5 hc0 hc1 hc2 x0 x1 xs = k0_pay4 (k0_pay3 x0 x1 xs) := by
  unfold out0_B_2
  frame_out

/-! ## The arguments, and what the host code hands to the call -/

abbrev a0 : Vec Ideal S8192x2816 .f32 := m ((c.tc : Thread nD τ).loc main_arg0)
abbrev a2 : Vec Ideal S8192x1024 .f32 := m ((c.tc : Thread nD τ).loc main_arg2)

abbrev pH : EReal := Ideal.ofBits .f32 0x3F000000#32

theorem V_v2 : (V m c main_v2 : Vec Ideal S4x8192x704 .bf16) = truncf (F := Ideal) .bf16 (transpose S4x8192x704 [1, 0, 2]
    (shapeCast S8192x4x704 (a0 m c) shapeCasts_S8192x2816_S8192x4x704) transposes_S8192x4x704_S4x8192x704_1_0_2) bitsLt_bf16_f32 := by
  show StableHlo.after hostOps0 (fun b => m (c, b)) (Proc.devRef .tc main_v2) = _
  simp only [hostOps0]
  after_results_simp <;> rfl
theorem V_v5 : (V m c main_v5 : Vec Ideal S8192x1024 .bf16)
    = truncf (F := Ideal) .bf16 (mulf (broadcastInDim S8192x1024 ![] bcast_S_S8192x1024 (constant (F := Ideal) S_ .f32 0x3F000000#32)) (a2 m c)) bitsLt_bf16_f32 := by
  show StableHlo.after hostOps0 (fun b => m (c, b)) (Proc.devRef .tc main_v5) = _
  simp only [hostOps0]
  after_results_simp <;> rfl

theorem v2_at (j : Fin 4) (t : Fin 8192) (k : Fin 704) : (V m c main_v2 : Vec Ideal S4x8192x704 .bf16) (ix3 j t k)
    = (a0 m c (ix2 t ⟨j.val * 704 + k.val, by omega⟩) : EReal) := by
  rw [V_v2]
  pointwise
theorem v5_at (t : Fin 8192) (d : Fin 1024) : (V m c main_v5 : Vec Ideal S8192x1024 .bf16) (ix2 t d) = pH * (a2 m c (ix2 t d) : EReal) := by
  rw [V_v5]
  pointwise

/-! ## The blocks: point `t` works on columns `(t / 2) * 704 …` and rows `(t % 2) * 4096 …` -/

theorem lt8 (t : Fin cfg0.N) : t.val < 8 := lt_of_lt_of_eq t.isLt N_0
theorem idx0 (t : Fin cfg0.N) : win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0) t
theorem idx1 (t : Fin cfg0.N) : win0_1.index t 0 = t.val % 2 ∧ win0_1.index t 1 = 0 :=
  (by decide +kernel : ∀ t : Fin grid0.N, win0_1.index t 0 = t.val % 2 ∧ win0_1.index t 1 = 0) t

def row (t : Fin cfg0.N) (p : Fin 4096) : Fin 8192 := ⟨t.val % 2 * 4096 + p.val, by omega⟩
def col (t : Fin cfg0.N) (k : Fin 704) : Fin 2816 := ⟨t.val / 2 * 704 + k.val, by have := lt8 t; omega⟩

abbrev bA (t : Fin cfg0.N) : Vec Ideal S1x4096x704 .bf16 := iblk m c 0 t
abbrev bD (t : Fin cfg0.N) : Vec Ideal S4096x1024 .bf16 := iblk m c 1 t

theorem bA_at (t : Fin cfg0.N) (z : Fin 1) (p : Fin 4096) (k : Fin 704) : (bA m c t (ix3 z p k) : EReal) = a0 m c (ix2 (row t p) (col t k)) := by
  have hi := idx0 t
  have hl := lt8 t
  refine Eq.trans ?_ (v2_at m c ⟨t.val / 2, by omega⟩ (row t p) k)
  show iblk m c 0 t _ = _
  unfold iblk
  rw [View.read_apply]
  show V m c main_v2 _ = V m c main_v2 _
  congr 1
  funext ax
  apply Fin.ext
  match ax with
  | ⟨0, _⟩ => show win0_0.index t 0 * 1 + 1 * z.val = _; rw [hi.1]; show _ = t.val / 2; omega
  | ⟨1, _⟩ => show win0_0.index t 1 * 4096 + 1 * p.val = _; rw [hi.2.1]; show _ = t.val % 2 * 4096 + p.val; omega
  | ⟨2, _⟩ => show win0_0.index t 2 * 704 + 1 * k.val = _; rw [hi.2.2]; show _ = k.val; omega
theorem bD_at (t : Fin cfg0.N) (p : Fin 4096) (d : Fin 1024) : (bD m c t (ix2 p d) : EReal) = pH * a2 m c (ix2 (row t p) d) := by
  have hi := idx1 t
  rw [← v5_at]
  show iblk m c 1 t _ = _
  unfold iblk
  rw [View.read_apply]
  show V m c main_v5 _ = V m c main_v5 _
  congr 1
  funext ax
  apply Fin.ext
  match ax with
  | ⟨0, _⟩ => show win0_1.index t 0 * 4096 + 1 * p.val = _; rw [hi.1]; show _ = t.val % 2 * 4096 + p.val; omega
  | ⟨1, _⟩ => show win0_1.index t 1 * 1024 + 1 * d.val = _; rw [hi.2]; show _ = d.val; omega

/-! ## The product -/

theorem pay_at (x0 y0 : Vec Ideal S1x4096x704 .bf16) (x1 y1 : Vec Ideal S4096x1024 .bf16) (u : Fin 2) (a : Fin 352) (b : Fin 1024) :
    k0_pay4 (F := Ideal) (k0_pay3 x0 x1 (k0_pay2 y0 y1)) (ix3 u a b)
      = (∑ p : Fin 4096, (y0 (ix3 0 p ⟨u.val * 352 + a.val, by omega⟩) : EReal) * y1 (ix2 p b))
        + ∑ p : Fin 4096, (x0 (ix3 0 p ⟨u.val * 352 + a.val, by omega⟩) : EReal) * x1 (ix2 p b) := by
  pointwise [k0_pay4, k0_pay3, k0_pay2, k0_pay1]

/-- A sum over the rows is the sum over the first half and the sum over the second. -/
theorem sum_halves (f : Fin 8192 → EReal) : ∑ t, f t = (∑ p : Fin 4096, f ⟨p.val, by omega⟩) + ∑ p : Fin 4096, f ⟨4096 + p.val, by omega⟩ :=
  Fin.sum_univ_add (a := 4096) (b := 4096) f

/-- The gradient: all rows, one column of the activations against one column of the halved cotangent. -/
def grad (h : Vec Ideal S8192x2816 .f32) (dy : Vec Ideal S8192x1024 .f32) (n : Fin 8) (a : Fin 352) (b : Fin 1024) : EReal :=
  ∑ t : Fin 8192, (h (ix2 t ⟨n.val * 352 + a.val, by omega⟩) : EReal) * (pH * dy (ix2 t b))

theorem G2_at (n : Fin 8) (a : Fin 352) (b : Fin 1024) : G2 m c (ix3 n a b) = grad (a0 m c) (a2 m c) n a b := by
  have hp : pt2Of (ix3 n a b) = 2 * (n.val / 2) + 1 := by
    show 2 * (1 * (n.val / 2 - 0) + 1 * (a.val / 352 - 0) + 1 * (b.val / 1024 - 0)) + 1 = _
    omega
  have hN : 2 * (n.val / 2) + 1 < cfg0.N := lt_of_lt_of_eq (show 2 * (n.val / 2) + 1 < 8 by omega) N_0.symm
  have hN' : 2 * (n.val / 2) < cfg0.N := by omega
  have hl : loc2Of (ix3 n a b) = ix3 ⟨n.val % 2, by omega⟩ a b := by
    funext ax; apply Fin.ext
    match ax with
    | ⟨0, _⟩ => rfl
    | ⟨1, _⟩ => show a.val % 352 = a.val; omega
    | ⟨2, _⟩ => show b.val % 1024 = b.val; omega
  have key : G2 m c (ix3 n a b) = (outsAt0 m c (2 * (n.val / 2) + 1) hN).1 (ix3 ⟨n.val % 2, by omega⟩ a b) := by
    unfold G2
    rw [dif_pos (by rw [hp]; exact hN), hl, outsAt0_sweep, fold0_congr m c _ _ _ _ hp]
  rw [key]
  have eB := outsAt0_B m c ⟨2 * (n.val / 2) + 1, hN⟩ (by show ¬(2 * (n.val / 2) + 1) % 2 = 0; omega) (by show (2 * (n.val / 2) + 1) % 2 = 1; omega) (by show (2 * (n.val / 2) + 1) % 2 = 1; omega)
  have eA := outsAt0_A m c ⟨2 * (n.val / 2), hN'⟩ (by show (2 * (n.val / 2)) % 2 = 0; omega) (by show ¬(2 * (n.val / 2)) % 2 = 1; omega) (by show ¬(2 * (n.val / 2)) % 2 = 1; omega)
  rw [show (outsAt0 m c (2 * (n.val / 2) + 1) hN).1 = _ from congrArg Prod.fst eB, outB]
  rw [show (outsAt0 m c (2 * (n.val / 2) + 1 - 1) _).2 = _ from congrArg Prod.snd eA, soutA]
  refine (pay_at (bA m c ⟨2 * (n.val / 2) + 1, hN⟩) (bA m c ⟨2 * (n.val / 2), hN'⟩) (bD m c ⟨2 * (n.val / 2) + 1, hN⟩) (bD m c ⟨2 * (n.val / 2), hN'⟩) ⟨n.val % 2, by omega⟩ a b).trans ?_
  unfold grad
  rw [sum_halves]
  refine congrArg₂ (· + ·) (Finset.sum_congr rfl fun p _ => ?_) (Finset.sum_congr rfl fun p _ => ?_)
  · rw [bD_at, bA_at]
    have e1 : row ⟨2 * (n.val / 2), hN'⟩ p = ⟨p.val, by omega⟩ := Fin.ext (show 2 * (n.val / 2) % 2 * 4096 + p.val = p.val by omega)
    have e2 : col ⟨2 * (n.val / 2), hN'⟩ ⟨n.val % 2 * 352 + a.val, by omega⟩ = ⟨n.val * 352 + a.val, by omega⟩ :=
      Fin.ext (show 2 * (n.val / 2) / 2 * 704 + (n.val % 2 * 352 + a.val) = n.val * 352 + a.val by omega)
    rw [e1, e2]
  · rw [bD_at, bA_at]
    have e1 : row ⟨2 * (n.val / 2) + 1, hN⟩ p = ⟨4096 + p.val, by omega⟩ := Fin.ext (show (2 * (n.val / 2) + 1) % 2 * 4096 + p.val = 4096 + p.val by omega)
    have e2 : col ⟨2 * (n.val / 2) + 1, hN⟩ ⟨n.val % 2 * 352 + a.val, by omega⟩ = ⟨n.val * 352 + a.val, by omega⟩ :=
      Fin.ext (show (2 * (n.val / 2) + 1) / 2 * 704 + (n.val % 2 * 352 + a.val) = n.val * 352 + a.val by omega)
    rw [e1, e2]

end Cert.Kernel3Ideal.Wout

/-! ## The plain backward pass -/

namespace Cert.Reference3Ideal.Wout

open Cert.Reference3Ideal Cert.Reference3Ideal.Gen Cert.Reference3Ideal.Read
open Idealize.ShloMosaic Idealize.ShloMosaic.TcCoe Idealize.ShloMosaic.Tactic
open Idealize.SL.Sem

theorem ref_at (x0 : (⟨S8192x2816, .f32⟩ : BufTy).Contents (Elt Ideal)) (x2 : (⟨S8192x1024, .f32⟩ : BufTy).Contents (Elt Ideal))
    (n : Fin 8) (a : Fin 352) (b : Fin 1024) : val_main_v8 (F := Ideal) x0 x2 (ix3 n a b) = Cert.Kernel3Ideal.Wout.grad x0 x2 n a b := by
  have h : val_main_v8 (F := Ideal) x0 x2 (ix3 n a b) = val_main_v5 (F := Ideal) x0 x2 (ix2 b ⟨n.val * 352 + a.val, by omega⟩) := by
    unfold val_main_v8 val_main_v7 val_main_v6
    generalize val_main_v5 (F := Ideal) x0 x2 = q
    pointwise
  have h4 : ∀ (t : Fin 8192), val_main_v4 (F := Ideal) x2 (ix2 t b) = Cert.Kernel3Ideal.Wout.pH * (x2 (ix2 t b) : EReal) := by
    intro t
    unfold val_main_v4 val_main_v3 val_main_cst_0
    pointwise
  have h5 : val_main_v5 (F := Ideal) x0 x2 (ix2 b ⟨n.val * 352 + a.val, by omega⟩)
      = ∑ t : Fin 8192, (val_main_v4 (F := Ideal) x2 (ix2 t b) : EReal) * x0 (ix2 t ⟨n.val * 352 + a.val, by omega⟩) := by
    unfold val_main_v5
    generalize val_main_v4 (F := Ideal) x2 = q
    pointwise
  rw [h, h5]
  unfold Cert.Kernel3Ideal.Wout.grad
  refine Finset.sum_congr rfl fun t _ => ?_
  rw [h4, mul_comm]

/-- The plain backward pass runs and leaves its arguments; it declares no semaphore. -/
theorem frame_reference : Cert.quiescent_Reference3Ideal := by
  intro m ρ _
  exact (θ_run Cert.Reference3Ideal.defs _ _).mono (fun r h => ⟨fun c => (h c).2, Idealize.ShloMosaic.sem_eq_zero_of_no_sems (by decide) r.2⟩)
    (Cert.Reference3Ideal.Value.run (F := Ideal) m ρ)

/-- The call's result is the plain backward pass's. -/
theorem value : Cert.algebraic_Kernel3Ideal_Reference3Ideal := by
  intro m ρ m' ρ' _ hargs
  refine ⟨fun c => Cert.Kernel3Ideal.Value.G2 m c, Cert.Kernel3Ideal.Value.run (F := Ideal) m ρ, ?_⟩
  refine (θ_run Cert.Reference3Ideal.defs _ _).mono (fun r h c => ⟨(h c).1.trans ?_, (h c).2⟩) (Cert.Reference3Ideal.Value.run (F := Ideal) m' ρ')
  obtain ⟨g0, g1, g2⟩ := hargs c
  rw [val_main_v8_eq, g0, g2]
  funext i
  obtain ⟨n, a, b, rfl⟩ : ∃ (n : Fin 8) (a : Fin 352) (b : Fin 1024), i = ix3 n a b := ⟨i 0, i 1, i 2, eq_ix3 i⟩
  exact (ref_at _ _ n a b).trans (Cert.Kernel3Ideal.Wout.G2_at m c n a b).symm

end Cert.Reference3Ideal.Wout

end
-- ==== Proof.FwdVal.lean ====
/- The half step's forward call: what each pair of grid points computes, and the plain half step read at an index.
   A tile of 512 rows takes two points; each point works on two of the four blocks of 704 columns. -/
module

public import proofs.«01_k».proof.Defs
public import proofs.«01_k».proof.Proof.FfnSpec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Kernel4Ideal.Fwd

open Cert.Kernel4Ideal Cert.Kernel4Ideal.Gen Cert.Kernel4Ideal.Value
open Idealize.ShloMosaic Idealize.ShloMosaic.TcCoe Idealize.ShloMosaic.Tactic Idealize.ShloMosaic.StableHlo
open Idealize.SL.Sem
open Idealize.ShloMosaic.Pipeline (Dat Cfg Window)

/-! ## Parts of blocks -/

/-- The first and the second column block of a pair of weight blocks. -/
def w0 (x : Vec Ideal S2x1024x704 .bf16) : Vec Ideal S1x1024x704 .bf16 :=
  View.ld x (Rect.unit (s := S2x1024x704) ![0, 0, 0] S1x1024x704.size inb_S2x1024x704_S1x1024x704_0_0_0)
def w1 (x : Vec Ideal S2x1024x704 .bf16) : Vec Ideal S1x1024x704 .bf16 :=
  View.ld x (Rect.unit (s := S2x1024x704) ![1, 0, 0] S1x1024x704.size inb_S2x1024x704_S1x1024x704_1_0_0)
/-- The first and the last two of four row blocks of the second weight. -/
def o0 (x : Vec Ideal S4x352x1024 .bf16) : Vec Ideal S2x352x1024 .bf16 :=
  View.ld x (Rect.unit (s := S4x352x1024) ![0, 0, 0] S2x352x1024.size inb_S4x352x1024_S2x352x1024_0_0_0)
def o1 (x : Vec Ideal S4x352x1024 .bf16) : Vec Ideal S2x352x1024 .bf16 :=
  View.ld x (Rect.unit (s := S4x352x1024) ![2, 0, 0] S2x352x1024.size inb_S4x352x1024_S2x352x1024_2_0_0)

/-- The accumulator after one point: before it `acc`, over normalised rows `xb`. -/
abbrev accV (xb : Vec Ideal S512x1024 .bf16) (x2 x3 : Vec Ideal S2x1024x704 .bf16) (x4 : Vec Ideal S4x352x1024 .bf16) (acc : Vec Ideal S512x1024 .f32) :
    Vec Ideal S512x1024 .f32 :=
  k0_pay5 xb (k0_pay13 xb (w0 x2) (w0 x3) (o0 x4)) (k0_pay14 (w1 x2)) (w1 x3) (o1 x4) acc

/-- The rectangles of the four parts of a block of pre-activations: column block `u`, gate or up. -/
abbrev r00 : Rect S2x2x512x704 := Rect.unit (s := S2x2x512x704) ![0, 0, 0, 0] S1x1x512x704.size inb_S2x2x512x704_S1x1x512x704_0_0_0_0
abbrev r01 : Rect S2x2x512x704 := Rect.unit (s := S2x2x512x704) ![0, 1, 0, 0] S1x1x512x704.size inb_S2x2x512x704_S1x1x512x704_0_1_0_0
abbrev r10 : Rect S2x2x512x704 := Rect.unit (s := S2x2x512x704) ![1, 0, 0, 0] S1x1x512x704.size inb_S2x2x512x704_S1x1x512x704_1_0_0_0
abbrev r11 : Rect S2x2x512x704 := Rect.unit (s := S2x2x512x704) ![1, 1, 0, 0] S1x1x512x704.size inb_S2x2x512x704_S1x1x512x704_1_1_0_0

/-- A block of pre-activations made of its four parts. -/
def quad (p q r s : Vec Ideal S1x1x512x704 .bf16) : Vec Ideal S2x2x512x704 .bf16 :=
  View.canon [(⟨r11, s⟩ : View.Piece (Elt Ideal) S2x2x512x704 .bf16), ⟨r10, r⟩, ⟨r01, q⟩, ⟨r00, p⟩]
abbrev guV (xb : Vec Ideal S512x1024 .bf16) (x2 x3 : Vec Ideal S2x1024x704 .bf16) : Vec Ideal S2x2x512x704 .bf16 :=
  quad (k0_pay11 xb (w0 x2)) (k0_pay12 xb (w0 x3)) (k0_pay3 xb (k0_pay14 (w1 x2))) (k0_pay4 xb (w1 x3))

/-! ## What a point leaves -/

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S2x1024x704 .bf16) (harg4 : arg4.IsWhole) (arg5 : Memref sig .tc .vmem S2x1024x704 .bf16) (harg5 : arg5.IsWhole) (arg6 : Memref sig .tc .vmem S4x352x1024 .bf16) (harg6 : arg6.IsWhole) (arg7 : Memref sig .tc .vmem S512x1024 .f32) (harg7 : arg7.IsWhole) (arg8 : Memref sig .tc .vmem S2x2x512x704 .bf16) (harg8 : arg8.IsWhole) (arg9 : Memref sig .tc .vmem S512x1024 .bf16) (harg9 : arg9.IsWhole) (arg10 : Memref sig .tc .vmem S512x1024 .f32) (harg10 : arg10.IsWhole)
  (x0 : Vec Ideal S512x1024 .f32) (x1 : Vec Ideal S1x1024 .f32) (x2 : Vec Ideal S2x1024x704 .bf16) (x3 : Vec Ideal S2x1024x704 .bf16) (x4 : Vec Ideal S4x352x1024 .bf16) (xs0 : Vec Ideal S512x1024 .bf16) (xs1 : Vec Ideal S512x1024 .f32)

theorem soutA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = k0_pay7 x0 x1 := by
  unfold sout0_A_0
  frame_out
theorem soutA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = accV (k0_pay7 x0 x1) x2 x3 x4 (k0_pay8 (F := Ideal)) := by
  unfold sout0_A_1 accV w0 w1 o0 o1
  frame_out
theorem outA6 (hc0 : cond0_0 i) (hc1 : ¬cond0_1 i) :
    out0_A_6 c i arg2 harg2 arg3 harg3 arg4 harg4 arg5 harg5 arg6 harg6 arg7 harg7 arg8 harg8 arg9 harg9 arg10 harg10 hc0 hc1 x0 x1 x2 x3 x4 = guV (k0_pay7 x0 x1) x2 x3 := by
  unfold out0_A_6 guV quad w0 w1
  frame_out
theorem outB6 (hc0 : ¬cond0_0 i) (hc1 : cond0_1 i) :
    out0_B_6 c i arg2 harg2 arg3 harg3 arg4 harg4 arg5 harg5 arg6 harg6 arg7 harg7 arg8 harg8 arg9 harg9 arg10 harg10 hc0 hc1 x0 x1 x2 x3 x4 xs0 xs1 = guV xs0 x2 x3 := by
  unfold out0_B_6 guV quad w0 w1
  frame_out
theorem outB5 (hc0 : ¬cond0_0 i) (hc1 : cond0_1 i) :
    out0_B_5 c i arg2 harg2 arg3 harg3 arg4 harg4 arg5 harg5 arg6 harg6 arg7 harg7 arg8 harg8 arg9 harg9 arg10 harg10 hc0 hc1 x0 x1 x2 x3 x4 xs0 xs1 = k0_pay6 x0 (accV xs0 x2 x3 x4 xs1) := by
  unfold out0_B_5 accV w0 w1 o0 o1
  frame_out
end

/-! ## The values of one point -/

abbrev pN : EReal := Ideal.ofBits .f32 0x44800000#32
abbrev pE : EReal := Ideal.ofBits .f32 0x358637BD#32
abbrev pH : EReal := Ideal.ofBits .f32 0x3F000000#32

theorem pay7_at (x : Vec Ideal S512x1024 .f32) (nw : Vec Ideal S1x1024 .f32) (p : Fin 512) (d : Fin 1024) :
    k0_pay7 x nw (ix2 p d) = (x (ix2 p d) : EReal) * Ideal.rsqrt (Ideal.div (∑ d : Fin 1024, (x (ix2 p d) : EReal) * x (ix2 p d)) pN + pE) * nw (ix2 0 d) := by
  pointwise [k0_pay7]
theorem pay8_at (i : S512x1024.Idx) : (k0_pay8 (F := Ideal)) i = (0 : EReal) := by
  pointwise [k0_pay8]
theorem pay6_at (x y : Vec Ideal S512x1024 .f32) (p : Fin 512) (d : Fin 1024) :
    k0_pay6 x y (ix2 p d) = (x (ix2 p d) : EReal) + pH * y (ix2 p d) := by
  pointwise [k0_pay6]

/-- One column of a product of the normalised rows with a weight block. -/
abbrev dotV (xb : Vec Ideal S512x1024 .bf16) (x : Vec Ideal S2x1024x704 .bf16) (u : Fin 2) (p : Fin 512) (k : Fin 704) : EReal :=
  ∑ d : Fin 1024, (xb (ix2 p d) : EReal) * x (ix3 u d k)

theorem pay9_at (xb : Vec Ideal S512x1024 .bf16) (x : Vec Ideal S2x1024x704 .bf16) (p : Fin 512) (k : Fin 704) :
    k0_pay9 xb (w0 x) (ix2 p k) = dotV xb x 0 p k := by
  pointwise [k0_pay9, w0]
theorem pay10_at (xb : Vec Ideal S512x1024 .bf16) (x : Vec Ideal S2x1024x704 .bf16) (p : Fin 512) (k : Fin 704) :
    k0_pay10 xb (w0 x) (ix2 p k) = dotV xb x 0 p k := by
  pointwise [k0_pay10, w0]
theorem pay1_at (xb : Vec Ideal S512x1024 .bf16) (x : Vec Ideal S2x1024x704 .bf16) (p : Fin 512) (k : Fin 704) :
    k0_pay1 xb (k0_pay14 (w1 x)) (ix2 p k) = dotV xb x 1 p k := by
  pointwise [k0_pay1, k0_pay14, w1]
theorem pay2_at (xb : Vec Ideal S512x1024 .bf16) (x : Vec Ideal S2x1024x704 .bf16) (p : Fin 512) (k : Fin 704) :
    k0_pay2 xb (w1 x) (ix2 p k) = dotV xb x 1 p k := by
  pointwise [k0_pay2, w1]

/-- The activation made of a gate column and an up column. -/
abbrev actS (g u : EReal) : EReal := g * Ideal.logistic g * u

theorem pay13_at (xb : Vec Ideal S512x1024 .bf16) (x2 x3 : Vec Ideal S2x1024x704 .bf16) (x4 : Vec Ideal S4x352x1024 .bf16) (p : Fin 512) (e : Fin 1024) :
    k0_pay13 xb (w0 x2) (w0 x3) (o0 x4) (ix2 p e)
      = ∑ k : Fin 704, actS (dotV xb x2 0 p k) (dotV xb x3 0 p k) * x4 (ix3 ⟨k.val / 352, by omega⟩ ⟨k.val % 352, by omega⟩ e) := by
  simp only [← pay9_at xb x2, ← pay10_at xb x3]
  unfold k0_pay13
  generalize k0_pay9 xb (w0 x2) = g
  generalize k0_pay10 xb (w0 x3) = u
  pointwise [o0]

theorem accV_at (xb : Vec Ideal S512x1024 .bf16) (x2 x3 : Vec Ideal S2x1024x704 .bf16) (x4 : Vec Ideal S4x352x1024 .bf16) (acc : Vec Ideal S512x1024 .f32) (p : Fin 512) (e : Fin 1024) :
    accV xb x2 x3 x4 acc (ix2 p e) = (acc (ix2 p e) : EReal)
      + (∑ k : Fin 704, actS (dotV xb x2 0 p k) (dotV xb x3 0 p k) * x4 (ix3 ⟨k.val / 352, by omega⟩ ⟨k.val % 352, by omega⟩ e)
        + ∑ k : Fin 704, actS (dotV xb x2 1 p k) (dotV xb x3 1 p k) * x4 (ix3 ⟨2 + k.val / 352, by omega⟩ ⟨k.val % 352, by omega⟩ e)) := by
  rw [← pay13_at]
  simp only [← pay1_at xb x2, ← pay2_at xb x3]
  unfold accV k0_pay5
  generalize k0_pay13 xb (w0 x2) (w0 x3) (o0 x4) = h
  generalize k0_pay1 xb (k0_pay14 (w1 x2)) = g
  generalize k0_pay2 xb (w1 x3) = u
  pointwise [o1]

theorem pay11_at (xb : Vec Ideal S512x1024 .bf16) (x : Vec Ideal S2x1024x704 .bf16) (a b : Fin 1) (p : Fin 512) (k : Fin 704) :
    k0_pay11 xb (w0 x) (ix4 a b p k) = dotV xb x 0 p k := by
  rw [← pay9_at]
  unfold k0_pay11
  generalize k0_pay9 xb (w0 x) = g
  pointwise
theorem pay12_at (xb : Vec Ideal S512x1024 .bf16) (x : Vec Ideal S2x1024x704 .bf16) (a b : Fin 1) (p : Fin 512) (k : Fin 704) :
    k0_pay12 xb (w0 x) (ix4 a b p k) = dotV xb x 0 p k := by
  rw [← pay10_at]
  unfold k0_pay12
  generalize k0_pay10 xb (w0 x) = g
  pointwise
theorem pay3_at (xb : Vec Ideal S512x1024 .bf16) (x : Vec Ideal S2x1024x704 .bf16) (a b : Fin 1) (p : Fin 512) (k : Fin 704) :
    k0_pay3 xb (k0_pay14 (w1 x)) (ix4 a b p k) = dotV xb x 1 p k := by
  rw [← pay1_at]
  unfold k0_pay3
  generalize k0_pay1 xb (k0_pay14 (w1 x)) = g
  pointwise
theorem pay4_at (xb : Vec Ideal S512x1024 .bf16) (x : Vec Ideal S2x1024x704 .bf16) (a b : Fin 1) (p : Fin 512) (k : Fin 704) :
    k0_pay4 xb (w1 x) (ix4 a b p k) = dotV xb x 1 p k := by
  rw [← pay2_at]
  unfold k0_pay4
  generalize k0_pay2 xb (w1 x) = g
  pointwise

/-! ## A block of pre-activations read at an index -/

theorem emb00 (p : Fin 512) (k : Fin 704) : r00.emb (ix4 0 0 p k : S1x1x512x704.Idx) = (ix4 0 0 p k : S2x2x512x704.Idx) := by
  funext ax
  apply Fin.ext
  match ax with
  | ⟨0, _⟩ => rfl
  | ⟨1, _⟩ => rfl
  | ⟨2, _⟩ => show 0 + 1 * p.val = p.val; omega
  | ⟨3, _⟩ => show 0 + 1 * k.val = k.val; omega
theorem emb01 (p : Fin 512) (k : Fin 704) : r01.emb (ix4 0 0 p k : S1x1x512x704.Idx) = (ix4 0 1 p k : S2x2x512x704.Idx) := by
  funext ax
  apply Fin.ext
  match ax with
  | ⟨0, _⟩ => rfl
  | ⟨1, _⟩ => rfl
  | ⟨2, _⟩ => show 0 + 1 * p.val = p.val; omega
  | ⟨3, _⟩ => show 0 + 1 * k.val = k.val; omega
theorem emb10 (p : Fin 512) (k : Fin 704) : r10.emb (ix4 0 0 p k : S1x1x512x704.Idx) = (ix4 1 0 p k : S2x2x512x704.Idx) := by
  funext ax
  apply Fin.ext
  match ax with
  | ⟨0, _⟩ => rfl
  | ⟨1, _⟩ => rfl
  | ⟨2, _⟩ => show 0 + 1 * p.val = p.val; omega
  | ⟨3, _⟩ => show 0 + 1 * k.val = k.val; omega
theorem emb11 (p : Fin 512) (k : Fin 704) : r11.emb (ix4 0 0 p k : S1x1x512x704.Idx) = (ix4 1 1 p k : S2x2x512x704.Idx) := by
  funext ax
  apply Fin.ext
  match ax with
  | ⟨0, _⟩ => rfl
  | ⟨1, _⟩ => rfl
  | ⟨2, _⟩ => show 0 + 1 * p.val = p.val; omega
  | ⟨3, _⟩ => show 0 + 1 * k.val = k.val; omega
theorem off11_10 (p : Fin 512) (k : Fin 704) : (ix4 1 0 p k : S2x2x512x704.Idx) ∉ r11.set := by
  rw [Rect.mem_set_unit]
  intro h
  have h1 : 1 ≤ 0 := (h 1).1
  omega
theorem off11_01 (p : Fin 512) (k : Fin 704) : (ix4 0 1 p k : S2x2x512x704.Idx) ∉ r11.set := by
  rw [Rect.mem_set_unit]
  intro h
  have h1 : 1 ≤ 0 := (h 0).1
  omega
theorem off10_01 (p : Fin 512) (k : Fin 704) : (ix4 0 1 p k : S2x2x512x704.Idx) ∉ r10.set := by
  rw [Rect.mem_set_unit]
  intro h
  have h1 : 1 ≤ 0 := (h 0).1
  omega
theorem off11_00 (p : Fin 512) (k : Fin 704) : (ix4 0 0 p k : S2x2x512x704.Idx) ∉ r11.set := by
  rw [Rect.mem_set_unit]
  intro h
  have h1 : 1 ≤ 0 := (h 0).1
  omega
theorem off10_00 (p : Fin 512) (k : Fin 704) : (ix4 0 0 p k : S2x2x512x704.Idx) ∉ r10.set := by
  rw [Rect.mem_set_unit]
  intro h
  have h1 : 1 ≤ 0 := (h 0).1
  omega
theorem off01_00 (p : Fin 512) (k : Fin 704) : (ix4 0 0 p k : S2x2x512x704.Idx) ∉ r01.set := by
  rw [Rect.mem_set_unit]
  intro h
  have h1 : 1 ≤ 0 := (h 1).1
  omega

section
variable (p q r s : Vec Ideal S1x1x512x704 .bf16) (y : Fin 512) (k : Fin 704)
theorem quad11 : quad p q r s (ix4 1 1 y k) = s (ix4 0 0 y k) := by
  unfold quad
  rw [← emb11]
  exact View.canon_cons_emb r11 s _ (ix4 0 0 y k : S1x1x512x704.Idx)
theorem quad10 : quad p q r s (ix4 1 0 y k) = r (ix4 0 0 y k) := by
  unfold quad
  rw [View.canon_cons_of_not_mem (⟨r11, s⟩ : View.Piece (Elt Ideal) S2x2x512x704 .bf16) _ (y := (ix4 1 0 y k : S2x2x512x704.Idx)) (off11_10 y k), ← emb10]
  exact View.canon_cons_emb r10 r _ (ix4 0 0 y k : S1x1x512x704.Idx)
theorem quad01 : quad p q r s (ix4 0 1 y k) = q (ix4 0 0 y k) := by
  unfold quad
  rw [View.canon_cons_of_not_mem (⟨r11, s⟩ : View.Piece (Elt Ideal) S2x2x512x704 .bf16) _ (y := (ix4 0 1 y k : S2x2x512x704.Idx)) (off11_01 y k),
    View.canon_cons_of_not_mem (⟨r10, r⟩ : View.Piece (Elt Ideal) S2x2x512x704 .bf16) _ (y := (ix4 0 1 y k : S2x2x512x704.Idx)) (off10_01 y k), ← emb01]
  exact View.canon_cons_emb r01 q _ (ix4 0 0 y k : S1x1x512x704.Idx)
theorem quad00 : quad p q r s (ix4 0 0 y k) = p (ix4 0 0 y k) := by
  unfold quad
  rw [View.canon_cons_of_not_mem (⟨r11, s⟩ : View.Piece (Elt Ideal) S2x2x512x704 .bf16) _ (y := (ix4 0 0 y k : S2x2x512x704.Idx)) (off11_00 y k),
    View.canon_cons_of_not_mem (⟨r10, r⟩ : View.Piece (Elt Ideal) S2x2x512x704 .bf16) _ (y := (ix4 0 0 y k : S2x2x512x704.Idx)) (off10_00 y k),
    View.canon_cons_of_not_mem (⟨r01, q⟩ : View.Piece (Elt Ideal) S2x2x512x704 .bf16) _ (y := (ix4 0 0 y k : S2x2x512x704.Idx)) (off01_00 y k), ← emb00]
  exact View.canon_cons_emb r00 p _ (ix4 0 0 y k : S1x1x512x704.Idx)
end

/-- The block a point leaves: the product with the gate block where the second coordinate is 0, with the up block where it is 1. -/
theorem guV_at (xb : Vec Ideal S512x1024 .bf16) (x2 x3 : Vec Ideal S2x1024x704 .bf16) (u g : Fin 2) (y : Fin 512) (k : Fin 704) :
    guV xb x2 x3 (ix4 u g y k) = if g.val = 0 then dotV xb x2 u y k else dotV xb x3 u y k := by
  unfold guV
  match u, g with
  | ⟨0, _⟩, ⟨0, _⟩ => exact (quad00 _ _ _ _ y k).trans (pay11_at xb x2 0 0 y k)
  | ⟨0, _⟩, ⟨1, _⟩ => exact (quad01 _ _ _ _ y k).trans (pay12_at xb x3 0 0 y k)
  | ⟨1, _⟩, ⟨0, _⟩ => exact (quad10 _ _ _ _ y k).trans (pay3_at xb x2 0 0 y k)
  | ⟨1, _⟩, ⟨1, _⟩ => exact (quad11 _ _ _ _ y k).trans (pay4_at xb x3 0 0 y k)

/-! ## The arguments, and what the host code hands to the call -/

variable (m : (ℓ : Loc nD τ sig) → Buf (Elt Ideal) ℓ) (c : Dev nD)

abbrev a0 : Vec Ideal S8192x1024 .f32 := m ((c.tc : Thread nD τ).loc main_arg0)
abbrev a1 : Vec Ideal S1024 .f32 := m ((c.tc : Thread nD τ).loc main_arg1)
abbrev a2 : Vec Ideal S1024x5632 .f32 := m ((c.tc : Thread nD τ).loc main_arg2)
abbrev a3 : Vec Ideal S2816x1024 .f32 := m ((c.tc : Thread nD τ).loc main_arg3)

theorem V_a0 : (V m c main_arg0 : Vec Ideal S8192x1024 .f32) = a0 m c := by
  show StableHlo.after hostOps0 (fun b => m (c, b)) (Proc.devRef .tc main_arg0) = _
  simp only [hostOps0]
  after_results_simp <;> rfl
theorem V_v5 : (V m c main_v5 : Vec Ideal S1x1024 .f32) = shapeCast S1x1024 (a1 m c) shapeCasts_S1024_S1x1024 := by
  show StableHlo.after hostOps0 (fun b => m (c, b)) (Proc.devRef .tc main_v5) = _
  simp only [hostOps0]
  after_results_simp <;> rfl
theorem V_v2 : (V m c main_v2 : Vec Ideal S8x1024x704 .bf16) = transpose S8x1024x704 [1, 0, 2]
    (shapeCast S1024x8x704 (truncf (F := Ideal) .bf16 (a2 m c) bitsLt_bf16_f32) shapeCasts_S1024x5632_S1024x8x704) transposes_S1024x8x704_S8x1024x704_1_0_2 := by
  show StableHlo.after hostOps0 (fun b => m (c, b)) (Proc.devRef .tc main_v2) = _
  simp only [hostOps0]
  after_results_simp <;> rfl
theorem V_v4 : (V m c main_v4 : Vec Ideal S8x352x1024 .bf16) = shapeCast S8x352x1024 (truncf (F := Ideal) .bf16 (a3 m c) bitsLt_bf16_f32) shapeCasts_S2816x1024_S8x352x1024 := by
  show StableHlo.after hostOps0 (fun b => m (c, b)) (Proc.devRef .tc main_v4) = _
  simp only [hostOps0]
  after_results_simp <;> rfl

theorem v5_at (z : Fin 1) (d : Fin 1024) : (V m c main_v5 : Vec Ideal S1x1024 .f32) (ix2 z d) = (a1 m c (ix1 d) : EReal) := by
  rw [V_v5]
  pointwise
theorem v2_at (n : Fin 8) (d : Fin 1024) (k : Fin 704) : (V m c main_v2 : Vec Ideal S8x1024x704 .bf16) (ix3 n d k)
    = (a2 m c (ix2 d ⟨n.val * 704 + k.val, by omega⟩) : EReal) := by
  rw [V_v2]
  pointwise
theorem v4_at (n : Fin 8) (a : Fin 352) (e : Fin 1024) : (V m c main_v4 : Vec Ideal S8x352x1024 .bf16) (ix3 n a e)
    = (a3 m c (ix2 ⟨n.val * 352 + a.val, by omega⟩ e) : EReal) := by
  rw [V_v4]
  pointwise

/-! ## The blocks: point `t` works on rows `(t / 2) * 512 …` and column blocks `t % 2 * 2` and `t % 2 * 2 + 1` -/

theorem lt32 (t : Fin cfg0.N) : t.val < 32 := lt_of_lt_of_eq t.isLt N_0
theorem idx0 (t : Fin cfg0.N) : win0_0.index t 0 = t.val / 2 ∧ win0_0.index t 1 = 0 :=
  (by decide +kernel : ∀ t : Fin grid0.N, win0_0.index t 0 = t.val / 2 ∧ win0_0.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = t.val % 2 ∧ win0_2.index t 1 = 0 ∧ win0_2.index t 2 = 0 :=
  (by decide +kernel : ∀ t : Fin grid0.N, win0_2.index t 0 = t.val % 2 ∧ win0_2.index t 1 = 0 ∧ win0_2.index t 2 = 0) t
theorem idx3 (t : Fin cfg0.N) : win0_3.index t 0 = t.val % 2 + 2 ∧ win0_3.index t 1 = 0 ∧ win0_3.index t 2 = 0 :=
  (by decide +kernel : ∀ t : Fin grid0.N, win0_3.index t 0 = t.val % 2 + 2 ∧ win0_3.index t 1 = 0 ∧ win0_3.index t 2 = 0) t
theorem idx4 (t : Fin cfg0.N) : win0_4.index t 0 = t.val % 2 ∧ win0_4.index t 1 = 0 ∧ win0_4.index t 2 = 0 :=
  (by decide +kernel : ∀ t : Fin grid0.N, win0_4.index t 0 = t.val % 2 ∧ win0_4.index t 1 = 0 ∧ win0_4.index t 2 = 0) t

def row (t : Fin cfg0.N) (p : Fin 512) : Fin 8192 := ⟨t.val / 2 * 512 + p.val, by have := lt32 t; omega⟩
def col (t : Fin cfg0.N) (u : Fin 2) (k : Fin 704) : Fin 2816 := ⟨(t.val % 2 * 2 + u.val) * 704 + k.val, by omega⟩

abbrev bX (t : Fin cfg0.N) : Vec Ideal S512x1024 .f32 := iblk m c 0 t
abbrev bN (t : Fin cfg0.N) : Vec Ideal S1x1024 .f32 := iblk m c 1 t
abbrev bG (t : Fin cfg0.N) : Vec Ideal S2x1024x704 .bf16 := iblk m c 2 t
abbrev bU (t : Fin cfg0.N) : Vec Ideal S2x1024x704 .bf16 := iblk m c 3 t
abbrev bO (t : Fin cfg0.N) : Vec Ideal S4x352x1024 .bf16 := iblk m c 4 t

theorem bX_at (t : Fin cfg0.N) (p : Fin 512) (d : Fin 1024) : (bX m c t (ix2 p d) : EReal) = a0 m c (ix2 (row t p) d) := by
  have hi := idx0 t
  rw [← V_a0]
  show iblk m c 0 t _ = _
  unfold iblk
  rw [View.read_apply]
  show V m c main_arg0 _ = V m c main_arg0 _
  congr 1
  funext ax
  apply Fin.ext
  match ax with
  | ⟨0, _⟩ => show win0_0.index t 0 * 512 + 1 * p.val = _; rw [hi.1]; show _ = t.val / 2 * 512 + p.val; omega
  | ⟨1, _⟩ => show win0_0.index t 1 * 1024 + 1 * d.val = _; rw [hi.2]; show _ = d.val; omega
theorem bN_at (t : Fin cfg0.N) (z : Fin 1) (d : Fin 1024) : (bN m c t (ix2 z d) : EReal) = a1 m c (ix1 d) := by
  have hi := idx1 t
  rw [← v5_at m c z]
  show iblk m c 1 t _ = _
  unfold iblk
  rw [View.read_apply]
  show V m c main_v5 _ = V m c main_v5 _
  congr 1
  funext ax
  apply Fin.ext
  match ax with
  | ⟨0, _⟩ => show win0_1.index t 0 * 1 + 1 * z.val = _; rw [hi.1]; show _ = z.val; omega
  | ⟨1, _⟩ => show win0_1.index t 1 * 1024 + 1 * d.val = _; rw [hi.2]; show _ = d.val; omega
theorem bG_at (t : Fin cfg0.N) (u : Fin 2) (d : Fin 1024) (k : Fin 704) :
    (bG m c t (ix3 u d k) : EReal) = a2 m c (ix2 d (FfnSpec.gc (col t u k))) := by
  have hi := idx2 t
  refine Eq.trans ?_ (v2_at m c ⟨t.val % 2 * 2 + u.val, by omega⟩ d k)
  show iblk m c 2 t _ = _
  unfold iblk
  rw [View.read_apply]
  show V m c main_v2 _ = V m c main_v2 _
  congr 1
  funext ax
  apply Fin.ext
  match ax with
  | ⟨0, _⟩ => show win0_2.index t 0 * 2 + 1 * u.val = _; rw [hi.1]; show _ = t.val % 2 * 2 + u.val; omega
  | ⟨1, _⟩ => show win0_2.index t 1 * 1024 + 1 * d.val = _; rw [hi.2.1]; show _ = d.val; omega
  | ⟨2, _⟩ => show win0_2.index t 2 * 704 + 1 * k.val = _; rw [hi.2.2]; show _ = k.val; omega
theorem bU_at (t : Fin cfg0.N) (u : Fin 2) (d : Fin 1024) (k : Fin 704) :
    (bU m c t (ix3 u d k) : EReal) = a2 m c (ix2 d (FfnSpec.uc (col t u k))) := by
  have hi := idx3 t
  have e : FfnSpec.uc (col t u k) = ⟨(4 + t.val % 2 * 2 + u.val) * 704 + k.val, by omega⟩ :=
    Fin.ext (show 2816 + ((t.val % 2 * 2 + u.val) * 704 + k.val) = (4 + t.val % 2 * 2 + u.val) * 704 + k.val by omega)
  rw [e]
  refine Eq.trans ?_ (v2_at m c ⟨4 + t.val % 2 * 2 + u.val, by omega⟩ d k)
  show iblk m c 3 t _ = _
  unfold iblk
  rw [View.read_apply]
  show V m c main_v2 _ = V m c main_v2 _
  congr 1
  funext ax
  apply Fin.ext
  match ax with
  | ⟨0, _⟩ => show win0_3.index t 0 * 2 + 1 * u.val = _; rw [hi.1]; show _ = 4 + t.val % 2 * 2 + u.val; omega
  | ⟨1, _⟩ => show win0_3.index t 1 * 1024 + 1 * d.val = _; rw [hi.2.1]; show _ = d.val; omega
  | ⟨2, _⟩ => show win0_3.index t 2 * 704 + 1 * k.val = _; rw [hi.2.2]; show _ = k.val; omega
theorem bO_at (t : Fin cfg0.N) (n : Fin 4) (a : Fin 352) (e : Fin 1024) :
    (bO m c t (ix3 n a e) : EReal) = a3 m c (ix2 ⟨(t.val % 2 * 4 + n.val) * 352 + a.val, by omega⟩ e) := by
  have hi := idx4 t
  refine Eq.trans ?_ (v4_at m c ⟨t.val % 2 * 4 + n.val, by omega⟩ a e)
  show iblk m c 4 t _ = _
  unfold iblk
  rw [View.read_apply]
  show V m c main_v4 _ = V m c main_v4 _
  congr 1
  funext ax
  apply Fin.ext
  match ax with
  | ⟨0, _⟩ => show win0_4.index t 0 * 4 + 1 * n.val = _; rw [hi.1]; show _ = t.val % 2 * 4 + n.val; omega
  | ⟨1, _⟩ => show win0_4.index t 1 * 352 + 1 * a.val = _; rw [hi.2.1]; show _ = a.val; omega
  | ⟨2, _⟩ => show win0_4.index t 2 * 1024 + 1 * e.val = _; rw [hi.2.2]; show _ = e.val; omega

/-! ## The half step over the arguments -/

abbrev fX : Fin 8192 → Fin 1024 → EReal := fun t d => a0 m c (ix2 t d)
abbrev fNW : Fin 1024 → EReal := fun d => a1 m c (ix1 d)
abbrev fWI : Fin 1024 → Fin 5632 → EReal := fun d f => a2 m c (ix2 d f)
abbrev fWO : Fin 2816 → Fin 1024 → EReal := fun k d => a3 m c (ix2 k d)

/-- Reading normalised rows: `xb` holds the rows of point `t`. -/
def Norm (t : Fin cfg0.N) (xb : Vec Ideal S512x1024 .bf16) : Prop :=
  ∀ p d, (xb (ix2 p d) : EReal) = FfnSpec.xn (fX m c) (fNW m c) (row t p) d

theorem norm_of (t : Fin cfg0.N) : Norm m c t (k0_pay7 (bX m c t) (bN m c t)) := by
  intro p d
  rw [pay7_at]
  simp only [bX_at, bN_at]
  rfl
theorem dotG (t : Fin cfg0.N) (xb : Vec Ideal S512x1024 .bf16) (h : Norm m c t xb) (u : Fin 2) (p : Fin 512) (k : Fin 704) :
    dotV xb (bG m c t) u p k = FfnSpec.gt (fX m c) (fNW m c) (fWI m c) (row t p) (col t u k) := by
  unfold dotV FfnSpec.gt FfnSpec.hid
  refine Finset.sum_congr rfl fun d _ => ?_
  rw [h p d, bG_at]
theorem dotU (t : Fin cfg0.N) (xb : Vec Ideal S512x1024 .bf16) (h : Norm m c t xb) (u : Fin 2) (p : Fin 512) (k : Fin 704) :
    dotV xb (bU m c t) u p k = FfnSpec.up (fX m c) (fNW m c) (fWI m c) (row t p) (col t u k) := by
  unfold dotV FfnSpec.up FfnSpec.hid
  refine Finset.sum_congr rfl fun d _ => ?_
  rw [h p d, bU_at]

/-- What column block `u` of point `t` adds to the product with the second weight. -/
def part (t : Fin cfg0.N) (u : Fin 2) (p : Fin 512) (e : Fin 1024) : EReal :=
  ∑ k : Fin 704, FfnSpec.act (fX m c) (fNW m c) (fWI m c) (row t p) (col t u k) * fWO m c (col t u k) e

theorem accV_of (t : Fin cfg0.N) (xb : Vec Ideal S512x1024 .bf16) (h : Norm m c t xb) (acc : Vec Ideal S512x1024 .f32) (p : Fin 512) (e : Fin 1024) :
    accV xb (bG m c t) (bU m c t) (bO m c t) acc (ix2 p e) = (acc (ix2 p e) : EReal) + (part m c t 0 p e + part m c t 1 p e) := by
  rw [accV_at]
  unfold part
  congr 1
  refine congrArg₂ (· + ·) (Finset.sum_congr rfl fun k _ => ?_) (Finset.sum_congr rfl fun k _ => ?_)
  · rw [dotG m c t xb h, dotU m c t xb h, bO_at]
    have e2 : (⟨(t.val % 2 * 4 + k.val / 352) * 352 + k.val % 352, by omega⟩ : Fin 2816) = col t 0 k :=
      Fin.ext (show _ = (t.val % 2 * 2 + 0) * 704 + k.val by show (t.val % 2 * 4 + k.val / 352) * 352 + k.val % 352 = _; omega)
    rw [e2]; rfl
  · rw [dotG m c t xb h, dotU m c t xb h, bO_at]
    have e2 : (⟨(t.val % 2 * 4 + (2 + k.val / 352)) * 352 + k.val % 352, by omega⟩ : Fin 2816) = col t 1 k :=
      Fin.ext (show _ = (t.val % 2 * 2 + 1) * 704 + k.val by show (t.val % 2 * 4 + (2 + k.val / 352)) * 352 + k.val % 352 = _; omega)
    rw [e2]; rfl

/-- A sum over the columns is the sum of the four blocks' sums, taken two and two. -/
theorem sum_blocks (f : Fin 2816 → EReal) : ∑ k, f k
    = ((∑ k : Fin 704, f ⟨k.val, by omega⟩) + ∑ k : Fin 704, f ⟨704 + k.val, by omega⟩)
      + ((∑ k : Fin 704, f ⟨1408 + k.val, by omega⟩) + ∑ k : Fin 704, f ⟨2112 + k.val, by omega⟩) := by
  rw [Fin.sum_univ_add (a := 1408) (b := 1408) f, Fin.sum_univ_add (a := 704) (b := 704) (fun k => f (Fin.castAdd 1408 k)),
    Fin.sum_univ_add (a := 704) (b := 704) (fun k => f (Fin.natAdd 1408 k))]
  refine congrArg₂ (· + ·) rfl (congrArg₂ (· + ·) rfl (Finset.sum_congr rfl fun k _ => congrArg f (Fin.ext ?_)))
  show 1408 + (704 + k.val) = 2112 + k.val
  omega

/-- The half step's result. -/
def outS (t : Fin 8192) (e : Fin 1024) : EReal :=
  fX m c t e + pH * ∑ k, FfnSpec.act (fX m c) (fNW m c) (fWI m c) t k * fWO m c k e

theorem sum_parts (n : ℕ) (h0 : 2 * n < cfg0.N) (h1 : 2 * n + 1 < cfg0.N) (p : Fin 512) (e : Fin 1024) :
    (part m c ⟨2 * n, h0⟩ 0 p e + part m c ⟨2 * n, h0⟩ 1 p e) + (part m c ⟨2 * n + 1, h1⟩ 0 p e + part m c ⟨2 * n + 1, h1⟩ 1 p e)
      = ∑ k, FfnSpec.act (fX m c) (fNW m c) (fWI m c) (row ⟨2 * n + 1, h1⟩ p) k * fWO m c k e := by
  rw [sum_blocks]
  have er : row ⟨2 * n, h0⟩ p = row ⟨2 * n + 1, h1⟩ p := Fin.ext (show 2 * n / 2 * 512 + p.val = (2 * n + 1) / 2 * 512 + p.val by omega)
  have c0 : ∀ k : Fin 704, col ⟨2 * n, h0⟩ 0 k = ⟨k.val, by omega⟩ := fun k => Fin.ext (show (2 * n % 2 * 2 + 0) * 704 + k.val = k.val by omega)
  have c1 : ∀ k : Fin 704, col ⟨2 * n, h0⟩ 1 k = ⟨704 + k.val, by omega⟩ := fun k => Fin.ext (show (2 * n % 2 * 2 + 1) * 704 + k.val = 704 + k.val by omega)
  have c2 : ∀ k : Fin 704, col ⟨2 * n + 1, h1⟩ 0 k = ⟨1408 + k.val, by omega⟩ := fun k => Fin.ext (show ((2 * n + 1) % 2 * 2 + 0) * 704 + k.val = 1408 + k.val by omega)
  have c3 : ∀ k : Fin 704, col ⟨2 * n + 1, h1⟩ 1 k = ⟨2112 + k.val, by omega⟩ := fun k => Fin.ext (show ((2 * n + 1) % 2 * 2 + 1) * 704 + k.val = 2112 + k.val by omega)
  unfold part
  simp only [er, c0, c1, c2, c3]

/-! ## The final arrays -/

theorem G5_at (r : Fin 8192) (e : Fin 1024) : G5 m c (ix2 r e) = outS m c r e := by
  have hp : pt5Of (ix2 r e) = 2 * (r.val / 512) + 1 := by
    show 2 * (1 * (r.val / 512 - 0) + 1 * (e.val / 1024 - 0)) + 1 = _
    omega
  have hN : 2 * (r.val / 512) + 1 < cfg0.N := lt_of_lt_of_eq (show 2 * (r.val / 512) + 1 < 32 by omega) N_0.symm
  have hN' : 2 * (r.val / 512) < cfg0.N := by omega
  have hl : loc5Of (ix2 r e) = ix2 ⟨r.val % 512, by omega⟩ e := by
    funext ax; apply Fin.ext
    match ax with
    | ⟨0, _⟩ => rfl
    | ⟨1, _⟩ => show e.val % 1024 = e.val; omega
  have key : G5 m c (ix2 r e) = (outsAt0 m c (2 * (r.val / 512) + 1) hN).1 (ix2 ⟨r.val % 512, by omega⟩ e) := by
    unfold G5
    rw [dif_pos (by rw [hp]; exact hN), hl, outsAt0_sweep, fold0_congr m c _ _ _ _ hp]
  rw [key]
  have eB := outsAt0_B m c ⟨2 * (r.val / 512) + 1, hN⟩ (by show ¬(2 * (r.val / 512) + 1) % 2 = 0; omega) (by show (2 * (r.val / 512) + 1) % 2 = 1; omega)
  have eA := outsAt0_A m c ⟨2 * (r.val / 512), hN'⟩ (by show (2 * (r.val / 512)) % 2 = 0; omega) (by show ¬(2 * (r.val / 512)) % 2 = 1; omega)
  rw [show (outsAt0 m c (2 * (r.val / 512) + 1) hN).1 = _ from congrArg Prod.fst eB, outB5]
  rw [show (outsAt0 m c (2 * (r.val / 512) + 1 - 1) _).2.2.1 = _ from congrArg (fun q => q.2.2.1) eA,
    show (outsAt0 m c (2 * (r.val / 512) + 1 - 1) _).2.2.2 = _ from congrArg (fun q => q.2.2.2) eA]
  dsimp only
  rw [soutA0, soutA1]
  have er : ∀ p, row ⟨2 * (r.val / 512), hN'⟩ p = row ⟨2 * (r.val / 512) + 1, hN⟩ p := fun p =>
    Fin.ext (show 2 * (r.val / 512) / 2 * 512 + p.val = (2 * (r.val / 512) + 1) / 2 * 512 + p.val by omega)
  have hA := norm_of m c ⟨2 * (r.val / 512), hN'⟩
  have hB : Norm m c ⟨2 * (r.val / 512) + 1, hN⟩ (k0_pay7 (bX m c ⟨2 * (r.val / 512), hN'⟩) (bN m c ⟨2 * (r.val / 512), hN'⟩)) := fun p d => by
    rw [← er]; exact hA p d
  refine (pay6_at (bX m c ⟨2 * (r.val / 512) + 1, hN⟩) _ ⟨r.val % 512, by omega⟩ e).trans ?_
  rw [accV_of m c _ _ hB, accV_of m c _ _ hA, pay8_at, zero_add, sum_parts, bX_at]
  have e1 : row ⟨2 * (r.val / 512) + 1, hN⟩ ⟨r.val % 512, by omega⟩ = r := Fin.ext (show (2 * (r.val / 512) + 1) / 2 * 512 + r.val % 512 = r.val by omega)
  rw [e1]
  rfl

/-- The pre-activations, gate where `g` is 0 and up where it is 1. -/
def preS (j : Fin 4) (g : Fin 2) (r : Fin 8192) (k : Fin 704) : EReal :=
  FfnSpec.hid (fX m c) (fNW m c) (fWI m c) r ⟨g.val * 2816 + (j.val * 704 + k.val), by omega⟩

/-- At every point the block of pre-activations is made of that point's rows. -/
theorem gu_of (t : Fin cfg0.N) (u g : Fin 2) (p : Fin 512) (k : Fin 704) :
    (outsAt0 m c t.val t.isLt).2.1 (ix4 u g p k) = if g.val = 0 then FfnSpec.gt (fX m c) (fNW m c) (fWI m c) (row t p) (col t u k)
      else FfnSpec.up (fX m c) (fNW m c) (fWI m c) (row t p) (col t u k) := by
  rcases Nat.mod_two_eq_zero_or_one t.val with h | h
  · have eA := outsAt0_A m c t h (by omega)
    rw [show (outsAt0 m c t.val t.isLt).2.1 = _ from congrArg (fun q => q.2.1) eA]
    dsimp only
    rw [outA6]
    refine (guV_at (k0_pay7 (bX m c t) (bN m c t)) (bG m c t) (bU m c t) u g p k).trans ?_
    rw [dotG m c t _ (norm_of m c t), dotU m c t _ (norm_of m c t)]
  · have hp : t.val - 1 < cfg0.N := Nat.lt_of_le_of_lt (Nat.sub_le _ _) t.isLt
    have eB := outsAt0_B m c t (by omega) h
    have eA := outsAt0_A m c ⟨t.val - 1, hp⟩ (by show (t.val - 1) % 2 = 0; omega) (by show ¬(t.val - 1) % 2 = 1; omega)
    rw [show (outsAt0 m c t.val t.isLt).2.1 = _ from congrArg (fun q => q.2.1) eB]
    dsimp only
    rw [outB6]
    rw [show (outsAt0 m c (t.val - 1) _).2.2.1 = _ from congrArg (fun q => q.2.2.1) eA]
    dsimp only
    rw [soutA0]
    have hA := norm_of m c ⟨t.val - 1, hp⟩
    have hB : Norm m c t (k0_pay7 (bX m c ⟨t.val - 1, hp⟩) (bN m c ⟨t.val - 1, hp⟩)) := fun p d => by
      have er : row t p = row ⟨t.val - 1, hp⟩ p := Fin.ext (show t.val / 2 * 512 + p.val = (t.val - 1) / 2 * 512 + p.val by omega)
      rw [er]; exact hA p d
    refine (guV_at (k0_pay7 (bX m c ⟨t.val - 1, hp⟩) (bN m c ⟨t.val - 1, hp⟩)) (bG m c t) (bU m c t) u g p k).trans ?_
    rw [dotG m c t _ hB, dotU m c t _ hB]

theorem G6_at (j : Fin 4) (g : Fin 2) (r : Fin 8192) (k : Fin 704) : G6 m c (ix4 j g r k) = preS m c j g r k := by
  have hp : pt6Of (ix4 j g r k) = j.val / 2 + 2 * (r.val / 512) := by
    show 1 * (j.val / 2 - 0) + 2 * (g.val / 2 - 0) + 2 * (r.val / 512 - 0) + 32 * (k.val / 704 - 0) = _
    omega
  have hN : j.val / 2 + 2 * (r.val / 512) < cfg0.N := lt_of_lt_of_eq (show j.val / 2 + 2 * (r.val / 512) < 32 by omega) N_0.symm
  have hl : loc6Of (ix4 j g r k) = ix4 ⟨j.val % 2, by omega⟩ g ⟨r.val % 512, by omega⟩ k := by
    funext ax; apply Fin.ext
    match ax with
    | ⟨0, _⟩ => rfl
    | ⟨1, _⟩ => show g.val % 2 = g.val; omega
    | ⟨2, _⟩ => rfl
    | ⟨3, _⟩ => show k.val % 704 = k.val; omega
  have key : G6 m c (ix4 j g r k) = (outsAt0 m c (j.val / 2 + 2 * (r.val / 512)) hN).2.1 (ix4 ⟨j.val % 2, by omega⟩ g ⟨r.val % 512, by omega⟩ k) := by
    unfold G6
    rw [dif_pos (by rw [hp]; exact hN), hl, outsAt0_sweep, fold0_congr m c _ _ _ _ hp]
  rw [key, gu_of m c ⟨j.val / 2 + 2 * (r.val / 512), hN⟩]
  have e1 : row ⟨j.val / 2 + 2 * (r.val / 512), hN⟩ ⟨r.val % 512, by omega⟩ = r :=
    Fin.ext (show (j.val / 2 + 2 * (r.val / 512)) / 2 * 512 + r.val % 512 = r.val by omega)
  have e2 : (col ⟨j.val / 2 + 2 * (r.val / 512), hN⟩ ⟨j.val % 2, by omega⟩ k).val = j.val * 704 + k.val := by
    show ((j.val / 2 + 2 * (r.val / 512)) % 2 * 2 + j.val % 2) * 704 + k.val = _
    omega
  rw [e1]
  unfold preS FfnSpec.gt FfnSpec.up
  split_ifs with hg
  · exact congrArg _ (Fin.ext (show _ = g.val * 2816 + (j.val * 704 + k.val) by rw [e2, hg]; omega))
  · exact congrArg _ (Fin.ext (show 2816 + _ = g.val * 2816 + (j.val * 704 + k.val) by rw [e2]; omega))

end Cert.Kernel4Ideal.Fwd

/-! ## The plain half step -/

namespace Cert.Reference4Ideal.Fwd

open Cert.Reference4Ideal Cert.Reference4Ideal.Gen Cert.Reference4Ideal.Read
open Idealize.ShloMosaic Idealize.ShloMosaic.TcCoe Idealize.ShloMosaic.Tactic
open Idealize.SL.Sem
open Cert.FfnSpec

section
variable (x0 : Vec Ideal S8192x1024 .f32) (x1 : Vec Ideal S1024 .f32) (x2 : Vec Ideal S1024x5632 .f32) (x3 : Vec Ideal S2816x1024 .f32)

local notation "X" => (fun (t : Fin 8192) (d : Fin 1024) => (x0 (ix2 t d) : EReal))
local notation "NW" => (fun (d : Fin 1024) => (x1 (ix1 d) : EReal))
local notation "WI" => (fun (d : Fin 1024) (f : Fin 5632) => (x2 (ix2 d f) : EReal))

theorem r_ms (t : Fin 8192) (z : Fin 1) : val_main_v6 (F := Ideal) x0 (ix2 t z) = ms X t := by
  unfold ms
  pointwise [val_main_v6, val_main_v4, val_main_v2, val_main_v1, val_main_v0, val_main_cst, val_main_v3, val_main_cst_0, val_main_v5, val_main_cst_1]
theorem r_rs (t : Fin 8192) (z : Fin 1) : val_main_v7 (F := Ideal) x0 (ix2 t z) = rs X t := by
  unfold rs
  rw [val_main_v7_apply, r_ms, Ideal.hostUnary_rsqrt_def]
theorem r_xr (t : Fin 8192) (d : Fin 1024) : val_main_v9 (F := Ideal) x0 (ix2 t d) = x0 (ix2 t d) * rs X t := by
  pointwise [val_main_v9, val_main_v8]
  rw [r_rs]
theorem r_xn (t : Fin 8192) (d : Fin 1024) : val_main_v12 (F := Ideal) x0 x1 (ix2 t d) = xn X NW t d := by
  unfold xn
  pointwise [val_main_v12, val_main_v11, val_main_v10]
  rw [r_xr]
theorem r_hid (t : Fin 8192) (f : Fin 5632) : val_main_v13 (F := Ideal) x0 x1 x2 (ix2 t f) = hid X NW WI t f := by
  unfold hid
  pointwise [val_main_v13]
  simp only [r_xn]
theorem r_gt (t : Fin 8192) (k : Fin 2816) : val_main_v14 (F := Ideal) x0 x1 x2 (ix2 t k) = gt X NW WI t k := by
  unfold gt
  pointwise [val_main_v14]
  rw [r_hid]
theorem r_up (t : Fin 8192) (k : Fin 2816) : val_main_v15 (F := Ideal) x0 x1 x2 (ix2 t k) = up X NW WI t k := by
  unfold up
  pointwise [val_main_v15]
  rw [r_hid]
theorem r_sg (t : Fin 8192) (k : Fin 2816) : val_main_call0_v5 (F := Ideal) x0 x1 x2 (ix2 t k) = sg X NW WI t k := by
  unfold sg Ideal.logistic
  pointwise [val_main_call0_v5, val_main_call0_v4, val_main_call0_cst_0, val_main_call0_v3, val_main_call0_v2, val_main_call0_cst, val_main_call0_v1, val_main_call0_v0]
  rw [r_gt]
theorem r_act (t : Fin 8192) (k : Fin 2816) : val_main_v17 (F := Ideal) x0 x1 x2 (ix2 t k) = act X NW WI t k := by
  unfold act
  rw [val_main_v17_apply, val_main_v16_apply, r_gt, r_sg, r_up]
  rfl
/-- The first result: the rows plus half the layer. -/
theorem r_out (t : Fin 8192) (e : Fin 1024) : val_main_v21 (F := Ideal) x0 x1 x2 x3 (ix2 t e)
    = x0 (ix2 t e) + cH * ∑ k, act X NW WI t k * x3 (ix2 k e) := by
  pointwise [val_main_v21, val_main_v20, val_main_v19, val_main_v18, val_main_cst_2]
  simp only [r_act]
/-- The second result: the pre-activations. -/
theorem r_pre (j : Fin 4) (g : Fin 2) (t : Fin 8192) (k : Fin 704) : val_main_v24 (F := Ideal) x0 x1 x2 (ix4 j g t k)
    = hid X NW WI t ⟨g.val * 2816 + (j.val * 704 + k.val), by omega⟩ := by
  rw [← r_hid]
  unfold val_main_v24 val_main_v23 val_main_v22
  generalize val_main_v13 (F := Ideal) x0 x1 x2 = q
  pointwise
  simp only [Nat.add_assoc]
end

/-- The plain half step runs and leaves its arguments; it declares no semaphore. -/
theorem frame_reference : Cert.quiescent_Reference4Ideal := by
  intro m ρ _
  exact (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- The call's two results are the plain half step's. -/
theorem value : Cert.algebraic_Kernel4Ideal_Reference4Ideal := by
  intro m ρ m' ρ' _ hargs
  refine ⟨fun c => Cert.Kernel4Ideal.Value.G5 m c, fun c => Cert.Kernel4Ideal.Value.G6 m c, Cert.Kernel4Ideal.Value.run (F := Ideal) m ρ, ?_⟩
  refine (θ_run Cert.Reference4Ideal.defs _ _).mono (fun r h c => ⟨(h c).1.trans ?_, (h c).2.1.trans ?_, (h c).2.2⟩) (Cert.Reference4Ideal.Value.run (F := Ideal) m' ρ')
  · obtain ⟨g0, g1, g2, g3⟩ := hargs c
    rw [val_main_v21_eq, g0, g1, g2, g3]
    funext i
    obtain ⟨t, e, rfl⟩ : ∃ (t : Fin 8192) (e : Fin 1024), i = ix2 t e := ⟨i 0, i 1, eq_ix2 i⟩
    exact (r_out _ _ _ _ t e).trans (Cert.Kernel4Ideal.Fwd.G5_at m c t e).symm
  · obtain ⟨g0, g1, g2, g3⟩ := hargs c
    rw [val_main_v24_eq, g0, g1, g2]
    funext i
    obtain ⟨j, g, t, k, rfl⟩ : ∃ (j : Fin 4) (g : Fin 2) (t : Fin 8192) (k : Fin 704), i = ix4 j g t k := ⟨i 0, i 1, i 2, i 3, eq_ix4 i⟩
    exact (r_pre _ _ _ j g t k).trans (Cert.Kernel4Ideal.Fwd.G6_at m c j g t k).symm

end Cert.Reference4Ideal.Fwd

end
-- ==== Proof.ConvVal.lean ====
/- The short causal convolution's backward pass for its input: what each grid point computes from its 512 rows and the
   16 rows after them, and the plain backward pass read at an index. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.KernelVsHost
public import Idealize.ShloMosaic.Lib.Pipeline.ValueKit

@[expose] public section

set_option maxRecDepth 16384

noncomputable section

namespace Cert.ConvSpec

open Idealize.ShloMosaic

/-- The cotangent `s` rows further on, zero past the last row. -/
def ahead (dc : Fin 8192 → Fin 1536 → EReal) (s : Nat) (t : Fin 8192) (n : Fin 1536) : EReal :=
  if h : t.val + s < 8192 then dc ⟨t.val + s, h⟩ n else 0

/-- The input's gradient: tap `k` of the filter meets the cotangent `3 - k` rows further on. -/
def dx (dc : Fin 8192 → Fin 1536 → EReal) (w : Fin 4 → Fin 1536 → EReal) (t : Fin 8192) (n : Fin 1536) : EReal :=
  w 0 n * ahead dc 3 t n + w 1 n * ahead dc 2 t n + w 2 n * ahead dc 1 t n + w 3 n * ahead dc 0 t n

end Cert.ConvSpec

namespace Cert.Kernel6Ideal.Conv

open Cert.Kernel6Ideal Cert.Kernel6Ideal.Gen Cert.Kernel6Ideal.Value
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## One point -/

/-- The point's rows with the rows after them; after the last point's rows come zeros. -/
def ext (i : grid0.Coords) (v1 : Vec Ideal S16x1536 .bf16) (v6 : Vec Ideal S512x1536 .bf16) : FVec Ideal S528x1536 .f32 :=
  concatenate S528x1536 0 [⟨S512x1536, extf .f32 (shapeCast S512x1536 v6 shapeCasts_S512x1536_S512x1536) bitsLt_bf16_f32⟩,
    ⟨S16x1536, Scalar.select (Scalar.cmpi .eq (BitVec.ofNat 32 (i 0).val) 15#32) (broadcast S16x1536 (Scalar.ofBits .f32 0x00000000#32 : Ideal .f32))
      (extf .f32 (shapeCast S16x1536 v1 shapeCasts_S16x1536_S16x1536) bitsLt_bf16_f32)⟩] concatenates_S512x1536_S16x1536_S528x1536_d0

/-- The four products, added up. -/
def taps (v11 v16 v22 v9 : FVec Ideal S528x1536 .f32) (v10 : Vec Ideal S4x1536 .f32) : FVec Ideal S512x1536 .bf16 :=
  truncf .bf16 (addf (addf (addf
    (mulf (broadcastTo S512x1536 (extractStridedSlice S1x1536 ![0, 0] v10 slices_S4x1536_o0_0_S1x1536) broadcasts_S1x1536_S512x1536)
      (extractStridedSlice S512x1536 ![0, 0] v11 slices_S528x1536_o0_0_S512x1536))
    (mulf (broadcastTo S512x1536 (extractStridedSlice S1x1536 ![1, 0] v10 slices_S4x1536_o1_0_S1x1536) broadcasts_S1x1536_S512x1536)
      (extractStridedSlice S512x1536 ![0, 0] v16 slices_S528x1536_o0_0_S512x1536)))
    (mulf (broadcastTo S512x1536 (extractStridedSlice S1x1536 ![2, 0] v10 slices_S4x1536_o2_0_S1x1536) broadcasts_S1x1536_S512x1536)
      (extractStridedSlice S512x1536 ![0, 0] v22 slices_S528x1536_o0_0_S512x1536)))
    (mulf (broadcastTo S512x1536 (extractStridedSlice S1x1536 ![3, 0] v10 slices_S4x1536_o3_0_S1x1536) broadcasts_S1x1536_S512x1536)
      (extractStridedSlice S512x1536 ![0, 0] v9 slices_S528x1536_o0_0_S512x1536))) bitsLt_bf16_f32

theorem pay_eq (i : grid0.Coords) (v1 : Vec Ideal S16x1536 .bf16) (v6 : Vec Ideal S512x1536 .bf16) (v10 : Vec Ideal S4x1536 .f32) :
    k0_pay1 (F := Ideal) i v1 v6 v10 = taps (dynamicRotate 0 525#32 none (ext i v1 v6) rotates_S528x1536_d0)
      (dynamicRotate 0 526#32 none (ext i v1 v6) rotates_S528x1536_d0) (dynamicRotate 0 527#32 none (ext i v1 v6) rotates_S528x1536_d0)
      (ext i v1 v6) v10 := rfl

theorem taps_at (v11 v16 v22 v9 : FVec Ideal S528x1536 .f32) (v10 : Vec Ideal S4x1536 .f32) (p : Fin 512) (n : Fin 1536) :
    taps v11 v16 v22 v9 v10 (ix2 p n) = (v10 (ix2 0 n) : EReal) * v11 (ix2 ⟨p.val, by omega⟩ n) + v10 (ix2 1 n) * v16 (ix2 ⟨p.val, by omega⟩ n)
      + v10 (ix2 2 n) * v22 (ix2 ⟨p.val, by omega⟩ n) + v10 (ix2 3 n) * v9 (ix2 ⟨p.val, by omega⟩ n) := by
  pointwise [taps]

/-- A rotation by `528 - s` reads `s` rows further on. -/
theorem rot_at (x : FVec Ideal S528x1536 .f32) (sb : BitVec 32) (s : Nat) (hs : sb.toNat + s = 528) (h0 : 0 < s) (h1 : s ≤ 16)
    (p : Fin 512) (n : Fin 1536) :
    dynamicRotate 0 sb none x rotates_S528x1536_d0 (ix2 ⟨p.val, by omega⟩ n) = x (ix2 ⟨p.val + s, by omega⟩ n) := by
  refine dynamicRotate_apply (s := S528x1536) 0 sb x rotates_S528x1536_d0 _ _ fun b => ?_
  match b with
  | ⟨0, _⟩ =>
    show p.val + s = (p.val + 528 - sb.toNat % 528) % 528
    omega
  | ⟨1, _⟩ => rfl

theorem ext_lo (i : grid0.Coords) (v1 : Vec Ideal S16x1536 .bf16) (v6 : Vec Ideal S512x1536 .bf16) (r : Fin 528) (h : r.val < 512) (n : Fin 1536) :
    ext i v1 v6 (ix2 r n) = v6 (ix2 ⟨r.val, h⟩ n) := by
  unfold ext
  refine (concatenate_pair_apply_left (t := S528x1536) (s₁ := S512x1536) (s₂ := S16x1536) 0 _ _ _ (ix2 r n) rfl (ix2 ⟨r.val, h⟩ n) ?_).trans ?_
  · intro b
    match b with
    | ⟨0, _⟩ => rfl
    | ⟨1, _⟩ => rfl
  · pointwise

theorem ext_hi (i : grid0.Coords) (v1 : Vec Ideal S16x1536 .bf16) (v6 : Vec Ideal S512x1536 .bf16) (r : Fin 528) (h : 512 ≤ r.val) (n : Fin 1536) :
    ext i v1 v6 (ix2 r n) = if (i 0).val = 15 then (0 : EReal) else v1 (ix2 ⟨r.val - 512, by omega⟩ n) := by
  unfold ext
  refine (concatenate_pair_apply_right (t := S528x1536) (s₁ := S512x1536) (s₂ := S16x1536) 0 _ _ _ (ix2 r n) rfl rfl (ix2 ⟨r.val - 512, by omega⟩ n) ?_ ?_).trans ?_
  · intro b hb
    match b, hb with
    | ⟨0, _⟩, hb => exact absurd rfl hb
    | ⟨1, _⟩, _ => rfl
  · show r.val - 512 + 512 = r.val
    omega
  · have hi : (i 0).val < 16 := (i 0).isLt
    generalize (i 0).val = q at hi ⊢
    have hc : Scalar.cmpi .eq (BitVec.ofNat 32 q) 15#32 = if q = 15 then 1#1 else 0#1 :=
      (by decide +kernel : ∀ q : Fin 16, Scalar.cmpi .eq (BitVec.ofNat 32 q.val) 15#32 = if q.val = 15 then 1#1 else 0#1) ⟨q, hi⟩
    rw [hc]
    by_cases hq : q = 15
    · rw [if_pos hq, if_pos hq]
      show (Scalar.ofBits .f32 0x00000000#32 : Ideal .f32) = (0 : EReal)
      pointwise
    · rw [if_neg hq, if_neg hq]
      show extf (F := Ideal) .f32 (shapeCast S16x1536 v1 shapeCasts_S16x1536_S16x1536) bitsLt_bf16_f32 (ix2 ⟨r.val - 512, by omega⟩ n) = _
      pointwise

theorem pay_at (i : grid0.Coords) (v1 : Vec Ideal S16x1536 .bf16) (v6 : Vec Ideal S512x1536 .bf16) (v10 : Vec Ideal S4x1536 .f32) (p : Fin 512) (n : Fin 1536) :
    k0_pay1 (F := Ideal) i v1 v6 v10 (ix2 p n) = (v10 (ix2 0 n) : EReal) * ext i v1 v6 (ix2 ⟨p.val + 3, by omega⟩ n)
      + v10 (ix2 1 n) * ext i v1 v6 (ix2 ⟨p.val + 2, by omega⟩ n) + v10 (ix2 2 n) * ext i v1 v6 (ix2 ⟨p.val + 1, by omega⟩ n)
      + v10 (ix2 3 n) * ext i v1 v6 (ix2 ⟨p.val + 0, by omega⟩ n) := by
  rw [pay_eq]
  generalize ext i v1 v6 = e
  rw [taps_at, rot_at e 525#32 3 rfl (by omega) (by omega), rot_at e 526#32 2 rfl (by omega) (by omega), rot_at e 527#32 1 rfl (by omega) (by omega)]
  rfl

/-! ## The arguments and the blocks -/

abbrev a1 : Vec Ideal S4x1536 .f32 := m ((c.tc : Thread nD τ).loc main_arg1)
abbrev a2 : Vec Ideal S8192x1536 .f32 := m ((c.tc : Thread nD τ).loc main_arg2)
def fW (k : Fin 4) (n : Fin 1536) : EReal := a1 m c (ix2 k n)
def fD (t : Fin 8192) (n : Fin 1536) : EReal := a2 m c (ix2 t n)

theorem V_v0 : (V m c main_v0 : Vec Ideal S8192x1536 .bf16) = truncf (F := Ideal) .bf16 (a2 m c) bitsLt_bf16_f32 := by
  show StableHlo.after hostOps0 (fun b => m (c, b)) (Proc.devRef .tc main_v0) = _
  simp only [hostOps0]
  after_results_simp <;> rfl

abbrev bD (t : Fin cfg0.N) : Vec Ideal S512x1536 .bf16 := iblk m c 0 t
abbrev bH (t : Fin cfg0.N) : Vec Ideal S16x1536 .bf16 := iblk m c 1 t
abbrev bW (t : Fin cfg0.N) : Vec Ideal S4x1536 .f32 := iblk m c 2 t

theorem N16 : cfg0.N = 16 := N_0
theorem lt16 (t : Fin cfg0.N) : t.val < 16 := lt_of_lt_of_eq t.isLt N16
/-- Row `p` of point `t`'s tile. -/
def row (t : Fin cfg0.N) (p : Fin 512) : Fin 8192 := ⟨t.val * 512 + p.val, by have := lt16 t; omega⟩

theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = min ((t.val + 1) * 32) 511 ∧ win0_1.index t 1 = 0 :=
  (by decide +kernel : ∀ t : Fin grid0.N, win0_1.index t 0 = min ((t.val + 1) * 32) 511 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem coord0 (t : Fin cfg0.N) : (grid0.coords t 0).val = t.val :=
  (by decide +kernel : ∀ t : Fin grid0.N, (grid0.coords t 0).val = t.val) t

theorem bD_at (t : Fin cfg0.N) (p : Fin 512) (n : Fin 1536) : bD m c t (ix2 p n) = fD m c (row t p) n := by
  have hi := idx0 t
  show iblk m c 0 t _ = _
  unfold iblk fD
  rw [View.read_apply]
  show (V m c main_v0 : Vec Ideal S8192x1536 .bf16) _ = _
  rw [V_v0]
  show a2 m c _ = a2 m c _
  congr 1
  funext ax
  apply Fin.ext
  match ax with
  | ⟨0, _⟩ => show win0_0.index t 0 * 512 + 1 * p.val = _; rw [hi.1]; show _ = t.val * 512 + p.val; omega
  | ⟨1, _⟩ => show win0_0.index t 1 * 1536 + 1 * n.val = _; rw [hi.2]; show _ = n.val; omega
theorem bH_at (t : Fin cfg0.N) (q : Fin 16) (n : Fin 1536) :
    bH m c t (ix2 q n) = fD m c ⟨min ((t.val + 1) * 32) 511 * 16 + q.val, by omega⟩ n := by
  have hi := idx1 t
  show iblk m c 1 t _ = _
  unfold iblk fD
  rw [View.read_apply]
  show (V m c main_v0 : Vec Ideal S8192x1536 .bf16) _ = _
  rw [V_v0]
  show a2 m c _ = a2 m c _
  congr 1
  funext ax
  apply Fin.ext
  match ax with
  | ⟨0, _⟩ => show win0_1.index t 0 * 16 + 1 * q.val = _; rw [hi.1]; show _ = min ((t.val + 1) * 32) 511 * 16 + q.val; omega
  | ⟨1, _⟩ => show win0_1.index t 1 * 1536 + 1 * n.val = _; rw [hi.2]; show _ = n.val; omega
theorem bW_at (t : Fin cfg0.N) (k : Fin 4) (n : Fin 1536) : bW m c t (ix2 k n) = fW m c k n := by
  have hi := idx2 t
  show iblk m c 2 t _ = _
  unfold iblk fW
  rw [View.read_apply]
  show V m c main_arg1 _ = _
  rw [V_main_arg1]
  show a1 m c _ = a1 m c _
  congr 1
  funext ax
  apply Fin.ext
  match ax with
  | ⟨0, _⟩ => show win0_2.index t 0 * 4 + 1 * k.val = _; rw [hi.1]; show _ = k.val; omega
  | ⟨1, _⟩ => show win0_2.index t 1 * 1536 + 1 * n.val = _; rw [hi.2]; show _ = n.val; omega

/-- The point's extended rows are the cotangent's rows, and zero past the last. -/
theorem ext_blk (t : Fin cfg0.N) (p : Fin 512) (s : Nat) (hs : s ≤ 3) (n : Fin 1536) :
    ext (grid0.coords t) (bH m c t) (bD m c t) (ix2 ⟨p.val + s, by omega⟩ n) = ConvSpec.ahead (fD m c) s (row t p) n := by
  have h16 := lt16 t
  unfold ConvSpec.ahead
  by_cases h : p.val + s < 512
  · rw [ext_lo _ _ _ _ h, bD_at, dif_pos (show (row t p).val + s < 8192 by show t.val * 512 + p.val + s < 8192; omega)]
    exact congrArg (fun r => fD m c r n) (Fin.ext (show t.val * 512 + (p.val + s) = t.val * 512 + p.val + s by omega))
  · rw [ext_hi _ _ _ _ (show 512 ≤ p.val + s by omega), coord0, bH_at]
    by_cases ht : t.val = 15
    · rw [if_pos ht, dif_neg (show ¬ (row t p).val + s < 8192 by show ¬ t.val * 512 + p.val + s < 8192; omega)]
    · rw [if_neg ht, dif_pos (show (row t p).val + s < 8192 by show t.val * 512 + p.val + s < 8192; omega)]
      exact congrArg (fun r => fD m c r n) (Fin.ext (show min ((t.val + 1) * 32) 511 * 16 + (p.val + s - 512) = t.val * 512 + p.val + s by omega))

theorem out_at (t : Fin cfg0.N) (p : Fin 512) (n : Fin 1536) :
    out0_3 (F := Ideal) (grid0.coords t) (iblk m c 0 t) (iblk m c 1 t) (iblk m c 2 t) (ix2 p n) = ConvSpec.dx (fD m c) (fW m c) (row t p) n := by
  have h : out0_3 (F := Ideal) (grid0.coords t) (iblk m c 0 t) (iblk m c 1 t) (iblk m c 2 t)
      = k0_pay1 (F := Ideal) (grid0.coords t) (bH m c t) (bD m c t) (bW m c t) := by
    unfold out0_3
    frame_out
  rw [h, pay_at, ext_blk m c t p 3 (by omega), ext_blk m c t p 2 (by omega), ext_blk m c t p 1 (by omega), ext_blk m c t p 0 (by omega)]
  simp only [bW_at]
  rfl

/-! ## The final array -/

abbrev G3 : Vec Ideal S8192x1536 .bf16 := fun i => ConvSpec.dx (fD m c) (fW m c) (i 0) (i 1)

theorem xs3 (t : Fin cfg0.N) : win0_3.xsize (grid0.coords t) 0 = 512 ∧ win0_3.xsize (grid0.coords t) 1 = 1536 :=
  (by decide +kernel : ∀ t : Fin grid0.N, win0_3.xsize (grid0.coords t) 0 = 512 ∧ win0_3.xsize (grid0.coords t) 1 = 1536) t
theorem flush3 (t : Fin cfg0.N) : (cfg0.win 3).flush t = true :=
  (by decide +kernel : ∀ t : Fin grid0.N, win0_3.flush t = true) t

theorem emb3 (t : Fin cfg0.N) (p : Fin 512) (n : Fin 1536) :
    ((cfg0.win 3).blk t).view.emb (ix2 p n : S512x1536.Idx) = (ix2 (row t p) n : (⟨2, ![8192, 1536]⟩ : Shape).Idx) := by
  have hi := idx3 t
  funext ax
  apply Fin.ext
  match ax with
  | ⟨0, _⟩ => show win0_3.index t 0 * 512 + 1 * p.val = _; rw [hi.1]; show _ = t.val * 512 + p.val; omega
  | ⟨1, _⟩ => show win0_3.index t 1 * 1536 + 1 * n.val = _; rw [hi.2]; show _ = n.val; omega

theorem flushed3_eq (t : Fin cfg0.N) (hf : (cfg0.win 3).flush t = true) :
    (dats m 0 c).flushed 3 t = ((cfg0.win 3).blk t).view.read (Elt Ideal) (G3 m c) := by
  rw [flushed3]
  funext (j : S512x1536.Idx)
  rw [View.read_apply]
  obtain ⟨p, n, rfl⟩ : ∃ (p : Fin 512) (n : Fin 1536), j = ix2 p n := ⟨j 0, j 1, eq_ix2 j⟩
  show out0_3 (F := Ideal) (grid0.coords t) (iblk m c 0 t) (iblk m c 1 t) (iblk m c 2 t) (ix2 p n)
    = G3 m c (((cfg0.win 3).blk t).view.emb (ix2 p n : S512x1536.Idx))
  rw [emb3]
  exact out_at m c t p n

theorem final3 : (dats m 0 c).arrAt 3 cfg0.N = G3 m c :=
  (dats m 0 c).arrAt_eq_of_cover 3 (G3 m c) (flushed3_eq m c) fun i => by
    have h0 : (i 0 : Nat) < 8192 := (i 0).isLt
    have h1 : (i 1 : Nat) < 1536 := (i 1).isLt
    have hlt : (i 0).val / 512 < cfg0.N := by rw [N16]; omega
    refine ⟨⟨(i 0).val / 512, hlt⟩, flush3 _, ?_⟩
    show i ∈ ((View.whole main_v1).slice (win0_3.rect ⟨(i 0).val / 512, hlt⟩)).set
    rw [View.set_slice_whole, Rect.mem_set_unit]
    have hi := idx3 ⟨(i 0).val / 512, hlt⟩
    have hx := xs3 ⟨(i 0).val / 512, hlt⟩
    try simp only at hi hx
    intro ax
    match ax with
    | ⟨0, _⟩ =>
      show win0_3.index ⟨(i 0).val / 512, hlt⟩ 0 * 512 ≤ (i 0 : Nat) ∧ (i 0 : Nat) < win0_3.index ⟨(i 0).val / 512, hlt⟩ 0 * 512 + win0_3.xsize (grid0.coords ⟨(i 0).val / 512, hlt⟩) 0
      rw [hi.1, hx.1]; omega
    | ⟨1, _⟩ =>
      show win0_3.index ⟨(i 0).val / 512, hlt⟩ 1 * 1536 ≤ (i 1 : Nat) ∧ (i 1 : Nat) < win0_3.index ⟨(i 0).val / 512, hlt⟩ 1 * 1536 + win0_3.xsize (grid0.coords ⟨(i 0).val / 512, hlt⟩) 1
      rw [hi.2, hx.2]; omega

theorem run (ρ : Dev nD → PrngReg) : θ_run defs (onTc (τ := τ) (main (F := Ideal))) ⟨m, fun _ => 0, ρ⟩ fun r => ∀ c : Dev nD,
      r.2.mem ((c : Thread nD τ).loc main_v1) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Kernel6Ideal.Conv

/-! ## The plain backward pass -/

namespace Cert.Reference6Ideal.Conv

open Cert.Reference6Ideal Cert.Reference6Ideal.Gen Cert.Reference6Ideal.Read
open Idealize.ShloMosaic Idealize.ShloMosaic.TcCoe Idealize.ShloMosaic.Tactic Idealize.ShloMosaic.StableHlo
open Idealize.SL.Sem

/-- A product array with `lo` rows of zeros before it and `hi` after it, read three rows further on. -/
theorem pad_at (x : FVec Ideal S8192x1536 .f32) (v : FVec Ideal S_ .f32) (hv : v (Shape.Idx.first (by decide)) = (0 : EReal)) (lo hi s : Nat) (hs : lo + s = 3)
    (h : S8192x1536.Pads ![lo, 0] ![hi, 0] ![0, 0] S8195x1536) (hu : 0 < S_.numel) (t : Fin 8192) (n : Fin 1536) :
    pad S8195x1536 ![lo, 0] ![hi, 0] ![0, 0] x v h hu (ix2 ⟨t.val + 3, by omega⟩ n)
      = ConvSpec.ahead (fun t n => x (ix2 t n)) s t n := by
  unfold ConvSpec.ahead
  by_cases ht : t.val + s < 8192
  · rw [dif_pos ht]
    refine pad_apply_of_inside (s := S8192x1536) _ _ _ x v h hu _ (ix2 ⟨t.val + s, ht⟩ n) fun a => ?_
    match a with
    | ⟨0, _⟩ => show t.val + 3 = lo + (t.val + s) * 1; omega
    | ⟨1, _⟩ => show n.val = 0 + n.val * 1; omega
  · rw [dif_neg ht]
    refine (pad_apply_of_not_inside (s := S8192x1536) _ _ _ x v h hu _ 0 ?_).trans hv
    show ¬(lo ≤ t.val + 3 ∧ (t.val + 3 - lo) % 1 = 0 ∧ (t.val + 3 - lo) / 1 < 8192)
    omega

theorem ahead_mul (D : Fin 8192 → Fin 1536 → EReal) (w : Fin 1536 → EReal) (s : Nat) (t : Fin 8192) (n : Fin 1536) :
    ConvSpec.ahead (fun t n => D t n * w n) s t n = w n * ConvSpec.ahead D s t n := by
  unfold ConvSpec.ahead
  by_cases h : t.val + s < 8192
  · rw [dif_pos h, dif_pos h, mul_comm]
  · rw [dif_neg h, dif_neg h, mul_zero]

theorem ref_at (x1 : (⟨S4x1536, .f32⟩ : BufTy).Contents (Elt Ideal)) (x2 : (⟨S8192x1536, .f32⟩ : BufTy).Contents (Elt Ideal))
    (t : Fin 8192) (n : Fin 1536) :
    val_main_v49 (F := Ideal) x1 x2 (ix2 t n) = ConvSpec.dx (fun t n => x2 (ix2 t n)) (fun k n => x1 (ix2 k n)) t n := by
  have p3 : ∀ t n, val_main_v33 (F := Ideal) x1 x2 (ix2 t n) = (x2 (ix2 t n) : EReal) * x1 (ix2 3 n) := fun t n => by
    pointwise [val_main_v33, val_main_v31, val_main_v32, val_main_v26, val_main_v25, val_main_v24]
  have p2 : ∀ t n, val_main_v36 (F := Ideal) x1 x2 (ix2 t n) = (x2 (ix2 t n) : EReal) * x1 (ix2 2 n) := fun t n => by
    pointwise [val_main_v36, val_main_v30, val_main_v35, val_main_v19, val_main_v18, val_main_v17]
  have p1 : ∀ t n, val_main_v40 (F := Ideal) x1 x2 (ix2 t n) = (x2 (ix2 t n) : EReal) * x1 (ix2 1 n) := fun t n => by
    pointwise [val_main_v40, val_main_v30, val_main_v39, val_main_v12, val_main_v11, val_main_v10]
  have p0 : ∀ t n, val_main_v44 (F := Ideal) x1 x2 (ix2 t n) = (x2 (ix2 t n) : EReal) * x1 (ix2 0 n) := fun t n => by
    pointwise [val_main_v44, val_main_v30, val_main_v43, val_main_v6, val_main_v5, val_main_v4]
  have hz : ∀ k, (constant (F := Ideal) S_ .f32 0x00000000#32) k = (0 : EReal) := fun k => by pointwise
  have h : val_main_v49 (F := Ideal) x1 x2 (ix2 t n) = val_main_v46 (F := Ideal) x1 x2 (ix2 ⟨t.val + 3, by omega⟩ n) := by
    unfold val_main_v49 val_main_v48
    generalize val_main_v46 (F := Ideal) x1 x2 = q
    pointwise
    all_goals (try simp only [Nat.add_comm 3])
  rw [h]
  unfold val_main_v46 val_main_v42 val_main_v38
  show ((val_main_v34 (F := Ideal) x1 x2 _ + val_main_v37 (F := Ideal) x1 x2 _ : EReal) + val_main_v41 (F := Ideal) x1 x2 _) + val_main_v45 (F := Ideal) x1 x2 _ = _
  unfold val_main_v34 val_main_v37 val_main_v41 val_main_v45
  rw [pad_at _ (val_main_cst_1 (F := Ideal)) (hz _) 3 0 0 rfl, pad_at _ (val_main_cst_2 (F := Ideal)) (hz _) 2 1 1 rfl,
    pad_at _ (val_main_cst_3 (F := Ideal)) (hz _) 1 2 2 rfl, pad_at _ (val_main_cst_4 (F := Ideal)) (hz _) 0 3 3 rfl]
  simp only [p0, p1, p2, p3]
  rw [ahead_mul _ (fun n => x1 (ix2 3 n)), ahead_mul _ (fun n => x1 (ix2 2 n)), ahead_mul _ (fun n => x1 (ix2 1 n)), ahead_mul _ (fun n => x1 (ix2 0 n))]
  have h4 : ∀ a b c d : EReal, a + b + c + d = d + c + b + a := fun a b c d => by ac_rfl
  exact h4 _ _ _ _

/-- The plain backward pass runs and leaves its arguments; it declares no semaphore. -/
theorem frame_reference : Cert.quiescent_Reference6Ideal := by
  intro m ρ _
  exact (θ_run Cert.Reference6Ideal.defs _ _).mono (fun r h => ⟨fun c => (h c).2, Idealize.ShloMosaic.sem_eq_zero_of_no_sems (by decide) r.2⟩)
    (Cert.Reference6Ideal.Value.run (F := Ideal) m ρ)

/-- The call's result is the plain backward pass's. -/
theorem value : Cert.algebraic_Kernel6Ideal_Reference6Ideal := by
  intro m ρ m' ρ' _ hargs
  refine ⟨fun c => Cert.Kernel6Ideal.Conv.G3 m c, Cert.Kernel6Ideal.Conv.run m ρ, ?_⟩
  refine (θ_run Cert.Reference6Ideal.defs _ _).mono (fun r h c => ⟨(h c).1.trans ?_, (h c).2⟩) (Cert.Reference6Ideal.Value.run (F := Ideal) m' ρ')
  obtain ⟨g0, g1, g2⟩ := hargs c
  rw [val_main_v49_eq, g1, g2]
  funext i
  obtain ⟨t, n, rfl⟩ : ∃ (t : Fin 8192) (n : Fin 1536), i = ix2 t n := ⟨i 0, i 1, eq_ix2 i⟩
  exact ref_at _ _ t n

end Cert.Reference6Ideal.Conv

end
-- ==== Proof.AbCat.lean ====
/- The 3200 columns that the attention block's input projection is read at: the four wide cotangents, the two narrow ones, and
   120 columns of zeros. -/
module

public import proofs.«01_k».proof.Defs
public import Idealize.ShloMosaic.Lib.Pointwise

@[expose] public section

noncomputable section

namespace Cert.AbSpec

open Idealize.ShloMosaic

/-- Row `t`, column `n` of the cotangents laid side by side: 1536 of `q`, 512 of `z`, 512 of `u`, 512 of `v`, 4 of `b`, 4 of `a`,
    then zeros. -/
def colv (q : Vec Ideal ⟨2, ![8192, 1536]⟩ .f32) (z : Vec Ideal ⟨2, ![8192, 512]⟩ .f32) (b a : Vec Ideal ⟨2, ![8192, 4]⟩ .f32)
    (u v : Vec Ideal ⟨2, ![8192, 512]⟩ .f32) (t : Fin 8192) (n : Fin 3200) : EReal :=
  if h : n.val < 1536 then q (ix2 t ⟨n.val, h⟩)
  else if h1 : n.val < 2048 then z (ix2 t ⟨n.val - 1536, by omega⟩)
  else if h2 : n.val < 2560 then u (ix2 t ⟨n.val - 2048, by omega⟩)
  else if h3 : n.val < 3072 then v (ix2 t ⟨n.val - 2560, by omega⟩)
  else if h4 : n.val < 3076 then b (ix2 t ⟨n.val - 3072, by omega⟩)
  else if h5 : n.val < 3080 then a (ix2 t ⟨n.val - 3076, by omega⟩)
  else 0

end Cert.AbSpec

end
-- ==== Proof.AbBwdSpec.lean ====
/- The backward pass of the attention block's input projection, row by row and column by column, over the extended reals: once in
   the form the kernel computes it, once in the form differentiation gives it.  Over finite arguments the two agree (`dxR_eq`). -/
module

public import proofs.«01_k».proof.Proof.FfnSpec

@[expose] public section

noncomputable section

namespace Cert.AbSpec

open Idealize.ShloMosaic Cert.FfnSpec

section
variable (X : Fin 8192 → Fin 1024 → EReal) (NW : Fin 1024 → EReal) (A DR : Fin 8192 → Fin 1024 → EReal)

/-- The gradient of the rows, given the cotangent `A` of the normalised rows and `DR` of the residual path. -/
def dx (t : Fin 8192) (d : Fin 1024) : EReal :=
  DR t d + rs X t * (A t d * NW d - X t d * rs X t * Ideal.div (∑ e, A t e * NW e * (X t e * rs X t)) cN)
/-- The gradient of the norm's weights. -/
def dnw (d : Fin 1024) : EReal := ∑ t, A t d * (X t d * rs X t)

/-- The derivative through the mean square, a column at a time. -/
def bR (t : Fin 8192) : EReal := Ideal.div ((∑ e, X t e * (A t e * NW e)) * (cM * Ideal.div (rs X t) (ms X t))) cN
/-- The gradient of the rows, as differentiation gives it. -/
def dxR (t : Fin 8192) (d : Fin 1024) : EReal :=
  DR t d + A t d * NW d * rs X t + X t d * bR X NW A t + bR X NW A t * X t d
end

section
variable (x : Fin 8192 → Fin 1024 → ℝ) (nw : Fin 1024 → ℝ) (a dr : Fin 8192 → Fin 1024 → ℝ)

theorem dxR_eq (t : Fin 8192) (d : Fin 1024) :
    dxR (fun t d => (x t d : EReal)) (fun d => (nw d : EReal)) (fun t d => (a t d : EReal)) (fun t d => (dr t d : EReal)) t d
      = dx (fun t d => (x t d : EReal)) (fun d => (nw d : EReal)) (fun t d => (a t d : EReal)) (fun t d => (dr t d : EReal)) t d := by
  obtain ⟨q, hq, eq⟩ := ms_real x t
  have er : rs (fun t d => (x t d : EReal)) t = (((Real.sqrt q)⁻¹ : ℝ) : EReal) := by unfold rs; rw [eq, rsqrt_pos hq]
  have hs : Real.sqrt q ≠ 0 := (Real.sqrt_pos.mpr hq).ne'
  have hqs : q = Real.sqrt q * Real.sqrt q := (Real.mul_self_sqrt hq.le).symm
  unfold dxR dx bR
  rw [er, eq, cN_eq, cM_eq]
  rw [Ideal.div_coe hq.ne', Ideal.div_coe (by norm_num), Ideal.div_coe (by norm_num)]
  simp only [← EReal.coe_mul, ← coe_sum', ← EReal.coe_add, ← EReal.coe_sub]
  refine congrArg Real.toEReal ?_
  generalize hS : Real.sqrt q = s at *
  have e1 : ∑ e, a t e * nw e * (x t e * s⁻¹) = (∑ e, x t e * (a t e * nw e)) * s⁻¹ := by
    rw [Finset.sum_mul]; exact Finset.sum_congr rfl fun e _ => by ring
  rw [e1, hqs]
  generalize (∑ e, x t e * (a t e * nw e)) = S
  field_simp
  ring
end

/-- Over finite arguments the two forms agree. -/
theorem dxR_eq_of_real {X : Fin 8192 → Fin 1024 → EReal} {NW : Fin 1024 → EReal} {A DR : Fin 8192 → Fin 1024 → EReal}
    (hX : ∀ t d, ∃ r : ℝ, X t d = (r : EReal)) (hN : ∀ d, ∃ r : ℝ, NW d = (r : EReal)) (hA : ∀ t d, ∃ r : ℝ, A t d = (r : EReal))
    (hD : ∀ t d, ∃ r : ℝ, DR t d = (r : EReal)) (t : Fin 8192) (d : Fin 1024) : dxR X NW A DR t d = dx X NW A DR t d := by
  choose x hx using hX
  choose nw hn using hN
  choose a ha using hA
  choose dr hd using hD
  obtain rfl : X = fun t d => (x t d : EReal) := funext fun t => funext fun d => hx t d
  obtain rfl : NW = fun d => (nw d : EReal) := funext hn
  obtain rfl : A = fun t d => (a t d : EReal) := funext fun t => funext fun d => ha t d
  obtain rfl : DR = fun t d => (dr t d : EReal) := funext fun t => funext fun d => hd t d
  exact dxR_eq x nw a dr t d

/-! ## The order of the projection's columns -/

/-- A sum over the 3080 columns in the projection's own order is the sum over the 3200 columns in the other one. -/
theorem sum_pos (f : Fin 3080 → EReal) (g : Fin 3200 → EReal)
    (h0 : ∀ k : Fin 2048, g ⟨k.val, by omega⟩ = f ⟨k.val, by omega⟩)
    (h1 : ∀ k : Fin 1024, g ⟨2048 + k.val, by omega⟩ = f ⟨2056 + k.val, by omega⟩)
    (h2 : ∀ k : Fin 8, g ⟨3072 + k.val, by omega⟩ = f ⟨2048 + k.val, by omega⟩)
    (h3 : ∀ k : Fin 120, g ⟨3080 + k.val, by omega⟩ = 0) : ∑ n, g n = ∑ s, f s := by
  have eg : ∑ n, g n = (((∑ k : Fin 2048, g ⟨k.val, by omega⟩) + ∑ k : Fin 1024, g ⟨2048 + k.val, by omega⟩)
      + ∑ k : Fin 8, g ⟨3072 + k.val, by omega⟩) + ∑ k : Fin 120, g ⟨3080 + k.val, by omega⟩ := by
    rw [show ∑ n, g n = _ from Fin.sum_univ_add (a := 3080) (b := 120) g]
    refine congrArg₂ (· + ·) ?_ rfl
    rw [Fin.sum_univ_add (a := 3072) (b := 8)]
    refine congrArg₂ (· + ·) ?_ rfl
    rw [Fin.sum_univ_add (a := 2048) (b := 1024)]
    rfl
  have ef : ∑ s, f s = ((∑ k : Fin 2048, f ⟨k.val, by omega⟩) + ∑ k : Fin 8, f ⟨2048 + k.val, by omega⟩)
      + ∑ k : Fin 1024, f ⟨2056 + k.val, by omega⟩ := by
    rw [show ∑ s, f s = _ from Fin.sum_univ_add (a := 2056) (b := 1024) f]
    refine congrArg₂ (· + ·) ?_ rfl
    rw [Fin.sum_univ_add (a := 2048) (b := 8)]
    rfl
  rw [eg, ef, Finset.sum_congr rfl fun k _ => h0 k, Finset.sum_congr rfl fun k _ => h1 k, Finset.sum_congr rfl fun k _ => h2 k,
    Finset.sum_eq_zero fun k _ => h3 k, add_zero]
  exact add_right_comm _ _ _

end Cert.AbSpec

end
-- ==== Proof.AbBwdOut.lean ====
/- The backward pass of the attention block's input projection: the blocks a grid point leaves, in terms of what it reads. -/
module

public import proofs.«01_k».proof.Defs
public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Kernel7Ideal.AbBwd

open Cert.Kernel7Ideal Cert.Kernel7Ideal.Gen
open Idealize.ShloMosaic Idealize.ShloMosaic.TcCoe Idealize.ShloMosaic.Tactic

/-! ## The five column ranges of the block of cotangents -/

abbrev r0 : Rect S512x3200 := Rect.unit (s := S512x3200) ![0, 0] S512x1536.size inb_S512x3200_S512x1536_0_0
abbrev r1 : Rect S512x3200 := Rect.unit (s := S512x3200) ![0, 1536] S512x512.size inb_S512x3200_S512x512_0_1536
abbrev r2 : Rect S512x3200 := Rect.unit (s := S512x3200) ![0, 2048] S512x512.size inb_S512x3200_S512x512_0_2048
abbrev r3 : Rect S512x3200 := Rect.unit (s := S512x3200) ![0, 2560] S512x512.size inb_S512x3200_S512x512_0_2560
abbrev r4 : Rect S512x3200 := Rect.unit (s := S512x3200) ![0, 3072] S512x128.size inb_S512x3200_S512x128_0_3072

/-- The five blocks of cotangents side by side. -/
def catV (x2 : Vec Ideal S512x1536 .bf16) (x3 x4 x5 : Vec Ideal S512x512 .bf16) (x6 : Vec Ideal S512x128 .bf16) : Vec Ideal S512x3200 .bf16 :=
  View.canon [⟨r4, k0_pay10 x6⟩, ⟨r3, k0_pay9 x5⟩, ⟨r2, k0_pay8 x4⟩, ⟨r1, k0_pay7 x3⟩, ⟨r0, k0_pay6 x2⟩]

/-- A load of the whole block after several stores reads what the stores left together. -/
theorem load_whole {Val : EltTy → Type} [∀ e, Nonempty (Val e)] {sig : RefSig} {κ : Kind} {sp : Space} {S : Shape} {e : EltTy} (v : View sig κ sp S e) (L : List (View.Piece Val S e))
    {off : Fin S.rank → Nat} (inb : ∀ a, off a + S.size a ≤ S.size a) :
    v.readCov L (Rect.unit off S.size inb).toLoadRect = View.canon L := by
  rw [View.readCov_eq_canon']
  funext j
  refine congrArg (View.canon L) (funext fun a => Fin.ext ?_)
  show off a + 1 * (j a).val = (j a).val
  have h := inb a
  omega

/-- The first point's block of the cotangents laid side by side. -/
theorem outA_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : cond0_0 i) (hc1 : ¬cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = catV x2 x3 x4 x5 x6 := by
  unfold out0_A_10 catV
  frame_out

/-- The first point's gradient of the norm's weights. -/
theorem outA_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : cond0_0 i) (hc1 : ¬cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) :
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay3 (k0_pay11 (catV x2 x3 x4 x5 x6) x7) x0 (k0_pay12 x0) (k0_pay13 (F := Ideal)) := by
  unfold out0_A_11 catV
  frame_out
  rw [load_whole]

/-- The first point's block of the gradient of the rows. -/
theorem outA_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : cond0_0 i) (hc1 : ¬cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay4 (k0_pay11 (catV x2 x3 x4 x5 x6) x7) x0 (k0_pay12 x0) (k0_pay13 (F := Ideal)) x1 x8 := by
  unfold out0_A_9 catV
  frame_out
  rw [load_whole]

/-- A later point's block of the cotangents laid side by side. -/
theorem outB_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : ¬cond0_0 i) (hc1 : cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) (xo : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo = catV x2 x3 x4 x5 x6 := by
  unfold out0_B_10 catV
  frame_out

/-- A later point adds its rows' share of the gradient of the norm's weights. -/
theorem outB_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : ¬cond0_0 i) (hc1 : cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) (xo : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo = k0_pay5 (k0_pay11 (catV x2 x3 x4 x5 x6) x7) x0 (k0_pay12 x0) (k0_pay13 (F := Ideal)) xo := by
  unfold out0_B_11 catV
  frame_out
  rw [load_whole]

/-- A later point's block of the gradient of the rows. -/
theorem outB_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .bf16) (harg7 : arg7.IsWhole) (arg8 : Memref sig .tc .vmem S1024x3200 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x3200 .bf16) (harg11 : arg11.IsWhole) (arg12 : Memref sig .tc .vmem S1x1024 .f32) (harg12 : arg12.IsWhole) (hc0 : ¬cond0_0 i) (hc1 : cond0_1 i)
    (x0 : Vec Ideal S512x1024 .f32) (x1 : Vec Ideal S1x1024 .f32) (x2 : Vec Ideal S512x1536 .bf16) (x3 x4 x5 : Vec Ideal S512x512 .bf16) (x6 : Vec Ideal S512x128 .bf16) (x7 : Vec Ideal S1024x3200 .bf16) (x8 : Vec Ideal S512x1024 .f32) (xo : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo = k0_pay4 (k0_pay11 (catV x2 x3 x4 x5 x6) x7) x0 (k0_pay12 x0) (k0_pay13 (F := Ideal)) x1 x8 := by
  unfold out0_B_9 catV
  frame_out
  rw [load_whole]

end Cert.Kernel7Ideal.AbBwd

end
-- ==== Proof.AbWVal.lean ====
/- The gradient of the attention block's input weight: what each pair of grid points computes, as a sum over all rows,
   and the plain backward pass read at an index. A block of 640 columns takes two points, 4096 rows each. -/
module

public import proofs.«01_k».proof.Defs
public import proofs.«01_k».proof.Proof.AbCat
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit

@[expose] public section

set_option maxRecDepth 16384

noncomputable section

namespace Cert.Kernel9Ideal.AbW

open Cert.Kernel9Ideal Cert.Kernel9Ideal.Gen Cert.Kernel9Ideal.Value
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## What a point leaves -/

/-- The first point of a pair leaves its product in the accumulator. -/
theorem soutA (i : grid0.Coords) (arg3 : Memref sig .tc .vmem S4096x1024 .bf16) (harg3 : arg3.IsWhole) (arg4 : Memref sig .tc .vmem S4096x640 .bf16) (harg4 : arg4.IsWhole) (arg5 : Memref sig .tc .vmem S1024x640 .bf16) (harg5 : arg5.IsWhole) (arg6 : Memref sig .tc .vmem S1024x640 .f32) (harg6 : arg6.IsWhole) (hc0 : cond0_0 i) (hc1 : ¬cond0_1 i) (hc2 : ¬cond0_2 i)
    (x0 : Vec Ideal S4096x1024 .bf16) (x1 : Vec Ideal S4096x640 .bf16) :
    sout0_A_0 c i arg3 harg3 arg4 harg4 arg5 harg5 arg6 harg6 hc0 hc1 hc2 x0 x1 = k0_pay2 x0 x1 := by
  unfold sout0_A_0
  frame_out

/-- The second point adds its product and rounds. -/
theorem outB (i : grid0.Coords) (arg3 : Memref sig .tc .vmem S4096x1024 .bf16) (harg3 : arg3.IsWhole) (arg4 : Memref sig .tc .vmem S4096x640 .bf16) (harg4 : arg4.IsWhole) (arg5 : Memref sig .tc .vmem S1024x640 .bf16) (harg5 : arg5.IsWhole) (arg6 : Memref sig .tc .vmem S1024x640 .f32) (harg6 : arg6.IsWhole) (hc0 : ¬cond0_0 i) (hc1 : cond0_1 i) (hc2 : cond0_2 i)
    (x0 : Vec Ideal S4096x1024 .bf16) (x1 : Vec Ideal S4096x640 .bf16) (xs : Vec Ideal S1024x640 .f32) :
    out0_B_2 c i arg3 harg3 arg4 harg4 arg5 harg5 arg6 harg6 hc0 hc1 hc2 x0 x1 xs = k0_pay4 (k0_pay3 x0 x1 xs) := by
  unfold out0_B_2
  frame_out

/-! ## The arguments, and what the host code hands to the call -/

abbrev a0 : Vec Ideal S8192x1024 .f32 := m ((c.tc : Thread nD τ).loc main_arg0)
abbrev a2 : Vec Ideal S8192x1536 .f32 := m ((c.tc : Thread nD τ).loc main_arg2)
abbrev a3 : Vec Ideal S8192x512 .f32 := m ((c.tc : Thread nD τ).loc main_arg3)
abbrev a4 : Vec Ideal S8192x4 .f32 := m ((c.tc : Thread nD τ).loc main_arg4)
abbrev a5 : Vec Ideal S8192x4 .f32 := m ((c.tc : Thread nD τ).loc main_arg5)
abbrev a6 : Vec Ideal S8192x512 .f32 := m ((c.tc : Thread nD τ).loc main_arg6)
abbrev a7 : Vec Ideal S8192x512 .f32 := m ((c.tc : Thread nD τ).loc main_arg7)

theorem V_v4 : (V m c main_v4 : Vec Ideal S8192x1024 .bf16) = truncf (F := Ideal) .bf16 (a0 m c) bitsLt_bf16_f32 := by
  show StableHlo.after hostOps0 (fun b => m (c, b)) (Proc.devRef .tc main_v4) = _
  simp only [hostOps0]
  after_results_simp <;> rfl

/-- The narrow cotangents and their zeros. -/
def narrow (x4 x5 : Vec Ideal S8192x4 .f32) : Vec Ideal S8192x128 .f32 :=
  concatenate S8192x128 1 [⟨S8192x4, x4⟩, ⟨S8192x4, x5⟩, ⟨S8192x120, broadcastInDim S8192x120 ![] bcast_S_S8192x120 (constant (F := Ideal) S_ .f32 0x00000000#32)⟩] concatenates_S8192x4_S8192x4_S8192x120_S8192x128_d1
/-- The cotangents laid side by side. -/
def cat (x2 : Vec Ideal S8192x1536 .f32) (x3 : Vec Ideal S8192x512 .f32) (x4 x5 : Vec Ideal S8192x4 .f32) (x6 x7 : Vec Ideal S8192x512 .f32) : Vec Ideal S8192x3200 .f32 :=
  concatenate S8192x3200 1 [⟨S8192x1536, x2⟩, ⟨S8192x512, x3⟩, ⟨S8192x512, x6⟩, ⟨S8192x512, x7⟩, ⟨S8192x128, narrow x4 x5⟩] concatenates_S8192x1536_S8192x512_S8192x512_S8192x512_S8192x128_S8192x3200_d1

theorem V_v3 : (V m c main_v3 : Vec Ideal S8192x3200 .bf16)
    = truncf (F := Ideal) .bf16 (cat (a2 m c) (a3 m c) (a4 m c) (a5 m c) (a6 m c) (a7 m c)) bitsLt_bf16_f32 := by
  show StableHlo.after hostOps0 (fun b => m (c, b)) (Proc.devRef .tc main_v3) = _
  simp only [hostOps0]
  after_results_simp <;> rfl

theorem narrow_at (x4 x5 : Vec Ideal S8192x4 .f32) (t : Fin 8192) (k : Fin 128) : (narrow x4 x5 (ix2 t k) : EReal)
    = if h4 : k.val < 4 then x4 (ix2 t ⟨k.val, h4⟩) else if h5 : k.val < 8 then x5 (ix2 t ⟨k.val - 4, by omega⟩) else 0 := by
  pointwise [narrow]
  (repeat' split) <;> first | (exfalso; omega) | rfl | exact congrArg _ (congrArg (ix2 _) (Fin.ext (by show _ = _; omega)))

theorem cat_at (x2 : Vec Ideal S8192x1536 .f32) (x3 : Vec Ideal S8192x512 .f32) (x4 x5 : Vec Ideal S8192x4 .f32) (x6 x7 : Vec Ideal S8192x512 .f32)
    (t : Fin 8192) (n : Fin 3200) : (cat x2 x3 x4 x5 x6 x7 (ix2 t n) : EReal) = AbSpec.colv x2 x3 x4 x5 x6 x7 t n := by
  unfold cat
  have hn := narrow_at x4 x5 t
  generalize narrow x4 x5 = w at hn ⊢
  have e : (concatenate S8192x3200 1 [⟨S8192x1536, x2⟩, ⟨S8192x512, x3⟩, ⟨S8192x512, x6⟩, ⟨S8192x512, x7⟩, ⟨S8192x128, w⟩]
      concatenates_S8192x1536_S8192x512_S8192x512_S8192x512_S8192x128_S8192x3200_d1 (ix2 t n) : EReal)
      = if h : n.val < 1536 then x2 (ix2 t ⟨n.val, h⟩)
        else if h1 : n.val - 1536 < 512 then x3 (ix2 t ⟨n.val - 1536, by omega⟩)
        else if h2 : n.val - 1536 - 512 < 512 then x6 (ix2 t ⟨n.val - 1536 - 512, by omega⟩)
        else if h3 : n.val - 1536 - 512 - 512 < 512 then x7 (ix2 t ⟨n.val - 1536 - 512 - 512, by omega⟩)
        else w (ix2 t ⟨n.val - 1536 - 512 - 512 - 512, by omega⟩) := by
    pointwise
  rw [e]
  unfold AbSpec.colv
  by_cases c0 : n.val < 1536
  · rw [dif_pos c0, dif_pos c0]
  rw [dif_neg c0, dif_neg c0]
  by_cases c1 : n.val < 2048
  · rw [dif_pos c1, dif_pos (by omega)]
  rw [dif_neg c1, dif_neg (by omega)]
  by_cases c2 : n.val < 2560
  · rw [dif_pos c2, dif_pos (by omega)]
    exact congrArg x6 (congrArg (ix2 t) (Fin.ext (by show n.val - 1536 - 512 = n.val - 2048; omega)))
  rw [dif_neg c2, dif_neg (by omega)]
  by_cases c3 : n.val < 3072
  · rw [dif_pos c3, dif_pos (by omega)]
    exact congrArg x7 (congrArg (ix2 t) (Fin.ext (by show n.val - 1536 - 512 - 512 = n.val - 2560; omega)))
  rw [dif_neg c3, dif_neg (by omega)]
  rw [hn]
  by_cases c4 : n.val < 3076
  · rw [dif_pos c4, dif_pos (show n.val - 1536 - 512 - 512 - 512 < 4 by omega)]
    exact congrArg x4 (congrArg (ix2 t) (Fin.ext (by show n.val - 1536 - 512 - 512 - 512 = n.val - 3072; omega)))
  rw [dif_neg c4, dif_neg (show ¬ n.val - 1536 - 512 - 512 - 512 < 4 by omega)]
  by_cases c5 : n.val < 3080
  · rw [dif_pos c5, dif_pos (show n.val - 1536 - 512 - 512 - 512 < 8 by omega)]
    exact congrArg x5 (congrArg (ix2 t) (Fin.ext (by show n.val - 1536 - 512 - 512 - 512 - 4 = n.val - 3076; omega)))
  rw [dif_neg c5, dif_neg (show ¬ n.val - 1536 - 512 - 512 - 512 < 8 by omega)]

theorem v4_at (t : Fin 8192) (d : Fin 1024) : (V m c main_v4 : Vec Ideal S8192x1024 .bf16) (ix2 t d) = (a0 m c (ix2 t d) : EReal) := by
  rw [V_v4]
  pointwise
abbrev cv (t : Fin 8192) (n : Fin 3200) : EReal := AbSpec.colv (a2 m c) (a3 m c) (a4 m c) (a5 m c) (a6 m c) (a7 m c) t n
theorem v3_at (t : Fin 8192) (n : Fin 3200) : (V m c main_v3 : Vec Ideal S8192x3200 .bf16) (ix2 t n) = (cv m c t n : EReal) := by
  rw [V_v3]
  show _ = AbSpec.colv (a2 m c) (a3 m c) (a4 m c) (a5 m c) (a6 m c) (a7 m c) t n
  rw [← cat_at]
  generalize cat (a2 m c) (a3 m c) (a4 m c) (a5 m c) (a6 m c) (a7 m c) = y
  pointwise

/-! ## The blocks: point `t` works on columns `(t / 2) * 640 …` and rows `(t % 2) * 4096 …` -/

theorem lt10 (t : Fin cfg0.N) : t.val < 10 := lt_of_lt_of_eq t.isLt N_0
theorem idx0 (t : Fin cfg0.N) : win0_0.index t 0 = t.val % 2 ∧ win0_0.index t 1 = 0 :=
  (by decide +kernel : ∀ t : Fin grid0.N, win0_0.index t 0 = t.val % 2 ∧ win0_0.index t 1 = 0) t
theorem idx1 (t : Fin cfg0.N) : win0_1.index t 0 = t.val % 2 ∧ win0_1.index t 1 = t.val / 2 :=
  (by decide +kernel : ∀ t : Fin grid0.N, win0_1.index t 0 = t.val % 2 ∧ win0_1.index t 1 = t.val / 2) t

def row (t : Fin cfg0.N) (p : Fin 4096) : Fin 8192 := ⟨t.val % 2 * 4096 + p.val, by omega⟩
def col (t : Fin cfg0.N) (k : Fin 640) : Fin 3200 := ⟨t.val / 2 * 640 + k.val, by have := lt10 t; omega⟩

abbrev bH (t : Fin cfg0.N) : Vec Ideal S4096x1024 .bf16 := iblk m c 0 t
abbrev bD (t : Fin cfg0.N) : Vec Ideal S4096x640 .bf16 := iblk m c 1 t

theorem bH_at (t : Fin cfg0.N) (p : Fin 4096) (d : Fin 1024) : (bH m c t (ix2 p d) : EReal) = a0 m c (ix2 (row t p) d) := by
  have hi := idx0 t
  rw [← v4_at]
  show iblk m c 0 t _ = _
  unfold iblk
  rw [View.read_apply]
  show V m c main_v4 _ = V m c main_v4 _
  congr 1
  funext ax
  apply Fin.ext
  match ax with
  | ⟨0, _⟩ => show win0_0.index t 0 * 4096 + 1 * p.val = _; rw [hi.1]; show _ = t.val % 2 * 4096 + p.val; omega
  | ⟨1, _⟩ => show win0_0.index t 1 * 1024 + 1 * d.val = _; rw [hi.2]; show _ = d.val; omega
theorem bD_at (t : Fin cfg0.N) (p : Fin 4096) (k : Fin 640) : (bD m c t (ix2 p k) : EReal) = cv m c (row t p) (col t k) := by
  have hi := idx1 t
  rw [← v3_at]
  show iblk m c 1 t _ = _
  unfold iblk
  rw [View.read_apply]
  show V m c main_v3 _ = V m c main_v3 _
  congr 1
  funext ax
  apply Fin.ext
  match ax with
  | ⟨0, _⟩ => show win0_1.index t 0 * 4096 + 1 * p.val = _; rw [hi.1]; show _ = t.val % 2 * 4096 + p.val; omega
  | ⟨1, _⟩ => show win0_1.index t 1 * 640 + 1 * k.val = _; rw [hi.2]; show _ = t.val / 2 * 640 + k.val; omega

/-! ## The product -/

theorem pay_at (x1 y1 : Vec Ideal S4096x640 .bf16) (x0 y0 : Vec Ideal S4096x1024 .bf16) (b : Fin 1024) (a : Fin 640) :
    k0_pay4 (F := Ideal) (k0_pay3 x0 x1 (k0_pay2 y0 y1)) (ix2 b a)
      = (∑ p : Fin 4096, (y0 (ix2 p b) : EReal) * y1 (ix2 p a)) + ∑ p : Fin 4096, (x0 (ix2 p b) : EReal) * x1 (ix2 p a) := by
  pointwise [k0_pay4, k0_pay3, k0_pay2, k0_pay1]

/-- A sum over the rows is the sum over the first half and the sum over the second. -/
theorem sum_halves (f : Fin 8192 → EReal) : ∑ t, f t = (∑ p : Fin 4096, f ⟨p.val, by omega⟩) + ∑ p : Fin 4096, f ⟨4096 + p.val, by omega⟩ :=
  Fin.sum_univ_add (a := 4096) (b := 4096) f

/-- The gradient: all rows, one column of the inputs against one column of the cotangents. -/
def grad (h : Vec Ideal S8192x1024 .f32) (d : Fin 8192 → Fin 3200 → EReal) (b : Fin 1024) (n : Fin 3200) : EReal :=
  ∑ t : Fin 8192, (h (ix2 t b) : EReal) * d t n

theorem G2_at (b : Fin 1024) (n : Fin 3200) : G2 m c (ix2 b n) = grad (a0 m c) (cv m c) b n := by
  obtain ⟨e, a, rfl⟩ : ∃ (e : Fin 5) (a : Fin 640), n = ⟨e.val * 640 + a.val, by omega⟩ :=
    ⟨⟨n.val / 640, by omega⟩, ⟨n.val % 640, by omega⟩, Fin.ext (by show n.val = n.val / 640 * 640 + n.val % 640; omega)⟩
  have hp : pt2Of (ix2 b ⟨e.val * 640 + a.val, by omega⟩) = 2 * e.val + 1 := by
    show 2 * (5 * (b.val / 1024 - 0) + 1 * ((e.val * 640 + a.val) / 640 - 0)) + 1 = _
    omega
  have hN : 2 * e.val + 1 < cfg0.N := lt_of_lt_of_eq (show 2 * e.val + 1 < 10 by omega) N_0.symm
  have hN' : 2 * e.val < cfg0.N := by omega
  have hl : loc2Of (ix2 b ⟨e.val * 640 + a.val, by omega⟩) = ix2 b a := by
    funext ax; apply Fin.ext
    match ax with
    | ⟨0, _⟩ => show b.val % 1024 = b.val; omega
    | ⟨1, _⟩ => show (e.val * 640 + a.val) % 640 = a.val; omega
  have key : G2 m c (ix2 b ⟨e.val * 640 + a.val, by omega⟩) = (outsAt0 m c (2 * e.val + 1) hN).1 (ix2 b a) := by
    unfold G2
    rw [dif_pos (by rw [hp]; exact hN), hl, outsAt0_sweep, fold0_congr m c _ _ _ _ hp]
  rw [key]
  have eB := outsAt0_B m c ⟨2 * e.val + 1, hN⟩ (by show ¬(2 * e.val + 1) % 2 = 0; omega) (by show (2 * e.val + 1) % 2 = 1; omega) (by show (2 * e.val + 1) % 2 = 1; omega)
  have eA := outsAt0_A m c ⟨2 * e.val, hN'⟩ (by show (2 * e.val) % 2 = 0; omega) (by show ¬(2 * e.val) % 2 = 1; omega) (by show ¬(2 * e.val) % 2 = 1; omega)
  rw [show (outsAt0 m c (2 * e.val + 1) hN).1 = _ from congrArg Prod.fst eB, outB]
  rw [show (outsAt0 m c (2 * e.val + 1 - 1) _).2 = _ from congrArg Prod.snd eA, soutA]
  refine (pay_at (bD m c ⟨2 * e.val + 1, hN⟩) (bD m c ⟨2 * e.val, hN'⟩) (bH m c ⟨2 * e.val + 1, hN⟩) (bH m c ⟨2 * e.val, hN'⟩) b a).trans ?_
  unfold grad
  rw [sum_halves]
  refine congrArg₂ (· + ·) (Finset.sum_congr rfl fun p _ => ?_) (Finset.sum_congr rfl fun p _ => ?_)
  · rw [bD_at, bH_at]
    have e1 : row ⟨2 * e.val, hN'⟩ p = ⟨p.val, by omega⟩ := Fin.ext (show 2 * e.val % 2 * 4096 + p.val = p.val by omega)
    have e2 : col ⟨2 * e.val, hN'⟩ a = ⟨e.val * 640 + a.val, by omega⟩ := Fin.ext (show 2 * e.val / 2 * 640 + a.val = e.val * 640 + a.val by omega)
    rw [e1, e2]
  · rw [bD_at, bH_at]
    have e1 : row ⟨2 * e.val + 1, hN⟩ p = ⟨4096 + p.val, by omega⟩ := Fin.ext (show (2 * e.val + 1) % 2 * 4096 + p.val = 4096 + p.val by omega)
    have e2 : col ⟨2 * e.val + 1, hN⟩ a = ⟨e.val * 640 + a.val, by omega⟩ := Fin.ext (show (2 * e.val + 1) / 2 * 640 + a.val = e.val * 640 + a.val by omega)
    rw [e1, e2]

end Cert.Kernel9Ideal.AbW

/-! ## The plain backward pass -/

namespace Cert.Reference9Ideal.AbW

open Cert.Reference9Ideal Cert.Reference9Ideal.Gen Cert.Reference9Ideal.Read
open Idealize.ShloMosaic Idealize.ShloMosaic.TcCoe Idealize.ShloMosaic.Tactic
open Idealize.SL.Sem

variable (x0 : (⟨S8192x1024, .f32⟩ : BufTy).Contents (Elt Ideal)) (x2 : (⟨S8192x1536, .f32⟩ : BufTy).Contents (Elt Ideal))
  (x3 : (⟨S8192x512, .f32⟩ : BufTy).Contents (Elt Ideal)) (x4 x5 : (⟨S8192x4, .f32⟩ : BufTy).Contents (Elt Ideal))
  (x6 x7 : (⟨S8192x512, .f32⟩ : BufTy).Contents (Elt Ideal))

/-- Where a column of the result stands among the cotangents' columns. -/
def pos (n : Fin 3200) : ℕ := if n.val < 2048 then n.val else if n.val < 3072 then n.val + 8 else n.val - 1024

/-- The cotangents in the projection's own column order. -/
theorem v7_read (t : Fin 8192) (s : ℕ) (hs : s < 3080) :
    (val_main_v7 (F := Ideal) x2 x3 x4 x5 x6 x7 (ix2 t ⟨s, hs⟩) : EReal)
      = if h : s < 1536 then x2 (ix2 t ⟨s, h⟩)
        else if h1 : s - 1536 < 512 then x3 (ix2 t ⟨s - 1536, by omega⟩)
        else if h2 : s - 1536 - 512 < 4 then x4 (ix2 t ⟨s - 1536 - 512, by omega⟩)
        else if h3 : s - 1536 - 512 - 4 < 4 then x5 (ix2 t ⟨s - 1536 - 512 - 4, by omega⟩)
        else if h4 : s - 1536 - 512 - 4 - 4 < 512 then x6 (ix2 t ⟨s - 1536 - 512 - 4 - 4, by omega⟩)
        else x7 (ix2 t ⟨s - 1536 - 512 - 4 - 4 - 512, by omega⟩) := by
  unfold val_main_v7
  pointwise

theorem v7_at (t : Fin 8192) (n : Fin 3200) (h : n.val < 3080) (hp : pos n < 3080) :
    (val_main_v7 (F := Ideal) x2 x3 x4 x5 x6 x7 (ix2 t ⟨pos n, hp⟩) : EReal) = AbSpec.colv x2 x3 x4 x5 x6 x7 t n := by
  have e : (n.val < 2048 ∧ pos n = n.val) ∨ (2048 ≤ n.val ∧ n.val < 3072 ∧ pos n = n.val + 8) ∨ (3072 ≤ n.val ∧ pos n = n.val - 1024) := by
    unfold pos; split_ifs <;> omega
  rw [v7_read]
  generalize pos n = s at e hp ⊢
  unfold AbSpec.colv
  by_cases c0 : n.val < 1536
  · rw [dif_pos (show s < 1536 by omega), dif_pos c0]
    exact congrArg x2 (congrArg (ix2 t) (Fin.ext (by show s = n.val; omega)))
  rw [dif_neg (show ¬s < 1536 by omega), dif_neg c0]
  by_cases c1 : n.val < 2048
  · rw [dif_pos (show s - 1536 < 512 by omega), dif_pos c1]
    exact congrArg x3 (congrArg (ix2 t) (Fin.ext (by show s - 1536 = n.val - 1536; omega)))
  rw [dif_neg (show ¬s - 1536 < 512 by omega), dif_neg c1]
  by_cases c2 : n.val < 2560
  · rw [dif_neg (show ¬s - 1536 - 512 < 4 by omega), dif_neg (show ¬s - 1536 - 512 - 4 < 4 by omega), dif_pos (show s - 1536 - 512 - 4 - 4 < 512 by omega), dif_pos c2]
    exact congrArg x6 (congrArg (ix2 t) (Fin.ext (by show s - 1536 - 512 - 4 - 4 = n.val - 2048; omega)))
  rw [dif_neg c2]
  by_cases c3 : n.val < 3072
  · rw [dif_neg (show ¬s - 1536 - 512 < 4 by omega), dif_neg (show ¬s - 1536 - 512 - 4 < 4 by omega), dif_neg (show ¬s - 1536 - 512 - 4 - 4 < 512 by omega), dif_pos c3]
    exact congrArg x7 (congrArg (ix2 t) (Fin.ext (by show s - 1536 - 512 - 4 - 4 - 512 = n.val - 2560; omega)))
  rw [dif_neg c3]
  by_cases c4 : n.val < 3076
  · rw [dif_pos (show s - 1536 - 512 < 4 by omega), dif_pos c4]
    exact congrArg x4 (congrArg (ix2 t) (Fin.ext (by show s - 1536 - 512 = n.val - 3072; omega)))
  rw [dif_neg (show ¬s - 1536 - 512 < 4 by omega), dif_neg c4, dif_pos (show s - 1536 - 512 - 4 < 4 by omega), dif_pos h]
  exact congrArg x5 (congrArg (ix2 t) (Fin.ext (by show s - 1536 - 512 - 4 = n.val - 3076; omega)))

theorem v9_at (b : Fin 1024) (n : Fin 3080) :
    (val_main_v9 (F := Ideal) x0 x2 x3 x4 x5 x6 x7 (ix2 b n) : EReal) = ∑ t : Fin 8192, (x0 (ix2 t b) : EReal) * val_main_v7 (F := Ideal) x2 x3 x4 x5 x6 x7 (ix2 t n) := by
  unfold val_main_v9 val_main_v8
  generalize val_main_v7 (F := Ideal) x2 x3 x4 x5 x6 x7 = y
  pointwise
  exact Finset.sum_congr rfl fun t _ => mul_comm _ _

theorem ref_at (b : Fin 1024) (n : Fin 3200) :
    val_main_v15 (F := Ideal) x0 x2 x3 x4 x5 x6 x7 (ix2 b n) = Cert.Kernel9Ideal.AbW.grad x0 (AbSpec.colv x2 x3 x4 x5 x6 x7) b n := by
  have e : (n.val < 2048 ∧ pos n = n.val) ∨ (2048 ≤ n.val ∧ n.val < 3072 ∧ pos n = n.val + 8) ∨ (3072 ≤ n.val ∧ pos n = n.val - 1024) := by
    unfold pos; split_ifs <;> omega
  have h : (val_main_v15 (F := Ideal) x0 x2 x3 x4 x5 x6 x7 (ix2 b n) : EReal)
      = if h : n.val < 3080 then val_main_v9 (F := Ideal) x0 x2 x3 x4 x5 x6 x7 (ix2 b ⟨pos n, by omega⟩) else 0 := by
    unfold val_main_v15 val_main_v14 val_main_v13 val_main_v12 val_main_v11 val_main_v10 val_main_cst
    generalize val_main_v9 (F := Ideal) x0 x2 x3 x4 x5 x6 x7 = q
    refine Eq.trans (b := if h : n.val < 2048 then (q (ix2 b ⟨n.val, by omega⟩) : EReal)
      else if h1 : n.val - 2048 < 1024 then q (ix2 b ⟨2056 + (n.val - 2048), by omega⟩)
      else if h2 : n.val - 2048 - 1024 < 8 then q (ix2 b ⟨2048 + (n.val - 2048 - 1024), by omega⟩) else 0) ?_ ?_
    · pointwise
    by_cases c0 : n.val < 2048
    · rw [dif_pos c0, dif_pos (by omega)]
      exact congrArg q (congrArg (ix2 b) (Fin.ext (by show n.val = pos n; omega)))
    rw [dif_neg c0]
    by_cases c1 : n.val < 3072
    · rw [dif_pos (by omega), dif_pos (by omega)]
      exact congrArg q (congrArg (ix2 b) (Fin.ext (by show 2056 + (n.val - 2048) = pos n; omega)))
    rw [dif_neg (by omega)]
    by_cases c2 : n.val < 3080
    · rw [dif_pos (by omega), dif_pos c2]
      exact congrArg q (congrArg (ix2 b) (Fin.ext (by show 2048 + (n.val - 2048 - 1024) = pos n; omega)))
    rw [dif_neg (by omega), dif_neg c2]
  rw [h]
  unfold Cert.Kernel9Ideal.AbW.grad
  by_cases hn : n.val < 3080
  · rw [dif_pos hn, v9_at]
    exact Finset.sum_congr rfl fun t _ => by rw [v7_at _ _ _ _ _ _ _ _ hn]
  · rw [dif_neg hn]
    refine (Finset.sum_eq_zero fun t _ => ?_).symm
    unfold AbSpec.colv
    rw [dif_neg (by omega), dif_neg (by omega), dif_neg (by omega), dif_neg (by omega), dif_neg (by omega), dif_neg (by omega), mul_zero]

/-- The plain backward pass runs and leaves its arguments; it declares no semaphore. -/
theorem frame_reference : Cert.quiescent_Reference9Ideal := by
  intro m ρ _
  exact (θ_run Cert.Reference9Ideal.defs _ _).mono (fun r h => ⟨fun c => (h c).2, Idealize.ShloMosaic.sem_eq_zero_of_no_sems (by decide) r.2⟩)
    (Cert.Reference9Ideal.Value.run (F := Ideal) m ρ)

/-- The call's result is the plain backward pass's. -/
theorem value : Cert.algebraic_Kernel9Ideal_Reference9Ideal := by
  intro m ρ m' ρ' _ hargs
  refine ⟨fun c => Cert.Kernel9Ideal.Value.G2 m c, Cert.Kernel9Ideal.Value.run (F := Ideal) m ρ, ?_⟩
  refine (θ_run Cert.Reference9Ideal.defs _ _).mono (fun r h c => ⟨(h c).1.trans ?_, (h c).2⟩) (Cert.Reference9Ideal.Value.run (F := Ideal) m' ρ')
  obtain ⟨g0, g1, g2, g3, g4, g5, g6, g7⟩ := hargs c
  rw [val_main_v15_eq, g0, g2, g3, g4, g5, g6, g7]
  funext i
  obtain ⟨b, n, rfl⟩ : ∃ (b : Fin 1024) (n : Fin 3200), i = ix2 b n := ⟨i 0, i 1, eq_ix2 i⟩
  exact (ref_at _ _ _ _ _ _ _ b n).trans (Cert.Kernel9Ideal.AbW.G2_at m c b n).symm

end Cert.Reference9Ideal.AbW

end
-- ==== Proof.AbBwdVal.lean ====
/- The backward pass of the attention block's input projection: what the call computes from the arguments.  Sixteen grid points
   take 512 rows each; the gradient of the norm's weights is accumulated over all of them. -/
module

public import proofs.«01_k».proof.Defs
public import proofs.«01_k».proof.Proof.AbCat
public import proofs.«01_k».proof.Proof.AbBwdSpec
public import proofs.«01_k».proof.Proof.AbBwdOut
public import proofs.«01_k».proof.Proof.AbWVal
public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.AbSpec

open Idealize.ShloMosaic

/-- Column `n` of the projection's weights in the order the call reads them: the first 2048, then the last 1024, then the eight
    narrow ones, then zeros. -/
def wcol (w : Vec Ideal ⟨2, ![1024, 3080]⟩ .f32) (d : Fin 1024) (n : Fin 3200) : EReal :=
  if h : n.val < 2048 then w (ix2 d ⟨n.val, by omega⟩)
  else if h1 : n.val < 3072 then w (ix2 d ⟨n.val + 8, by omega⟩)
  else if h2 : n.val < 3080 then w (ix2 d ⟨n.val - 1024, by omega⟩)
  else 0

end Cert.AbSpec

namespace Cert.Kernel7Ideal.AbBwd

open Cert.Kernel7Ideal Cert.Kernel7Ideal.Gen Cert.Kernel7Ideal.Value
open Idealize.ShloMosaic Idealize.ShloMosaic.TcCoe Idealize.ShloMosaic.Tactic Idealize.ShloMosaic.StableHlo
open Idealize.SL.Sem
open Idealize.ShloMosaic.Pipeline (Dat Cfg Window)

/-! ## The block of cotangents, a column range at a time -/

theorem emb_r0 (p : Fin 512) (k : Fin 1536) : r0.emb (ix2 p k : S512x1536.Idx) = (ix2 p ⟨0 + k.val, by omega⟩ : S512x3200.Idx) := by
  funext ax
  apply Fin.ext
  match ax with
  | ⟨0, _⟩ => show 0 + 1 * p.val = p.val; omega
  | ⟨1, _⟩ => show 0 + 1 * k.val = 0 + k.val; omega
theorem off_r0 (p : Fin 512) (n : Fin 3200) (h : n.val < 0) : (ix2 p n : S512x3200.Idx) ∉ r0.set := by
  rw [Rect.mem_set_unit]
  intro h'
  have h1 : 0 ≤ n.val := (h' 1).1
  omega
theorem emb_r1 (p : Fin 512) (k : Fin 512) : r1.emb (ix2 p k : S512x512.Idx) = (ix2 p ⟨1536 + k.val, by omega⟩ : S512x3200.Idx) := by
  funext ax
  apply Fin.ext
  match ax with
  | ⟨0, _⟩ => show 0 + 1 * p.val = p.val; omega
  | ⟨1, _⟩ => show 1536 + 1 * k.val = 1536 + k.val; omega
theorem off_r1 (p : Fin 512) (n : Fin 3200) (h : n.val < 1536) : (ix2 p n : S512x3200.Idx) ∉ r1.set := by
  rw [Rect.mem_set_unit]
  intro h'
  have h1 : 1536 ≤ n.val := (h' 1).1
  omega
theorem emb_r2 (p : Fin 512) (k : Fin 512) : r2.emb (ix2 p k : S512x512.Idx) = (ix2 p ⟨2048 + k.val, by omega⟩ : S512x3200.Idx) := by
  funext ax
  apply Fin.ext
  match ax with
  | ⟨0, _⟩ => show 0 + 1 * p.val = p.val; omega
  | ⟨1, _⟩ => show 2048 + 1 * k.val = 2048 + k.val; omega
theorem off_r2 (p : Fin 512) (n : Fin 3200) (h : n.val < 2048) : (ix2 p n : S512x3200.Idx) ∉ r2.set := by
  rw [Rect.mem_set_unit]
  intro h'
  have h1 : 2048 ≤ n.val := (h' 1).1
  omega
theorem emb_r3 (p : Fin 512) (k : Fin 512) : r3.emb (ix2 p k : S512x512.Idx) = (ix2 p ⟨2560 + k.val, by omega⟩ : S512x3200.Idx) := by
  funext ax
  apply Fin.ext
  match ax with
  | ⟨0, _⟩ => show 0 + 1 * p.val = p.val; omega
  | ⟨1, _⟩ => show 2560 + 1 * k.val = 2560 + k.val; omega
theorem off_r3 (p : Fin 512) (n : Fin 3200) (h : n.val < 2560) : (ix2 p n : S512x3200.Idx) ∉ r3.set := by
  rw [Rect.mem_set_unit]
  intro h'
  have h1 : 2560 ≤ n.val := (h' 1).1
  omega
theorem emb_r4 (p : Fin 512) (k : Fin 128) : r4.emb (ix2 p k : S512x128.Idx) = (ix2 p ⟨3072 + k.val, by omega⟩ : S512x3200.Idx) := by
  funext ax
  apply Fin.ext
  match ax with
  | ⟨0, _⟩ => show 0 + 1 * p.val = p.val; omega
  | ⟨1, _⟩ => show 3072 + 1 * k.val = 3072 + k.val; omega
theorem off_r4 (p : Fin 512) (n : Fin 3200) (h : n.val < 3072) : (ix2 p n : S512x3200.Idx) ∉ r4.set := by
  rw [Rect.mem_set_unit]
  intro h'
  have h1 : 3072 ≤ n.val := (h' 1).1
  omega

section
variable (x2 : Vec Ideal S512x1536 .bf16) (x3 x4 x5 : Vec Ideal S512x512 .bf16) (x6 : Vec Ideal S512x128 .bf16)

theorem catV_0 (p : Fin 512) (k : Fin 1536) : (catV x2 x3 x4 x5 x6 (ix2 p ⟨0 + k.val, by omega⟩) : EReal) = x2 (ix2 p k) := by
  unfold catV
  rw [View.canon_cons_of_not_mem (⟨r4, k0_pay10 x6⟩ : View.Piece (Elt Ideal) S512x3200 .bf16) _ (off_r4 p ⟨0 + k.val, by omega⟩ (by show 0 + k.val < 3072; omega))]
  rw [View.canon_cons_of_not_mem (⟨r3, k0_pay9 x5⟩ : View.Piece (Elt Ideal) S512x3200 .bf16) _ (off_r3 p ⟨0 + k.val, by omega⟩ (by show 0 + k.val < 2560; omega))]
  rw [View.canon_cons_of_not_mem (⟨r2, k0_pay8 x4⟩ : View.Piece (Elt Ideal) S512x3200 .bf16) _ (off_r2 p ⟨0 + k.val, by omega⟩ (by show 0 + k.val < 2048; omega))]
  rw [View.canon_cons_of_not_mem (⟨r1, k0_pay7 x3⟩ : View.Piece (Elt Ideal) S512x3200 .bf16) _ (off_r1 p ⟨0 + k.val, by omega⟩ (by show 0 + k.val < 1536; omega))]
  refine (congrArg _ (emb_r0 p k).symm).trans ((View.canon_cons_emb (Val := Elt Ideal) (e := .bf16) r0 (k0_pay6 x2) _ (ix2 p k : S512x1536.Idx)).trans ?_)
  pointwise [k0_pay6]
theorem catV_1 (p : Fin 512) (k : Fin 512) : (catV x2 x3 x4 x5 x6 (ix2 p ⟨1536 + k.val, by omega⟩) : EReal) = x3 (ix2 p k) := by
  unfold catV
  rw [View.canon_cons_of_not_mem (⟨r4, k0_pay10 x6⟩ : View.Piece (Elt Ideal) S512x3200 .bf16) _ (off_r4 p ⟨1536 + k.val, by omega⟩ (by show 1536 + k.val < 3072; omega))]
  rw [View.canon_cons_of_not_mem (⟨r3, k0_pay9 x5⟩ : View.Piece (Elt Ideal) S512x3200 .bf16) _ (off_r3 p ⟨1536 + k.val, by omega⟩ (by show 1536 + k.val < 2560; omega))]
  rw [View.canon_cons_of_not_mem (⟨r2, k0_pay8 x4⟩ : View.Piece (Elt Ideal) S512x3200 .bf16) _ (off_r2 p ⟨1536 + k.val, by omega⟩ (by show 1536 + k.val < 2048; omega))]
  refine (congrArg _ (emb_r1 p k).symm).trans ((View.canon_cons_emb (Val := Elt Ideal) (e := .bf16) r1 (k0_pay7 x3) _ (ix2 p k : S512x512.Idx)).trans ?_)
  pointwise [k0_pay7]
theorem catV_2 (p : Fin 512) (k : Fin 512) : (catV x2 x3 x4 x5 x6 (ix2 p ⟨2048 + k.val, by omega⟩) : EReal) = x4 (ix2 p k) := by
  unfold catV
  rw [View.canon_cons_of_not_mem (⟨r4, k0_pay10 x6⟩ : View.Piece (Elt Ideal) S512x3200 .bf16) _ (off_r4 p ⟨2048 + k.val, by omega⟩ (by show 2048 + k.val < 3072; omega))]
  rw [View.canon_cons_of_not_mem (⟨r3, k0_pay9 x5⟩ : View.Piece (Elt Ideal) S512x3200 .bf16) _ (off_r3 p ⟨2048 + k.val, by omega⟩ (by show 2048 + k.val < 2560; omega))]
  refine (congrArg _ (emb_r2 p k).symm).trans ((View.canon_cons_emb (Val := Elt Ideal) (e := .bf16) r2 (k0_pay8 x4) _ (ix2 p k : S512x512.Idx)).trans ?_)
  pointwise [k0_pay8]
theorem catV_3 (p : Fin 512) (k : Fin 512) : (catV x2 x3 x4 x5 x6 (ix2 p ⟨2560 + k.val, by omega⟩) : EReal) = x5 (ix2 p k) := by
  unfold catV
  rw [View.canon_cons_of_not_mem (⟨r4, k0_pay10 x6⟩ : View.Piece (Elt Ideal) S512x3200 .bf16) _ (off_r4 p ⟨2560 + k.val, by omega⟩ (by show 2560 + k.val < 3072; omega))]
  refine (congrArg _ (emb_r3 p k).symm).trans ((View.canon_cons_emb (Val := Elt Ideal) (e := .bf16) r3 (k0_pay9 x5) _ (ix2 p k : S512x512.Idx)).trans ?_)
  pointwise [k0_pay9]
theorem catV_4 (p : Fin 512) (k : Fin 128) : (catV x2 x3 x4 x5 x6 (ix2 p ⟨3072 + k.val, by omega⟩) : EReal) = x6 (ix2 p k) := by
  unfold catV
  refine (congrArg _ (emb_r4 p k).symm).trans ((View.canon_cons_emb (Val := Elt Ideal) (e := .bf16) r4 (k0_pay10 x6) _ (ix2 p k : S512x128.Idx)).trans ?_)
  pointwise [k0_pay10]

end

/-! ## The payloads -/

section
variable (y : Vec Ideal S512x3200 .bf16) (x7 : Vec Ideal S1024x3200 .bf16) (x0 : Vec Ideal S512x1024 .f32) (x1 : Vec Ideal S1x1024 .f32)
  (x8 : Vec Ideal S512x1024 .f32)

/-- The scale of row `p` of a block. -/
def rsV (p : Fin 512) : EReal := Ideal.rsqrt (Ideal.div (∑ d : Fin 1024, (x0 (ix2 p d) : EReal) * x0 (ix2 p d)) FfnSpec.cN + FfnSpec.cE)

theorem pay11_at (p : Fin 512) (d : Fin 1024) :
    (k0_pay11 (F := Ideal) y x7 (ix2 p d) : EReal) = ∑ n : Fin 3200, (y (ix2 p n) : EReal) * x7 (ix2 d n) := by
  pointwise [k0_pay11]

theorem pay2_at (p : Fin 512) (d : Fin 1024) :
    (k0_pay2 (F := Ideal) x0 (k0_pay12 x0) (k0_pay13 (F := Ideal)) (ix2 p d) : EReal) = x0 (ix2 p d) * rsV x0 p := by
  unfold rsV
  pointwise [k0_pay2, k0_pay1, k0_pay12, k0_pay13]

theorem pay1_at (p : Fin 512) (z : Fin 1) :
    (k0_pay1 (F := Ideal) (k0_pay12 x0) (k0_pay13 (F := Ideal)) (ix2 p z) : EReal) = rsV x0 p := by
  unfold rsV
  pointwise [k0_pay1, k0_pay12, k0_pay13]

theorem pay3_at (v : Vec Ideal S512x1024 .f32) (z : Fin 1) (d : Fin 1024) :
    (k0_pay3 (F := Ideal) v x0 (k0_pay12 x0) (k0_pay13 (F := Ideal)) (ix2 z d) : EReal)
      = ∑ p : Fin 512, (v (ix2 p d) : EReal) * (x0 (ix2 p d) * rsV x0 p) := by
  have h := pay2_at x0
  unfold k0_pay3
  generalize k0_pay2 (F := Ideal) x0 (k0_pay12 x0) (k0_pay13 (F := Ideal)) = q at h ⊢
  simp only [← h]
  pointwise

theorem pay5_at (v : Vec Ideal S512x1024 .f32) (xo : Vec Ideal S1x1024 .f32) (z : Fin 1) (d : Fin 1024) :
    (k0_pay5 (F := Ideal) v x0 (k0_pay12 x0) (k0_pay13 (F := Ideal)) xo (ix2 z d) : EReal)
      = xo (ix2 z d) + ∑ p : Fin 512, (v (ix2 p d) : EReal) * (x0 (ix2 p d) * rsV x0 p) := by
  rw [← pay3_at x0 v z d]
  unfold k0_pay5
  generalize k0_pay3 (F := Ideal) v x0 (k0_pay12 x0) (k0_pay13 (F := Ideal)) = q
  pointwise

theorem pay4_at (v : Vec Ideal S512x1024 .f32) (p : Fin 512) (d : Fin 1024) :
    (k0_pay4 (F := Ideal) v x0 (k0_pay12 x0) (k0_pay13 (F := Ideal)) x1 x8 (ix2 p d) : EReal)
      = x8 (ix2 p d) + rsV x0 p * (v (ix2 p d) * x1 (ix2 0 d)
          - x0 (ix2 p d) * rsV x0 p * Ideal.div (∑ e : Fin 1024, (v (ix2 p e) : EReal) * x1 (ix2 0 e) * (x0 (ix2 p e) * rsV x0 p)) FfnSpec.cN) := by
  have h := pay2_at x0
  have h' := pay1_at x0
  unfold k0_pay4
  generalize k0_pay2 (F := Ideal) x0 (k0_pay12 x0) (k0_pay13 (F := Ideal)) = q at h ⊢
  generalize k0_pay1 (F := Ideal) (k0_pay12 x0) (k0_pay13 (F := Ideal)) = q' at h' ⊢
  simp only [← h]
  rw [← h' p 0]
  pointwise
end

/-! ## The arguments, and what the host code hands to the call -/

variable (m : (ℓ : Loc nD τ sig) → Buf (Elt Ideal) ℓ) (c : Dev nD)

abbrev a0 : Vec Ideal S8192x1024 .f32 := m ((c.tc : Thread nD τ).loc main_arg0)
abbrev a1 : Vec Ideal S1024 .f32 := m ((c.tc : Thread nD τ).loc main_arg1)
abbrev a2 : Vec Ideal S1024x3080 .f32 := m ((c.tc : Thread nD τ).loc main_arg2)
abbrev a3 : Vec Ideal S8192x1536 .f32 := m ((c.tc : Thread nD τ).loc main_arg3)
abbrev a4 : Vec Ideal S8192x512 .f32 := m ((c.tc : Thread nD τ).loc main_arg4)
abbrev a5 : Vec Ideal S8192x4 .f32 := m ((c.tc : Thread nD τ).loc main_arg5)
abbrev a6 : Vec Ideal S8192x4 .f32 := m ((c.tc : Thread nD τ).loc main_arg6)
abbrev a7 : Vec Ideal S8192x512 .f32 := m ((c.tc : Thread nD τ).loc main_arg7)
abbrev a8 : Vec Ideal S8192x512 .f32 := m ((c.tc : Thread nD τ).loc main_arg8)
abbrev a9 : Vec Ideal S8192x1024 .f32 := m ((c.tc : Thread nD τ).loc main_arg9)

/-- The weights' columns in the order the call reads them. -/
def wcat (w : Vec Ideal S1024x3080 .f32) : Vec Ideal S1024x3200 .bf16 :=
  concatenate S1024x3200 1 [⟨S1024x2048, extractStridedSlice S1024x2048 ![0, 0] (truncf (F := Ideal) .bf16 w bitsLt_bf16_f32) slices_S1024x3080_S1024x2048_0_0⟩, ⟨S1024x1024, extractStridedSlice S1024x1024 ![0, 2056] (truncf (F := Ideal) .bf16 w bitsLt_bf16_f32) slices_S1024x3080_S1024x1024_0_2056⟩, ⟨S1024x8, extractStridedSlice S1024x8 ![0, 2048] (truncf (F := Ideal) .bf16 w bitsLt_bf16_f32) slices_S1024x3080_S1024x8_0_2048⟩, ⟨S1024x120, broadcastInDim S1024x120 ![] bcast_S_S1024x120 (constant (F := Ideal) S_ .bf16 0x0000#16)⟩] concatenates_S1024x2048_S1024x1024_S1024x8_S1024x120_S1024x3200_d1

theorem V_arg0 : (V m c main_arg0 : Vec Ideal S8192x1024 .f32) = a0 m c := by
  show StableHlo.after hostOps0 (fun b => m (c, b)) (Proc.devRef .tc main_arg0) = _
  simp only [hostOps0]
  after_results_simp <;> rfl
theorem V_arg9 : (V m c main_arg9 : Vec Ideal S8192x1024 .f32) = a9 m c := by
  show StableHlo.after hostOps0 (fun b => m (c, b)) (Proc.devRef .tc main_arg9) = _
  simp only [hostOps0]
  after_results_simp <;> rfl
theorem V_v2 : (V m c main_v2 : Vec Ideal S1x1024 .f32) = shapeCast S1x1024 (a1 m c) shapeCasts_S1024_S1x1024 := by
  show StableHlo.after hostOps0 (fun b => m (c, b)) (Proc.devRef .tc main_v2) = _
  simp only [hostOps0]
  after_results_simp <;> rfl
theorem V_v3 : (V m c main_v3 : Vec Ideal S8192x1536 .bf16) = truncf (F := Ideal) .bf16 (a3 m c) bitsLt_bf16_f32 := by
  show StableHlo.after hostOps0 (fun b => m (c, b)) (Proc.devRef .tc main_v3) = _
  simp only [hostOps0]
  after_results_simp <;> rfl
theorem V_v4 : (V m c main_v4 : Vec Ideal S8192x512 .bf16) = truncf (F := Ideal) .bf16 (a4 m c) bitsLt_bf16_f32 := by
  show StableHlo.after hostOps0 (fun b => m (c, b)) (Proc.devRef .tc main_v4) = _
  simp only [hostOps0]
  after_results_simp <;> rfl
theorem V_v5 : (V m c main_v5 : Vec Ideal S8192x512 .bf16) = truncf (F := Ideal) .bf16 (a7 m c) bitsLt_bf16_f32 := by
  show StableHlo.after hostOps0 (fun b => m (c, b)) (Proc.devRef .tc main_v5) = _
  simp only [hostOps0]
  after_results_simp <;> rfl
theorem V_v6 : (V m c main_v6 : Vec Ideal S8192x512 .bf16) = truncf (F := Ideal) .bf16 (a8 m c) bitsLt_bf16_f32 := by
  show StableHlo.after hostOps0 (fun b => m (c, b)) (Proc.devRef .tc main_v6) = _
  simp only [hostOps0]
  after_results_simp <;> rfl
theorem V_v7 : (V m c main_v7 : Vec Ideal S8192x128 .bf16) = truncf (F := Ideal) .bf16 (Cert.Kernel9Ideal.AbW.narrow (a5 m c) (a6 m c)) bitsLt_bf16_f32 := by
  show StableHlo.after hostOps0 (fun b => m (c, b)) (Proc.devRef .tc main_v7) = _
  simp only [hostOps0]
  after_results_simp <;> rfl
theorem V_v13 : (V m c main_v13 : Vec Ideal S1024x3200 .bf16) = wcat (a2 m c) := by
  show StableHlo.after hostOps0 (fun b => m (c, b)) (Proc.devRef .tc main_v13) = _
  simp only [hostOps0]
  after_results_simp <;> rfl

theorem wcat_at (w : Vec Ideal S1024x3080 .f32) (d : Fin 1024) (n : Fin 3200) : (wcat w (ix2 d n) : EReal) = AbSpec.wcol w d n := by
  unfold wcat AbSpec.wcol
  refine Eq.trans (b := if h : n.val < 2048 then (w (ix2 d ⟨n.val, by omega⟩) : EReal)
      else if h1 : n.val - 2048 < 1024 then w (ix2 d ⟨2056 + (n.val - 2048), by omega⟩)
      else if h2 : n.val - 2048 - 1024 < 8 then w (ix2 d ⟨2048 + (n.val - 2048 - 1024), by omega⟩) else 0) ?_ ?_
  · pointwise
  by_cases c0 : n.val < 2048
  · rw [dif_pos c0, dif_pos c0]
  rw [dif_neg c0, dif_neg c0]
  by_cases c1 : n.val < 3072
  · rw [dif_pos (by omega), dif_pos c1]
    exact congrArg w (congrArg (ix2 d) (Fin.ext (by show 2056 + (n.val - 2048) = n.val + 8; omega)))
  rw [dif_neg (by omega), dif_neg c1]
  by_cases c2 : n.val < 3080
  · rw [dif_pos (by omega), dif_pos c2]
    exact congrArg w (congrArg (ix2 d) (Fin.ext (by show 2048 + (n.val - 2048 - 1024) = n.val - 1024; omega)))
  rw [dif_neg (by omega), dif_neg c2]

theorem v2_at (z : Fin 1) (d : Fin 1024) : (V m c main_v2 : Vec Ideal S1x1024 .f32) (ix2 z d) = (a1 m c (ix1 d) : EReal) := by
  rw [V_v2]
  pointwise
theorem v13_at (d : Fin 1024) (n : Fin 3200) : (V m c main_v13 : Vec Ideal S1024x3200 .bf16) (ix2 d n) = (AbSpec.wcol (a2 m c) d n : EReal) := by
  rw [V_v13, wcat_at]
theorem v7_at (t : Fin 8192) (k : Fin 128) : (V m c main_v7 : Vec Ideal S8192x128 .bf16) (ix2 t k)
    = (if h4 : k.val < 4 then a5 m c (ix2 t ⟨k.val, h4⟩) else if h5 : k.val < 8 then a6 m c (ix2 t ⟨k.val - 4, by omega⟩) else 0 : EReal) := by
  rw [V_v7, ← Cert.Kernel9Ideal.AbW.narrow_at]
  generalize Cert.Kernel9Ideal.AbW.narrow (a5 m c) (a6 m c) = y
  pointwise
theorem v3_at (t : Fin 8192) (k : Fin 1536) : (V m c main_v3 : Vec Ideal S8192x1536 .bf16) (ix2 t k) = (a3 m c (ix2 t k) : EReal) := by
  rw [V_v3]
  pointwise
theorem v4_at (t : Fin 8192) (k : Fin 512) : (V m c main_v4 : Vec Ideal S8192x512 .bf16) (ix2 t k) = (a4 m c (ix2 t k) : EReal) := by
  rw [V_v4]
  pointwise
theorem v5_at (t : Fin 8192) (k : Fin 512) : (V m c main_v5 : Vec Ideal S8192x512 .bf16) (ix2 t k) = (a7 m c (ix2 t k) : EReal) := by
  rw [V_v5]
  pointwise
theorem v6_at (t : Fin 8192) (k : Fin 512) : (V m c main_v6 : Vec Ideal S8192x512 .bf16) (ix2 t k) = (a8 m c (ix2 t k) : EReal) := by
  rw [V_v6]
  pointwise

/-! ## The blocks: point `t` works on rows `t * 512 …` -/

theorem N16 : cfg0.N = 16 := N_0
theorem lt16 (t : Fin cfg0.N) : t.val < 16 := lt_of_lt_of_eq t.isLt N16
/-- Row `p` of point `t`'s tile. -/
def row (t : Fin cfg0.N) (p : Fin 512) : Fin 8192 := ⟨t.val * 512 + p.val, by have := lt16 t; omega⟩

theorem idx0 (t : Fin cfg0.N) : win0_0.index t 0 = t.val ∧ win0_0.index t 1 = 0 :=
  (by decide +kernel : ∀ t : Fin grid0.N, win0_0.index t 0 = t.val ∧ win0_0.index t 1 = 0) t
theorem idx2 (t : Fin cfg0.N) : win0_2.index t 0 = t.val ∧ win0_2.index t 1 = 0 :=
  (by decide +kernel : ∀ t : Fin grid0.N, win0_2.index t 0 = t.val ∧ win0_2.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = t.val ∧ win0_4.index t 1 = 0 :=
  (by decide +kernel : ∀ t : Fin grid0.N, win0_4.index t 0 = t.val ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx8 (t : Fin cfg0.N) : win0_8.index t 0 = t.val ∧ win0_8.index t 1 = 0 :=
  (by decide +kernel : ∀ t : Fin grid0.N, win0_8.index t 0 = t.val ∧ win0_8.index t 1 = 0) t
theorem idx9 (t : Fin cfg0.N) : win0_9.index t 0 = t.val ∧ win0_9.index t 1 = 0 :=
  (by decide +kernel : ∀ t : Fin grid0.N, win0_9.index t 0 = t.val ∧ win0_9.index t 1 = 0) t
theorem idx10 (t : Fin cfg0.N) : win0_10.index t 0 = t.val ∧ win0_10.index t 1 = 0 :=
  (by decide +kernel : ∀ t : Fin grid0.N, win0_10.index t 0 = t.val ∧ win0_10.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t
theorem idx11 (t : Fin cfg0.N) : win0_11.index t 0 = 0 ∧ win0_11.index t 1 = 0 :=
  (by decide +kernel : ∀ t : Fin grid0.N, win0_11.index t 0 = 0 ∧ win0_11.index t 1 = 0) t
abbrev b0 (t : Fin cfg0.N) : Vec Ideal S512x1024 .f32 := iblk m c 0 t
theorem b0_at (t : Fin cfg0.N) (p : Fin 512) (k : Fin 1024) : (b0 m c t (ix2 p k) : EReal) = a0 m c (ix2 (row t p) k) := by
  have hi := idx0 t
  rw [← V_arg0]
  show iblk m c 0 t _ = _
  unfold iblk
  rw [View.read_apply]
  show V m c main_arg0 _ = V m c main_arg0 _
  congr 1
  funext ax
  apply Fin.ext
  match ax with
  | ⟨0, _⟩ => show win0_0.index t 0 * 512 + 1 * p.val = _; rw [hi.1]; show _ = t.val * 512 + p.val; omega
  | ⟨1, _⟩ => show win0_0.index t 1 * 1024 + 1 * k.val = _; rw [hi.2]; show _ = k.val; omega
abbrev b1 (t : Fin cfg0.N) : Vec Ideal S1x1024 .f32 := iblk m c 1 t
theorem b1_at (t : Fin cfg0.N) (p : Fin 1) (k : Fin 1024) : (b1 m c t (ix2 p k) : EReal) = a1 m c (ix1 k) := by
  have hi := idx1 t
  rw [← v2_at m c p]
  show iblk m c 1 t _ = _
  unfold iblk
  rw [View.read_apply]
  show V m c main_v2 _ = V m c main_v2 _
  congr 1
  funext ax
  apply Fin.ext
  match ax with
  | ⟨0, _⟩ => show win0_1.index t 0 * 1 + 1 * p.val = _; rw [hi.1]; show _ = p.val; omega
  | ⟨1, _⟩ => show win0_1.index t 1 * 1024 + 1 * k.val = _; rw [hi.2]; show _ = k.val; omega
abbrev b2 (t : Fin cfg0.N) : Vec Ideal S512x1536 .bf16 := iblk m c 2 t
theorem b2_at (t : Fin cfg0.N) (p : Fin 512) (k : Fin 1536) : (b2 m c t (ix2 p k) : EReal) = a3 m c (ix2 (row t p) k) := by
  have hi := idx2 t
  refine Eq.trans ?_ (v3_at m c (row t p) k)
  show iblk m c 2 t _ = _
  unfold iblk
  rw [View.read_apply]
  show V m c main_v3 _ = V m c main_v3 _
  congr 1
  funext ax
  apply Fin.ext
  match ax with
  | ⟨0, _⟩ => show win0_2.index t 0 * 512 + 1 * p.val = _; rw [hi.1]; show _ = t.val * 512 + p.val; omega
  | ⟨1, _⟩ => show win0_2.index t 1 * 1536 + 1 * k.val = _; rw [hi.2]; show _ = k.val; omega
abbrev b3 (t : Fin cfg0.N) : Vec Ideal S512x512 .bf16 := iblk m c 3 t
theorem b3_at (t : Fin cfg0.N) (p : Fin 512) (k : Fin 512) : (b3 m c t (ix2 p k) : EReal) = a4 m c (ix2 (row t p) k) := by
  have hi := idx3 t
  refine Eq.trans ?_ (v4_at m c (row t p) k)
  show iblk m c 3 t _ = _
  unfold iblk
  rw [View.read_apply]
  show V m c main_v4 _ = V m c main_v4 _
  congr 1
  funext ax
  apply Fin.ext
  match ax with
  | ⟨0, _⟩ => show win0_3.index t 0 * 512 + 1 * p.val = _; rw [hi.1]; show _ = t.val * 512 + p.val; omega
  | ⟨1, _⟩ => show win0_3.index t 1 * 512 + 1 * k.val = _; rw [hi.2]; show _ = k.val; omega
abbrev b4 (t : Fin cfg0.N) : Vec Ideal S512x512 .bf16 := iblk m c 4 t
theorem b4_at (t : Fin cfg0.N) (p : Fin 512) (k : Fin 512) : (b4 m c t (ix2 p k) : EReal) = a7 m c (ix2 (row t p) k) := by
  have hi := idx4 t
  refine Eq.trans ?_ (v5_at m c (row t p) k)
  show iblk m c 4 t _ = _
  unfold iblk
  rw [View.read_apply]
  show V m c main_v5 _ = V m c main_v5 _
  congr 1
  funext ax
  apply Fin.ext
  match ax with
  | ⟨0, _⟩ => show win0_4.index t 0 * 512 + 1 * p.val = _; rw [hi.1]; show _ = t.val * 512 + p.val; omega
  | ⟨1, _⟩ => show win0_4.index t 1 * 512 + 1 * k.val = _; rw [hi.2]; show _ = k.val; omega
abbrev b5 (t : Fin cfg0.N) : Vec Ideal S512x512 .bf16 := iblk m c 5 t
theorem b5_at (t : Fin cfg0.N) (p : Fin 512) (k : Fin 512) : (b5 m c t (ix2 p k) : EReal) = a8 m c (ix2 (row t p) k) := by
  have hi := idx5 t
  refine Eq.trans ?_ (v6_at m c (row t p) k)
  show iblk m c 5 t _ = _
  unfold iblk
  rw [View.read_apply]
  show V m c main_v6 _ = V m c main_v6 _
  congr 1
  funext ax
  apply Fin.ext
  match ax with
  | ⟨0, _⟩ => show win0_5.index t 0 * 512 + 1 * p.val = _; rw [hi.1]; show _ = t.val * 512 + p.val; omega
  | ⟨1, _⟩ => show win0_5.index t 1 * 512 + 1 * k.val = _; rw [hi.2]; show _ = k.val; omega
abbrev b6 (t : Fin cfg0.N) : Vec Ideal S512x128 .bf16 := iblk m c 6 t
theorem b6_at (t : Fin cfg0.N) (p : Fin 512) (k : Fin 128) : (b6 m c t (ix2 p k) : EReal) = if h4 : k.val < 4 then a5 m c (ix2 (row t p) ⟨k.val, h4⟩) else if h5 : k.val < 8 then a6 m c (ix2 (row t p) ⟨k.val - 4, by omega⟩) else 0 := by
  have hi := idx6 t
  refine Eq.trans ?_ (v7_at m c (row t p) k)
  show iblk m c 6 t _ = _
  unfold iblk
  rw [View.read_apply]
  show V m c main_v7 _ = V m c main_v7 _
  congr 1
  funext ax
  apply Fin.ext
  match ax with
  | ⟨0, _⟩ => show win0_6.index t 0 * 512 + 1 * p.val = _; rw [hi.1]; show _ = t.val * 512 + p.val; omega
  | ⟨1, _⟩ => show win0_6.index t 1 * 128 + 1 * k.val = _; rw [hi.2]; show _ = k.val; omega
abbrev b7 (t : Fin cfg0.N) : Vec Ideal S1024x3200 .bf16 := iblk m c 7 t
theorem b7_at (t : Fin cfg0.N) (p : Fin 1024) (k : Fin 3200) : (b7 m c t (ix2 p k) : EReal) = AbSpec.wcol (a2 m c) p k := by
  have hi := idx7 t
  refine Eq.trans ?_ (v13_at m c (p) k)
  show iblk m c 7 t _ = _
  unfold iblk
  rw [View.read_apply]
  show V m c main_v13 _ = V m c main_v13 _
  congr 1
  funext ax
  apply Fin.ext
  match ax with
  | ⟨0, _⟩ => show win0_7.index t 0 * 1024 + 1 * p.val = _; rw [hi.1]; show _ = p.val; omega
  | ⟨1, _⟩ => show win0_7.index t 1 * 3200 + 1 * k.val = _; rw [hi.2]; show _ = k.val; omega
abbrev b8 (t : Fin cfg0.N) : Vec Ideal S512x1024 .f32 := iblk m c 8 t
theorem b8_at (t : Fin cfg0.N) (p : Fin 512) (k : Fin 1024) : (b8 m c t (ix2 p k) : EReal) = a9 m c (ix2 (row t p) k) := by
  have hi := idx8 t
  rw [← V_arg9]
  show iblk m c 8 t _ = _
  unfold iblk
  rw [View.read_apply]
  show V m c main_arg9 _ = V m c main_arg9 _
  congr 1
  funext ax
  apply Fin.ext
  match ax with
  | ⟨0, _⟩ => show win0_8.index t 0 * 512 + 1 * p.val = _; rw [hi.1]; show _ = t.val * 512 + p.val; omega
  | ⟨1, _⟩ => show win0_8.index t 1 * 1024 + 1 * k.val = _; rw [hi.2]; show _ = k.val; omega

/-! ## What the points leave, in closed form -/

/-- The cotangents side by side. -/
abbrev cv (t : Fin 8192) (n : Fin 3200) : EReal := AbSpec.colv (a3 m c) (a4 m c) (a5 m c) (a6 m c) (a7 m c) (a8 m c) t n
abbrev fX (t : Fin 8192) (d : Fin 1024) : EReal := a0 m c (ix2 t d)
abbrev fNW (d : Fin 1024) : EReal := a1 m c (ix1 d)
abbrev fDR (t : Fin 8192) (d : Fin 1024) : EReal := a9 m c (ix2 t d)
/-- The cotangent of the normalised rows. -/
def fA (t : Fin 8192) (d : Fin 1024) : EReal := ∑ n : Fin 3200, cv m c t n * AbSpec.wcol (a2 m c) d n

abbrev bD (t : Fin cfg0.N) : Vec Ideal S512x3200 .bf16 := catV (b2 m c t) (b3 m c t) (b4 m c t) (b5 m c t) (b6 m c t)

theorem bD_at (t : Fin cfg0.N) (p : Fin 512) (n : Fin 3200) : (bD m c t (ix2 p n) : EReal) = cv m c (row t p) n := by
  show _ = AbSpec.colv (a3 m c) (a4 m c) (a5 m c) (a6 m c) (a7 m c) (a8 m c) (row t p) n
  unfold AbSpec.colv
  by_cases c0 : n.val < 1536
  · rw [dif_pos c0]
    have e : n = ⟨0 + (⟨n.val, c0⟩ : Fin 1536).val, by show 0 + n.val < 3200; omega⟩ := Fin.ext (by show n.val = 0 + n.val; omega)
    rw [show bD m c t (ix2 p n) = _ from (congrArg (fun k => bD m c t (ix2 p k)) e).trans (catV_0 _ _ _ _ _ p ⟨n.val, c0⟩), b2_at]
  rw [dif_neg c0]
  by_cases c1 : n.val < 2048
  · rw [dif_pos c1]
    have e : n = ⟨1536 + (⟨n.val - 1536, by omega⟩ : Fin 512).val, by show 1536 + (n.val - 1536) < 3200; omega⟩ := Fin.ext (by show n.val = 1536 + (n.val - 1536); omega)
    rw [show bD m c t (ix2 p n) = _ from (congrArg (fun k => bD m c t (ix2 p k)) e).trans (catV_1 _ _ _ _ _ p ⟨n.val - 1536, by omega⟩), b3_at]
  rw [dif_neg c1]
  by_cases c2 : n.val < 2560
  · rw [dif_pos c2]
    have e : n = ⟨2048 + (⟨n.val - 2048, by omega⟩ : Fin 512).val, by show 2048 + (n.val - 2048) < 3200; omega⟩ := Fin.ext (by show n.val = 2048 + (n.val - 2048); omega)
    rw [show bD m c t (ix2 p n) = _ from (congrArg (fun k => bD m c t (ix2 p k)) e).trans (catV_2 _ _ _ _ _ p ⟨n.val - 2048, by omega⟩), b4_at]
  rw [dif_neg c2]
  by_cases c3 : n.val < 3072
  · rw [dif_pos c3]
    have e : n = ⟨2560 + (⟨n.val - 2560, by omega⟩ : Fin 512).val, by show 2560 + (n.val - 2560) < 3200; omega⟩ := Fin.ext (by show n.val = 2560 + (n.val - 2560); omega)
    rw [show bD m c t (ix2 p n) = _ from (congrArg (fun k => bD m c t (ix2 p k)) e).trans (catV_3 _ _ _ _ _ p ⟨n.val - 2560, by omega⟩), b5_at]
  rw [dif_neg c3]
  have e : n = ⟨3072 + (⟨n.val - 3072, by omega⟩ : Fin 128).val, by show 3072 + (n.val - 3072) < 3200; omega⟩ := Fin.ext (by show n.val = 3072 + (n.val - 3072); omega)
  rw [show bD m c t (ix2 p n) = _ from (congrArg (fun k => bD m c t (ix2 p k)) e).trans (catV_4 _ _ _ _ _ p ⟨n.val - 3072, by omega⟩), b6_at]
  by_cases c4 : n.val < 3076
  · rw [dif_pos c4, dif_pos (show n.val - 3072 < 4 by omega)]
  rw [dif_neg c4, dif_neg (show ¬ n.val - 3072 < 4 by omega)]
  by_cases c5 : n.val < 3080
  · rw [dif_pos c5, dif_pos (show n.val - 3072 < 8 by omega)]
    exact congrArg (a6 m c) (congrArg (ix2 _) (Fin.ext (by show n.val - 3072 - 4 = n.val - 3076; omega)))
  rw [dif_neg c5, dif_neg (show ¬ n.val - 3072 < 8 by omega)]

theorem rs_of (t : Fin cfg0.N) (p : Fin 512) : rsV (b0 m c t) p = FfnSpec.rs (fX m c) (row t p) := by
  unfold rsV FfnSpec.rs FfnSpec.ms
  simp only [b0_at]

theorem dh_of (t : Fin cfg0.N) (p : Fin 512) (d : Fin 1024) :
    (k0_pay11 (F := Ideal) (bD m c t) (b7 m c t) (ix2 p d) : EReal) = fA m c (row t p) d := by
  rw [pay11_at]
  unfold fA
  exact Finset.sum_congr rfl fun n _ => by rw [bD_at, b7_at]

theorem dx_of (t : Fin cfg0.N) (p : Fin 512) (d : Fin 1024) :
    (k0_pay4 (F := Ideal) (k0_pay11 (bD m c t) (b7 m c t)) (b0 m c t) (k0_pay12 (b0 m c t)) (k0_pay13 (F := Ideal)) (b1 m c t) (b8 m c t) (ix2 p d) : EReal)
      = AbSpec.dx (fX m c) (fNW m c) (fA m c) (fDR m c) (row t p) d := by
  rw [pay4_at, b8_at]
  unfold AbSpec.dx
  simp only [dh_of, rs_of, b0_at, b1_at]

/-- Row `p` of the `i`th tile. -/
def rowN (i : ℕ) (p : Fin 512) : Fin 8192 := ⟨i % 16 * 512 + p.val, by omega⟩
theorem row_eq (t : Fin cfg0.N) (p : Fin 512) : row t p = rowN t.val p :=
  Fin.ext (by have := lt16 t; show t.val * 512 + p.val = t.val % 16 * 512 + p.val; omega)
theorem sum_rows (f : Fin 8192 → EReal) : ∑ t, f t = ∑ i ∈ Finset.range 16, ∑ p : Fin 512, f (rowN i p) := by
  rw [← (finProdFinEquiv (m := 16) (n := 512)).sum_comp f, Fintype.sum_prod_type, Finset.sum_range]
  refine Finset.sum_congr rfl fun j _ => Finset.sum_congr rfl fun k _ => congrArg f (Fin.ext ?_)
  show k.val + 512 * j.val = j.val % 16 * 512 + k.val
  omega
/-- What one tile adds to the gradient of the norm's weights. -/
def part (i : ℕ) (d : Fin 1024) : EReal := ∑ p : Fin 512, fA m c (rowN i p) d * (fX m c (rowN i p) d * FfnSpec.rs (fX m c) (rowN i p))

theorem part_of (t : Fin cfg0.N) (d : Fin 1024) :
    (∑ p : Fin 512, (k0_pay11 (F := Ideal) (bD m c t) (b7 m c t) (ix2 p d) : EReal) * (b0 m c t (ix2 p d) * rsV (b0 m c t) p)) = part m c t.val d := by
  unfold part
  exact Finset.sum_congr rfl fun p _ => by rw [dh_of, rs_of, b0_at, row_eq]

theorem o9 (t : Fin cfg0.N) (p : Fin 512) (d : Fin 1024) :
    ((outsAt0 m c t.val t.isLt).1 (ix2 p d) : EReal) = AbSpec.dx (fX m c) (fNW m c) (fA m c) (fDR m c) (row t p) d := by
  have hl := lt16 t
  by_cases h : t.val % 16 = 0
  · have eA := outsAt0_A m c t h (by omega)
    rw [show (outsAt0 m c t.val t.isLt).1 = _ from congrArg Prod.fst eA, outA_9]
    exact dx_of m c t p d
  · have eB := outsAt0_B m c t h (by omega)
    rw [show (outsAt0 m c t.val t.isLt).1 = _ from congrArg Prod.fst eB, outB_9]
    exact dx_of m c t p d

theorem o10 (t : Fin cfg0.N) (p : Fin 512) (n : Fin 3200) : ((outsAt0 m c t.val t.isLt).2.1 (ix2 p n) : EReal) = cv m c (row t p) n := by
  have hl := lt16 t
  by_cases h : t.val % 16 = 0
  · have eA := outsAt0_A m c t h (by omega)
    rw [show (outsAt0 m c t.val t.isLt).2.1 = _ from congrArg (fun q => q.2.1) eA, outA_10]
    dsimp only
    exact bD_at m c t p n
  · have eB := outsAt0_B m c t h (by omega)
    rw [show (outsAt0 m c t.val t.isLt).2.1 = _ from congrArg (fun q => q.2.1) eB, outB_10]
    dsimp only
    exact bD_at m c t p n

theorem o11 (z : Fin 1) (d : Fin 1024) : ∀ (n : ℕ) (hn : n < cfg0.N),
    ((outsAt0 m c n hn).2.2 (ix2 z d) : EReal) = ∑ i ∈ Finset.range (n + 1), part m c i d := by
  intro n
  induction n with
  | zero =>
    intro hn
    have eA := outsAt0_A m c ⟨0, hn⟩ (by show 0 % 16 = 0; omega) (by show ¬1 ≤ 0; omega)
    rw [show (outsAt0 m c 0 hn).2.2 = _ from congrArg (fun q => q.2.2) eA, outA_11, Finset.sum_range_one]
    exact (pay3_at _ _ z d).trans (part_of m c ⟨0, hn⟩ d)
  | succ n ih =>
    intro hn
    have hl := lt16 ⟨n + 1, hn⟩
    have hl' : n + 1 < 16 := hl
    have eB := outsAt0_B m c ⟨n + 1, hn⟩ (by show ¬(n + 1) % 16 = 0; omega) (by show 1 ≤ n + 1; omega)
    rw [show (outsAt0 m c (n + 1) hn).2.2 = _ from congrArg (fun q => q.2.2) eB, outB_11, Finset.sum_range_succ]
    refine (pay5_at _ _ _ z d).trans (congrArg₂ (· + ·) (ih (by omega)) (part_of m c ⟨n + 1, hn⟩ d))

/-! ## The three result arrays -/

abbrev G9 : Vec Ideal S8192x1024 .f32 := fun i => AbSpec.dx (fX m c) (fNW m c) (fA m c) (fDR m c) (i 0) (i 1)
abbrev G10 : Vec Ideal S8192x3200 .bf16 := fun i => cv m c (i 0) (i 1)
abbrev G11 : Vec Ideal S1x1024 .f32 := fun i => AbSpec.dnw (fX m c) (fA m c) (i 1)

theorem xs9 (t : Fin cfg0.N) : win0_9.xsize (grid0.coords t) 0 = 512 ∧ win0_9.xsize (grid0.coords t) 1 = 1024 :=
  (by decide +kernel : ∀ t : Fin grid0.N, win0_9.xsize (grid0.coords t) 0 = 512 ∧ win0_9.xsize (grid0.coords t) 1 = 1024) t
theorem emb9 (t : Fin cfg0.N) (p : Fin 512) (d : Fin 1024) :
    ((cfg0.win 9).blk t).view.emb (ix2 p d : S512x1024.Idx) = (ix2 (row t p) d : S8192x1024.Idx) := by
  have hi := idx9 t
  funext ax
  apply Fin.ext
  match ax with
  | ⟨0, _⟩ => show win0_9.index t 0 * 512 + 1 * p.val = _; rw [hi.1]; show _ = t.val * 512 + p.val; omega
  | ⟨1, _⟩ => show win0_9.index t 1 * 1024 + 1 * d.val = _; rw [hi.2]; show _ = d.val; omega
theorem flushed9_eq (t : Fin cfg0.N) (hf : (cfg0.win 9).flush t = true) :
    (dats m 0 c).flushed 9 t = ((cfg0.win 9).blk t).view.read (Elt Ideal) (G9 m c) := by
  rw [flushed9]
  funext (j : S512x1024.Idx)
  rw [View.read_apply]
  obtain ⟨p, d, rfl⟩ : ∃ (p : Fin 512) (d : Fin 1024), j = ix2 p d := ⟨j 0, j 1, eq_ix2 j⟩
  show (outsAt0 m c t.val t.isLt).1 (ix2 p d) = G9 m c (((cfg0.win 9).blk t).view.emb (ix2 p d : S512x1024.Idx))
  rw [emb9]
  exact o9 m c t p d
theorem final9 : (dats m 0 c).arrAt 9 cfg0.N = G9 m c :=
  (dats m 0 c).arrAt_eq_of_cover 9 (G9 m c) (flushed9_eq m c) fun i => by
    have h0 : (i 0 : Nat) < 8192 := (i 0).isLt
    have h1 : (i 1 : Nat) < 1024 := (i 1).isLt
    have hlt : (i 0).val / 512 < cfg0.N := by rw [N16]; omega
    refine ⟨⟨(i 0).val / 512, hlt⟩, flush0_9 _, ?_⟩
    show i ∈ ((View.whole main_v14_0).slice (win0_9.rect ⟨(i 0).val / 512, hlt⟩)).set
    rw [View.set_slice_whole, Rect.mem_set_unit]
    have hi := idx9 ⟨(i 0).val / 512, hlt⟩
    have hx := xs9 ⟨(i 0).val / 512, hlt⟩
    try simp only at hi hx
    intro ax
    match ax with
    | ⟨0, _⟩ =>
      show win0_9.index ⟨(i 0).val / 512, hlt⟩ 0 * 512 ≤ (i 0 : Nat) ∧ (i 0 : Nat) < win0_9.index ⟨(i 0).val / 512, hlt⟩ 0 * 512 + win0_9.xsize (grid0.coords ⟨(i 0).val / 512, hlt⟩) 0
      rw [hi.1, hx.1]; omega
    | ⟨1, _⟩ =>
      show win0_9.index ⟨(i 0).val / 512, hlt⟩ 1 * 1024 ≤ (i 1 : Nat) ∧ (i 1 : Nat) < win0_9.index ⟨(i 0).val / 512, hlt⟩ 1 * 1024 + win0_9.xsize (grid0.coords ⟨(i 0).val / 512, hlt⟩) 1
      rw [hi.2, hx.2]; omega

theorem xs10 (t : Fin cfg0.N) : win0_10.xsize (grid0.coords t) 0 = 512 ∧ win0_10.xsize (grid0.coords t) 1 = 3200 :=
  (by decide +kernel : ∀ t : Fin grid0.N, win0_10.xsize (grid0.coords t) 0 = 512 ∧ win0_10.xsize (grid0.coords t) 1 = 3200) t
theorem emb10 (t : Fin cfg0.N) (p : Fin 512) (d : Fin 3200) :
    ((cfg0.win 10).blk t).view.emb (ix2 p d : S512x3200.Idx) = (ix2 (row t p) d : S8192x3200.Idx) := by
  have hi := idx10 t
  funext ax
  apply Fin.ext
  match ax with
  | ⟨0, _⟩ => show win0_10.index t 0 * 512 + 1 * p.val = _; rw [hi.1]; show _ = t.val * 512 + p.val; omega
  | ⟨1, _⟩ => show win0_10.index t 1 * 3200 + 1 * d.val = _; rw [hi.2]; show _ = d.val; omega
theorem flushed10_eq (t : Fin cfg0.N) (hf : (cfg0.win 10).flush t = true) :
    (dats m 0 c).flushed 10 t = ((cfg0.win 10).blk t).view.read (Elt Ideal) (G10 m c) := by
  rw [flushed10]
  funext (j : S512x3200.Idx)
  rw [View.read_apply]
  obtain ⟨p, d, rfl⟩ : ∃ (p : Fin 512) (d : Fin 3200), j = ix2 p d := ⟨j 0, j 1, eq_ix2 j⟩
  show (outsAt0 m c t.val t.isLt).2.1 (ix2 p d) = G10 m c (((cfg0.win 10).blk t).view.emb (ix2 p d : S512x3200.Idx))
  rw [emb10]
  exact o10 m c t p d
theorem final10 : (dats m 0 c).arrAt 10 cfg0.N = G10 m c :=
  (dats m 0 c).arrAt_eq_of_cover 10 (G10 m c) (flushed10_eq m c) fun i => by
    have h0 : (i 0 : Nat) < 8192 := (i 0).isLt
    have h1 : (i 1 : Nat) < 3200 := (i 1).isLt
    have hlt : (i 0).val / 512 < cfg0.N := by rw [N16]; omega
    refine ⟨⟨(i 0).val / 512, hlt⟩, flush0_10 _, ?_⟩
    show i ∈ ((View.whole main_v14_1).slice (win0_10.rect ⟨(i 0).val / 512, hlt⟩)).set
    rw [View.set_slice_whole, Rect.mem_set_unit]
    have hi := idx10 ⟨(i 0).val / 512, hlt⟩
    have hx := xs10 ⟨(i 0).val / 512, hlt⟩
    try simp only at hi hx
    intro ax
    match ax with
    | ⟨0, _⟩ =>
      show win0_10.index ⟨(i 0).val / 512, hlt⟩ 0 * 512 ≤ (i 0 : Nat) ∧ (i 0 : Nat) < win0_10.index ⟨(i 0).val / 512, hlt⟩ 0 * 512 + win0_10.xsize (grid0.coords ⟨(i 0).val / 512, hlt⟩) 0
      rw [hi.1, hx.1]; omega
    | ⟨1, _⟩ =>
      show win0_10.index ⟨(i 0).val / 512, hlt⟩ 1 * 3200 ≤ (i 1 : Nat) ∧ (i 1 : Nat) < win0_10.index ⟨(i 0).val / 512, hlt⟩ 1 * 3200 + win0_10.xsize (grid0.coords ⟨(i 0).val / 512, hlt⟩) 1
      rw [hi.2, hx.2]; omega

theorem xs11 (t : Fin cfg0.N) : win0_11.xsize (grid0.coords t) 0 = 1 ∧ win0_11.xsize (grid0.coords t) 1 = 1024 :=
  (by decide +kernel : ∀ t : Fin grid0.N, win0_11.xsize (grid0.coords t) 0 = 1 ∧ win0_11.xsize (grid0.coords t) 1 = 1024) t
theorem emb11 (t : Fin cfg0.N) (z : Fin 1) (d : Fin 1024) :
    ((cfg0.win 11).blk t).view.emb (ix2 z d : S1x1024.Idx) = (ix2 z d : S1x1024.Idx) := by
  have hi := idx11 t
  funext ax
  apply Fin.ext
  match ax with
  | ⟨0, _⟩ => show win0_11.index t 0 * 1 + 1 * z.val = _; rw [hi.1]; show _ = z.val; omega
  | ⟨1, _⟩ => show win0_11.index t 1 * 1024 + 1 * d.val = _; rw [hi.2]; show _ = d.val; omega
theorem flushed11_eq (t : Fin cfg0.N) (hf : (cfg0.win 11).flush t = true) :
    (dats m 0 c).flushed 11 t = ((cfg0.win 11).blk t).view.read (Elt Ideal) (G11 m c) := by
  have h3 : t.val % 16 = 15 := (flush0_11 t).mp hf
  have hl := lt16 t
  have h4 : t.val = 15 := by omega
  rw [flushed11]
  funext (j : S1x1024.Idx)
  rw [View.read_apply]
  obtain ⟨z, d, rfl⟩ : ∃ (z : Fin 1) (d : Fin 1024), j = ix2 z d := ⟨j 0, j 1, eq_ix2 j⟩
  show (outsAt0 m c t.val t.isLt).2.2 (ix2 z d) = G11 m c (((cfg0.win 11).blk t).view.emb (ix2 z d : S1x1024.Idx))
  rw [emb11]
  refine (o11 m c z d t.val t.isLt).trans ?_
  rw [h4]
  show _ = AbSpec.dnw (fX m c) (fA m c) d
  unfold AbSpec.dnw part
  rw [sum_rows]
theorem final11 : (dats m 0 c).arrAt 11 cfg0.N = G11 m c :=
  (dats m 0 c).arrAt_eq_of_cover 11 (G11 m c) (flushed11_eq m c) fun i => by
    have h0 : (i 0 : Nat) < 1 := (i 0).isLt
    have h1 : (i 1 : Nat) < 1024 := (i 1).isLt
    have hlt : 15 < cfg0.N := by rw [N16]; omega
    refine ⟨⟨15, hlt⟩, (flush0_11 _).mpr (by show 15 % 16 = 15; omega), ?_⟩
    show i ∈ ((View.whole main_v14_2).slice (win0_11.rect ⟨15, hlt⟩)).set
    rw [View.set_slice_whole, Rect.mem_set_unit]
    have hi := idx11 ⟨15, hlt⟩
    have hx := xs11 ⟨15, hlt⟩
    try simp only at hi hx
    intro ax
    match ax with
    | ⟨0, _⟩ =>
      show win0_11.index ⟨15, hlt⟩ 0 * 1 ≤ (i 0 : Nat) ∧ (i 0 : Nat) < win0_11.index ⟨15, hlt⟩ 0 * 1 + win0_11.xsize (grid0.coords ⟨15, hlt⟩) 0
      rw [hi.1, hx.1]; omega
    | ⟨1, _⟩ =>
      show win0_11.index ⟨15, hlt⟩ 1 * 1024 ≤ (i 1 : Nat) ∧ (i 1 : Nat) < win0_11.index ⟨15, hlt⟩ 1 * 1024 + win0_11.xsize (grid0.coords ⟨15, hlt⟩) 1
      rw [hi.2, hx.2]; omega

/-- The call runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v14_0) = G9 m c
      ∧ r.2.mem ((c : Thread nD τ).loc main_v14_1) = G10 m c
      ∧ r.2.mem ((c : Thread nD τ).loc main_v14_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final9 m c), (h c).2.1.trans (final10 m c), (h c).2.2.1.trans (final11 m c), (h c).2.2.2⟩) (run_blocks m ρ)

end Cert.Kernel7Ideal.AbBwd

end
-- ==== Proof.AbBwdRef.lean ====
/- The plain backward pass of the attention block's input projection, read at an index, and the value claim: from finite arguments
   the call and the plain backward pass leave equal arrays. -/
module

public import proofs.«01_k».proof.Defs
public import proofs.«01_k».proof.Proof.AbBwdVal
public import proofs.«01_k».proof.Proof.FfnClaim
public import proofs.«01_k».proof.Proof.Gen.Pre_finite7
public import proofs.«01_k».proof.Proof.Gen.Reference7Ideal.Run
public import proofs.«01_k».proof.Proof.Gen.Reference7Ideal.Read
public import Idealize.ShloMosaic.Lib.Pointwise
public import Idealize.ShloMosaic.Lib.ReduceAll

@[expose] public section

set_option maxRecDepth 16384

noncomputable section

namespace Cert.Reference7Ideal.AbBwd

open Cert.Reference7Ideal Cert.Reference7Ideal.Gen Cert.Reference7Ideal.Read
open Idealize.ShloMosaic Idealize.ShloMosaic.TcCoe Idealize.ShloMosaic.Tactic
open Idealize.SL.Sem
open Cert.FfnSpec (ms rs)

variable (x0 : (⟨S8192x1024, .f32⟩ : BufTy).Contents (Elt Ideal)) (x1 : (⟨S1024, .f32⟩ : BufTy).Contents (Elt Ideal))
  (x2 : (⟨S1024x3080, .f32⟩ : BufTy).Contents (Elt Ideal)) (x3 : (⟨S8192x1536, .f32⟩ : BufTy).Contents (Elt Ideal))
  (x4 : (⟨S8192x512, .f32⟩ : BufTy).Contents (Elt Ideal)) (x5 x6 : (⟨S8192x4, .f32⟩ : BufTy).Contents (Elt Ideal))
  (x7 x8 : (⟨S8192x512, .f32⟩ : BufTy).Contents (Elt Ideal)) (x9 : (⟨S8192x1024, .f32⟩ : BufTy).Contents (Elt Ideal))

abbrev X (t : Fin 8192) (d : Fin 1024) : EReal := x0 (ix2 t d)
abbrev NW (d : Fin 1024) : EReal := x1 (ix1 d)
/-- The cotangent of the normalised rows. -/
def A (t : Fin 8192) (d : Fin 1024) : EReal := ∑ n : Fin 3200, AbSpec.colv x3 x4 x5 x6 x7 x8 t n * AbSpec.wcol x2 d n

/-! ## The product against the weights, in the call's column order -/

theorem v23_at (t : Fin 8192) (s : Fin 3080) (n : Fin 3200) (h : n.val < 3080) (e : s.val = Cert.Reference9Ideal.AbW.pos n) :
    (val_main_v23 (F := Ideal) x3 x4 x5 x6 x7 x8 (ix2 t s) : EReal) = AbSpec.colv x3 x4 x5 x6 x7 x8 t n := by
  have hp : Cert.Reference9Ideal.AbW.pos n < 3080 := by rw [← e]; exact s.isLt
  obtain rfl : s = ⟨Cert.Reference9Ideal.AbW.pos n, hp⟩ := Fin.ext e
  exact Cert.Reference9Ideal.AbW.v7_at x3 x4 x5 x6 x7 x8 t n h hp

theorem w_at (d : Fin 1024) (s : Fin 3080) (n : Fin 3200) (h : n.val < 3080) (e : s.val = Cert.Reference9Ideal.AbW.pos n) :
    (x2 (ix2 d s) : EReal) = AbSpec.wcol x2 d n := by
  unfold Cert.Reference9Ideal.AbW.pos at e
  unfold AbSpec.wcol
  by_cases c0 : n.val < 2048
  · rw [if_pos c0] at e
    rw [dif_pos c0]
    exact congrArg x2 (congrArg (ix2 d) (Fin.ext e))
  rw [if_neg c0] at e
  rw [dif_neg c0]
  by_cases c1 : n.val < 3072
  · rw [if_pos c1] at e
    rw [dif_pos c1]
    exact congrArg x2 (congrArg (ix2 d) (Fin.ext e))
  rw [if_neg c1] at e
  rw [dif_neg c1, dif_pos h]
  exact congrArg x2 (congrArg (ix2 d) (Fin.ext e))

theorem r_acc (t : Fin 8192) (d : Fin 1024) : (val_main_v24 (F := Ideal) x2 x3 x4 x5 x6 x7 x8 (ix2 t d) : EReal) = A x2 x3 x4 x5 x6 x7 x8 t d := by
  have e : (val_main_v24 (F := Ideal) x2 x3 x4 x5 x6 x7 x8 (ix2 t d) : EReal)
      = ∑ s : Fin 3080, (val_main_v23 (F := Ideal) x3 x4 x5 x6 x7 x8 (ix2 t s) : EReal) * x2 (ix2 d s) := by
    unfold val_main_v24
    generalize val_main_v23 (F := Ideal) x3 x4 x5 x6 x7 x8 = y
    pointwise
  rw [e]
  unfold A
  refine (AbSpec.sum_pos (fun s => (val_main_v23 (F := Ideal) x3 x4 x5 x6 x7 x8 (ix2 t s) : EReal) * x2 (ix2 d s)) _ (fun k => ?_) (fun k => ?_) (fun k => ?_) (fun k => ?_)).symm
  · have e : (⟨k.val, by omega⟩ : Fin 3080).val = Cert.Reference9Ideal.AbW.pos ⟨k.val, by omega⟩ := by
      unfold Cert.Reference9Ideal.AbW.pos; show k.val = if k.val < 2048 then k.val else if k.val < 3072 then k.val + 8 else k.val - 1024
      rw [if_pos k.isLt]
    rw [v23_at x3 x4 x5 x6 x7 x8 t _ _ (by show k.val < 3080; omega) e, w_at x2 d _ _ (by show k.val < 3080; omega) e]
  · have e : (⟨2056 + k.val, by omega⟩ : Fin 3080).val = Cert.Reference9Ideal.AbW.pos ⟨2048 + k.val, by omega⟩ := by
      unfold Cert.Reference9Ideal.AbW.pos; show 2056 + k.val = if 2048 + k.val < 2048 then 2048 + k.val else if 2048 + k.val < 3072 then 2048 + k.val + 8 else 2048 + k.val - 1024
      rw [if_neg (by omega), if_pos (by omega)]; omega
    rw [v23_at x3 x4 x5 x6 x7 x8 t _ _ (by show 2048 + k.val < 3080; omega) e, w_at x2 d _ _ (by show 2048 + k.val < 3080; omega) e]
  · have e : (⟨2048 + k.val, by omega⟩ : Fin 3080).val = Cert.Reference9Ideal.AbW.pos ⟨3072 + k.val, by omega⟩ := by
      unfold Cert.Reference9Ideal.AbW.pos; show 2048 + k.val = if 3072 + k.val < 2048 then 3072 + k.val else if 3072 + k.val < 3072 then 3072 + k.val + 8 else 3072 + k.val - 1024
      rw [if_neg (by omega), if_neg (by omega)]; omega
    rw [v23_at x3 x4 x5 x6 x7 x8 t _ _ (by show 3072 + k.val < 3080; omega) e, w_at x2 d _ _ (by show 3072 + k.val < 3080; omega) e]
  · unfold AbSpec.wcol
    rw [dif_neg (by show ¬3080 + k.val < 2048; omega), dif_neg (by show ¬3080 + k.val < 3072; omega), dif_neg (by show ¬3080 + k.val < 3080; omega), mul_zero]

/-! ## The stages -/

theorem r_ms (t : Fin 8192) (z : Fin 1) : val_main_v6 (F := Ideal) x0 (ix2 t z) = ms (X x0) t := by
  unfold ms
  pointwise [val_main_v6, val_main_v4, val_main_v2, val_main_v1, val_main_v0, val_main_cst, val_main_v3, val_main_cst_0, val_main_v5, val_main_cst_1]

theorem r_rs (t : Fin 8192) (z : Fin 1) : val_main_v7 (F := Ideal) x0 (ix2 t z) = rs (X x0) t := by
  unfold rs
  rw [val_main_v7_apply, r_ms, Ideal.hostUnary_rsqrt_def]

theorem r_xr (t : Fin 8192) (d : Fin 1024) : val_main_v12 (F := Ideal) x0 (ix2 t d) = x0 (ix2 t d) * rs (X x0) t := by
  pointwise [val_main_v12, val_main_v11]
  rw [r_rs]

/-- The gradient of the norm's weights. -/
theorem r_dnw (z : Fin 1) (d : Fin 1024) : val_main_v49 (F := Ideal) x0 x2 x3 x4 x5 x6 x7 x8 (ix2 z d) = AbSpec.dnw (X x0) (A x2 x3 x4 x5 x6 x7 x8) d := by
  unfold AbSpec.dnw
  obtain rfl : z = 0 := Subsingleton.elim _ _
  unfold val_main_v49 val_main_v30 val_main_v27 val_main_v26 val_main_v25
  generalize hA : val_main_v24 (F := Ideal) x2 x3 x4 x5 x6 x7 x8 = a
  generalize hB : val_main_v12 (F := Ideal) x0 = b
  pointwise [val_main_cst_4, val_main_cst_3]
  subst hA hB
  simp only [r_acc, r_xr, Finset.sum_const, Finset.card_univ, Fintype.card_fin, one_smul]
  refine Finset.sum_congr rfl fun t _ => ?_
  rw [mul_comm]

/-- The gradient of the rows, as differentiation gives it. -/
theorem r_dx (t : Fin 8192) (d : Fin 1024) : val_main_v45 (F := Ideal) x0 x1 x2 x3 x4 x5 x6 x7 x8 x9 (ix2 t d)
    = AbSpec.dxR (X x0) (NW x1) (A x2 x3 x4 x5 x6 x7 x8) (fun t d => x9 (ix2 t d)) t d := by
  unfold AbSpec.dxR AbSpec.bR
  pointwise [val_main_v45, val_main_v44, val_main_v43, val_main_v42, val_main_v41, val_main_v40, val_main_cst_7, val_main_v39, val_main_v38, val_main_cst_6, val_main_v37, val_main_v36, val_main_v35, val_main_v34, val_main_v33, val_main_v32, val_main_cst_5, val_main_v31, val_main_v29, val_main_v28, val_main_v13, val_main_v10, val_main_v9, val_main_cst_2, val_main_v8]
  simp only [r_acc, r_rs, r_ms, Finset.sum_const, Finset.card_univ, Fintype.card_fin, one_smul]

/-- The cotangents side by side. -/
theorem r_cat (t : Fin 8192) (n : Fin 3200) : (val_main_v48 (F := Ideal) x3 x4 x5 x6 x7 x8 (ix2 t n) : EReal) = AbSpec.colv x3 x4 x5 x6 x7 x8 t n := by
  have e : (val_main_v48 (F := Ideal) x3 x4 x5 x6 x7 x8 (ix2 t n) : EReal)
      = if h : n.val < 1536 then x3 (ix2 t ⟨n.val, h⟩)
        else if h1 : n.val - 1536 < 512 then x4 (ix2 t ⟨n.val - 1536, by omega⟩)
        else if h2 : n.val - 1536 - 512 < 512 then x7 (ix2 t ⟨n.val - 1536 - 512, by omega⟩)
        else if h3 : n.val - 1536 - 512 - 512 < 512 then x8 (ix2 t ⟨n.val - 1536 - 512 - 512, by omega⟩)
        else if h4 : n.val - 1536 - 512 - 512 - 512 < 4 then x5 (ix2 t ⟨n.val - 1536 - 512 - 512 - 512, by omega⟩)
        else if h5 : n.val - 1536 - 512 - 512 - 512 - 4 < 4 then x6 (ix2 t ⟨n.val - 1536 - 512 - 512 - 512 - 4, by omega⟩)
        else 0 := by
    unfold val_main_v48 val_main_v47 val_main_v46 val_main_cst_8
    pointwise
  rw [e]
  unfold AbSpec.colv
  by_cases c0 : n.val < 1536
  · rw [dif_pos c0, dif_pos c0]
  rw [dif_neg c0, dif_neg c0]
  by_cases c1 : n.val < 2048
  · rw [dif_pos c1, dif_pos (by omega)]
  rw [dif_neg c1, dif_neg (by omega)]
  by_cases c2 : n.val < 2560
  · rw [dif_pos c2, dif_pos (by omega)]
    exact congrArg x7 (congrArg (ix2 t) (Fin.ext (by show n.val - 1536 - 512 = n.val - 2048; omega)))
  rw [dif_neg c2, dif_neg (by omega)]
  by_cases c3 : n.val < 3072
  · rw [dif_pos c3, dif_pos (by omega)]
    exact congrArg x8 (congrArg (ix2 t) (Fin.ext (by show n.val - 1536 - 512 - 512 = n.val - 2560; omega)))
  rw [dif_neg c3, dif_neg (by omega)]
  by_cases c4 : n.val < 3076
  · rw [dif_pos c4, dif_pos (by omega)]
    exact congrArg x5 (congrArg (ix2 t) (Fin.ext (by show n.val - 1536 - 512 - 512 - 512 = n.val - 3072; omega)))
  rw [dif_neg c4, dif_neg (by omega)]
  by_cases c5 : n.val < 3080
  · rw [dif_pos c5, dif_pos (by omega)]
    exact congrArg x6 (congrArg (ix2 t) (Fin.ext (by show n.val - 1536 - 512 - 512 - 512 - 4 = n.val - 3076; omega)))
  rw [dif_neg c5, dif_neg (by omega)]

/-! ## Finite arguments -/

/-- Every argument is a real number. -/
structure Reals : Prop where
  h0 : ∀ t d, ∃ r : ℝ, (x0 (ix2 t d) : EReal) = r
  h1 : ∀ d, ∃ r : ℝ, (x1 (ix1 d) : EReal) = r
  h2 : ∀ d s, ∃ r : ℝ, (x2 (ix2 d s) : EReal) = r
  h3 : ∀ t s, ∃ r : ℝ, (x3 (ix2 t s) : EReal) = r
  h4 : ∀ t s, ∃ r : ℝ, (x4 (ix2 t s) : EReal) = r
  h5 : ∀ t s, ∃ r : ℝ, (x5 (ix2 t s) : EReal) = r
  h6 : ∀ t s, ∃ r : ℝ, (x6 (ix2 t s) : EReal) = r
  h7 : ∀ t s, ∃ r : ℝ, (x7 (ix2 t s) : EReal) = r
  h8 : ∀ t s, ∃ r : ℝ, (x8 (ix2 t s) : EReal) = r
  h9 : ∀ t d, ∃ r : ℝ, (x9 (ix2 t d) : EReal) = r

section
variable {x0 x1 x2 x3 x4 x5 x6 x7 x8 x9}

theorem Reals.col (h : Reals x0 x1 x2 x3 x4 x5 x6 x7 x8 x9) (t : Fin 8192) (n : Fin 3200) : ∃ r : ℝ, AbSpec.colv x3 x4 x5 x6 x7 x8 t n = (r : EReal) := by
  unfold AbSpec.colv
  split_ifs
  · exact h.h3 _ _
  · exact h.h4 _ _
  · exact h.h7 _ _
  · exact h.h8 _ _
  · exact h.h5 _ _
  · exact h.h6 _ _
  · exact ⟨0, rfl⟩
theorem Reals.wt (h : Reals x0 x1 x2 x3 x4 x5 x6 x7 x8 x9) (d : Fin 1024) (n : Fin 3200) : ∃ r : ℝ, AbSpec.wcol x2 d n = (r : EReal) := by
  unfold AbSpec.wcol
  split_ifs
  · exact h.h2 _ _
  · exact h.h2 _ _
  · exact h.h2 _ _
  · exact ⟨0, rfl⟩
theorem Reals.acc (h : Reals x0 x1 x2 x3 x4 x5 x6 x7 x8 x9) (t : Fin 8192) (d : Fin 1024) : ∃ r : ℝ, A x2 x3 x4 x5 x6 x7 x8 t d = (r : EReal) := by
  unfold A
  refine Cert.FfnSpec.sum_real _ _ fun n => ?_
  obtain ⟨p, hp⟩ := h.col t n
  obtain ⟨q, hq⟩ := h.wt d n
  exact ⟨p * q, by rw [hp, hq, EReal.coe_mul]⟩

theorem r_dx_real (h : Reals x0 x1 x2 x3 x4 x5 x6 x7 x8 x9) (t : Fin 8192) (d : Fin 1024) : val_main_v45 (F := Ideal) x0 x1 x2 x3 x4 x5 x6 x7 x8 x9 (ix2 t d)
    = AbSpec.dx (X x0) (NW x1) (A x2 x3 x4 x5 x6 x7 x8) (fun t d => x9 (ix2 t d)) t d := by
  rw [r_dx]
  exact AbSpec.dxR_eq_of_real h.h0 h.h1 h.acc h.h9 t d
end

open Cert.Pre_finite7 in
theorem reals (h : Cert.Pre_finite7.fn (F := Ideal) x0 x1 x2 x3 x4 x5 x6 x7 x8 x9 = fun _ => 1#1) : Reals x0 x1 x2 x3 x4 x5 x6 x7 x8 x9 := by
  have h0 := congrFun h (Shape.Idx.first Facts.h_S_)
  simp only [Cert.Pre_finite7.fn, Cert.Pre_finite7.fn_part1, Cert.Pre_finite7.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have : Subsingleton S_.Idx := ⟨fun a b => funext fun ax => ax.elim0⟩
  refine ⟨fun t d => FfnClaim.real_of _ ?_, fun d => FfnClaim.real_of _ ?_, fun t d => FfnClaim.real_of _ ?_, fun t d => FfnClaim.real_of _ ?_, fun t d => FfnClaim.real_of _ ?_,
    fun t d => FfnClaim.real_of _ ?_, fun t d => FfnClaim.real_of _ ?_, fun t d => FfnClaim.real_of _ ?_, fun t d => FfnClaim.real_of _ ?_, fun t d => FfnClaim.real_of _ ?_⟩
  · rw [← FfnClaim.inf_word]; exact Host.reduce_andi_all _ _ _ _ _ e0 (ix2 t d)
  · rw [← FfnClaim.inf_word]; exact Host.reduce_andi_all _ _ _ _ _ e1 (ix1 d)
  · rw [← FfnClaim.inf_word]; exact Host.reduce_andi_all _ _ _ _ _ e2 (ix2 t d)
  · rw [← FfnClaim.inf_word]; exact Host.reduce_andi_all _ _ _ _ _ e3 (ix2 t d)
  · rw [← FfnClaim.inf_word]; exact Host.reduce_andi_all _ _ _ _ _ e4 (ix2 t d)
  · rw [← FfnClaim.inf_word]; exact Host.reduce_andi_all _ _ _ _ _ e5 (ix2 t d)
  · rw [← FfnClaim.inf_word]; exact Host.reduce_andi_all _ _ _ _ _ e6 (ix2 t d)
  · rw [← FfnClaim.inf_word]; exact Host.reduce_andi_all _ _ _ _ _ e7 (ix2 t d)
  · rw [← FfnClaim.inf_word]; exact Host.reduce_andi_all _ _ _ _ _ e8 (ix2 t d)
  · rw [← FfnClaim.inf_word]; exact Host.reduce_andi_all _ _ _ _ _ e9 (ix2 t d)

/-! ## The claims -/

/-- The plain backward pass runs and leaves its arguments; it declares no semaphore. -/
theorem frame_reference : Cert.quiescent_Reference7Ideal := by
  intro m ρ _
  exact (θ_run Cert.Reference7Ideal.defs _ _).mono (fun r h => ⟨fun c => (h c).2.2.2, Idealize.ShloMosaic.sem_eq_zero_of_no_sems (by decide) r.2⟩)
    (Cert.Reference7Ideal.Value.run (F := Ideal) m ρ)

/-- From finite arguments the call's three results are the plain backward pass's. -/
theorem value : Cert.algebraic_Kernel7Ideal_Reference7Ideal_pre_finite7 := by
  intro m ρ m' ρ' hpre hargs
  refine ⟨Cert.Kernel7Ideal.AbBwd.G9 m, Cert.Kernel7Ideal.AbBwd.G10 m, Cert.Kernel7Ideal.AbBwd.G11 m, Cert.Kernel7Ideal.AbBwd.run m ρ, ?_⟩
  refine (θ_run Cert.Reference7Ideal.defs _ _).mono (fun r h c => ?_) (Cert.Reference7Ideal.Value.run (F := Ideal) m' ρ')
  obtain ⟨q0, q1, q2, u⟩ := h c
  obtain ⟨g0, g1, g2, g3, g4, g5, g6, g7, g8, g9⟩ := hargs c
  have hr := reals _ _ _ _ _ _ _ _ _ _ (hpre c)
  refine ⟨q0.trans ?_, q1.trans ?_, q2.trans ?_, u⟩
  · rw [val_main_v45_eq, g0, g1, g2, g3, g4, g5, g6, g7, g8, g9]
    funext i
    obtain ⟨t, d, rfl⟩ : ∃ (t : Fin 8192) (d : Fin 1024), i = ix2 t d := ⟨i 0, i 1, eq_ix2 i⟩
    exact r_dx_real hr t d
  · rw [val_main_v48_eq, g3, g4, g5, g6, g7, g8]
    funext i
    obtain ⟨t, n, rfl⟩ : ∃ (t : Fin 8192) (n : Fin 3200), i = ix2 t n := ⟨i 0, i 1, eq_ix2 i⟩
    exact r_cat _ _ _ _ _ _ t n
  · rw [val_main_v49_eq, g0, g2, g3, g4, g5, g6, g7, g8]
    funext i
    obtain ⟨z, d, rfl⟩ : ∃ (z : Fin 1) (d : Fin 1024), i = ix2 z d := ⟨i 0, i 1, eq_ix2 i⟩
    exact r_dnw _ _ _ _ _ _ _ _ z d

end Cert.Reference7Ideal.AbBwd

end
-- ==== Proof.AbFwdVal.lean ====
/- The forward call of the attention block's input projection: what it computes from the arguments, the plain forward pass
   read at an index, and the value claim.  Sixteen grid points take 512 rows each; every point normalises its rows, multiplies
   them by the whole matrix and cuts the product into six column ranges. -/
module

public import proofs.«01_k».proof.Defs
public import proofs.«01_k».proof.Proof.FfnSpec
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

set_option maxRecDepth 16384

noncomputable section

namespace Cert.AbFwdSpec

open Idealize.ShloMosaic

variable (X : Fin 8192 → Fin 1024 → EReal) (NW : Fin 1024 → EReal) (W : Fin 1024 → Fin 3080 → EReal)

/-- The normalised rows. -/
def hn (t : Fin 8192) (d : Fin 1024) : EReal := X t d * FfnSpec.rs X t * NW d
/-- Their product with the projection's weights. -/
def pr (t : Fin 8192) (n : Fin 3080) : EReal := ∑ d : Fin 1024, hn X NW t d * W d n

/-- The column of the weights that stands in column `n` of the call's matrix: the first 2048, then the last 1024, then each of
    the eight narrow ones 128 times. -/
def wsrc (n : Fin 4096) : Fin 3080 :=
  if h : n.val < 2048 then ⟨n.val, by omega⟩
  else if h1 : n.val < 3072 then ⟨n.val + 8, by omega⟩
  else if h2 : n.val < 3584 then ⟨2048 + (n.val - 3072) / 128, by omega⟩
  else ⟨2052 + (n.val - 3584) / 128, by omega⟩

end Cert.AbFwdSpec

namespace Cert.Kernel8Ideal.AbFwd

open Cert.Kernel8Ideal Cert.Kernel8Ideal.Gen Cert.Kernel8Ideal.Value
open Idealize.ShloMosaic Idealize.ShloMosaic.TcCoe Idealize.ShloMosaic.Tactic
open Idealize.SL.Sem

/-! ## The payloads -/

section
variable (x0 : Vec Ideal S512x1024 .f32) (x1 : Vec Ideal S1x1024 .f32) (x2 : Vec Ideal S1024x4096 .bf16)

/-- The scale of row `p` of a block. -/
def rsV (p : Fin 512) : EReal := Ideal.rsqrt (Ideal.div (∑ d : Fin 1024, (x0 (ix2 p d) : EReal) * x0 (ix2 p d)) FfnSpec.cN + FfnSpec.cE)

theorem pay1_at (p : Fin 512) (d : Fin 1024) : (k0_pay1 (F := Ideal) x0 x1 (ix2 p d) : EReal) = x0 (ix2 p d) * rsV x0 p * x1 (ix2 0 d) := by
  unfold rsV
  pointwise [k0_pay1]
theorem pay2_at (p : Fin 512) (n : Fin 4096) : (k0_pay2 (F := Ideal) x0 x1 x2 (ix2 p n) : EReal)
    = ∑ d : Fin 1024, (x0 (ix2 p d) * rsV x0 p * x1 (ix2 0 d) : EReal) * x2 (ix2 d n) := by
  have h := pay1_at x0 x1
  unfold k0_pay2
  generalize k0_pay1 (F := Ideal) x0 x1 = q at h ⊢
  simp only [← h]
  pointwise
theorem pay3_at (p : Fin 512) (k : Fin 1536) : (k0_pay3 (F := Ideal) x0 x1 x2 (ix2 p k) : EReal) = k0_pay2 (F := Ideal) x0 x1 x2 (ix2 p ⟨0 + k.val, by omega⟩) := by
  unfold k0_pay3
  generalize k0_pay2 (F := Ideal) x0 x1 x2 = y
  pointwise
theorem pay4_at (p : Fin 512) (k : Fin 512) : (k0_pay4 (F := Ideal) x0 x1 x2 (ix2 p k) : EReal) = k0_pay2 (F := Ideal) x0 x1 x2 (ix2 p ⟨1536 + k.val, by omega⟩) := by
  unfold k0_pay4
  generalize k0_pay2 (F := Ideal) x0 x1 x2 = y
  pointwise
theorem pay5_at (p : Fin 512) (k : Fin 512) : (k0_pay5 (F := Ideal) x0 x1 x2 (ix2 p k) : EReal) = k0_pay2 (F := Ideal) x0 x1 x2 (ix2 p ⟨2048 + k.val, by omega⟩) := by
  unfold k0_pay5
  generalize k0_pay2 (F := Ideal) x0 x1 x2 = y
  pointwise
theorem pay6_at (p : Fin 512) (k : Fin 512) : (k0_pay6 (F := Ideal) x0 x1 x2 (ix2 p k) : EReal) = k0_pay2 (F := Ideal) x0 x1 x2 (ix2 p ⟨2560 + k.val, by omega⟩) := by
  unfold k0_pay6
  generalize k0_pay2 (F := Ideal) x0 x1 x2 = y
  pointwise
theorem pay7_at (p : Fin 512) (k : Fin 512) : (k0_pay7 (F := Ideal) x0 x1 x2 (ix2 p k) : EReal) = k0_pay2 (F := Ideal) x0 x1 x2 (ix2 p ⟨3072 + k.val, by omega⟩) := by
  unfold k0_pay7
  generalize k0_pay2 (F := Ideal) x0 x1 x2 = y
  pointwise
theorem pay8_at (p : Fin 512) (k : Fin 512) : (k0_pay8 (F := Ideal) x0 x1 x2 (ix2 p k) : EReal) = k0_pay2 (F := Ideal) x0 x1 x2 (ix2 p ⟨3584 + k.val, by omega⟩) := by
  unfold k0_pay8
  generalize k0_pay2 (F := Ideal) x0 x1 x2 = y
  pointwise
theorem out3_eq : out0_3 (F := Ideal) x0 x1 x2 = k0_pay1 x0 x1 := by
  unfold out0_3; frame_out
theorem out4_eq : out0_4 (F := Ideal) x0 x1 x2 = k0_pay3 x0 x1 x2 := by
  unfold out0_4; frame_out
theorem out5_eq : out0_5 (F := Ideal) x0 x1 x2 = k0_pay4 x0 x1 x2 := by
  unfold out0_5; frame_out
theorem out6_eq : out0_6 (F := Ideal) x0 x1 x2 = k0_pay5 x0 x1 x2 := by
  unfold out0_6; frame_out
theorem out7_eq : out0_7 (F := Ideal) x0 x1 x2 = k0_pay6 x0 x1 x2 := by
  unfold out0_7; frame_out
theorem out8_eq : out0_8 (F := Ideal) x0 x1 x2 = k0_pay7 x0 x1 x2 := by
  unfold out0_8; frame_out
theorem out9_eq : out0_9 (F := Ideal) x0 x1 x2 = k0_pay8 x0 x1 x2 := by
  unfold out0_9; frame_out
end

/-! ## The arguments, and what the host code hands to the call -/

variable (m : (ℓ : Loc nD τ sig) → Buf (Elt Ideal) ℓ) (c : Dev nD)

abbrev a0 : Vec Ideal S8192x1024 .f32 := m ((c.tc : Thread nD τ).loc main_arg0)
abbrev a1 : Vec Ideal S1024 .f32 := m ((c.tc : Thread nD τ).loc main_arg1)
abbrev a2 : Vec Ideal S1024x3080 .f32 := m ((c.tc : Thread nD τ).loc main_arg2)
abbrev fX (t : Fin 8192) (d : Fin 1024) : EReal := a0 m c (ix2 t d)
abbrev fNW (d : Fin 1024) : EReal := a1 m c (ix1 d)
abbrev fW (d : Fin 1024) (n : Fin 3080) : EReal := a2 m c (ix2 d n)

/-- Four columns, each 128 times. -/
def rep (y : Vec Ideal S1024x4 .bf16) : Vec Ideal S1024x512 .bf16 :=
  shapeCast S1024x512 (broadcastInDim S1024x4x128 ![0, 1] bcast_S1024x4_S1024x4x128_0_1 y) shapeCasts_S1024x4x128_S1024x512

theorem rep_at (y : Vec Ideal S1024x4 .bf16) (d : Fin 1024) (k : Fin 512) : (rep y (ix2 d k) : EReal) = y (ix2 d ⟨k.val / 128, by omega⟩) := by
  unfold rep
  pointwise

/-- The weights' columns in the order the call reads them. -/
def wcat (w : Vec Ideal S1024x3080 .f32) : Vec Ideal S1024x4096 .bf16 :=
  concatenate S1024x4096 1 [⟨S1024x2048, extractStridedSlice S1024x2048 ![0, 0] (truncf (F := Ideal) .bf16 w bitsLt_bf16_f32) slices_S1024x3080_S1024x2048_0_0⟩,
    ⟨S1024x1024, extractStridedSlice S1024x1024 ![0, 2056] (truncf (F := Ideal) .bf16 w bitsLt_bf16_f32) slices_S1024x3080_S1024x1024_0_2056⟩,
    ⟨S1024x512, rep (extractStridedSlice S1024x4 ![0, 0] (extractStridedSlice S1024x8 ![0, 2048] (truncf (F := Ideal) .bf16 w bitsLt_bf16_f32) slices_S1024x3080_S1024x8_0_2048) slices_S1024x8_S1024x4_0_0)⟩,
    ⟨S1024x512, rep (extractStridedSlice S1024x4 ![0, 4] (extractStridedSlice S1024x8 ![0, 2048] (truncf (F := Ideal) .bf16 w bitsLt_bf16_f32) slices_S1024x3080_S1024x8_0_2048) slices_S1024x8_S1024x4_0_4)⟩] concatenates_S1024x2048_S1024x1024_S1024x512_S1024x512_S1024x4096_d1

theorem V_arg0 : (V m c main_arg0 : Vec Ideal S8192x1024 .f32) = a0 m c := by
  show StableHlo.after hostOps0 (fun b => m (c, b)) (Proc.devRef .tc main_arg0) = _
  simp only [hostOps0]
  after_results_simp <;> rfl
theorem V_v0 : (V m c main_v0 : Vec Ideal S1x1024 .f32) = shapeCast S1x1024 (a1 m c) shapeCasts_S1024_S1x1024 := by
  show StableHlo.after hostOps0 (fun b => m (c, b)) (Proc.devRef .tc main_v0) = _
  simp only [hostOps0]
  after_results_simp <;> rfl
theorem V_v11 : (V m c main_v11 : Vec Ideal S1024x4096 .bf16) = wcat (a2 m c) := by
  show StableHlo.after hostOps0 (fun b => m (c, b)) (Proc.devRef .tc main_v11) = _
  simp only [hostOps0]
  after_results_simp <;> rfl

theorem v0_at (z : Fin 1) (d : Fin 1024) : (V m c main_v0 : Vec Ideal S1x1024 .f32) (ix2 z d) = (a1 m c (ix1 d) : EReal) := by
  rw [V_v0]
  pointwise

theorem wcat_at (w : Vec Ideal S1024x3080 .f32) (d : Fin 1024) (n : Fin 4096) : (wcat w (ix2 d n) : EReal) = w (ix2 d (AbFwdSpec.wsrc n)) := by
  refine Eq.trans (b := if h : n.val < 2048 then (w (ix2 d ⟨n.val, by omega⟩) : EReal)
      else if h1 : n.val - 2048 < 1024 then w (ix2 d ⟨2056 + (n.val - 2048), by omega⟩)
      else if h2 : n.val - 2048 - 1024 < 512 then w (ix2 d ⟨2048 + (n.val - 2048 - 1024) / 128, by omega⟩)
      else w (ix2 d ⟨2048 + (4 + (n.val - 2048 - 1024 - 512) / 128), by omega⟩)) ?_ ?_
  · have hr := rep_at
    unfold wcat
    generalize hp : rep (extractStridedSlice S1024x4 ![0, 0] (extractStridedSlice S1024x8 ![0, 2048] (truncf (F := Ideal) .bf16 w bitsLt_bf16_f32) slices_S1024x3080_S1024x8_0_2048) slices_S1024x8_S1024x4_0_0) = p
    generalize hq : rep (extractStridedSlice S1024x4 ![0, 4] (extractStridedSlice S1024x8 ![0, 2048] (truncf (F := Ideal) .bf16 w bitsLt_bf16_f32) slices_S1024x3080_S1024x8_0_2048) slices_S1024x8_S1024x4_0_4) = q
    have hp' : ∀ k : Fin 512, (p (ix2 d k) : EReal) = w (ix2 d ⟨2048 + k.val / 128, by omega⟩) := fun k => by
      rw [← hp, rep_at]; pointwise
    have hq' : ∀ k : Fin 512, (q (ix2 d k) : EReal) = w (ix2 d ⟨2048 + (4 + k.val / 128), by omega⟩) := fun k => by
      rw [← hq, rep_at]; pointwise
    refine Eq.trans (b := if h : n.val < 2048 then (w (ix2 d ⟨n.val, by omega⟩) : EReal)
      else if h1 : n.val - 2048 < 1024 then w (ix2 d ⟨2056 + (n.val - 2048), by omega⟩)
      else if h2 : n.val - 2048 - 1024 < 512 then p (ix2 d ⟨n.val - 2048 - 1024, h2⟩)
      else q (ix2 d ⟨n.val - 2048 - 1024 - 512, by omega⟩)) ?_ ?_
    · clear hp hq hp' hq'
      pointwise
    · simp only [hp', hq']
  unfold AbFwdSpec.wsrc
  by_cases c0 : n.val < 2048
  · rw [dif_pos c0, dif_pos c0]
  rw [dif_neg c0, dif_neg c0]
  by_cases c1 : n.val < 3072
  · rw [dif_pos (by omega), dif_pos c1]
    exact congrArg w (congrArg (ix2 d) (Fin.ext (by show 2056 + (n.val - 2048) = n.val + 8; omega)))
  rw [dif_neg (by omega), dif_neg c1]
  by_cases c2 : n.val < 3584
  · rw [dif_pos (by omega), dif_pos c2]
    exact congrArg w (congrArg (ix2 d) (Fin.ext (by show 2048 + (n.val - 2048 - 1024) / 128 = 2048 + (n.val - 3072) / 128; omega)))
  rw [dif_neg (by omega), dif_neg c2]
  exact congrArg w (congrArg (ix2 d) (Fin.ext (by show 2048 + (4 + (n.val - 2048 - 1024 - 512) / 128) = 2052 + (n.val - 3584) / 128; omega)))

theorem v11_at (d : Fin 1024) (n : Fin 4096) : (V m c main_v11 : Vec Ideal S1024x4096 .bf16) (ix2 d n) = (fW m c d (AbFwdSpec.wsrc n) : EReal) := by
  rw [V_v11, wcat_at]

/-! ## The blocks: point `t` works on rows `t * 512 …` -/

theorem N16 : cfg0.N = 16 := N_0
theorem lt16 (t : Fin cfg0.N) : t.val < 16 := lt_of_lt_of_eq t.isLt N16
/-- Row `p` of point `t`'s tile. -/
def row (t : Fin cfg0.N) (p : Fin 512) : Fin 8192 := ⟨t.val * 512 + p.val, by have := lt16 t; omega⟩

theorem idx0 (t : Fin cfg0.N) : win0_0.index t 0 = t.val ∧ win0_0.index t 1 = 0 :=
  (by decide +kernel : ∀ t : Fin grid0.N, win0_0.index t 0 = t.val ∧ win0_0.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = t.val ∧ win0_4.index t 1 = 0 :=
  (by decide +kernel : ∀ t : Fin grid0.N, win0_4.index t 0 = t.val ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx7 (t : Fin cfg0.N) : win0_7.index t 0 = t.val ∧ win0_7.index t 1 = 0 :=
  (by decide +kernel : ∀ t : Fin grid0.N, win0_7.index t 0 = t.val ∧ win0_7.index t 1 = 0) t
theorem idx8 (t : Fin cfg0.N) : win0_8.index t 0 = t.val ∧ win0_8.index t 1 = 0 :=
  (by decide +kernel : ∀ t : Fin grid0.N, win0_8.index t 0 = t.val ∧ win0_8.index t 1 = 0) t
theorem idx9 (t : Fin cfg0.N) : win0_9.index t 0 = t.val ∧ win0_9.index t 1 = 0 :=
  (by decide +kernel : ∀ t : Fin grid0.N, win0_9.index t 0 = t.val ∧ win0_9.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
abbrev b0 (t : Fin cfg0.N) : Vec Ideal S512x1024 .f32 := iblk m c 0 t
theorem b0_at (t : Fin cfg0.N) (p : Fin 512) (k : Fin 1024) : (b0 m c t (ix2 p k) : EReal) = fX m c (row t p) k := by
  have hi := idx0 t
  show _ = a0 m c (ix2 (row t p) k)
  rw [← V_arg0]
  show iblk m c 0 t _ = _
  unfold iblk
  rw [View.read_apply]
  show V m c main_arg0 _ = V m c main_arg0 _
  congr 1
  funext ax
  apply Fin.ext
  match ax with
  | ⟨0, _⟩ => show win0_0.index t 0 * 512 + 1 * p.val = _; rw [hi.1]; show _ = t.val * 512 + p.val; omega
  | ⟨1, _⟩ => show win0_0.index t 1 * 1024 + 1 * k.val = _; rw [hi.2]; show _ = k.val; omega
abbrev b1 (t : Fin cfg0.N) : Vec Ideal S1x1024 .f32 := iblk m c 1 t
theorem b1_at (t : Fin cfg0.N) (p : Fin 1) (k : Fin 1024) : (b1 m c t (ix2 p k) : EReal) = fNW m c k := by
  have hi := idx1 t
  refine Eq.trans ?_ (v0_at m c p k)
  show iblk m c 1 t _ = _
  unfold iblk
  rw [View.read_apply]
  show V m c main_v0 _ = V m c main_v0 _
  congr 1
  funext ax
  apply Fin.ext
  match ax with
  | ⟨0, _⟩ => show win0_1.index t 0 * 1 + 1 * p.val = _; rw [hi.1]; show _ = p.val; omega
  | ⟨1, _⟩ => show win0_1.index t 1 * 1024 + 1 * k.val = _; rw [hi.2]; show _ = k.val; omega
abbrev b2 (t : Fin cfg0.N) : Vec Ideal S1024x4096 .bf16 := iblk m c 2 t
theorem b2_at (t : Fin cfg0.N) (p : Fin 1024) (k : Fin 4096) : (b2 m c t (ix2 p k) : EReal) = fW m c p (AbFwdSpec.wsrc k) := by
  have hi := idx2 t
  refine Eq.trans ?_ (v11_at m c p k)
  show iblk m c 2 t _ = _
  unfold iblk
  rw [View.read_apply]
  show V m c main_v11 _ = V m c main_v11 _
  congr 1
  funext ax
  apply Fin.ext
  match ax with
  | ⟨0, _⟩ => show win0_2.index t 0 * 1024 + 1 * p.val = _; rw [hi.1]; show _ = p.val; omega
  | ⟨1, _⟩ => show win0_2.index t 1 * 4096 + 1 * k.val = _; rw [hi.2]; show _ = k.val; omega

/-! ## What the points leave, in closed form -/

theorem rs_of (t : Fin cfg0.N) (p : Fin 512) : rsV (b0 m c t) p = FfnSpec.rs (fX m c) (row t p) := by
  unfold rsV FfnSpec.rs FfnSpec.ms
  simp only [b0_at]
theorem h_of (t : Fin cfg0.N) (p : Fin 512) (d : Fin 1024) :
    (b0 m c t (ix2 p d) * rsV (b0 m c t) p * b1 m c t (ix2 0 d) : EReal) = AbFwdSpec.hn (fX m c) (fNW m c) (row t p) d := by
  unfold AbFwdSpec.hn
  rw [rs_of, b0_at, b1_at]
theorem p_of (t : Fin cfg0.N) (p : Fin 512) (n : Fin 4096) :
    (k0_pay2 (F := Ideal) (b0 m c t) (b1 m c t) (b2 m c t) (ix2 p n) : EReal) = AbFwdSpec.pr (fX m c) (fNW m c) (fW m c) (row t p) (AbFwdSpec.wsrc n) := by
  rw [pay2_at]
  unfold AbFwdSpec.pr
  exact Finset.sum_congr rfl fun d _ => by rw [h_of, b2_at]

/-! ## The seven result arrays -/

abbrev G3 : Vec Ideal S8192x1024 .bf16 := fun i => AbFwdSpec.hn (fX m c) (fNW m c) (i 0) (i 1)
theorem o3 (t : Fin cfg0.N) (p : Fin 512) (d : Fin 1024) :
    (out0_3 (F := Ideal) (b0 m c t) (b1 m c t) (b2 m c t) (ix2 p d) : EReal) = AbFwdSpec.hn (fX m c) (fNW m c) (row t p) d := by
  rw [out3_eq, pay1_at]
  exact h_of m c t p d

/-- The column of the weights behind column `k` of this result. -/
abbrev col4 (k : Fin 1536) : Fin 3080 := ⟨k.val, by omega⟩
theorem src4 (k : Fin 1536) : AbFwdSpec.wsrc ⟨0 + k.val, by omega⟩ = col4 k := by
  unfold AbFwdSpec.wsrc
  rw [dif_pos (by show 0 + k.val < 2048; omega)]
  exact Fin.ext (by show 0 + k.val = k.val; omega)
abbrev G4 : Vec Ideal S8192x1536 .f32 := fun i => AbFwdSpec.pr (fX m c) (fNW m c) (fW m c) (i 0) (col4 (i 1))
theorem o4 (t : Fin cfg0.N) (p : Fin 512) (k : Fin 1536) :
    (out0_4 (F := Ideal) (b0 m c t) (b1 m c t) (b2 m c t) (ix2 p k) : EReal) = AbFwdSpec.pr (fX m c) (fNW m c) (fW m c) (row t p) (col4 k) := by
  rw [out4_eq, pay3_at, p_of, src4]

/-- The column of the weights behind column `k` of this result. -/
abbrev col5 (k : Fin 512) : Fin 3080 := ⟨1536 + k.val, by omega⟩
theorem src5 (k : Fin 512) : AbFwdSpec.wsrc ⟨1536 + k.val, by omega⟩ = col5 k := by
  unfold AbFwdSpec.wsrc
  rw [dif_pos (by show 1536 + k.val < 2048; omega)]
abbrev G5 : Vec Ideal S8192x512 .f32 := fun i => AbFwdSpec.pr (fX m c) (fNW m c) (fW m c) (i 0) (col5 (i 1))
theorem o5 (t : Fin cfg0.N) (p : Fin 512) (k : Fin 512) :
    (out0_5 (F := Ideal) (b0 m c t) (b1 m c t) (b2 m c t) (ix2 p k) : EReal) = AbFwdSpec.pr (fX m c) (fNW m c) (fW m c) (row t p) (col5 k) := by
  rw [out5_eq, pay4_at, p_of, src5]

/-- The column of the weights behind column `k` of this result. -/
abbrev col6 (k : Fin 512) : Fin 3080 := ⟨2056 + k.val, by omega⟩
theorem src6 (k : Fin 512) : AbFwdSpec.wsrc ⟨2048 + k.val, by omega⟩ = col6 k := by
  unfold AbFwdSpec.wsrc
  rw [dif_neg (by show ¬2048 + k.val < 2048; omega), dif_pos (by show 2048 + k.val < 3072; omega)]
  exact Fin.ext (by show 2048 + k.val + 8 = 2056 + k.val; omega)
abbrev G6 : Vec Ideal S8192x512 .f32 := fun i => AbFwdSpec.pr (fX m c) (fNW m c) (fW m c) (i 0) (col6 (i 1))
theorem o6 (t : Fin cfg0.N) (p : Fin 512) (k : Fin 512) :
    (out0_6 (F := Ideal) (b0 m c t) (b1 m c t) (b2 m c t) (ix2 p k) : EReal) = AbFwdSpec.pr (fX m c) (fNW m c) (fW m c) (row t p) (col6 k) := by
  rw [out6_eq, pay5_at, p_of, src6]

/-- The column of the weights behind column `k` of this result. -/
abbrev col7 (k : Fin 512) : Fin 3080 := ⟨2568 + k.val, by omega⟩
theorem src7 (k : Fin 512) : AbFwdSpec.wsrc ⟨2560 + k.val, by omega⟩ = col7 k := by
  unfold AbFwdSpec.wsrc
  rw [dif_neg (by show ¬2560 + k.val < 2048; omega), dif_pos (by show 2560 + k.val < 3072; omega)]
  exact Fin.ext (by show 2560 + k.val + 8 = 2568 + k.val; omega)
abbrev G7 : Vec Ideal S8192x512 .f32 := fun i => AbFwdSpec.pr (fX m c) (fNW m c) (fW m c) (i 0) (col7 (i 1))
theorem o7 (t : Fin cfg0.N) (p : Fin 512) (k : Fin 512) :
    (out0_7 (F := Ideal) (b0 m c t) (b1 m c t) (b2 m c t) (ix2 p k) : EReal) = AbFwdSpec.pr (fX m c) (fNW m c) (fW m c) (row t p) (col7 k) := by
  rw [out7_eq, pay6_at, p_of, src7]

/-- The column of the weights behind column `k` of this result. -/
abbrev col8 (k : Fin 512) : Fin 3080 := ⟨2048 + k.val / 128, by omega⟩
theorem src8 (k : Fin 512) : AbFwdSpec.wsrc ⟨3072 + k.val, by omega⟩ = col8 k := by
  unfold AbFwdSpec.wsrc
  rw [dif_neg (by show ¬3072 + k.val < 2048; omega), dif_neg (by show ¬3072 + k.val < 3072; omega), dif_pos (by show 3072 + k.val < 3584; omega)]
  exact Fin.ext (by show 2048 + (3072 + k.val - 3072) / 128 = 2048 + k.val / 128; omega)
abbrev G8 : Vec Ideal S8192x512 .f32 := fun i => AbFwdSpec.pr (fX m c) (fNW m c) (fW m c) (i 0) (col8 (i 1))
theorem o8 (t : Fin cfg0.N) (p : Fin 512) (k : Fin 512) :
    (out0_8 (F := Ideal) (b0 m c t) (b1 m c t) (b2 m c t) (ix2 p k) : EReal) = AbFwdSpec.pr (fX m c) (fNW m c) (fW m c) (row t p) (col8 k) := by
  rw [out8_eq, pay7_at, p_of, src8]

/-- The column of the weights behind column `k` of this result. -/
abbrev col9 (k : Fin 512) : Fin 3080 := ⟨2052 + k.val / 128, by omega⟩
theorem src9 (k : Fin 512) : AbFwdSpec.wsrc ⟨3584 + k.val, by omega⟩ = col9 k := by
  unfold AbFwdSpec.wsrc
  rw [dif_neg (by show ¬3584 + k.val < 2048; omega), dif_neg (by show ¬3584 + k.val < 3072; omega), dif_neg (by show ¬3584 + k.val < 3584; omega)]
  exact Fin.ext (by show 2052 + (3584 + k.val - 3584) / 128 = 2052 + k.val / 128; omega)
abbrev G9 : Vec Ideal S8192x512 .f32 := fun i => AbFwdSpec.pr (fX m c) (fNW m c) (fW m c) (i 0) (col9 (i 1))
theorem o9 (t : Fin cfg0.N) (p : Fin 512) (k : Fin 512) :
    (out0_9 (F := Ideal) (b0 m c t) (b1 m c t) (b2 m c t) (ix2 p k) : EReal) = AbFwdSpec.pr (fX m c) (fNW m c) (fW m c) (row t p) (col9 k) := by
  rw [out9_eq, pay8_at, p_of, src9]

theorem xs3 (t : Fin cfg0.N) : win0_3.xsize (grid0.coords t) 0 = 512 ∧ win0_3.xsize (grid0.coords t) 1 = 1024 :=
  (by decide +kernel : ∀ t : Fin grid0.N, win0_3.xsize (grid0.coords t) 0 = 512 ∧ win0_3.xsize (grid0.coords t) 1 = 1024) t
theorem emb3 (t : Fin cfg0.N) (p : Fin 512) (d : Fin 1024) :
    ((cfg0.win 3).blk t).view.emb (ix2 p d : S512x1024.Idx) = (ix2 (row t p) d : S8192x1024.Idx) := by
  have hi := idx3 t
  funext ax
  apply Fin.ext
  match ax with
  | ⟨0, _⟩ => show win0_3.index t 0 * 512 + 1 * p.val = _; rw [hi.1]; show _ = t.val * 512 + p.val; omega
  | ⟨1, _⟩ => show win0_3.index t 1 * 1024 + 1 * d.val = _; rw [hi.2]; show _ = d.val; omega
theorem flushed3_eq (t : Fin cfg0.N) (hf : (cfg0.win 3).flush t = true) :
    (dats m 0 c).flushed 3 t = ((cfg0.win 3).blk t).view.read (Elt Ideal) (G3 m c) := by
  rw [flushed3]
  funext (j : S512x1024.Idx)
  rw [View.read_apply]
  obtain ⟨p, d, rfl⟩ : ∃ (p : Fin 512) (d : Fin 1024), j = ix2 p d := ⟨j 0, j 1, eq_ix2 j⟩
  show out0_3 (F := Ideal) (b0 m c t) (b1 m c t) (b2 m c t) (ix2 p d) = G3 m c (((cfg0.win 3).blk t).view.emb (ix2 p d : S512x1024.Idx))
  rw [emb3]
  exact o3 m c t p d
theorem final3 : (dats m 0 c).arrAt 3 cfg0.N = G3 m c :=
  (dats m 0 c).arrAt_eq_of_cover 3 (G3 m c) (flushed3_eq m c) fun i => by
    have h0 : (i 0 : Nat) < 8192 := (i 0).isLt
    have h1 : (i 1 : Nat) < 1024 := (i 1).isLt
    have hlt : (i 0).val / 512 < cfg0.N := by rw [N16]; omega
    refine ⟨⟨(i 0).val / 512, hlt⟩, flush0_3 _, ?_⟩
    show i ∈ ((View.whole main_v12_0).slice (win0_3.rect ⟨(i 0).val / 512, hlt⟩)).set
    rw [View.set_slice_whole, Rect.mem_set_unit]
    have hi := idx3 ⟨(i 0).val / 512, hlt⟩
    have hx := xs3 ⟨(i 0).val / 512, hlt⟩
    try simp only at hi hx
    intro ax
    match ax with
    | ⟨0, _⟩ =>
      show win0_3.index ⟨(i 0).val / 512, hlt⟩ 0 * 512 ≤ (i 0 : Nat) ∧ (i 0 : Nat) < win0_3.index ⟨(i 0).val / 512, hlt⟩ 0 * 512 + win0_3.xsize (grid0.coords ⟨(i 0).val / 512, hlt⟩) 0
      rw [hi.1, hx.1]; omega
    | ⟨1, _⟩ =>
      show win0_3.index ⟨(i 0).val / 512, hlt⟩ 1 * 1024 ≤ (i 1 : Nat) ∧ (i 1 : Nat) < win0_3.index ⟨(i 0).val / 512, hlt⟩ 1 * 1024 + win0_3.xsize (grid0.coords ⟨(i 0).val / 512, hlt⟩) 1
      rw [hi.2, hx.2]; omega

theorem xs4 (t : Fin cfg0.N) : win0_4.xsize (grid0.coords t) 0 = 512 ∧ win0_4.xsize (grid0.coords t) 1 = 1536 :=
  (by decide +kernel : ∀ t : Fin grid0.N, win0_4.xsize (grid0.coords t) 0 = 512 ∧ win0_4.xsize (grid0.coords t) 1 = 1536) t
theorem emb4 (t : Fin cfg0.N) (p : Fin 512) (d : Fin 1536) :
    ((cfg0.win 4).blk t).view.emb (ix2 p d : S512x1536.Idx) = (ix2 (row t p) d : S8192x1536.Idx) := by
  have hi := idx4 t
  funext ax
  apply Fin.ext
  match ax with
  | ⟨0, _⟩ => show win0_4.index t 0 * 512 + 1 * p.val = _; rw [hi.1]; show _ = t.val * 512 + p.val; omega
  | ⟨1, _⟩ => show win0_4.index t 1 * 1536 + 1 * d.val = _; rw [hi.2]; show _ = d.val; omega
theorem flushed4_eq (t : Fin cfg0.N) (hf : (cfg0.win 4).flush t = true) :
    (dats m 0 c).flushed 4 t = ((cfg0.win 4).blk t).view.read (Elt Ideal) (G4 m c) := by
  rw [flushed4]
  funext (j : S512x1536.Idx)
  rw [View.read_apply]
  obtain ⟨p, d, rfl⟩ : ∃ (p : Fin 512) (d : Fin 1536), j = ix2 p d := ⟨j 0, j 1, eq_ix2 j⟩
  show out0_4 (F := Ideal) (b0 m c t) (b1 m c t) (b2 m c t) (ix2 p d) = G4 m c (((cfg0.win 4).blk t).view.emb (ix2 p d : S512x1536.Idx))
  rw [emb4]
  exact o4 m c t p d
theorem final4 : (dats m 0 c).arrAt 4 cfg0.N = G4 m c :=
  (dats m 0 c).arrAt_eq_of_cover 4 (G4 m c) (flushed4_eq m c) fun i => by
    have h0 : (i 0 : Nat) < 8192 := (i 0).isLt
    have h1 : (i 1 : Nat) < 1536 := (i 1).isLt
    have hlt : (i 0).val / 512 < cfg0.N := by rw [N16]; omega
    refine ⟨⟨(i 0).val / 512, hlt⟩, flush0_4 _, ?_⟩
    show i ∈ ((View.whole main_v12_1).slice (win0_4.rect ⟨(i 0).val / 512, hlt⟩)).set
    rw [View.set_slice_whole, Rect.mem_set_unit]
    have hi := idx4 ⟨(i 0).val / 512, hlt⟩
    have hx := xs4 ⟨(i 0).val / 512, hlt⟩
    try simp only at hi hx
    intro ax
    match ax with
    | ⟨0, _⟩ =>
      show win0_4.index ⟨(i 0).val / 512, hlt⟩ 0 * 512 ≤ (i 0 : Nat) ∧ (i 0 : Nat) < win0_4.index ⟨(i 0).val / 512, hlt⟩ 0 * 512 + win0_4.xsize (grid0.coords ⟨(i 0).val / 512, hlt⟩) 0
      rw [hi.1, hx.1]; omega
    | ⟨1, _⟩ =>
      show win0_4.index ⟨(i 0).val / 512, hlt⟩ 1 * 1536 ≤ (i 1 : Nat) ∧ (i 1 : Nat) < win0_4.index ⟨(i 0).val / 512, hlt⟩ 1 * 1536 + win0_4.xsize (grid0.coords ⟨(i 0).val / 512, hlt⟩) 1
      rw [hi.2, hx.2]; omega

theorem xs5 (t : Fin cfg0.N) : win0_5.xsize (grid0.coords t) 0 = 512 ∧ win0_5.xsize (grid0.coords t) 1 = 512 :=
  (by decide +kernel : ∀ t : Fin grid0.N, win0_5.xsize (grid0.coords t) 0 = 512 ∧ win0_5.xsize (grid0.coords t) 1 = 512) t
theorem emb5 (t : Fin cfg0.N) (p : Fin 512) (d : Fin 512) :
    ((cfg0.win 5).blk t).view.emb (ix2 p d : S512x512.Idx) = (ix2 (row t p) d : S8192x512.Idx) := by
  have hi := idx5 t
  funext ax
  apply Fin.ext
  match ax with
  | ⟨0, _⟩ => show win0_5.index t 0 * 512 + 1 * p.val = _; rw [hi.1]; show _ = t.val * 512 + p.val; omega
  | ⟨1, _⟩ => show win0_5.index t 1 * 512 + 1 * d.val = _; rw [hi.2]; show _ = d.val; omega
theorem flushed5_eq (t : Fin cfg0.N) (hf : (cfg0.win 5).flush t = true) :
    (dats m 0 c).flushed 5 t = ((cfg0.win 5).blk t).view.read (Elt Ideal) (G5 m c) := by
  rw [flushed5]
  funext (j : S512x512.Idx)
  rw [View.read_apply]
  obtain ⟨p, d, rfl⟩ : ∃ (p : Fin 512) (d : Fin 512), j = ix2 p d := ⟨j 0, j 1, eq_ix2 j⟩
  show out0_5 (F := Ideal) (b0 m c t) (b1 m c t) (b2 m c t) (ix2 p d) = G5 m c (((cfg0.win 5).blk t).view.emb (ix2 p d : S512x512.Idx))
  rw [emb5]
  exact o5 m c t p d
theorem final5 : (dats m 0 c).arrAt 5 cfg0.N = G5 m c :=
  (dats m 0 c).arrAt_eq_of_cover 5 (G5 m c) (flushed5_eq m c) fun i => by
    have h0 : (i 0 : Nat) < 8192 := (i 0).isLt
    have h1 : (i 1 : Nat) < 512 := (i 1).isLt
    have hlt : (i 0).val / 512 < cfg0.N := by rw [N16]; omega
    refine ⟨⟨(i 0).val / 512, hlt⟩, flush0_5 _, ?_⟩
    show i ∈ ((View.whole main_v12_2).slice (win0_5.rect ⟨(i 0).val / 512, hlt⟩)).set
    rw [View.set_slice_whole, Rect.mem_set_unit]
    have hi := idx5 ⟨(i 0).val / 512, hlt⟩
    have hx := xs5 ⟨(i 0).val / 512, hlt⟩
    try simp only at hi hx
    intro ax
    match ax with
    | ⟨0, _⟩ =>
      show win0_5.index ⟨(i 0).val / 512, hlt⟩ 0 * 512 ≤ (i 0 : Nat) ∧ (i 0 : Nat) < win0_5.index ⟨(i 0).val / 512, hlt⟩ 0 * 512 + win0_5.xsize (grid0.coords ⟨(i 0).val / 512, hlt⟩) 0
      rw [hi.1, hx.1]; omega
    | ⟨1, _⟩ =>
      show win0_5.index ⟨(i 0).val / 512, hlt⟩ 1 * 512 ≤ (i 1 : Nat) ∧ (i 1 : Nat) < win0_5.index ⟨(i 0).val / 512, hlt⟩ 1 * 512 + win0_5.xsize (grid0.coords ⟨(i 0).val / 512, hlt⟩) 1
      rw [hi.2, hx.2]; omega

theorem xs6 (t : Fin cfg0.N) : win0_6.xsize (grid0.coords t) 0 = 512 ∧ win0_6.xsize (grid0.coords t) 1 = 512 :=
  (by decide +kernel : ∀ t : Fin grid0.N, win0_6.xsize (grid0.coords t) 0 = 512 ∧ win0_6.xsize (grid0.coords t) 1 = 512) t
theorem emb6 (t : Fin cfg0.N) (p : Fin 512) (d : Fin 512) :
    ((cfg0.win 6).blk t).view.emb (ix2 p d : S512x512.Idx) = (ix2 (row t p) d : S8192x512.Idx) := by
  have hi := idx6 t
  funext ax
  apply Fin.ext
  match ax with
  | ⟨0, _⟩ => show win0_6.index t 0 * 512 + 1 * p.val = _; rw [hi.1]; show _ = t.val * 512 + p.val; omega
  | ⟨1, _⟩ => show win0_6.index t 1 * 512 + 1 * d.val = _; rw [hi.2]; show _ = d.val; omega
theorem flushed6_eq (t : Fin cfg0.N) (hf : (cfg0.win 6).flush t = true) :
    (dats m 0 c).flushed 6 t = ((cfg0.win 6).blk t).view.read (Elt Ideal) (G6 m c) := by
  rw [flushed6]
  funext (j : S512x512.Idx)
  rw [View.read_apply]
  obtain ⟨p, d, rfl⟩ : ∃ (p : Fin 512) (d : Fin 512), j = ix2 p d := ⟨j 0, j 1, eq_ix2 j⟩
  show out0_6 (F := Ideal) (b0 m c t) (b1 m c t) (b2 m c t) (ix2 p d) = G6 m c (((cfg0.win 6).blk t).view.emb (ix2 p d : S512x512.Idx))
  rw [emb6]
  exact o6 m c t p d
theorem final6 : (dats m 0 c).arrAt 6 cfg0.N = G6 m c :=
  (dats m 0 c).arrAt_eq_of_cover 6 (G6 m c) (flushed6_eq m c) fun i => by
    have h0 : (i 0 : Nat) < 8192 := (i 0).isLt
    have h1 : (i 1 : Nat) < 512 := (i 1).isLt
    have hlt : (i 0).val / 512 < cfg0.N := by rw [N16]; omega
    refine ⟨⟨(i 0).val / 512, hlt⟩, flush0_6 _, ?_⟩
    show i ∈ ((View.whole main_v12_3).slice (win0_6.rect ⟨(i 0).val / 512, hlt⟩)).set
    rw [View.set_slice_whole, Rect.mem_set_unit]
    have hi := idx6 ⟨(i 0).val / 512, hlt⟩
    have hx := xs6 ⟨(i 0).val / 512, hlt⟩
    try simp only at hi hx
    intro ax
    match ax with
    | ⟨0, _⟩ =>
      show win0_6.index ⟨(i 0).val / 512, hlt⟩ 0 * 512 ≤ (i 0 : Nat) ∧ (i 0 : Nat) < win0_6.index ⟨(i 0).val / 512, hlt⟩ 0 * 512 + win0_6.xsize (grid0.coords ⟨(i 0).val / 512, hlt⟩) 0
      rw [hi.1, hx.1]; omega
    | ⟨1, _⟩ =>
      show win0_6.index ⟨(i 0).val / 512, hlt⟩ 1 * 512 ≤ (i 1 : Nat) ∧ (i 1 : Nat) < win0_6.index ⟨(i 0).val / 512, hlt⟩ 1 * 512 + win0_6.xsize (grid0.coords ⟨(i 0).val / 512, hlt⟩) 1
      rw [hi.2, hx.2]; omega

theorem xs7 (t : Fin cfg0.N) : win0_7.xsize (grid0.coords t) 0 = 512 ∧ win0_7.xsize (grid0.coords t) 1 = 512 :=
  (by decide +kernel : ∀ t : Fin grid0.N, win0_7.xsize (grid0.coords t) 0 = 512 ∧ win0_7.xsize (grid0.coords t) 1 = 512) t
theorem emb7 (t : Fin cfg0.N) (p : Fin 512) (d : Fin 512) :
    ((cfg0.win 7).blk t).view.emb (ix2 p d : S512x512.Idx) = (ix2 (row t p) d : S8192x512.Idx) := by
  have hi := idx7 t
  funext ax
  apply Fin.ext
  match ax with
  | ⟨0, _⟩ => show win0_7.index t 0 * 512 + 1 * p.val = _; rw [hi.1]; show _ = t.val * 512 + p.val; omega
  | ⟨1, _⟩ => show win0_7.index t 1 * 512 + 1 * d.val = _; rw [hi.2]; show _ = d.val; omega
theorem flushed7_eq (t : Fin cfg0.N) (hf : (cfg0.win 7).flush t = true) :
    (dats m 0 c).flushed 7 t = ((cfg0.win 7).blk t).view.read (Elt Ideal) (G7 m c) := by
  rw [flushed7]
  funext (j : S512x512.Idx)
  rw [View.read_apply]
  obtain ⟨p, d, rfl⟩ : ∃ (p : Fin 512) (d : Fin 512), j = ix2 p d := ⟨j 0, j 1, eq_ix2 j⟩
  show out0_7 (F := Ideal) (b0 m c t) (b1 m c t) (b2 m c t) (ix2 p d) = G7 m c (((cfg0.win 7).blk t).view.emb (ix2 p d : S512x512.Idx))
  rw [emb7]
  exact o7 m c t p d
theorem final7 : (dats m 0 c).arrAt 7 cfg0.N = G7 m c :=
  (dats m 0 c).arrAt_eq_of_cover 7 (G7 m c) (flushed7_eq m c) fun i => by
    have h0 : (i 0 : Nat) < 8192 := (i 0).isLt
    have h1 : (i 1 : Nat) < 512 := (i 1).isLt
    have hlt : (i 0).val / 512 < cfg0.N := by rw [N16]; omega
    refine ⟨⟨(i 0).val / 512, hlt⟩, flush0_7 _, ?_⟩
    show i ∈ ((View.whole main_v12_4).slice (win0_7.rect ⟨(i 0).val / 512, hlt⟩)).set
    rw [View.set_slice_whole, Rect.mem_set_unit]
    have hi := idx7 ⟨(i 0).val / 512, hlt⟩
    have hx := xs7 ⟨(i 0).val / 512, hlt⟩
    try simp only at hi hx
    intro ax
    match ax with
    | ⟨0, _⟩ =>
      show win0_7.index ⟨(i 0).val / 512, hlt⟩ 0 * 512 ≤ (i 0 : Nat) ∧ (i 0 : Nat) < win0_7.index ⟨(i 0).val / 512, hlt⟩ 0 * 512 + win0_7.xsize (grid0.coords ⟨(i 0).val / 512, hlt⟩) 0
      rw [hi.1, hx.1]; omega
    | ⟨1, _⟩ =>
      show win0_7.index ⟨(i 0).val / 512, hlt⟩ 1 * 512 ≤ (i 1 : Nat) ∧ (i 1 : Nat) < win0_7.index ⟨(i 0).val / 512, hlt⟩ 1 * 512 + win0_7.xsize (grid0.coords ⟨(i 0).val / 512, hlt⟩) 1
      rw [hi.2, hx.2]; omega

theorem xs8 (t : Fin cfg0.N) : win0_8.xsize (grid0.coords t) 0 = 512 ∧ win0_8.xsize (grid0.coords t) 1 = 512 :=
  (by decide +kernel : ∀ t : Fin grid0.N, win0_8.xsize (grid0.coords t) 0 = 512 ∧ win0_8.xsize (grid0.coords t) 1 = 512) t
theorem emb8 (t : Fin cfg0.N) (p : Fin 512) (d : Fin 512) :
    ((cfg0.win 8).blk t).view.emb (ix2 p d : S512x512.Idx) = (ix2 (row t p) d : S8192x512.Idx) := by
  have hi := idx8 t
  funext ax
  apply Fin.ext
  match ax with
  | ⟨0, _⟩ => show win0_8.index t 0 * 512 + 1 * p.val = _; rw [hi.1]; show _ = t.val * 512 + p.val; omega
  | ⟨1, _⟩ => show win0_8.index t 1 * 512 + 1 * d.val = _; rw [hi.2]; show _ = d.val; omega
theorem flushed8_eq (t : Fin cfg0.N) (hf : (cfg0.win 8).flush t = true) :
    (dats m 0 c).flushed 8 t = ((cfg0.win 8).blk t).view.read (Elt Ideal) (G8 m c) := by
  rw [flushed8]
  funext (j : S512x512.Idx)
  rw [View.read_apply]
  obtain ⟨p, d, rfl⟩ : ∃ (p : Fin 512) (d : Fin 512), j = ix2 p d := ⟨j 0, j 1, eq_ix2 j⟩
  show out0_8 (F := Ideal) (b0 m c t) (b1 m c t) (b2 m c t) (ix2 p d) = G8 m c (((cfg0.win 8).blk t).view.emb (ix2 p d : S512x512.Idx))
  rw [emb8]
  exact o8 m c t p d
theorem final8 : (dats m 0 c).arrAt 8 cfg0.N = G8 m c :=
  (dats m 0 c).arrAt_eq_of_cover 8 (G8 m c) (flushed8_eq m c) fun i => by
    have h0 : (i 0 : Nat) < 8192 := (i 0).isLt
    have h1 : (i 1 : Nat) < 512 := (i 1).isLt
    have hlt : (i 0).val / 512 < cfg0.N := by rw [N16]; omega
    refine ⟨⟨(i 0).val / 512, hlt⟩, flush0_8 _, ?_⟩
    show i ∈ ((View.whole main_v12_5).slice (win0_8.rect ⟨(i 0).val / 512, hlt⟩)).set
    rw [View.set_slice_whole, Rect.mem_set_unit]
    have hi := idx8 ⟨(i 0).val / 512, hlt⟩
    have hx := xs8 ⟨(i 0).val / 512, hlt⟩
    try simp only at hi hx
    intro ax
    match ax with
    | ⟨0, _⟩ =>
      show win0_8.index ⟨(i 0).val / 512, hlt⟩ 0 * 512 ≤ (i 0 : Nat) ∧ (i 0 : Nat) < win0_8.index ⟨(i 0).val / 512, hlt⟩ 0 * 512 + win0_8.xsize (grid0.coords ⟨(i 0).val / 512, hlt⟩) 0
      rw [hi.1, hx.1]; omega
    | ⟨1, _⟩ =>
      show win0_8.index ⟨(i 0).val / 512, hlt⟩ 1 * 512 ≤ (i 1 : Nat) ∧ (i 1 : Nat) < win0_8.index ⟨(i 0).val / 512, hlt⟩ 1 * 512 + win0_8.xsize (grid0.coords ⟨(i 0).val / 512, hlt⟩) 1
      rw [hi.2, hx.2]; omega

theorem xs9 (t : Fin cfg0.N) : win0_9.xsize (grid0.coords t) 0 = 512 ∧ win0_9.xsize (grid0.coords t) 1 = 512 :=
  (by decide +kernel : ∀ t : Fin grid0.N, win0_9.xsize (grid0.coords t) 0 = 512 ∧ win0_9.xsize (grid0.coords t) 1 = 512) t
theorem emb9 (t : Fin cfg0.N) (p : Fin 512) (d : Fin 512) :
    ((cfg0.win 9).blk t).view.emb (ix2 p d : S512x512.Idx) = (ix2 (row t p) d : S8192x512.Idx) := by
  have hi := idx9 t
  funext ax
  apply Fin.ext
  match ax with
  | ⟨0, _⟩ => show win0_9.index t 0 * 512 + 1 * p.val = _; rw [hi.1]; show _ = t.val * 512 + p.val; omega
  | ⟨1, _⟩ => show win0_9.index t 1 * 512 + 1 * d.val = _; rw [hi.2]; show _ = d.val; omega
theorem flushed9_eq (t : Fin cfg0.N) (hf : (cfg0.win 9).flush t = true) :
    (dats m 0 c).flushed 9 t = ((cfg0.win 9).blk t).view.read (Elt Ideal) (G9 m c) := by
  rw [flushed9]
  funext (j : S512x512.Idx)
  rw [View.read_apply]
  obtain ⟨p, d, rfl⟩ : ∃ (p : Fin 512) (d : Fin 512), j = ix2 p d := ⟨j 0, j 1, eq_ix2 j⟩
  show out0_9 (F := Ideal) (b0 m c t) (b1 m c t) (b2 m c t) (ix2 p d) = G9 m c (((cfg0.win 9).blk t).view.emb (ix2 p d : S512x512.Idx))
  rw [emb9]
  exact o9 m c t p d
theorem final9 : (dats m 0 c).arrAt 9 cfg0.N = G9 m c :=
  (dats m 0 c).arrAt_eq_of_cover 9 (G9 m c) (flushed9_eq m c) fun i => by
    have h0 : (i 0 : Nat) < 8192 := (i 0).isLt
    have h1 : (i 1 : Nat) < 512 := (i 1).isLt
    have hlt : (i 0).val / 512 < cfg0.N := by rw [N16]; omega
    refine ⟨⟨(i 0).val / 512, hlt⟩, flush0_9 _, ?_⟩
    show i ∈ ((View.whole main_v12_6).slice (win0_9.rect ⟨(i 0).val / 512, hlt⟩)).set
    rw [View.set_slice_whole, Rect.mem_set_unit]
    have hi := idx9 ⟨(i 0).val / 512, hlt⟩
    have hx := xs9 ⟨(i 0).val / 512, hlt⟩
    try simp only at hi hx
    intro ax
    match ax with
    | ⟨0, _⟩ =>
      show win0_9.index ⟨(i 0).val / 512, hlt⟩ 0 * 512 ≤ (i 0 : Nat) ∧ (i 0 : Nat) < win0_9.index ⟨(i 0).val / 512, hlt⟩ 0 * 512 + win0_9.xsize (grid0.coords ⟨(i 0).val / 512, hlt⟩) 0
      rw [hi.1, hx.1]; omega
    | ⟨1, _⟩ =>
      show win0_9.index ⟨(i 0).val / 512, hlt⟩ 1 * 512 ≤ (i 1 : Nat) ∧ (i 1 : Nat) < win0_9.index ⟨(i 0).val / 512, hlt⟩ 1 * 512 + win0_9.xsize (grid0.coords ⟨(i 0).val / 512, hlt⟩) 1
      rw [hi.2, hx.2]; omega

theorem run (ρ : Dev nD → PrngReg) : θ_run defs (onTc (τ := τ) (main (F := Ideal))) ⟨m, fun _ => 0, ρ⟩ fun r => ∀ c : Dev nD,
      r.2.mem ((c : Thread nD τ).loc main_v12_0) = G3 m c
      ∧ r.2.mem ((c : Thread nD τ).loc main_v12_1) = G4 m c
      ∧ r.2.mem ((c : Thread nD τ).loc main_v12_2) = G5 m c
      ∧ r.2.mem ((c : Thread nD τ).loc main_v12_3) = G6 m c
      ∧ r.2.mem ((c : Thread nD τ).loc main_v12_4) = G7 m c
      ∧ r.2.mem ((c : Thread nD τ).loc main_v12_5) = G8 m c
      ∧ r.2.mem ((c : Thread nD τ).loc main_v12_6) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      obtain ⟨h3, h4, h5, h6, h7, h8, h9, h⟩ := h c
      exact ⟨h3.trans (final3 m c), h4.trans (final4 m c), h5.trans (final5 m c), h6.trans (final6 m c), h7.trans (final7 m c),
        h8.trans (final8 m c), h9.trans (final9 m c), h⟩) (run_blocks m ρ)

end Cert.Kernel8Ideal.AbFwd

namespace Cert.Reference8Ideal.AbFwd

open Cert.Reference8Ideal Cert.Reference8Ideal.Gen Cert.Reference8Ideal.Read
open Idealize.ShloMosaic Idealize.ShloMosaic.TcCoe Idealize.ShloMosaic.Tactic
open Idealize.SL.Sem

/-! ## The plain forward pass -/

variable (x0 : Vec Ideal S8192x1024 .f32) (x1 : Vec Ideal S1024 .f32) (x2 : Vec Ideal S1024x3080 .f32)

abbrev X (t : Fin 8192) (d : Fin 1024) : EReal := x0 (ix2 t d)
abbrev NW (d : Fin 1024) : EReal := x1 (ix1 d)
abbrev W (d : Fin 1024) (n : Fin 3080) : EReal := x2 (ix2 d n)

theorem r_ms (t : Fin 8192) (z : Fin 1) : val_main_v6 (F := Ideal) x0 (ix2 t z) = FfnSpec.ms (X x0) t := by
  unfold FfnSpec.ms
  pointwise [val_main_v6, val_main_v4, val_main_v2, val_main_v1, val_main_v0, val_main_cst, val_main_v3, val_main_cst_0, val_main_v5, val_main_cst_1]
theorem r_rs (t : Fin 8192) (z : Fin 1) : val_main_v7 (F := Ideal) x0 (ix2 t z) = FfnSpec.rs (X x0) t := by
  unfold FfnSpec.rs
  rw [val_main_v7_apply, r_ms, Ideal.hostUnary_rsqrt_def]
theorem r_hn (t : Fin 8192) (d : Fin 1024) : (val_main_v12 (F := Ideal) x0 x1 (ix2 t d) : EReal) = AbFwdSpec.hn (X x0) (NW x1) t d := by
  have h := r_rs x0
  unfold AbFwdSpec.hn val_main_v12 val_main_v9 val_main_v8
  generalize val_main_v7 (F := Ideal) x0 = y at h ⊢
  rw [← h t 0]
  pointwise [val_main_v11, val_main_v10]
theorem r_h (t : Fin 8192) (d : Fin 1024) : (val_main_v20 (F := Ideal) x0 x1 (ix2 t d) : EReal) = AbFwdSpec.hn (X x0) (NW x1) t d := by
  rw [← r_hn]
  unfold val_main_v20
  generalize val_main_v12 (F := Ideal) x0 x1 = y
  pointwise
theorem r_pr (t : Fin 8192) (n : Fin 3080) : (val_main_v13 (F := Ideal) x0 x1 x2 (ix2 t n) : EReal) = AbFwdSpec.pr (X x0) (NW x1) (W x2) t n := by
  have h := r_hn x0 x1
  unfold AbFwdSpec.pr val_main_v13
  generalize val_main_v12 (F := Ideal) x0 x1 = y at h ⊢
  simp only [← h]
  pointwise
theorem r_v14 (t : Fin 8192) (k : Fin 1536) : (val_main_v14 (F := Ideal) x0 x1 x2 (ix2 t k) : EReal) = AbFwdSpec.pr (X x0) (NW x1) (W x2) t (Cert.Kernel8Ideal.AbFwd.col4 k) := by
  rw [← r_pr]
  unfold val_main_v14
  generalize val_main_v13 (F := Ideal) x0 x1 x2 = y
  pointwise
theorem r_v15 (t : Fin 8192) (k : Fin 512) : (val_main_v15 (F := Ideal) x0 x1 x2 (ix2 t k) : EReal) = AbFwdSpec.pr (X x0) (NW x1) (W x2) t (Cert.Kernel8Ideal.AbFwd.col5 k) := by
  rw [← r_pr]
  unfold val_main_v15
  generalize val_main_v13 (F := Ideal) x0 x1 x2 = y
  pointwise
theorem r_v18 (t : Fin 8192) (k : Fin 512) : (val_main_v18 (F := Ideal) x0 x1 x2 (ix2 t k) : EReal) = AbFwdSpec.pr (X x0) (NW x1) (W x2) t (Cert.Kernel8Ideal.AbFwd.col6 k) := by
  rw [← r_pr]
  unfold val_main_v18
  generalize val_main_v13 (F := Ideal) x0 x1 x2 = y
  pointwise
theorem r_v19 (t : Fin 8192) (k : Fin 512) : (val_main_v19 (F := Ideal) x0 x1 x2 (ix2 t k) : EReal) = AbFwdSpec.pr (X x0) (NW x1) (W x2) t (Cert.Kernel8Ideal.AbFwd.col7 k) := by
  rw [← r_pr]
  unfold val_main_v19
  generalize val_main_v13 (F := Ideal) x0 x1 x2 = y
  pointwise
theorem r_v23 (t : Fin 8192) (k : Fin 512) : (val_main_v23 (F := Ideal) x0 x1 x2 (ix2 t k) : EReal) = AbFwdSpec.pr (X x0) (NW x1) (W x2) t (Cert.Kernel8Ideal.AbFwd.col8 k) := by
  rw [← r_pr]
  unfold val_main_v23 val_main_v22 val_main_v21 val_main_v16
  generalize val_main_v13 (F := Ideal) x0 x1 x2 = y
  pointwise
theorem r_v26 (t : Fin 8192) (k : Fin 512) : (val_main_v26 (F := Ideal) x0 x1 x2 (ix2 t k) : EReal) = AbFwdSpec.pr (X x0) (NW x1) (W x2) t (Cert.Kernel8Ideal.AbFwd.col9 k) := by
  rw [← r_pr]
  unfold val_main_v26 val_main_v25 val_main_v24 val_main_v17
  generalize val_main_v13 (F := Ideal) x0 x1 x2 = y
  pointwise

/-! ## The claims -/

theorem frame_reference : Cert.quiescent_Reference8Ideal := by
  intro m ρ _
  exact (θ_run Cert.Reference8Ideal.defs _ _).mono (fun r h => ⟨fun c => (h c).2.2.2.2.2.2.2, Idealize.ShloMosaic.sem_eq_zero_of_no_sems (by decide) r.2⟩)
    (Cert.Reference8Ideal.Value.run (F := Ideal) m ρ)

/-- The call's seven results are the plain forward pass's. -/
theorem value : Cert.algebraic_Kernel8Ideal_Reference8Ideal := by
  intro m ρ m' ρ' _ hargs
  refine ⟨Cert.Kernel8Ideal.AbFwd.G3 m, Cert.Kernel8Ideal.AbFwd.G4 m, Cert.Kernel8Ideal.AbFwd.G5 m, Cert.Kernel8Ideal.AbFwd.G6 m,
    Cert.Kernel8Ideal.AbFwd.G7 m, Cert.Kernel8Ideal.AbFwd.G8 m, Cert.Kernel8Ideal.AbFwd.G9 m, Cert.Kernel8Ideal.AbFwd.run m ρ, ?_⟩
  refine (θ_run Cert.Reference8Ideal.defs _ _).mono (fun r h c => ?_) (Cert.Reference8Ideal.Value.run (F := Ideal) m' ρ')
  obtain ⟨q0, q1, q2, q3, q4, q5, q6, u⟩ := h c
  obtain ⟨g0, g1, g2⟩ := hargs c
  refine ⟨q0.trans ?_, q1.trans ?_, q2.trans ?_, q3.trans ?_, q4.trans ?_, q5.trans ?_, q6.trans ?_, u⟩
  · rw [val_main_v20_eq, g0, g1]
    funext i
    obtain ⟨t, d, rfl⟩ : ∃ (t : Fin 8192) (d : Fin 1024), i = ix2 t d := ⟨i 0, i 1, eq_ix2 i⟩
    exact r_h _ _ t d
  · rw [val_main_v14_eq, g0, g1, g2]
    funext i
    obtain ⟨t, k, rfl⟩ : ∃ (t : Fin 8192) (k : Fin 1536), i = ix2 t k := ⟨i 0, i 1, eq_ix2 i⟩
    exact r_v14 _ _ _ t k
  · rw [val_main_v15_eq, g0, g1, g2]
    funext i
    obtain ⟨t, k, rfl⟩ : ∃ (t : Fin 8192) (k : Fin 512), i = ix2 t k := ⟨i 0, i 1, eq_ix2 i⟩
    exact r_v15 _ _ _ t k
  · rw [val_main_v18_eq, g0, g1, g2]
    funext i
    obtain ⟨t, k, rfl⟩ : ∃ (t : Fin 8192) (k : Fin 512), i = ix2 t k := ⟨i 0, i 1, eq_ix2 i⟩
    exact r_v18 _ _ _ t k
  · rw [val_main_v19_eq, g0, g1, g2]
    funext i
    obtain ⟨t, k, rfl⟩ : ∃ (t : Fin 8192) (k : Fin 512), i = ix2 t k := ⟨i 0, i 1, eq_ix2 i⟩
    exact r_v19 _ _ _ t k
  · rw [val_main_v23_eq, g0, g1, g2]
    funext i
    obtain ⟨t, k, rfl⟩ : ∃ (t : Fin 8192) (k : Fin 512), i = ix2 t k := ⟨i 0, i 1, eq_ix2 i⟩
    exact r_v23 _ _ _ t k
  · rw [val_main_v26_eq, g0, g1, g2]
    funext i
    obtain ⟨t, k, rfl⟩ : ∃ (t : Fin 8192) (k : Fin 512), i = ix2 t k := ⟨i 0, i 1, eq_ix2 i⟩
    exact r_v26 _ _ _ t k

end Cert.Reference8Ideal.AbFwd

end
-- ==== Proof.AboutVal.lean ====
/- The gradient of the mixer's output weight: what the four grid points compute, 2048 rows each, as a sum over all rows,
   and the plain backward pass read at an index. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

@[expose] public section

set_option maxRecDepth 16384

noncomputable section

namespace Cert.Kernel10Ideal.AboutW

open Cert.Kernel10Ideal Cert.Kernel10Ideal.Gen Cert.Kernel10Ideal.Value
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (c : Dev nD)

/-! ## What a point leaves -/

/-- The first point leaves its product in the accumulator. -/
theorem soutA (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .f32) :
    sout0_A_0 c i arg3 harg3 arg4 harg4 arg5 harg5 arg6 harg6 hc0 hc1 hc2 x0 x1 = k0_pay2 x0 x1 := by
  unfold sout0_A_0
  frame_out
/-- A middle point adds its product. -/
theorem soutB (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .f32) (xs : Vec Ideal S1024x1024 .f32) :
    sout0_B_0 c i arg3 harg3 arg4 harg4 arg5 harg5 arg6 harg6 hc0 hc1 hc2 x0 x1 xs = k0_pay3 x0 x1 xs := by
  unfold sout0_B_0
  frame_out
/-- The last point adds its product and rounds. -/
theorem outC (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .f32) (xs : Vec Ideal S1024x1024 .f32) :
    out0_C_2 c i arg3 harg3 arg4 harg4 arg5 harg5 arg6 harg6 hc0 hc1 hc2 x0 x1 xs = k0_pay4 (k0_pay3 x0 x1 xs) := by
  unfold out0_C_2
  frame_out

/-! ## The arguments, and what the host code hands to the call -/

abbrev a0 : Vec Ideal S8192x1024 .f32 := m ((c.tc : Thread nD τ).loc main_arg0)
abbrev a2 : Vec Ideal S8192x1024 .f32 := m ((c.tc : Thread nD τ).loc main_arg2)

theorem V_v0 : (V m c main_v0 : Vec Ideal S8192x1024 .bf16) = truncf (F := Ideal) .bf16 (a0 m c) bitsLt_bf16_f32 := by
  show StableHlo.after hostOps0 (fun b => m (c, b)) (Proc.devRef .tc main_v0) = _
  simp only [hostOps0]
  after_results_simp <;> rfl
theorem V_a2 : (V m c main_arg2 : Vec Ideal S8192x1024 .f32) = a2 m c := by
  show StableHlo.after hostOps0 (fun b => m (c, b)) (Proc.devRef .tc main_arg2) = _
  simp only [hostOps0]
  after_results_simp <;> rfl
theorem v0_at (t : Fin 8192) (d : Fin 1024) : (V m c main_v0 : Vec Ideal S8192x1024 .bf16) (ix2 t d) = (a0 m c (ix2 t d) : EReal) := by
  rw [V_v0]
  pointwise
theorem a2_at (t : Fin 8192) (d : Fin 1024) : (V m c main_arg2 : Vec Ideal S8192x1024 .f32) (ix2 t d) = (a2 m c (ix2 t d) : EReal) := by
  rw [V_a2]

/-! ## The blocks: point `t` works on rows `t * 2048 …` -/

theorem lt4 (t : Fin cfg0.N) : t.val < 4 := lt_of_lt_of_eq t.isLt N_0
theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val ∧ win0_1.index t 1 = 0 :=
  (by decide +kernel : ∀ t : Fin grid0.N, win0_1.index t 0 = t.val ∧ win0_1.index t 1 = 0) t

def row (t : Fin cfg0.N) (p : Fin 2048) : Fin 8192 := ⟨t.val * 2048 + p.val, by have := lt4 t; omega⟩

abbrev bH (t : Fin cfg0.N) : Vec Ideal S2048x1024 .bf16 := iblk m c 0 t
abbrev bD (t : Fin cfg0.N) : Vec Ideal S2048x1024 .f32 := iblk m c 1 t

theorem bH_at (t : Fin cfg0.N) (p : Fin 2048) (d : Fin 1024) : (bH m c t (ix2 p d) : EReal) = a0 m c (ix2 (row t p) d) := by
  have hi := idx0 t
  rw [← v0_at]
  show iblk m c 0 t _ = _
  unfold iblk
  rw [View.read_apply]
  show V m c main_v0 _ = V m c main_v0 _
  congr 1
  funext ax
  apply Fin.ext
  match ax with
  | ⟨0, _⟩ => show win0_0.index t 0 * 2048 + 1 * p.val = _; rw [hi.1]; show _ = t.val * 2048 + p.val; omega
  | ⟨1, _⟩ => show win0_0.index t 1 * 1024 + 1 * d.val = _; rw [hi.2]; show _ = d.val; omega
theorem bD_at (t : Fin cfg0.N) (p : Fin 2048) (d : Fin 1024) : (bD m c t (ix2 p d) : EReal) = a2 m c (ix2 (row t p) d) := by
  have hi := idx1 t
  rw [← a2_at]
  show iblk m c 1 t _ = _
  unfold iblk
  rw [View.read_apply]
  show V m c main_arg2 _ = V m c main_arg2 _
  congr 1
  funext ax
  apply Fin.ext
  match ax with
  | ⟨0, _⟩ => show win0_1.index t 0 * 2048 + 1 * p.val = _; rw [hi.1]; show _ = t.val * 2048 + p.val; omega
  | ⟨1, _⟩ => show win0_1.index t 1 * 1024 + 1 * d.val = _; rw [hi.2]; show _ = d.val; omega

/-! ## The product -/

theorem pay1_at (x0 : Vec Ideal S2048x1024 .bf16) (x1 : Vec Ideal S2048x1024 .f32) (b a : Fin 1024) :
    (k0_pay2 (F := Ideal) x0 x1 (ix2 b a) : EReal) = ∑ p : Fin 2048, (x0 (ix2 p b) : EReal) * x1 (ix2 p a) := by
  pointwise [k0_pay2, k0_pay1]
theorem pay3_at (x0 : Vec Ideal S2048x1024 .bf16) (x1 : Vec Ideal S2048x1024 .f32) (s : Vec Ideal S1024x1024 .f32) (b a : Fin 1024) :
    (k0_pay3 (F := Ideal) x0 x1 s (ix2 b a) : EReal) = s (ix2 b a) + ∑ p : Fin 2048, (x0 (ix2 p b) : EReal) * x1 (ix2 p a) := by
  pointwise [k0_pay3, k0_pay1]
theorem pay4_at (s : Vec Ideal S1024x1024 .f32) (b a : Fin 1024) : (k0_pay4 (F := Ideal) s (ix2 b a) : EReal) = s (ix2 b a) := by
  pointwise [k0_pay4]

/-- A sum over the rows is the sum over its four quarters. -/
theorem sum_quarters (f : Fin 8192 → EReal) : ∑ t, f t
    = (∑ p : Fin 2048, f ⟨p.val, by omega⟩) + (∑ p : Fin 2048, f ⟨2048 + p.val, by omega⟩) + (∑ p : Fin 2048, f ⟨4096 + p.val, by omega⟩)
      + ∑ p : Fin 2048, f ⟨6144 + p.val, by omega⟩ := by
  have h1 := Fin.sum_univ_add (a := 6144) (b := 2048) f
  have h2 := Fin.sum_univ_add (a := 4096) (b := 2048) (fun i : Fin 6144 => f (Fin.castAdd 2048 i))
  have h3 := Fin.sum_univ_add (a := 2048) (b := 2048) (fun i : Fin 4096 => f (Fin.castAdd 2048 (Fin.castAdd 2048 i)))
  exact h1.trans (congrArg (· + _) (h2.trans (congrArg (· + _) h3)))

/-- The gradient: all rows, one column of the inputs against one column of the cotangent. -/
def grad (h d : Vec Ideal S8192x1024 .f32) (b a : Fin 1024) : EReal := ∑ t : Fin 8192, (h (ix2 t b) : EReal) * d (ix2 t a)

/-- One point's share of it. -/
def part (t : Fin cfg0.N) (b a : Fin 1024) : EReal := ∑ p : Fin 2048, (bH m c t (ix2 p b) : EReal) * bD m c t (ix2 p a)
theorem part_at (t : Fin cfg0.N) (b a : Fin 1024) (n : ℕ) (hn : t.val * 2048 = n) :
    part m c t b a = ∑ p : Fin 2048, (a0 m c (ix2 ⟨n + p.val, by have := lt4 t; omega⟩ b) : EReal) * a2 m c (ix2 ⟨n + p.val, by have := lt4 t; omega⟩ a) := by
  subst hn
  exact Finset.sum_congr rfl fun p _ => by rw [bH_at, bD_at]; rfl

theorem acc0 (h : 0 < cfg0.N) (b a : Fin 1024) : ((outsAt0 m c 0 h).2 (ix2 b a) : EReal) = part m c ⟨0, h⟩ b a := by
  have e := outsAt0_A m c ⟨0, h⟩ (by show 0 % 4 = 0; omega) (by show ¬1 ≤ 0; omega) (by show ¬0 % 4 = 3; omega)
  rw [show (outsAt0 m c 0 h).2 = _ from congrArg Prod.snd e, soutA]
  exact pay1_at (bH m c ⟨0, h⟩) (bD m c ⟨0, h⟩) b a
theorem accS (n : ℕ) (h : n + 1 < cfg0.N) (h3 : n + 1 < 3) (b a : Fin 1024) :
    ((outsAt0 m c (n + 1) h).2 (ix2 b a) : EReal) = (outsAt0 m c n (Nat.lt_of_succ_lt h)).2 (ix2 b a) + part m c ⟨n + 1, h⟩ b a := by
  have e := outsAt0_B m c ⟨n + 1, h⟩ (by show ¬(n + 1) % 4 = 0; omega) (by show 1 ≤ n + 1; omega) (by show ¬(n + 1) % 4 = 3; omega)
  rw [show (outsAt0 m c (n + 1) h).2 = _ from congrArg Prod.snd e, soutB]
  exact pay3_at (bH m c ⟨n + 1, h⟩) (bD m c ⟨n + 1, h⟩) _ b a
theorem last (h : 3 < cfg0.N) (b a : Fin 1024) :
    ((outsAt0 m c 3 h).1 (ix2 b a) : EReal) = (outsAt0 m c 2 (Nat.lt_of_succ_lt h)).2 (ix2 b a) + part m c ⟨3, h⟩ b a := by
  have e := outsAt0_C m c ⟨3, h⟩ (by show ¬3 % 4 = 0; omega) (by show 1 ≤ 3; omega) (by show 3 % 4 = 3; omega)
  rw [show (outsAt0 m c 3 h).1 = _ from congrArg Prod.fst e, outC]
  exact (pay4_at _ b a).trans (pay3_at (bH m c ⟨3, h⟩) (bD m c ⟨3, h⟩) _ b a)

theorem G2_at (b a : Fin 1024) : (G2 m c (ix2 b a) : EReal) = grad (a0 m c) (a2 m c) b a := by
  have h3 : 3 < cfg0.N := lt_of_lt_of_eq (by decide) N_0.symm
  rw [G2_last, ← outsAt0_sweep m c 3 h3, last, accS m c 1 _ (by omega), accS m c 0 _ (by omega), acc0]
  unfold grad
  rw [sum_quarters, part_at m c ⟨0, _⟩ b a 0 rfl, part_at m c ⟨1, _⟩ b a 2048 rfl, part_at m c ⟨2, _⟩ b a 4096 rfl, part_at m c ⟨3, _⟩ b a 6144 rfl]
  simp only [Nat.zero_add]

end Cert.Kernel10Ideal.AboutW

/-! ## The plain backward pass -/

namespace Cert.Reference10Ideal.AboutW

open Cert.Reference10Ideal Cert.Reference10Ideal.Gen Cert.Reference10Ideal.Read
open Idealize.ShloMosaic Idealize.ShloMosaic.TcCoe Idealize.ShloMosaic.Tactic
open Idealize.SL.Sem

theorem ref_at (x0 x2 : (⟨S8192x1024, .f32⟩ : BufTy).Contents (Elt Ideal)) (b a : Fin 1024) :
    (val_main_v3 (F := Ideal) x0 x2 (ix2 b a) : EReal) = Cert.Kernel10Ideal.AboutW.grad x0 x2 b a := by
  unfold Cert.Kernel10Ideal.AboutW.grad val_main_v3 val_main_v2 val_main_v1
  pointwise
  exact Finset.sum_congr rfl fun t _ => mul_comm _ _

/-- The plain backward pass runs and leaves its arguments; it declares no semaphore. -/
theorem frame_reference : Cert.quiescent_Reference10Ideal := by
  intro m ρ _
  exact (θ_run Cert.Reference10Ideal.defs _ _).mono (fun r h => ⟨fun c => (h c).2, Idealize.ShloMosaic.sem_eq_zero_of_no_sems (by decide) r.2⟩)
    (Cert.Reference10Ideal.Value.run (F := Ideal) m ρ)

/-- The call's result is the plain backward pass's. -/
theorem value : Cert.algebraic_Kernel10Ideal_Reference10Ideal := by
  intro m ρ m' ρ' _ hargs
  refine ⟨fun c => Cert.Kernel10Ideal.Value.G2 m c, Cert.Kernel10Ideal.Value.run (F := Ideal) m ρ, ?_⟩
  refine (θ_run Cert.Reference10Ideal.defs _ _).mono (fun r h c => ⟨(h c).1.trans ?_, (h c).2⟩) (Cert.Reference10Ideal.Value.run (F := Ideal) m' ρ')
  obtain ⟨g0, g1, g2⟩ := hargs c
  rw [val_main_v3_eq, g0, g2]
  funext i
  obtain ⟨b, a, rfl⟩ : ∃ (b : Fin 1024) (a : Fin 1024), i = ix2 b a := ⟨i 0, i 1, eq_ix2 i⟩
  exact (ref_at _ _ b a).trans (Cert.Kernel10Ideal.AboutW.G2_at m c b a).symm

end Cert.Reference10Ideal.AboutW

end
-- ==== Proof.AdamSpec.lean ====
/- One step of the optimiser at one element, from its gradient, its weight and its two moments. -/
module

public import Idealize.ShloMosaic.Lib.Pointwise

@[expose] public section

noncomputable section

namespace Cert.AdamSpec

open Idealize.ShloMosaic

/-- A single-precision constant as an extended real. -/
abbrev k (b : BitVec 32) : EReal := Ideal.ofBits .f32 b

/-- The new first moment. -/
def newM (g m : EReal) : EReal := k 0x3F666666#32 * m + k 0x3DCCCCCD#32 * g
/-- The new second moment. -/
def newV (g v : EReal) : EReal := k 0x3F7FBE77#32 * v + k 0x3A83126F#32 * (g * g)
/-- The change of the weight. -/
def delta (g w m v : EReal) : EReal :=
  k 0xBA83126F#32 * (Ideal.div (Ideal.div (newM g m) (k 0x3F26BD02#32)) (Ideal.sqrt (Ideal.div (newV g v) (k 0x3C231ACC#32)) + k 0x322BCC77#32)
    + k 0x3C23D70A#32 * w)

end Cert.AdamSpec

end
-- ==== Proof.AdamOutVal.lean ====
/- The optimiser's call for the second weight of a half step: what it computes from the arguments, the plain step read at an
   index, and the value claim.  Two grid points take 176 rows each, of both layers; a point sums the eight devices' shares of the
   gradient and steps the two layers one after the other. -/
module

public import proofs.«01_k».proof.Defs
public import proofs.«01_k».proof.Proof.AdamSpec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit

@[expose] public section

set_option maxRecDepth 16384

noncomputable section

namespace Cert.Kernel11Ideal.Adam

open Cert.Kernel11Ideal Cert.Kernel11Ideal.Gen Cert.Kernel11Ideal.Value
open Idealize.ShloMosaic Idealize.ShloMosaic.TcCoe Idealize.ShloMosaic.Tactic
open Idealize.SL.Sem

/-! ## The two layers' halves of a block -/

/-- One of the eight shares, loaded. -/
theorem lg (n : Nat) (hn : n < 8) (h : ∀ a, (![n, 0, 0] : Fin 3 → Nat) a + S1x176x1024.size a ≤ S8x176x1024.size a) (x : Vec Ideal S8x176x1024 .bf16) (z : Fin 1) (p : Fin 176) (d : Fin 1024) :
    (View.ld (Val := Elt Ideal) (e' := .bf16) x (Rect.unit (s := S8x176x1024) ![n, 0, 0] S1x176x1024.size h) (ix3 z p d) : EReal) = x (ix3 ⟨n, hn⟩ p d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * d.val = d.val; omega
theorem emb_0 (z : Fin 1) (p : Fin 176) (d : Fin 1024) : r0_8.emb (ix3 z p d : S1x176x1024.Idx) = (ix3 0 p d : S2x176x1024.Idx) := by
  funext ax; apply Fin.ext
  match ax with
  | ⟨0, _⟩ => show 0 + 1 * z.val = 0; omega
  | ⟨1, _⟩ => show 0 + 1 * p.val = p.val; omega
  | ⟨2, _⟩ => show 0 + 1 * d.val = d.val; omega
theorem ls_0 (x : Vec Ideal S2x176x1024 .f32) (z : Fin 1) (p : Fin 176) (d : Fin 1024) :
    (View.ld (Val := Elt Ideal) (e' := .f32) x r0_8 (ix3 z p d) : EReal) = x (ix3 0 p d) := by
  rw [View.ld_apply]
  exact congrArg x (emb_0 z p d)
theorem emb_1 (z : Fin 1) (p : Fin 176) (d : Fin 1024) : r0_9.emb (ix3 z p d : S1x176x1024.Idx) = (ix3 1 p d : S2x176x1024.Idx) := by
  funext ax; apply Fin.ext
  match ax with
  | ⟨0, _⟩ => show 1 + 1 * z.val = 1; omega
  | ⟨1, _⟩ => show 0 + 1 * p.val = p.val; omega
  | ⟨2, _⟩ => show 0 + 1 * d.val = d.val; omega
theorem ls_1 (x : Vec Ideal S2x176x1024 .f32) (z : Fin 1) (p : Fin 176) (d : Fin 1024) :
    (View.ld (Val := Elt Ideal) (e' := .f32) x r0_9 (ix3 z p d) : EReal) = x (ix3 1 p d) := by
  rw [View.ld_apply]
  exact congrArg x (emb_1 z p d)
theorem off_1 (p : Fin 176) (d : Fin 1024) : (ix3 0 p d : S2x176x1024.Idx) ∉ r0_9.set := by
  rw [Rect.mem_set_unit]
  intro h
  have h1 : 1 ≤ 0 := (h 0).1
  omega

/-- A block written in two halves, read at a layer. -/
theorem two_1 (a b : Vec Ideal S1x176x1024 .f32) (p : Fin 176) (d : Fin 1024) :
    (View.canon (Val := Elt Ideal) (e := .f32) [⟨r0_9, a⟩, ⟨r0_8, b⟩] (ix3 1 p d) : EReal) = a (ix3 0 p d) :=
  (congrArg _ (emb_1 0 p d).symm).trans (View.canon_cons_emb (Val := Elt Ideal) (e := .f32) r0_9 a _ (ix3 0 p d : S1x176x1024.Idx))
theorem two_0 (a b : Vec Ideal S1x176x1024 .f32) (p : Fin 176) (d : Fin 1024) :
    (View.canon (Val := Elt Ideal) (e := .f32) [⟨r0_9, a⟩, ⟨r0_8, b⟩] (ix3 0 p d) : EReal) = b (ix3 0 p d) := by
  rw [View.canon_cons_of_not_mem (⟨r0_9, a⟩ : View.Piece (Elt Ideal) S2x176x1024 .f32) _ (off_1 p d)]
  exact (congrArg _ (emb_0 0 p d).symm).trans (View.canon_cons_emb (Val := Elt Ideal) (e := .f32) r0_8 b _ (ix3 0 p d : S1x176x1024.Idx))

/-! ## The payloads -/

section
variable (y0 y1 y2 y3 y4 y5 y6 y7 : Vec Ideal S1x176x1024 .bf16) (g : Vec Ideal S176x1024 .f32) (w m v : Vec Ideal S1x176x1024 .f32)
  (p : Fin 176) (d : Fin 1024)

theorem pay4_at : (k0_pay4 (F := Ideal) y0 y1 y2 y3 y4 y5 y6 y7 (ix2 p d) : EReal)
    = y0 (ix3 0 p d) + y1 (ix3 0 p d) + y2 (ix3 0 p d) + y3 (ix3 0 p d) + y4 (ix3 0 p d) + y5 (ix3 0 p d) + y6 (ix3 0 p d) + y7 (ix3 0 p d) := by
  pointwise [k0_pay4]
theorem pay11_at : (k0_pay11 (F := Ideal) y0 y1 y2 y3 y4 y5 y6 (ix2 p d) : EReal)
    = y0 (ix3 0 p d) + y1 (ix3 0 p d) + y2 (ix3 0 p d) + y3 (ix3 0 p d) + y4 (ix3 0 p d) + y5 (ix3 0 p d) + y6 (ix3 0 p d) := by
  pointwise [k0_pay11]
theorem pay12_at : (k0_pay12 (F := Ideal) g y7 (ix2 p d) : EReal) = g (ix2 p d) + y7 (ix3 0 p d) := by
  pointwise [k0_pay12]
theorem pay5_at : (k0_pay5 (F := Ideal) g m (ix2 p d) : EReal) = AdamSpec.newM (g (ix2 p d)) (m (ix3 0 p d)) := by
  unfold AdamSpec.newM
  pointwise [k0_pay5]
theorem pay6_at : (k0_pay6 (F := Ideal) g v (ix2 p d) : EReal) = AdamSpec.newV (g (ix2 p d)) (v (ix3 0 p d)) := by
  unfold AdamSpec.newV
  pointwise [k0_pay6]
theorem pay7_at : (k0_pay7 (F := Ideal) g (ix3 0 p d) : EReal) = g (ix2 p d) := by
  pointwise [k0_pay7]
theorem pay9_at : (k0_pay9 (F := Ideal) g (ix3 0 p d) : EReal) = g (ix2 p d) := by
  pointwise [k0_pay9]
theorem pay10_at : (k0_pay10 (F := Ideal) g (ix3 0 p d) : EReal) = g (ix2 p d) := by
  pointwise [k0_pay10]
theorem pay2_at : (k0_pay2 (F := Ideal) g (ix3 0 p d) : EReal) = g (ix2 p d) := by
  pointwise [k0_pay2]
theorem pay3_at : (k0_pay3 (F := Ideal) g (ix3 0 p d) : EReal) = g (ix2 p d) := by
  pointwise [k0_pay3]
theorem pay8_at : (k0_pay8 (F := Ideal) g m v w (ix3 0 p d) : EReal)
    = AdamSpec.delta (g (ix2 p d)) (w (ix3 0 p d)) (m (ix3 0 p d)) (v (ix3 0 p d)) := by
  have h5 := pay5_at g m p d
  have h6 := pay6_at g v p d
  unfold AdamSpec.delta k0_pay8
  rw [← h5, ← h6]
  generalize k0_pay5 (F := Ideal) g m = q
  generalize k0_pay6 (F := Ideal) g v = r
  pointwise
theorem pay13_at : (k0_pay13 (F := Ideal) g y7 m (ix2 p d) : EReal) = AdamSpec.newM (g (ix2 p d) + y7 (ix3 0 p d)) (m (ix3 0 p d)) := by
  rw [← pay12_at]
  unfold AdamSpec.newM k0_pay13
  generalize k0_pay12 (F := Ideal) g y7 = q
  pointwise
theorem pay14_at : (k0_pay14 (F := Ideal) g y7 v (ix2 p d) : EReal) = AdamSpec.newV (g (ix2 p d) + y7 (ix3 0 p d)) (v (ix3 0 p d)) := by
  rw [← pay12_at]
  unfold AdamSpec.newV k0_pay14
  generalize k0_pay12 (F := Ideal) g y7 = q
  pointwise
theorem pay15_at : (k0_pay15 (F := Ideal) g y7 (ix3 0 p d) : EReal) = g (ix2 p d) + y7 (ix3 0 p d) := by
  rw [← pay12_at]
  unfold k0_pay15
  generalize k0_pay12 (F := Ideal) g y7 = q
  pointwise
theorem pay1_at : (k0_pay1 (F := Ideal) (k0_pay16 g y7 m v w) (Scalar.ofBits .f32 0xBA83126F#32) (ix3 0 p d) : EReal)
    = AdamSpec.delta (g (ix2 p d) + y7 (ix3 0 p d)) (w (ix3 0 p d)) (m (ix3 0 p d)) (v (ix3 0 p d)) := by
  have h5 := pay13_at y7 g m p d
  have h6 := pay14_at y7 g v p d
  unfold AdamSpec.delta k0_pay16
  rw [← h5, ← h6]
  generalize k0_pay13 (F := Ideal) g y7 m = q
  generalize k0_pay14 (F := Ideal) g y7 v = r
  pointwise [k0_pay1]

end

section
variable (x0 x1 : Vec Ideal S8x176x1024 .bf16) (x2 x3 x4 : Vec Ideal S2x176x1024 .f32) (p : Fin 176) (d : Fin 1024)

/-- The eight shares of one layer's gradient at an element, summed. -/
def gs (x : Vec Ideal S8x176x1024 .bf16) (p : Fin 176) (d : Fin 1024) : EReal := ∑ s : Fin 8, (x (ix3 s p d) : EReal)

theorem g0_at : (k0_pay17 (F := Ideal) x0 x1 x2 x3 x4 (ix2 p d) : EReal) = gs x0 p d := by
  unfold k0_pay17 gs
  rw [pay4_at, lg 0 (by decide), lg 1 (by decide), lg 2 (by decide), lg 3 (by decide), lg 4 (by decide), lg 5 (by decide), lg 6 (by decide), lg 7 (by decide), Fin.sum_univ_eight]
  rfl
theorem g1_at : (k0_pay18 (F := Ideal) x0 x1 x2 x3 x4 (ix2 p d) + View.ld (Val := Elt Ideal) (e' := .bf16) x1 r0_7 (ix3 0 p d) : EReal) = gs x1 p d := by
  unfold k0_pay18 gs
  rw [pay11_at, lg 0 (by decide), lg 1 (by decide), lg 2 (by decide), lg 3 (by decide), lg 4 (by decide), lg 5 (by decide), lg 6 (by decide), lg 7 (by decide), Fin.sum_univ_eight]
  rfl

theorem out5_0 : (out0_5 (F := Ideal) x0 x1 x2 x3 x4 (ix3 0 p d) : EReal) = gs x0 p d := by
  unfold out0_5
  rw [two_0]
  rw [pay7_at, g0_at]
theorem out5_1 : (out0_5 (F := Ideal) x0 x1 x2 x3 x4 (ix3 1 p d) : EReal) = gs x1 p d := by
  unfold out0_5
  rw [two_1]
  rw [pay15_at, g1_at]
theorem out6_0 : (out0_6 (F := Ideal) x0 x1 x2 x3 x4 (ix3 0 p d) : EReal) = AdamSpec.delta (gs x0 p d) (x2 (ix3 0 p d)) (x3 (ix3 0 p d)) (x4 (ix3 0 p d)) := by
  unfold out0_6
  rw [two_0]
  rw [pay8_at, g0_at, ls_0, ls_0, ls_0]
theorem out6_1 : (out0_6 (F := Ideal) x0 x1 x2 x3 x4 (ix3 1 p d) : EReal) = AdamSpec.delta (gs x1 p d) (x2 (ix3 1 p d)) (x3 (ix3 1 p d)) (x4 (ix3 1 p d)) := by
  unfold out0_6
  rw [two_1]
  rw [pay1_at, g1_at, ls_1, ls_1, ls_1]
theorem out7_0 : (out0_7 (F := Ideal) x0 x1 x2 x3 x4 (ix3 0 p d) : EReal) = AdamSpec.newM (gs x0 p d) (x3 (ix3 0 p d)) := by
  unfold out0_7
  rw [two_0]
  rw [pay9_at, pay5_at, g0_at, ls_0]
theorem out7_1 : (out0_7 (F := Ideal) x0 x1 x2 x3 x4 (ix3 1 p d) : EReal) = AdamSpec.newM (gs x1 p d) (x3 (ix3 1 p d)) := by
  unfold out0_7
  rw [two_1]
  rw [pay2_at, pay13_at, g1_at, ls_1]
theorem out8_0 : (out0_8 (F := Ideal) x0 x1 x2 x3 x4 (ix3 0 p d) : EReal) = AdamSpec.newV (gs x0 p d) (x4 (ix3 0 p d)) := by
  unfold out0_8
  rw [two_0]
  rw [pay10_at, pay6_at, g0_at, ls_0]
theorem out8_1 : (out0_8 (F := Ideal) x0 x1 x2 x3 x4 (ix3 1 p d) : EReal) = AdamSpec.newV (gs x1 p d) (x4 (ix3 1 p d)) := by
  unfold out0_8
  rw [two_1]
  rw [pay3_at, pay14_at, g1_at, ls_1]

end

/-! ## The arguments, and what the host code hands to the call -/

variable (m : (ℓ : Loc nD τ sig) → Buf (Elt Ideal) ℓ) (c : Dev nD)

abbrev a0 : Vec Ideal S8x352x1024 .bf16 := m ((c.tc : Thread nD τ).loc main_arg0)
abbrev a1 : Vec Ideal S8x352x1024 .bf16 := m ((c.tc : Thread nD τ).loc main_arg1)
abbrev a2 : Vec Ideal S2x352x1024 .f32 := m ((c.tc : Thread nD τ).loc main_arg2)
abbrev a3 : Vec Ideal S2x352x1024 .f32 := m ((c.tc : Thread nD τ).loc main_arg3)
abbrev a4 : Vec Ideal S2x352x1024 .f32 := m ((c.tc : Thread nD τ).loc main_arg4)
theorem V_0 : (V m c main_arg0 : Vec Ideal S8x352x1024 .bf16) = a0 m c := rfl
theorem V_0_at (s : Fin 8) (r : Fin 352) (d : Fin 1024) : ((V m c main_arg0 : Vec Ideal S8x352x1024 .bf16) (ix3 s r d) : EReal) = a0 m c (ix3 s r d) := by
  rw [V_0]
theorem V_1 : (V m c main_arg1 : Vec Ideal S8x352x1024 .bf16) = a1 m c := rfl
theorem V_1_at (s : Fin 8) (r : Fin 352) (d : Fin 1024) : ((V m c main_arg1 : Vec Ideal S8x352x1024 .bf16) (ix3 s r d) : EReal) = a1 m c (ix3 s r d) := by
  rw [V_1]
theorem V_2 : (V m c main_arg2 : Vec Ideal S2x352x1024 .f32) = a2 m c := rfl
theorem V_2_at (s : Fin 2) (r : Fin 352) (d : Fin 1024) : ((V m c main_arg2 : Vec Ideal S2x352x1024 .f32) (ix3 s r d) : EReal) = a2 m c (ix3 s r d) := by
  rw [V_2]
theorem V_3 : (V m c main_arg3 : Vec Ideal S2x352x1024 .f32) = a3 m c := rfl
theorem V_3_at (s : Fin 2) (r : Fin 352) (d : Fin 1024) : ((V m c main_arg3 : Vec Ideal S2x352x1024 .f32) (ix3 s r d) : EReal) = a3 m c (ix3 s r d) := by
  rw [V_3]
theorem V_4 : (V m c main_arg4 : Vec Ideal S2x352x1024 .f32) = a4 m c := rfl
theorem V_4_at (s : Fin 2) (r : Fin 352) (d : Fin 1024) : ((V m c main_arg4 : Vec Ideal S2x352x1024 .f32) (ix3 s r d) : EReal) = a4 m c (ix3 s r d) := by
  rw [V_4]

/-! ## The blocks: point `t` works on rows `t * 176 …` -/

theorem ltN (t : Fin cfg0.N) : t.val < 2 := lt_of_lt_of_eq t.isLt N_0
/-- Row `p` of point `t`'s tile. -/
def row (t : Fin cfg0.N) (p : Fin 176) : Fin 352 := ⟨t.val * 176 + p.val, by have := ltN t; omega⟩

theorem idx0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx1 (t : Fin cfg0.N) : win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0) t
theorem idx5 (t : Fin cfg0.N) : win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0) t
/-- The state's blocks and the results' blocks lie alike: row `p` of point `t`'s block is row `row t p`. -/
theorem emb (t : Fin cfg0.N) (l : Fin 2) (p : Fin 176) (d : Fin 1024) :
    ((cfg0.win 5).blk t).view.emb (ix3 l p d : S2x176x1024.Idx) = (ix3 l (row t p) d : S2x352x1024.Idx) := by
  have hi := idx5 t
  funext ax
  apply Fin.ext
  match ax with
  | ⟨0, _⟩ => show win0_5.index t 0 * 2 + 1 * l.val = _; rw [hi.1]; show _ = l.val; omega
  | ⟨1, _⟩ => show win0_5.index t 1 * 176 + 1 * p.val = _; rw [hi.2.1]; show _ = t.val * 176 + p.val; omega
  | ⟨2, _⟩ => show win0_5.index t 2 * 1024 + 1 * d.val = _; rw [hi.2.2]; show _ = d.val; omega
abbrev b0 (t : Fin cfg0.N) : Vec Ideal S8x176x1024 .bf16 := iblk m c 0 t
theorem b0_at (t : Fin cfg0.N) (s : Fin 8) (p : Fin 176) (d : Fin 1024) : (b0 m c t (ix3 s p d) : EReal) = a0 m c (ix3 s (row t p) d) := by
  have hi := idx0 t
  refine Eq.trans ?_ (V_0_at m c s (row t p) d)
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 176 + 1 * p.val = _; rw [hi.2.1]; show _ = t.val * 176 + p.val; omega
  | ⟨2, _⟩ => show win0_0.index t 2 * 1024 + 1 * d.val = _; rw [hi.2.2]; show _ = d.val; omega
abbrev b1 (t : Fin cfg0.N) : Vec Ideal S8x176x1024 .bf16 := iblk m c 1 t
theorem b1_at (t : Fin cfg0.N) (s : Fin 8) (p : Fin 176) (d : Fin 1024) : (b1 m c t (ix3 s p d) : EReal) = a1 m c (ix3 s (row t p) d) := by
  have hi := idx1 t
  refine Eq.trans ?_ (V_1_at m c s (row t p) d)
  show iblk m c 1 t _ = _
  unfold iblk
  rw [View.read_apply]
  show V m c main_arg1 _ = V m c main_arg1 _
  congr 1
  funext ax
  apply Fin.ext
  match ax with
  | ⟨0, _⟩ => show win0_1.index t 0 * 8 + 1 * s.val = _; rw [hi.1]; show _ = s.val; omega
  | ⟨1, _⟩ => show win0_1.index t 1 * 176 + 1 * p.val = _; rw [hi.2.1]; show _ = t.val * 176 + p.val; omega
  | ⟨2, _⟩ => show win0_1.index t 2 * 1024 + 1 * d.val = _; rw [hi.2.2]; show _ = d.val; omega
abbrev b2 (t : Fin cfg0.N) : Vec Ideal S2x176x1024 .f32 := iblk m c 2 t
theorem b2_at (t : Fin cfg0.N) (s : Fin 2) (p : Fin 176) (d : Fin 1024) : (b2 m c t (ix3 s p d) : EReal) = a2 m c (ix3 s (row t p) d) :=
  (congrArg (V m c main_arg2 : Vec Ideal S2x352x1024 .f32) (emb t s p d)).trans (V_2_at m c s (row t p) d)
abbrev b3 (t : Fin cfg0.N) : Vec Ideal S2x176x1024 .f32 := iblk m c 3 t
theorem b3_at (t : Fin cfg0.N) (s : Fin 2) (p : Fin 176) (d : Fin 1024) : (b3 m c t (ix3 s p d) : EReal) = a3 m c (ix3 s (row t p) d) :=
  (congrArg (V m c main_arg3 : Vec Ideal S2x352x1024 .f32) (emb t s p d)).trans (V_3_at m c s (row t p) d)
abbrev b4 (t : Fin cfg0.N) : Vec Ideal S2x176x1024 .f32 := iblk m c 4 t
theorem b4_at (t : Fin cfg0.N) (s : Fin 2) (p : Fin 176) (d : Fin 1024) : (b4 m c t (ix3 s p d) : EReal) = a4 m c (ix3 s (row t p) d) :=
  (congrArg (V m c main_arg4 : Vec Ideal S2x352x1024 .f32) (emb t s p d)).trans (V_4_at m c s (row t p) d)

/-! ## The four result arrays -/

/-- A layer's gradient at an element: the eight shares summed. -/
def grad (x0 x1 : Vec Ideal S8x352x1024 .bf16) (l : Fin 2) (r : Fin 352) (d : Fin 1024) : EReal :=
  if l.val = 0 then ∑ s : Fin 8, (x0 (ix3 s r d) : EReal) else ∑ s : Fin 8, (x1 (ix3 s r d) : EReal)

theorem gs_0 (t : Fin cfg0.N) (p : Fin 176) (d : Fin 1024) : gs (b0 m c t) p d = grad (a0 m c) (a1 m c) 0 (row t p) d := by
  unfold gs grad
  rw [if_pos (show (0 : Fin 2).val = 0 from rfl)]
  exact Finset.sum_congr rfl fun s _ => b0_at m c t s p d
theorem gs_1 (t : Fin cfg0.N) (p : Fin 176) (d : Fin 1024) : gs (b1 m c t) p d = grad (a0 m c) (a1 m c) 1 (row t p) d := by
  unfold gs grad
  rw [if_neg (show ¬(1 : Fin 2).val = 0 by decide)]
  exact Finset.sum_congr rfl fun s _ => b1_at m c t s p d

theorem xs5 (t : Fin cfg0.N) : win0_5.xsize (grid0.coords t) 0 = 2 ∧ win0_5.xsize (grid0.coords t) 1 = 176 ∧ win0_5.xsize (grid0.coords t) 2 = 1024 :=
  (by decide +kernel : ∀ t : Fin grid0.N, win0_5.xsize (grid0.coords t) 0 = 2 ∧ win0_5.xsize (grid0.coords t) 1 = 176 ∧ win0_5.xsize (grid0.coords t) 2 = 1024) t
/-- The grid point that writes an element. -/
def pt (i : S2x352x1024.Idx) : Fin cfg0.N :=
  ⟨(i 1).val / 176, lt_of_lt_of_eq (show (i 1).val / 176 < 2 by have : (i 1 : Nat) < 352 := (i 1).isLt; omega) N_0.symm⟩
theorem cov (i : S2x352x1024.Idx) : i ∈ (win0_5.rect (pt i)).set := by
  have h0 : (i 0 : Nat) < 2 := (i 0).isLt
  have h1 : (i 1 : Nat) < 352 := (i 1).isLt
  have h2 : (i 2 : Nat) < 1024 := (i 2).isLt
  have hi := idx5 (pt i)
  have hx := xs5 (pt i)
  have ht : (pt i).val = (i 1).val / 176 := rfl
  rw [Rect.mem_set_unit]
  intro ax
  match ax with
  | ⟨0, _⟩ =>
    show win0_5.index (pt i) 0 * 2 ≤ (i 0 : Nat) ∧ (i 0 : Nat) < win0_5.index (pt i) 0 * 2 + win0_5.xsize (grid0.coords (pt i)) 0
    rw [hi.1, hx.1]; omega
  | ⟨1, _⟩ =>
    show win0_5.index (pt i) 1 * 176 ≤ (i 1 : Nat) ∧ (i 1 : Nat) < win0_5.index (pt i) 1 * 176 + win0_5.xsize (grid0.coords (pt i)) 1
    rw [hi.2.1, hx.2.1, ht]; omega
  | ⟨2, _⟩ =>
    show win0_5.index (pt i) 2 * 1024 ≤ (i 2 : Nat) ∧ (i 2 : Nat) < win0_5.index (pt i) 2 * 1024 + win0_5.xsize (grid0.coords (pt i)) 2
    rw [hi.2.2, hx.2.2]; omega
abbrev G5 : Vec Ideal S2x352x1024 .f32 := fun i => grad (a0 m c) (a1 m c) (i 0) (i 1) (i 2)
theorem o5 (t : Fin cfg0.N) (l : Fin 2) (p : Fin 176) (d : Fin 1024) :
    (out0_5 (F := Ideal) (b0 m c t) (b1 m c t) (b2 m c t) (b3 m c t) (b4 m c t) (ix3 l p d) : EReal) = grad (a0 m c) (a1 m c) l (row t p) d := by
  obtain rfl | rfl : l = 0 ∨ l = 1 := by omega
  · rw [out5_0, gs_0]
  · rw [out5_1, gs_1]
theorem flushed5_eq (t : Fin cfg0.N) (hf : (cfg0.win 5).flush t = true) :
    (dats m 0 c).flushed 5 t = ((cfg0.win 5).blk t).view.read (Elt Ideal) (G5 m c) := by
  rw [flushed5]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_5 (F := Ideal) (b0 m c t) (b1 m c t) (b2 m c t) (b3 m c t) (b4 m c t) (ix3 l p d) = G5 m c (((cfg0.win 5).blk t).view.emb (ix3 l p d : S2x176x1024.Idx))
  exact (o5 m c t l p d).trans (congrArg (G5 m c) (emb t l p d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v0_0).slice (win0_5.rect (pt i))).set
    rw [View.set_slice_whole]
    exact cov i
abbrev G6 : Vec Ideal S2x352x1024 .f32 := fun i => AdamSpec.delta (grad (a0 m c) (a1 m c) (i 0) (i 1) (i 2)) (a2 m c (ix3 (i 0) (i 1) (i 2))) (a3 m c (ix3 (i 0) (i 1) (i 2))) (a4 m c (ix3 (i 0) (i 1) (i 2)))
theorem o6 (t : Fin cfg0.N) (l : Fin 2) (p : Fin 176) (d : Fin 1024) :
    (out0_6 (F := Ideal) (b0 m c t) (b1 m c t) (b2 m c t) (b3 m c t) (b4 m c t) (ix3 l p d) : EReal) = AdamSpec.delta (grad (a0 m c) (a1 m c) l (row t p) d) (a2 m c (ix3 l (row t p) d)) (a3 m c (ix3 l (row t p) d)) (a4 m c (ix3 l (row t p) d)) := by
  obtain rfl | rfl : l = 0 ∨ l = 1 := by omega
  · rw [out6_0, gs_0]
    rw [b2_at, b3_at, b4_at]
  · rw [out6_1, gs_1]
    rw [b2_at, b3_at, b4_at]
theorem flushed6_eq (t : Fin cfg0.N) (hf : (cfg0.win 6).flush t = true) :
    (dats m 0 c).flushed 6 t = ((cfg0.win 6).blk t).view.read (Elt Ideal) (G6 m c) := by
  rw [flushed6]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_6 (F := Ideal) (b0 m c t) (b1 m c t) (b2 m c t) (b3 m c t) (b4 m c t) (ix3 l p d) = G6 m c (((cfg0.win 6).blk t).view.emb (ix3 l p d : S2x176x1024.Idx))
  exact (o6 m c t l p d).trans (congrArg (G6 m c) (emb t l p d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v0_1).slice (win0_6.rect (pt i))).set
    rw [View.set_slice_whole]
    exact cov i
abbrev G7 : Vec Ideal S2x352x1024 .f32 := fun i => AdamSpec.newM (grad (a0 m c) (a1 m c) (i 0) (i 1) (i 2)) (a3 m c (ix3 (i 0) (i 1) (i 2)))
theorem o7 (t : Fin cfg0.N) (l : Fin 2) (p : Fin 176) (d : Fin 1024) :
    (out0_7 (F := Ideal) (b0 m c t) (b1 m c t) (b2 m c t) (b3 m c t) (b4 m c t) (ix3 l p d) : EReal) = AdamSpec.newM (grad (a0 m c) (a1 m c) l (row t p) d) (a3 m c (ix3 l (row t p) d)) := by
  obtain rfl | rfl : l = 0 ∨ l = 1 := by omega
  · rw [out7_0, gs_0]
    rw [b3_at]
  · rw [out7_1, gs_1]
    rw [b3_at]
theorem flushed7_eq (t : Fin cfg0.N) (hf : (cfg0.win 7).flush t = true) :
    (dats m 0 c).flushed 7 t = ((cfg0.win 7).blk t).view.read (Elt Ideal) (G7 m c) := by
  rw [flushed7]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_7 (F := Ideal) (b0 m c t) (b1 m c t) (b2 m c t) (b3 m c t) (b4 m c t) (ix3 l p d) = G7 m c (((cfg0.win 7).blk t).view.emb (ix3 l p d : S2x176x1024.Idx))
  exact (o7 m c t l p d).trans (congrArg (G7 m c) (emb t l p d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v0_2).slice (win0_7.rect (pt i))).set
    rw [View.set_slice_whole]
    exact cov i
abbrev G8 : Vec Ideal S2x352x1024 .f32 := fun i => AdamSpec.newV (grad (a0 m c) (a1 m c) (i 0) (i 1) (i 2)) (a4 m c (ix3 (i 0) (i 1) (i 2)))
theorem o8 (t : Fin cfg0.N) (l : Fin 2) (p : Fin 176) (d : Fin 1024) :
    (out0_8 (F := Ideal) (b0 m c t) (b1 m c t) (b2 m c t) (b3 m c t) (b4 m c t) (ix3 l p d) : EReal) = AdamSpec.newV (grad (a0 m c) (a1 m c) l (row t p) d) (a4 m c (ix3 l (row t p) d)) := by
  obtain rfl | rfl : l = 0 ∨ l = 1 := by omega
  · rw [out8_0, gs_0]
    rw [b4_at]
  · rw [out8_1, gs_1]
    rw [b4_at]
theorem flushed8_eq (t : Fin cfg0.N) (hf : (cfg0.win 8).flush t = true) :
    (dats m 0 c).flushed 8 t = ((cfg0.win 8).blk t).view.read (Elt Ideal) (G8 m c) := by
  rw [flushed8]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_8 (F := Ideal) (b0 m c t) (b1 m c t) (b2 m c t) (b3 m c t) (b4 m c t) (ix3 l p d) = G8 m c (((cfg0.win 8).blk t).view.emb (ix3 l p d : S2x176x1024.Idx))
  exact (o8 m c t l p d).trans (congrArg (G8 m c) (emb t l p d)).symm
theorem final8 : (dats m 0 c).arrAt 8 cfg0.N = G8 m c :=
  (dats m 0 c).arrAt_eq_of_cover 8 (G8 m c) (flushed8_eq m c) fun i => by
    refine ⟨pt i, flush0_8 _, ?_⟩
    show i ∈ ((View.whole main_v0_3).slice (win0_8.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      obtain ⟨h5, h6, h7, h8, h⟩ := h c
      exact ⟨h5.trans (final5 m c), h6.trans (final6 m c), h7.trans (final7 m c), h8.trans (final8 m c), h⟩) (run_blocks m ρ)

end Cert.Kernel11Ideal.Adam

namespace Cert.Reference11Ideal.Adam

open Cert.Reference11Ideal Cert.Reference11Ideal.Gen Cert.Reference11Ideal.Read
open Idealize.ShloMosaic Idealize.ShloMosaic.TcCoe Idealize.ShloMosaic.Tactic
open Idealize.SL.Sem

/-! ## The plain step -/

variable (x0 x1 : (⟨S8x352x1024, .bf16⟩ : BufTy).Contents (Elt Ideal)) (x2 x3 x4 : (⟨S2x352x1024, .f32⟩ : BufTy).Contents (Elt Ideal))

theorem s0_at (r : Fin 352) (d : Fin 1024) : (val_main_v1 (F := Ideal) x0 (ix2 r d) : EReal) = ∑ s : Fin 8, (x0 (ix3 s r d) : EReal) := by
  pointwise [val_main_v1, val_main_v0, val_main_cst]
theorem s1_at (r : Fin 352) (d : Fin 1024) : (val_main_v3 (F := Ideal) x1 (ix2 r d) : EReal) = ∑ s : Fin 8, (x1 (ix3 s r d) : EReal) := by
  pointwise [val_main_v3, val_main_v2, val_main_cst_0]

/-- The stacked gradient. -/
theorem grad_at (l : Fin 2) (r : Fin 352) (d : Fin 1024) :
    (val_main_v6 (F := Ideal) x0 x1 (ix3 l r d) : EReal) = Cert.Kernel11Ideal.Adam.grad x0 x1 l r d := by
  have h0 := s0_at x0 r d
  have h1 := s1_at x1 r d
  unfold Cert.Kernel11Ideal.Adam.grad val_main_v6 val_main_v5 val_main_v4
  rw [← h0, ← h1]
  generalize val_main_v1 (F := Ideal) x0 = p
  generalize val_main_v3 (F := Ideal) x1 = q
  obtain rfl | rfl : l = 0 ∨ l = 1 := by omega
  · pointwise
  · pointwise

theorem m_at (l : Fin 2) (r : Fin 352) (d : Fin 1024) :
    (val_main_v11 (F := Ideal) x0 x1 x3 (ix3 l r d) : EReal) = AdamSpec.newM (Cert.Kernel11Ideal.Adam.grad x0 x1 l r d) (x3 (ix3 l r d)) := by
  rw [← grad_at]
  unfold AdamSpec.newM val_main_v11 val_main_v10 val_main_v9 val_main_v8 val_main_v7 val_main_cst_1 val_main_cst_2
  generalize val_main_v6 (F := Ideal) x0 x1 = g
  pointwise
theorem v_at (l : Fin 2) (r : Fin 352) (d : Fin 1024) :
    (val_main_v17 (F := Ideal) x0 x1 x4 (ix3 l r d) : EReal) = AdamSpec.newV (Cert.Kernel11Ideal.Adam.grad x0 x1 l r d) (x4 (ix3 l r d)) := by
  rw [← grad_at]
  unfold AdamSpec.newV val_main_v17 val_main_v16 val_main_v15 val_main_v14 val_main_v13 val_main_v12 val_main_cst_3 val_main_cst_4
  generalize val_main_v6 (F := Ideal) x0 x1 = g
  pointwise
theorem d_at (l : Fin 2) (r : Fin 352) (d : Fin 1024) :
    (val_main_v30 (F := Ideal) x0 x1 x2 x3 x4 (ix3 l r d) : EReal)
      = AdamSpec.delta (Cert.Kernel11Ideal.Adam.grad x0 x1 l r d) (x2 (ix3 l r d)) (x3 (ix3 l r d)) (x4 (ix3 l r d)) := by
  unfold AdamSpec.delta
  rw [← m_at, ← v_at]
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  generalize val_main_v11 (F := Ideal) x0 x1 x3 = q
  generalize val_main_v17 (F := Ideal) x0 x1 x4 = w
  pointwise

/-! ## The claims -/

theorem frame_reference : Cert.quiescent_Reference11Ideal := by
  intro m ρ _
  exact (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

/-- The call's four results are the plain step's. -/
theorem value : Cert.algebraic_Kernel11Ideal_Reference11Ideal := by
  intro m ρ m' ρ' _ hargs
  refine ⟨Cert.Kernel11Ideal.Adam.G5 m, Cert.Kernel11Ideal.Adam.G6 m, Cert.Kernel11Ideal.Adam.G7 m, Cert.Kernel11Ideal.Adam.G8 m, Cert.Kernel11Ideal.Adam.run m ρ, ?_⟩
  refine (θ_run Cert.Reference11Ideal.defs _ _).mono (fun r h c => ?_) (Cert.Reference11Ideal.Value.run (F := Ideal) m' ρ')
  obtain ⟨q0, q1, q2, q3, u⟩ := h c
  obtain ⟨g0, g1, g2, g3, g4⟩ := hargs c
  refine ⟨q0.trans ?_, q1.trans ?_, q2.trans ?_, q3.trans ?_, u⟩
  · rw [val_main_v6_eq, g0, g1]
    funext i
    obtain ⟨l, r, d, rfl⟩ : ∃ (l : Fin 2) (r : Fin 352) (d : Fin 1024), i = ix3 l r d := ⟨i 0, i 1, i 2, eq_ix3 i⟩
    exact grad_at _ _ l r d
  · rw [val_main_v30_eq, g0, g1, g2, g3, g4]
    funext i
    obtain ⟨l, r, d, rfl⟩ : ∃ (l : Fin 2) (r : Fin 352) (d : Fin 1024), i = ix3 l r d := ⟨i 0, i 1, i 2, eq_ix3 i⟩
    exact d_at _ _ _ _ _ l r d
  · rw [val_main_v11_eq, g0, g1, g3]
    funext i
    obtain ⟨l, r, d, rfl⟩ : ∃ (l : Fin 2) (r : Fin 352) (d : Fin 1024), i = ix3 l r d := ⟨i 0, i 1, i 2, eq_ix3 i⟩
    exact m_at _ _ _ l r d
  · rw [val_main_v17_eq, g0, g1, g4]
    funext i
    obtain ⟨l, r, d, rfl⟩ : ∃ (l : Fin 2) (r : Fin 352) (d : Fin 1024), i = ix3 l r d := ⟨i 0, i 1, i 2, eq_ix3 i⟩
    exact v_at _ _ _ l r d

end Cert.Reference11Ideal.Adam

end
-- ==== Proof.AdamInVal.lean ====
/- The optimiser's call for the first weight of a half step: what it computes from the arguments, the plain step read at an
   index, and the value claim.  Four grid points take 176 rows each, of both layers; a point sums the eight devices' shares of the
   gradient and steps the two layers one after the other. -/
module

public import proofs.«01_k».proof.Defs
public import proofs.«01_k».proof.Proof.AdamSpec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit

@[expose] public section

set_option maxRecDepth 16384

noncomputable section

namespace Cert.Kernel12Ideal.Adam

open Cert.Kernel12Ideal Cert.Kernel12Ideal.Gen Cert.Kernel12Ideal.Value
open Idealize.ShloMosaic Idealize.ShloMosaic.TcCoe Idealize.ShloMosaic.Tactic
open Idealize.SL.Sem

/-! ## The two layers' halves of a block -/

/-- One of the eight shares, loaded. -/
theorem lg (n : Nat) (hn : n < 8) (h : ∀ a, (![n, 0, 0] : Fin 3 → Nat) a + S1x176x1024.size a ≤ S8x176x1024.size a) (x : Vec Ideal S8x176x1024 .bf16) (z : Fin 1) (p : Fin 176) (d : Fin 1024) :
    (View.ld (Val := Elt Ideal) (e' := .bf16) x (Rect.unit (s := S8x176x1024) ![n, 0, 0] S1x176x1024.size h) (ix3 z p d) : EReal) = x (ix3 ⟨n, hn⟩ p d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * d.val = d.val; omega
theorem emb_0 (z : Fin 1) (p : Fin 176) (d : Fin 1024) : r0_8.emb (ix3 z p d : S1x176x1024.Idx) = (ix3 0 p d : S2x176x1024.Idx) := by
  funext ax; apply Fin.ext
  match ax with
  | ⟨0, _⟩ => show 0 + 1 * z.val = 0; omega
  | ⟨1, _⟩ => show 0 + 1 * p.val = p.val; omega
  | ⟨2, _⟩ => show 0 + 1 * d.val = d.val; omega
theorem ls_0 (x : Vec Ideal S2x176x1024 .f32) (z : Fin 1) (p : Fin 176) (d : Fin 1024) :
    (View.ld (Val := Elt Ideal) (e' := .f32) x r0_8 (ix3 z p d) : EReal) = x (ix3 0 p d) := by
  rw [View.ld_apply]
  exact congrArg x (emb_0 z p d)
theorem emb_1 (z : Fin 1) (p : Fin 176) (d : Fin 1024) : r0_9.emb (ix3 z p d : S1x176x1024.Idx) = (ix3 1 p d : S2x176x1024.Idx) := by
  funext ax; apply Fin.ext
  match ax with
  | ⟨0, _⟩ => show 1 + 1 * z.val = 1; omega
  | ⟨1, _⟩ => show 0 + 1 * p.val = p.val; omega
  | ⟨2, _⟩ => show 0 + 1 * d.val = d.val; omega
theorem ls_1 (x : Vec Ideal S2x176x1024 .f32) (z : Fin 1) (p : Fin 176) (d : Fin 1024) :
    (View.ld (Val := Elt Ideal) (e' := .f32) x r0_9 (ix3 z p d) : EReal) = x (ix3 1 p d) := by
  rw [View.ld_apply]
  exact congrArg x (emb_1 z p d)
theorem off_1 (p : Fin 176) (d : Fin 1024) : (ix3 0 p d : S2x176x1024.Idx) ∉ r0_9.set := by
  rw [Rect.mem_set_unit]
  intro h
  have h1 : 1 ≤ 0 := (h 0).1
  omega

/-- A block written in two halves, read at a layer. -/
theorem two_1 (a b : Vec Ideal S1x176x1024 .f32) (p : Fin 176) (d : Fin 1024) :
    (View.canon (Val := Elt Ideal) (e := .f32) [⟨r0_9, a⟩, ⟨r0_8, b⟩] (ix3 1 p d) : EReal) = a (ix3 0 p d) :=
  (congrArg _ (emb_1 0 p d).symm).trans (View.canon_cons_emb (Val := Elt Ideal) (e := .f32) r0_9 a _ (ix3 0 p d : S1x176x1024.Idx))
theorem two_0 (a b : Vec Ideal S1x176x1024 .f32) (p : Fin 176) (d : Fin 1024) :
    (View.canon (Val := Elt Ideal) (e := .f32) [⟨r0_9, a⟩, ⟨r0_8, b⟩] (ix3 0 p d) : EReal) = b (ix3 0 p d) := by
  rw [View.canon_cons_of_not_mem (⟨r0_9, a⟩ : View.Piece (Elt Ideal) S2x176x1024 .f32) _ (off_1 p d)]
  exact (congrArg _ (emb_0 0 p d).symm).trans (View.canon_cons_emb (Val := Elt Ideal) (e := .f32) r0_8 b _ (ix3 0 p d : S1x176x1024.Idx))

/-! ## The payloads -/

section
variable (y0 y1 y2 y3 y4 y5 y6 y7 : Vec Ideal S1x176x1024 .bf16) (g : Vec Ideal S176x1024 .f32) (w m v : Vec Ideal S1x176x1024 .f32)
  (p : Fin 176) (d : Fin 1024)

theorem pay4_at : (k0_pay4 (F := Ideal) y0 y1 y2 y3 y4 y5 y6 y7 (ix2 p d) : EReal)
    = y0 (ix3 0 p d) + y1 (ix3 0 p d) + y2 (ix3 0 p d) + y3 (ix3 0 p d) + y4 (ix3 0 p d) + y5 (ix3 0 p d) + y6 (ix3 0 p d) + y7 (ix3 0 p d) := by
  pointwise [k0_pay4]
theorem pay11_at : (k0_pay11 (F := Ideal) y0 y1 y2 y3 y4 y5 y6 (ix2 p d) : EReal)
    = y0 (ix3 0 p d) + y1 (ix3 0 p d) + y2 (ix3 0 p d) + y3 (ix3 0 p d) + y4 (ix3 0 p d) + y5 (ix3 0 p d) + y6 (ix3 0 p d) := by
  pointwise [k0_pay11]
theorem pay12_at : (k0_pay12 (F := Ideal) g y7 (ix2 p d) : EReal) = g (ix2 p d) + y7 (ix3 0 p d) := by
  pointwise [k0_pay12]
theorem pay5_at : (k0_pay5 (F := Ideal) g m (ix2 p d) : EReal) = AdamSpec.newM (g (ix2 p d)) (m (ix3 0 p d)) := by
  unfold AdamSpec.newM
  pointwise [k0_pay5]
theorem pay6_at : (k0_pay6 (F := Ideal) g v (ix2 p d) : EReal) = AdamSpec.newV (g (ix2 p d)) (v (ix3 0 p d)) := by
  unfold AdamSpec.newV
  pointwise [k0_pay6]
theorem pay7_at : (k0_pay7 (F := Ideal) g (ix3 0 p d) : EReal) = g (ix2 p d) := by
  pointwise [k0_pay7]
theorem pay9_at : (k0_pay9 (F := Ideal) g (ix3 0 p d) : EReal) = g (ix2 p d) := by
  pointwise [k0_pay9]
theorem pay10_at : (k0_pay10 (F := Ideal) g (ix3 0 p d) : EReal) = g (ix2 p d) := by
  pointwise [k0_pay10]
theorem pay2_at : (k0_pay2 (F := Ideal) g (ix3 0 p d) : EReal) = g (ix2 p d) := by
  pointwise [k0_pay2]
theorem pay3_at : (k0_pay3 (F := Ideal) g (ix3 0 p d) : EReal) = g (ix2 p d) := by
  pointwise [k0_pay3]
theorem pay8_at : (k0_pay8 (F := Ideal) g m v w (ix3 0 p d) : EReal)
    = AdamSpec.delta (g (ix2 p d)) (w (ix3 0 p d)) (m (ix3 0 p d)) (v (ix3 0 p d)) := by
  have h5 := pay5_at g m p d
  have h6 := pay6_at g v p d
  unfold AdamSpec.delta k0_pay8
  rw [← h5, ← h6]
  generalize k0_pay5 (F := Ideal) g m = q
  generalize k0_pay6 (F := Ideal) g v = r
  pointwise
theorem pay13_at : (k0_pay13 (F := Ideal) g y7 m (ix2 p d) : EReal) = AdamSpec.newM (g (ix2 p d) + y7 (ix3 0 p d)) (m (ix3 0 p d)) := by
  rw [← pay12_at]
  unfold AdamSpec.newM k0_pay13
  generalize k0_pay12 (F := Ideal) g y7 = q
  pointwise
theorem pay14_at : (k0_pay14 (F := Ideal) g y7 v (ix2 p d) : EReal) = AdamSpec.newV (g (ix2 p d) + y7 (ix3 0 p d)) (v (ix3 0 p d)) := by
  rw [← pay12_at]
  unfold AdamSpec.newV k0_pay14
  generalize k0_pay12 (F := Ideal) g y7 = q
  pointwise
theorem pay15_at : (k0_pay15 (F := Ideal) g y7 (ix3 0 p d) : EReal) = g (ix2 p d) + y7 (ix3 0 p d) := by
  rw [← pay12_at]
  unfold k0_pay15
  generalize k0_pay12 (F := Ideal) g y7 = q
  pointwise
theorem pay1_at : (k0_pay1 (F := Ideal) (k0_pay16 g y7 m v w) (Scalar.ofBits .f32 0xBA83126F#32) (ix3 0 p d) : EReal)
    = AdamSpec.delta (g (ix2 p d) + y7 (ix3 0 p d)) (w (ix3 0 p d)) (m (ix3 0 p d)) (v (ix3 0 p d)) := by
  have h5 := pay13_at y7 g m p d
  have h6 := pay14_at y7 g v p d
  unfold AdamSpec.delta k0_pay16
  rw [← h5, ← h6]
  generalize k0_pay13 (F := Ideal) g y7 m = q
  generalize k0_pay14 (F := Ideal) g y7 v = r
  pointwise [k0_pay1]

end

section
variable (x0 x1 : Vec Ideal S8x176x1024 .bf16) (x2 x3 x4 : Vec Ideal S2x176x1024 .f32) (p : Fin 176) (d : Fin 1024)

/-- The eight shares of one layer's gradient at an element, summed. -/
def gs (x : Vec Ideal S8x176x1024 .bf16) (p : Fin 176) (d : Fin 1024) : EReal := ∑ s : Fin 8, (x (ix3 s p d) : EReal)

theorem g0_at : (k0_pay17 (F := Ideal) x0 x1 x2 x3 x4 (ix2 p d) : EReal) = gs x0 p d := by
  unfold k0_pay17 gs
  rw [pay4_at, lg 0 (by decide), lg 1 (by decide), lg 2 (by decide), lg 3 (by decide), lg 4 (by decide), lg 5 (by decide), lg 6 (by decide), lg 7 (by decide), Fin.sum_univ_eight]
  rfl
theorem g1_at : (k0_pay18 (F := Ideal) x0 x1 x2 x3 x4 (ix2 p d) + View.ld (Val := Elt Ideal) (e' := .bf16) x1 r0_7 (ix3 0 p d) : EReal) = gs x1 p d := by
  unfold k0_pay18 gs
  rw [pay11_at, lg 0 (by decide), lg 1 (by decide), lg 2 (by decide), lg 3 (by decide), lg 4 (by decide), lg 5 (by decide), lg 6 (by decide), lg 7 (by decide), Fin.sum_univ_eight]
  rfl

theorem out5_0 : (out0_5 (F := Ideal) x0 x1 x2 x3 x4 (ix3 0 p d) : EReal) = gs x0 p d := by
  unfold out0_5
  rw [two_0]
  rw [pay7_at, g0_at]
theorem out5_1 : (out0_5 (F := Ideal) x0 x1 x2 x3 x4 (ix3 1 p d) : EReal) = gs x1 p d := by
  unfold out0_5
  rw [two_1]
  rw [pay15_at, g1_at]
theorem out6_0 : (out0_6 (F := Ideal) x0 x1 x2 x3 x4 (ix3 0 p d) : EReal) = AdamSpec.delta (gs x0 p d) (x2 (ix3 0 p d)) (x3 (ix3 0 p d)) (x4 (ix3 0 p d)) := by
  unfold out0_6
  rw [two_0]
  rw [pay8_at, g0_at, ls_0, ls_0, ls_0]
theorem out6_1 : (out0_6 (F := Ideal) x0 x1 x2 x3 x4 (ix3 1 p d) : EReal) = AdamSpec.delta (gs x1 p d) (x2 (ix3 1 p d)) (x3 (ix3 1 p d)) (x4 (ix3 1 p d)) := by
  unfold out0_6
  rw [two_1]
  rw [pay1_at, g1_at, ls_1, ls_1, ls_1]
theorem out7_0 : (out0_7 (F := Ideal) x0 x1 x2 x3 x4 (ix3 0 p d) : EReal) = AdamSpec.newM (gs x0 p d) (x3 (ix3 0 p d)) := by
  unfold out0_7
  rw [two_0]
  rw [pay9_at, pay5_at, g0_at, ls_0]
theorem out7_1 : (out0_7 (F := Ideal) x0 x1 x2 x3 x4 (ix3 1 p d) : EReal) = AdamSpec.newM (gs x1 p d) (x3 (ix3 1 p d)) := by
  unfold out0_7
  rw [two_1]
  rw [pay2_at, pay13_at, g1_at, ls_1]
theorem out8_0 : (out0_8 (F := Ideal) x0 x1 x2 x3 x4 (ix3 0 p d) : EReal) = AdamSpec.newV (gs x0 p d) (x4 (ix3 0 p d)) := by
  unfold out0_8
  rw [two_0]
  rw [pay10_at, pay6_at, g0_at, ls_0]
theorem out8_1 : (out0_8 (F := Ideal) x0 x1 x2 x3 x4 (ix3 1 p d) : EReal) = AdamSpec.newV (gs x1 p d) (x4 (ix3 1 p d)) := by
  unfold out0_8
  rw [two_1]
  rw [pay3_at, pay14_at, g1_at, ls_1]

end

/-! ## The arguments, and what the host code hands to the call -/

variable (m : (ℓ : Loc nD τ sig) → Buf (Elt Ideal) ℓ) (c : Dev nD)

abbrev a0 : Vec Ideal S8x704x1024 .bf16 := m ((c.tc : Thread nD τ).loc main_arg0)
abbrev a1 : Vec Ideal S8x704x1024 .bf16 := m ((c.tc : Thread nD τ).loc main_arg1)
abbrev a2 : Vec Ideal S2x1024x704 .f32 := m ((c.tc : Thread nD τ).loc main_arg2)
abbrev a3 : Vec Ideal S2x1024x704 .f32 := m ((c.tc : Thread nD τ).loc main_arg3)
abbrev a4 : Vec Ideal S2x1024x704 .f32 := m ((c.tc : Thread nD τ).loc main_arg4)
theorem V_0 : (V m c main_arg0 : Vec Ideal S8x704x1024 .bf16) = a0 m c := by
  show StableHlo.after hostOps0 (fun b => m (c, b)) (Proc.devRef .tc main_arg0) = _
  simp only [hostOps0]
  after_results_simp <;> rfl
theorem V_0_at (s : Fin 8) (r : Fin 704) (d : Fin 1024) : ((V m c main_arg0 : Vec Ideal S8x704x1024 .bf16) (ix3 s r d) : EReal) = a0 m c (ix3 s r d) := by
  rw [V_0]
theorem V_1 : (V m c main_arg1 : Vec Ideal S8x704x1024 .bf16) = a1 m c := by
  show StableHlo.after hostOps0 (fun b => m (c, b)) (Proc.devRef .tc main_arg1) = _
  simp only [hostOps0]
  after_results_simp <;> rfl
theorem V_1_at (s : Fin 8) (r : Fin 704) (d : Fin 1024) : ((V m c main_arg1 : Vec Ideal S8x704x1024 .bf16) (ix3 s r d) : EReal) = a1 m c (ix3 s r d) := by
  rw [V_1]
theorem V_2 : (V m c main_v0 : Vec Ideal S2x704x1024 .f32) = transpose S2x704x1024 [0, 2, 1] (a2 m c) transposes_S2x1024x704_S2x704x1024_0_2_1 := by
  show StableHlo.after hostOps0 (fun b => m (c, b)) (Proc.devRef .tc main_v0) = _
  simp only [hostOps0]
  after_results_simp <;> rfl
theorem V_2_at (s : Fin 2) (r : Fin 704) (d : Fin 1024) : ((V m c main_v0 : Vec Ideal S2x704x1024 .f32) (ix3 s r d) : EReal) = a2 m c (ix3 s d r) := by
  rw [V_2]
  pointwise
theorem V_3 : (V m c main_v1 : Vec Ideal S2x704x1024 .f32) = transpose S2x704x1024 [0, 2, 1] (a3 m c) transposes_S2x1024x704_S2x704x1024_0_2_1 := by
  show StableHlo.after hostOps0 (fun b => m (c, b)) (Proc.devRef .tc main_v1) = _
  simp only [hostOps0]
  after_results_simp <;> rfl
theorem V_3_at (s : Fin 2) (r : Fin 704) (d : Fin 1024) : ((V m c main_v1 : Vec Ideal S2x704x1024 .f32) (ix3 s r d) : EReal) = a3 m c (ix3 s d r) := by
  rw [V_3]
  pointwise
theorem V_4 : (V m c main_v2 : Vec Ideal S2x704x1024 .f32) = transpose S2x704x1024 [0, 2, 1] (a4 m c) transposes_S2x1024x704_S2x704x1024_0_2_1 := by
  show StableHlo.after hostOps0 (fun b => m (c, b)) (Proc.devRef .tc main_v2) = _
  simp only [hostOps0]
  after_results_simp <;> rfl
theorem V_4_at (s : Fin 2) (r : Fin 704) (d : Fin 1024) : ((V m c main_v2 : Vec Ideal S2x704x1024 .f32) (ix3 s r d) : EReal) = a4 m c (ix3 s d r) := by
  rw [V_4]
  pointwise

/-! ## The blocks: point `t` works on rows `t * 176 …` -/

theorem ltN (t : Fin cfg0.N) : t.val < 4 := lt_of_lt_of_eq t.isLt N_0
/-- Row `p` of point `t`'s tile. -/
def row (t : Fin cfg0.N) (p : Fin 176) : Fin 704 := ⟨t.val * 176 + p.val, by have := ltN t; omega⟩

theorem idx0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx1 (t : Fin cfg0.N) : win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0) t
theorem idx5 (t : Fin cfg0.N) : win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0) t
/-- The state's blocks and the results' blocks lie alike: row `p` of point `t`'s block is row `row t p`. -/
theorem emb (t : Fin cfg0.N) (l : Fin 2) (p : Fin 176) (d : Fin 1024) :
    ((cfg0.win 5).blk t).view.emb (ix3 l p d : S2x176x1024.Idx) = (ix3 l (row t p) d : S2x704x1024.Idx) := by
  have hi := idx5 t
  funext ax
  apply Fin.ext
  match ax with
  | ⟨0, _⟩ => show win0_5.index t 0 * 2 + 1 * l.val = _; rw [hi.1]; show _ = l.val; omega
  | ⟨1, _⟩ => show win0_5.index t 1 * 176 + 1 * p.val = _; rw [hi.2.1]; show _ = t.val * 176 + p.val; omega
  | ⟨2, _⟩ => show win0_5.index t 2 * 1024 + 1 * d.val = _; rw [hi.2.2]; show _ = d.val; omega
abbrev b0 (t : Fin cfg0.N) : Vec Ideal S8x176x1024 .bf16 := iblk m c 0 t
theorem b0_at (t : Fin cfg0.N) (s : Fin 8) (p : Fin 176) (d : Fin 1024) : (b0 m c t (ix3 s p d) : EReal) = a0 m c (ix3 s (row t p) d) := by
  have hi := idx0 t
  refine Eq.trans ?_ (V_0_at m c s (row t p) d)
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 176 + 1 * p.val = _; rw [hi.2.1]; show _ = t.val * 176 + p.val; omega
  | ⟨2, _⟩ => show win0_0.index t 2 * 1024 + 1 * d.val = _; rw [hi.2.2]; show _ = d.val; omega
abbrev b1 (t : Fin cfg0.N) : Vec Ideal S8x176x1024 .bf16 := iblk m c 1 t
theorem b1_at (t : Fin cfg0.N) (s : Fin 8) (p : Fin 176) (d : Fin 1024) : (b1 m c t (ix3 s p d) : EReal) = a1 m c (ix3 s (row t p) d) := by
  have hi := idx1 t
  refine Eq.trans ?_ (V_1_at m c s (row t p) d)
  show iblk m c 1 t _ = _
  unfold iblk
  rw [View.read_apply]
  show V m c main_arg1 _ = V m c main_arg1 _
  congr 1
  funext ax
  apply Fin.ext
  match ax with
  | ⟨0, _⟩ => show win0_1.index t 0 * 8 + 1 * s.val = _; rw [hi.1]; show _ = s.val; omega
  | ⟨1, _⟩ => show win0_1.index t 1 * 176 + 1 * p.val = _; rw [hi.2.1]; show _ = t.val * 176 + p.val; omega
  | ⟨2, _⟩ => show win0_1.index t 2 * 1024 + 1 * d.val = _; rw [hi.2.2]; show _ = d.val; omega
abbrev b2 (t : Fin cfg0.N) : Vec Ideal S2x176x1024 .f32 := iblk m c 2 t
theorem b2_at (t : Fin cfg0.N) (s : Fin 2) (p : Fin 176) (d : Fin 1024) : (b2 m c t (ix3 s p d) : EReal) = a2 m c (ix3 s d (row t p)) :=
  (congrArg (V m c main_v0 : Vec Ideal S2x704x1024 .f32) (emb t s p d)).trans (V_2_at m c s (row t p) d)
abbrev b3 (t : Fin cfg0.N) : Vec Ideal S2x176x1024 .f32 := iblk m c 3 t
theorem b3_at (t : Fin cfg0.N) (s : Fin 2) (p : Fin 176) (d : Fin 1024) : (b3 m c t (ix3 s p d) : EReal) = a3 m c (ix3 s d (row t p)) :=
  (congrArg (V m c main_v1 : Vec Ideal S2x704x1024 .f32) (emb t s p d)).trans (V_3_at m c s (row t p) d)
abbrev b4 (t : Fin cfg0.N) : Vec Ideal S2x176x1024 .f32 := iblk m c 4 t
theorem b4_at (t : Fin cfg0.N) (s : Fin 2) (p : Fin 176) (d : Fin 1024) : (b4 m c t (ix3 s p d) : EReal) = a4 m c (ix3 s d (row t p)) :=
  (congrArg (V m c main_v2 : Vec Ideal S2x704x1024 .f32) (emb t s p d)).trans (V_4_at m c s (row t p) d)

/-! ## The four result arrays -/

/-- A layer's gradient at an element: the eight shares summed. -/
def grad (x0 x1 : Vec Ideal S8x704x1024 .bf16) (l : Fin 2) (r : Fin 704) (d : Fin 1024) : EReal :=
  if l.val = 0 then ∑ s : Fin 8, (x0 (ix3 s r d) : EReal) else ∑ s : Fin 8, (x1 (ix3 s r d) : EReal)

theorem gs_0 (t : Fin cfg0.N) (p : Fin 176) (d : Fin 1024) : gs (b0 m c t) p d = grad (a0 m c) (a1 m c) 0 (row t p) d := by
  unfold gs grad
  rw [if_pos (show (0 : Fin 2).val = 0 from rfl)]
  exact Finset.sum_congr rfl fun s _ => b0_at m c t s p d
theorem gs_1 (t : Fin cfg0.N) (p : Fin 176) (d : Fin 1024) : gs (b1 m c t) p d = grad (a0 m c) (a1 m c) 1 (row t p) d := by
  unfold gs grad
  rw [if_neg (show ¬(1 : Fin 2).val = 0 by decide)]
  exact Finset.sum_congr rfl fun s _ => b1_at m c t s p d

theorem xs5 (t : Fin cfg0.N) : win0_5.xsize (grid0.coords t) 0 = 2 ∧ win0_5.xsize (grid0.coords t) 1 = 176 ∧ win0_5.xsize (grid0.coords t) 2 = 1024 :=
  (by decide +kernel : ∀ t : Fin grid0.N, win0_5.xsize (grid0.coords t) 0 = 2 ∧ win0_5.xsize (grid0.coords t) 1 = 176 ∧ win0_5.xsize (grid0.coords t) 2 = 1024) t
/-- The grid point that writes an element. -/
def pt (i : S2x704x1024.Idx) : Fin cfg0.N :=
  ⟨(i 1).val / 176, lt_of_lt_of_eq (show (i 1).val / 176 < 4 by have : (i 1 : Nat) < 704 := (i 1).isLt; omega) N_0.symm⟩
theorem cov (i : S2x704x1024.Idx) : i ∈ (win0_5.rect (pt i)).set := by
  have h0 : (i 0 : Nat) < 2 := (i 0).isLt
  have h1 : (i 1 : Nat) < 704 := (i 1).isLt
  have h2 : (i 2 : Nat) < 1024 := (i 2).isLt
  have hi := idx5 (pt i)
  have hx := xs5 (pt i)
  have ht : (pt i).val = (i 1).val / 176 := rfl
  rw [Rect.mem_set_unit]
  intro ax
  match ax with
  | ⟨0, _⟩ =>
    show win0_5.index (pt i) 0 * 2 ≤ (i 0 : Nat) ∧ (i 0 : Nat) < win0_5.index (pt i) 0 * 2 + win0_5.xsize (grid0.coords (pt i)) 0
    rw [hi.1, hx.1]; omega
  | ⟨1, _⟩ =>
    show win0_5.index (pt i) 1 * 176 ≤ (i 1 : Nat) ∧ (i 1 : Nat) < win0_5.index (pt i) 1 * 176 + win0_5.xsize (grid0.coords (pt i)) 1
    rw [hi.2.1, hx.2.1, ht]; omega
  | ⟨2, _⟩ =>
    show win0_5.index (pt i) 2 * 1024 ≤ (i 2 : Nat) ∧ (i 2 : Nat) < win0_5.index (pt i) 2 * 1024 + win0_5.xsize (grid0.coords (pt i)) 2
    rw [hi.2.2, hx.2.2]; omega
abbrev G5 : Vec Ideal S2x704x1024 .f32 := fun i => grad (a0 m c) (a1 m c) (i 0) (i 1) (i 2)
theorem o5 (t : Fin cfg0.N) (l : Fin 2) (p : Fin 176) (d : Fin 1024) :
    (out0_5 (F := Ideal) (b0 m c t) (b1 m c t) (b2 m c t) (b3 m c t) (b4 m c t) (ix3 l p d) : EReal) = grad (a0 m c) (a1 m c) l (row t p) d := by
  obtain rfl | rfl : l = 0 ∨ l = 1 := by omega
  · rw [out5_0, gs_0]
  · rw [out5_1, gs_1]
theorem flushed5_eq (t : Fin cfg0.N) (hf : (cfg0.win 5).flush t = true) :
    (dats m 0 c).flushed 5 t = ((cfg0.win 5).blk t).view.read (Elt Ideal) (G5 m c) := by
  rw [flushed5]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_5 (F := Ideal) (b0 m c t) (b1 m c t) (b2 m c t) (b3 m c t) (b4 m c t) (ix3 l p d) = G5 m c (((cfg0.win 5).blk t).view.emb (ix3 l p d : S2x176x1024.Idx))
  exact (o5 m c t l p d).trans (congrArg (G5 m c) (emb t l p d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v3_0).slice (win0_5.rect (pt i))).set
    rw [View.set_slice_whole]
    exact cov i
abbrev G6 : Vec Ideal S2x704x1024 .f32 := fun i => AdamSpec.delta (grad (a0 m c) (a1 m c) (i 0) (i 1) (i 2)) (a2 m c (ix3 (i 0) (i 2) (i 1))) (a3 m c (ix3 (i 0) (i 2) (i 1))) (a4 m c (ix3 (i 0) (i 2) (i 1)))
theorem o6 (t : Fin cfg0.N) (l : Fin 2) (p : Fin 176) (d : Fin 1024) :
    (out0_6 (F := Ideal) (b0 m c t) (b1 m c t) (b2 m c t) (b3 m c t) (b4 m c t) (ix3 l p d) : EReal) = AdamSpec.delta (grad (a0 m c) (a1 m c) l (row t p) d) (a2 m c (ix3 l d (row t p))) (a3 m c (ix3 l d (row t p))) (a4 m c (ix3 l d (row t p))) := by
  obtain rfl | rfl : l = 0 ∨ l = 1 := by omega
  · rw [out6_0, gs_0]
    rw [b2_at, b3_at, b4_at]
  · rw [out6_1, gs_1]
    rw [b2_at, b3_at, b4_at]
theorem flushed6_eq (t : Fin cfg0.N) (hf : (cfg0.win 6).flush t = true) :
    (dats m 0 c).flushed 6 t = ((cfg0.win 6).blk t).view.read (Elt Ideal) (G6 m c) := by
  rw [flushed6]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_6 (F := Ideal) (b0 m c t) (b1 m c t) (b2 m c t) (b3 m c t) (b4 m c t) (ix3 l p d) = G6 m c (((cfg0.win 6).blk t).view.emb (ix3 l p d : S2x176x1024.Idx))
  exact (o6 m c t l p d).trans (congrArg (G6 m c) (emb t l p d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v3_1).slice (win0_6.rect (pt i))).set
    rw [View.set_slice_whole]
    exact cov i
abbrev G7 : Vec Ideal S2x704x1024 .f32 := fun i => AdamSpec.newM (grad (a0 m c) (a1 m c) (i 0) (i 1) (i 2)) (a3 m c (ix3 (i 0) (i 2) (i 1)))
theorem o7 (t : Fin cfg0.N) (l : Fin 2) (p : Fin 176) (d : Fin 1024) :
    (out0_7 (F := Ideal) (b0 m c t) (b1 m c t) (b2 m c t) (b3 m c t) (b4 m c t) (ix3 l p d) : EReal) = AdamSpec.newM (grad (a0 m c) (a1 m c) l (row t p) d) (a3 m c (ix3 l d (row t p))) := by
  obtain rfl | rfl : l = 0 ∨ l = 1 := by omega
  · rw [out7_0, gs_0]
    rw [b3_at]
  · rw [out7_1, gs_1]
    rw [b3_at]
theorem flushed7_eq (t : Fin cfg0.N) (hf : (cfg0.win 7).flush t = true) :
    (dats m 0 c).flushed 7 t = ((cfg0.win 7).blk t).view.read (Elt Ideal) (G7 m c) := by
  rw [flushed7]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_7 (F := Ideal) (b0 m c t) (b1 m c t) (b2 m c t) (b3 m c t) (b4 m c t) (ix3 l p d) = G7 m c (((cfg0.win 7).blk t).view.emb (ix3 l p d : S2x176x1024.Idx))
  exact (o7 m c t l p d).trans (congrArg (G7 m c) (emb t l p d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v3_2).slice (win0_7.rect (pt i))).set
    rw [View.set_slice_whole]
    exact cov i
abbrev G8 : Vec Ideal S2x704x1024 .f32 := fun i => AdamSpec.newV (grad (a0 m c) (a1 m c) (i 0) (i 1) (i 2)) (a4 m c (ix3 (i 0) (i 2) (i 1)))
theorem o8 (t : Fin cfg0.N) (l : Fin 2) (p : Fin 176) (d : Fin 1024) :
    (out0_8 (F := Ideal) (b0 m c t) (b1 m c t) (b2 m c t) (b3 m c t) (b4 m c t) (ix3 l p d) : EReal) = AdamSpec.newV (grad (a0 m c) (a1 m c) l (row t p) d) (a4 m c (ix3 l d (row t p))) := by
  obtain rfl | rfl : l = 0 ∨ l = 1 := by omega
  · rw [out8_0, gs_0]
    rw [b4_at]
  · rw [out8_1, gs_1]
    rw [b4_at]
theorem flushed8_eq (t : Fin cfg0.N) (hf : (cfg0.win 8).flush t = true) :
    (dats m 0 c).flushed 8 t = ((cfg0.win 8).blk t).view.read (Elt Ideal) (G8 m c) := by
  rw [flushed8]
  funext (j : S2x176x1024.Idx)
  rw [View.read_apply]
  obtain ⟨l, p, d, rfl⟩ : ∃ (l : Fin 2) (p : Fin 176) (d : Fin 1024), j = ix3 l p d := ⟨j 0, j 1, j 2, eq_ix3 j⟩
  show out0_8 (F := Ideal) (b0 m c t) (b1 m c t) (b2 m c t) (b3 m c t) (b4 m c t) (ix3 l p d) = G8 m c (((cfg0.win 8).blk t).view.emb (ix3 l p d : S2x176x1024.Idx))
  exact (o8 m c t l p d).trans (congrArg (G8 m c) (emb t l p d)).symm
theorem final8 : (dats m 0 c).arrAt 8 cfg0.N = G8 m c :=
  (dats m 0 c).arrAt_eq_of_cover 8 (G8 m c) (flushed8_eq m c) fun i => by
    refine ⟨pt i, flush0_8 _, ?_⟩
    show i ∈ ((View.whole main_v3_3).slice (win0_8.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v3_0) = G5 m c
      ∧ r.2.mem ((c : Thread nD τ).loc main_v3_1) = G6 m c
      ∧ r.2.mem ((c : Thread nD τ).loc main_v3_2) = G7 m c
      ∧ r.2.mem ((c : Thread nD τ).loc main_v3_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      obtain ⟨h5, h6, h7, h8, h⟩ := h c
      exact ⟨h5.trans (final5 m c), h6.trans (final6 m c), h7.trans (final7 m c), h8.trans (final8 m c), h⟩) (run_blocks m ρ)

end Cert.Kernel12Ideal.Adam

namespace Cert.Reference12Ideal.Adam

open Cert.Reference12Ideal Cert.Reference12Ideal.Gen Cert.Reference12Ideal.Read
open Idealize.ShloMosaic Idealize.ShloMosaic.TcCoe Idealize.ShloMosaic.Tactic
open Idealize.SL.Sem

/-! ## The plain step -/

variable (x0 x1 : (⟨S8x704x1024, .bf16⟩ : BufTy).Contents (Elt Ideal)) (x2 x3 x4 : (⟨S2x1024x704, .f32⟩ : BufTy).Contents (Elt Ideal))

theorem s0_at (r : Fin 704) (d : Fin 1024) : (val_main_v1 (F := Ideal) x0 (ix2 r d) : EReal) = ∑ s : Fin 8, (x0 (ix3 s r d) : EReal) := by
  pointwise [val_main_v1, val_main_v0, val_main_cst]
theorem s1_at (r : Fin 704) (d : Fin 1024) : (val_main_v4 (F := Ideal) x1 (ix2 r d) : EReal) = ∑ s : Fin 8, (x1 (ix3 s r d) : EReal) := by
  pointwise [val_main_v4, val_main_v3, val_main_cst_0]

/-- The stacked gradient. -/
theorem grad_at (l : Fin 2) (r : Fin 704) (d : Fin 1024) :
    (val_main_v8 (F := Ideal) x0 x1 (ix3 l d r) : EReal) = Cert.Kernel12Ideal.Adam.grad x0 x1 l r d := by
  have h0 := s0_at x0 r d
  have h1 := s1_at x1 r d
  unfold Cert.Kernel12Ideal.Adam.grad val_main_v8 val_main_v7 val_main_v6 val_main_v5 val_main_v2
  rw [← h0, ← h1]
  generalize val_main_v1 (F := Ideal) x0 = p
  generalize val_main_v4 (F := Ideal) x1 = q
  obtain rfl | rfl : l = 0 ∨ l = 1 := by omega
  · pointwise
  · pointwise

theorem m_at (l : Fin 2) (r : Fin 704) (d : Fin 1024) :
    (val_main_v13 (F := Ideal) x0 x1 x3 (ix3 l d r) : EReal) = AdamSpec.newM (Cert.Kernel12Ideal.Adam.grad x0 x1 l r d) (x3 (ix3 l d r)) := by
  rw [← grad_at]
  unfold AdamSpec.newM val_main_v13 val_main_v12 val_main_v11 val_main_v10 val_main_v9 val_main_cst_1 val_main_cst_2
  generalize val_main_v8 (F := Ideal) x0 x1 = g
  pointwise
theorem v_at (l : Fin 2) (r : Fin 704) (d : Fin 1024) :
    (val_main_v19 (F := Ideal) x0 x1 x4 (ix3 l d r) : EReal) = AdamSpec.newV (Cert.Kernel12Ideal.Adam.grad x0 x1 l r d) (x4 (ix3 l d r)) := by
  rw [← grad_at]
  unfold AdamSpec.newV val_main_v19 val_main_v18 val_main_v17 val_main_v16 val_main_v15 val_main_v14 val_main_cst_3 val_main_cst_4
  generalize val_main_v8 (F := Ideal) x0 x1 = g
  pointwise
theorem d_at (l : Fin 2) (r : Fin 704) (d : Fin 1024) :
    (val_main_v32 (F := Ideal) x0 x1 x2 x3 x4 (ix3 l d r) : EReal)
      = AdamSpec.delta (Cert.Kernel12Ideal.Adam.grad x0 x1 l r d) (x2 (ix3 l d r)) (x3 (ix3 l d r)) (x4 (ix3 l d r)) := by
  unfold AdamSpec.delta
  rw [← m_at, ← v_at]
  unfold val_main_v32 val_main_v31 val_main_v30 val_main_v29 val_main_v28 val_main_v27 val_main_v26 val_main_v25 val_main_v24 val_main_v23 val_main_v22 val_main_v21 val_main_v20 val_main_cst_5 val_main_cst_6 val_main_cst_7 val_main_cst_8 val_main_cst_9
  generalize val_main_v13 (F := Ideal) x0 x1 x3 = q
  generalize val_main_v19 (F := Ideal) x0 x1 x4 = w
  pointwise

theorem t_g (l : Fin 2) (r : Fin 704) (d : Fin 1024) : (val_main_v33 (F := Ideal) x0 x1 (ix3 l r d) : EReal) = Cert.Kernel12Ideal.Adam.grad x0 x1 l r d := by
  rw [← grad_at]
  unfold val_main_v33
  generalize val_main_v8 (F := Ideal) x0 x1 = q
  pointwise
theorem t_d (l : Fin 2) (r : Fin 704) (d : Fin 1024) : (val_main_v34 (F := Ideal) x0 x1 x2 x3 x4 (ix3 l r d) : EReal) = AdamSpec.delta (Cert.Kernel12Ideal.Adam.grad x0 x1 l r d) (x2 (ix3 l d r)) (x3 (ix3 l d r)) (x4 (ix3 l d r)) := by
  rw [← d_at]
  unfold val_main_v34
  generalize val_main_v32 (F := Ideal) x0 x1 x2 x3 x4 = q
  pointwise
theorem t_m (l : Fin 2) (r : Fin 704) (d : Fin 1024) : (val_main_v35 (F := Ideal) x0 x1 x3 (ix3 l r d) : EReal) = AdamSpec.newM (Cert.Kernel12Ideal.Adam.grad x0 x1 l r d) (x3 (ix3 l d r)) := by
  rw [← m_at]
  unfold val_main_v35
  generalize val_main_v13 (F := Ideal) x0 x1 x3 = q
  pointwise
theorem t_v (l : Fin 2) (r : Fin 704) (d : Fin 1024) : (val_main_v36 (F := Ideal) x0 x1 x4 (ix3 l r d) : EReal) = AdamSpec.newV (Cert.Kernel12Ideal.Adam.grad x0 x1 l r d) (x4 (ix3 l d r)) := by
  rw [← v_at]
  unfold val_main_v36
  generalize val_main_v19 (F := Ideal) x0 x1 x4 = q
  pointwise

/-! ## The claims -/

theorem frame_reference : Cert.quiescent_Reference12Ideal := by
  intro m ρ _
  exact (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

/-- The call's four results are the plain step's. -/
theorem value : Cert.algebraic_Kernel12Ideal_Reference12Ideal := by
  intro m ρ m' ρ' _ hargs
  refine ⟨Cert.Kernel12Ideal.Adam.G5 m, Cert.Kernel12Ideal.Adam.G6 m, Cert.Kernel12Ideal.Adam.G7 m, Cert.Kernel12Ideal.Adam.G8 m, Cert.Kernel12Ideal.Adam.run m ρ, ?_⟩
  refine (θ_run Cert.Reference12Ideal.defs _ _).mono (fun r h c => ?_) (Cert.Reference12Ideal.Value.run (F := Ideal) m' ρ')
  obtain ⟨q0, q1, q2, q3, u⟩ := h c
  obtain ⟨g0, g1, g2, g3, g4⟩ := hargs c
  refine ⟨q0.trans ?_, q1.trans ?_, q2.trans ?_, q3.trans ?_, u⟩
  · rw [val_main_v33_eq, g0, g1]
    funext i
    obtain ⟨l, r, d, rfl⟩ : ∃ (l : Fin 2) (r : Fin 704) (d : Fin 1024), i = ix3 l r d := ⟨i 0, i 1, i 2, eq_ix3 i⟩
    exact t_g _ _ l r d
  · rw [val_main_v34_eq, g0, g1, g2, g3, g4]
    funext i
    obtain ⟨l, r, d, rfl⟩ : ∃ (l : Fin 2) (r : Fin 704) (d : Fin 1024), i = ix3 l r d := ⟨i 0, i 1, i 2, eq_ix3 i⟩
    exact t_d _ _ _ _ _ l r d
  · rw [val_main_v35_eq, g0, g1, g3]
    funext i
    obtain ⟨l, r, d, rfl⟩ : ∃ (l : Fin 2) (r : Fin 704) (d : Fin 1024), i = ix3 l r d := ⟨i 0, i 1, i 2, eq_ix3 i⟩
    exact t_m _ _ _ l r d
  · rw [val_main_v36_eq, g0, g1, g4]
    funext i
    obtain ⟨l, r, d, rfl⟩ : ∃ (l : Fin 2) (r : Fin 704) (d : Fin 1024), i = ix3 l r d := ⟨i 0, i 1, i 2, eq_ix3 i⟩
    exact t_v _ _ _ l r d

end Cert.Reference12Ideal.Adam

end
-- ==== Proof.AdamAbIn.lean ====
/- The optimiser's call for the attention block's input weight: what it computes from the arguments, the plain step
   read at an index, and the value claim.  Four grid points take 256 rows each; a point sums the eight devices' shares of the gradient
   and steps. -/
module

public import proofs.«01_k».proof.Defs
public import proofs.«01_k».proof.Proof.AdamSpec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit

@[expose] public section

set_option maxRecDepth 16384

noncomputable section

namespace Cert.Kernel13Ideal.Adam

open Cert.Kernel13Ideal Cert.Kernel13Ideal.Gen Cert.Kernel13Ideal.Value
open Idealize.ShloMosaic Idealize.ShloMosaic.TcCoe Idealize.ShloMosaic.Tactic
open Idealize.SL.Sem

/-! ## Loads and the whole store -/

/-- One of the eight shares, loaded. -/
theorem lg (n : Nat) (hn : n < 8) (h : ∀ a, (![n, 0, 0] : Fin 3 → Nat) a + S1x256x385.size a ≤ S8x256x385.size a) (x : Vec Ideal S8x256x385 .bf16) (z : Fin 1) (p : Fin 256) (d : Fin 385) :
    (View.ld (Val := Elt Ideal) (e' := .bf16) x (Rect.unit (s := S8x256x385) ![n, 0, 0] S1x256x385.size h) (ix3 z p d) : EReal) = x (ix3 ⟨n, hn⟩ p d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * d.val = d.val; omega
theorem emb_w (z : Fin 1) (p : Fin 256) (d : Fin 385) : r0_8.emb (ix3 z p d : S1x256x385.Idx) = (ix3 z p d : S1x256x385.Idx) := by
  funext ax; apply Fin.ext
  match ax with
  | ⟨0, _⟩ => show 0 + 1 * z.val = z.val; omega
  | ⟨1, _⟩ => show 0 + 1 * p.val = p.val; omega
  | ⟨2, _⟩ => show 0 + 1 * d.val = d.val; omega
theorem ls (x : Vec Ideal S1x256x385 .f32) (z : Fin 1) (p : Fin 256) (d : Fin 385) :
    (View.ld (Val := Elt Ideal) (e' := .f32) x r0_8 (ix3 z p d) : EReal) = x (ix3 z p d) := by
  rw [View.ld_apply]
  exact congrArg x (emb_w z p d)
theorem one (a : Vec Ideal S1x256x385 .f32) (p : Fin 256) (d : Fin 385) :
    (View.canon (Val := Elt Ideal) (e := .f32) [⟨r0_8, a⟩] (ix3 0 p d) : EReal) = a (ix3 0 p d) :=
  (congrArg _ (emb_w 0 p d).symm).trans (View.canon_cons_emb (Val := Elt Ideal) (e := .f32) r0_8 a _ (ix3 0 p d : S1x256x385.Idx))

/-! ## The payloads -/

section
variable (y0 y1 y2 y3 y4 y5 y6 y7 : Vec Ideal S1x256x385 .bf16) (g g' : Vec Ideal S256x385 .f32) (w m v : Vec Ideal S1x256x385 .f32)
  (p : Fin 256) (d : Fin 385)

theorem pay3_at : (k0_pay3 (F := Ideal) y0 y1 y2 y3 y4 y5 y6 y7 (ix2 p d) : EReal)
    = y0 (ix3 0 p d) + y1 (ix3 0 p d) + y2 (ix3 0 p d) + y3 (ix3 0 p d) + y4 (ix3 0 p d) + y5 (ix3 0 p d) + y6 (ix3 0 p d) + y7 (ix3 0 p d) := by
  pointwise [k0_pay3]
theorem pay4_at : (k0_pay4 (F := Ideal) g m (ix2 p d) : EReal) = AdamSpec.newM (g (ix2 p d)) (m (ix3 0 p d)) := by
  unfold AdamSpec.newM
  pointwise [k0_pay4]
theorem pay5_at : (k0_pay5 (F := Ideal) g v (ix2 p d) : EReal) = AdamSpec.newV (g (ix2 p d)) (v (ix3 0 p d)) := by
  unfold AdamSpec.newV
  pointwise [k0_pay5]
theorem pay6_at : (k0_pay6 (F := Ideal) g (ix3 0 p d) : EReal) = g (ix2 p d) := by
  pointwise [k0_pay6]
theorem pay1_at : (k0_pay1 (F := Ideal) g (ix3 0 p d) : EReal) = g (ix2 p d) := by
  pointwise [k0_pay1]
theorem pay2_at : (k0_pay2 (F := Ideal) g (ix3 0 p d) : EReal) = g (ix2 p d) := by
  pointwise [k0_pay2]
theorem pay7_at : (k0_pay7 (F := Ideal) g m v w (ix3 0 p d) : EReal) = AdamSpec.delta (g (ix2 p d)) (w (ix3 0 p d)) (m (ix3 0 p d)) (v (ix3 0 p d)) := by
  have h4 := pay4_at g m p d
  have h5 := pay5_at g v p d
  unfold AdamSpec.delta k0_pay7
  rw [← h4, ← h5]
  generalize k0_pay4 (F := Ideal) g m = q'
  generalize k0_pay5 (F := Ideal) g v = r
  pointwise

end

section
variable (x0 : Vec Ideal S8x256x385 .bf16) (x1 x2 x3 : Vec Ideal S1x256x385 .f32) (p : Fin 256) (d : Fin 385)

/-- The eight shares of the gradient at an element, summed. -/
def gs (x : Vec Ideal S8x256x385 .bf16) (p : Fin 256) (d : Fin 385) : EReal := ∑ s : Fin 8, (x (ix3 s p d) : EReal)

theorem g_at : (k0_pay8 (F := Ideal) x0 x1 x2 x3 (ix2 p d) : EReal) = gs x0 p d := by
  unfold k0_pay8 gs
  rw [pay3_at, lg 0 (by decide), lg 1 (by decide), lg 2 (by decide), lg 3 (by decide), lg 4 (by decide), lg 5 (by decide), lg 6 (by decide), lg 7 (by decide), Fin.sum_univ_eight]
  rfl
theorem out4_at : (out0_4 (F := Ideal) x0 x1 x2 x3 (ix3 0 p d) : EReal) = gs x0 p d := by
  unfold out0_4
  rw [one]
  rw [pay6_at, g_at]
theorem out5_at : (out0_5 (F := Ideal) x0 x1 x2 x3 (ix3 0 p d) : EReal) = AdamSpec.delta (gs x0 p d) (x1 (ix3 0 p d)) (x2 (ix3 0 p d)) (x3 (ix3 0 p d)) := by
  unfold out0_5
  rw [one]
  rw [pay7_at, g_at, ls, ls, ls]
theorem out6_at : (out0_6 (F := Ideal) x0 x1 x2 x3 (ix3 0 p d) : EReal) = AdamSpec.newM (gs x0 p d) (x2 (ix3 0 p d)) := by
  unfold out0_6
  rw [one]
  rw [pay1_at, pay4_at, g_at, ls]
theorem out7_at : (out0_7 (F := Ideal) x0 x1 x2 x3 (ix3 0 p d) : EReal) = AdamSpec.newV (gs x0 p d) (x3 (ix3 0 p d)) := by
  unfold out0_7
  rw [one]
  rw [pay2_at, pay5_at, g_at, ls]

end

/-! ## The arguments -/

variable (m : (ℓ : Loc nD τ sig) → Buf (Elt Ideal) ℓ) (c : Dev nD)

abbrev a0 : Vec Ideal S8x1024x385 .bf16 := m ((c.tc : Thread nD τ).loc main_arg0)
abbrev a1 : Vec Ideal S1x1024x385 .f32 := m ((c.tc : Thread nD τ).loc main_arg1)
abbrev a2 : Vec Ideal S1x1024x385 .f32 := m ((c.tc : Thread nD τ).loc main_arg2)
abbrev a3 : Vec Ideal S1x1024x385 .f32 := m ((c.tc : Thread nD τ).loc main_arg3)
theorem V_0 : (V m c main_arg0 : Vec Ideal S8x1024x385 .bf16) = a0 m c := rfl
theorem V_1 : (V m c main_arg1 : Vec Ideal S1x1024x385 .f32) = a1 m c := rfl
theorem V_2 : (V m c main_arg2 : Vec Ideal S1x1024x385 .f32) = a2 m c := rfl
theorem V_3 : (V m c main_arg3 : Vec Ideal S1x1024x385 .f32) = a3 m c := rfl

/-! ## The blocks: point `t` works on rows `t * 256 …` -/

theorem ltN (t : Fin cfg0.N) : t.val < 4 := lt_of_lt_of_eq t.isLt N_0
/-- Row `p` of point `t`'s tile. -/
def row (t : Fin cfg0.N) (p : Fin 256) : Fin 1024 := ⟨t.val * 256 + p.val, by have := ltN t; omega⟩

theorem idx0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx4 (t : Fin cfg0.N) : win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0) t
/-- The state's blocks and the results' blocks lie alike: element `p` of point `t`'s block is row `row t p`. -/
theorem emb (t : Fin cfg0.N) (p : Fin 256) (d : Fin 385) :
    ((cfg0.win 4).blk t).view.emb (ix3 0 p d : S1x256x385.Idx) = (ix3 0 (row t p) d : S1x1024x385.Idx) := by
  have hi := idx4 t
  funext ax
  apply Fin.ext
  match ax with
  | ⟨0, _⟩ => show win0_4.index t 0 * 1 + 1 * (0 : Fin 1).val = _; rw [hi.1]; show _ = (0 : Fin 1).val; omega
  | ⟨1, _⟩ => show win0_4.index t 1 * 256 + 1 * p.val = _; rw [hi.2.1]; show _ = t.val * 256 + p.val; omega
  | ⟨2, _⟩ => show win0_4.index t 2 * 385 + 1 * d.val = _; rw [hi.2.2]; show _ = d.val; omega
abbrev b0 (t : Fin cfg0.N) : Vec Ideal S8x256x385 .bf16 := iblk m c 0 t
theorem b0_at (t : Fin cfg0.N) (s : Fin 8) (p : Fin 256) (d : Fin 385) : (b0 m c t (ix3 s p d) : EReal) = a0 m c (ix3 s (row t p) d) := by
  have hi := idx0 t
  rw [← V_0]
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 256 + 1 * p.val = _; rw [hi.2.1]; show _ = t.val * 256 + p.val; omega
  | ⟨2, _⟩ => show win0_0.index t 2 * 385 + 1 * d.val = _; rw [hi.2.2]; show _ = d.val; omega
abbrev b1 (t : Fin cfg0.N) : Vec Ideal S1x256x385 .f32 := iblk m c 1 t
theorem b1_at (t : Fin cfg0.N) (p : Fin 256) (d : Fin 385) : (b1 m c t (ix3 0 p d) : EReal) = a1 m c (ix3 0 (row t p) d) :=
  congrArg (a1 m c) (emb t p d)
abbrev b2 (t : Fin cfg0.N) : Vec Ideal S1x256x385 .f32 := iblk m c 2 t
theorem b2_at (t : Fin cfg0.N) (p : Fin 256) (d : Fin 385) : (b2 m c t (ix3 0 p d) : EReal) = a2 m c (ix3 0 (row t p) d) :=
  congrArg (a2 m c) (emb t p d)
abbrev b3 (t : Fin cfg0.N) : Vec Ideal S1x256x385 .f32 := iblk m c 3 t
theorem b3_at (t : Fin cfg0.N) (p : Fin 256) (d : Fin 385) : (b3 m c t (ix3 0 p d) : EReal) = a3 m c (ix3 0 (row t p) d) :=
  congrArg (a3 m c) (emb t p d)

/-! ## The four result arrays -/

/-- The gradient at an element: the eight shares summed. -/
def grad (x : Vec Ideal S8x1024x385 .bf16) (r : Fin 1024) (d : Fin 385) : EReal := ∑ s : Fin 8, (x (ix3 s r d) : EReal)

theorem gs_b (t : Fin cfg0.N) (p : Fin 256) (d : Fin 385) : gs (b0 m c t) p d = grad (a0 m c) (row t p) d :=
  Finset.sum_congr rfl fun s _ => b0_at m c t s p d

theorem xs4 (t : Fin cfg0.N) : win0_4.xsize (grid0.coords t) 0 = 1 ∧ win0_4.xsize (grid0.coords t) 1 = 256 ∧ win0_4.xsize (grid0.coords t) 2 = 385 :=
  (by decide +kernel : ∀ t : Fin grid0.N, win0_4.xsize (grid0.coords t) 0 = 1 ∧ win0_4.xsize (grid0.coords t) 1 = 256 ∧ win0_4.xsize (grid0.coords t) 2 = 385) t
/-- The grid point that writes an element. -/
def pt (i : S1x1024x385.Idx) : Fin cfg0.N :=
  ⟨(i 1).val / 256, lt_of_lt_of_eq (show (i 1).val / 256 < 4 by have : (i 1 : Nat) < 1024 := (i 1).isLt; omega) N_0.symm⟩
theorem cov (i : S1x1024x385.Idx) : i ∈ (win0_4.rect (pt i)).set := by
  have h0 : (i 0 : Nat) < 1 := (i 0).isLt
  have h1 : (i 1 : Nat) < 1024 := (i 1).isLt
  have h2 : (i 2 : Nat) < 385 := (i 2).isLt
  have hi := idx4 (pt i)
  have hx := xs4 (pt i)
  have ht : (pt i).val = (i 1).val / 256 := rfl
  rw [Rect.mem_set_unit]
  intro ax
  match ax with
  | ⟨0, _⟩ =>
    show win0_4.index (pt i) 0 * 1 ≤ (i 0 : Nat) ∧ (i 0 : Nat) < win0_4.index (pt i) 0 * 1 + win0_4.xsize (grid0.coords (pt i)) 0
    rw [hi.1, hx.1]; omega
  | ⟨1, _⟩ =>
    show win0_4.index (pt i) 1 * 256 ≤ (i 1 : Nat) ∧ (i 1 : Nat) < win0_4.index (pt i) 1 * 256 + win0_4.xsize (grid0.coords (pt i)) 1
    rw [hi.2.1, hx.2.1, ht]; omega
  | ⟨2, _⟩ =>
    show win0_4.index (pt i) 2 * 385 ≤ (i 2 : Nat) ∧ (i 2 : Nat) < win0_4.index (pt i) 2 * 385 + win0_4.xsize (grid0.coords (pt i)) 2
    rw [hi.2.2, hx.2.2]; omega
theorem only (j : S1x256x385.Idx) : ∃ (p : Fin 256) (d : Fin 385), j = ix3 (0 : Fin 1) p d :=
  ⟨j 1, j 2, (eq_ix3 j).trans (congrArg (fun z : Fin 1 => ix3 z (j 1) (j 2)) (Subsingleton.elim _ _))⟩
abbrev G4 : Vec Ideal S1x1024x385 .f32 := fun i => grad (a0 m c) (i 1) (i 2)
theorem o4 (t : Fin cfg0.N) (p : Fin 256) (d : Fin 385) :
    (out0_4 (F := Ideal) (b0 m c t) (b1 m c t) (b2 m c t) (b3 m c t) (ix3 0 p d) : EReal) = grad (a0 m c) (row t p) d := by
  rw [out4_at, gs_b]
theorem flushed4_eq (t : Fin cfg0.N) (hf : (cfg0.win 4).flush t = true) :
    (dats m 0 c).flushed 4 t = ((cfg0.win 4).blk t).view.read (Elt Ideal) (G4 m c) := by
  rw [flushed4]
  funext (j : S1x256x385.Idx)
  rw [View.read_apply]
  obtain ⟨p, d, rfl⟩ := only j
  show out0_4 (F := Ideal) (b0 m c t) (b1 m c t) (b2 m c t) (b3 m c t) (ix3 0 p d) = G4 m c (((cfg0.win 4).blk t).view.emb (ix3 0 p d : S1x256x385.Idx))
  exact (o4 m c t p d).trans (congrArg (G4 m c) (emb t p d)).symm
theorem final4 : (dats m 0 c).arrAt 4 cfg0.N = G4 m c :=
  (dats m 0 c).arrAt_eq_of_cover 4 (G4 m c) (flushed4_eq m c) fun i => by
    refine ⟨pt i, flush0_4 _, ?_⟩
    show i ∈ ((View.whole main_v0_0).slice (win0_4.rect (pt i))).set
    rw [View.set_slice_whole]
    exact cov i
abbrev G5 : Vec Ideal S1x1024x385 .f32 := fun i => AdamSpec.delta (grad (a0 m c) (i 1) (i 2)) (a1 m c (ix3 0 (i 1) (i 2))) (a2 m c (ix3 0 (i 1) (i 2))) (a3 m c (ix3 0 (i 1) (i 2)))
theorem o5 (t : Fin cfg0.N) (p : Fin 256) (d : Fin 385) :
    (out0_5 (F := Ideal) (b0 m c t) (b1 m c t) (b2 m c t) (b3 m c t) (ix3 0 p d) : EReal) = AdamSpec.delta (grad (a0 m c) (row t p) d) (a1 m c (ix3 0 (row t p) d)) (a2 m c (ix3 0 (row t p) d)) (a3 m c (ix3 0 (row t p) d)) := by
  rw [out5_at, gs_b, b1_at, b2_at, b3_at]
theorem flushed5_eq (t : Fin cfg0.N) (hf : (cfg0.win 5).flush t = true) :
    (dats m 0 c).flushed 5 t = ((cfg0.win 5).blk t).view.read (Elt Ideal) (G5 m c) := by
  rw [flushed5]
  funext (j : S1x256x385.Idx)
  rw [View.read_apply]
  obtain ⟨p, d, rfl⟩ := only j
  show out0_5 (F := Ideal) (b0 m c t) (b1 m c t) (b2 m c t) (b3 m c t) (ix3 0 p d) = G5 m c (((cfg0.win 5).blk t).view.emb (ix3 0 p d : S1x256x385.Idx))
  exact (o5 m c t p d).trans (congrArg (G5 m c) (emb t p d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v0_1).slice (win0_5.rect (pt i))).set
    rw [View.set_slice_whole]
    exact cov i
abbrev G6 : Vec Ideal S1x1024x385 .f32 := fun i => AdamSpec.newM (grad (a0 m c) (i 1) (i 2)) (a2 m c (ix3 0 (i 1) (i 2)))
theorem o6 (t : Fin cfg0.N) (p : Fin 256) (d : Fin 385) :
    (out0_6 (F := Ideal) (b0 m c t) (b1 m c t) (b2 m c t) (b3 m c t) (ix3 0 p d) : EReal) = AdamSpec.newM (grad (a0 m c) (row t p) d) (a2 m c (ix3 0 (row t p) d)) := by
  rw [out6_at, gs_b, b2_at]
theorem flushed6_eq (t : Fin cfg0.N) (hf : (cfg0.win 6).flush t = true) :
    (dats m 0 c).flushed 6 t = ((cfg0.win 6).blk t).view.read (Elt Ideal) (G6 m c) := by
  rw [flushed6]
  funext (j : S1x256x385.Idx)
  rw [View.read_apply]
  obtain ⟨p, d, rfl⟩ := only j
  show out0_6 (F := Ideal) (b0 m c t) (b1 m c t) (b2 m c t) (b3 m c t) (ix3 0 p d) = G6 m c (((cfg0.win 6).blk t).view.emb (ix3 0 p d : S1x256x385.Idx))
  exact (o6 m c t p d).trans (congrArg (G6 m c) (emb t p d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v0_2).slice (win0_6.rect (pt i))).set
    rw [View.set_slice_whole]
    exact cov i
abbrev G7 : Vec Ideal S1x1024x385 .f32 := fun i => AdamSpec.newV (grad (a0 m c) (i 1) (i 2)) (a3 m c (ix3 0 (i 1) (i 2)))
theorem o7 (t : Fin cfg0.N) (p : Fin 256) (d : Fin 385) :
    (out0_7 (F := Ideal) (b0 m c t) (b1 m c t) (b2 m c t) (b3 m c t) (ix3 0 p d) : EReal) = AdamSpec.newV (grad (a0 m c) (row t p) d) (a3 m c (ix3 0 (row t p) d)) := by
  rw [out7_at, gs_b, b3_at]
theorem flushed7_eq (t : Fin cfg0.N) (hf : (cfg0.win 7).flush t = true) :
    (dats m 0 c).flushed 7 t = ((cfg0.win 7).blk t).view.read (Elt Ideal) (G7 m c) := by
  rw [flushed7]
  funext (j : S1x256x385.Idx)
  rw [View.read_apply]
  obtain ⟨p, d, rfl⟩ := only j
  show out0_7 (F := Ideal) (b0 m c t) (b1 m c t) (b2 m c t) (b3 m c t) (ix3 0 p d) = G7 m c (((cfg0.win 7).blk t).view.emb (ix3 0 p d : S1x256x385.Idx))
  exact (o7 m c t p d).trans (congrArg (G7 m c) (emb t p d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v0_3).slice (win0_7.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h4, h5, h6, h7, h⟩ := h c
      exact ⟨h4.trans (final4 m c), h5.trans (final5 m c), h6.trans (final6 m c), h7.trans (final7 m c), h⟩) (run_blocks m ρ)

end Cert.Kernel13Ideal.Adam

namespace Cert.Reference13Ideal.Adam

open Cert.Reference13Ideal Cert.Reference13Ideal.Gen Cert.Reference13Ideal.Read
open Idealize.ShloMosaic Idealize.ShloMosaic.TcCoe Idealize.ShloMosaic.Tactic
open Idealize.SL.Sem

/-! ## The plain step -/

variable (x0 : (⟨S8x1024x385, .bf16⟩ : BufTy).Contents (Elt Ideal)) (x1 x2 x3 : (⟨S1x1024x385, .f32⟩ : BufTy).Contents (Elt Ideal))
  (r : Fin 1024) (d : Fin 385)

/-- The gradient. -/
theorem grad_at : (val_main_v2 (F := Ideal) x0 (ix3 0 r d) : EReal) = Cert.Kernel13Ideal.Adam.grad x0 r d := by
  have h : (val_main_v1 (F := Ideal) x0 (ix2 r d) : EReal) = Cert.Kernel13Ideal.Adam.grad x0 r d := by
    unfold Cert.Kernel13Ideal.Adam.grad
    pointwise [val_main_v1, val_main_v0, val_main_cst]
  rw [← h]
  unfold val_main_v2
  generalize val_main_v1 (F := Ideal) x0 = y
  pointwise
theorem m_at : (val_main_v7 (F := Ideal) x0 x2 (ix3 0 r d) : EReal) = AdamSpec.newM (Cert.Kernel13Ideal.Adam.grad x0 r d) (x2 (ix3 0 r d)) := by
  rw [← grad_at]
  unfold AdamSpec.newM val_main_v7 val_main_v6 val_main_v5 val_main_v4 val_main_v3 val_main_cst_0 val_main_cst_1
  generalize val_main_v2 (F := Ideal) x0 = g
  pointwise
theorem v_at : (val_main_v13 (F := Ideal) x0 x3 (ix3 0 r d) : EReal) = AdamSpec.newV (Cert.Kernel13Ideal.Adam.grad x0 r d) (x3 (ix3 0 r d)) := by
  rw [← grad_at]
  unfold AdamSpec.newV val_main_v13 val_main_v12 val_main_v11 val_main_v10 val_main_v9 val_main_v8 val_main_cst_2 val_main_cst_3
  generalize val_main_v2 (F := Ideal) x0 = g
  pointwise
theorem d_at : (val_main_v26 (F := Ideal) x0 x1 x2 x3 (ix3 0 r d) : EReal)
    = AdamSpec.delta (Cert.Kernel13Ideal.Adam.grad x0 r d) (x1 (ix3 0 r d)) (x2 (ix3 0 r d)) (x3 (ix3 0 r d)) := by
  unfold AdamSpec.delta
  rw [← m_at, ← v_at]
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  generalize val_main_v7 (F := Ideal) x0 x2 = g
  generalize val_main_v13 (F := Ideal) x0 x3 = w
  pointwise

/-! ## The claims -/

theorem frame_reference : Cert.quiescent_Reference13Ideal := by
  intro m ρ _
  exact (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

/-- The call's four results are the plain step's. -/
theorem value : Cert.algebraic_Kernel13Ideal_Reference13Ideal := by
  intro m ρ m' ρ' _ hargs
  refine ⟨Cert.Kernel13Ideal.Adam.G4 m, Cert.Kernel13Ideal.Adam.G5 m, Cert.Kernel13Ideal.Adam.G6 m, Cert.Kernel13Ideal.Adam.G7 m, Cert.Kernel13Ideal.Adam.run m ρ, ?_⟩
  refine (θ_run Cert.Reference13Ideal.defs _ _).mono (fun r h c => ?_) (Cert.Reference13Ideal.Value.run (F := Ideal) m' ρ')
  obtain ⟨q0, q1, q2, q3, u⟩ := h c
  obtain ⟨g0, g1, g2, g3⟩ := hargs c
  refine ⟨q0.trans ?_, q1.trans ?_, q2.trans ?_, q3.trans ?_, u⟩
  · rw [val_main_v2_eq, g0]
    funext i
    obtain ⟨r, d, rfl⟩ : ∃ (r : Fin 1024) (d : Fin 385), i = ix3 (0 : Fin 1) r d := ⟨i 1, i 2, (eq_ix3 i).trans (congrArg (fun z : Fin 1 => ix3 z (i 1) (i 2)) (Subsingleton.elim _ _))⟩
    exact grad_at _ r d
  · rw [val_main_v26_eq, g0, g1, g2, g3]
    funext i
    obtain ⟨r, d, rfl⟩ : ∃ (r : Fin 1024) (d : Fin 385), i = ix3 (0 : Fin 1) r d := ⟨i 1, i 2, (eq_ix3 i).trans (congrArg (fun z : Fin 1 => ix3 z (i 1) (i 2)) (Subsingleton.elim _ _))⟩
    exact d_at _ _ _ _ r d
  · rw [val_main_v7_eq, g0, g2]
    funext i
    obtain ⟨r, d, rfl⟩ : ∃ (r : Fin 1024) (d : Fin 385), i = ix3 (0 : Fin 1) r d := ⟨i 1, i 2, (eq_ix3 i).trans (congrArg (fun z : Fin 1 => ix3 z (i 1) (i 2)) (Subsingleton.elim _ _))⟩
    exact m_at _ _ r d
  · rw [val_main_v13_eq, g0, g3]
    funext i
    obtain ⟨r, d, rfl⟩ : ∃ (r : Fin 1024) (d : Fin 385), i = ix3 (0 : Fin 1) r d := ⟨i 1, i 2, (eq_ix3 i).trans (congrArg (fun z : Fin 1 => ix3 z (i 1) (i 2)) (Subsingleton.elim _ _))⟩
    exact v_at _ _ r d

end Cert.Reference13Ideal.Adam

end
-- ==== Proof.AdamAbOut.lean ====
/- The optimiser's call for the attention block's output weight: what it computes from the arguments, the plain step
   read at an index, and the value claim.  One grid point takes all rows; a point sums the eight devices' shares of the gradient
   and steps. -/
module

public import proofs.«01_k».proof.Defs
public import proofs.«01_k».proof.Proof.AdamSpec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit

@[expose] public section

set_option maxRecDepth 16384

noncomputable section

namespace Cert.Kernel14Ideal.Adam

open Cert.Kernel14Ideal Cert.Kernel14Ideal.Gen Cert.Kernel14Ideal.Value
open Idealize.ShloMosaic Idealize.ShloMosaic.TcCoe Idealize.ShloMosaic.Tactic
open Idealize.SL.Sem

/-! ## Loads and the whole store -/

/-- One of the eight shares, loaded. -/
theorem lg (n : Nat) (hn : n < 8) (h : ∀ a, (![n, 0, 0] : Fin 3 → Nat) a + S1x128x1024.size a ≤ S8x128x1024.size a) (x : Vec Ideal S8x128x1024 .bf16) (z : Fin 1) (p : Fin 128) (d : Fin 1024) :
    (View.ld (Val := Elt Ideal) (e' := .bf16) x (Rect.unit (s := S8x128x1024) ![n, 0, 0] S1x128x1024.size h) (ix3 z p d) : EReal) = x (ix3 ⟨n, hn⟩ p d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * d.val = d.val; omega
theorem emb_w (z : Fin 1) (p : Fin 128) (d : Fin 1024) : r0_8.emb (ix3 z p d : S1x128x1024.Idx) = (ix3 z p d : S1x128x1024.Idx) := by
  funext ax; apply Fin.ext
  match ax with
  | ⟨0, _⟩ => show 0 + 1 * z.val = z.val; omega
  | ⟨1, _⟩ => show 0 + 1 * p.val = p.val; omega
  | ⟨2, _⟩ => show 0 + 1 * d.val = d.val; omega
theorem ls (x : Vec Ideal S1x128x1024 .f32) (z : Fin 1) (p : Fin 128) (d : Fin 1024) :
    (View.ld (Val := Elt Ideal) (e' := .f32) x r0_8 (ix3 z p d) : EReal) = x (ix3 z p d) := by
  rw [View.ld_apply]
  exact congrArg x (emb_w z p d)
theorem one (a : Vec Ideal S1x128x1024 .f32) (p : Fin 128) (d : Fin 1024) :
    (View.canon (Val := Elt Ideal) (e := .f32) [⟨r0_8, a⟩] (ix3 0 p d) : EReal) = a (ix3 0 p d) :=
  (congrArg _ (emb_w 0 p d).symm).trans (View.canon_cons_emb (Val := Elt Ideal) (e := .f32) r0_8 a _ (ix3 0 p d : S1x128x1024.Idx))

/-! ## The payloads -/

section
variable (y0 y1 y2 y3 y4 y5 y6 y7 : Vec Ideal S1x128x1024 .bf16) (g g' : Vec Ideal S128x1024 .f32) (w m v : Vec Ideal S1x128x1024 .f32)
  (p : Fin 128) (d : Fin 1024)

theorem pay3_at : (k0_pay3 (F := Ideal) y0 y1 y2 y3 y4 y5 y6 y7 (ix2 p d) : EReal)
    = y0 (ix3 0 p d) + y1 (ix3 0 p d) + y2 (ix3 0 p d) + y3 (ix3 0 p d) + y4 (ix3 0 p d) + y5 (ix3 0 p d) + y6 (ix3 0 p d) + y7 (ix3 0 p d) := by
  pointwise [k0_pay3]
theorem pay4_at : (k0_pay4 (F := Ideal) g m (ix2 p d) : EReal) = AdamSpec.newM (g (ix2 p d)) (m (ix3 0 p d)) := by
  unfold AdamSpec.newM
  pointwise [k0_pay4]
theorem pay5_at : (k0_pay5 (F := Ideal) g v (ix2 p d) : EReal) = AdamSpec.newV (g (ix2 p d)) (v (ix3 0 p d)) := by
  unfold AdamSpec.newV
  pointwise [k0_pay5]
theorem pay6_at : (k0_pay6 (F := Ideal) g (ix3 0 p d) : EReal) = g (ix2 p d) := by
  pointwise [k0_pay6]
theorem pay1_at : (k0_pay1 (F := Ideal) g (ix3 0 p d) : EReal) = g (ix2 p d) := by
  pointwise [k0_pay1]
theorem pay2_at : (k0_pay2 (F := Ideal) g (ix3 0 p d) : EReal) = g (ix2 p d) := by
  pointwise [k0_pay2]
theorem pay7_at : (k0_pay7 (F := Ideal) g m v w (ix3 0 p d) : EReal) = AdamSpec.delta (g (ix2 p d)) (w (ix3 0 p d)) (m (ix3 0 p d)) (v (ix3 0 p d)) := by
  have h4 := pay4_at g m p d
  have h5 := pay5_at g v p d
  unfold AdamSpec.delta k0_pay7
  rw [← h4, ← h5]
  generalize k0_pay4 (F := Ideal) g m = q'
  generalize k0_pay5 (F := Ideal) g v = r
  pointwise

end

section
variable (x0 : Vec Ideal S8x128x1024 .bf16) (x1 x2 x3 : Vec Ideal S1x128x1024 .f32) (p : Fin 128) (d : Fin 1024)

/-- The eight shares of the gradient at an element, summed. -/
def gs (x : Vec Ideal S8x128x1024 .bf16) (p : Fin 128) (d : Fin 1024) : EReal := ∑ s : Fin 8, (x (ix3 s p d) : EReal)

theorem g_at : (k0_pay8 (F := Ideal) x0 x1 x2 x3 (ix2 p d) : EReal) = gs x0 p d := by
  unfold k0_pay8 gs
  rw [pay3_at, lg 0 (by decide), lg 1 (by decide), lg 2 (by decide), lg 3 (by decide), lg 4 (by decide), lg 5 (by decide), lg 6 (by decide), lg 7 (by decide), Fin.sum_univ_eight]
  rfl
theorem out4_at : (out0_4 (F := Ideal) x0 x1 x2 x3 (ix3 0 p d) : EReal) = gs x0 p d := by
  unfold out0_4
  rw [one]
  rw [pay6_at, g_at]
theorem out5_at : (out0_5 (F := Ideal) x0 x1 x2 x3 (ix3 0 p d) : EReal) = AdamSpec.delta (gs x0 p d) (x1 (ix3 0 p d)) (x2 (ix3 0 p d)) (x3 (ix3 0 p d)) := by
  unfold out0_5
  rw [one]
  rw [pay7_at, g_at, ls, ls, ls]
theorem out6_at : (out0_6 (F := Ideal) x0 x1 x2 x3 (ix3 0 p d) : EReal) = AdamSpec.newM (gs x0 p d) (x2 (ix3 0 p d)) := by
  unfold out0_6
  rw [one]
  rw [pay1_at, pay4_at, g_at, ls]
theorem out7_at : (out0_7 (F := Ideal) x0 x1 x2 x3 (ix3 0 p d) : EReal) = AdamSpec.newV (gs x0 p d) (x3 (ix3 0 p d)) := by
  unfold out0_7
  rw [one]
  rw [pay2_at, pay5_at, g_at, ls]

end

/-! ## The arguments -/

variable (m : (ℓ : Loc nD τ sig) → Buf (Elt Ideal) ℓ) (c : Dev nD)

abbrev a0 : Vec Ideal S8x128x1024 .bf16 := m ((c.tc : Thread nD τ).loc main_arg0)
abbrev a1 : Vec Ideal S1x128x1024 .f32 := m ((c.tc : Thread nD τ).loc main_arg1)
abbrev a2 : Vec Ideal S1x128x1024 .f32 := m ((c.tc : Thread nD τ).loc main_arg2)
abbrev a3 : Vec Ideal S1x128x1024 .f32 := m ((c.tc : Thread nD τ).loc main_arg3)
theorem V_0 : (V m c main_arg0 : Vec Ideal S8x128x1024 .bf16) = a0 m c := rfl
theorem V_1 : (V m c main_arg1 : Vec Ideal S1x128x1024 .f32) = a1 m c := rfl
theorem V_2 : (V m c main_arg2 : Vec Ideal S1x128x1024 .f32) = a2 m c := rfl
theorem V_3 : (V m c main_arg3 : Vec Ideal S1x128x1024 .f32) = a3 m c := rfl

/-! ## The blocks: point `t` works on rows `t * 128 …` -/

theorem ltN (t : Fin cfg0.N) : t.val < 1 := lt_of_lt_of_eq t.isLt N_0
/-- Row `p` of point `t`'s tile. -/
def row (t : Fin cfg0.N) (p : Fin 128) : Fin 128 := ⟨t.val * 128 + p.val, by have := ltN t; omega⟩

theorem idx0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx4 (t : Fin cfg0.N) : win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0) t
/-- The state's blocks and the results' blocks lie alike: element `p` of point `t`'s block is row `row t p`. -/
theorem emb (t : Fin cfg0.N) (p : Fin 128) (d : Fin 1024) :
    ((cfg0.win 4).blk t).view.emb (ix3 0 p d : S1x128x1024.Idx) = (ix3 0 (row t p) d : S1x128x1024.Idx) := by
  have hi := idx4 t
  funext ax
  apply Fin.ext
  match ax with
  | ⟨0, _⟩ => show win0_4.index t 0 * 1 + 1 * (0 : Fin 1).val = _; rw [hi.1]; show _ = (0 : Fin 1).val; omega
  | ⟨1, _⟩ => show win0_4.index t 1 * 128 + 1 * p.val = _; rw [hi.2.1]; show _ = t.val * 128 + p.val; omega
  | ⟨2, _⟩ => show win0_4.index t 2 * 1024 + 1 * d.val = _; rw [hi.2.2]; show _ = d.val; omega
abbrev b0 (t : Fin cfg0.N) : Vec Ideal S8x128x1024 .bf16 := iblk m c 0 t
theorem b0_at (t : Fin cfg0.N) (s : Fin 8) (p : Fin 128) (d : Fin 1024) : (b0 m c t (ix3 s p d) : EReal) = a0 m c (ix3 s (row t p) d) := by
  have hi := idx0 t
  rw [← V_0]
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 128 + 1 * p.val = _; rw [hi.2.1]; show _ = t.val * 128 + p.val; omega
  | ⟨2, _⟩ => show win0_0.index t 2 * 1024 + 1 * d.val = _; rw [hi.2.2]; show _ = d.val; omega
abbrev b1 (t : Fin cfg0.N) : Vec Ideal S1x128x1024 .f32 := iblk m c 1 t
theorem b1_at (t : Fin cfg0.N) (p : Fin 128) (d : Fin 1024) : (b1 m c t (ix3 0 p d) : EReal) = a1 m c (ix3 0 (row t p) d) :=
  congrArg (a1 m c) (emb t p d)
abbrev b2 (t : Fin cfg0.N) : Vec Ideal S1x128x1024 .f32 := iblk m c 2 t
theorem b2_at (t : Fin cfg0.N) (p : Fin 128) (d : Fin 1024) : (b2 m c t (ix3 0 p d) : EReal) = a2 m c (ix3 0 (row t p) d) :=
  congrArg (a2 m c) (emb t p d)
abbrev b3 (t : Fin cfg0.N) : Vec Ideal S1x128x1024 .f32 := iblk m c 3 t
theorem b3_at (t : Fin cfg0.N) (p : Fin 128) (d : Fin 1024) : (b3 m c t (ix3 0 p d) : EReal) = a3 m c (ix3 0 (row t p) d) :=
  congrArg (a3 m c) (emb t p d)

/-! ## The four result arrays -/

/-- The gradient at an element: the eight shares summed. -/
def grad (x : Vec Ideal S8x128x1024 .bf16) (r : Fin 128) (d : Fin 1024) : EReal := ∑ s : Fin 8, (x (ix3 s r d) : EReal)

theorem gs_b (t : Fin cfg0.N) (p : Fin 128) (d : Fin 1024) : gs (b0 m c t) p d = grad (a0 m c) (row t p) d :=
  Finset.sum_congr rfl fun s _ => b0_at m c t s p d

theorem xs4 (t : Fin cfg0.N) : win0_4.xsize (grid0.coords t) 0 = 1 ∧ win0_4.xsize (grid0.coords t) 1 = 128 ∧ win0_4.xsize (grid0.coords t) 2 = 1024 :=
  (by decide +kernel : ∀ t : Fin grid0.N, win0_4.xsize (grid0.coords t) 0 = 1 ∧ win0_4.xsize (grid0.coords t) 1 = 128 ∧ win0_4.xsize (grid0.coords t) 2 = 1024) t
/-- The grid point that writes an element. -/
def pt (i : S1x128x1024.Idx) : Fin cfg0.N :=
  ⟨(i 1).val / 128, lt_of_lt_of_eq (show (i 1).val / 128 < 1 by have : (i 1 : Nat) < 128 := (i 1).isLt; omega) N_0.symm⟩
theorem cov (i : S1x128x1024.Idx) : i ∈ (win0_4.rect (pt i)).set := by
  have h0 : (i 0 : Nat) < 1 := (i 0).isLt
  have h1 : (i 1 : Nat) < 128 := (i 1).isLt
  have h2 : (i 2 : Nat) < 1024 := (i 2).isLt
  have hi := idx4 (pt i)
  have hx := xs4 (pt i)
  have ht : (pt i).val = (i 1).val / 128 := rfl
  rw [Rect.mem_set_unit]
  intro ax
  match ax with
  | ⟨0, _⟩ =>
    show win0_4.index (pt i) 0 * 1 ≤ (i 0 : Nat) ∧ (i 0 : Nat) < win0_4.index (pt i) 0 * 1 + win0_4.xsize (grid0.coords (pt i)) 0
    rw [hi.1, hx.1]; omega
  | ⟨1, _⟩ =>
    show win0_4.index (pt i) 1 * 128 ≤ (i 1 : Nat) ∧ (i 1 : Nat) < win0_4.index (pt i) 1 * 128 + win0_4.xsize (grid0.coords (pt i)) 1
    rw [hi.2.1, hx.2.1, ht]; omega
  | ⟨2, _⟩ =>
    show win0_4.index (pt i) 2 * 1024 ≤ (i 2 : Nat) ∧ (i 2 : Nat) < win0_4.index (pt i) 2 * 1024 + win0_4.xsize (grid0.coords (pt i)) 2
    rw [hi.2.2, hx.2.2]; omega
theorem only (j : S1x128x1024.Idx) : ∃ (p : Fin 128) (d : Fin 1024), j = ix3 (0 : Fin 1) p d :=
  ⟨j 1, j 2, (eq_ix3 j).trans (congrArg (fun z : Fin 1 => ix3 z (j 1) (j 2)) (Subsingleton.elim _ _))⟩
abbrev G4 : Vec Ideal S1x128x1024 .f32 := fun i => grad (a0 m c) (i 1) (i 2)
theorem o4 (t : Fin cfg0.N) (p : Fin 128) (d : Fin 1024) :
    (out0_4 (F := Ideal) (b0 m c t) (b1 m c t) (b2 m c t) (b3 m c t) (ix3 0 p d) : EReal) = grad (a0 m c) (row t p) d := by
  rw [out4_at, gs_b]
theorem flushed4_eq (t : Fin cfg0.N) (hf : (cfg0.win 4).flush t = true) :
    (dats m 0 c).flushed 4 t = ((cfg0.win 4).blk t).view.read (Elt Ideal) (G4 m c) := by
  rw [flushed4]
  funext (j : S1x128x1024.Idx)
  rw [View.read_apply]
  obtain ⟨p, d, rfl⟩ := only j
  show out0_4 (F := Ideal) (b0 m c t) (b1 m c t) (b2 m c t) (b3 m c t) (ix3 0 p d) = G4 m c (((cfg0.win 4).blk t).view.emb (ix3 0 p d : S1x128x1024.Idx))
  exact (o4 m c t p d).trans (congrArg (G4 m c) (emb t p d)).symm
theorem final4 : (dats m 0 c).arrAt 4 cfg0.N = G4 m c :=
  (dats m 0 c).arrAt_eq_of_cover 4 (G4 m c) (flushed4_eq m c) fun i => by
    refine ⟨pt i, flush0_4 _, ?_⟩
    show i ∈ ((View.whole main_v0_0).slice (win0_4.rect (pt i))).set
    rw [View.set_slice_whole]
    exact cov i
abbrev G5 : Vec Ideal S1x128x1024 .f32 := fun i => AdamSpec.delta (grad (a0 m c) (i 1) (i 2)) (a1 m c (ix3 0 (i 1) (i 2))) (a2 m c (ix3 0 (i 1) (i 2))) (a3 m c (ix3 0 (i 1) (i 2)))
theorem o5 (t : Fin cfg0.N) (p : Fin 128) (d : Fin 1024) :
    (out0_5 (F := Ideal) (b0 m c t) (b1 m c t) (b2 m c t) (b3 m c t) (ix3 0 p d) : EReal) = AdamSpec.delta (grad (a0 m c) (row t p) d) (a1 m c (ix3 0 (row t p) d)) (a2 m c (ix3 0 (row t p) d)) (a3 m c (ix3 0 (row t p) d)) := by
  rw [out5_at, gs_b, b1_at, b2_at, b3_at]
theorem flushed5_eq (t : Fin cfg0.N) (hf : (cfg0.win 5).flush t = true) :
    (dats m 0 c).flushed 5 t = ((cfg0.win 5).blk t).view.read (Elt Ideal) (G5 m c) := by
  rw [flushed5]
  funext (j : S1x128x1024.Idx)
  rw [View.read_apply]
  obtain ⟨p, d, rfl⟩ := only j
  show out0_5 (F := Ideal) (b0 m c t) (b1 m c t) (b2 m c t) (b3 m c t) (ix3 0 p d) = G5 m c (((cfg0.win 5).blk t).view.emb (ix3 0 p d : S1x128x1024.Idx))
  exact (o5 m c t p d).trans (congrArg (G5 m c) (emb t p d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v0_1).slice (win0_5.rect (pt i))).set
    rw [View.set_slice_whole]
    exact cov i
abbrev G6 : Vec Ideal S1x128x1024 .f32 := fun i => AdamSpec.newM (grad (a0 m c) (i 1) (i 2)) (a2 m c (ix3 0 (i 1) (i 2)))
theorem o6 (t : Fin cfg0.N) (p : Fin 128) (d : Fin 1024) :
    (out0_6 (F := Ideal) (b0 m c t) (b1 m c t) (b2 m c t) (b3 m c t) (ix3 0 p d) : EReal) = AdamSpec.newM (grad (a0 m c) (row t p) d) (a2 m c (ix3 0 (row t p) d)) := by
  rw [out6_at, gs_b, b2_at]
theorem flushed6_eq (t : Fin cfg0.N) (hf : (cfg0.win 6).flush t = true) :
    (dats m 0 c).flushed 6 t = ((cfg0.win 6).blk t).view.read (Elt Ideal) (G6 m c) := by
  rw [flushed6]
  funext (j : S1x128x1024.Idx)
  rw [View.read_apply]
  obtain ⟨p, d, rfl⟩ := only j
  show out0_6 (F := Ideal) (b0 m c t) (b1 m c t) (b2 m c t) (b3 m c t) (ix3 0 p d) = G6 m c (((cfg0.win 6).blk t).view.emb (ix3 0 p d : S1x128x1024.Idx))
  exact (o6 m c t p d).trans (congrArg (G6 m c) (emb t p d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v0_2).slice (win0_6.rect (pt i))).set
    rw [View.set_slice_whole]
    exact cov i
abbrev G7 : Vec Ideal S1x128x1024 .f32 := fun i => AdamSpec.newV (grad (a0 m c) (i 1) (i 2)) (a3 m c (ix3 0 (i 1) (i 2)))
theorem o7 (t : Fin cfg0.N) (p : Fin 128) (d : Fin 1024) :
    (out0_7 (F := Ideal) (b0 m c t) (b1 m c t) (b2 m c t) (b3 m c t) (ix3 0 p d) : EReal) = AdamSpec.newV (grad (a0 m c) (row t p) d) (a3 m c (ix3 0 (row t p) d)) := by
  rw [out7_at, gs_b, b3_at]
theorem flushed7_eq (t : Fin cfg0.N) (hf : (cfg0.win 7).flush t = true) :
    (dats m 0 c).flushed 7 t = ((cfg0.win 7).blk t).view.read (Elt Ideal) (G7 m c) := by
  rw [flushed7]
  funext (j : S1x128x1024.Idx)
  rw [View.read_apply]
  obtain ⟨p, d, rfl⟩ := only j
  show out0_7 (F := Ideal) (b0 m c t) (b1 m c t) (b2 m c t) (b3 m c t) (ix3 0 p d) = G7 m c (((cfg0.win 7).blk t).view.emb (ix3 0 p d : S1x128x1024.Idx))
  exact (o7 m c t p d).trans (congrArg (G7 m c) (emb t p d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v0_3).slice (win0_7.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h4, h5, h6, h7, h⟩ := h c
      exact ⟨h4.trans (final4 m c), h5.trans (final5 m c), h6.trans (final6 m c), h7.trans (final7 m c), h⟩) (run_blocks m ρ)

end Cert.Kernel14Ideal.Adam

namespace Cert.Reference14Ideal.Adam

open Cert.Reference14Ideal Cert.Reference14Ideal.Gen Cert.Reference14Ideal.Read
open Idealize.ShloMosaic Idealize.ShloMosaic.TcCoe Idealize.ShloMosaic.Tactic
open Idealize.SL.Sem

/-! ## The plain step -/

variable (x0 : (⟨S8x128x1024, .bf16⟩ : BufTy).Contents (Elt Ideal)) (x1 x2 x3 : (⟨S1x128x1024, .f32⟩ : BufTy).Contents (Elt Ideal))
  (r : Fin 128) (d : Fin 1024)

/-- The gradient. -/
theorem grad_at : (val_main_v2 (F := Ideal) x0 (ix3 0 r d) : EReal) = Cert.Kernel14Ideal.Adam.grad x0 r d := by
  have h : (val_main_v1 (F := Ideal) x0 (ix2 r d) : EReal) = Cert.Kernel14Ideal.Adam.grad x0 r d := by
    unfold Cert.Kernel14Ideal.Adam.grad
    pointwise [val_main_v1, val_main_v0, val_main_cst]
  rw [← h]
  unfold val_main_v2
  generalize val_main_v1 (F := Ideal) x0 = y
  pointwise
theorem m_at : (val_main_v7 (F := Ideal) x0 x2 (ix3 0 r d) : EReal) = AdamSpec.newM (Cert.Kernel14Ideal.Adam.grad x0 r d) (x2 (ix3 0 r d)) := by
  rw [← grad_at]
  unfold AdamSpec.newM val_main_v7 val_main_v6 val_main_v5 val_main_v4 val_main_v3 val_main_cst_0 val_main_cst_1
  generalize val_main_v2 (F := Ideal) x0 = g
  pointwise
theorem v_at : (val_main_v13 (F := Ideal) x0 x3 (ix3 0 r d) : EReal) = AdamSpec.newV (Cert.Kernel14Ideal.Adam.grad x0 r d) (x3 (ix3 0 r d)) := by
  rw [← grad_at]
  unfold AdamSpec.newV val_main_v13 val_main_v12 val_main_v11 val_main_v10 val_main_v9 val_main_v8 val_main_cst_2 val_main_cst_3
  generalize val_main_v2 (F := Ideal) x0 = g
  pointwise
theorem d_at : (val_main_v26 (F := Ideal) x0 x1 x2 x3 (ix3 0 r d) : EReal)
    = AdamSpec.delta (Cert.Kernel14Ideal.Adam.grad x0 r d) (x1 (ix3 0 r d)) (x2 (ix3 0 r d)) (x3 (ix3 0 r d)) := by
  unfold AdamSpec.delta
  rw [← m_at, ← v_at]
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  generalize val_main_v7 (F := Ideal) x0 x2 = g
  generalize val_main_v13 (F := Ideal) x0 x3 = w
  pointwise

/-! ## The claims -/

theorem frame_reference : Cert.quiescent_Reference14Ideal := by
  intro m ρ _
  exact (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

/-- The call's four results are the plain step's. -/
theorem value : Cert.algebraic_Kernel14Ideal_Reference14Ideal := by
  intro m ρ m' ρ' _ hargs
  refine ⟨Cert.Kernel14Ideal.Adam.G4 m, Cert.Kernel14Ideal.Adam.G5 m, Cert.Kernel14Ideal.Adam.G6 m, Cert.Kernel14Ideal.Adam.G7 m, Cert.Kernel14Ideal.Adam.run m ρ, ?_⟩
  refine (θ_run Cert.Reference14Ideal.defs _ _).mono (fun r h c => ?_) (Cert.Reference14Ideal.Value.run (F := Ideal) m' ρ')
  obtain ⟨q0, q1, q2, q3, u⟩ := h c
  obtain ⟨g0, g1, g2, g3⟩ := hargs c
  refine ⟨q0.trans ?_, q1.trans ?_, q2.trans ?_, q3.trans ?_, u⟩
  · rw [val_main_v2_eq, g0]
    funext i
    obtain ⟨r, d, rfl⟩ : ∃ (r : Fin 128) (d : Fin 1024), i = ix3 (0 : Fin 1) r d := ⟨i 1, i 2, (eq_ix3 i).trans (congrArg (fun z : Fin 1 => ix3 z (i 1) (i 2)) (Subsingleton.elim _ _))⟩
    exact grad_at _ r d
  · rw [val_main_v26_eq, g0, g1, g2, g3]
    funext i
    obtain ⟨r, d, rfl⟩ : ∃ (r : Fin 128) (d : Fin 1024), i = ix3 (0 : Fin 1) r d := ⟨i 1, i 2, (eq_ix3 i).trans (congrArg (fun z : Fin 1 => ix3 z (i 1) (i 2)) (Subsingleton.elim _ _))⟩
    exact d_at _ _ _ _ r d
  · rw [val_main_v7_eq, g0, g2]
    funext i
    obtain ⟨r, d, rfl⟩ : ∃ (r : Fin 128) (d : Fin 1024), i = ix3 (0 : Fin 1) r d := ⟨i 1, i 2, (eq_ix3 i).trans (congrArg (fun z : Fin 1 => ix3 z (i 1) (i 2)) (Subsingleton.elim _ _))⟩
    exact m_at _ _ r d
  · rw [val_main_v13_eq, g0, g3]
    funext i
    obtain ⟨r, d, rfl⟩ : ∃ (r : Fin 128) (d : Fin 1024), i = ix3 (0 : Fin 1) r d := ⟨i 1, i 2, (eq_ix3 i).trans (congrArg (fun z : Fin 1 => ix3 z (i 1) (i 2)) (Subsingleton.elim _ _))⟩
    exact v_at _ _ r d

end Cert.Reference14Ideal.Adam

end
-- ==== Proof.AdamPool.lean ====
/- The optimiser's call for the pooling mixer's weights: what it computes from the arguments, the plain step
   read at an index, and the value claim.  One grid point takes all four groups; a point sums the eight devices' shares of the gradient
   and steps. -/
module

public import proofs.«01_k».proof.Defs
public import proofs.«01_k».proof.Proof.AdamSpec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit

@[expose] public section

set_option maxRecDepth 16384

noncomputable section

namespace Cert.Kernel15Ideal.Adam

open Cert.Kernel15Ideal Cert.Kernel15Ideal.Gen Cert.Kernel15Ideal.Value
open Idealize.ShloMosaic Idealize.ShloMosaic.TcCoe Idealize.ShloMosaic.Tactic
open Idealize.SL.Sem

/-! ## Loads and the whole store -/

/-- One of the eight shares, loaded. -/
theorem lg (n : Nat) (hn : n < 8) (h : ∀ a, (![n, 0, 0, 0] : Fin 4 → Nat) a + S1x4x32x256.size a ≤ S8x4x32x256.size a) (x : Vec Ideal S8x4x32x256 .bf16) (z : Fin 1) (p : Fin 4) (q : Fin 32) (d : Fin 256) :
    (View.ld (Val := Elt Ideal) (e' := .bf16) x (Rect.unit (s := S8x4x32x256) ![n, 0, 0, 0] S1x4x32x256.size h) (ix4 z p q d) : EReal) = x (ix4 ⟨n, hn⟩ p q d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * q.val = q.val; omega
  | ⟨3, _⟩ => show 0 + 1 * d.val = d.val; omega
theorem emb_w (z : Fin 1) (p : Fin 4) (q : Fin 32) (d : Fin 256) : r0_8.emb (ix4 z p q d : S1x4x32x256.Idx) = (ix4 z p q d : S1x4x32x256.Idx) := by
  funext ax; apply Fin.ext
  match ax with
  | ⟨0, _⟩ => show 0 + 1 * z.val = z.val; omega
  | ⟨1, _⟩ => show 0 + 1 * p.val = p.val; omega
  | ⟨2, _⟩ => show 0 + 1 * q.val = q.val; omega
  | ⟨3, _⟩ => show 0 + 1 * d.val = d.val; omega
theorem ls (x : Vec Ideal S1x4x32x256 .f32) (z : Fin 1) (p : Fin 4) (q : Fin 32) (d : Fin 256) :
    (View.ld (Val := Elt Ideal) (e' := .f32) x r0_8 (ix4 z p q d) : EReal) = x (ix4 z p q d) := by
  rw [View.ld_apply]
  exact congrArg x (emb_w z p q d)
theorem one (a : Vec Ideal S1x4x32x256 .f32) (p : Fin 4) (q : Fin 32) (d : Fin 256) :
    (View.canon (Val := Elt Ideal) (e := .f32) [⟨r0_8, a⟩] (ix4 0 p q d) : EReal) = a (ix4 0 p q d) :=
  (congrArg _ (emb_w 0 p q d).symm).trans (View.canon_cons_emb (Val := Elt Ideal) (e := .f32) r0_8 a _ (ix4 0 p q d : S1x4x32x256.Idx))

/-! ## The payloads -/

section
variable (y0 y1 y2 y3 y4 y5 y6 y7 : Vec Ideal S1x4x32x256 .bf16) (g g' : Vec Ideal S4x32x256 .f32) (w m v : Vec Ideal S1x4x32x256 .f32)
  (p : Fin 4) (q : Fin 32) (d : Fin 256)

theorem pay4_at : (k0_pay4 (F := Ideal) y0 y1 y2 y3 y4 y5 y6 (ix3 p q d) : EReal)
    = y0 (ix4 0 p q d) + y1 (ix4 0 p q d) + y2 (ix4 0 p q d) + y3 (ix4 0 p q d) + y4 (ix4 0 p q d) + y5 (ix4 0 p q d) + y6 (ix4 0 p q d) := by
  pointwise [k0_pay4]
theorem pay5_at : (k0_pay5 (F := Ideal) g y7 (ix3 p q d) : EReal) = g (ix3 p q d) + y7 (ix4 0 p q d) := by
  pointwise [k0_pay5]
theorem pay6_at : (k0_pay6 (F := Ideal) g y7 m (ix3 p q d) : EReal) = AdamSpec.newM (g (ix3 p q d) + y7 (ix4 0 p q d)) (m (ix4 0 p q d)) := by
  rw [← pay5_at]
  unfold AdamSpec.newM k0_pay6
  generalize k0_pay5 (F := Ideal) g y7 = q'
  pointwise
theorem pay7_at : (k0_pay7 (F := Ideal) g y7 v (ix3 p q d) : EReal) = AdamSpec.newV (g (ix3 p q d) + y7 (ix4 0 p q d)) (v (ix4 0 p q d)) := by
  rw [← pay5_at]
  unfold AdamSpec.newV k0_pay7
  generalize k0_pay5 (F := Ideal) g y7 = q'
  pointwise
theorem pay8_at : (k0_pay8 (F := Ideal) g y7 (ix4 0 p q d) : EReal) = g (ix3 p q d) + y7 (ix4 0 p q d) := by
  rw [← pay5_at]
  unfold k0_pay8
  generalize k0_pay5 (F := Ideal) g y7 = q'
  pointwise
theorem pay2_at : (k0_pay2 (F := Ideal) g (ix4 0 p q d) : EReal) = g (ix3 p q d) := by
  pointwise [k0_pay2]
theorem pay3_at : (k0_pay3 (F := Ideal) g (ix4 0 p q d) : EReal) = g (ix3 p q d) := by
  pointwise [k0_pay3]
theorem pay1_at : (k0_pay1 (F := Ideal) (k0_pay9 g y7 m v w) (ix4 0 p q d) : EReal)
    = AdamSpec.delta (g (ix3 p q d) + y7 (ix4 0 p q d)) (w (ix4 0 p q d)) (m (ix4 0 p q d)) (v (ix4 0 p q d)) := by
  have h4 := pay6_at y7 g m p q d
  have h5 := pay7_at y7 g v p q d
  unfold AdamSpec.delta k0_pay9
  rw [← h4, ← h5]
  generalize k0_pay6 (F := Ideal) g y7 m = q'
  generalize k0_pay7 (F := Ideal) g y7 v = r
  pointwise [k0_pay1]

end

section
variable (x0 : Vec Ideal S8x4x32x256 .bf16) (x1 x2 x3 : Vec Ideal S1x4x32x256 .f32) (p : Fin 4) (q : Fin 32) (d : Fin 256)

/-- The eight shares of the gradient at an element, summed. -/
def gs (x : Vec Ideal S8x4x32x256 .bf16) (p : Fin 4) (q : Fin 32) (d : Fin 256) : EReal := ∑ s : Fin 8, (x (ix4 s p q d) : EReal)

theorem g_at : (k0_pay10 (F := Ideal) x0 x1 x2 x3 (ix3 p q d) + View.ld (Val := Elt Ideal) (e' := .bf16) x0 r0_7 (ix4 0 p q d) : EReal) = gs x0 p q d := by
  unfold k0_pay10 gs
  rw [pay4_at, lg 0 (by decide), lg 1 (by decide), lg 2 (by decide), lg 3 (by decide), lg 4 (by decide), lg 5 (by decide), lg 6 (by decide), lg 7 (by decide), Fin.sum_univ_eight]
  rfl
theorem out4_at : (out0_4 (F := Ideal) x0 x1 x2 x3 (ix4 0 p q d) : EReal) = gs x0 p q d := by
  unfold out0_4
  rw [one]
  rw [pay8_at, g_at]
theorem out5_at : (out0_5 (F := Ideal) x0 x1 x2 x3 (ix4 0 p q d) : EReal) = AdamSpec.delta (gs x0 p q d) (x1 (ix4 0 p q d)) (x2 (ix4 0 p q d)) (x3 (ix4 0 p q d)) := by
  unfold out0_5
  rw [one]
  rw [pay1_at, g_at, ls, ls, ls]
theorem out6_at : (out0_6 (F := Ideal) x0 x1 x2 x3 (ix4 0 p q d) : EReal) = AdamSpec.newM (gs x0 p q d) (x2 (ix4 0 p q d)) := by
  unfold out0_6
  rw [one]
  rw [pay2_at, pay6_at, g_at, ls]
theorem out7_at : (out0_7 (F := Ideal) x0 x1 x2 x3 (ix4 0 p q d) : EReal) = AdamSpec.newV (gs x0 p q d) (x3 (ix4 0 p q d)) := by
  unfold out0_7
  rw [one]
  rw [pay3_at, pay7_at, g_at, ls]

end

/-! ## The arguments -/

variable (m : (ℓ : Loc nD τ sig) → Buf (Elt Ideal) ℓ) (c : Dev nD)

abbrev a0 : Vec Ideal S8x4x32x256 .bf16 := m ((c.tc : Thread nD τ).loc main_arg0)
abbrev a1 : Vec Ideal S1x4x32x256 .f32 := m ((c.tc : Thread nD τ).loc main_arg1)
abbrev a2 : Vec Ideal S1x4x32x256 .f32 := m ((c.tc : Thread nD τ).loc main_arg2)
abbrev a3 : Vec Ideal S1x4x32x256 .f32 := m ((c.tc : Thread nD τ).loc main_arg3)
theorem V_0 : (V m c main_arg0 : Vec Ideal S8x4x32x256 .bf16) = a0 m c := rfl
theorem V_1 : (V m c main_arg1 : Vec Ideal S1x4x32x256 .f32) = a1 m c := rfl
theorem V_2 : (V m c main_arg2 : Vec Ideal S1x4x32x256 .f32) = a2 m c := rfl
theorem V_3 : (V m c main_arg3 : Vec Ideal S1x4x32x256 .f32) = a3 m c := rfl

/-! ## The blocks: point `t` works on rows `t * 4 …` -/

theorem ltN (t : Fin cfg0.N) : t.val < 1 := lt_of_lt_of_eq t.isLt N_0
/-- Row `p` of point `t`'s tile. -/
def row (t : Fin cfg0.N) (p : Fin 4) : Fin 4 := ⟨t.val * 4 + p.val, by have := ltN t; omega⟩

theorem idx0 (t : Fin cfg0.N) : win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0) t
theorem idx4 (t : Fin cfg0.N) : win0_4.index t 0 = 0 ∧ win0_4.index t 1 = t.val ∧ win0_4.index t 2 = 0 ∧ win0_4.index t 3 = 0 :=
  (by decide +kernel : ∀ t : Fin grid0.N, win0_4.index t 0 = 0 ∧ win0_4.index t 1 = t.val ∧ win0_4.index t 2 = 0 ∧ win0_4.index t 3 = 0) t
/-- The state's blocks and the results' blocks lie alike: element `p` of point `t`'s block is row `row t p`. -/
theorem emb (t : Fin cfg0.N) (p : Fin 4) (q : Fin 32) (d : Fin 256) :
    ((cfg0.win 4).blk t).view.emb (ix4 0 p q d : S1x4x32x256.Idx) = (ix4 0 (row t p) q d : S1x4x32x256.Idx) := by
  have hi := idx4 t
  funext ax
  apply Fin.ext
  match ax with
  | ⟨0, _⟩ => show win0_4.index t 0 * 1 + 1 * (0 : Fin 1).val = _; rw [hi.1]; show _ = (0 : Fin 1).val; omega
  | ⟨1, _⟩ => show win0_4.index t 1 * 4 + 1 * p.val = _; rw [hi.2.1]; show _ = t.val * 4 + p.val; omega
  | ⟨2, _⟩ => show win0_4.index t 2 * 32 + 1 * q.val = _; rw [hi.2.2.1]; show _ = q.val; omega
  | ⟨3, _⟩ => show win0_4.index t 3 * 256 + 1 * d.val = _; rw [hi.2.2.2]; show _ = d.val; omega
abbrev b0 (t : Fin cfg0.N) : Vec Ideal S8x4x32x256 .bf16 := iblk m c 0 t
theorem b0_at (t : Fin cfg0.N) (s : Fin 8) (p : Fin 4) (q : Fin 32) (d : Fin 256) : (b0 m c t (ix4 s p q d) : EReal) = a0 m c (ix4 s (row t p) q d) := by
  have hi := idx0 t
  rw [← V_0]
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 4 + 1 * p.val = _; rw [hi.2.1]; show _ = t.val * 4 + p.val; omega
  | ⟨2, _⟩ => show win0_0.index t 2 * 32 + 1 * q.val = _; rw [hi.2.2.1]; show _ = q.val; omega
  | ⟨3, _⟩ => show win0_0.index t 3 * 256 + 1 * d.val = _; rw [hi.2.2.2]; show _ = d.val; omega
abbrev b1 (t : Fin cfg0.N) : Vec Ideal S1x4x32x256 .f32 := iblk m c 1 t
theorem b1_at (t : Fin cfg0.N) (p : Fin 4) (q : Fin 32) (d : Fin 256) : (b1 m c t (ix4 0 p q d) : EReal) = a1 m c (ix4 0 (row t p) q d) :=
  congrArg (a1 m c) (emb t p q d)
abbrev b2 (t : Fin cfg0.N) : Vec Ideal S1x4x32x256 .f32 := iblk m c 2 t
theorem b2_at (t : Fin cfg0.N) (p : Fin 4) (q : Fin 32) (d : Fin 256) : (b2 m c t (ix4 0 p q d) : EReal) = a2 m c (ix4 0 (row t p) q d) :=
  congrArg (a2 m c) (emb t p q d)
abbrev b3 (t : Fin cfg0.N) : Vec Ideal S1x4x32x256 .f32 := iblk m c 3 t
theorem b3_at (t : Fin cfg0.N) (p : Fin 4) (q : Fin 32) (d : Fin 256) : (b3 m c t (ix4 0 p q d) : EReal) = a3 m c (ix4 0 (row t p) q d) :=
  congrArg (a3 m c) (emb t p q d)

/-! ## The four result arrays -/

/-- The gradient at an element: the eight shares summed. -/
def grad (x : Vec Ideal S8x4x32x256 .bf16) (r : Fin 4) (q : Fin 32) (d : Fin 256) : EReal := ∑ s : Fin 8, (x (ix4 s r q d) : EReal)

theorem gs_b (t : Fin cfg0.N) (p : Fin 4) (q : Fin 32) (d : Fin 256) : gs (b0 m c t) p q d = grad (a0 m c) (row t p) q d :=
  Finset.sum_congr rfl fun s _ => b0_at m c t s p q d

theorem xs4 (t : Fin cfg0.N) : win0_4.xsize (grid0.coords t) 0 = 1 ∧ win0_4.xsize (grid0.coords t) 1 = 4 ∧ win0_4.xsize (grid0.coords t) 2 = 32 ∧ win0_4.xsize (grid0.coords t) 3 = 256 :=
  (by decide +kernel : ∀ t : Fin grid0.N, win0_4.xsize (grid0.coords t) 0 = 1 ∧ win0_4.xsize (grid0.coords t) 1 = 4 ∧ win0_4.xsize (grid0.coords t) 2 = 32 ∧ win0_4.xsize (grid0.coords t) 3 = 256) t
/-- The grid point that writes an element. -/
def pt (i : S1x4x32x256.Idx) : Fin cfg0.N :=
  ⟨(i 1).val / 4, lt_of_lt_of_eq (show (i 1).val / 4 < 1 by have : (i 1 : Nat) < 4 := (i 1).isLt; omega) N_0.symm⟩
theorem cov (i : S1x4x32x256.Idx) : i ∈ (win0_4.rect (pt i)).set := by
  have h0 : (i 0 : Nat) < 1 := (i 0).isLt
  have h1 : (i 1 : Nat) < 4 := (i 1).isLt
  have h2 : (i 2 : Nat) < 32 := (i 2).isLt
  have h3 : (i 3 : Nat) < 256 := (i 3).isLt
  have hi := idx4 (pt i)
  have hx := xs4 (pt i)
  have ht : (pt i).val = (i 1).val / 4 := rfl
  rw [Rect.mem_set_unit]
  intro ax
  match ax with
  | ⟨0, _⟩ =>
    show win0_4.index (pt i) 0 * 1 ≤ (i 0 : Nat) ∧ (i 0 : Nat) < win0_4.index (pt i) 0 * 1 + win0_4.xsize (grid0.coords (pt i)) 0
    rw [hi.1, hx.1]; omega
  | ⟨1, _⟩ =>
    show win0_4.index (pt i) 1 * 4 ≤ (i 1 : Nat) ∧ (i 1 : Nat) < win0_4.index (pt i) 1 * 4 + win0_4.xsize (grid0.coords (pt i)) 1
    rw [hi.2.1, hx.2.1, ht]; omega
  | ⟨2, _⟩ =>
    show win0_4.index (pt i) 2 * 32 ≤ (i 2 : Nat) ∧ (i 2 : Nat) < win0_4.index (pt i) 2 * 32 + win0_4.xsize (grid0.coords (pt i)) 2
    rw [hi.2.2.1, hx.2.2.1]; omega
  | ⟨3, _⟩ =>
    show win0_4.index (pt i) 3 * 256 ≤ (i 3 : Nat) ∧ (i 3 : Nat) < win0_4.index (pt i) 3 * 256 + win0_4.xsize (grid0.coords (pt i)) 3
    rw [hi.2.2.2, hx.2.2.2]; omega
theorem only (j : S1x4x32x256.Idx) : ∃ (p : Fin 4) (q : Fin 32) (d : Fin 256), j = ix4 (0 : Fin 1) p q d :=
  ⟨j 1, j 2, j 3, (eq_ix4 j).trans (congrArg (fun z : Fin 1 => ix4 z (j 1) (j 2) (j 3)) (Subsingleton.elim _ _))⟩
abbrev G4 : Vec Ideal S1x4x32x256 .f32 := fun i => grad (a0 m c) (i 1) (i 2) (i 3)
theorem o4 (t : Fin cfg0.N) (p : Fin 4) (q : Fin 32) (d : Fin 256) :
    (out0_4 (F := Ideal) (b0 m c t) (b1 m c t) (b2 m c t) (b3 m c t) (ix4 0 p q d) : EReal) = grad (a0 m c) (row t p) q d := by
  rw [out4_at, gs_b]
theorem flushed4_eq (t : Fin cfg0.N) (hf : (cfg0.win 4).flush t = true) :
    (dats m 0 c).flushed 4 t = ((cfg0.win 4).blk t).view.read (Elt Ideal) (G4 m c) := by
  rw [flushed4]
  funext (j : S1x4x32x256.Idx)
  rw [View.read_apply]
  obtain ⟨p, q, d, rfl⟩ := only j
  show out0_4 (F := Ideal) (b0 m c t) (b1 m c t) (b2 m c t) (b3 m c t) (ix4 0 p q d) = G4 m c (((cfg0.win 4).blk t).view.emb (ix4 0 p q d : S1x4x32x256.Idx))
  exact (o4 m c t p q d).trans (congrArg (G4 m c) (emb t p q d)).symm
theorem final4 : (dats m 0 c).arrAt 4 cfg0.N = G4 m c :=
  (dats m 0 c).arrAt_eq_of_cover 4 (G4 m c) (flushed4_eq m c) fun i => by
    refine ⟨pt i, flush0_4 _, ?_⟩
    show i ∈ ((View.whole main_v0_0).slice (win0_4.rect (pt i))).set
    rw [View.set_slice_whole]
    exact cov i
abbrev G5 : Vec Ideal S1x4x32x256 .f32 := fun i => AdamSpec.delta (grad (a0 m c) (i 1) (i 2) (i 3)) (a1 m c (ix4 0 (i 1) (i 2) (i 3))) (a2 m c (ix4 0 (i 1) (i 2) (i 3))) (a3 m c (ix4 0 (i 1) (i 2) (i 3)))
theorem o5 (t : Fin cfg0.N) (p : Fin 4) (q : Fin 32) (d : Fin 256) :
    (out0_5 (F := Ideal) (b0 m c t) (b1 m c t) (b2 m c t) (b3 m c t) (ix4 0 p q d) : EReal) = AdamSpec.delta (grad (a0 m c) (row t p) q d) (a1 m c (ix4 0 (row t p) q d)) (a2 m c (ix4 0 (row t p) q d)) (a3 m c (ix4 0 (row t p) q d)) := by
  rw [out5_at, gs_b, b1_at, b2_at, b3_at]
theorem flushed5_eq (t : Fin cfg0.N) (hf : (cfg0.win 5).flush t = true) :
    (dats m 0 c).flushed 5 t = ((cfg0.win 5).blk t).view.read (Elt Ideal) (G5 m c) := by
  rw [flushed5]
  funext (j : S1x4x32x256.Idx)
  rw [View.read_apply]
  obtain ⟨p, q, d, rfl⟩ := only j
  show out0_5 (F := Ideal) (b0 m c t) (b1 m c t) (b2 m c t) (b3 m c t) (ix4 0 p q d) = G5 m c (((cfg0.win 5).blk t).view.emb (ix4 0 p q d : S1x4x32x256.Idx))
  exact (o5 m c t p q d).trans (congrArg (G5 m c) (emb t p q d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v0_1).slice (win0_5.rect (pt i))).set
    rw [View.set_slice_whole]
    exact cov i
abbrev G6 : Vec Ideal S1x4x32x256 .f32 := fun i => AdamSpec.newM (grad (a0 m c) (i 1) (i 2) (i 3)) (a2 m c (ix4 0 (i 1) (i 2) (i 3)))
theorem o6 (t : Fin cfg0.N) (p : Fin 4) (q : Fin 32) (d : Fin 256) :
    (out0_6 (F := Ideal) (b0 m c t) (b1 m c t) (b2 m c t) (b3 m c t) (ix4 0 p q d) : EReal) = AdamSpec.newM (grad (a0 m c) (row t p) q d) (a2 m c (ix4 0 (row t p) q d)) := by
  rw [out6_at, gs_b, b2_at]
theorem flushed6_eq (t : Fin cfg0.N) (hf : (cfg0.win 6).flush t = true) :
    (dats m 0 c).flushed 6 t = ((cfg0.win 6).blk t).view.read (Elt Ideal) (G6 m c) := by
  rw [flushed6]
  funext (j : S1x4x32x256.Idx)
  rw [View.read_apply]
  obtain ⟨p, q, d, rfl⟩ := only j
  show out0_6 (F := Ideal) (b0 m c t) (b1 m c t) (b2 m c t) (b3 m c t) (ix4 0 p q d) = G6 m c (((cfg0.win 6).blk t).view.emb (ix4 0 p q d : S1x4x32x256.Idx))
  exact (o6 m c t p q d).trans (congrArg (G6 m c) (emb t p q d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v0_2).slice (win0_6.rect (pt i))).set
    rw [View.set_slice_whole]
    exact cov i
abbrev G7 : Vec Ideal S1x4x32x256 .f32 := fun i => AdamSpec.newV (grad (a0 m c) (i 1) (i 2) (i 3)) (a3 m c (ix4 0 (i 1) (i 2) (i 3)))
theorem o7 (t : Fin cfg0.N) (p : Fin 4) (q : Fin 32) (d : Fin 256) :
    (out0_7 (F := Ideal) (b0 m c t) (b1 m c t) (b2 m c t) (b3 m c t) (ix4 0 p q d) : EReal) = AdamSpec.newV (grad (a0 m c) (row t p) q d) (a3 m c (ix4 0 (row t p) q d)) := by
  rw [out7_at, gs_b, b3_at]
theorem flushed7_eq (t : Fin cfg0.N) (hf : (cfg0.win 7).flush t = true) :
    (dats m 0 c).flushed 7 t = ((cfg0.win 7).blk t).view.read (Elt Ideal) (G7 m c) := by
  rw [flushed7]
  funext (j : S1x4x32x256.Idx)
  rw [View.read_apply]
  obtain ⟨p, q, d, rfl⟩ := only j
  show out0_7 (F := Ideal) (b0 m c t) (b1 m c t) (b2 m c t) (b3 m c t) (ix4 0 p q d) = G7 m c (((cfg0.win 7).blk t).view.emb (ix4 0 p q d : S1x4x32x256.Idx))
  exact (o7 m c t p q d).trans (congrArg (G7 m c) (emb t p q d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v0_3).slice (win0_7.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h4, h5, h6, h7, h⟩ := h c
      exact ⟨h4.trans (final4 m c), h5.trans (final5 m c), h6.trans (final6 m c), h7.trans (final7 m c), h⟩) (run_blocks m ρ)

end Cert.Kernel15Ideal.Adam

namespace Cert.Reference15Ideal.Adam

open Cert.Reference15Ideal Cert.Reference15Ideal.Gen Cert.Reference15Ideal.Read
open Idealize.ShloMosaic Idealize.ShloMosaic.TcCoe Idealize.ShloMosaic.Tactic
open Idealize.SL.Sem

/-! ## The plain step -/

variable (x0 : (⟨S8x4x32x256, .bf16⟩ : BufTy).Contents (Elt Ideal)) (x1 x2 x3 : (⟨S1x4x32x256, .f32⟩ : BufTy).Contents (Elt Ideal))
  (r : Fin 4) (q : Fin 32) (d : Fin 256)

/-- The gradient. -/
theorem grad_at : (val_main_v2 (F := Ideal) x0 (ix4 0 r q d) : EReal) = Cert.Kernel15Ideal.Adam.grad x0 r q d := by
  have h : (val_main_v1 (F := Ideal) x0 (ix3 r q d) : EReal) = Cert.Kernel15Ideal.Adam.grad x0 r q d := by
    unfold Cert.Kernel15Ideal.Adam.grad
    pointwise [val_main_v1, val_main_v0, val_main_cst]
  rw [← h]
  unfold val_main_v2
  generalize val_main_v1 (F := Ideal) x0 = y
  pointwise
theorem m_at : (val_main_v7 (F := Ideal) x0 x2 (ix4 0 r q d) : EReal) = AdamSpec.newM (Cert.Kernel15Ideal.Adam.grad x0 r q d) (x2 (ix4 0 r q d)) := by
  rw [← grad_at]
  unfold AdamSpec.newM val_main_v7 val_main_v6 val_main_v5 val_main_v4 val_main_v3 val_main_cst_0 val_main_cst_1
  generalize val_main_v2 (F := Ideal) x0 = g
  pointwise
theorem v_at : (val_main_v13 (F := Ideal) x0 x3 (ix4 0 r q d) : EReal) = AdamSpec.newV (Cert.Kernel15Ideal.Adam.grad x0 r q d) (x3 (ix4 0 r q d)) := by
  rw [← grad_at]
  unfold AdamSpec.newV val_main_v13 val_main_v12 val_main_v11 val_main_v10 val_main_v9 val_main_v8 val_main_cst_2 val_main_cst_3
  generalize val_main_v2 (F := Ideal) x0 = g
  pointwise
theorem d_at : (val_main_v26 (F := Ideal) x0 x1 x2 x3 (ix4 0 r q d) : EReal)
    = AdamSpec.delta (Cert.Kernel15Ideal.Adam.grad x0 r q d) (x1 (ix4 0 r q d)) (x2 (ix4 0 r q d)) (x3 (ix4 0 r q d)) := by
  unfold AdamSpec.delta
  rw [← m_at, ← v_at]
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  generalize val_main_v7 (F := Ideal) x0 x2 = g
  generalize val_main_v13 (F := Ideal) x0 x3 = w
  pointwise

/-! ## The claims -/

theorem frame_reference : Cert.quiescent_Reference15Ideal := by
  intro m ρ _
  exact (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- The call's four results are the plain step's. -/
theorem value : Cert.algebraic_Kernel15Ideal_Reference15Ideal := by
  intro m ρ m' ρ' _ hargs
  refine ⟨Cert.Kernel15Ideal.Adam.G4 m, Cert.Kernel15Ideal.Adam.G5 m, Cert.Kernel15Ideal.Adam.G6 m, Cert.Kernel15Ideal.Adam.G7 m, Cert.Kernel15Ideal.Adam.run m ρ, ?_⟩
  refine (θ_run Cert.Reference15Ideal.defs _ _).mono (fun r h c => ?_) (Cert.Reference15Ideal.Value.run (F := Ideal) m' ρ')
  obtain ⟨q0, q1, q2, q3, u⟩ := h c
  obtain ⟨g0, g1, g2, g3⟩ := hargs c
  refine ⟨q0.trans ?_, q1.trans ?_, q2.trans ?_, q3.trans ?_, u⟩
  · rw [val_main_v2_eq, g0]
    funext i
    obtain ⟨r, q, d, rfl⟩ : ∃ (r : Fin 4) (q : Fin 32) (d : Fin 256), i = ix4 (0 : Fin 1) r q d := ⟨i 1, i 2, i 3, (eq_ix4 i).trans (congrArg (fun z : Fin 1 => ix4 z (i 1) (i 2) (i 3)) (Subsingleton.elim _ _))⟩
    exact grad_at _ r q d
  · rw [val_main_v26_eq, g0, g1, g2, g3]
    funext i
    obtain ⟨r, q, d, rfl⟩ : ∃ (r : Fin 4) (q : Fin 32) (d : Fin 256), i = ix4 (0 : Fin 1) r q d := ⟨i 1, i 2, i 3, (eq_ix4 i).trans (congrArg (fun z : Fin 1 => ix4 z (i 1) (i 2) (i 3)) (Subsingleton.elim _ _))⟩
    exact d_at _ _ _ _ r q d
  · rw [val_main_v7_eq, g0, g2]
    funext i
    obtain ⟨r, q, d, rfl⟩ : ∃ (r : Fin 4) (q : Fin 32) (d : Fin 256), i = ix4 (0 : Fin 1) r q d := ⟨i 1, i 2, i 3, (eq_ix4 i).trans (congrArg (fun z : Fin 1 => ix4 z (i 1) (i 2) (i 3)) (Subsingleton.elim _ _))⟩
    exact m_at _ _ r q d
  · rw [val_main_v13_eq, g0, g3]
    funext i
    obtain ⟨r, q, d, rfl⟩ : ∃ (r : Fin 4) (q : Fin 32) (d : Fin 256), i = ix4 (0 : Fin 1) r q d := ⟨i 1, i 2, i 3, (eq_ix4 i).trans (congrArg (fun z : Fin 1 => ix4 z (i 1) (i 2) (i 3)) (Subsingleton.elim _ _))⟩
    exact v_at _ _ r q d

end Cert.Reference15Ideal.Adam

end
-- ==== Proof.AdamSmall.lean ====
/- The optimiser's call for the small weights that every device keeps whole, packed into rows: what it computes from the arguments, the plain step
   read at an index, and the value claim.  One grid point takes all rows; a point sums the eight devices' shares of the gradient
   and steps. -/
module

public import proofs.«01_k».proof.Defs
public import proofs.«01_k».proof.Proof.AdamSpec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit

@[expose] public section

set_option maxRecDepth 16384

noncomputable section

namespace Cert.Kernel16Ideal.Adam

open Cert.Kernel16Ideal Cert.Kernel16Ideal.Gen Cert.Kernel16Ideal.Value
open Idealize.ShloMosaic Idealize.ShloMosaic.TcCoe Idealize.ShloMosaic.Tactic
open Idealize.SL.Sem

/-! ## Loads and the whole store -/

/-- One of the eight shares, loaded. -/
theorem lg (n : Nat) (hn : n < 8) (h : ∀ a, (![n, 0, 0] : Fin 3 → Nat) a + S1x88x1024.size a ≤ S8x88x1024.size a) (x : Vec Ideal S8x88x1024 .f32) (z : Fin 1) (p : Fin 88) (d : Fin 1024) :
    (View.ld (Val := Elt Ideal) (e' := .f32) x (Rect.unit (s := S8x88x1024) ![n, 0, 0] S1x88x1024.size h) (ix3 z p d) : EReal) = x (ix3 ⟨n, hn⟩ p d) := by
  rw [View.ld_apply]
  refine congrArg x ?_
  funext ax; apply Fin.ext
  match ax with
  | ⟨0, _⟩ => show n + 1 * z.val = n; omega
  | ⟨1, _⟩ => show 0 + 1 * p.val = p.val; omega
  | ⟨2, _⟩ => show 0 + 1 * d.val = d.val; omega
theorem emb_w (z : Fin 1) (p : Fin 88) (d : Fin 1024) : r0_8.emb (ix3 z p d : S1x88x1024.Idx) = (ix3 z p d : S1x88x1024.Idx) := by
  funext ax; apply Fin.ext
  match ax with
  | ⟨0, _⟩ => show 0 + 1 * z.val = z.val; omega
  | ⟨1, _⟩ => show 0 + 1 * p.val = p.val; omega
  | ⟨2, _⟩ => show 0 + 1 * d.val = d.val; omega
theorem ls (x : Vec Ideal S1x88x1024 .f32) (z : Fin 1) (p : Fin 88) (d : Fin 1024) :
    (View.ld (Val := Elt Ideal) (e' := .f32) x r0_8 (ix3 z p d) : EReal) = x (ix3 z p d) := by
  rw [View.ld_apply]
  exact congrArg x (emb_w z p d)
theorem one (a : Vec Ideal S1x88x1024 .f32) (p : Fin 88) (d : Fin 1024) :
    (View.canon (Val := Elt Ideal) (e := .f32) [⟨r0_8, a⟩] (ix3 0 p d) : EReal) = a (ix3 0 p d) :=
  (congrArg _ (emb_w 0 p d).symm).trans (View.canon_cons_emb (Val := Elt Ideal) (e := .f32) r0_8 a _ (ix3 0 p d : S1x88x1024.Idx))

/-! ## The payloads -/

section
variable (y0 y1 y2 y3 y4 y5 y6 y7 : Vec Ideal S1x88x1024 .f32) (g g' : Vec Ideal S88x1024 .f32) (w m v : Vec Ideal S1x88x1024 .f32)
  (p : Fin 88) (d : Fin 1024)

theorem pay2_at : (k0_pay2 (F := Ideal) y0 y1 y2 y3 y4 y5 y6 y7 (ix2 p d) : EReal)
    = y0 (ix3 0 p d) + y1 (ix3 0 p d) + y2 (ix3 0 p d) + y3 (ix3 0 p d) + y4 (ix3 0 p d) + y5 (ix3 0 p d) + y6 (ix3 0 p d) + y7 (ix3 0 p d) := by
  pointwise [k0_pay2]
theorem pay3_at : (k0_pay3 (F := Ideal) y0 y1 y2 y3 y4 y5 y6 y7 m (ix2 p d) : EReal) = AdamSpec.newM (k0_pay2 (F := Ideal) y0 y1 y2 y3 y4 y5 y6 y7 (ix2 p d)) (m (ix3 0 p d)) := by
  unfold AdamSpec.newM k0_pay3
  generalize k0_pay2 (F := Ideal) y0 y1 y2 y3 y4 y5 y6 y7 = q'
  pointwise
theorem pay4_at : (k0_pay4 (F := Ideal) g v (ix2 p d) : EReal) = AdamSpec.newV (g (ix2 p d)) (v (ix3 0 p d)) := by
  unfold AdamSpec.newV
  pointwise [k0_pay4]
theorem pay5_at : (k0_pay5 (F := Ideal) g (ix3 0 p d) : EReal) = g (ix2 p d) := by
  pointwise [k0_pay5]
theorem pay7_at : (k0_pay7 (F := Ideal) g (ix3 0 p d) : EReal) = g (ix2 p d) := by
  pointwise [k0_pay7]
theorem pay1_at : (k0_pay1 (F := Ideal) g (ix3 0 p d) : EReal) = g (ix2 p d) := by
  pointwise [k0_pay1]
theorem pay6_at (hm : (g' (ix2 p d) : EReal) = AdamSpec.newM (g (ix2 p d)) (m (ix3 0 p d))) :
    (k0_pay6 (F := Ideal) g g' v w (ix3 0 p d) : EReal) = AdamSpec.delta (g (ix2 p d)) (w (ix3 0 p d)) (m (ix3 0 p d)) (v (ix3 0 p d)) := by
  have h5 := pay4_at g v p d
  unfold AdamSpec.delta k0_pay6
  rw [← hm, ← h5]
  generalize k0_pay4 (F := Ideal) g v = r
  pointwise

end

section
variable (x0 : Vec Ideal S8x88x1024 .f32) (x1 x2 x3 : Vec Ideal S1x88x1024 .f32) (p : Fin 88) (d : Fin 1024)

/-- The eight shares of the gradient at an element, summed. -/
def gs (x : Vec Ideal S8x88x1024 .f32) (p : Fin 88) (d : Fin 1024) : EReal := ∑ s : Fin 8, (x (ix3 s p d) : EReal)

theorem g_at : (k0_pay8 (F := Ideal) x0 x1 x2 x3 (ix2 p d) : EReal) = gs x0 p d := by
  unfold k0_pay8 gs
  rw [pay2_at, lg 0 (by decide), lg 1 (by decide), lg 2 (by decide), lg 3 (by decide), lg 4 (by decide), lg 5 (by decide), lg 6 (by decide), lg 7 (by decide), Fin.sum_univ_eight]
  rfl
theorem m'_at : (k0_pay9 (F := Ideal) x0 x1 x2 x3 (ix2 p d) : EReal)
    = AdamSpec.newM (k0_pay8 (F := Ideal) x0 x1 x2 x3 (ix2 p d)) (View.ld (Val := Elt Ideal) (e' := .f32) x2 r0_8 (ix3 0 p d)) := by
  unfold k0_pay9 k0_pay8
  exact pay3_at _ _ _ _ _ _ _ _ _ p d
theorem out4_at : (out0_4 (F := Ideal) x0 x1 x2 x3 (ix3 0 p d) : EReal) = gs x0 p d := by
  unfold out0_4
  rw [one]
  rw [pay5_at, g_at]
theorem out5_at : (out0_5 (F := Ideal) x0 x1 x2 x3 (ix3 0 p d) : EReal) = AdamSpec.delta (gs x0 p d) (x1 (ix3 0 p d)) (x2 (ix3 0 p d)) (x3 (ix3 0 p d)) := by
  unfold out0_5
  rw [one]
  rw [pay6_at _ _ _ (View.ld (Val := Elt Ideal) (e' := .f32) x2 r0_8) _ p d (m'_at x0 x1 x2 x3 p d), g_at, ls, ls, ls]
theorem out6_at : (out0_6 (F := Ideal) x0 x1 x2 x3 (ix3 0 p d) : EReal) = AdamSpec.newM (gs x0 p d) (x2 (ix3 0 p d)) := by
  unfold out0_6
  rw [one]
  rw [pay7_at, m'_at, g_at, ls]
theorem out7_at : (out0_7 (F := Ideal) x0 x1 x2 x3 (ix3 0 p d) : EReal) = AdamSpec.newV (gs x0 p d) (x3 (ix3 0 p d)) := by
  unfold out0_7
  rw [one]
  rw [pay1_at, pay4_at, g_at, ls]

end

/-! ## The arguments -/

variable (m : (ℓ : Loc nD τ sig) → Buf (Elt Ideal) ℓ) (c : Dev nD)

abbrev a0 : Vec Ideal S8x88x1024 .f32 := m ((c.tc : Thread nD τ).loc main_arg0)
abbrev a1 : Vec Ideal S1x88x1024 .f32 := m ((c.tc : Thread nD τ).loc main_arg1)
abbrev a2 : Vec Ideal S1x88x1024 .f32 := m ((c.tc : Thread nD τ).loc main_arg2)
abbrev a3 : Vec Ideal S1x88x1024 .f32 := m ((c.tc : Thread nD τ).loc main_arg3)
theorem V_0 : (V m c main_arg0 : Vec Ideal S8x88x1024 .f32) = a0 m c := rfl
theorem V_1 : (V m c main_arg1 : Vec Ideal S1x88x1024 .f32) = a1 m c := rfl
theorem V_2 : (V m c main_arg2 : Vec Ideal S1x88x1024 .f32) = a2 m c := rfl
theorem V_3 : (V m c main_arg3 : Vec Ideal S1x88x1024 .f32) = a3 m c := rfl

/-! ## The blocks: point `t` works on rows `t * 88 …` -/

theorem ltN (t : Fin cfg0.N) : t.val < 1 := lt_of_lt_of_eq t.isLt N_0
/-- Row `p` of point `t`'s tile. -/
def row (t : Fin cfg0.N) (p : Fin 88) : Fin 88 := ⟨t.val * 88 + p.val, by have := ltN t; omega⟩

theorem idx0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx4 (t : Fin cfg0.N) : win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0) t
/-- The state's blocks and the results' blocks lie alike: element `p` of point `t`'s block is row `row t p`. -/
theorem emb (t : Fin cfg0.N) (p : Fin 88) (d : Fin 1024) :
    ((cfg0.win 4).blk t).view.emb (ix3 0 p d : S1x88x1024.Idx) = (ix3 0 (row t p) d : S1x88x1024.Idx) := by
  have hi := idx4 t
  funext ax
  apply Fin.ext
  match ax with
  | ⟨0, _⟩ => show win0_4.index t 0 * 1 + 1 * (0 : Fin 1).val = _; rw [hi.1]; show _ = (0 : Fin 1).val; omega
  | ⟨1, _⟩ => show win0_4.index t 1 * 88 + 1 * p.val = _; rw [hi.2.1]; show _ = t.val * 88 + p.val; omega
  | ⟨2, _⟩ => show win0_4.index t 2 * 1024 + 1 * d.val = _; rw [hi.2.2]; show _ = d.val; omega
abbrev b0 (t : Fin cfg0.N) : Vec Ideal S8x88x1024 .f32 := iblk m c 0 t
theorem b0_at (t : Fin cfg0.N) (s : Fin 8) (p : Fin 88) (d : Fin 1024) : (b0 m c t (ix3 s p d) : EReal) = a0 m c (ix3 s (row t p) d) := by
  have hi := idx0 t
  rw [← V_0]
  show iblk m c 0 t _ = _
  unfold iblk
  rw [View.read_apply]
  show V m c main_arg0 _ = V m c main_arg0 _
  congr 1
  funext ax
  apply Fin.ext
  match ax with
  | ⟨0, _⟩ => show win0_0.index t 0 * 8 + 1 * s.val = _; rw [hi.1]; show _ = s.val; omega
  | ⟨1, _⟩ => show win0_0.index t 1 * 88 + 1 * p.val = _; rw [hi.2.1]; show _ = t.val * 88 + p.val; omega
  | ⟨2, _⟩ => show win0_0.index t 2 * 1024 + 1 * d.val = _; rw [hi.2.2]; show _ = d.val; omega
abbrev b1 (t : Fin cfg0.N) : Vec Ideal S1x88x1024 .f32 := iblk m c 1 t
theorem b1_at (t : Fin cfg0.N) (p : Fin 88) (d : Fin 1024) : (b1 m c t (ix3 0 p d) : EReal) = a1 m c (ix3 0 (row t p) d) :=
  congrArg (a1 m c) (emb t p d)
abbrev b2 (t : Fin cfg0.N) : Vec Ideal S1x88x1024 .f32 := iblk m c 2 t
theorem b2_at (t : Fin cfg0.N) (p : Fin 88) (d : Fin 1024) : (b2 m c t (ix3 0 p d) : EReal) = a2 m c (ix3 0 (row t p) d) :=
  congrArg (a2 m c) (emb t p d)
abbrev b3 (t : Fin cfg0.N) : Vec Ideal S1x88x1024 .f32 := iblk m c 3 t
theorem b3_at (t : Fin cfg0.N) (p : Fin 88) (d : Fin 1024) : (b3 m c t (ix3 0 p d) : EReal) = a3 m c (ix3 0 (row t p) d) :=
  congrArg (a3 m c) (emb t p d)

/-! ## The four result arrays -/

/-- The gradient at an element: the eight shares summed. -/
def grad (x : Vec Ideal S8x88x1024 .f32) (r : Fin 88) (d : Fin 1024) : EReal := ∑ s : Fin 8, (x (ix3 s r d) : EReal)

theorem gs_b (t : Fin cfg0.N) (p : Fin 88) (d : Fin 1024) : gs (b0 m c t) p d = grad (a0 m c) (row t p) d :=
  Finset.sum_congr rfl fun s _ => b0_at m c t s p d

theorem xs4 (t : Fin cfg0.N) : win0_4.xsize (grid0.coords t) 0 = 1 ∧ win0_4.xsize (grid0.coords t) 1 = 88 ∧ win0_4.xsize (grid0.coords t) 2 = 1024 :=
  (by decide +kernel : ∀ t : Fin grid0.N, win0_4.xsize (grid0.coords t) 0 = 1 ∧ win0_4.xsize (grid0.coords t) 1 = 88 ∧ win0_4.xsize (grid0.coords t) 2 = 1024) t
/-- The grid point that writes an element. -/
def pt (i : S1x88x1024.Idx) : Fin cfg0.N :=
  ⟨(i 1).val / 88, lt_of_lt_of_eq (show (i 1).val / 88 < 1 by have : (i 1 : Nat) < 88 := (i 1).isLt; omega) N_0.symm⟩
theorem cov (i : S1x88x1024.Idx) : i ∈ (win0_4.rect (pt i)).set := by
  have h0 : (i 0 : Nat) < 1 := (i 0).isLt
  have h1 : (i 1 : Nat) < 88 := (i 1).isLt
  have h2 : (i 2 : Nat) < 1024 := (i 2).isLt
  have hi := idx4 (pt i)
  have hx := xs4 (pt i)
  have ht : (pt i).val = (i 1).val / 88 := rfl
  rw [Rect.mem_set_unit]
  intro ax
  match ax with
  | ⟨0, _⟩ =>
    show win0_4.index (pt i) 0 * 1 ≤ (i 0 : Nat) ∧ (i 0 : Nat) < win0_4.index (pt i) 0 * 1 + win0_4.xsize (grid0.coords (pt i)) 0
    rw [hi.1, hx.1]; omega
  | ⟨1, _⟩ =>
    show win0_4.index (pt i) 1 * 88 ≤ (i 1 : Nat) ∧ (i 1 : Nat) < win0_4.index (pt i) 1 * 88 + win0_4.xsize (grid0.coords (pt i)) 1
    rw [hi.2.1, hx.2.1, ht]; omega
  | ⟨2, _⟩ =>
    show win0_4.index (pt i) 2 * 1024 ≤ (i 2 : Nat) ∧ (i 2 : Nat) < win0_4.index (pt i) 2 * 1024 + win0_4.xsize (grid0.coords (pt i)) 2
    rw [hi.2.2, hx.2.2]; omega
theorem only (j : S1x88x1024.Idx) : ∃ (p : Fin 88) (d : Fin 1024), j = ix3 (0 : Fin 1) p d :=
  ⟨j 1, j 2, (eq_ix3 j).trans (congrArg (fun z : Fin 1 => ix3 z (j 1) (j 2)) (Subsingleton.elim _ _))⟩
abbrev G4 : Vec Ideal S1x88x1024 .f32 := fun i => grad (a0 m c) (i 1) (i 2)
theorem o4 (t : Fin cfg0.N) (p : Fin 88) (d : Fin 1024) :
    (out0_4 (F := Ideal) (b0 m c t) (b1 m c t) (b2 m c t) (b3 m c t) (ix3 0 p d) : EReal) = grad (a0 m c) (row t p) d := by
  rw [out4_at, gs_b]
theorem flushed4_eq (t : Fin cfg0.N) (hf : (cfg0.win 4).flush t = true) :
    (dats m 0 c).flushed 4 t = ((cfg0.win 4).blk t).view.read (Elt Ideal) (G4 m c) := by
  rw [flushed4]
  funext (j : S1x88x1024.Idx)
  rw [View.read_apply]
  obtain ⟨p, d, rfl⟩ := only j
  show out0_4 (F := Ideal) (b0 m c t) (b1 m c t) (b2 m c t) (b3 m c t) (ix3 0 p d) = G4 m c (((cfg0.win 4).blk t).view.emb (ix3 0 p d : S1x88x1024.Idx))
  exact (o4 m c t p d).trans (congrArg (G4 m c) (emb t p d)).symm
theorem final4 : (dats m 0 c).arrAt 4 cfg0.N = G4 m c :=
  (dats m 0 c).arrAt_eq_of_cover 4 (G4 m c) (flushed4_eq m c) fun i => by
    refine ⟨pt i, flush0_4 _, ?_⟩
    show i ∈ ((View.whole main_v0_0).slice (win0_4.rect (pt i))).set
    rw [View.set_slice_whole]
    exact cov i
abbrev G5 : Vec Ideal S1x88x1024 .f32 := fun i => AdamSpec.delta (grad (a0 m c) (i 1) (i 2)) (a1 m c (ix3 0 (i 1) (i 2))) (a2 m c (ix3 0 (i 1) (i 2))) (a3 m c (ix3 0 (i 1) (i 2)))
theorem o5 (t : Fin cfg0.N) (p : Fin 88) (d : Fin 1024) :
    (out0_5 (F := Ideal) (b0 m c t) (b1 m c t) (b2 m c t) (b3 m c t) (ix3 0 p d) : EReal) = AdamSpec.delta (grad (a0 m c) (row t p) d) (a1 m c (ix3 0 (row t p) d)) (a2 m c (ix3 0 (row t p) d)) (a3 m c (ix3 0 (row t p) d)) := by
  rw [out5_at, gs_b, b1_at, b2_at, b3_at]
theorem flushed5_eq (t : Fin cfg0.N) (hf : (cfg0.win 5).flush t = true) :
    (dats m 0 c).flushed 5 t = ((cfg0.win 5).blk t).view.read (Elt Ideal) (G5 m c) := by
  rw [flushed5]
  funext (j : S1x88x1024.Idx)
  rw [View.read_apply]
  obtain ⟨p, d, rfl⟩ := only j
  show out0_5 (F := Ideal) (b0 m c t) (b1 m c t) (b2 m c t) (b3 m c t) (ix3 0 p d) = G5 m c (((cfg0.win 5).blk t).view.emb (ix3 0 p d : S1x88x1024.Idx))
  exact (o5 m c t p d).trans (congrArg (G5 m c) (emb t p d)).symm
theorem final5 : (dats m 0 c).arrAt 5 cfg0.N = G5 m c :=
  (dats m 0 c).arrAt_eq_of_cover 5 (G5 m c) (flushed5_eq m c) fun i => by
    refine ⟨pt i, flush0_5 _, ?_⟩
    show i ∈ ((View.whole main_v0_1).slice (win0_5.rect (pt i))).set
    rw [View.set_slice_whole]
    exact cov i
abbrev G6 : Vec Ideal S1x88x1024 .f32 := fun i => AdamSpec.newM (grad (a0 m c) (i 1) (i 2)) (a2 m c (ix3 0 (i 1) (i 2)))
theorem o6 (t : Fin cfg0.N) (p : Fin 88) (d : Fin 1024) :
    (out0_6 (F := Ideal) (b0 m c t) (b1 m c t) (b2 m c t) (b3 m c t) (ix3 0 p d) : EReal) = AdamSpec.newM (grad (a0 m c) (row t p) d) (a2 m c (ix3 0 (row t p) d)) := by
  rw [out6_at, gs_b, b2_at]
theorem flushed6_eq (t : Fin cfg0.N) (hf : (cfg0.win 6).flush t = true) :
    (dats m 0 c).flushed 6 t = ((cfg0.win 6).blk t).view.read (Elt Ideal) (G6 m c) := by
  rw [flushed6]
  funext (j : S1x88x1024.Idx)
  rw [View.read_apply]
  obtain ⟨p, d, rfl⟩ := only j
  show out0_6 (F := Ideal) (b0 m c t) (b1 m c t) (b2 m c t) (b3 m c t) (ix3 0 p d) = G6 m c (((cfg0.win 6).blk t).view.emb (ix3 0 p d : S1x88x1024.Idx))
  exact (o6 m c t p d).trans (congrArg (G6 m c) (emb t p d)).symm
theorem final6 : (dats m 0 c).arrAt 6 cfg0.N = G6 m c :=
  (dats m 0 c).arrAt_eq_of_cover 6 (G6 m c) (flushed6_eq m c) fun i => by
    refine ⟨pt i, flush0_6 _, ?_⟩
    show i ∈ ((View.whole main_v0_2).slice (win0_6.rect (pt i))).set
    rw [View.set_slice_whole]
    exact cov i
abbrev G7 : Vec Ideal S1x88x1024 .f32 := fun i => AdamSpec.newV (grad (a0 m c) (i 1) (i 2)) (a3 m c (ix3 0 (i 1) (i 2)))
theorem o7 (t : Fin cfg0.N) (p : Fin 88) (d : Fin 1024) :
    (out0_7 (F := Ideal) (b0 m c t) (b1 m c t) (b2 m c t) (b3 m c t) (ix3 0 p d) : EReal) = AdamSpec.newV (grad (a0 m c) (row t p) d) (a3 m c (ix3 0 (row t p) d)) := by
  rw [out7_at, gs_b, b3_at]
theorem flushed7_eq (t : Fin cfg0.N) (hf : (cfg0.win 7).flush t = true) :
    (dats m 0 c).flushed 7 t = ((cfg0.win 7).blk t).view.read (Elt Ideal) (G7 m c) := by
  rw [flushed7]
  funext (j : S1x88x1024.Idx)
  rw [View.read_apply]
  obtain ⟨p, d, rfl⟩ := only j
  show out0_7 (F := Ideal) (b0 m c t) (b1 m c t) (b2 m c t) (b3 m c t) (ix3 0 p d) = G7 m c (((cfg0.win 7).blk t).view.emb (ix3 0 p d : S1x88x1024.Idx))
  exact (o7 m c t p d).trans (congrArg (G7 m c) (emb t p d)).symm
theorem final7 : (dats m 0 c).arrAt 7 cfg0.N = G7 m c :=
  (dats m 0 c).arrAt_eq_of_cover 7 (G7 m c) (flushed7_eq m c) fun i => by
    refine ⟨pt i, flush0_7 _, ?_⟩
    show i ∈ ((View.whole main_v0_3).slice (win0_7.rect (pt i))).set
    rw [View.set_slice_whole]
    exact cov i
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h4, h5, h6, h7, h⟩ := h c
      exact ⟨h4.trans (final4 m c), h5.trans (final5 m c), h6.trans (final6 m c), h7.trans (final7 m c), h⟩) (run_blocks m ρ)

end Cert.Kernel16Ideal.Adam

namespace Cert.Reference16Ideal.Adam

open Cert.Reference16Ideal Cert.Reference16Ideal.Gen Cert.Reference16Ideal.Read
open Idealize.ShloMosaic Idealize.ShloMosaic.TcCoe Idealize.ShloMosaic.Tactic
open Idealize.SL.Sem

/-! ## The plain step -/

variable (x0 : (⟨S8x88x1024, .f32⟩ : BufTy).Contents (Elt Ideal)) (x1 x2 x3 : (⟨S1x88x1024, .f32⟩ : BufTy).Contents (Elt Ideal))
  (r : Fin 88) (d : Fin 1024)

/-- The gradient. -/
theorem grad_at : (val_main_v1 (F := Ideal) x0 (ix3 0 r d) : EReal) = Cert.Kernel16Ideal.Adam.grad x0 r d := by
  have h : (val_main_v0 (F := Ideal) x0 (ix2 r d) : EReal) = Cert.Kernel16Ideal.Adam.grad x0 r d := by
    unfold Cert.Kernel16Ideal.Adam.grad
    pointwise [val_main_v0, val_main_cst]
  rw [← h]
  unfold val_main_v1
  generalize val_main_v0 (F := Ideal) x0 = y
  pointwise
theorem m_at : (val_main_v6 (F := Ideal) x0 x2 (ix3 0 r d) : EReal) = AdamSpec.newM (Cert.Kernel16Ideal.Adam.grad x0 r d) (x2 (ix3 0 r d)) := by
  rw [← grad_at]
  unfold AdamSpec.newM val_main_v6 val_main_v5 val_main_v4 val_main_v3 val_main_v2 val_main_cst_0 val_main_cst_1
  generalize val_main_v1 (F := Ideal) x0 = g
  pointwise
theorem v_at : (val_main_v12 (F := Ideal) x0 x3 (ix3 0 r d) : EReal) = AdamSpec.newV (Cert.Kernel16Ideal.Adam.grad x0 r d) (x3 (ix3 0 r d)) := by
  rw [← grad_at]
  unfold AdamSpec.newV val_main_v12 val_main_v11 val_main_v10 val_main_v9 val_main_v8 val_main_v7 val_main_cst_2 val_main_cst_3
  generalize val_main_v1 (F := Ideal) x0 = g
  pointwise
theorem d_at : (val_main_v25 (F := Ideal) x0 x1 x2 x3 (ix3 0 r d) : EReal)
    = AdamSpec.delta (Cert.Kernel16Ideal.Adam.grad x0 r d) (x1 (ix3 0 r d)) (x2 (ix3 0 r d)) (x3 (ix3 0 r d)) := by
  unfold AdamSpec.delta
  rw [← m_at, ← v_at]
  unfold val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  generalize val_main_v6 (F := Ideal) x0 x2 = g
  generalize val_main_v12 (F := Ideal) x0 x3 = w
  pointwise

/-! ## The claims -/

theorem frame_reference : Cert.quiescent_Reference16Ideal := by
  intro m ρ _
  exact (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

/-- The call's four results are the plain step's. -/
theorem value : Cert.algebraic_Kernel16Ideal_Reference16Ideal := by
  intro m ρ m' ρ' _ hargs
  refine ⟨Cert.Kernel16Ideal.Adam.G4 m, Cert.Kernel16Ideal.Adam.G5 m, Cert.Kernel16Ideal.Adam.G6 m, Cert.Kernel16Ideal.Adam.G7 m, Cert.Kernel16Ideal.Adam.run m ρ, ?_⟩
  refine (θ_run Cert.Reference16Ideal.defs _ _).mono (fun r h c => ?_) (Cert.Reference16Ideal.Value.run (F := Ideal) m' ρ')
  obtain ⟨q0, q1, q2, q3, u⟩ := h c
  obtain ⟨g0, g1, g2, g3⟩ := hargs c
  refine ⟨q0.trans ?_, q1.trans ?_, q2.trans ?_, q3.trans ?_, u⟩
  · rw [val_main_v1_eq, g0]
    funext i
    obtain ⟨r, d, rfl⟩ : ∃ (r : Fin 88) (d : Fin 1024), i = ix3 (0 : Fin 1) r d := ⟨i 1, i 2, (eq_ix3 i).trans (congrArg (fun z : Fin 1 => ix3 z (i 1) (i 2)) (Subsingleton.elim _ _))⟩
    exact grad_at _ r d
  · rw [val_main_v25_eq, g0, g1, g2, g3]
    funext i
    obtain ⟨r, d, rfl⟩ : ∃ (r : Fin 88) (d : Fin 1024), i = ix3 (0 : Fin 1) r d := ⟨i 1, i 2, (eq_ix3 i).trans (congrArg (fun z : Fin 1 => ix3 z (i 1) (i 2)) (Subsingleton.elim _ _))⟩
    exact d_at _ _ _ _ r d
  · rw [val_main_v6_eq, g0, g2]
    funext i
    obtain ⟨r, d, rfl⟩ : ∃ (r : Fin 88) (d : Fin 1024), i = ix3 (0 : Fin 1) r d := ⟨i 1, i 2, (eq_ix3 i).trans (congrArg (fun z : Fin 1 => ix3 z (i 1) (i 2)) (Subsingleton.elim _ _))⟩
    exact m_at _ _ r d
  · rw [val_main_v12_eq, g0, g3]
    funext i
    obtain ⟨r, d, rfl⟩ : ∃ (r : Fin 88) (d : Fin 1024), i = ix3 (0 : Fin 1) r d := ⟨i 1, i 2, (eq_ix3 i).trans (congrArg (fun z : Fin 1 => ix3 z (i 1) (i 2)) (Subsingleton.elim _ _))⟩
    exact v_at _ _ r d

end Cert.Reference16Ideal.Adam

end
-- ==== Proof.PoolVal.lean ====
/- The pooling mixer's forward pass: what each grid point computes from its 512 rows and the 16 rows before them, and
   the plain forward pass read at an index. -/
module

public import proofs.«01_k».proof.Defs
public import proofs.«01_k».proof.Proof.FfnSpec
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.KernelVsHost
public import Idealize.ShloMosaic.Lib.Pipeline.ValueKit

@[expose] public section

set_option maxRecDepth 16384

noncomputable section

namespace Cert.PoolSpec

open Idealize.ShloMosaic

section
variable (X : Fin 8192 → Fin 1024 → EReal) (NW : Fin 1024 → EReal) (PW : Fin 4 → Fin 256 → Fin 256 → EReal) (SC : Fin 1024 → EReal)

/-- The normalised row `s` rows back, zero before the first row. -/
def back (s : Nat) (t : Fin 8192) (d : Fin 1024) : EReal :=
  if s ≤ t.val then FfnSpec.xn X NW ⟨t.val - s, by omega⟩ d else 0
/-- The sum of the last `W` rows. -/
def win (W : Nat) (t : Fin 8192) (d : Fin 1024) : EReal := ∑ s ∈ Finset.range W, back X NW s t d
/-- How many rows the sum holds. -/
def cnt (W : Nat) (t : Fin 8192) : EReal := min (((t.val + 1 : ℕ) : ℝ) : EReal) ((W : ℝ) : EReal)
/-- A group of 256 columns from column `o` on: the mean of the last `W` rows less the row itself, through the group's weights. -/
def mix (W o : Nat) (ho : o + 256 ≤ 1024) (g : Fin 4) (t : Fin 8192) (j : Fin 256) : EReal :=
  ∑ k : Fin 256, (win X NW W t ⟨o + k.val, by omega⟩ * Ideal.div 1 (cnt W t) - FfnSpec.xn X NW t ⟨o + k.val, by omega⟩) * PW g k j
/-- The four groups next to one another. -/
def mixes (t : Fin 8192) (d : Fin 1024) : EReal :=
  if h : d.val < 256 then mix X NW PW 2 0 (by omega) 0 t ⟨d.val, h⟩
  else if h1 : d.val - 256 < 256 then mix X NW PW 4 256 (by omega) 1 t ⟨d.val - 256, h1⟩
  else if h2 : d.val - 256 - 256 < 256 then mix X NW PW 8 512 (by omega) 2 t ⟨d.val - 256 - 256, h2⟩
  else mix X NW PW 16 768 (by omega) 3 t ⟨d.val - 256 - 256 - 256, by omega⟩
/-- The result. -/
def out (t : Fin 8192) (d : Fin 1024) : EReal := X t d + mixes X NW PW t d * SC d
end

theorem cnt_ne (W : Nat) (hW : 0 < W) (t : Fin 8192) : cnt W t ≠ 0 := by
  refine ne_of_gt (lt_min ?_ ?_)
  · exact_mod_cast Nat.succ_pos t.val
  · exact_mod_cast hW

/-- Dividing by the number of rows is multiplying by its reciprocal. -/
theorem div_cnt (W : Nat) (hW : 0 < W) (t : Fin 8192) (a : EReal) : Ideal.div a (cnt W t) = a * Ideal.div 1 (cnt W t) := by
  unfold Ideal.div
  rw [if_neg (cnt_ne W hW t), if_neg (cnt_ne W hW t), one_mul]

theorem c1_eq : Ideal.ofBits .f32 0x3F800000#32 = 1 := by
  rw [← EReal.coe_one]
  simp [Ideal.ofBits, Ideal.ieee, -EReal.coe_mul, -EReal.coe_one]; norm_num
theorem c2_eq : Ideal.ofBits .f32 0x40000000#32 = (((2 : ℕ) : ℝ) : EReal) := by
  simp [Ideal.ofBits, Ideal.ieee, -EReal.coe_mul]; norm_num
theorem c4_eq : Ideal.ofBits .f32 0x40800000#32 = (((4 : ℕ) : ℝ) : EReal) := by
  simp [Ideal.ofBits, Ideal.ieee, -EReal.coe_mul]; norm_num
theorem c8_eq : Ideal.ofBits .f32 0x41000000#32 = (((8 : ℕ) : ℝ) : EReal) := by
  simp [Ideal.ofBits, Ideal.ieee, -EReal.coe_mul]; norm_num
theorem c16_eq : Ideal.ofBits .f32 0x41800000#32 = (((16 : ℕ) : ℝ) : EReal) := by
  simp [Ideal.ofBits, Ideal.ieee, -EReal.coe_mul]; norm_num

theorem toInt_small (n : Nat) (h : n < 16384) : ((BitVec.ofNat 32 n).toInt : ℝ) = (n : ℝ) := by
  have e : (BitVec.ofNat 32 n).toInt = (n : ℤ) := by
    rw [BitVec.toInt_eq_toNat_of_lt] <;> simp only [BitVec.toNat_ofNat] <;> omega
  rw [e]; simp

end Cert.PoolSpec

namespace Cert.Kernel17Ideal.Pool

open Cert.Kernel17Ideal Cert.Kernel17Ideal.Gen Cert.Kernel17Ideal.Value
open Idealize.ShloMosaic Idealize.ShloMosaic.TcCoe Idealize.ShloMosaic.Tactic Idealize.ShloMosaic.StableHlo
open Idealize.SL.Sem
open Idealize.ShloMosaic.Pipeline (Dat Cfg Window)

/-! ## One group -/

/-- A group's pooled rows less the rows themselves, through its weights. -/
def grp (y x : FVec Ideal S528x256 .f32) (q : FVec Ideal S528x1 .f32) (w : Vec Ideal S1x256x256 .bf16) : FVec Ideal S512x256 .f32 :=
  matmul dot_S512x256_S256x256_S512x256_1_0_0_1_n_n none (truncf .bf16
    (subf (mulf (extractStridedSlice S512x256 ![16, 0] y slices_S528x256_o16_0_S512x256)
        (broadcastTo S512x256 (extractStridedSlice S512x1 ![0, 0] q slices_S528x1_o0_0_S512x1) broadcasts_S512x1_S512x256))
      (extractStridedSlice S512x256 ![16, 0] x slices_S528x256_o16_0_S512x256)) bitsLt_bf16_f32)
    (shapeCast S256x256 w shapeCasts_S1x256x256_S256x256 : FVec Ideal S256x256 .bf16) (constant S512x256 .f32 0x00000000#32)

theorem grp_at (y x : FVec Ideal S528x256 .f32) (q : FVec Ideal S528x1 .f32) (w : Vec Ideal S1x256x256 .bf16) (p : Fin 512) (j : Fin 256) :
    (grp y x q w (ix2 p j) : EReal) = ∑ k : Fin 256, (y (ix2 ⟨16 + p.val, by omega⟩ k) * q (ix2 ⟨p.val, by omega⟩ 0) - x (ix2 ⟨16 + p.val, by omega⟩ k) : EReal) * w (ix3 0 k j) := by
  pointwise [grp]

/-- Adding the array to itself, rotated. -/
def dbl (x : FVec Ideal S528x256 .f32) (sb : BitVec 32) : FVec Ideal S528x256 .f32 := addf x (dynamicRotate 0 sb none x rotates_S528x256_d0)

theorem rot_at (x : FVec Ideal S528x256 .f32) (sb : BitVec 32) (hs : sb.toNat < 528) (r : Fin 528) (h : sb.toNat ≤ r.val) (n : Fin 256) :
    dynamicRotate 0 sb none x rotates_S528x256_d0 (ix2 r n) = x (ix2 ⟨r.val - sb.toNat, by omega⟩ n) := by
  refine dynamicRotate_apply (s := S528x256) 0 sb x rotates_S528x256_d0 _ _ fun b => ?_
  match b with
  | ⟨0, _⟩ =>
    show r.val - sb.toNat = (r.val + 528 - sb.toNat % 528) % 528
    omega
  | ⟨1, _⟩ => rfl

/-- Row `r` of an array, at any number. -/
def at' (x : FVec Ideal S528x256 .f32) (r : Nat) (n : Fin 256) : EReal := x (ix2 ⟨r % 528, Nat.mod_lt _ (by decide)⟩ n)

/-- The array holds at each row the sum of `x`'s last `W` rows, where there are so many. -/
def Sums (W : Nat) (x y : FVec Ideal S528x256 .f32) : Prop :=
  ∀ (r : Fin 528) (n : Fin 256), W ≤ r.val + 1 → (y (ix2 r n) : EReal) = ∑ s ∈ Finset.range W, at' x (r.val - s) n

theorem sums_one (x : FVec Ideal S528x256 .f32) : Sums 1 x x := fun r n _ => by
  rw [Finset.sum_range_one]
  exact congrArg x (congrArg (fun q => ix2 q n) (Fin.ext (show r.val = (r.val - 0) % 528 by omega)))

theorem sums_dbl (W : Nat) (hW : W < 528) (x y : FVec Ideal S528x256 .f32) (h : Sums W x y) : Sums (W + W) x (dbl y (BitVec.ofNat 32 W)) := fun r n hr => by
  have hb : (BitVec.ofNat 32 W).toNat = W := by rw [BitVec.toNat_ofNat]; omega
  unfold dbl
  show (y (ix2 r n) : EReal) + dynamicRotate 0 (BitVec.ofNat 32 W) none y rotates_S528x256_d0 (ix2 r n) = _
  rw [rot_at y _ (by omega) r (by omega), h r n (by omega), h _ n (show W ≤ r.val - (BitVec.ofNat 32 W).toNat + 1 by omega), Finset.sum_range_add]
  congr 1
  refine Finset.sum_congr rfl fun s _ => ?_
  rw [show r.val - (BitVec.ofNat 32 W).toNat - s = r.val - (W + s) by omega]

/-! ## The rows with the rows before them -/

def nrm16 (v : Vec Ideal S16x1024 .f32) (v2 : Vec Ideal S1x1024 .f32) : FVec Ideal S16x1024 .f32 :=
  mulf (mulf v (broadcastTo S16x1024 (rsqrt (addf (divf (shapeCast S16x1 (multiReduction .add [1] S16 (mulf v v) 0x00000000#32 reduces_S16x1024_S16 (.inl rfl) rfl) shapeCasts_S16_S16x1)
      (broadcast S16x1 (Scalar.ofBits .f32 0x44800000#32 : Ideal .f32))) (broadcast S16x1 (Scalar.ofBits .f32 0x358637BD#32 : Ideal .f32)))) broadcasts_S16x1_S16x1024))
    (broadcastTo S16x1024 (shapeCast S1x1024 v2 shapeCasts_S1x1024_S1x1024) broadcasts_S1x1024_S16x1024)
def nrm512 (v : Vec Ideal S512x1024 .f32) (v2 : Vec Ideal S1x1024 .f32) : FVec Ideal S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
      (broadcast S512x1 (Scalar.ofBits .f32 0x44800000#32 : Ideal .f32))) (broadcast S512x1 (Scalar.ofBits .f32 0x358637BD#32 : Ideal .f32)))) broadcasts_S512x1_S512x1024))
    (broadcastTo S512x1024 (shapeCast S1x1024 v2 shapeCasts_S1x1024_S1x1024) broadcasts_S1x1024_S512x1024)

theorem nrm16_at (v : Vec Ideal S16x1024 .f32) (v2 : Vec Ideal S1x1024 .f32) (p : Fin 16) (d : Fin 1024) : (nrm16 v v2 (ix2 p d) : EReal)
    = v (ix2 p d) * Ideal.rsqrt (Ideal.div (∑ d : Fin 1024, (v (ix2 p d) : EReal) * v (ix2 p d)) FfnSpec.cN + FfnSpec.cE) * v2 (ix2 0 d) := by
  pointwise [nrm16]
theorem nrm512_at (v : Vec Ideal S512x1024 .f32) (v2 : Vec Ideal S1x1024 .f32) (p : Fin 512) (d : Fin 1024) : (nrm512 v v2 (ix2 p d) : EReal)
    = v (ix2 p d) * Ideal.rsqrt (Ideal.div (∑ d : Fin 1024, (v (ix2 p d) : EReal) * v (ix2 p d)) FfnSpec.cN + FfnSpec.cE) * v2 (ix2 0 d) := by
  pointwise [nrm512]

theorem ext_hi (i : grid0.Coords) (v0 : Vec Ideal S512x1024 .f32) (v1 : Vec Ideal S16x1024 .f32) (v2 : Vec Ideal S1x1024 .f32) (r : Fin 528) (h : 16 ≤ r.val) (n : Fin 1024) :
    (k0_pay1 (F := Ideal) i v0 v1 v2 (ix2 r n) : EReal) = nrm512 v0 v2 (ix2 ⟨r.val - 16, by omega⟩ n) := by
  unfold k0_pay1
  refine (concatenate_pair_apply_right (t := S528x1024) (s₁ := S16x1024) (s₂ := S512x1024) 0 _ _ _ (ix2 r n) rfl rfl (ix2 ⟨r.val - 16, by omega⟩ n) ?_ ?_).trans rfl
  · intro b hb
    match b, hb with
    | ⟨0, _⟩, hb => exact absurd rfl hb
    | ⟨1, _⟩, _ => rfl
  · show r.val - 16 + 16 = r.val
    omega

theorem ext_lo (i : grid0.Coords) (v0 : Vec Ideal S512x1024 .f32) (v1 : Vec Ideal S16x1024 .f32) (v2 : Vec Ideal S1x1024 .f32) (r : Fin 528) (h : r.val < 16) (n : Fin 1024) :
    (k0_pay1 (F := Ideal) i v0 v1 v2 (ix2 r n) : EReal) = if (i 0).val = 0 then (0 : EReal) else nrm16 v1 v2 (ix2 ⟨r.val, h⟩ n) := by
  unfold k0_pay1
  refine (concatenate_pair_apply_left (t := S528x1024) (s₁ := S16x1024) (s₂ := S512x1024) 0 _ _ _ (ix2 r n) rfl (ix2 ⟨r.val, h⟩ n) ?_).trans ?_
  · intro b
    match b with
    | ⟨0, _⟩ => rfl
    | ⟨1, _⟩ => rfl
  · show Scalar.select (Scalar.cmpi .eq (BitVec.ofNat 32 (i 0).val) 0#32) (broadcast S16x1024 (Scalar.ofBits .f32 0x00000000#32 : Ideal .f32)) (nrm16 v1 v2) (ix2 ⟨r.val, h⟩ n) = _
    have hi : (i 0).val < 16 := (i 0).isLt
    generalize (i 0).val = q at hi ⊢
    have hc : Scalar.cmpi .eq (BitVec.ofNat 32 q) 0#32 = if q = 0 then 1#1 else 0#1 :=
      (by decide +kernel : ∀ q : Fin 16, Scalar.cmpi .eq (BitVec.ofNat 32 q.val) 0#32 = if q.val = 0 then 1#1 else 0#1) ⟨q, hi⟩
    rw [hc]
    by_cases hq : q = 0
    · rw [if_pos hq, if_pos hq]
      show (Scalar.ofBits .f32 0x00000000#32 : Ideal .f32) = (0 : EReal)
      pointwise
    · rw [if_neg hq, if_neg hq]
      rfl

/-! ## The counts -/

theorem pos_at (i : grid0.Coords) (r : Fin 528) (z : Fin 1) : (k0_pay2 (F := Ideal) i (ix2 r z) : EReal) = (((i 0).val * 512 + r.val + 1 : ℕ) : ℝ) := by
  have hi : (i 0).val < 16 := (i 0).isLt
  refine Eq.trans (b := (((BitVec.ofNat 32 ((i 0).val * 512 + r.val + 1)).toInt : ℝ) : EReal)) ?_ (congrArg _ (PoolSpec.toInt_small _ (by omega)))
  have hb : BitVec.ofNat 32 r.val + BitVec.ofNat 32 (i 0).val * 512#32 + 1#32 = BitVec.ofNat 32 ((i 0).val * 512 + r.val + 1) := by
    apply BitVec.eq_of_toNat_eq
    simp only [BitVec.toNat_add, BitVec.toNat_mul, BitVec.toNat_ofNat]
    omega
  rw [← hb]
  pointwise [k0_pay2]
  rfl

/-- The reciprocal of a count at most `W`. -/
def rcp (cb : BitVec 32) (q : FVec Ideal S528x1 .f32) : FVec Ideal S528x1 .f32 :=
  divf (broadcast S528x1 (Scalar.ofBits .f32 0x3F800000#32 : Ideal .f32)) (minimumf q (broadcast S528x1 (Scalar.ofBits .f32 cb : Ideal .f32)))
theorem rcp_at (cb : BitVec 32) (q : FVec Ideal S528x1 .f32) (r : Fin 528) (z : Fin 1) :
    (rcp cb q (ix2 r z) : EReal) = Ideal.div 1 (min (q (ix2 r z)) (Ideal.ofBits .f32 cb)) := by
  rw [← PoolSpec.c1_eq]
  pointwise [rcp]

/-! ## The whole body -/

abbrev cols (o : Nat) (h : S528x1024.Slices ![0, o] S528x256) (e : FVec Ideal S528x1024 .f32) : FVec Ideal S528x256 .f32 := extractStridedSlice S528x256 ![0, o] e h
def s2 (x : FVec Ideal S528x256 .f32) : FVec Ideal S528x256 .f32 := dbl x 1#32
def s4 (x : FVec Ideal S528x256 .f32) : FVec Ideal S528x256 .f32 := dbl (s2 x) 2#32
def s8 (x : FVec Ideal S528x256 .f32) : FVec Ideal S528x256 .f32 := dbl (s4 x) 4#32
def s16 (x : FVec Ideal S528x256 .f32) : FVec Ideal S528x256 .f32 := dbl (s8 x) 8#32
theorem sums2 (x : FVec Ideal S528x256 .f32) : Sums 2 x (s2 x) := sums_dbl 1 (by decide) x x (sums_one x)
theorem sums4 (x : FVec Ideal S528x256 .f32) : Sums 4 x (s4 x) := sums_dbl 2 (by decide) x _ (sums2 x)
theorem sums8 (x : FVec Ideal S528x256 .f32) : Sums 8 x (s8 x) := sums_dbl 4 (by decide) x _ (sums4 x)
theorem sums16 (x : FVec Ideal S528x256 .f32) : Sums 16 x (s16 x) := sums_dbl 8 (by decide) x _ (sums8 x)

/-- The four groups joined, scaled and added to the rows. -/
def join (v0 : Vec Ideal S512x1024 .f32) (a b e f : FVec Ideal S512x256 .f32) (v120 : Vec Ideal S1x1024 .f32) : FVec Ideal S512x1024 .f32 :=
  addf v0 (mulf (concatenate S512x1024 1 [⟨S512x256, a⟩, ⟨S512x256, b⟩, ⟨S512x256, e⟩, ⟨S512x256, f⟩] concatenates_S512x256_S512x256_S512x256_S512x256_S512x1024_d1)
    (broadcastTo S512x1024 v120 broadcasts_S1x1024_S512x1024))
theorem join_at (v0 : Vec Ideal S512x1024 .f32) (a b e f : FVec Ideal S512x256 .f32) (v120 : Vec Ideal S1x1024 .f32) (p : Fin 512) (d : Fin 1024) :
    (join v0 a b e f v120 (ix2 p d) : EReal) = v0 (ix2 p d) + (if h : d.val < 256 then (a (ix2 p ⟨d.val, h⟩) : EReal)
      else if h1 : d.val - 256 < 256 then b (ix2 p ⟨d.val - 256, h1⟩)
      else if h2 : d.val - 256 - 256 < 256 then e (ix2 p ⟨d.val - 256 - 256, h2⟩)
      else f (ix2 p ⟨d.val - 256 - 256 - 256, by omega⟩)) * v120 (ix2 0 d) := by
  pointwise [join]

section
variable (m : (ℓ : Loc nD τ sig) → Buf (Elt Ideal) ℓ) (c : Dev nD)

abbrev a0 : Vec Ideal S8192x1024 .f32 := m ((c.tc : Thread nD τ).loc main_arg0)
abbrev a1 : Vec Ideal S1024 .f32 := m ((c.tc : Thread nD τ).loc main_arg1)
abbrev a2 : Vec Ideal S4x256x256 .f32 := m ((c.tc : Thread nD τ).loc main_arg2)
abbrev a3 : Vec Ideal S1x1024 .f32 := m ((c.tc : Thread nD τ).loc main_arg3)
def fX (t : Fin 8192) (d : Fin 1024) : EReal := a0 m c (ix2 t d)
def fN (d : Fin 1024) : EReal := a1 m c (ix1 d)
def fP (g : Fin 4) (k j : Fin 256) : EReal := a2 m c (ix3 g k j)
def fS (d : Fin 1024) : EReal := a3 m c (ix2 0 d)

theorem V_v0 : (V m c main_v0 : Vec Ideal S1x1024 .f32) = shapeCast S1x1024 (a1 m c) shapeCasts_S1024_S1x1024 := by
  show StableHlo.after hostOps0 (fun b => m (c, b)) (Proc.devRef .tc main_v0) = _
  simp only [hostOps0]
  after_results_simp <;> rfl
theorem V_v1 : (V m c main_v1 : Vec Ideal S4x256x256 .bf16) = truncf (F := Ideal) .bf16 (a2 m c) bitsLt_bf16_f32 := by
  show StableHlo.after hostOps0 (fun b => m (c, b)) (Proc.devRef .tc main_v1) = _
  simp only [hostOps0]
  after_results_simp <;> rfl

abbrev bX (t : Fin cfg0.N) : Vec Ideal S512x1024 .f32 := iblk m c 0 t
abbrev bH (t : Fin cfg0.N) : Vec Ideal S16x1024 .f32 := iblk m c 1 t
abbrev bN (t : Fin cfg0.N) : Vec Ideal S1x1024 .f32 := iblk m c 2 t
abbrev bP (t : Fin cfg0.N) : Vec Ideal S4x256x256 .bf16 := iblk m c 3 t
abbrev bS (t : Fin cfg0.N) : Vec Ideal S1x1024 .f32 := iblk m c 4 t

theorem N16 : cfg0.N = 16 := N_0
theorem lt16 (t : Fin cfg0.N) : t.val < 16 := lt_of_lt_of_eq t.isLt N16
/-- Row `p` of point `t`'s tile. -/
def row (t : Fin cfg0.N) (p : Fin 512) : Fin 8192 := ⟨t.val * 512 + p.val, by have := lt16 t; omega⟩

theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val * 32 - 1 ∧ win0_1.index t 1 = 0 :=
  (by decide +kernel : ∀ t : Fin grid0.N, win0_1.index t 0 = t.val * 32 - 1 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
theorem idx3 (t : Fin cfg0.N) : win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem coord0 (t : Fin cfg0.N) : (grid0.coords t 0).val = t.val :=
  (by decide +kernel : ∀ t : Fin grid0.N, (grid0.coords t 0).val = t.val) t

theorem bX_at (t : Fin cfg0.N) (p : Fin 512) (n : Fin 1024) : bX m c t (ix2 p n) = fX m c (row t p) n := by
  have hi := idx0 t
  show iblk m c 0 t _ = _
  unfold iblk fX
  rw [View.read_apply]
  show V m c main_arg0 _ = _
  rw [V_main_arg0]
  show a0 m c _ = a0 m c _
  congr 1
  funext ax
  apply Fin.ext
  match ax with
  | ⟨0, _⟩ => show win0_0.index t 0 * 512 + 1 * p.val = _; rw [hi.1]; show _ = t.val * 512 + p.val; omega
  | ⟨1, _⟩ => show win0_0.index t 1 * 1024 + 1 * n.val = _; rw [hi.2]; show _ = n.val; omega
theorem bH_at (t : Fin cfg0.N) (q : Fin 16) (n : Fin 1024) :
    bH m c t (ix2 q n) = fX m c ⟨(t.val * 32 - 1) * 16 + q.val, by have := lt16 t; omega⟩ n := by
  have hi := idx1 t
  show iblk m c 1 t _ = _
  unfold iblk fX
  rw [View.read_apply]
  show V m c main_arg0 _ = _
  rw [V_main_arg0]
  show a0 m c _ = a0 m c _
  congr 1
  funext ax
  apply Fin.ext
  match ax with
  | ⟨0, _⟩ => show win0_1.index t 0 * 16 + 1 * q.val = _; rw [hi.1]; show _ = (t.val * 32 - 1) * 16 + q.val; omega
  | ⟨1, _⟩ => show win0_1.index t 1 * 1024 + 1 * n.val = _; rw [hi.2]; show _ = n.val; omega
theorem bN_at (t : Fin cfg0.N) (n : Fin 1024) : bN m c t (ix2 0 n) = fN m c n := by
  have hi := idx2 t
  refine Eq.trans (b := (V m c main_v0 : Vec Ideal S1x1024 .f32) (ix2 0 n)) ?_ ?_
  · show iblk m c 2 t _ = _
    unfold iblk
    rw [View.read_apply]
    show V m c main_v0 _ = V m c main_v0 _
    congr 1
    funext ax
    apply Fin.ext
    match ax with
    | ⟨0, _⟩ => show win0_2.index t 0 * 1 + 1 * 0 = _; rw [hi.1]; rfl
    | ⟨1, _⟩ => show win0_2.index t 1 * 1024 + 1 * n.val = _; rw [hi.2]; show _ = n.val; omega
  · rw [V_v0]
    unfold fN
    pointwise
theorem bP_at (t : Fin cfg0.N) (g : Fin 4) (k j : Fin 256) : bP m c t (ix3 g k j) = fP m c g k j := by
  have hi := idx3 t
  show iblk m c 3 t _ = _
  unfold iblk fP
  rw [View.read_apply]
  show (V m c main_v1 : Vec Ideal S4x256x256 .bf16) _ = _
  rw [V_v1]
  show a2 m c _ = a2 m c _
  congr 1
  funext ax
  apply Fin.ext
  match ax with
  | ⟨0, _⟩ => show win0_3.index t 0 * 4 + 1 * g.val = _; rw [hi.1]; show _ = g.val; omega
  | ⟨1, _⟩ => show win0_3.index t 1 * 256 + 1 * k.val = _; rw [hi.2.1]; show _ = k.val; omega
  | ⟨2, _⟩ => show win0_3.index t 2 * 256 + 1 * j.val = _; rw [hi.2.2]; show _ = j.val; omega
theorem bS_at (t : Fin cfg0.N) (n : Fin 1024) : bS m c t (ix2 0 n) = fS m c n := by
  have hi := idx4 t
  show iblk m c 4 t _ = _
  unfold iblk fS
  rw [View.read_apply]
  show V m c main_arg3 _ = _
  rw [V_main_arg3]
  show a3 m c _ = a3 m c _
  congr 1
  funext ax
  apply Fin.ext
  match ax with
  | ⟨0, _⟩ => show win0_4.index t 0 * 1 + 1 * 0 = _; rw [hi.1]; rfl
  | ⟨1, _⟩ => show win0_4.index t 1 * 1024 + 1 * n.val = _; rw [hi.2]; show _ = n.val; omega

/-- The point's rows with the rows before them, normalised. -/
abbrev E (t : Fin cfg0.N) : FVec Ideal S528x1024 .f32 := k0_pay1 (F := Ideal) (grid0.coords t) (bX m c t) (bH m c t) (bN m c t)

theorem E_at (t : Fin cfg0.N) (p : Fin 512) (s : Nat) (hs : s ≤ 15) (r : Fin 528) (hr : r.val = 16 + p.val - s) (d : Fin 1024) :
    (E m c t (ix2 r d) : EReal) = PoolSpec.back (fX m c) (fN m c) s (row t p) d := by
  have h16 := lt16 t
  unfold PoolSpec.back
  show (k0_pay1 (F := Ideal) (grid0.coords t) (bX m c t) (bH m c t) (bN m c t) (ix2 r d) : EReal) = _
  by_cases h : 16 ≤ r.val
  · rw [ext_hi _ _ _ _ r h, nrm512_at, if_pos (show s ≤ (row t p).val by show s ≤ t.val * 512 + p.val; omega)]
    simp only [bX_at, bN_at]
    unfold FfnSpec.xn FfnSpec.rs FfnSpec.ms
    rw [show row t ⟨r.val - 16, by omega⟩ = ⟨(row t p).val - s, by omega⟩ from Fin.ext (show t.val * 512 + (r.val - 16) = t.val * 512 + p.val - s by omega)]
  · rw [ext_lo _ _ _ _ r (by omega), coord0]
    by_cases ht : t.val = 0
    · rw [if_pos ht, if_neg (show ¬ s ≤ (row t p).val by show ¬ s ≤ t.val * 512 + p.val; omega)]
    · rw [if_neg ht, nrm16_at, if_pos (show s ≤ (row t p).val by show s ≤ t.val * 512 + p.val; omega)]
      simp only [bH_at, bN_at]
      unfold FfnSpec.xn FfnSpec.rs FfnSpec.ms
      have e : (⟨(t.val * 32 - 1) * 16 + r.val, by omega⟩ : Fin 8192) = ⟨(row t p).val - s, by omega⟩ :=
        Fin.ext (show (t.val * 32 - 1) * 16 + r.val = t.val * 512 + p.val - s by omega)
      rw [e]

/-- A group's weights, loaded. -/
theorem ld_at (x : Vec Ideal S4x256x256 .bf16) (g : Fin 4) (h : ∀ a, (![g.val, 0, 0] : Fin 3 → Nat) a + S1x256x256.size a ≤ S4x256x256.size a) (k j : Fin 256) :
    (View.ld (Val := Elt Ideal) (e' := .bf16) x (Rect.unit (s := S4x256x256) ![g.val, 0, 0] S1x256x256.size h) (ix3 0 k j) : EReal) = x (ix3 g k j) := by
  rw [View.ld_apply]
  congr 1
  funext ax
  apply Fin.ext
  match ax with
  | ⟨0, _⟩ => rfl
  | ⟨1, _⟩ => show 0 + 1 * k.val = k.val; omega
  | ⟨2, _⟩ => show 0 + 1 * j.val = j.val; omega

/-- One group of the point is one group of the mixer. -/
theorem grp_mix (t : Fin cfg0.N) (W o : Nat) (ho : o + 256 ≤ 1024) (hW : W ≤ 16) (g : Fin 4) (hsl : S528x1024.Slices ![0, o] S528x256)
    (y : FVec Ideal S528x256 .f32) (hy : Sums W (cols o hsl (E m c t)) y) (cb : BitVec 32) (hc : Ideal.ofBits .f32 cb = ((W : ℝ) : EReal))
    (w : Vec Ideal S1x256x256 .bf16) (hw : ∀ k j, (w (ix3 0 k j) : EReal) = fP m c g k j) (p : Fin 512) (j : Fin 256) :
    (grp y (cols o hsl (E m c t)) (rcp cb (k0_pay2 (grid0.coords t))) w (ix2 p j) : EReal)
      = PoolSpec.mix (fX m c) (fN m c) (fP m c) W o ho g (row t p) j := by
  have hcol : ∀ (r : Fin 528) (k : Fin 256), (cols o hsl (E m c t) (ix2 r k) : EReal) = E m c t (ix2 r ⟨o + k.val, by omega⟩) := fun r k =>
    extractStridedSlice_apply ![0, o] (E m c t) hsl _ (ix2 r ⟨o + k.val, by omega⟩) fun a => match a with
      | ⟨0, _⟩ => by show r.val = 0 + r.val; omega
      | ⟨1, _⟩ => rfl
  rw [grp_at, rcp_at, pos_at, coord0, hc]
  unfold PoolSpec.mix PoolSpec.cnt
  refine Finset.sum_congr rfl fun k _ => ?_
  rw [hw, hy _ _ (show W ≤ 16 + p.val + 1 by omega), hcol, E_at m c t p 0 (by omega) _ rfl]
  have e0 : PoolSpec.back (fX m c) (fN m c) 0 (row t p) ⟨o + k.val, by omega⟩ = FfnSpec.xn (fX m c) (fN m c) (row t p) ⟨o + k.val, by omega⟩ := by
    unfold PoolSpec.back
    rw [if_pos (Nat.zero_le _)]
    rfl
  have e1 : (∑ s ∈ Finset.range W, at' (cols o hsl (E m c t)) (16 + p.val - s) k) = PoolSpec.win (fX m c) (fN m c) W (row t p) ⟨o + k.val, by omega⟩ := by
    unfold PoolSpec.win
    refine Finset.sum_congr rfl fun s hs => ?_
    have hs' := Finset.mem_range.mp hs
    unfold at'
    rw [hcol]
    exact E_at m c t p s (by omega) _ (show (16 + p.val - s) % 528 = 16 + p.val - s by omega) _
  rw [e0]
  exact congrArg (fun a => (a * _ - _) * _) e1

theorem out_eq (t : Fin cfg0.N) : out0_5 (F := Ideal) (grid0.coords t) (iblk m c 0 t) (iblk m c 1 t) (iblk m c 2 t) (iblk m c 3 t) (iblk m c 4 t)
    = join (bX m c t)
      (grp (s2 (cols 0 slices_S528x1024_o0_0_S528x256 (E m c t))) (cols 0 slices_S528x1024_o0_0_S528x256 (E m c t)) (rcp 0x40000000#32 (k0_pay2 (grid0.coords t))) (View.ld (Val := Elt Ideal) (e' := .bf16) (bP m c t) r0_3))
      (grp (s4 (cols 256 slices_S528x1024_o0_256_S528x256 (E m c t))) (cols 256 slices_S528x1024_o0_256_S528x256 (E m c t)) (rcp 0x40800000#32 (k0_pay2 (grid0.coords t))) (View.ld (Val := Elt Ideal) (e' := .bf16) (bP m c t) r0_4))
      (grp (s8 (cols 512 slices_S528x1024_o0_512_S528x256 (E m c t))) (cols 512 slices_S528x1024_o0_512_S528x256 (E m c t)) (rcp 0x41000000#32 (k0_pay2 (grid0.coords t))) (View.ld (Val := Elt Ideal) (e' := .bf16) (bP m c t) r0_5))
      (grp (s16 (cols 768 slices_S528x1024_o0_768_S528x256 (E m c t))) (cols 768 slices_S528x1024_o0_768_S528x256 (E m c t)) (rcp 0x41800000#32 (k0_pay2 (grid0.coords t))) (View.ld (Val := Elt Ideal) (e' := .bf16) (bP m c t) r0_6))
      (bS m c t) := by
  unfold out0_5 k0_pay10 k0_pay11
  frame_out
  rfl

theorem out_at (t : Fin cfg0.N) (p : Fin 512) (n : Fin 1024) :
    out0_5 (F := Ideal) (grid0.coords t) (iblk m c 0 t) (iblk m c 1 t) (iblk m c 2 t) (iblk m c 3 t) (iblk m c 4 t) (ix2 p n)
      = PoolSpec.out (fX m c) (fN m c) (fP m c) (fS m c) (row t p) n := by
  have h0 : ∀ k j, (View.ld (Val := Elt Ideal) (e' := .bf16) (bP m c t) r0_3 (ix3 0 k j) : EReal) = fP m c 0 k j := fun k j => (ld_at _ 0 _ k j).trans (bP_at m c t 0 k j)
  have h1 : ∀ k j, (View.ld (Val := Elt Ideal) (e' := .bf16) (bP m c t) r0_4 (ix3 0 k j) : EReal) = fP m c 1 k j := fun k j => (ld_at _ 1 _ k j).trans (bP_at m c t 1 k j)
  have h2 : ∀ k j, (View.ld (Val := Elt Ideal) (e' := .bf16) (bP m c t) r0_5 (ix3 0 k j) : EReal) = fP m c 2 k j := fun k j => (ld_at _ 2 _ k j).trans (bP_at m c t 2 k j)
  have h3 : ∀ k j, (View.ld (Val := Elt Ideal) (e' := .bf16) (bP m c t) r0_6 (ix3 0 k j) : EReal) = fP m c 3 k j := fun k j => (ld_at _ 3 _ k j).trans (bP_at m c t 3 k j)
  rw [out_eq, join_at, bX_at, bS_at]
  simp only [grp_mix m c t 2 0 (by omega) (by omega) 0 _ _ (sums2 _) _ PoolSpec.c2_eq _ h0,
    grp_mix m c t 4 256 (by omega) (by omega) 1 _ _ (sums4 _) _ PoolSpec.c4_eq _ h1,
    grp_mix m c t 8 512 (by omega) (by omega) 2 _ _ (sums8 _) _ PoolSpec.c8_eq _ h2,
    grp_mix m c t 16 768 (by omega) (by omega) 3 _ _ (sums16 _) _ PoolSpec.c16_eq _ h3]
  rfl

/-! ## The final array -/

abbrev G5 : Vec Ideal S8192x1024 .f32 := fun i => PoolSpec.out (fX m c) (fN m c) (fP m c) (fS m c) (i 0) (i 1)

theorem xs5 (t : Fin cfg0.N) : win0_5.xsize (grid0.coords t) 0 = 512 ∧ win0_5.xsize (grid0.coords t) 1 = 1024 :=
  (by decide +kernel : ∀ t : Fin grid0.N, win0_5.xsize (grid0.coords t) 0 = 512 ∧ win0_5.xsize (grid0.coords t) 1 = 1024) t
theorem flush5 (t : Fin cfg0.N) : (cfg0.win 5).flush t = true :=
  (by decide +kernel : ∀ t : Fin grid0.N, win0_5.flush t = true) t

theorem emb5 (t : Fin cfg0.N) (p : Fin 512) (n : Fin 1024) :
    ((cfg0.win 5).blk t).view.emb (ix2 p n : S512x1024.Idx) = (ix2 (row t p) n : (⟨2, ![8192, 1024]⟩ : Shape).Idx) := by
  have hi := idx5 t
  funext ax
  apply Fin.ext
  match ax with
  | ⟨0, _⟩ => show win0_5.index t 0 * 512 + 1 * p.val = _; rw [hi.1]; show _ = t.val * 512 + p.val; omega
  | ⟨1, _⟩ => show win0_5.index t 1 * 1024 + 1 * n.val = _; rw [hi.2]; show _ = n.val; omega

theorem flushed5_eq (t : Fin cfg0.N) (hf : (cfg0.win 5).flush t = true) :
    (dats m 0 c).flushed 5 t = ((cfg0.win 5).blk t).view.read (Elt Ideal) (G5 m c) := by
  rw [flushed5]
  funext (j : S512x1024.Idx)
  rw [View.read_apply]
  obtain ⟨p, n, rfl⟩ : ∃ (p : Fin 512) (n : Fin 1024), j = ix2 p n := ⟨j 0, j 1, eq_ix2 j⟩
  show out0_5 (F := Ideal) (grid0.coords t) (iblk m c 0 t) (iblk m c 1 t) (iblk m c 2 t) (iblk m c 3 t) (iblk m c 4 t) (ix2 p n)
    = G5 m c (((cfg0.win 5).blk t).view.emb (ix2 p n : S512x1024.Idx))
  rw [emb5]
  exact out_at m c t p n

theorem final5 : (dats m 0 c).arrAt 5 cfg0.N = G5 m c :=
  (dats m 0 c).arrAt_eq_of_cover 5 (G5 m c) (flushed5_eq m c) fun i => by
    have h0 : (i 0 : Nat) < 8192 := (i 0).isLt
    have h1 : (i 1 : Nat) < 1024 := (i 1).isLt
    have hlt : (i 0).val / 512 < cfg0.N := by rw [N16]; omega
    refine ⟨⟨(i 0).val / 512, hlt⟩, flush5 _, ?_⟩
    show i ∈ ((View.whole main_v2).slice (win0_5.rect ⟨(i 0).val / 512, hlt⟩)).set
    rw [View.set_slice_whole, Rect.mem_set_unit]
    have hi := idx5 ⟨(i 0).val / 512, hlt⟩
    have hx := xs5 ⟨(i 0).val / 512, hlt⟩
    try simp only at hi hx
    intro ax
    match ax with
    | ⟨0, _⟩ =>
      show win0_5.index ⟨(i 0).val / 512, hlt⟩ 0 * 512 ≤ (i 0 : Nat) ∧ (i 0 : Nat) < win0_5.index ⟨(i 0).val / 512, hlt⟩ 0 * 512 + win0_5.xsize (grid0.coords ⟨(i 0).val / 512, hlt⟩) 0
      rw [hi.1, hx.1]; omega
    | ⟨1, _⟩ =>
      show win0_5.index ⟨(i 0).val / 512, hlt⟩ 1 * 1024 ≤ (i 1 : Nat) ∧ (i 1 : Nat) < win0_5.index ⟨(i 0).val / 512, hlt⟩ 1 * 1024 + win0_5.xsize (grid0.coords ⟨(i 0).val / 512, hlt⟩) 1
      rw [hi.2, hx.2]; omega

end

variable (m : (ℓ : Loc nD τ sig) → Buf (Elt Ideal) ℓ)

theorem run (ρ : Dev nD → PrngReg) : θ_run defs (onTc (τ := τ) (main (F := Ideal))) ⟨m, fun _ => 0, ρ⟩ fun r => ∀ c : Dev nD,
      r.2.mem ((c : Thread nD τ).loc main_v2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2⟩) (run_blocks m ρ)

end Cert.Kernel17Ideal.Pool

/-! ## The plain forward pass -/

namespace Cert.Reference17Ideal.Pool

open Cert.Reference17Ideal Cert.Reference17Ideal.Gen Cert.Reference17Ideal.Read
open Idealize.ShloMosaic Idealize.ShloMosaic.TcCoe Idealize.ShloMosaic.Tactic Idealize.ShloMosaic.StableHlo
open Idealize.SL.Sem

section
variable (x0 : Vec Ideal S8192x1024 .f32) (x1 : Vec Ideal S1024 .f32) (x2 : Vec Ideal S4x256x256 .f32) (x3 : Vec Ideal S1x1024 .f32)

abbrev X (t : Fin 8192) (d : Fin 1024) : EReal := x0 (ix2 t d)
abbrev NW (d : Fin 1024) : EReal := x1 (ix1 d)
abbrev PW (g : Fin 4) (k j : Fin 256) : EReal := x2 (ix3 g k j)
abbrev SC (d : Fin 1024) : EReal := x3 (ix2 0 d)

theorem r_ms (t : Fin 8192) (z : Fin 1) : val_main_v6 (F := Ideal) x0 (ix2 t z) = FfnSpec.ms (X x0) t := by
  unfold FfnSpec.ms
  pointwise [val_main_v6, val_main_v4, val_main_v2, val_main_v1, val_main_v0, val_main_cst, val_main_v3, val_main_cst_0, val_main_v5, val_main_cst_1]
theorem r_rs (t : Fin 8192) (z : Fin 1) : val_main_v7 (F := Ideal) x0 (ix2 t z) = FfnSpec.rs (X x0) t := by
  rw [val_main_v7_apply, r_ms, Ideal.hostUnary_rsqrt_def]
  rfl
theorem r_xn (t : Fin 8192) (d : Fin 1024) : (val_main_v12 (F := Ideal) x0 x1 (ix2 t d) : EReal) = FfnSpec.xn (X x0) (NW x1) t d := by
  have h := r_rs x0
  unfold FfnSpec.xn val_main_v12 val_main_v9 val_main_v8
  generalize val_main_v7 (F := Ideal) x0 = y at h ⊢
  rw [← h t 0]
  pointwise [val_main_v11, val_main_v10]

/-- 256 columns of the normalised rows. -/
theorem cols_at (o : Nat) (ho : o + 256 ≤ 1024) (hs : S8192x1024.Slices ![0, o] S8192x256) (t : Fin 8192) (k : Fin 256) :
    (extractStridedSlice S8192x256 ![0, o] (val_main_v12 (F := Ideal) x0 x1) hs (ix2 t k) : EReal) = FfnSpec.xn (X x0) (NW x1) t ⟨o + k.val, by omega⟩ := by
  rw [← r_xn]
  exact extractStridedSlice_apply ![0, o] _ hs _ (ix2 t ⟨o + k.val, by omega⟩) fun a => match a with
    | ⟨0, _⟩ => by show t.val = 0 + t.val; omega
    | ⟨1, _⟩ => rfl

/-- With `lo` rows of zeros before them and read from row `i` on, the columns are the rows `lo - i` back. -/
theorem tap_at (N lo i : Nat) (hi : i ≤ lo) (o : Nat) (ho : o + 256 ≤ 1024) (hs : S8192x1024.Slices ![0, o] S8192x256) (v : FVec Ideal S_ .f32)
    (hv : v (Shape.Idx.first (by decide)) = (0 : EReal)) (hN : N = 8192 + lo)
    (hp : S8192x256.Pads ![lo, 0] ![0, 0] ![0, 0] ⟨2, ![N, 256]⟩) (hu : 0 < S_.numel) (hq : (⟨2, ![N, 256]⟩ : Shape).Slices ![i, 0] S8192x256) (t : Fin 8192) (k : Fin 256) :
    (extractStridedSlice S8192x256 ![i, 0] (pad ⟨2, ![N, 256]⟩ ![lo, 0] ![0, 0] ![0, 0] (extractStridedSlice S8192x256 ![0, o] (val_main_v12 (F := Ideal) x0 x1) hs) v hp hu) hq (ix2 t k) : EReal)
      = PoolSpec.back (X x0) (NW x1) (lo - i) t ⟨o + k.val, by omega⟩ := by
  subst hN
  have hc := cols_at x0 x1 o ho hs
  generalize extractStridedSlice S8192x256 ![0, o] (val_main_v12 (F := Ideal) x0 x1) hs = y at hc ⊢
  refine (extractStridedSlice_apply ![i, 0] _ hq _ (ix2 ⟨i + t.val, by omega⟩ k) fun a => match a with
    | ⟨0, _⟩ => rfl
    | ⟨1, _⟩ => by show k.val = 0 + k.val; omega).trans ?_
  unfold PoolSpec.back
  by_cases ht : lo - i ≤ t.val
  · rw [if_pos ht, ← hc]
    refine pad_apply_of_inside (s := S8192x256) _ _ _ y v hp hu _ (ix2 ⟨t.val - (lo - i), by omega⟩ k) fun a => ?_
    match a with
    | ⟨0, _⟩ => show i + t.val = lo + (t.val - (lo - i)) * 1; omega
    | ⟨1, _⟩ => show k.val = 0 + k.val * 1; omega
  · rw [if_neg ht]
    refine (pad_apply_of_not_inside (s := S8192x256) _ _ _ y v hp hu _ 0 ?_).trans hv
    show ¬(lo ≤ i + t.val ∧ (i + t.val - lo) % 1 = 0 ∧ (i + t.val - lo) / 1 < 8192)
    omega

theorem zero_at (k : S_.Idx) : sitofp (F := Ideal) .f32 (constantI S_ 32 0#32) k = (0 : EReal) := by
  show (((0#32 : BitVec 32).toInt : ℝ) : EReal) = 0
  simp

/-- The rows' numbers, from one on. -/
theorem pos_at (t : Fin 8192) : (val_main_v16 (F := Ideal) (ix1 t) : EReal) = (((t.val + 1 : ℕ) : ℝ) : EReal) := by
  refine Eq.trans (b := (((BitVec.ofNat 32 (t.val + 1)).toInt : ℝ) : EReal)) ?_ (congrArg _ (PoolSpec.toInt_small _ (by omega)))
  have hb : 1#32 + BitVec.ofNat 32 t.val = BitVec.ofNat 32 (t.val + 1) := by
    apply BitVec.eq_of_toNat_eq
    simp only [BitVec.toNat_add, BitVec.toNat_ofNat]
    omega
  rw [← hb]
  rfl

/-- One group: the sums over the counts, less the rows, through the weights. -/
def grp (y x : FVec Ideal S8192x256 .f32) (q : FVec Ideal S8192 .f32) (cb : BitVec 32) (w : FVec Ideal S1x256x256 .f32) : FVec Ideal S8192x256 .f32 :=
  Host.dotGeneral dot_S8192x256_S256x256_S8192x256_1_0_0_1_n_n none
    (subf (Host.divf y (broadcastInDim S8192x256 ![0, 1] bcast_S8192x1_S8192x256_0_1 (broadcastInDim S8192x1 ![0] bcast_S8192_S8192x1_0
      (minimumf q (broadcastInDim S8192 ![] bcast_S_S8192 (constant S_ .f32 cb)))))) x)
    (shapeCast S256x256 w shapeCasts_S1x256x256_S256x256 : FVec Ideal S256x256 .f32)
theorem grp_at (y x : FVec Ideal S8192x256 .f32) (q : FVec Ideal S8192 .f32) (cb : BitVec 32) (w : FVec Ideal S1x256x256 .f32) (t : Fin 8192) (j : Fin 256) :
    (grp y x q cb w (ix2 t j) : EReal) = ∑ k : Fin 256, (Ideal.div (y (ix2 t k)) (min (q (ix1 t)) (Ideal.ofBits .f32 cb)) - x (ix2 t k) : EReal) * w (ix3 0 k j) := by
  pointwise [grp]

theorem grp_mix (W o : Nat) (hW : 0 < W) (ho : o + 256 ≤ 1024) (g : Fin 4) (hs : S8192x1024.Slices ![0, o] S8192x256) (y : FVec Ideal S8192x256 .f32)
    (hy : ∀ t k, (y (ix2 t k) : EReal) = PoolSpec.win (X x0) (NW x1) W t ⟨o + k.val, by omega⟩) (cb : BitVec 32) (hc : Ideal.ofBits .f32 cb = ((W : ℝ) : EReal))
    (hq : S4x256x256.Slices ![g.val, 0, 0] S1x256x256) (t : Fin 8192) (j : Fin 256) :
    (grp y (extractStridedSlice S8192x256 ![0, o] (val_main_v12 (F := Ideal) x0 x1) hs) (val_main_v16 (F := Ideal)) cb (extractStridedSlice S1x256x256 ![g.val, 0, 0] x2 hq) (ix2 t j) : EReal)
      = PoolSpec.mix (X x0) (NW x1) (PW x2) W o ho g t j := by
  have hw : ∀ k, (extractStridedSlice S1x256x256 ![g.val, 0, 0] x2 hq (ix3 0 k j) : EReal) = PW x2 g k j := fun k =>
    extractStridedSlice_apply ![g.val, 0, 0] x2 hq _ (ix3 g k j) fun a => match a with
      | ⟨0, _⟩ => rfl
      | ⟨1, _⟩ => by show k.val = 0 + k.val; omega
      | ⟨2, _⟩ => by show j.val = 0 + j.val; omega
  rw [grp_at, pos_at, hc]
  unfold PoolSpec.mix
  refine Finset.sum_congr rfl fun k _ => ?_
  rw [hy, cols_at x0 x1 o ho, hw]
  exact congrArg (fun a => (a - _) * _) (PoolSpec.div_cnt W hW t _)

theorem win_rev (W : Nat) (t : Fin 8192) (d : Fin 1024) : PoolSpec.win (X x0) (NW x1) W t d = ∑ s ∈ Finset.range W, PoolSpec.back (X x0) (NW x1) (W - 1 - s) t d :=
  (Finset.sum_range_reflect _ W).symm

theorem sum2 (t : Fin 8192) (k : Fin 256) : (val_main_v21 (F := Ideal) x0 x1 (ix2 t k) : EReal) = PoolSpec.win (X x0) (NW x1) 2 t ⟨0 + k.val, by omega⟩ := by
  have T := fun i hi hq => tap_at x0 x1 8193 1 i hi 0 (by omega) slices_S8192x1024_S8192x256_0_0 (sitofp (F := Ideal) .f32 (constantI S_ 32 0#32)) (zero_at _) rfl pads_S8192x256_S8193x256_100_000 h_S_ hq t k
  simp only [zero_add] at T
  rw [win_rev]
  unfold val_main_v21 val_main_v20 val_main_v19 val_main_v18
  simp only [Finset.sum_range_succ, Finset.sum_range_zero, zero_add]
  simp only [ValueIdx.addf_apply, Ideal.addf_def]
  repeat' apply congrArg₂ (· + ·)
  all_goals (refine T _ ?_ _; decide)
theorem mix2 (t : Fin 8192) (j : Fin 256) : (val_main_v30 (F := Ideal) x0 x1 x2 (ix2 t j) : EReal) = PoolSpec.mix (X x0) (NW x1) (PW x2) 2 0 (by omega) 0 t j :=
  grp_mix x0 x1 x2 2 0 (by omega) (by omega) 0 slices_S8192x1024_S8192x256_0_0 _ (sum2 x0 x1) 0x40000000#32 PoolSpec.c2_eq slices_S4x256x256_S1x256x256_0_0_0 t j
theorem sum4 (t : Fin 8192) (k : Fin 256) : (val_main_v39 (F := Ideal) x0 x1 (ix2 t k) : EReal) = PoolSpec.win (X x0) (NW x1) 4 t ⟨256 + k.val, by omega⟩ := by
  have T := fun i hi hq => tap_at x0 x1 8195 3 i hi 256 (by omega) slices_S8192x1024_S8192x256_0_256 (sitofp (F := Ideal) .f32 (constantI S_ 32 0#32)) (zero_at _) rfl pads_S8192x256_S8195x256_300_000 h_S_ hq t k
  rw [win_rev]
  unfold val_main_v39 val_main_v38 val_main_v37 val_main_v36 val_main_v35 val_main_v34 val_main_v33 val_main_v32
  simp only [Finset.sum_range_succ, Finset.sum_range_zero, zero_add]
  simp only [ValueIdx.addf_apply, Ideal.addf_def]
  repeat' apply congrArg₂ (· + ·)
  all_goals (refine T _ ?_ _; decide)
theorem mix4 (t : Fin 8192) (j : Fin 256) : (val_main_v48 (F := Ideal) x0 x1 x2 (ix2 t j) : EReal) = PoolSpec.mix (X x0) (NW x1) (PW x2) 4 256 (by omega) 1 t j :=
  grp_mix x0 x1 x2 4 256 (by omega) (by omega) 1 slices_S8192x1024_S8192x256_0_256 _ (sum4 x0 x1) 0x40800000#32 PoolSpec.c4_eq slices_S4x256x256_S1x256x256_1_0_0 t j
theorem sum8 (t : Fin 8192) (k : Fin 256) : (val_main_v65 (F := Ideal) x0 x1 (ix2 t k) : EReal) = PoolSpec.win (X x0) (NW x1) 8 t ⟨512 + k.val, by omega⟩ := by
  have T := fun i hi hq => tap_at x0 x1 8199 7 i hi 512 (by omega) slices_S8192x1024_S8192x256_0_512 (sitofp (F := Ideal) .f32 (constantI S_ 32 0#32)) (zero_at _) rfl pads_S8192x256_S8199x256_700_000 h_S_ hq t k
  rw [win_rev]
  unfold val_main_v65 val_main_v64 val_main_v63 val_main_v62 val_main_v61 val_main_v60 val_main_v59 val_main_v58 val_main_v57 val_main_v56 val_main_v55 val_main_v54 val_main_v53 val_main_v52 val_main_v51 val_main_v50
  simp only [Finset.sum_range_succ, Finset.sum_range_zero, zero_add]
  simp only [ValueIdx.addf_apply, Ideal.addf_def]
  repeat' apply congrArg₂ (· + ·)
  all_goals (refine T _ ?_ _; decide)
theorem mix8 (t : Fin 8192) (j : Fin 256) : (val_main_v74 (F := Ideal) x0 x1 x2 (ix2 t j) : EReal) = PoolSpec.mix (X x0) (NW x1) (PW x2) 8 512 (by omega) 2 t j :=
  grp_mix x0 x1 x2 8 512 (by omega) (by omega) 2 slices_S8192x1024_S8192x256_0_512 _ (sum8 x0 x1) 0x41000000#32 PoolSpec.c8_eq slices_S4x256x256_S1x256x256_2_0_0 t j
theorem sum16 (t : Fin 8192) (k : Fin 256) : (val_main_v107 (F := Ideal) x0 x1 (ix2 t k) : EReal) = PoolSpec.win (X x0) (NW x1) 16 t ⟨768 + k.val, by omega⟩ := by
  have T := fun i hi hq => tap_at x0 x1 8207 15 i hi 768 (by omega) slices_S8192x1024_S8192x256_0_768 (sitofp (F := Ideal) .f32 (constantI S_ 32 0#32)) (zero_at _) rfl pads_S8192x256_S8207x256_1500_000 h_S_ hq t k
  rw [win_rev]
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76
  simp only [Finset.sum_range_succ, Finset.sum_range_zero, zero_add]
  simp only [ValueIdx.addf_apply, Ideal.addf_def]
  repeat' apply congrArg₂ (· + ·)
  all_goals (refine T _ ?_ _; decide)
theorem mix16 (t : Fin 8192) (j : Fin 256) : (val_main_v116 (F := Ideal) x0 x1 x2 (ix2 t j) : EReal) = PoolSpec.mix (X x0) (NW x1) (PW x2) 16 768 (by omega) 3 t j :=
  grp_mix x0 x1 x2 16 768 (by omega) (by omega) 3 slices_S8192x1024_S8192x256_0_768 _ (sum16 x0 x1) 0x41800000#32 PoolSpec.c16_eq slices_S4x256x256_S1x256x256_3_0_0 t j

/-- The four groups next to one another. -/
theorem cat_at (a b e f : FVec Ideal S8192x256 .f32) (t : Fin 8192) (d : Fin 1024) :
    (concatenate S8192x1024 1 [⟨S8192x256, a⟩, ⟨S8192x256, b⟩, ⟨S8192x256, e⟩, ⟨S8192x256, f⟩] concatenates_S8192x256_S8192x256_S8192x256_S8192x256_S8192x1024_d1 (ix2 t d) : EReal)
      = if h : d.val < 256 then (a (ix2 t ⟨d.val, h⟩) : EReal)
        else if h1 : d.val - 256 < 256 then b (ix2 t ⟨d.val - 256, h1⟩)
        else if h2 : d.val - 256 - 256 < 256 then e (ix2 t ⟨d.val - 256 - 256, h2⟩)
        else f (ix2 t ⟨d.val - 256 - 256 - 256, by omega⟩) := by
  pointwise

theorem ref_at (t : Fin 8192) (d : Fin 1024) : (val_main_v120 (F := Ideal) x0 x1 x2 x3 (ix2 t d) : EReal) = PoolSpec.out (X x0) (NW x1) (PW x2) (SC x3) t d := by
  have hs : (val_main_v118 (F := Ideal) x3 (ix2 t d) : EReal) = SC x3 d := by
    pointwise [val_main_v118]
  have hc : (val_main_v117 (F := Ideal) x0 x1 x2 (ix2 t d) : EReal) = PoolSpec.mixes (X x0) (NW x1) (PW x2) t d := by
    unfold val_main_v117
    rw [cat_at]
    simp only [mix2, mix4, mix8, mix16]
    rfl
  show (x0 (ix2 t d) : EReal) + val_main_v117 (F := Ideal) x0 x1 x2 (ix2 t d) * val_main_v118 (F := Ideal) x3 (ix2 t d) = _
  rw [hs, hc]
  rfl
end

/-- The plain forward pass runs and leaves its arguments; it declares no semaphore. -/
theorem frame_reference : Cert.quiescent_Reference17Ideal := by
  intro m ρ _
  exact (θ_run Cert.Reference17Ideal.defs _ _).mono (fun r h => ⟨fun c => (h c).2, Idealize.ShloMosaic.sem_eq_zero_of_no_sems (by decide) r.2⟩)
    (Cert.Reference17Ideal.Value.run (F := Ideal) m ρ)

/-- The call's result is the plain forward pass's. -/
theorem value : Cert.algebraic_Kernel17Ideal_Reference17Ideal := by
  intro m ρ m' ρ' _ hargs
  refine ⟨fun c => Cert.Kernel17Ideal.Pool.G5 m c, Cert.Kernel17Ideal.Pool.run m ρ, ?_⟩
  refine (θ_run Cert.Reference17Ideal.defs _ _).mono (fun r h c => ⟨(h c).1.trans ?_, (h c).2⟩) (Cert.Reference17Ideal.Value.run (F := Ideal) m' ρ')
  obtain ⟨g0, g1, g2, g3⟩ := hargs c
  rw [val_main_v120_eq, g0, g1, g2, g3]
  funext i
  obtain ⟨t, n, rfl⟩ : ∃ (t : Fin 8192) (n : Fin 1024), i = ix2 t n := ⟨i 0, i 1, eq_ix2 i⟩
  exact ref_at _ _ _ _ t n

end Cert.Reference17Ideal.Pool

end
-- ==== Proof.lean ====
/- The proof of the certificate's claims.

   The first call is one backward pass of a SwiGLU half step.  Proof/FfnRun.lean runs its body at every grid point,
   Proof/FfnDat.lean follows the carried buffers along the grid and gives the run of the whole call,
   Proof/FfnSpec.lean states the mathematics in scalars, Proof/FfnPay.lean, Proof/FfnBlk.lean and Proof/FfnFinal.lean
   read the call as that mathematics, Proof/FfnRef.lean reads the plain backward pass as it, and Proof/FfnClaim.lean
   joins the two.  Proof/FfnSame.lean says that the two printings of the call are one program.

   Further calls stand in a module each: Proof/WinVal.lean and Proof/WoutVal.lean are the gradients of the layer's two
   weights, Proof/FwdVal.lean is the half step's forward call.  Of the attention block, Proof/ConvVal.lean is the backward
   pass of the causal convolution, Proof/AbBwdOut.lean, Proof/AbBwdVal.lean and Proof/AbBwdRef.lean are the backward pass of the
   normalised input projection (Proof/AbCat.lean and Proof/AbBwdSpec.lean state its mathematics), Proof/AbWVal.lean is the
   gradient of that projection's weights and Proof/AbFwdVal.lean its forward call.  Proof/AboutVal.lean is the gradient of
   the block's output weights.  Proof/PoolVal.lean is the pooling mixer's forward call.

   Of the optimiser, Proof/AdamSpec.lean states the step on one element; Proof/AdamOutVal.lean and Proof/AdamInVal.lean are
   the calls for the half steps' weights, Proof/AdamAbIn.lean, Proof/AdamAbOut.lean, Proof/AdamPool.lean and
   Proof/AdamSmall.lean those for the attention block's, the pooling mixer's and the small weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite7
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.FfnClaim
public import proofs.«01_k».proof.Proof.FfnSame
public import proofs.«01_k».proof.Proof.WinVal
public import proofs.«01_k».proof.Proof.WoutVal
public import proofs.«01_k».proof.Proof.FwdVal
public import proofs.«01_k».proof.Proof.ConvVal
public import proofs.«01_k».proof.Proof.AbBwdRef
public import proofs.«01_k».proof.Proof.AbFwdVal
public import proofs.«01_k».proof.Proof.AbWVal
public import proofs.«01_k».proof.Proof.AboutVal
public import proofs.«01_k».proof.Proof.AdamOutVal
public import proofs.«01_k».proof.Proof.AdamInVal
public import proofs.«01_k».proof.Proof.AdamAbIn
public import proofs.«01_k».proof.Proof.AdamAbOut
public import proofs.«01_k».proof.Proof.AdamPool
public import proofs.«01_k».proof.Proof.AdamSmall
public import proofs.«01_k».proof.Proof.PoolVal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite.Gen.facts, Cert.Pre_finite7.Gen.facts,
  Cert.FfnSame.frame_kernel, fun m ρ _ => Cert.KernelIdeal.Ffn.unchanged_quiet (F := Ideal) m ρ, fun m ρ _ => Cert.KernelIdeal.Ffn.unchanged_quiet (F := Ideal) m ρ,
  Cert.FfnClaim.frame_reference, fun m ρ _ => Cert.FfnClaim.frame_reference m ρ trivial,
  fun m ρ _ => Cert.Kernel2.Gen.frame m ρ, fun m ρ _ => Cert.Kernel2Ideal.Gen.frame m ρ, Cert.Reference2Ideal.Win.frame_reference,
  fun m ρ _ => Cert.Kernel3.Gen.frame m ρ, fun m ρ _ => Cert.Kernel3Ideal.Gen.frame m ρ, Cert.Reference3Ideal.Wout.frame_reference,
  fun m ρ _ => Cert.Kernel4.Gen.frame m ρ, fun m ρ _ => Cert.Kernel4Ideal.Gen.frame m ρ, Cert.Reference4Ideal.Fwd.frame_reference,
  fun m ρ _ => Cert.Kernel5.Gen.frame m ρ, fun m ρ _ => Cert.Kernel5Ideal.Gen.frame m ρ,
  fun m ρ _ => Cert.Kernel6.Gen.frame m ρ, fun m ρ _ => Cert.Kernel6Ideal.Gen.frame m ρ, Cert.Reference6Ideal.Conv.frame_reference,
  fun m ρ _ => Cert.Kernel7.Gen.frame m ρ, fun m ρ _ => Cert.Kernel7Ideal.Gen.frame m ρ, fun m ρ _ => Cert.Kernel7Ideal.Gen.frame m ρ,
  Cert.Reference7Ideal.AbBwd.frame_reference, fun m ρ _ => Cert.Reference7Ideal.AbBwd.frame_reference m ρ trivial,
  fun m ρ _ => Cert.Kernel8.Gen.frame m ρ, fun m ρ _ => Cert.Kernel8Ideal.Gen.frame m ρ, Cert.Reference8Ideal.AbFwd.frame_reference,
  fun m ρ _ => Cert.Kernel9.Gen.frame m ρ, fun m ρ _ => Cert.Kernel9Ideal.Gen.frame m ρ, Cert.Reference9Ideal.AbW.frame_reference,
  fun m ρ _ => Cert.Kernel10.Gen.frame m ρ, fun m ρ _ => Cert.Kernel10Ideal.Gen.frame m ρ, Cert.Reference10Ideal.AboutW.frame_reference,
  fun m ρ _ => Cert.Kernel11.Gen.frame m ρ, fun m ρ _ => Cert.Kernel11Ideal.Gen.frame m ρ, Cert.Reference11Ideal.Adam.frame_reference,
  fun m ρ _ => Cert.Kernel12.Gen.frame m ρ, fun m ρ _ => Cert.Kernel12Ideal.Gen.frame m ρ, Cert.Reference12Ideal.Adam.frame_reference,
  fun m ρ _ => Cert.Kernel13.Gen.frame m ρ, fun m ρ _ => Cert.Kernel13Ideal.Gen.frame m ρ, Cert.Reference13Ideal.Adam.frame_reference,
  fun m ρ _ => Cert.Kernel14.Gen.frame m ρ, fun m ρ _ => Cert.Kernel14Ideal.Gen.frame m ρ, Cert.Reference14Ideal.Adam.frame_reference,
  fun m ρ _ => Cert.Kernel15.Gen.frame m ρ, fun m ρ _ => Cert.Kernel15Ideal.Gen.frame m ρ, Cert.Reference15Ideal.Adam.frame_reference,
  fun m ρ _ => Cert.Kernel16.Gen.frame m ρ, fun m ρ _ => Cert.Kernel16Ideal.Gen.frame m ρ, Cert.Reference16Ideal.Adam.frame_reference,
  fun m ρ _ => Cert.Kernel17.Gen.frame m ρ, fun m ρ _ => Cert.Kernel17Ideal.Gen.frame m ρ, Cert.Reference17Ideal.Pool.frame_reference,
  trivial, Cert.FfnClaim.value,
  trivial, Cert.Reference2Ideal.Win.value,
  trivial, Cert.Reference3Ideal.Wout.value,
  trivial, Cert.Reference4Ideal.Fwd.value,
  trivial,
  trivial, Cert.Reference6Ideal.Conv.value,
  trivial, Cert.Reference7Ideal.AbBwd.value,
  trivial, Cert.Reference8Ideal.AbFwd.value,
  trivial, Cert.Reference9Ideal.AbW.value,
  trivial, Cert.Reference10Ideal.AboutW.value,
  trivial, Cert.Reference11Ideal.Adam.value,
  trivial, Cert.Reference12Ideal.Adam.value,
  trivial, Cert.Reference13Ideal.Adam.value,
  trivial, Cert.Reference14Ideal.Adam.value,
  trivial, Cert.Reference15Ideal.Adam.value,
  trivial, Cert.Reference16Ideal.Adam.value,
  trivial, Cert.Reference17Ideal.Pool.value⟩

end Cert.Proof

end
